-- ==== Defs.lean ====
def Pre_CondBwd (m : (ℓ : Loc Cert.CondBwd.nD Cert.CondBwd.τ Cert.CondBwd.sig) → Buf (Elt Bits) ℓ) : Prop :=
  True

def Pre_CondBwdIdeal (m : (ℓ : Loc Cert.CondBwdIdeal.nD Cert.CondBwdIdeal.τ Cert.CondBwdIdeal.sig) → Buf (Elt Ideal) ℓ) : Prop :=
  True

def Pre_CondBwdRefIdeal (m : (ℓ : Loc Cert.CondBwdRefIdeal.nD Cert.CondBwdRefIdeal.τ Cert.CondBwdRefIdeal.sig) → Buf (Elt Ideal) ℓ) : Prop :=
  True

def Pre_ShiftBwd (m : (ℓ : Loc Cert.ShiftBwd.nD Cert.ShiftBwd.τ Cert.ShiftBwd.sig) → Buf (Elt Bits) ℓ) : Prop :=
  True

def Pre_ShiftBwdIdeal (m : (ℓ : Loc Cert.ShiftBwdIdeal.nD Cert.ShiftBwdIdeal.τ Cert.ShiftBwdIdeal.sig) → Buf (Elt Ideal) ℓ) : Prop :=
  True

def Pre_ShiftBwdIdeal_shift_finite [hPre_shift_finite : Cert.Pre_shift_finite.Facts] (m : (ℓ : Loc Cert.ShiftBwdIdeal.nD Cert.ShiftBwdIdeal.τ Cert.ShiftBwdIdeal.sig) → Buf (Elt Ideal) ℓ) : Prop :=
  ∀ c : Dev Cert.ShiftBwdIdeal.nD,
    (Cert.Pre_shift_finite.fn (F := Ideal) (m ((c.tc : Thread Cert.ShiftBwdIdeal.nD Cert.ShiftBwdIdeal.τ).loc Cert.ShiftBwdIdeal.main_arg0)) (m ((c.tc : Thread Cert.ShiftBwdIdeal.nD Cert.ShiftBwdIdeal.τ).loc Cert.ShiftBwdIdeal.main_arg1)) (m ((c.tc : Thread Cert.ShiftBwdIdeal.nD Cert.ShiftBwdIdeal.τ).loc Cert.ShiftBwdIdeal.main_arg2)) (m ((c.tc : Thread Cert.ShiftBwdIdeal.nD Cert.ShiftBwdIdeal.τ).loc Cert.ShiftBwdIdeal.main_arg3)) (m ((c.tc : Thread Cert.ShiftBwdIdeal.nD Cert.ShiftBwdIdeal.τ).loc Cert.ShiftBwdIdeal.main_arg4))).1 = (fun _ => 1#1)
    ∧ (Cert.Pre_shift_finite.fn (F := Ideal) (m ((c.tc : Thread Cert.ShiftBwdIdeal.nD Cert.ShiftBwdIdeal.τ).loc Cert.ShiftBwdIdeal.main_arg0)) (m ((c.tc : Thread Cert.ShiftBwdIdeal.nD Cert.ShiftBwdIdeal.τ).loc Cert.ShiftBwdIdeal.main_arg1)) (m ((c.tc : Thread Cert.ShiftBwdIdeal.nD Cert.ShiftBwdIdeal.τ).loc Cert.ShiftBwdIdeal.main_arg2)) (m ((c.tc : Thread Cert.ShiftBwdIdeal.nD Cert.ShiftBwdIdeal.τ).loc Cert.ShiftBwdIdeal.main_arg3)) (m ((c.tc : Thread Cert.ShiftBwdIdeal.nD Cert.ShiftBwdIdeal.τ).loc Cert.ShiftBwdIdeal.main_arg4))).2.1 = (fun _ => 1#1)
    ∧ (Cert.Pre_shift_finite.fn (F := Ideal) (m ((c.tc : Thread Cert.ShiftBwdIdeal.nD Cert.ShiftBwdIdeal.τ).loc Cert.ShiftBwdIdeal.main_arg0)) (m ((c.tc : Thread Cert.ShiftBwdIdeal.nD Cert.ShiftBwdIdeal.τ).loc Cert.ShiftBwdIdeal.main_arg1)) (m ((c.tc : Thread Cert.ShiftBwdIdeal.nD Cert.ShiftBwdIdeal.τ).loc Cert.ShiftBwdIdeal.main_arg2)) (m ((c.tc : Thread Cert.ShiftBwdIdeal.nD Cert.ShiftBwdIdeal.τ).loc Cert.ShiftBwdIdeal.main_arg3)) (m ((c.tc : Thread Cert.ShiftBwdIdeal.nD Cert.ShiftBwdIdeal.τ).loc Cert.ShiftBwdIdeal.main_arg4))).2.2.1 = (fun _ => 1#1)
    ∧ (Cert.Pre_shift_finite.fn (F := Ideal) (m ((c.tc : Thread Cert.ShiftBwdIdeal.nD Cert.ShiftBwdIdeal.τ).loc Cert.ShiftBwdIdeal.main_arg0)) (m ((c.tc : Thread Cert.ShiftBwdIdeal.nD Cert.ShiftBwdIdeal.τ).loc Cert.ShiftBwdIdeal.main_arg1)) (m ((c.tc : Thread Cert.ShiftBwdIdeal.nD Cert.ShiftBwdIdeal.τ).loc Cert.ShiftBwdIdeal.main_arg2)) (m ((c.tc : Thread Cert.ShiftBwdIdeal.nD Cert.ShiftBwdIdeal.τ).loc Cert.ShiftBwdIdeal.main_arg3)) (m ((c.tc : Thread Cert.ShiftBwdIdeal.nD Cert.ShiftBwdIdeal.τ).loc Cert.ShiftBwdIdeal.main_arg4))).2.2.2 = (fun _ => 1#1)

def Pre_ShiftBwdRefIdeal (m : (ℓ : Loc Cert.ShiftBwdRefIdeal.nD Cert.ShiftBwdRefIdeal.τ Cert.ShiftBwdRefIdeal.sig) → Buf (Elt Ideal) ℓ) : Prop :=
  True

def Pre_ShiftBwdRefIdeal_shift_finite [hPre_shift_finite : Cert.Pre_shift_finite.Facts] (m : (ℓ : Loc Cert.ShiftBwdRefIdeal.nD Cert.ShiftBwdRefIdeal.τ Cert.ShiftBwdRefIdeal.sig) → Buf (Elt Ideal) ℓ) : Prop :=
  ∀ c : Dev Cert.ShiftBwdRefIdeal.nD,
    (Cert.Pre_shift_finite.fn (F := Ideal) (m ((c.tc : Thread Cert.ShiftBwdRefIdeal.nD Cert.ShiftBwdRefIdeal.τ).loc Cert.ShiftBwdRefIdeal.main_arg0)) (m ((c.tc : Thread Cert.ShiftBwdRefIdeal.nD Cert.ShiftBwdRefIdeal.τ).loc Cert.ShiftBwdRefIdeal.main_arg1)) (m ((c.tc : Thread Cert.ShiftBwdRefIdeal.nD Cert.ShiftBwdRefIdeal.τ).loc Cert.ShiftBwdRefIdeal.main_arg2)) (m ((c.tc : Thread Cert.ShiftBwdRefIdeal.nD Cert.ShiftBwdRefIdeal.τ).loc Cert.ShiftBwdRefIdeal.main_arg3)) (m ((c.tc : Thread Cert.ShiftBwdRefIdeal.nD Cert.ShiftBwdRefIdeal.τ).loc Cert.ShiftBwdRefIdeal.main_arg4))).1 = (fun _ => 1#1)
    ∧ (Cert.Pre_shift_finite.fn (F := Ideal) (m ((c.tc : Thread Cert.ShiftBwdRefIdeal.nD Cert.ShiftBwdRefIdeal.τ).loc Cert.ShiftBwdRefIdeal.main_arg0)) (m ((c.tc : Thread Cert.ShiftBwdRefIdeal.nD Cert.ShiftBwdRefIdeal.τ).loc Cert.ShiftBwdRefIdeal.main_arg1)) (m ((c.tc : Thread Cert.ShiftBwdRefIdeal.nD Cert.ShiftBwdRefIdeal.τ).loc Cert.ShiftBwdRefIdeal.main_arg2)) (m ((c.tc : Thread Cert.ShiftBwdRefIdeal.nD Cert.ShiftBwdRefIdeal.τ).loc Cert.ShiftBwdRefIdeal.main_arg3)) (m ((c.tc : Thread Cert.ShiftBwdRefIdeal.nD Cert.ShiftBwdRefIdeal.τ).loc Cert.ShiftBwdRefIdeal.main_arg4))).2.1 = (fun _ => 1#1)
    ∧ (Cert.Pre_shift_finite.fn (F := Ideal) (m ((c.tc : Thread Cert.ShiftBwdRefIdeal.nD Cert.ShiftBwdRefIdeal.τ).loc Cert.ShiftBwdRefIdeal.main_arg0)) (m ((c.tc : Thread Cert.ShiftBwdRefIdeal.nD Cert.ShiftBwdRefIdeal.τ).loc Cert.ShiftBwdRefIdeal.main_arg1)) (m ((c.tc : Thread Cert.ShiftBwdRefIdeal.nD Cert.ShiftBwdRefIdeal.τ).loc Cert.ShiftBwdRefIdeal.main_arg2)) (m ((c.tc : Thread Cert.ShiftBwdRefIdeal.nD Cert.ShiftBwdRefIdeal.τ).loc Cert.ShiftBwdRefIdeal.main_arg3)) (m ((c.tc : Thread Cert.ShiftBwdRefIdeal.nD Cert.ShiftBwdRefIdeal.τ).loc Cert.ShiftBwdRefIdeal.main_arg4))).2.2.1 = (fun _ => 1#1)
    ∧ (Cert.Pre_shift_finite.fn (F := Ideal) (m ((c.tc : Thread Cert.ShiftBwdRefIdeal.nD Cert.ShiftBwdRefIdeal.τ).loc Cert.ShiftBwdRefIdeal.main_arg0)) (m ((c.tc : Thread Cert.ShiftBwdRefIdeal.nD Cert.ShiftBwdRefIdeal.τ).loc Cert.ShiftBwdRefIdeal.main_arg1)) (m ((c.tc : Thread Cert.ShiftBwdRefIdeal.nD Cert.ShiftBwdRefIdeal.τ).loc Cert.ShiftBwdRefIdeal.main_arg2)) (m ((c.tc : Thread Cert.ShiftBwdRefIdeal.nD Cert.ShiftBwdRefIdeal.τ).loc Cert.ShiftBwdRefIdeal.main_arg3)) (m ((c.tc : Thread Cert.ShiftBwdRefIdeal.nD Cert.ShiftBwdRefIdeal.τ).loc Cert.ShiftBwdRefIdeal.main_arg4))).2.2.2 = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_HgPostBwd (m : (ℓ : Loc Cert.HgPostBwd.nD Cert.HgPostBwd.τ Cert.HgPostBwd.sig) → Buf (Elt Bits) ℓ) : Prop :=
  True

def Pre_HgPostBwdIdeal (m : (ℓ : Loc Cert.HgPostBwdIdeal.nD Cert.HgPostBwdIdeal.τ Cert.HgPostBwdIdeal.sig) → Buf (Elt Ideal) ℓ) : Prop :=
  True

def Pre_HgPostBwdRefIdeal (m : (ℓ : Loc Cert.HgPostBwdRefIdeal.nD Cert.HgPostBwdRefIdeal.τ Cert.HgPostBwdRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_HBwd (m : (ℓ : Loc Cert.HBwd.nD Cert.HBwd.τ Cert.HBwd.sig) → Buf (Elt Bits) ℓ) : Prop :=
  True

def Pre_HBwdIdeal (m : (ℓ : Loc Cert.HBwdIdeal.nD Cert.HBwdIdeal.τ Cert.HBwdIdeal.sig) → Buf (Elt Ideal) ℓ) : Prop :=
  True

def Pre_HBwdRefIdeal (m : (ℓ : Loc Cert.HBwdRefIdeal.nD Cert.HBwdRefIdeal.τ Cert.HBwdRefIdeal.sig) → Buf (Elt Ideal) ℓ) : Prop :=
  True

def Pre_RwPostBwd (m : (ℓ : Loc Cert.RwPostBwd.nD Cert.RwPostBwd.τ Cert.RwPostBwd.sig) → Buf (Elt Bits) ℓ) : Prop :=
  True

def Pre_RwPostBwdIdeal (m : (ℓ : Loc Cert.RwPostBwdIdeal.nD Cert.RwPostBwdIdeal.τ Cert.RwPostBwdIdeal.sig) → Buf (Elt Ideal) ℓ) : Prop :=
  True

def Pre_RwPostBwdIdeal_rw_post_finite [hPre_rw_post_finite : Cert.Pre_rw_post_finite.Facts] (m : (ℓ : Loc Cert.RwPostBwdIdeal.nD Cert.RwPostBwdIdeal.τ Cert.RwPostBwdIdeal.sig) → Buf (Elt Ideal) ℓ) : Prop :=
  ∀ c : Dev Cert.RwPostBwdIdeal.nD,
    (Cert.Pre_rw_post_finite.fn (F := Ideal) (m ((c.tc : Thread Cert.RwPostBwdIdeal.nD Cert.RwPostBwdIdeal.τ).loc Cert.RwPostBwdIdeal.main_arg0)) (m ((c.tc : Thread Cert.RwPostBwdIdeal.nD Cert.RwPostBwdIdeal.τ).loc Cert.RwPostBwdIdeal.main_arg1)) (m ((c.tc : Thread Cert.RwPostBwdIdeal.nD Cert.RwPostBwdIdeal.τ).loc Cert.RwPostBwdIdeal.main_arg2)) (m ((c.tc : Thread Cert.RwPostBwdIdeal.nD Cert.RwPostBwdIdeal.τ).loc Cert.RwPostBwdIdeal.main_arg3)) (m ((c.tc : Thread Cert.RwPostBwdIdeal.nD Cert.RwPostBwdIdeal.τ).loc Cert.RwPostBwdIdeal.main_arg4)) (m ((c.tc : Thread Cert.RwPostBwdIdeal.nD Cert.RwPostBwdIdeal.τ).loc Cert.RwPostBwdIdeal.main_arg5)) (m ((c.tc : Thread Cert.RwPostBwdIdeal.nD Cert.RwPostBwdIdeal.τ).loc Cert.RwPostBwdIdeal.main_arg6)) (m ((c.tc : Thread Cert.RwPostBwdIdeal.nD Cert.RwPostBwdIdeal.τ).loc Cert.RwPostBwdIdeal.main_arg7)) (m ((c.tc : Thread Cert.RwPostBwdIdeal.nD Cert.RwPostBwdIdeal.τ).loc Cert.RwPostBwdIdeal.main_arg8)) (m ((c.tc : Thread Cert.RwPostBwdIdeal.nD Cert.RwPostBwdIdeal.τ).loc Cert.RwPostBwdIdeal.main_arg9)) (m ((c.tc : Thread Cert.RwPostBwdIdeal.nD Cert.RwPostBwdIdeal.τ).loc Cert.RwPostBwdIdeal.main_arg10))).1 = (fun _ => 1#1)
    ∧ (Cert.Pre_rw_post_finite.fn (F := Ideal) (m ((c.tc : Thread Cert.RwPostBwdIdeal.nD Cert.RwPostBwdIdeal.τ).loc Cert.RwPostBwdIdeal.main_arg0)) (m ((c.tc : Thread Cert.RwPostBwdIdeal.nD Cert.RwPostBwdIdeal.τ).loc Cert.RwPostBwdIdeal.main_arg1)) (m ((c.tc : Thread Cert.RwPostBwdIdeal.nD Cert.RwPostBwdIdeal.τ).loc Cert.RwPostBwdIdeal.main_arg2)) (m ((c.tc : Thread Cert.RwPostBwdIdeal.nD Cert.RwPostBwdIdeal.τ).loc Cert.RwPostBwdIdeal.main_arg3)) (m ((c.tc : Thread Cert.RwPostBwdIdeal.nD Cert.RwPostBwdIdeal.τ).loc Cert.RwPostBwdIdeal.main_arg4)) (m ((c.tc : Thread Cert.RwPostBwdIdeal.nD Cert.RwPostBwdIdeal.τ).loc Cert.RwPostBwdIdeal.main_arg5)) (m ((c.tc : Thread Cert.RwPostBwdIdeal.nD Cert.RwPostBwdIdeal.τ).loc Cert.RwPostBwdIdeal.main_arg6)) (m ((c.tc : Thread Cert.RwPostBwdIdeal.nD Cert.RwPostBwdIdeal.τ).loc Cert.RwPostBwdIdeal.main_arg7)) (m ((c.tc : Thread Cert.RwPostBwdIdeal.nD Cert.RwPostBwdIdeal.τ).loc Cert.RwPostBwdIdeal.main_arg8)) (m ((c.tc : Thread Cert.RwPostBwdIdeal.nD Cert.RwPostBwdIdeal.τ).loc Cert.RwPostBwdIdeal.main_arg9)) (m ((c.tc : Thread Cert.RwPostBwdIdeal.nD Cert.RwPostBwdIdeal.τ).loc Cert.RwPostBwdIdeal.main_arg10))).2.1 = (fun _ => 1#1)
    ∧ (Cert.Pre_rw_post_finite.fn (F := Ideal) (m ((c.tc : Thread Cert.RwPostBwdIdeal.nD Cert.RwPostBwdIdeal.τ).loc Cert.RwPostBwdIdeal.main_arg0)) (m ((c.tc : Thread Cert.RwPostBwdIdeal.nD Cert.RwPostBwdIdeal.τ).loc Cert.RwPostBwdIdeal.main_arg1)) (m ((c.tc : Thread Cert.RwPostBwdIdeal.nD Cert.RwPostBwdIdeal.τ).loc Cert.RwPostBwdIdeal.main_arg2)) (m ((c.tc : Thread Cert.RwPostBwdIdeal.nD Cert.RwPostBwdIdeal.τ).loc Cert.RwPostBwdIdeal.main_arg3)) (m ((c.tc : Thread Cert.RwPostBwdIdeal.nD Cert.RwPostBwdIdeal.τ).loc Cert.RwPostBwdIdeal.main_arg4)) (m ((c.tc : Thread Cert.RwPostBwdIdeal.nD Cert.RwPostBwdIdeal.τ).loc Cert.RwPostBwdIdeal.main_arg5)) (m ((c.tc : Thread Cert.RwPostBwdIdeal.nD Cert.RwPostBwdIdeal.τ).loc Cert.RwPostBwdIdeal.main_arg6)) (m ((c.tc : Thread Cert.RwPostBwdIdeal.nD Cert.RwPostBwdIdeal.τ).loc Cert.RwPostBwdIdeal.main_arg7)) (m ((c.tc : Thread Cert.RwPostBwdIdeal.nD Cert.RwPostBwdIdeal.τ).loc Cert.RwPostBwdIdeal.main_arg8)) (m ((c.tc : Thread Cert.RwPostBwdIdeal.nD Cert.RwPostBwdIdeal.τ).loc Cert.RwPostBwdIdeal.main_arg9)) (m ((c.tc : Thread Cert.RwPostBwdIdeal.nD Cert.RwPostBwdIdeal.τ).loc Cert.RwPostBwdIdeal.main_arg10))).2.2.1 = (fun _ => 1#1)
    ∧ (Cert.Pre_rw_post_finite.fn (F := Ideal) (m ((c.tc : Thread Cert.RwPostBwdIdeal.nD Cert.RwPostBwdIdeal.τ).loc Cert.RwPostBwdIdeal.main_arg0)) (m ((c.tc : Thread Cert.RwPostBwdIdeal.nD Cert.RwPostBwdIdeal.τ).loc Cert.RwPostBwdIdeal.main_arg1)) (m ((c.tc : Thread Cert.RwPostBwdIdeal.nD Cert.RwPostBwdIdeal.τ).loc Cert.RwPostBwdIdeal.main_arg2)) (m ((c.tc : Thread Cert.RwPostBwdIdeal.nD Cert.RwPostBwdIdeal.τ).loc Cert.RwPostBwdIdeal.main_arg3)) (m ((c.tc : Thread Cert.RwPostBwdIdeal.nD Cert.RwPostBwdIdeal.τ).loc Cert.RwPostBwdIdeal.main_arg4)) (m ((c.tc : Thread Cert.RwPostBwdIdeal.nD Cert.RwPostBwdIdeal.τ).loc Cert.RwPostBwdIdeal.main_arg5)) (m ((c.tc : Thread Cert.RwPostBwdIdeal.nD Cert.RwPostBwdIdeal.τ).loc Cert.RwPostBwdIdeal.main_arg6)) (m ((c.tc : Thread Cert.RwPostBwdIdeal.nD Cert.RwPostBwdIdeal.τ).loc Cert.RwPostBwdIdeal.main_arg7)) (m ((c.tc : Thread Cert.RwPostBwdIdeal.nD Cert.RwPostBwdIdeal.τ).loc Cert.RwPostBwdIdeal.main_arg8)) (m ((c.tc : Thread Cert.RwPostBwdIdeal.nD Cert.RwPostBwdIdeal.τ).loc Cert.RwPostBwdIdeal.main_arg9)) (m ((c.tc : Thread Cert.RwPostBwdIdeal.nD Cert.RwPostBwdIdeal.τ).loc Cert.RwPostBwdIdeal.main_arg10))).2.2.2.1 = (fun _ => 1#1)
    ∧ (Cert.Pre_rw_post_finite.fn (F := Ideal) (m ((c.tc : Thread Cert.RwPostBwdIdeal.nD Cert.RwPostBwdIdeal.τ).loc Cert.RwPostBwdIdeal.main_arg0)) (m ((c.tc : Thread Cert.RwPostBwdIdeal.nD Cert.RwPostBwdIdeal.τ).loc Cert.RwPostBwdIdeal.main_arg1)) (m ((c.tc : Thread Cert.RwPostBwdIdeal.nD Cert.RwPostBwdIdeal.τ).loc Cert.RwPostBwdIdeal.main_arg2)) (m ((c.tc : Thread Cert.RwPostBwdIdeal.nD Cert.RwPostBwdIdeal.τ).loc Cert.RwPostBwdIdeal.main_arg3)) (m ((c.tc : Thread Cert.RwPostBwdIdeal.nD Cert.RwPostBwdIdeal.τ).loc Cert.RwPostBwdIdeal.main_arg4)) (m ((c.tc : Thread Cert.RwPostBwdIdeal.nD Cert.RwPostBwdIdeal.τ).loc Cert.RwPostBwdIdeal.main_arg5)) (m ((c.tc : Thread Cert.RwPostBwdIdeal.nD Cert.RwPostBwdIdeal.τ).loc Cert.RwPostBwdIdeal.main_arg6)) (m ((c.tc : Thread Cert.RwPostBwdIdeal.nD Cert.RwPostBwdIdeal.τ).loc Cert.RwPostBwdIdeal.main_arg7)) (m ((c.tc : Thread Cert.RwPostBwdIdeal.nD Cert.RwPostBwdIdeal.τ).loc Cert.RwPostBwdIdeal.main_arg8)) (m ((c.tc : Thread Cert.RwPostBwdIdeal.nD Cert.RwPostBwdIdeal.τ).loc Cert.RwPostBwdIdeal.main_arg9)) (m ((c.tc : Thread Cert.RwPostBwdIdeal.nD Cert.RwPostBwdIdeal.τ).loc Cert.RwPostBwdIdeal.main_arg10))).2.2.2.2 = (fun _ => 1#1)

def Pre_RwPostBwdRefIdeal (m : (ℓ : Loc Cert.RwPostBwdRefIdeal.nD Cert.RwPostBwdRefIdeal.τ Cert.RwPostBwdRefIdeal.sig) → Buf (Elt Ideal) ℓ) : Prop :=
  True

def Pre_RwPostBwdRefIdeal_rw_post_finite [hPre_rw_post_finite : Cert.Pre_rw_post_finite.Facts] (m : (ℓ : Loc Cert.RwPostBwdRefIdeal.nD Cert.RwPostBwdRefIdeal.τ Cert.RwPostBwdRefIdeal.sig) → Buf (Elt Ideal) ℓ) : Prop :=
  ∀ c : Dev Cert.RwPostBwdRefIdeal.nD,
    (Cert.Pre_rw_post_finite.fn (F := Ideal) (m ((c.tc : Thread Cert.RwPostBwdRefIdeal.nD Cert.RwPostBwdRefIdeal.τ).loc Cert.RwPostBwdRefIdeal.main_arg0)) (m ((c.tc : Thread Cert.RwPostBwdRefIdeal.nD Cert.RwPostBwdRefIdeal.τ).loc Cert.RwPostBwdRefIdeal.main_arg1)) (m ((c.tc : Thread Cert.RwPostBwdRefIdeal.nD Cert.RwPostBwdRefIdeal.τ).loc Cert.RwPostBwdRefIdeal.main_arg2)) (m ((c.tc : Thread Cert.RwPostBwdRefIdeal.nD Cert.RwPostBwdRefIdeal.τ).loc Cert.RwPostBwdRefIdeal.main_arg3)) (m ((c.tc : Thread Cert.RwPostBwdRefIdeal.nD Cert.RwPostBwdRefIdeal.τ).loc Cert.RwPostBwdRefIdeal.main_arg4)) (m ((c.tc : Thread Cert.RwPostBwdRefIdeal.nD Cert.RwPostBwdRefIdeal.τ).loc Cert.RwPostBwdRefIdeal.main_arg5)) (m ((c.tc : Thread Cert.RwPostBwdRefIdeal.nD Cert.RwPostBwdRefIdeal.τ).loc Cert.RwPostBwdRefIdeal.main_arg6)) (m ((c.tc : Thread Cert.RwPostBwdRefIdeal.nD Cert.RwPostBwdRefIdeal.τ).loc Cert.RwPostBwdRefIdeal.main_arg7)) (m ((c.tc : Thread Cert.RwPostBwdRefIdeal.nD Cert.RwPostBwdRefIdeal.τ).loc Cert.RwPostBwdRefIdeal.main_arg8)) (m ((c.tc : Thread Cert.RwPostBwdRefIdeal.nD Cert.RwPostBwdRefIdeal.τ).loc Cert.RwPostBwdRefIdeal.main_arg9)) (m ((c.tc : Thread Cert.RwPostBwdRefIdeal.nD Cert.RwPostBwdRefIdeal.τ).loc Cert.RwPostBwdRefIdeal.main_arg10))).1 = (fun _ => 1#1)
    ∧ (Cert.Pre_rw_post_finite.fn (F := Ideal) (m ((c.tc : Thread Cert.RwPostBwdRefIdeal.nD Cert.RwPostBwdRefIdeal.τ).loc Cert.RwPostBwdRefIdeal.main_arg0)) (m ((c.tc : Thread Cert.RwPostBwdRefIdeal.nD Cert.RwPostBwdRefIdeal.τ).loc Cert.RwPostBwdRefIdeal.main_arg1)) (m ((c.tc : Thread Cert.RwPostBwdRefIdeal.nD Cert.RwPostBwdRefIdeal.τ).loc Cert.RwPostBwdRefIdeal.main_arg2)) (m ((c.tc : Thread Cert.RwPostBwdRefIdeal.nD Cert.RwPostBwdRefIdeal.τ).loc Cert.RwPostBwdRefIdeal.main_arg3)) (m ((c.tc : Thread Cert.RwPostBwdRefIdeal.nD Cert.RwPostBwdRefIdeal.τ).loc Cert.RwPostBwdRefIdeal.main_arg4)) (m ((c.tc : Thread Cert.RwPostBwdRefIdeal.nD Cert.RwPostBwdRefIdeal.τ).loc Cert.RwPostBwdRefIdeal.main_arg5)) (m ((c.tc : Thread Cert.RwPostBwdRefIdeal.nD Cert.RwPostBwdRefIdeal.τ).loc Cert.RwPostBwdRefIdeal.main_arg6)) (m ((c.tc : Thread Cert.RwPostBwdRefIdeal.nD Cert.RwPostBwdRefIdeal.τ).loc Cert.RwPostBwdRefIdeal.main_arg7)) (m ((c.tc : Thread Cert.RwPostBwdRefIdeal.nD Cert.RwPostBwdRefIdeal.τ).loc Cert.RwPostBwdRefIdeal.main_arg8)) (m ((c.tc : Thread Cert.RwPostBwdRefIdeal.nD Cert.RwPostBwdRefIdeal.τ).loc Cert.RwPostBwdRefIdeal.main_arg9)) (m ((c.tc : Thread Cert.RwPostBwdRefIdeal.nD Cert.RwPostBwdRefIdeal.τ).loc Cert.RwPostBwdRefIdeal.main_arg10))).2.1 = (fun _ => 1#1)
    ∧ (Cert.Pre_rw_post_finite.fn (F := Ideal) (m ((c.tc : Thread Cert.RwPostBwdRefIdeal.nD Cert.RwPostBwdRefIdeal.τ).loc Cert.RwPostBwdRefIdeal.main_arg0)) (m ((c.tc : Thread Cert.RwPostBwdRefIdeal.nD Cert.RwPostBwdRefIdeal.τ).loc Cert.RwPostBwdRefIdeal.main_arg1)) (m ((c.tc : Thread Cert.RwPostBwdRefIdeal.nD Cert.RwPostBwdRefIdeal.τ).loc Cert.RwPostBwdRefIdeal.main_arg2)) (m ((c.tc : Thread Cert.RwPostBwdRefIdeal.nD Cert.RwPostBwdRefIdeal.τ).loc Cert.RwPostBwdRefIdeal.main_arg3)) (m ((c.tc : Thread Cert.RwPostBwdRefIdeal.nD Cert.RwPostBwdRefIdeal.τ).loc Cert.RwPostBwdRefIdeal.main_arg4)) (m ((c.tc : Thread Cert.RwPostBwdRefIdeal.nD Cert.RwPostBwdRefIdeal.τ).loc Cert.RwPostBwdRefIdeal.main_arg5)) (m ((c.tc : Thread Cert.RwPostBwdRefIdeal.nD Cert.RwPostBwdRefIdeal.τ).loc Cert.RwPostBwdRefIdeal.main_arg6)) (m ((c.tc : Thread Cert.RwPostBwdRefIdeal.nD Cert.RwPostBwdRefIdeal.τ).loc Cert.RwPostBwdRefIdeal.main_arg7)) (m ((c.tc : Thread Cert.RwPostBwdRefIdeal.nD Cert.RwPostBwdRefIdeal.τ).loc Cert.RwPostBwdRefIdeal.main_arg8)) (m ((c.tc : Thread Cert.RwPostBwdRefIdeal.nD Cert.RwPostBwdRefIdeal.τ).loc Cert.RwPostBwdRefIdeal.main_arg9)) (m ((c.tc : Thread Cert.RwPostBwdRefIdeal.nD Cert.RwPostBwdRefIdeal.τ).loc Cert.RwPostBwdRefIdeal.main_arg10))).2.2.1 = (fun _ => 1#1)
    ∧ (Cert.Pre_rw_post_finite.fn (F := Ideal) (m ((c.tc : Thread Cert.RwPostBwdRefIdeal.nD Cert.RwPostBwdRefIdeal.τ).loc Cert.RwPostBwdRefIdeal.main_arg0)) (m ((c.tc : Thread Cert.RwPostBwdRefIdeal.nD Cert.RwPostBwdRefIdeal.τ).loc Cert.RwPostBwdRefIdeal.main_arg1)) (m ((c.tc : Thread Cert.RwPostBwdRefIdeal.nD Cert.RwPostBwdRefIdeal.τ).loc Cert.RwPostBwdRefIdeal.main_arg2)) (m ((c.tc : Thread Cert.RwPostBwdRefIdeal.nD Cert.RwPostBwdRefIdeal.τ).loc Cert.RwPostBwdRefIdeal.main_arg3)) (m ((c.tc : Thread Cert.RwPostBwdRefIdeal.nD Cert.RwPostBwdRefIdeal.τ).loc Cert.RwPostBwdRefIdeal.main_arg4)) (m ((c.tc : Thread Cert.RwPostBwdRefIdeal.nD Cert.RwPostBwdRefIdeal.τ).loc Cert.RwPostBwdRefIdeal.main_arg5)) (m ((c.tc : Thread Cert.RwPostBwdRefIdeal.nD Cert.RwPostBwdRefIdeal.τ).loc Cert.RwPostBwdRefIdeal.main_arg6)) (m ((c.tc : Thread Cert.RwPostBwdRefIdeal.nD Cert.RwPostBwdRefIdeal.τ).loc Cert.RwPostBwdRefIdeal.main_arg7)) (m ((c.tc : Thread Cert.RwPostBwdRefIdeal.nD Cert.RwPostBwdRefIdeal.τ).loc Cert.RwPostBwdRefIdeal.main_arg8)) (m ((c.tc : Thread Cert.RwPostBwdRefIdeal.nD Cert.RwPostBwdRefIdeal.τ).loc Cert.RwPostBwdRefIdeal.main_arg9)) (m ((c.tc : Thread Cert.RwPostBwdRefIdeal.nD Cert.RwPostBwdRefIdeal.τ).loc Cert.RwPostBwdRefIdeal.main_arg10))).2.2.2.1 = (fun _ => 1#1)
    ∧ (Cert.Pre_rw_post_finite.fn (F := Ideal) (m ((c.tc : Thread Cert.RwPostBwdRefIdeal.nD Cert.RwPostBwdRefIdeal.τ).loc Cert.RwPostBwdRefIdeal.main_arg0)) (m ((c.tc : Thread Cert.RwPostBwdRefIdeal.nD Cert.RwPostBwdRefIdeal.τ).loc Cert.RwPostBwdRefIdeal.main_arg1)) (m ((c.tc : Thread Cert.RwPostBwdRefIdeal.nD Cert.RwPostBwdRefIdeal.τ).loc Cert.RwPostBwdRefIdeal.main_arg2)) (m ((c.tc : Thread Cert.RwPostBwdRefIdeal.nD Cert.RwPostBwdRefIdeal.τ).loc Cert.RwPostBwdRefIdeal.main_arg3)) (m ((c.tc : Thread Cert.RwPostBwdRefIdeal.nD Cert.RwPostBwdRefIdeal.τ).loc Cert.RwPostBwdRefIdeal.main_arg4)) (m ((c.tc : Thread Cert.RwPostBwdRefIdeal.nD Cert.RwPostBwdRefIdeal.τ).loc Cert.RwPostBwdRefIdeal.main_arg5)) (m ((c.tc : Thread Cert.RwPostBwdRefIdeal.nD Cert.RwPostBwdRefIdeal.τ).loc Cert.RwPostBwdRefIdeal.main_arg6)) (m ((c.tc : Thread Cert.RwPostBwdRefIdeal.nD Cert.RwPostBwdRefIdeal.τ).loc Cert.RwPostBwdRefIdeal.main_arg7)) (m ((c.tc : Thread Cert.RwPostBwdRefIdeal.nD Cert.RwPostBwdRefIdeal.τ).loc Cert.RwPostBwdRefIdeal.main_arg8)) (m ((c.tc : Thread Cert.RwPostBwdRefIdeal.nD Cert.RwPostBwdRefIdeal.τ).loc Cert.RwPostBwdRefIdeal.main_arg9)) (m ((c.tc : Thread Cert.RwPostBwdRefIdeal.nD Cert.RwPostBwdRefIdeal.τ).loc Cert.RwPostBwdRefIdeal.main_arg10))).2.2.2.2 = (fun _ => 1#1)

def Pre_HgScanFwd0 (m : (ℓ : Loc Cert.HgScanFwd0.nD Cert.HgScanFwd0.τ Cert.HgScanFwd0.sig) → Buf (Elt Bits) ℓ) : Prop :=
  True

def Pre_HgScanFwd0Ideal (m : (ℓ : Loc Cert.HgScanFwd0Ideal.nD Cert.HgScanFwd0Ideal.τ Cert.HgScanFwd0Ideal.sig) → Buf (Elt Ideal) ℓ) : Prop :=
  True

def Pre_HgScanFwd0Ideal_hg_lb_finite [hPre_hg_lb_finite : Cert.Pre_hg_lb_finite.Facts] (m : (ℓ : Loc Cert.HgScanFwd0Ideal.nD Cert.HgScanFwd0Ideal.τ Cert.HgScanFwd0Ideal.sig) → Buf (Elt Ideal) ℓ) : Prop :=
  ∀ c : Dev Cert.HgScanFwd0Ideal.nD,
    (Cert.Pre_hg_lb_finite.fn (F := Ideal) (m ((c.tc : Thread Cert.HgScanFwd0Ideal.nD Cert.HgScanFwd0Ideal.τ).loc Cert.HgScanFwd0Ideal.main_arg0)) (m ((c.tc : Thread Cert.HgScanFwd0Ideal.nD Cert.HgScanFwd0Ideal.τ).loc Cert.HgScanFwd0Ideal.main_arg1))) = (fun _ => 1#1)

def Pre_HgScanFwd0RefIdeal (m : (ℓ : Loc Cert.HgScanFwd0RefIdeal.nD Cert.HgScanFwd0RefIdeal.τ Cert.HgScanFwd0RefIdeal.sig) → Buf (Elt Ideal) ℓ) : Prop :=
  True

def Pre_HgScanFwd0RefIdeal_hg_lb_finite [hPre_hg_lb_finite : Cert.Pre_hg_lb_finite.Facts] (m : (ℓ : Loc Cert.HgScanFwd0RefIdeal.nD Cert.HgScanFwd0RefIdeal.τ Cert.HgScanFwd0RefIdeal.sig) → Buf (Elt Ideal) ℓ) : Prop :=
  ∀ c : Dev Cert.HgScanFwd0RefIdeal.nD,
    (Cert.Pre_hg_lb_finite.fn (F := Ideal) (m ((c.tc : Thread Cert.HgScanFwd0RefIdeal.nD Cert.HgScanFwd0RefIdeal.τ).loc Cert.HgScanFwd0RefIdeal.main_arg0)) (m ((c.tc : Thread Cert.HgScanFwd0RefIdeal.nD Cert.HgScanFwd0RefIdeal.τ).loc Cert.HgScanFwd0RefIdeal.main_arg1))) = (fun _ => 1#1)

def Pre_HgScanFwd1 (m : (ℓ : Loc Cert.HgScanFwd1.nD Cert.HgScanFwd1.τ Cert.HgScanFwd1.sig) → Buf (Elt Bits) ℓ) : Prop :=
  True

def Pre_HgScanFwd1Ideal (m : (ℓ : Loc Cert.HgScanFwd1Ideal.nD Cert.HgScanFwd1Ideal.τ Cert.HgScanFwd1Ideal.sig) → Buf (Elt Ideal) ℓ) : Prop :=
  True

def Pre_HgScanFwd1Ideal_hg_lb_finite [hPre_hg_lb_finite : Cert.Pre_hg_lb_finite.Facts] (m : (ℓ : Loc Cert.HgScanFwd1Ideal.nD Cert.HgScanFwd1Ideal.τ Cert.HgScanFwd1Ideal.sig) → Buf (Elt Ideal) ℓ) : Prop :=
  ∀ c : Dev Cert.HgScanFwd1Ideal.nD,
    (Cert.Pre_hg_lb_finite.fn (F := Ideal) (m ((c.tc : Thread Cert.HgScanFwd1Ideal.nD Cert.HgScanFwd1Ideal.τ).loc Cert.HgScanFwd1Ideal.main_arg0)) (m ((c.tc : Thread Cert.HgScanFwd1Ideal.nD Cert.HgScanFwd1Ideal.τ).loc Cert.HgScanFwd1Ideal.main_arg1))) = (fun _ => 1#1)

def Pre_HgScanFwd1RefIdeal (m : (ℓ : Loc Cert.HgScanFwd1RefIdeal.nD Cert.HgScanFwd1RefIdeal.τ Cert.HgScanFwd1RefIdeal.sig) → Buf (Elt Ideal) ℓ) : Prop :=
  True

def Pre_HgScanFwd1RefIdeal_hg_lb_finite [hPre_hg_lb_finite : Cert.Pre_hg_lb_finite.Facts] (m : (ℓ : Loc Cert.HgScanFwd1RefIdeal.nD Cert.HgScanFwd1RefIdeal.τ Cert.HgScanFwd1RefIdeal.sig) → Buf (Elt Ideal) ℓ) : Prop :=
  ∀ c : Dev Cert.HgScanFwd1RefIdeal.nD,
    (Cert.Pre_hg_lb_finite.fn (F := Ideal) (m ((c.tc : Thread Cert.HgScanFwd1RefIdeal.nD Cert.HgScanFwd1RefIdeal.τ).loc Cert.HgScanFwd1RefIdeal.main_arg0)) (m ((c.tc : Thread Cert.HgScanFwd1RefIdeal.nD Cert.HgScanFwd1RefIdeal.τ).loc Cert.HgScanFwd1RefIdeal.main_arg1))) = (fun _ => 1#1)

def Pre_CondSilu (m : (ℓ : Loc Cert.CondSilu.nD Cert.CondSilu.τ Cert.CondSilu.sig) → Buf (Elt Bits) ℓ) : Prop :=
  True

def Pre_CondSiluIdeal (m : (ℓ : Loc Cert.CondSiluIdeal.nD Cert.CondSiluIdeal.τ Cert.CondSiluIdeal.sig) → Buf (Elt Ideal) ℓ) : Prop :=
  True

def Pre_CondSiluRefIdeal (m : (ℓ : Loc Cert.CondSiluRefIdeal.nD Cert.CondSiluRefIdeal.τ Cert.CondSiluRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_HgPost (m : (ℓ : Loc Cert.HgPost.nD Cert.HgPost.τ Cert.HgPost.sig) → Buf (Elt Bits) ℓ) : Prop :=
  True

def Pre_HgPostIdeal (m : (ℓ : Loc Cert.HgPostIdeal.nD Cert.HgPostIdeal.τ Cert.HgPostIdeal.sig) → Buf (Elt Ideal) ℓ) : Prop :=
  True

def Pre_HgPostRefIdeal (m : (ℓ : Loc Cert.HgPostRefIdeal.nD Cert.HgPostRefIdeal.τ Cert.HgPostRefIdeal.sig) → Buf (Elt Ideal) ℓ) : Prop :=
  True

def Pre_HFwd (m : (ℓ : Loc Cert.HFwd.nD Cert.HFwd.τ Cert.HFwd.sig) → Buf (Elt Bits) ℓ) : Prop :=
  True

def Pre_HFwdIdeal (m : (ℓ : Loc Cert.HFwdIdeal.nD Cert.HFwdIdeal.τ Cert.HFwdIdeal.sig) → Buf (Elt Ideal) ℓ) : Prop :=
  True

def Pre_HFwdRefIdeal (m : (ℓ : Loc Cert.HFwdRefIdeal.nD Cert.HFwdRefIdeal.τ Cert.HFwdRefIdeal.sig) → Buf (Elt Ideal) ℓ) : Prop :=
  True

def Pre_RwShift (m : (ℓ : Loc Cert.RwShift.nD Cert.RwShift.τ Cert.RwShift.sig) → Buf (Elt Bits) ℓ) : Prop :=
  True

def Pre_RwShiftIdeal (m : (ℓ : Loc Cert.RwShiftIdeal.nD Cert.RwShiftIdeal.τ Cert.RwShiftIdeal.sig) → Buf (Elt Ideal) ℓ) : Prop :=
  True

def Pre_RwShiftRefIdeal (m : (ℓ : Loc Cert.RwShiftRefIdeal.nD Cert.RwShiftRefIdeal.τ Cert.RwShiftRefIdeal.sig) → Buf (Elt Ideal) ℓ) : Prop :=
  True

def Pre_RwPost (m : (ℓ : Loc Cert.RwPost.nD Cert.RwPost.τ Cert.RwPost.sig) → Buf (Elt Bits) ℓ) : Prop :=
  True

def Pre_RwPostIdeal (m : (ℓ : Loc Cert.RwPostIdeal.nD Cert.RwPostIdeal.τ Cert.RwPostIdeal.sig) → Buf (Elt Ideal) ℓ) : Prop :=
  True

def Pre_RwPostIdeal_rw_bonus_finite [hPre_rw_bonus_finite : Cert.Pre_rw_bonus_finite.Facts] (m : (ℓ : Loc Cert.RwPostIdeal.nD Cert.RwPostIdeal.τ Cert.RwPostIdeal.sig) → Buf (Elt Ideal) ℓ) : Prop :=
  ∀ c : Dev Cert.RwPostIdeal.nD,
    (Cert.Pre_rw_bonus_finite.fn (F := Ideal) (m ((c.tc : Thread Cert.RwPostIdeal.nD Cert.RwPostIdeal.τ).loc Cert.RwPostIdeal.main_arg0)) (m ((c.tc : Thread Cert.RwPostIdeal.nD Cert.RwPostIdeal.τ).loc Cert.RwPostIdeal.main_arg1)) (m ((c.tc : Thread Cert.RwPostIdeal.nD Cert.RwPostIdeal.τ).loc Cert.RwPostIdeal.main_arg2)) (m ((c.tc : Thread Cert.RwPostIdeal.nD Cert.RwPostIdeal.τ).loc Cert.RwPostIdeal.main_arg3)) (m ((c.tc : Thread Cert.RwPostIdeal.nD Cert.RwPostIdeal.τ).loc Cert.RwPostIdeal.main_arg4)) (m ((c.tc : Thread Cert.RwPostIdeal.nD Cert.RwPostIdeal.τ).loc Cert.RwPostIdeal.main_arg5)) (m ((c.tc : Thread Cert.RwPostIdeal.nD Cert.RwPostIdeal.τ).loc Cert.RwPostIdeal.main_arg6)) (m ((c.tc : Thread Cert.RwPostIdeal.nD Cert.RwPostIdeal.τ).loc Cert.RwPostIdeal.main_arg7)) (m ((c.tc : Thread Cert.RwPostIdeal.nD Cert.RwPostIdeal.τ).loc Cert.RwPostIdeal.main_arg8)) (m ((c.tc : Thread Cert.RwPostIdeal.nD Cert.RwPostIdeal.τ).loc Cert.RwPostIdeal.main_arg9))).1 = (fun _ => 1#1)
    ∧ (Cert.Pre_rw_bonus_finite.fn (F := Ideal) (m ((c.tc : Thread Cert.RwPostIdeal.nD Cert.RwPostIdeal.τ).loc Cert.RwPostIdeal.main_arg0)) (m ((c.tc : Thread Cert.RwPostIdeal.nD Cert.RwPostIdeal.τ).loc Cert.RwPostIdeal.main_arg1)) (m ((c.tc : Thread Cert.RwPostIdeal.nD Cert.RwPostIdeal.τ).loc Cert.RwPostIdeal.main_arg2)) (m ((c.tc : Thread Cert.RwPostIdeal.nD Cert.RwPostIdeal.τ).loc Cert.RwPostIdeal.main_arg3)) (m ((c.tc : Thread Cert.RwPostIdeal.nD Cert.RwPostIdeal.τ).loc Cert.RwPostIdeal.main_arg4)) (m ((c.tc : Thread Cert.RwPostIdeal.nD Cert.RwPostIdeal.τ).loc Cert.RwPostIdeal.main_arg5)) (m ((c.tc : Thread Cert.RwPostIdeal.nD Cert.RwPostIdeal.τ).loc Cert.RwPostIdeal.main_arg6)) (m ((c.tc : Thread Cert.RwPostIdeal.nD Cert.RwPostIdeal.τ).loc Cert.RwPostIdeal.main_arg7)) (m ((c.tc : Thread Cert.RwPostIdeal.nD Cert.RwPostIdeal.τ).loc Cert.RwPostIdeal.main_arg8)) (m ((c.tc : Thread Cert.RwPostIdeal.nD Cert.RwPostIdeal.τ).loc Cert.RwPostIdeal.main_arg9))).2 = (fun _ => 1#1)

def Pre_RwPostRefIdeal (m : (ℓ : Loc Cert.RwPostRefIdeal.nD Cert.RwPostRefIdeal.τ Cert.RwPostRefIdeal.sig) → Buf (Elt Ideal) ℓ) : Prop :=
  True

def Pre_RwPostRefIdeal_rw_bonus_finite [hPre_rw_bonus_finite : Cert.Pre_rw_bonus_finite.Facts] (m : (ℓ : Loc Cert.RwPostRefIdeal.nD Cert.RwPostRefIdeal.τ Cert.RwPostRefIdeal.sig) → Buf (Elt Ideal) ℓ) : Prop :=
  ∀ c : Dev Cert.RwPostRefIdeal.nD,
    (Cert.Pre_rw_bonus_finite.fn (F := Ideal) (m ((c.tc : Thread Cert.RwPostRefIdeal.nD Cert.RwPostRefIdeal.τ).loc Cert.RwPostRefIdeal.main_arg0)) (m ((c.tc : Thread Cert.RwPostRefIdeal.nD Cert.RwPostRefIdeal.τ).loc Cert.RwPostRefIdeal.main_arg1)) (m ((c.tc : Thread Cert.RwPostRefIdeal.nD Cert.RwPostRefIdeal.τ).loc Cert.RwPostRefIdeal.main_arg2)) (m ((c.tc : Thread Cert.RwPostRefIdeal.nD Cert.RwPostRefIdeal.τ).loc Cert.RwPostRefIdeal.main_arg3)) (m ((c.tc : Thread Cert.RwPostRefIdeal.nD Cert.RwPostRefIdeal.τ).loc Cert.RwPostRefIdeal.main_arg4)) (m ((c.tc : Thread Cert.RwPostRefIdeal.nD Cert.RwPostRefIdeal.τ).loc Cert.RwPostRefIdeal.main_arg5)) (m ((c.tc : Thread Cert.RwPostRefIdeal.nD Cert.RwPostRefIdeal.τ).loc Cert.RwPostRefIdeal.main_arg6)) (m ((c.tc : Thread Cert.RwPostRefIdeal.nD Cert.RwPostRefIdeal.τ).loc Cert.RwPostRefIdeal.main_arg7)) (m ((c.tc : Thread Cert.RwPostRefIdeal.nD Cert.RwPostRefIdeal.τ).loc Cert.RwPostRefIdeal.main_arg8)) (m ((c.tc : Thread Cert.RwPostRefIdeal.nD Cert.RwPostRefIdeal.τ).loc Cert.RwPostRefIdeal.main_arg9))).1 = (fun _ => 1#1)
    ∧ (Cert.Pre_rw_bonus_finite.fn (F := Ideal) (m ((c.tc : Thread Cert.RwPostRefIdeal.nD Cert.RwPostRefIdeal.τ).loc Cert.RwPostRefIdeal.main_arg0)) (m ((c.tc : Thread Cert.RwPostRefIdeal.nD Cert.RwPostRefIdeal.τ).loc Cert.RwPostRefIdeal.main_arg1)) (m ((c.tc : Thread Cert.RwPostRefIdeal.nD Cert.RwPostRefIdeal.τ).loc Cert.RwPostRefIdeal.main_arg2)) (m ((c.tc : Thread Cert.RwPostRefIdeal.nD Cert.RwPostRefIdeal.τ).loc Cert.RwPostRefIdeal.main_arg3)) (m ((c.tc : Thread Cert.RwPostRefIdeal.nD Cert.RwPostRefIdeal.τ).loc Cert.RwPostRefIdeal.main_arg4)) (m ((c.tc : Thread Cert.RwPostRefIdeal.nD Cert.RwPostRefIdeal.τ).loc Cert.RwPostRefIdeal.main_arg5)) (m ((c.tc : Thread Cert.RwPostRefIdeal.nD Cert.RwPostRefIdeal.τ).loc Cert.RwPostRefIdeal.main_arg6)) (m ((c.tc : Thread Cert.RwPostRefIdeal.nD Cert.RwPostRefIdeal.τ).loc Cert.RwPostRefIdeal.main_arg7)) (m ((c.tc : Thread Cert.RwPostRefIdeal.nD Cert.RwPostRefIdeal.τ).loc Cert.RwPostRefIdeal.main_arg8)) (m ((c.tc : Thread Cert.RwPostRefIdeal.nD Cert.RwPostRefIdeal.τ).loc Cert.RwPostRefIdeal.main_arg9))).2 = (fun _ => 1#1)

def Pre_OutMm (m : (ℓ : Loc Cert.OutMm.nD Cert.OutMm.τ Cert.OutMm.sig) → Buf (Elt Bits) ℓ) : Prop :=
  True

def Pre_OutMmIdeal (m : (ℓ : Loc Cert.OutMmIdeal.nD Cert.OutMmIdeal.τ Cert.OutMmIdeal.sig) → Buf (Elt Ideal) ℓ) : Prop :=
  True

def Pre_OutMmRefIdeal (m : (ℓ : Loc Cert.OutMmRefIdeal.nD Cert.OutMmRefIdeal.τ Cert.OutMmRefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_DWOut (m : (ℓ : Loc Cert.DWOut.nD Cert.DWOut.τ Cert.DWOut.sig) → Buf (Elt Bits) ℓ) : Prop :=
  True

def Pre_DWOutIdeal (m : (ℓ : Loc Cert.DWOutIdeal.nD Cert.DWOutIdeal.τ Cert.DWOutIdeal.sig) → Buf (Elt Ideal) ℓ) : Prop :=
  True

def Pre_DWOutRefIdeal (m : (ℓ : Loc Cert.DWOutRefIdeal.nD Cert.DWOutRefIdeal.τ Cert.DWOutRefIdeal.sig) → Buf (Elt Ideal) ℓ) : Prop :=
  True

def Pre_ProjMm (m : (ℓ : Loc Cert.ProjMm.nD Cert.ProjMm.τ Cert.ProjMm.sig) → Buf (Elt Bits) ℓ) : Prop :=
  True

def Pre_ProjMmIdeal (m : (ℓ : Loc Cert.ProjMmIdeal.nD Cert.ProjMmIdeal.τ Cert.ProjMmIdeal.sig) → Buf (Elt Ideal) ℓ) : Prop :=
  True

def Pre_ProjMmRefIdeal (m : (ℓ : Loc Cert.ProjMmRefIdeal.nD Cert.ProjMmRefIdeal.τ Cert.ProjMmRefIdeal.sig) → Buf (Elt Ideal) ℓ) : Prop :=
  True

def Pre_DWIn (m : (ℓ : Loc Cert.DWIn.nD Cert.DWIn.τ Cert.DWIn.sig) → Buf (Elt Bits) ℓ) : Prop :=
  True

def Pre_DWInIdeal (m : (ℓ : Loc Cert.DWInIdeal.nD Cert.DWInIdeal.τ Cert.DWInIdeal.sig) → Buf (Elt Ideal) ℓ) : Prop :=
  True

def Pre_DWInRefIdeal (m : (ℓ : Loc Cert.DWInRefIdeal.nD Cert.DWInRefIdeal.τ Cert.DWInRefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_AdamwAdaW (m : (ℓ : Loc Cert.AdamwAdaW.nD Cert.AdamwAdaW.τ Cert.AdamwAdaW.sig) → Buf (Elt Bits) ℓ) : Prop :=
  True

def Pre_AdamwAdaWIdeal (m : (ℓ : Loc Cert.AdamwAdaWIdeal.nD Cert.AdamwAdaWIdeal.τ Cert.AdamwAdaWIdeal.sig) → Buf (Elt Ideal) ℓ) : Prop :=
  True

def Pre_AdamwAdaWRefIdeal (m : (ℓ : Loc Cert.AdamwAdaWRefIdeal.nD Cert.AdamwAdaWRefIdeal.τ Cert.AdamwAdaWRefIdeal.sig) → Buf (Elt Ideal) ℓ) : Prop :=
  True

def Pre_ProjJoin (m : (ℓ : Loc Cert.ProjJoin.nD Cert.ProjJoin.τ Cert.ProjJoin.sig) → Buf (Elt Bits) ℓ) : Prop :=
  True

def Pre_ProjJoinIdeal (m : (ℓ : Loc Cert.ProjJoinIdeal.nD Cert.ProjJoinIdeal.τ Cert.ProjJoinIdeal.sig) → Buf (Elt Ideal) ℓ) : Prop :=
  True

def Pre_ProjJoinRefIdeal (m : (ℓ : Loc Cert.ProjJoinRefIdeal.nD Cert.ProjJoinRefIdeal.τ Cert.ProjJoinRefIdeal.sig) → Buf (Elt Ideal) ℓ) : Prop :=
  True

def Pre_GKa (m : (ℓ : Loc Cert.GKa.nD Cert.GKa.τ Cert.GKa.sig) → Buf (Elt Bits) ℓ) : Prop :=
  True

def Pre_GKaIdeal (m : (ℓ : Loc Cert.GKaIdeal.nD Cert.GKaIdeal.τ Cert.GKaIdeal.sig) → Buf (Elt Ideal) ℓ) : Prop :=
  True

def Pre_GKaRefIdeal (m : (ℓ : Loc Cert.GKaRefIdeal.nD Cert.GKaRefIdeal.τ Cert.GKaRefIdeal.sig) → Buf (Elt Ideal) ℓ) : Prop :=
  True

def quiescent_CondBwd [hCondBwd : Cert.CondBwd.Facts] : Prop :=
  ∀ (m : (ℓ : Loc Cert.CondBwd.nD Cert.CondBwd.τ Cert.CondBwd.sig) → Buf (Elt Bits) ℓ) (g : Dev Cert.CondBwd.nD → PrngReg), Pre_CondBwd m →
    θ_run (Cert.CondBwd.defs (F := Bits)) (onTc (τ := Cert.CondBwd.τ) (Cert.CondBwd.main (F := Bits))) ⟨m, fun _ => 0, g⟩ (fun r => (∀ c : Dev Cert.CondBwd.nD,
      r.2.mem ((c.tc : Thread Cert.CondBwd.nD Cert.CondBwd.τ).loc Cert.CondBwd.main_arg0) = m ((c.tc : Thread Cert.CondBwd.nD Cert.CondBwd.τ).loc Cert.CondBwd.main_arg0)
      ∧ r.2.mem ((c.tc : Thread Cert.CondBwd.nD Cert.CondBwd.τ).loc Cert.CondBwd.main_arg1) = m ((c.tc : Thread Cert.CondBwd.nD Cert.CondBwd.τ).loc Cert.CondBwd.main_arg1)
      ∧ r.2.mem ((c.tc : Thread Cert.CondBwd.nD Cert.CondBwd.τ).loc Cert.CondBwd.main_arg2) = m ((c.tc : Thread Cert.CondBwd.nD Cert.CondBwd.τ).loc Cert.CondBwd.main_arg2))
      ∧ r.2.sem = fun _ => 0)

def quiescent_CondBwdIdeal [hCondBwdIdeal : Cert.CondBwdIdeal.Facts] : Prop :=
  ∀ (m : (ℓ : Loc Cert.CondBwdIdeal.nD Cert.CondBwdIdeal.τ Cert.CondBwdIdeal.sig) → Buf (Elt Ideal) ℓ) (g : Dev Cert.CondBwdIdeal.nD → PrngReg), Pre_CondBwdIdeal m →
    θ_run (Cert.CondBwdIdeal.defs (F := Ideal)) (onTc (τ := Cert.CondBwdIdeal.τ) (Cert.CondBwdIdeal.main (F := Ideal))) ⟨m, fun _ => 0, g⟩ (fun r => (∀ c : Dev Cert.CondBwdIdeal.nD,
      r.2.mem ((c.tc : Thread Cert.CondBwdIdeal.nD Cert.CondBwdIdeal.τ).loc Cert.CondBwdIdeal.main_arg0) = m ((c.tc : Thread Cert.CondBwdIdeal.nD Cert.CondBwdIdeal.τ).loc Cert.CondBwdIdeal.main_arg0)
      ∧ r.2.mem ((c.tc : Thread Cert.CondBwdIdeal.nD Cert.CondBwdIdeal.τ).loc Cert.CondBwdIdeal.main_arg1) = m ((c.tc : Thread Cert.CondBwdIdeal.nD Cert.CondBwdIdeal.τ).loc Cert.CondBwdIdeal.main_arg1)
      ∧ r.2.mem ((c.tc : Thread Cert.CondBwdIdeal.nD Cert.CondBwdIdeal.τ).loc Cert.CondBwdIdeal.main_arg2) = m ((c.tc : Thread Cert.CondBwdIdeal.nD Cert.CondBwdIdeal.τ).loc Cert.CondBwdIdeal.main_arg2))
      ∧ r.2.sem = fun _ => 0)

def quiescent_CondBwdRefIdeal [hCondBwdRefIdeal : Cert.CondBwdRefIdeal.Facts] : Prop :=
  ∀ (m : (ℓ : Loc Cert.CondBwdRefIdeal.nD Cert.CondBwdRefIdeal.τ Cert.CondBwdRefIdeal.sig) → Buf (Elt Ideal) ℓ) (g : Dev Cert.CondBwdRefIdeal.nD → PrngReg), Pre_CondBwdRefIdeal m →
    θ_run (Cert.CondBwdRefIdeal.defs (F := Ideal)) (onTc (τ := Cert.CondBwdRefIdeal.τ) (Cert.CondBwdRefIdeal.main (F := Ideal))) ⟨m, fun _ => 0, g⟩ (fun r => (∀ c : Dev Cert.CondBwdRefIdeal.nD,
      r.2.mem ((c.tc : Thread Cert.CondBwdRefIdeal.nD Cert.CondBwdRefIdeal.τ).loc Cert.CondBwdRefIdeal.main_arg0) = m ((c.tc : Thread Cert.CondBwdRefIdeal.nD Cert.CondBwdRefIdeal.τ).loc Cert.CondBwdRefIdeal.main_arg0)
      ∧ r.2.mem ((c.tc : Thread Cert.CondBwdRefIdeal.nD Cert.CondBwdRefIdeal.τ).loc Cert.CondBwdRefIdeal.main_arg1) = m ((c.tc : Thread Cert.CondBwdRefIdeal.nD Cert.CondBwdRefIdeal.τ).loc Cert.CondBwdRefIdeal.main_arg1)
      ∧ r.2.mem ((c.tc : Thread Cert.CondBwdRefIdeal.nD Cert.CondBwdRefIdeal.τ).loc Cert.CondBwdRefIdeal.main_arg2) = m ((c.tc : Thread Cert.CondBwdRefIdeal.nD Cert.CondBwdRefIdeal.τ).loc Cert.CondBwdRefIdeal.main_arg2))
      ∧ r.2.sem = fun _ => 0)

def quiescent_ShiftBwd [hShiftBwd : Cert.ShiftBwd.Facts] : Prop :=
  ∀ (m : (ℓ : Loc Cert.ShiftBwd.nD Cert.ShiftBwd.τ Cert.ShiftBwd.sig) → Buf (Elt Bits) ℓ) (g : Dev Cert.ShiftBwd.nD → PrngReg), Pre_ShiftBwd m →
    θ_run (Cert.ShiftBwd.defs (F := Bits)) (onTc (τ := Cert.ShiftBwd.τ) (Cert.ShiftBwd.main (F := Bits))) ⟨m, fun _ => 0, g⟩ (fun r => (∀ c : Dev Cert.ShiftBwd.nD,
      r.2.mem ((c.tc : Thread Cert.ShiftBwd.nD Cert.ShiftBwd.τ).loc Cert.ShiftBwd.main_arg0) = m ((c.tc : Thread Cert.ShiftBwd.nD Cert.ShiftBwd.τ).loc Cert.ShiftBwd.main_arg0)
      ∧ r.2.mem ((c.tc : Thread Cert.ShiftBwd.nD Cert.ShiftBwd.τ).loc Cert.ShiftBwd.main_arg1) = m ((c.tc : Thread Cert.ShiftBwd.nD Cert.ShiftBwd.τ).loc Cert.ShiftBwd.main_arg1)
      ∧ r.2.mem ((c.tc : Thread Cert.ShiftBwd.nD Cert.ShiftBwd.τ).loc Cert.ShiftBwd.main_arg2) = m ((c.tc : Thread Cert.ShiftBwd.nD Cert.ShiftBwd.τ).loc Cert.ShiftBwd.main_arg2)
      ∧ r.2.mem ((c.tc : Thread Cert.ShiftBwd.nD Cert.ShiftBwd.τ).loc Cert.ShiftBwd.main_arg3) = m ((c.tc : Thread Cert.ShiftBwd.nD Cert.ShiftBwd.τ).loc Cert.ShiftBwd.main_arg3)
      ∧ r.2.mem ((c.tc : Thread Cert.ShiftBwd.nD Cert.ShiftBwd.τ).loc Cert.ShiftBwd.main_arg4) = m ((c.tc : Thread Cert.ShiftBwd.nD Cert.ShiftBwd.τ).loc Cert.ShiftBwd.main_arg4))
      ∧ r.2.sem = fun _ => 0)

def quiescent_ShiftBwdIdeal [hShiftBwdIdeal : Cert.ShiftBwdIdeal.Facts] : Prop :=
  ∀ (m : (ℓ : Loc Cert.ShiftBwdIdeal.nD Cert.ShiftBwdIdeal.τ Cert.ShiftBwdIdeal.sig) → Buf (Elt Ideal) ℓ) (g : Dev Cert.ShiftBwdIdeal.nD → PrngReg), Pre_ShiftBwdIdeal m →
    θ_run (Cert.ShiftBwdIdeal.defs (F := Ideal)) (onTc (τ := Cert.ShiftBwdIdeal.τ) (Cert.ShiftBwdIdeal.main (F := Ideal))) ⟨m, fun _ => 0, g⟩ (fun r => (∀ c : Dev Cert.ShiftBwdIdeal.nD,
      r.2.mem ((c.tc : Thread Cert.ShiftBwdIdeal.nD Cert.ShiftBwdIdeal.τ).loc Cert.ShiftBwdIdeal.main_arg0) = m ((c.tc : Thread Cert.ShiftBwdIdeal.nD Cert.ShiftBwdIdeal.τ).loc Cert.ShiftBwdIdeal.main_arg0)
      ∧ r.2.mem ((c.tc : Thread Cert.ShiftBwdIdeal.nD Cert.ShiftBwdIdeal.τ).loc Cert.ShiftBwdIdeal.main_arg1) = m ((c.tc : Thread Cert.ShiftBwdIdeal.nD Cert.ShiftBwdIdeal.τ).loc Cert.ShiftBwdIdeal.main_arg1)
      ∧ r.2.mem ((c.tc : Thread Cert.ShiftBwdIdeal.nD Cert.ShiftBwdIdeal.τ).loc Cert.ShiftBwdIdeal.main_arg2) = m ((c.tc : Thread Cert.ShiftBwdIdeal.nD Cert.ShiftBwdIdeal.τ).loc Cert.ShiftBwdIdeal.main_arg2)
      ∧ r.2.mem ((c.tc : Thread Cert.ShiftBwdIdeal.nD Cert.ShiftBwdIdeal.τ).loc Cert.ShiftBwdIdeal.main_arg3) = m ((c.tc : Thread Cert.ShiftBwdIdeal.nD Cert.ShiftBwdIdeal.τ).loc Cert.ShiftBwdIdeal.main_arg3)
      ∧ r.2.mem ((c.tc : Thread Cert.ShiftBwdIdeal.nD Cert.ShiftBwdIdeal.τ).loc Cert.ShiftBwdIdeal.main_arg4) = m ((c.tc : Thread Cert.ShiftBwdIdeal.nD Cert.ShiftBwdIdeal.τ).loc Cert.ShiftBwdIdeal.main_arg4))
      ∧ r.2.sem = fun _ => 0)

def quiescent_ShiftBwdIdeal_pre_shift_finite [hShiftBwdIdeal : Cert.ShiftBwdIdeal.Facts] [hPre_shift_finite : Cert.Pre_shift_finite.Facts] : Prop :=
  ∀ (m : (ℓ : Loc Cert.ShiftBwdIdeal.nD Cert.ShiftBwdIdeal.τ Cert.ShiftBwdIdeal.sig) → Buf (Elt Ideal) ℓ) (g : Dev Cert.ShiftBwdIdeal.nD → PrngReg), Pre_ShiftBwdIdeal_shift_finite m →
    θ_run (Cert.ShiftBwdIdeal.defs (F := Ideal)) (onTc (τ := Cert.ShiftBwdIdeal.τ) (Cert.ShiftBwdIdeal.main (F := Ideal))) ⟨m, fun _ => 0, g⟩ (fun r => (∀ c : Dev Cert.ShiftBwdIdeal.nD,
      r.2.mem ((c.tc : Thread Cert.ShiftBwdIdeal.nD Cert.ShiftBwdIdeal.τ).loc Cert.ShiftBwdIdeal.main_arg0) = m ((c.tc : Thread Cert.ShiftBwdIdeal.nD Cert.ShiftBwdIdeal.τ).loc Cert.ShiftBwdIdeal.main_arg0)
      ∧ r.2.mem ((c.tc : Thread Cert.ShiftBwdIdeal.nD Cert.ShiftBwdIdeal.τ).loc Cert.ShiftBwdIdeal.main_arg1) = m ((c.tc : Thread Cert.ShiftBwdIdeal.nD Cert.ShiftBwdIdeal.τ).loc Cert.ShiftBwdIdeal.main_arg1)
      ∧ r.2.mem ((c.tc : Thread Cert.ShiftBwdIdeal.nD Cert.ShiftBwdIdeal.τ).loc Cert.ShiftBwdIdeal.main_arg2) = m ((c.tc : Thread Cert.ShiftBwdIdeal.nD Cert.ShiftBwdIdeal.τ).loc Cert.ShiftBwdIdeal.main_arg2)
      ∧ r.2.mem ((c.tc : Thread Cert.ShiftBwdIdeal.nD Cert.ShiftBwdIdeal.τ).loc Cert.ShiftBwdIdeal.main_arg3) = m ((c.tc : Thread Cert.ShiftBwdIdeal.nD Cert.ShiftBwdIdeal.τ).loc Cert.ShiftBwdIdeal.main_arg3)
      ∧ r.2.mem ((c.tc : Thread Cert.ShiftBwdIdeal.nD Cert.ShiftBwdIdeal.τ).loc Cert.ShiftBwdIdeal.main_arg4) = m ((c.tc : Thread Cert.ShiftBwdIdeal.nD Cert.ShiftBwdIdeal.τ).loc Cert.ShiftBwdIdeal.main_arg4))
      ∧ r.2.sem = fun _ => 0)

def quiescent_ShiftBwdRefIdeal [hShiftBwdRefIdeal : Cert.ShiftBwdRefIdeal.Facts] : Prop :=
  ∀ (m : (ℓ : Loc Cert.ShiftBwdRefIdeal.nD Cert.ShiftBwdRefIdeal.τ Cert.ShiftBwdRefIdeal.sig) → Buf (Elt Ideal) ℓ) (g : Dev Cert.ShiftBwdRefIdeal.nD → PrngReg), Pre_ShiftBwdRefIdeal m →
    θ_run (Cert.ShiftBwdRefIdeal.defs (F := Ideal)) (onTc (τ := Cert.ShiftBwdRefIdeal.τ) (Cert.ShiftBwdRefIdeal.main (F := Ideal))) ⟨m, fun _ => 0, g⟩ (fun r => (∀ c : Dev Cert.ShiftBwdRefIdeal.nD,
      r.2.mem ((c.tc : Thread Cert.ShiftBwdRefIdeal.nD Cert.ShiftBwdRefIdeal.τ).loc Cert.ShiftBwdRefIdeal.main_arg0) = m ((c.tc : Thread Cert.ShiftBwdRefIdeal.nD Cert.ShiftBwdRefIdeal.τ).loc Cert.ShiftBwdRefIdeal.main_arg0)
      ∧ r.2.mem ((c.tc : Thread Cert.ShiftBwdRefIdeal.nD Cert.ShiftBwdRefIdeal.τ).loc Cert.ShiftBwdRefIdeal.main_arg1) = m ((c.tc : Thread Cert.ShiftBwdRefIdeal.nD Cert.ShiftBwdRefIdeal.τ).loc Cert.ShiftBwdRefIdeal.main_arg1)
      ∧ r.2.mem ((c.tc : Thread Cert.ShiftBwdRefIdeal.nD Cert.ShiftBwdRefIdeal.τ).loc Cert.ShiftBwdRefIdeal.main_arg2) = m ((c.tc : Thread Cert.ShiftBwdRefIdeal.nD Cert.ShiftBwdRefIdeal.τ).loc Cert.ShiftBwdRefIdeal.main_arg2)
      ∧ r.2.mem ((c.tc : Thread Cert.ShiftBwdRefIdeal.nD Cert.ShiftBwdRefIdeal.τ).loc Cert.ShiftBwdRefIdeal.main_arg3) = m ((c.tc : Thread Cert.ShiftBwdRefIdeal.nD Cert.ShiftBwdRefIdeal.τ).loc Cert.ShiftBwdRefIdeal.main_arg3)
      ∧ r.2.mem ((c.tc : Thread Cert.ShiftBwdRefIdeal.nD Cert.ShiftBwdRefIdeal.τ).loc Cert.ShiftBwdRefIdeal.main_arg4) = m ((c.tc : Thread Cert.ShiftBwdRefIdeal.nD Cert.ShiftBwdRefIdeal.τ).loc Cert.ShiftBwdRefIdeal.main_arg4))
      ∧ r.2.sem = fun _ => 0)

def quiescent_ShiftBwdRefIdeal_pre_shift_finite [hShiftBwdRefIdeal : Cert.ShiftBwdRefIdeal.Facts] [hPre_shift_finite : Cert.Pre_shift_finite.Facts] : Prop :=
  ∀ (m : (ℓ : Loc Cert.ShiftBwdRefIdeal.nD Cert.ShiftBwdRefIdeal.τ Cert.ShiftBwdRefIdeal.sig) → Buf (Elt Ideal) ℓ) (g : Dev Cert.ShiftBwdRefIdeal.nD → PrngReg), Pre_ShiftBwdRefIdeal_shift_finite m →
    θ_run (Cert.ShiftBwdRefIdeal.defs (F := Ideal)) (onTc (τ := Cert.ShiftBwdRefIdeal.τ) (Cert.ShiftBwdRefIdeal.main (F := Ideal))) ⟨m, fun _ => 0, g⟩ (fun r => (∀ c : Dev Cert.ShiftBwdRefIdeal.nD,
      r.2.mem ((c.tc : Thread Cert.ShiftBwdRefIdeal.nD Cert.ShiftBwdRefIdeal.τ).loc Cert.ShiftBwdRefIdeal.main_arg0) = m ((c.tc : Thread Cert.ShiftBwdRefIdeal.nD Cert.ShiftBwdRefIdeal.τ).loc Cert.ShiftBwdRefIdeal.main_arg0)
      ∧ r.2.mem ((c.tc : Thread Cert.ShiftBwdRefIdeal.nD Cert.ShiftBwdRefIdeal.τ).loc Cert.ShiftBwdRefIdeal.main_arg1) = m ((c.tc : Thread Cert.ShiftBwdRefIdeal.nD Cert.ShiftBwdRefIdeal.τ).loc Cert.ShiftBwdRefIdeal.main_arg1)
      ∧ r.2.mem ((c.tc : Thread Cert.ShiftBwdRefIdeal.nD Cert.ShiftBwdRefIdeal.τ).loc Cert.ShiftBwdRefIdeal.main_arg2) = m ((c.tc : Thread Cert.ShiftBwdRefIdeal.nD Cert.ShiftBwdRefIdeal.τ).loc Cert.ShiftBwdRefIdeal.main_arg2)
      ∧ r.2.mem ((c.tc : Thread Cert.ShiftBwdRefIdeal.nD Cert.ShiftBwdRefIdeal.τ).loc Cert.ShiftBwdRefIdeal.main_arg3) = m ((c.tc : Thread Cert.ShiftBwdRefIdeal.nD Cert.ShiftBwdRefIdeal.τ).loc Cert.ShiftBwdRefIdeal.main_arg3)
      ∧ r.2.mem ((c.tc : Thread Cert.ShiftBwdRefIdeal.nD Cert.ShiftBwdRefIdeal.τ).loc Cert.ShiftBwdRefIdeal.main_arg4) = m ((c.tc : Thread Cert.ShiftBwdRefIdeal.nD Cert.ShiftBwdRefIdeal.τ).loc Cert.ShiftBwdRefIdeal.main_arg4))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_HgPostBwd [hHgPostBwd : Cert.HgPostBwd.Facts] : Prop :=
  ∀ (m : (ℓ : Loc Cert.HgPostBwd.nD Cert.HgPostBwd.τ Cert.HgPostBwd.sig) → Buf (Elt Bits) ℓ) (g : Dev Cert.HgPostBwd.nD → PrngReg), Pre_HgPostBwd m →
    θ_run (Cert.HgPostBwd.defs (F := Bits)) (onTc (τ := Cert.HgPostBwd.τ) (Cert.HgPostBwd.main (F := Bits))) ⟨m, fun _ => 0, g⟩ (fun r => (∀ c : Dev Cert.HgPostBwd.nD,
      r.2.mem ((c.tc : Thread Cert.HgPostBwd.nD Cert.HgPostBwd.τ).loc Cert.HgPostBwd.main_arg0) = m ((c.tc : Thread Cert.HgPostBwd.nD Cert.HgPostBwd.τ).loc Cert.HgPostBwd.main_arg0)
      ∧ r.2.mem ((c.tc : Thread Cert.HgPostBwd.nD Cert.HgPostBwd.τ).loc Cert.HgPostBwd.main_arg1) = m ((c.tc : Thread Cert.HgPostBwd.nD Cert.HgPostBwd.τ).loc Cert.HgPostBwd.main_arg1)
      ∧ r.2.mem ((c.tc : Thread Cert.HgPostBwd.nD Cert.HgPostBwd.τ).loc Cert.HgPostBwd.main_arg2) = m ((c.tc : Thread Cert.HgPostBwd.nD Cert.HgPostBwd.τ).loc Cert.HgPostBwd.main_arg2)
      ∧ r.2.mem ((c.tc : Thread Cert.HgPostBwd.nD Cert.HgPostBwd.τ).loc Cert.HgPostBwd.main_arg3) = m ((c.tc : Thread Cert.HgPostBwd.nD Cert.HgPostBwd.τ).loc Cert.HgPostBwd.main_arg3)
      ∧ r.2.mem ((c.tc : Thread Cert.HgPostBwd.nD Cert.HgPostBwd.τ).loc Cert.HgPostBwd.main_arg4) = m ((c.tc : Thread Cert.HgPostBwd.nD Cert.HgPostBwd.τ).loc Cert.HgPostBwd.main_arg4))
      ∧ r.2.sem = fun _ => 0)

def quiescent_HgPostBwdIdeal [hHgPostBwdIdeal : Cert.HgPostBwdIdeal.Facts] : Prop :=
  ∀ (m : (ℓ : Loc Cert.HgPostBwdIdeal.nD Cert.HgPostBwdIdeal.τ Cert.HgPostBwdIdeal.sig) → Buf (Elt Ideal) ℓ) (g : Dev Cert.HgPostBwdIdeal.nD → PrngReg), Pre_HgPostBwdIdeal m →
    θ_run (Cert.HgPostBwdIdeal.defs (F := Ideal)) (onTc (τ := Cert.HgPostBwdIdeal.τ) (Cert.HgPostBwdIdeal.main (F := Ideal))) ⟨m, fun _ => 0, g⟩ (fun r => (∀ c : Dev Cert.HgPostBwdIdeal.nD,
      r.2.mem ((c.tc : Thread Cert.HgPostBwdIdeal.nD Cert.HgPostBwdIdeal.τ).loc Cert.HgPostBwdIdeal.main_arg0) = m ((c.tc : Thread Cert.HgPostBwdIdeal.nD Cert.HgPostBwdIdeal.τ).loc Cert.HgPostBwdIdeal.main_arg0)
      ∧ r.2.mem ((c.tc : Thread Cert.HgPostBwdIdeal.nD Cert.HgPostBwdIdeal.τ).loc Cert.HgPostBwdIdeal.main_arg1) = m ((c.tc : Thread Cert.HgPostBwdIdeal.nD Cert.HgPostBwdIdeal.τ).loc Cert.HgPostBwdIdeal.main_arg1)
      ∧ r.2.mem ((c.tc : Thread Cert.HgPostBwdIdeal.nD Cert.HgPostBwdIdeal.τ).loc Cert.HgPostBwdIdeal.main_arg2) = m ((c.tc : Thread Cert.HgPostBwdIdeal.nD Cert.HgPostBwdIdeal.τ).loc Cert.HgPostBwdIdeal.main_arg2)
      ∧ r.2.mem ((c.tc : Thread Cert.HgPostBwdIdeal.nD Cert.HgPostBwdIdeal.τ).loc Cert.HgPostBwdIdeal.main_arg3) = m ((c.tc : Thread Cert.HgPostBwdIdeal.nD Cert.HgPostBwdIdeal.τ).loc Cert.HgPostBwdIdeal.main_arg3)
      ∧ r.2.mem ((c.tc : Thread Cert.HgPostBwdIdeal.nD Cert.HgPostBwdIdeal.τ).loc Cert.HgPostBwdIdeal.main_arg4) = m ((c.tc : Thread Cert.HgPostBwdIdeal.nD Cert.HgPostBwdIdeal.τ).loc Cert.HgPostBwdIdeal.main_arg4))
      ∧ r.2.sem = fun _ => 0)

def quiescent_HgPostBwdRefIdeal [hHgPostBwdRefIdeal : Cert.HgPostBwdRefIdeal.Facts] : Prop :=
  ∀ (m : (ℓ : Loc Cert.HgPostBwdRefIdeal.nD Cert.HgPostBwdRefIdeal.τ Cert.HgPostBwdRefIdeal.sig) → Buf (Elt Ideal) ℓ) (g : Dev Cert.HgPostBwdRefIdeal.nD → PrngReg), Pre_HgPostBwdRefIdeal m →
    θ_run (Cert.HgPostBwdRefIdeal.defs (F := Ideal)) (onTc (τ := Cert.HgPostBwdRefIdeal.τ) (Cert.HgPostBwdRefIdeal.main (F := Ideal))) ⟨m, fun _ => 0, g⟩ (fun r => (∀ c : Dev Cert.HgPostBwdRefIdeal.nD,
      r.2.mem ((c.tc : Thread Cert.HgPostBwdRefIdeal.nD Cert.HgPostBwdRefIdeal.τ).loc Cert.HgPostBwdRefIdeal.main_arg0) = m ((c.tc : Thread Cert.HgPostBwdRefIdeal.nD Cert.HgPostBwdRefIdeal.τ).loc Cert.HgPostBwdRefIdeal.main_arg0)
      ∧ r.2.mem ((c.tc : Thread Cert.HgPostBwdRefIdeal.nD Cert.HgPostBwdRefIdeal.τ).loc Cert.HgPostBwdRefIdeal.main_arg1) = m ((c.tc : Thread Cert.HgPostBwdRefIdeal.nD Cert.HgPostBwdRefIdeal.τ).loc Cert.HgPostBwdRefIdeal.main_arg1)
      ∧ r.2.mem ((c.tc : Thread Cert.HgPostBwdRefIdeal.nD Cert.HgPostBwdRefIdeal.τ).loc Cert.HgPostBwdRefIdeal.main_arg2) = m ((c.tc : Thread Cert.HgPostBwdRefIdeal.nD Cert.HgPostBwdRefIdeal.τ).loc Cert.HgPostBwdRefIdeal.main_arg2)
      ∧ r.2.mem ((c.tc : Thread Cert.HgPostBwdRefIdeal.nD Cert.HgPostBwdRefIdeal.τ).loc Cert.HgPostBwdRefIdeal.main_arg3) = m ((c.tc : Thread Cert.HgPostBwdRefIdeal.nD Cert.HgPostBwdRefIdeal.τ).loc Cert.HgPostBwdRefIdeal.main_arg3)
      ∧ r.2.mem ((c.tc : Thread Cert.HgPostBwdRefIdeal.nD Cert.HgPostBwdRefIdeal.τ).loc Cert.HgPostBwdRefIdeal.main_arg4) = m ((c.tc : Thread Cert.HgPostBwdRefIdeal.nD Cert.HgPostBwdRefIdeal.τ).loc Cert.HgPostBwdRefIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def quiescent_HBwd [hHBwd : Cert.HBwd.Facts] : Prop :=
  ∀ (m : (ℓ : Loc Cert.HBwd.nD Cert.HBwd.τ Cert.HBwd.sig) → Buf (Elt Bits) ℓ) (g : Dev Cert.HBwd.nD → PrngReg), Pre_HBwd m →
    θ_run (Cert.HBwd.defs (F := Bits)) (onTc (τ := Cert.HBwd.τ) (Cert.HBwd.main (F := Bits))) ⟨m, fun _ => 0, g⟩ (fun r => (∀ c : Dev Cert.HBwd.nD,
      r.2.mem ((c.tc : Thread Cert.HBwd.nD Cert.HBwd.τ).loc Cert.HBwd.main_arg0) = m ((c.tc : Thread Cert.HBwd.nD Cert.HBwd.τ).loc Cert.HBwd.main_arg0)
      ∧ r.2.mem ((c.tc : Thread Cert.HBwd.nD Cert.HBwd.τ).loc Cert.HBwd.main_arg1) = m ((c.tc : Thread Cert.HBwd.nD Cert.HBwd.τ).loc Cert.HBwd.main_arg1)
      ∧ r.2.mem ((c.tc : Thread Cert.HBwd.nD Cert.HBwd.τ).loc Cert.HBwd.main_arg2) = m ((c.tc : Thread Cert.HBwd.nD Cert.HBwd.τ).loc Cert.HBwd.main_arg2)
      ∧ r.2.mem ((c.tc : Thread Cert.HBwd.nD Cert.HBwd.τ).loc Cert.HBwd.main_arg3) = m ((c.tc : Thread Cert.HBwd.nD Cert.HBwd.τ).loc Cert.HBwd.main_arg3)
      ∧ r.2.mem ((c.tc : Thread Cert.HBwd.nD Cert.HBwd.τ).loc Cert.HBwd.main_arg4) = m ((c.tc : Thread Cert.HBwd.nD Cert.HBwd.τ).loc Cert.HBwd.main_arg4)
      ∧ r.2.mem ((c.tc : Thread Cert.HBwd.nD Cert.HBwd.τ).loc Cert.HBwd.main_arg5) = m ((c.tc : Thread Cert.HBwd.nD Cert.HBwd.τ).loc Cert.HBwd.main_arg5))
      ∧ r.2.sem = fun _ => 0)

def quiescent_HBwdIdeal [hHBwdIdeal : Cert.HBwdIdeal.Facts] : Prop :=
  ∀ (m : (ℓ : Loc Cert.HBwdIdeal.nD Cert.HBwdIdeal.τ Cert.HBwdIdeal.sig) → Buf (Elt Ideal) ℓ) (g : Dev Cert.HBwdIdeal.nD → PrngReg), Pre_HBwdIdeal m →
    θ_run (Cert.HBwdIdeal.defs (F := Ideal)) (onTc (τ := Cert.HBwdIdeal.τ) (Cert.HBwdIdeal.main (F := Ideal))) ⟨m, fun _ => 0, g⟩ (fun r => (∀ c : Dev Cert.HBwdIdeal.nD,
      r.2.mem ((c.tc : Thread Cert.HBwdIdeal.nD Cert.HBwdIdeal.τ).loc Cert.HBwdIdeal.main_arg0) = m ((c.tc : Thread Cert.HBwdIdeal.nD Cert.HBwdIdeal.τ).loc Cert.HBwdIdeal.main_arg0)
      ∧ r.2.mem ((c.tc : Thread Cert.HBwdIdeal.nD Cert.HBwdIdeal.τ).loc Cert.HBwdIdeal.main_arg1) = m ((c.tc : Thread Cert.HBwdIdeal.nD Cert.HBwdIdeal.τ).loc Cert.HBwdIdeal.main_arg1)
      ∧ r.2.mem ((c.tc : Thread Cert.HBwdIdeal.nD Cert.HBwdIdeal.τ).loc Cert.HBwdIdeal.main_arg2) = m ((c.tc : Thread Cert.HBwdIdeal.nD Cert.HBwdIdeal.τ).loc Cert.HBwdIdeal.main_arg2)
      ∧ r.2.mem ((c.tc : Thread Cert.HBwdIdeal.nD Cert.HBwdIdeal.τ).loc Cert.HBwdIdeal.main_arg3) = m ((c.tc : Thread Cert.HBwdIdeal.nD Cert.HBwdIdeal.τ).loc Cert.HBwdIdeal.main_arg3)
      ∧ r.2.mem ((c.tc : Thread Cert.HBwdIdeal.nD Cert.HBwdIdeal.τ).loc Cert.HBwdIdeal.main_arg4) = m ((c.tc : Thread Cert.HBwdIdeal.nD Cert.HBwdIdeal.τ).loc Cert.HBwdIdeal.main_arg4)
      ∧ r.2.mem ((c.tc : Thread Cert.HBwdIdeal.nD Cert.HBwdIdeal.τ).loc Cert.HBwdIdeal.main_arg5) = m ((c.tc : Thread Cert.HBwdIdeal.nD Cert.HBwdIdeal.τ).loc Cert.HBwdIdeal.main_arg5))
      ∧ r.2.sem = fun _ => 0)

def quiescent_HBwdRefIdeal [hHBwdRefIdeal : Cert.HBwdRefIdeal.Facts] : Prop :=
  ∀ (m : (ℓ : Loc Cert.HBwdRefIdeal.nD Cert.HBwdRefIdeal.τ Cert.HBwdRefIdeal.sig) → Buf (Elt Ideal) ℓ) (g : Dev Cert.HBwdRefIdeal.nD → PrngReg), Pre_HBwdRefIdeal m →
    θ_run (Cert.HBwdRefIdeal.defs (F := Ideal)) (onTc (τ := Cert.HBwdRefIdeal.τ) (Cert.HBwdRefIdeal.main (F := Ideal))) ⟨m, fun _ => 0, g⟩ (fun r => (∀ c : Dev Cert.HBwdRefIdeal.nD,
      r.2.mem ((c.tc : Thread Cert.HBwdRefIdeal.nD Cert.HBwdRefIdeal.τ).loc Cert.HBwdRefIdeal.main_arg0) = m ((c.tc : Thread Cert.HBwdRefIdeal.nD Cert.HBwdRefIdeal.τ).loc Cert.HBwdRefIdeal.main_arg0)
      ∧ r.2.mem ((c.tc : Thread Cert.HBwdRefIdeal.nD Cert.HBwdRefIdeal.τ).loc Cert.HBwdRefIdeal.main_arg1) = m ((c.tc : Thread Cert.HBwdRefIdeal.nD Cert.HBwdRefIdeal.τ).loc Cert.HBwdRefIdeal.main_arg1)
      ∧ r.2.mem ((c.tc : Thread Cert.HBwdRefIdeal.nD Cert.HBwdRefIdeal.τ).loc Cert.HBwdRefIdeal.main_arg2) = m ((c.tc : Thread Cert.HBwdRefIdeal.nD Cert.HBwdRefIdeal.τ).loc Cert.HBwdRefIdeal.main_arg2)
      ∧ r.2.mem ((c.tc : Thread Cert.HBwdRefIdeal.nD Cert.HBwdRefIdeal.τ).loc Cert.HBwdRefIdeal.main_arg3) = m ((c.tc : Thread Cert.HBwdRefIdeal.nD Cert.HBwdRefIdeal.τ).loc Cert.HBwdRefIdeal.main_arg3)
      ∧ r.2.mem ((c.tc : Thread Cert.HBwdRefIdeal.nD Cert.HBwdRefIdeal.τ).loc Cert.HBwdRefIdeal.main_arg4) = m ((c.tc : Thread Cert.HBwdRefIdeal.nD Cert.HBwdRefIdeal.τ).loc Cert.HBwdRefIdeal.main_arg4)
      ∧ r.2.mem ((c.tc : Thread Cert.HBwdRefIdeal.nD Cert.HBwdRefIdeal.τ).loc Cert.HBwdRefIdeal.main_arg5) = m ((c.tc : Thread Cert.HBwdRefIdeal.nD Cert.HBwdRefIdeal.τ).loc Cert.HBwdRefIdeal.main_arg5))
      ∧ r.2.sem = fun _ => 0)

def quiescent_RwPostBwd [hRwPostBwd : Cert.RwPostBwd.Facts] : Prop :=
  ∀ (m : (ℓ : Loc Cert.RwPostBwd.nD Cert.RwPostBwd.τ Cert.RwPostBwd.sig) → Buf (Elt Bits) ℓ) (g : Dev Cert.RwPostBwd.nD → PrngReg), Pre_RwPostBwd m →
    θ_run (Cert.RwPostBwd.defs (F := Bits)) (onTc (τ := Cert.RwPostBwd.τ) (Cert.RwPostBwd.main (F := Bits))) ⟨m, fun _ => 0, g⟩ (fun r => (∀ c : Dev Cert.RwPostBwd.nD,
      r.2.mem ((c.tc : Thread Cert.RwPostBwd.nD Cert.RwPostBwd.τ).loc Cert.RwPostBwd.main_arg0) = m ((c.tc : Thread Cert.RwPostBwd.nD Cert.RwPostBwd.τ).loc Cert.RwPostBwd.main_arg0)
      ∧ r.2.mem ((c.tc : Thread Cert.RwPostBwd.nD Cert.RwPostBwd.τ).loc Cert.RwPostBwd.main_arg1) = m ((c.tc : Thread Cert.RwPostBwd.nD Cert.RwPostBwd.τ).loc Cert.RwPostBwd.main_arg1)
      ∧ r.2.mem ((c.tc : Thread Cert.RwPostBwd.nD Cert.RwPostBwd.τ).loc Cert.RwPostBwd.main_arg2) = m ((c.tc : Thread Cert.RwPostBwd.nD Cert.RwPostBwd.τ).loc Cert.RwPostBwd.main_arg2)
      ∧ r.2.mem ((c.tc : Thread Cert.RwPostBwd.nD Cert.RwPostBwd.τ).loc Cert.RwPostBwd.main_arg3) = m ((c.tc : Thread Cert.RwPostBwd.nD Cert.RwPostBwd.τ).loc Cert.RwPostBwd.main_arg3)
      ∧ r.2.mem ((c.tc : Thread Cert.RwPostBwd.nD Cert.RwPostBwd.τ).loc Cert.RwPostBwd.main_arg4) = m ((c.tc : Thread Cert.RwPostBwd.nD Cert.RwPostBwd.τ).loc Cert.RwPostBwd.main_arg4)
      ∧ r.2.mem ((c.tc : Thread Cert.RwPostBwd.nD Cert.RwPostBwd.τ).loc Cert.RwPostBwd.main_arg5) = m ((c.tc : Thread Cert.RwPostBwd.nD Cert.RwPostBwd.τ).loc Cert.RwPostBwd.main_arg5)
      ∧ r.2.mem ((c.tc : Thread Cert.RwPostBwd.nD Cert.RwPostBwd.τ).loc Cert.RwPostBwd.main_arg6) = m ((c.tc : Thread Cert.RwPostBwd.nD Cert.RwPostBwd.τ).loc Cert.RwPostBwd.main_arg6)
      ∧ r.2.mem ((c.tc : Thread Cert.RwPostBwd.nD Cert.RwPostBwd.τ).loc Cert.RwPostBwd.main_arg7) = m ((c.tc : Thread Cert.RwPostBwd.nD Cert.RwPostBwd.τ).loc Cert.RwPostBwd.main_arg7)
      ∧ r.2.mem ((c.tc : Thread Cert.RwPostBwd.nD Cert.RwPostBwd.τ).loc Cert.RwPostBwd.main_arg8) = m ((c.tc : Thread Cert.RwPostBwd.nD Cert.RwPostBwd.τ).loc Cert.RwPostBwd.main_arg8)
      ∧ r.2.mem ((c.tc : Thread Cert.RwPostBwd.nD Cert.RwPostBwd.τ).loc Cert.RwPostBwd.main_arg9) = m ((c.tc : Thread Cert.RwPostBwd.nD Cert.RwPostBwd.τ).loc Cert.RwPostBwd.main_arg9)
      ∧ r.2.mem ((c.tc : Thread Cert.RwPostBwd.nD Cert.RwPostBwd.τ).loc Cert.RwPostBwd.main_arg10) = m ((c.tc : Thread Cert.RwPostBwd.nD Cert.RwPostBwd.τ).loc Cert.RwPostBwd.main_arg10))
      ∧ r.2.sem = fun _ => 0)

def quiescent_RwPostBwdIdeal [hRwPostBwdIdeal : Cert.RwPostBwdIdeal.Facts] : Prop :=
  ∀ (m : (ℓ : Loc Cert.RwPostBwdIdeal.nD Cert.RwPostBwdIdeal.τ Cert.RwPostBwdIdeal.sig) → Buf (Elt Ideal) ℓ) (g : Dev Cert.RwPostBwdIdeal.nD → PrngReg), Pre_RwPostBwdIdeal m →
    θ_run (Cert.RwPostBwdIdeal.defs (F := Ideal)) (onTc (τ := Cert.RwPostBwdIdeal.τ) (Cert.RwPostBwdIdeal.main (F := Ideal))) ⟨m, fun _ => 0, g⟩ (fun r => (∀ c : Dev Cert.RwPostBwdIdeal.nD,
      r.2.mem ((c.tc : Thread Cert.RwPostBwdIdeal.nD Cert.RwPostBwdIdeal.τ).loc Cert.RwPostBwdIdeal.main_arg0) = m ((c.tc : Thread Cert.RwPostBwdIdeal.nD Cert.RwPostBwdIdeal.τ).loc Cert.RwPostBwdIdeal.main_arg0)
      ∧ r.2.mem ((c.tc : Thread Cert.RwPostBwdIdeal.nD Cert.RwPostBwdIdeal.τ).loc Cert.RwPostBwdIdeal.main_arg1) = m ((c.tc : Thread Cert.RwPostBwdIdeal.nD Cert.RwPostBwdIdeal.τ).loc Cert.RwPostBwdIdeal.main_arg1)
      ∧ r.2.mem ((c.tc : Thread Cert.RwPostBwdIdeal.nD Cert.RwPostBwdIdeal.τ).loc Cert.RwPostBwdIdeal.main_arg2) = m ((c.tc : Thread Cert.RwPostBwdIdeal.nD Cert.RwPostBwdIdeal.τ).loc Cert.RwPostBwdIdeal.main_arg2)
      ∧ r.2.mem ((c.tc : Thread Cert.RwPostBwdIdeal.nD Cert.RwPostBwdIdeal.τ).loc Cert.RwPostBwdIdeal.main_arg3) = m ((c.tc : Thread Cert.RwPostBwdIdeal.nD Cert.RwPostBwdIdeal.τ).loc Cert.RwPostBwdIdeal.main_arg3)
      ∧ r.2.mem ((c.tc : Thread Cert.RwPostBwdIdeal.nD Cert.RwPostBwdIdeal.τ).loc Cert.RwPostBwdIdeal.main_arg4) = m ((c.tc : Thread Cert.RwPostBwdIdeal.nD Cert.RwPostBwdIdeal.τ).loc Cert.RwPostBwdIdeal.main_arg4)
      ∧ r.2.mem ((c.tc : Thread Cert.RwPostBwdIdeal.nD Cert.RwPostBwdIdeal.τ).loc Cert.RwPostBwdIdeal.main_arg5) = m ((c.tc : Thread Cert.RwPostBwdIdeal.nD Cert.RwPostBwdIdeal.τ).loc Cert.RwPostBwdIdeal.main_arg5)
      ∧ r.2.mem ((c.tc : Thread Cert.RwPostBwdIdeal.nD Cert.RwPostBwdIdeal.τ).loc Cert.RwPostBwdIdeal.main_arg6) = m ((c.tc : Thread Cert.RwPostBwdIdeal.nD Cert.RwPostBwdIdeal.τ).loc Cert.RwPostBwdIdeal.main_arg6)
      ∧ r.2.mem ((c.tc : Thread Cert.RwPostBwdIdeal.nD Cert.RwPostBwdIdeal.τ).loc Cert.RwPostBwdIdeal.main_arg7) = m ((c.tc : Thread Cert.RwPostBwdIdeal.nD Cert.RwPostBwdIdeal.τ).loc Cert.RwPostBwdIdeal.main_arg7)
      ∧ r.2.mem ((c.tc : Thread Cert.RwPostBwdIdeal.nD Cert.RwPostBwdIdeal.τ).loc Cert.RwPostBwdIdeal.main_arg8) = m ((c.tc : Thread Cert.RwPostBwdIdeal.nD Cert.RwPostBwdIdeal.τ).loc Cert.RwPostBwdIdeal.main_arg8)
      ∧ r.2.mem ((c.tc : Thread Cert.RwPostBwdIdeal.nD Cert.RwPostBwdIdeal.τ).loc Cert.RwPostBwdIdeal.main_arg9) = m ((c.tc : Thread Cert.RwPostBwdIdeal.nD Cert.RwPostBwdIdeal.τ).loc Cert.RwPostBwdIdeal.main_arg9)
      ∧ r.2.mem ((c.tc : Thread Cert.RwPostBwdIdeal.nD Cert.RwPostBwdIdeal.τ).loc Cert.RwPostBwdIdeal.main_arg10) = m ((c.tc : Thread Cert.RwPostBwdIdeal.nD Cert.RwPostBwdIdeal.τ).loc Cert.RwPostBwdIdeal.main_arg10))
      ∧ r.2.sem = fun _ => 0)

def quiescent_RwPostBwdIdeal_pre_rw_post_finite [hRwPostBwdIdeal : Cert.RwPostBwdIdeal.Facts] [hPre_rw_post_finite : Cert.Pre_rw_post_finite.Facts] : Prop :=
  ∀ (m : (ℓ : Loc Cert.RwPostBwdIdeal.nD Cert.RwPostBwdIdeal.τ Cert.RwPostBwdIdeal.sig) → Buf (Elt Ideal) ℓ) (g : Dev Cert.RwPostBwdIdeal.nD → PrngReg), Pre_RwPostBwdIdeal_rw_post_finite m →
    θ_run (Cert.RwPostBwdIdeal.defs (F := Ideal)) (onTc (τ := Cert.RwPostBwdIdeal.τ) (Cert.RwPostBwdIdeal.main (F := Ideal))) ⟨m, fun _ => 0, g⟩ (fun r => (∀ c : Dev Cert.RwPostBwdIdeal.nD,
      r.2.mem ((c.tc : Thread Cert.RwPostBwdIdeal.nD Cert.RwPostBwdIdeal.τ).loc Cert.RwPostBwdIdeal.main_arg0) = m ((c.tc : Thread Cert.RwPostBwdIdeal.nD Cert.RwPostBwdIdeal.τ).loc Cert.RwPostBwdIdeal.main_arg0)
      ∧ r.2.mem ((c.tc : Thread Cert.RwPostBwdIdeal.nD Cert.RwPostBwdIdeal.τ).loc Cert.RwPostBwdIdeal.main_arg1) = m ((c.tc : Thread Cert.RwPostBwdIdeal.nD Cert.RwPostBwdIdeal.τ).loc Cert.RwPostBwdIdeal.main_arg1)
      ∧ r.2.mem ((c.tc : Thread Cert.RwPostBwdIdeal.nD Cert.RwPostBwdIdeal.τ).loc Cert.RwPostBwdIdeal.main_arg2) = m ((c.tc : Thread Cert.RwPostBwdIdeal.nD Cert.RwPostBwdIdeal.τ).loc Cert.RwPostBwdIdeal.main_arg2)
      ∧ r.2.mem ((c.tc : Thread Cert.RwPostBwdIdeal.nD Cert.RwPostBwdIdeal.τ).loc Cert.RwPostBwdIdeal.main_arg3) = m ((c.tc : Thread Cert.RwPostBwdIdeal.nD Cert.RwPostBwdIdeal.τ).loc Cert.RwPostBwdIdeal.main_arg3)
      ∧ r.2.mem ((c.tc : Thread Cert.RwPostBwdIdeal.nD Cert.RwPostBwdIdeal.τ).loc Cert.RwPostBwdIdeal.main_arg4) = m ((c.tc : Thread Cert.RwPostBwdIdeal.nD Cert.RwPostBwdIdeal.τ).loc Cert.RwPostBwdIdeal.main_arg4)
      ∧ r.2.mem ((c.tc : Thread Cert.RwPostBwdIdeal.nD Cert.RwPostBwdIdeal.τ).loc Cert.RwPostBwdIdeal.main_arg5) = m ((c.tc : Thread Cert.RwPostBwdIdeal.nD Cert.RwPostBwdIdeal.τ).loc Cert.RwPostBwdIdeal.main_arg5)
      ∧ r.2.mem ((c.tc : Thread Cert.RwPostBwdIdeal.nD Cert.RwPostBwdIdeal.τ).loc Cert.RwPostBwdIdeal.main_arg6) = m ((c.tc : Thread Cert.RwPostBwdIdeal.nD Cert.RwPostBwdIdeal.τ).loc Cert.RwPostBwdIdeal.main_arg6)
      ∧ r.2.mem ((c.tc : Thread Cert.RwPostBwdIdeal.nD Cert.RwPostBwdIdeal.τ).loc Cert.RwPostBwdIdeal.main_arg7) = m ((c.tc : Thread Cert.RwPostBwdIdeal.nD Cert.RwPostBwdIdeal.τ).loc Cert.RwPostBwdIdeal.main_arg7)
      ∧ r.2.mem ((c.tc : Thread Cert.RwPostBwdIdeal.nD Cert.RwPostBwdIdeal.τ).loc Cert.RwPostBwdIdeal.main_arg8) = m ((c.tc : Thread Cert.RwPostBwdIdeal.nD Cert.RwPostBwdIdeal.τ).loc Cert.RwPostBwdIdeal.main_arg8)
      ∧ r.2.mem ((c.tc : Thread Cert.RwPostBwdIdeal.nD Cert.RwPostBwdIdeal.τ).loc Cert.RwPostBwdIdeal.main_arg9) = m ((c.tc : Thread Cert.RwPostBwdIdeal.nD Cert.RwPostBwdIdeal.τ).loc Cert.RwPostBwdIdeal.main_arg9)
      ∧ r.2.mem ((c.tc : Thread Cert.RwPostBwdIdeal.nD Cert.RwPostBwdIdeal.τ).loc Cert.RwPostBwdIdeal.main_arg10) = m ((c.tc : Thread Cert.RwPostBwdIdeal.nD Cert.RwPostBwdIdeal.τ).loc Cert.RwPostBwdIdeal.main_arg10))
      ∧ r.2.sem = fun _ => 0)

def quiescent_RwPostBwdRefIdeal [hRwPostBwdRefIdeal : Cert.RwPostBwdRefIdeal.Facts] : Prop :=
  ∀ (m : (ℓ : Loc Cert.RwPostBwdRefIdeal.nD Cert.RwPostBwdRefIdeal.τ Cert.RwPostBwdRefIdeal.sig) → Buf (Elt Ideal) ℓ) (g : Dev Cert.RwPostBwdRefIdeal.nD → PrngReg), Pre_RwPostBwdRefIdeal m →
    θ_run (Cert.RwPostBwdRefIdeal.defs (F := Ideal)) (onTc (τ := Cert.RwPostBwdRefIdeal.τ) (Cert.RwPostBwdRefIdeal.main (F := Ideal))) ⟨m, fun _ => 0, g⟩ (fun r => (∀ c : Dev Cert.RwPostBwdRefIdeal.nD,
      r.2.mem ((c.tc : Thread Cert.RwPostBwdRefIdeal.nD Cert.RwPostBwdRefIdeal.τ).loc Cert.RwPostBwdRefIdeal.main_arg0) = m ((c.tc : Thread Cert.RwPostBwdRefIdeal.nD Cert.RwPostBwdRefIdeal.τ).loc Cert.RwPostBwdRefIdeal.main_arg0)
      ∧ r.2.mem ((c.tc : Thread Cert.RwPostBwdRefIdeal.nD Cert.RwPostBwdRefIdeal.τ).loc Cert.RwPostBwdRefIdeal.main_arg1) = m ((c.tc : Thread Cert.RwPostBwdRefIdeal.nD Cert.RwPostBwdRefIdeal.τ).loc Cert.RwPostBwdRefIdeal.main_arg1)
      ∧ r.2.mem ((c.tc : Thread Cert.RwPostBwdRefIdeal.nD Cert.RwPostBwdRefIdeal.τ).loc Cert.RwPostBwdRefIdeal.main_arg2) = m ((c.tc : Thread Cert.RwPostBwdRefIdeal.nD Cert.RwPostBwdRefIdeal.τ).loc Cert.RwPostBwdRefIdeal.main_arg2)
      ∧ r.2.mem ((c.tc : Thread Cert.RwPostBwdRefIdeal.nD Cert.RwPostBwdRefIdeal.τ).loc Cert.RwPostBwdRefIdeal.main_arg3) = m ((c.tc : Thread Cert.RwPostBwdRefIdeal.nD Cert.RwPostBwdRefIdeal.τ).loc Cert.RwPostBwdRefIdeal.main_arg3)
      ∧ r.2.mem ((c.tc : Thread Cert.RwPostBwdRefIdeal.nD Cert.RwPostBwdRefIdeal.τ).loc Cert.RwPostBwdRefIdeal.main_arg4) = m ((c.tc : Thread Cert.RwPostBwdRefIdeal.nD Cert.RwPostBwdRefIdeal.τ).loc Cert.RwPostBwdRefIdeal.main_arg4)
      ∧ r.2.mem ((c.tc : Thread Cert.RwPostBwdRefIdeal.nD Cert.RwPostBwdRefIdeal.τ).loc Cert.RwPostBwdRefIdeal.main_arg5) = m ((c.tc : Thread Cert.RwPostBwdRefIdeal.nD Cert.RwPostBwdRefIdeal.τ).loc Cert.RwPostBwdRefIdeal.main_arg5)
      ∧ r.2.mem ((c.tc : Thread Cert.RwPostBwdRefIdeal.nD Cert.RwPostBwdRefIdeal.τ).loc Cert.RwPostBwdRefIdeal.main_arg6) = m ((c.tc : Thread Cert.RwPostBwdRefIdeal.nD Cert.RwPostBwdRefIdeal.τ).loc Cert.RwPostBwdRefIdeal.main_arg6)
      ∧ r.2.mem ((c.tc : Thread Cert.RwPostBwdRefIdeal.nD Cert.RwPostBwdRefIdeal.τ).loc Cert.RwPostBwdRefIdeal.main_arg7) = m ((c.tc : Thread Cert.RwPostBwdRefIdeal.nD Cert.RwPostBwdRefIdeal.τ).loc Cert.RwPostBwdRefIdeal.main_arg7)
      ∧ r.2.mem ((c.tc : Thread Cert.RwPostBwdRefIdeal.nD Cert.RwPostBwdRefIdeal.τ).loc Cert.RwPostBwdRefIdeal.main_arg8) = m ((c.tc : Thread Cert.RwPostBwdRefIdeal.nD Cert.RwPostBwdRefIdeal.τ).loc Cert.RwPostBwdRefIdeal.main_arg8)
      ∧ r.2.mem ((c.tc : Thread Cert.RwPostBwdRefIdeal.nD Cert.RwPostBwdRefIdeal.τ).loc Cert.RwPostBwdRefIdeal.main_arg9) = m ((c.tc : Thread Cert.RwPostBwdRefIdeal.nD Cert.RwPostBwdRefIdeal.τ).loc Cert.RwPostBwdRefIdeal.main_arg9)
      ∧ r.2.mem ((c.tc : Thread Cert.RwPostBwdRefIdeal.nD Cert.RwPostBwdRefIdeal.τ).loc Cert.RwPostBwdRefIdeal.main_arg10) = m ((c.tc : Thread Cert.RwPostBwdRefIdeal.nD Cert.RwPostBwdRefIdeal.τ).loc Cert.RwPostBwdRefIdeal.main_arg10))
      ∧ r.2.sem = fun _ => 0)

def quiescent_RwPostBwdRefIdeal_pre_rw_post_finite [hRwPostBwdRefIdeal : Cert.RwPostBwdRefIdeal.Facts] [hPre_rw_post_finite : Cert.Pre_rw_post_finite.Facts] : Prop :=
  ∀ (m : (ℓ : Loc Cert.RwPostBwdRefIdeal.nD Cert.RwPostBwdRefIdeal.τ Cert.RwPostBwdRefIdeal.sig) → Buf (Elt Ideal) ℓ) (g : Dev Cert.RwPostBwdRefIdeal.nD → PrngReg), Pre_RwPostBwdRefIdeal_rw_post_finite m →
    θ_run (Cert.RwPostBwdRefIdeal.defs (F := Ideal)) (onTc (τ := Cert.RwPostBwdRefIdeal.τ) (Cert.RwPostBwdRefIdeal.main (F := Ideal))) ⟨m, fun _ => 0, g⟩ (fun r => (∀ c : Dev Cert.RwPostBwdRefIdeal.nD,
      r.2.mem ((c.tc : Thread Cert.RwPostBwdRefIdeal.nD Cert.RwPostBwdRefIdeal.τ).loc Cert.RwPostBwdRefIdeal.main_arg0) = m ((c.tc : Thread Cert.RwPostBwdRefIdeal.nD Cert.RwPostBwdRefIdeal.τ).loc Cert.RwPostBwdRefIdeal.main_arg0)
      ∧ r.2.mem ((c.tc : Thread Cert.RwPostBwdRefIdeal.nD Cert.RwPostBwdRefIdeal.τ).loc Cert.RwPostBwdRefIdeal.main_arg1) = m ((c.tc : Thread Cert.RwPostBwdRefIdeal.nD Cert.RwPostBwdRefIdeal.τ).loc Cert.RwPostBwdRefIdeal.main_arg1)
      ∧ r.2.mem ((c.tc : Thread Cert.RwPostBwdRefIdeal.nD Cert.RwPostBwdRefIdeal.τ).loc Cert.RwPostBwdRefIdeal.main_arg2) = m ((c.tc : Thread Cert.RwPostBwdRefIdeal.nD Cert.RwPostBwdRefIdeal.τ).loc Cert.RwPostBwdRefIdeal.main_arg2)
      ∧ r.2.mem ((c.tc : Thread Cert.RwPostBwdRefIdeal.nD Cert.RwPostBwdRefIdeal.τ).loc Cert.RwPostBwdRefIdeal.main_arg3) = m ((c.tc : Thread Cert.RwPostBwdRefIdeal.nD Cert.RwPostBwdRefIdeal.τ).loc Cert.RwPostBwdRefIdeal.main_arg3)
      ∧ r.2.mem ((c.tc : Thread Cert.RwPostBwdRefIdeal.nD Cert.RwPostBwdRefIdeal.τ).loc Cert.RwPostBwdRefIdeal.main_arg4) = m ((c.tc : Thread Cert.RwPostBwdRefIdeal.nD Cert.RwPostBwdRefIdeal.τ).loc Cert.RwPostBwdRefIdeal.main_arg4)
      ∧ r.2.mem ((c.tc : Thread Cert.RwPostBwdRefIdeal.nD Cert.RwPostBwdRefIdeal.τ).loc Cert.RwPostBwdRefIdeal.main_arg5) = m ((c.tc : Thread Cert.RwPostBwdRefIdeal.nD Cert.RwPostBwdRefIdeal.τ).loc Cert.RwPostBwdRefIdeal.main_arg5)
      ∧ r.2.mem ((c.tc : Thread Cert.RwPostBwdRefIdeal.nD Cert.RwPostBwdRefIdeal.τ).loc Cert.RwPostBwdRefIdeal.main_arg6) = m ((c.tc : Thread Cert.RwPostBwdRefIdeal.nD Cert.RwPostBwdRefIdeal.τ).loc Cert.RwPostBwdRefIdeal.main_arg6)
      ∧ r.2.mem ((c.tc : Thread Cert.RwPostBwdRefIdeal.nD Cert.RwPostBwdRefIdeal.τ).loc Cert.RwPostBwdRefIdeal.main_arg7) = m ((c.tc : Thread Cert.RwPostBwdRefIdeal.nD Cert.RwPostBwdRefIdeal.τ).loc Cert.RwPostBwdRefIdeal.main_arg7)
      ∧ r.2.mem ((c.tc : Thread Cert.RwPostBwdRefIdeal.nD Cert.RwPostBwdRefIdeal.τ).loc Cert.RwPostBwdRefIdeal.main_arg8) = m ((c.tc : Thread Cert.RwPostBwdRefIdeal.nD Cert.RwPostBwdRefIdeal.τ).loc Cert.RwPostBwdRefIdeal.main_arg8)
      ∧ r.2.mem ((c.tc : Thread Cert.RwPostBwdRefIdeal.nD Cert.RwPostBwdRefIdeal.τ).loc Cert.RwPostBwdRefIdeal.main_arg9) = m ((c.tc : Thread Cert.RwPostBwdRefIdeal.nD Cert.RwPostBwdRefIdeal.τ).loc Cert.RwPostBwdRefIdeal.main_arg9)
      ∧ r.2.mem ((c.tc : Thread Cert.RwPostBwdRefIdeal.nD Cert.RwPostBwdRefIdeal.τ).loc Cert.RwPostBwdRefIdeal.main_arg10) = m ((c.tc : Thread Cert.RwPostBwdRefIdeal.nD Cert.RwPostBwdRefIdeal.τ).loc Cert.RwPostBwdRefIdeal.main_arg10))
      ∧ r.2.sem = fun _ => 0)

def quiescent_HgScanFwd0 [hHgScanFwd0 : Cert.HgScanFwd0.Facts] : Prop :=
  ∀ (m : (ℓ : Loc Cert.HgScanFwd0.nD Cert.HgScanFwd0.τ Cert.HgScanFwd0.sig) → Buf (Elt Bits) ℓ) (g : Dev Cert.HgScanFwd0.nD → PrngReg), Pre_HgScanFwd0 m →
    θ_run (Cert.HgScanFwd0.defs (F := Bits)) (onTc (τ := Cert.HgScanFwd0.τ) (Cert.HgScanFwd0.main (F := Bits))) ⟨m, fun _ => 0, g⟩ (fun r => (∀ c : Dev Cert.HgScanFwd0.nD,
      r.2.mem ((c.tc : Thread Cert.HgScanFwd0.nD Cert.HgScanFwd0.τ).loc Cert.HgScanFwd0.main_arg0) = m ((c.tc : Thread Cert.HgScanFwd0.nD Cert.HgScanFwd0.τ).loc Cert.HgScanFwd0.main_arg0)
      ∧ r.2.mem ((c.tc : Thread Cert.HgScanFwd0.nD Cert.HgScanFwd0.τ).loc Cert.HgScanFwd0.main_arg1) = m ((c.tc : Thread Cert.HgScanFwd0.nD Cert.HgScanFwd0.τ).loc Cert.HgScanFwd0.main_arg1))
      ∧ r.2.sem = fun _ => 0)

def quiescent_HgScanFwd0Ideal [hHgScanFwd0Ideal : Cert.HgScanFwd0Ideal.Facts] : Prop :=
  ∀ (m : (ℓ : Loc Cert.HgScanFwd0Ideal.nD Cert.HgScanFwd0Ideal.τ Cert.HgScanFwd0Ideal.sig) → Buf (Elt Ideal) ℓ) (g : Dev Cert.HgScanFwd0Ideal.nD → PrngReg), Pre_HgScanFwd0Ideal m →
    θ_run (Cert.HgScanFwd0Ideal.defs (F := Ideal)) (onTc (τ := Cert.HgScanFwd0Ideal.τ) (Cert.HgScanFwd0Ideal.main (F := Ideal))) ⟨m, fun _ => 0, g⟩ (fun r => (∀ c : Dev Cert.HgScanFwd0Ideal.nD,
      r.2.mem ((c.tc : Thread Cert.HgScanFwd0Ideal.nD Cert.HgScanFwd0Ideal.τ).loc Cert.HgScanFwd0Ideal.main_arg0) = m ((c.tc : Thread Cert.HgScanFwd0Ideal.nD Cert.HgScanFwd0Ideal.τ).loc Cert.HgScanFwd0Ideal.main_arg0)
      ∧ r.2.mem ((c.tc : Thread Cert.HgScanFwd0Ideal.nD Cert.HgScanFwd0Ideal.τ).loc Cert.HgScanFwd0Ideal.main_arg1) = m ((c.tc : Thread Cert.HgScanFwd0Ideal.nD Cert.HgScanFwd0Ideal.τ).loc Cert.HgScanFwd0Ideal.main_arg1))
      ∧ r.2.sem = fun _ => 0)

def quiescent_HgScanFwd0Ideal_pre_hg_lb_finite [hHgScanFwd0Ideal : Cert.HgScanFwd0Ideal.Facts] [hPre_hg_lb_finite : Cert.Pre_hg_lb_finite.Facts] : Prop :=
  ∀ (m : (ℓ : Loc Cert.HgScanFwd0Ideal.nD Cert.HgScanFwd0Ideal.τ Cert.HgScanFwd0Ideal.sig) → Buf (Elt Ideal) ℓ) (g : Dev Cert.HgScanFwd0Ideal.nD → PrngReg), Pre_HgScanFwd0Ideal_hg_lb_finite m →
    θ_run (Cert.HgScanFwd0Ideal.defs (F := Ideal)) (onTc (τ := Cert.HgScanFwd0Ideal.τ) (Cert.HgScanFwd0Ideal.main (F := Ideal))) ⟨m, fun _ => 0, g⟩ (fun r => (∀ c : Dev Cert.HgScanFwd0Ideal.nD,
      r.2.mem ((c.tc : Thread Cert.HgScanFwd0Ideal.nD Cert.HgScanFwd0Ideal.τ).loc Cert.HgScanFwd0Ideal.main_arg0) = m ((c.tc : Thread Cert.HgScanFwd0Ideal.nD Cert.HgScanFwd0Ideal.τ).loc Cert.HgScanFwd0Ideal.main_arg0)
      ∧ r.2.mem ((c.tc : Thread Cert.HgScanFwd0Ideal.nD Cert.HgScanFwd0Ideal.τ).loc Cert.HgScanFwd0Ideal.main_arg1) = m ((c.tc : Thread Cert.HgScanFwd0Ideal.nD Cert.HgScanFwd0Ideal.τ).loc Cert.HgScanFwd0Ideal.main_arg1))
      ∧ r.2.sem = fun _ => 0)

def quiescent_HgScanFwd0RefIdeal [hHgScanFwd0RefIdeal : Cert.HgScanFwd0RefIdeal.Facts] : Prop :=
  ∀ (m : (ℓ : Loc Cert.HgScanFwd0RefIdeal.nD Cert.HgScanFwd0RefIdeal.τ Cert.HgScanFwd0RefIdeal.sig) → Buf (Elt Ideal) ℓ) (g : Dev Cert.HgScanFwd0RefIdeal.nD → PrngReg), Pre_HgScanFwd0RefIdeal m →
    θ_run (Cert.HgScanFwd0RefIdeal.defs (F := Ideal)) (onTc (τ := Cert.HgScanFwd0RefIdeal.τ) (Cert.HgScanFwd0RefIdeal.main (F := Ideal))) ⟨m, fun _ => 0, g⟩ (fun r => (∀ c : Dev Cert.HgScanFwd0RefIdeal.nD,
      r.2.mem ((c.tc : Thread Cert.HgScanFwd0RefIdeal.nD Cert.HgScanFwd0RefIdeal.τ).loc Cert.HgScanFwd0RefIdeal.main_arg0) = m ((c.tc : Thread Cert.HgScanFwd0RefIdeal.nD Cert.HgScanFwd0RefIdeal.τ).loc Cert.HgScanFwd0RefIdeal.main_arg0)
      ∧ r.2.mem ((c.tc : Thread Cert.HgScanFwd0RefIdeal.nD Cert.HgScanFwd0RefIdeal.τ).loc Cert.HgScanFwd0RefIdeal.main_arg1) = m ((c.tc : Thread Cert.HgScanFwd0RefIdeal.nD Cert.HgScanFwd0RefIdeal.τ).loc Cert.HgScanFwd0RefIdeal.main_arg1))
      ∧ r.2.sem = fun _ => 0)

def quiescent_HgScanFwd0RefIdeal_pre_hg_lb_finite [hHgScanFwd0RefIdeal : Cert.HgScanFwd0RefIdeal.Facts] [hPre_hg_lb_finite : Cert.Pre_hg_lb_finite.Facts] : Prop :=
  ∀ (m : (ℓ : Loc Cert.HgScanFwd0RefIdeal.nD Cert.HgScanFwd0RefIdeal.τ Cert.HgScanFwd0RefIdeal.sig) → Buf (Elt Ideal) ℓ) (g : Dev Cert.HgScanFwd0RefIdeal.nD → PrngReg), Pre_HgScanFwd0RefIdeal_hg_lb_finite m →
    θ_run (Cert.HgScanFwd0RefIdeal.defs (F := Ideal)) (onTc (τ := Cert.HgScanFwd0RefIdeal.τ) (Cert.HgScanFwd0RefIdeal.main (F := Ideal))) ⟨m, fun _ => 0, g⟩ (fun r => (∀ c : Dev Cert.HgScanFwd0RefIdeal.nD,
      r.2.mem ((c.tc : Thread Cert.HgScanFwd0RefIdeal.nD Cert.HgScanFwd0RefIdeal.τ).loc Cert.HgScanFwd0RefIdeal.main_arg0) = m ((c.tc : Thread Cert.HgScanFwd0RefIdeal.nD Cert.HgScanFwd0RefIdeal.τ).loc Cert.HgScanFwd0RefIdeal.main_arg0)
      ∧ r.2.mem ((c.tc : Thread Cert.HgScanFwd0RefIdeal.nD Cert.HgScanFwd0RefIdeal.τ).loc Cert.HgScanFwd0RefIdeal.main_arg1) = m ((c.tc : Thread Cert.HgScanFwd0RefIdeal.nD Cert.HgScanFwd0RefIdeal.τ).loc Cert.HgScanFwd0RefIdeal.main_arg1))
      ∧ r.2.sem = fun _ => 0)

def quiescent_HgScanFwd1 [hHgScanFwd1 : Cert.HgScanFwd1.Facts] : Prop :=
  ∀ (m : (ℓ : Loc Cert.HgScanFwd1.nD Cert.HgScanFwd1.τ Cert.HgScanFwd1.sig) → Buf (Elt Bits) ℓ) (g : Dev Cert.HgScanFwd1.nD → PrngReg), Pre_HgScanFwd1 m →
    θ_run (Cert.HgScanFwd1.defs (F := Bits)) (onTc (τ := Cert.HgScanFwd1.τ) (Cert.HgScanFwd1.main (F := Bits))) ⟨m, fun _ => 0, g⟩ (fun r => (∀ c : Dev Cert.HgScanFwd1.nD,
      r.2.mem ((c.tc : Thread Cert.HgScanFwd1.nD Cert.HgScanFwd1.τ).loc Cert.HgScanFwd1.main_arg0) = m ((c.tc : Thread Cert.HgScanFwd1.nD Cert.HgScanFwd1.τ).loc Cert.HgScanFwd1.main_arg0)
      ∧ r.2.mem ((c.tc : Thread Cert.HgScanFwd1.nD Cert.HgScanFwd1.τ).loc Cert.HgScanFwd1.main_arg1) = m ((c.tc : Thread Cert.HgScanFwd1.nD Cert.HgScanFwd1.τ).loc Cert.HgScanFwd1.main_arg1))
      ∧ r.2.sem = fun _ => 0)

def quiescent_HgScanFwd1Ideal [hHgScanFwd1Ideal : Cert.HgScanFwd1Ideal.Facts] : Prop :=
  ∀ (m : (ℓ : Loc Cert.HgScanFwd1Ideal.nD Cert.HgScanFwd1Ideal.τ Cert.HgScanFwd1Ideal.sig) → Buf (Elt Ideal) ℓ) (g : Dev Cert.HgScanFwd1Ideal.nD → PrngReg), Pre_HgScanFwd1Ideal m →
    θ_run (Cert.HgScanFwd1Ideal.defs (F := Ideal)) (onTc (τ := Cert.HgScanFwd1Ideal.τ) (Cert.HgScanFwd1Ideal.main (F := Ideal))) ⟨m, fun _ => 0, g⟩ (fun r => (∀ c : Dev Cert.HgScanFwd1Ideal.nD,
      r.2.mem ((c.tc : Thread Cert.HgScanFwd1Ideal.nD Cert.HgScanFwd1Ideal.τ).loc Cert.HgScanFwd1Ideal.main_arg0) = m ((c.tc : Thread Cert.HgScanFwd1Ideal.nD Cert.HgScanFwd1Ideal.τ).loc Cert.HgScanFwd1Ideal.main_arg0)
      ∧ r.2.mem ((c.tc : Thread Cert.HgScanFwd1Ideal.nD Cert.HgScanFwd1Ideal.τ).loc Cert.HgScanFwd1Ideal.main_arg1) = m ((c.tc : Thread Cert.HgScanFwd1Ideal.nD Cert.HgScanFwd1Ideal.τ).loc Cert.HgScanFwd1Ideal.main_arg1))
      ∧ r.2.sem = fun _ => 0)

def quiescent_HgScanFwd1Ideal_pre_hg_lb_finite [hHgScanFwd1Ideal : Cert.HgScanFwd1Ideal.Facts] [hPre_hg_lb_finite : Cert.Pre_hg_lb_finite.Facts] : Prop :=
  ∀ (m : (ℓ : Loc Cert.HgScanFwd1Ideal.nD Cert.HgScanFwd1Ideal.τ Cert.HgScanFwd1Ideal.sig) → Buf (Elt Ideal) ℓ) (g : Dev Cert.HgScanFwd1Ideal.nD → PrngReg), Pre_HgScanFwd1Ideal_hg_lb_finite m →
    θ_run (Cert.HgScanFwd1Ideal.defs (F := Ideal)) (onTc (τ := Cert.HgScanFwd1Ideal.τ) (Cert.HgScanFwd1Ideal.main (F := Ideal))) ⟨m, fun _ => 0, g⟩ (fun r => (∀ c : Dev Cert.HgScanFwd1Ideal.nD,
      r.2.mem ((c.tc : Thread Cert.HgScanFwd1Ideal.nD Cert.HgScanFwd1Ideal.τ).loc Cert.HgScanFwd1Ideal.main_arg0) = m ((c.tc : Thread Cert.HgScanFwd1Ideal.nD Cert.HgScanFwd1Ideal.τ).loc Cert.HgScanFwd1Ideal.main_arg0)
      ∧ r.2.mem ((c.tc : Thread Cert.HgScanFwd1Ideal.nD Cert.HgScanFwd1Ideal.τ).loc Cert.HgScanFwd1Ideal.main_arg1) = m ((c.tc : Thread Cert.HgScanFwd1Ideal.nD Cert.HgScanFwd1Ideal.τ).loc Cert.HgScanFwd1Ideal.main_arg1))
      ∧ r.2.sem = fun _ => 0)

def quiescent_HgScanFwd1RefIdeal [hHgScanFwd1RefIdeal : Cert.HgScanFwd1RefIdeal.Facts] : Prop :=
  ∀ (m : (ℓ : Loc Cert.HgScanFwd1RefIdeal.nD Cert.HgScanFwd1RefIdeal.τ Cert.HgScanFwd1RefIdeal.sig) → Buf (Elt Ideal) ℓ) (g : Dev Cert.HgScanFwd1RefIdeal.nD → PrngReg), Pre_HgScanFwd1RefIdeal m →
    θ_run (Cert.HgScanFwd1RefIdeal.defs (F := Ideal)) (onTc (τ := Cert.HgScanFwd1RefIdeal.τ) (Cert.HgScanFwd1RefIdeal.main (F := Ideal))) ⟨m, fun _ => 0, g⟩ (fun r => (∀ c : Dev Cert.HgScanFwd1RefIdeal.nD,
      r.2.mem ((c.tc : Thread Cert.HgScanFwd1RefIdeal.nD Cert.HgScanFwd1RefIdeal.τ).loc Cert.HgScanFwd1RefIdeal.main_arg0) = m ((c.tc : Thread Cert.HgScanFwd1RefIdeal.nD Cert.HgScanFwd1RefIdeal.τ).loc Cert.HgScanFwd1RefIdeal.main_arg0)
      ∧ r.2.mem ((c.tc : Thread Cert.HgScanFwd1RefIdeal.nD Cert.HgScanFwd1RefIdeal.τ).loc Cert.HgScanFwd1RefIdeal.main_arg1) = m ((c.tc : Thread Cert.HgScanFwd1RefIdeal.nD Cert.HgScanFwd1RefIdeal.τ).loc Cert.HgScanFwd1RefIdeal.main_arg1))
      ∧ r.2.sem = fun _ => 0)

def quiescent_HgScanFwd1RefIdeal_pre_hg_lb_finite [hHgScanFwd1RefIdeal : Cert.HgScanFwd1RefIdeal.Facts] [hPre_hg_lb_finite : Cert.Pre_hg_lb_finite.Facts] : Prop :=
  ∀ (m : (ℓ : Loc Cert.HgScanFwd1RefIdeal.nD Cert.HgScanFwd1RefIdeal.τ Cert.HgScanFwd1RefIdeal.sig) → Buf (Elt Ideal) ℓ) (g : Dev Cert.HgScanFwd1RefIdeal.nD → PrngReg), Pre_HgScanFwd1RefIdeal_hg_lb_finite m →
    θ_run (Cert.HgScanFwd1RefIdeal.defs (F := Ideal)) (onTc (τ := Cert.HgScanFwd1RefIdeal.τ) (Cert.HgScanFwd1RefIdeal.main (F := Ideal))) ⟨m, fun _ => 0, g⟩ (fun r => (∀ c : Dev Cert.HgScanFwd1RefIdeal.nD,
      r.2.mem ((c.tc : Thread Cert.HgScanFwd1RefIdeal.nD Cert.HgScanFwd1RefIdeal.τ).loc Cert.HgScanFwd1RefIdeal.main_arg0) = m ((c.tc : Thread Cert.HgScanFwd1RefIdeal.nD Cert.HgScanFwd1RefIdeal.τ).loc Cert.HgScanFwd1RefIdeal.main_arg0)
      ∧ r.2.mem ((c.tc : Thread Cert.HgScanFwd1RefIdeal.nD Cert.HgScanFwd1RefIdeal.τ).loc Cert.HgScanFwd1RefIdeal.main_arg1) = m ((c.tc : Thread Cert.HgScanFwd1RefIdeal.nD Cert.HgScanFwd1RefIdeal.τ).loc Cert.HgScanFwd1RefIdeal.main_arg1))
      ∧ r.2.sem = fun _ => 0)

def quiescent_CondSilu [hCondSilu : Cert.CondSilu.Facts] : Prop :=
  ∀ (m : (ℓ : Loc Cert.CondSilu.nD Cert.CondSilu.τ Cert.CondSilu.sig) → Buf (Elt Bits) ℓ) (g : Dev Cert.CondSilu.nD → PrngReg), Pre_CondSilu m →
    θ_run (Cert.CondSilu.defs (F := Bits)) (onTc (τ := Cert.CondSilu.τ) (Cert.CondSilu.main (F := Bits))) ⟨m, fun _ => 0, g⟩ (fun r => (∀ c : Dev Cert.CondSilu.nD,
      r.2.mem ((c.tc : Thread Cert.CondSilu.nD Cert.CondSilu.τ).loc Cert.CondSilu.main_arg0) = m ((c.tc : Thread Cert.CondSilu.nD Cert.CondSilu.τ).loc Cert.CondSilu.main_arg0)
      ∧ r.2.mem ((c.tc : Thread Cert.CondSilu.nD Cert.CondSilu.τ).loc Cert.CondSilu.main_arg1) = m ((c.tc : Thread Cert.CondSilu.nD Cert.CondSilu.τ).loc Cert.CondSilu.main_arg1))
      ∧ r.2.sem = fun _ => 0)

def quiescent_CondSiluIdeal [hCondSiluIdeal : Cert.CondSiluIdeal.Facts] : Prop :=
  ∀ (m : (ℓ : Loc Cert.CondSiluIdeal.nD Cert.CondSiluIdeal.τ Cert.CondSiluIdeal.sig) → Buf (Elt Ideal) ℓ) (g : Dev Cert.CondSiluIdeal.nD → PrngReg), Pre_CondSiluIdeal m →
    θ_run (Cert.CondSiluIdeal.defs (F := Ideal)) (onTc (τ := Cert.CondSiluIdeal.τ) (Cert.CondSiluIdeal.main (F := Ideal))) ⟨m, fun _ => 0, g⟩ (fun r => (∀ c : Dev Cert.CondSiluIdeal.nD,
      r.2.mem ((c.tc : Thread Cert.CondSiluIdeal.nD Cert.CondSiluIdeal.τ).loc Cert.CondSiluIdeal.main_arg0) = m ((c.tc : Thread Cert.CondSiluIdeal.nD Cert.CondSiluIdeal.τ).loc Cert.CondSiluIdeal.main_arg0)
      ∧ r.2.mem ((c.tc : Thread Cert.CondSiluIdeal.nD Cert.CondSiluIdeal.τ).loc Cert.CondSiluIdeal.main_arg1) = m ((c.tc : Thread Cert.CondSiluIdeal.nD Cert.CondSiluIdeal.τ).loc Cert.CondSiluIdeal.main_arg1))
      ∧ r.2.sem = fun _ => 0)

def quiescent_CondSiluRefIdeal [hCondSiluRefIdeal : Cert.CondSiluRefIdeal.Facts] : Prop :=
  ∀ (m : (ℓ : Loc Cert.CondSiluRefIdeal.nD Cert.CondSiluRefIdeal.τ Cert.CondSiluRefIdeal.sig) → Buf (Elt Ideal) ℓ) (g : Dev Cert.CondSiluRefIdeal.nD → PrngReg), Pre_CondSiluRefIdeal m →
    θ_run (Cert.CondSiluRefIdeal.defs (F := Ideal)) (onTc (τ := Cert.CondSiluRefIdeal.τ) (Cert.CondSiluRefIdeal.main (F := Ideal))) ⟨m, fun _ => 0, g⟩ (fun r => (∀ c : Dev Cert.CondSiluRefIdeal.nD,
      r.2.mem ((c.tc : Thread Cert.CondSiluRefIdeal.nD Cert.CondSiluRefIdeal.τ).loc Cert.CondSiluRefIdeal.main_arg0) = m ((c.tc : Thread Cert.CondSiluRefIdeal.nD Cert.CondSiluRefIdeal.τ).loc Cert.CondSiluRefIdeal.main_arg0)
      ∧ r.2.mem ((c.tc : Thread Cert.CondSiluRefIdeal.nD Cert.CondSiluRefIdeal.τ).loc Cert.CondSiluRefIdeal.main_arg1) = m ((c.tc : Thread Cert.CondSiluRefIdeal.nD Cert.CondSiluRefIdeal.τ).loc Cert.CondSiluRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_HgPost [hHgPost : Cert.HgPost.Facts] : Prop :=
  ∀ (m : (ℓ : Loc Cert.HgPost.nD Cert.HgPost.τ Cert.HgPost.sig) → Buf (Elt Bits) ℓ) (g : Dev Cert.HgPost.nD → PrngReg), Pre_HgPost m →
    θ_run (Cert.HgPost.defs (F := Bits)) (onTc (τ := Cert.HgPost.τ) (Cert.HgPost.main (F := Bits))) ⟨m, fun _ => 0, g⟩ (fun r => (∀ c : Dev Cert.HgPost.nD,
      r.2.mem ((c.tc : Thread Cert.HgPost.nD Cert.HgPost.τ).loc Cert.HgPost.main_arg0) = m ((c.tc : Thread Cert.HgPost.nD Cert.HgPost.τ).loc Cert.HgPost.main_arg0)
      ∧ r.2.mem ((c.tc : Thread Cert.HgPost.nD Cert.HgPost.τ).loc Cert.HgPost.main_arg1) = m ((c.tc : Thread Cert.HgPost.nD Cert.HgPost.τ).loc Cert.HgPost.main_arg1)
      ∧ r.2.mem ((c.tc : Thread Cert.HgPost.nD Cert.HgPost.τ).loc Cert.HgPost.main_arg2) = m ((c.tc : Thread Cert.HgPost.nD Cert.HgPost.τ).loc Cert.HgPost.main_arg2)
      ∧ r.2.mem ((c.tc : Thread Cert.HgPost.nD Cert.HgPost.τ).loc Cert.HgPost.main_arg3) = m ((c.tc : Thread Cert.HgPost.nD Cert.HgPost.τ).loc Cert.HgPost.main_arg3))
      ∧ r.2.sem = fun _ => 0)

def quiescent_HgPostIdeal [hHgPostIdeal : Cert.HgPostIdeal.Facts] : Prop :=
  ∀ (m : (ℓ : Loc Cert.HgPostIdeal.nD Cert.HgPostIdeal.τ Cert.HgPostIdeal.sig) → Buf (Elt Ideal) ℓ) (g : Dev Cert.HgPostIdeal.nD → PrngReg), Pre_HgPostIdeal m →
    θ_run (Cert.HgPostIdeal.defs (F := Ideal)) (onTc (τ := Cert.HgPostIdeal.τ) (Cert.HgPostIdeal.main (F := Ideal))) ⟨m, fun _ => 0, g⟩ (fun r => (∀ c : Dev Cert.HgPostIdeal.nD,
      r.2.mem ((c.tc : Thread Cert.HgPostIdeal.nD Cert.HgPostIdeal.τ).loc Cert.HgPostIdeal.main_arg0) = m ((c.tc : Thread Cert.HgPostIdeal.nD Cert.HgPostIdeal.τ).loc Cert.HgPostIdeal.main_arg0)
      ∧ r.2.mem ((c.tc : Thread Cert.HgPostIdeal.nD Cert.HgPostIdeal.τ).loc Cert.HgPostIdeal.main_arg1) = m ((c.tc : Thread Cert.HgPostIdeal.nD Cert.HgPostIdeal.τ).loc Cert.HgPostIdeal.main_arg1)
      ∧ r.2.mem ((c.tc : Thread Cert.HgPostIdeal.nD Cert.HgPostIdeal.τ).loc Cert.HgPostIdeal.main_arg2) = m ((c.tc : Thread Cert.HgPostIdeal.nD Cert.HgPostIdeal.τ).loc Cert.HgPostIdeal.main_arg2)
      ∧ r.2.mem ((c.tc : Thread Cert.HgPostIdeal.nD Cert.HgPostIdeal.τ).loc Cert.HgPostIdeal.main_arg3) = m ((c.tc : Thread Cert.HgPostIdeal.nD Cert.HgPostIdeal.τ).loc Cert.HgPostIdeal.main_arg3))
      ∧ r.2.sem = fun _ => 0)

def quiescent_HgPostRefIdeal [hHgPostRefIdeal : Cert.HgPostRefIdeal.Facts] : Prop :=
  ∀ (m : (ℓ : Loc Cert.HgPostRefIdeal.nD Cert.HgPostRefIdeal.τ Cert.HgPostRefIdeal.sig) → Buf (Elt Ideal) ℓ) (g : Dev Cert.HgPostRefIdeal.nD → PrngReg), Pre_HgPostRefIdeal m →
    θ_run (Cert.HgPostRefIdeal.defs (F := Ideal)) (onTc (τ := Cert.HgPostRefIdeal.τ) (Cert.HgPostRefIdeal.main (F := Ideal))) ⟨m, fun _ => 0, g⟩ (fun r => (∀ c : Dev Cert.HgPostRefIdeal.nD,
      r.2.mem ((c.tc : Thread Cert.HgPostRefIdeal.nD Cert.HgPostRefIdeal.τ).loc Cert.HgPostRefIdeal.main_arg0) = m ((c.tc : Thread Cert.HgPostRefIdeal.nD Cert.HgPostRefIdeal.τ).loc Cert.HgPostRefIdeal.main_arg0)
      ∧ r.2.mem ((c.tc : Thread Cert.HgPostRefIdeal.nD Cert.HgPostRefIdeal.τ).loc Cert.HgPostRefIdeal.main_arg1) = m ((c.tc : Thread Cert.HgPostRefIdeal.nD Cert.HgPostRefIdeal.τ).loc Cert.HgPostRefIdeal.main_arg1)
      ∧ r.2.mem ((c.tc : Thread Cert.HgPostRefIdeal.nD Cert.HgPostRefIdeal.τ).loc Cert.HgPostRefIdeal.main_arg2) = m ((c.tc : Thread Cert.HgPostRefIdeal.nD Cert.HgPostRefIdeal.τ).loc Cert.HgPostRefIdeal.main_arg2)
      ∧ r.2.mem ((c.tc : Thread Cert.HgPostRefIdeal.nD Cert.HgPostRefIdeal.τ).loc Cert.HgPostRefIdeal.main_arg3) = m ((c.tc : Thread Cert.HgPostRefIdeal.nD Cert.HgPostRefIdeal.τ).loc Cert.HgPostRefIdeal.main_arg3))
      ∧ r.2.sem = fun _ => 0)

def quiescent_HFwd [hHFwd : Cert.HFwd.Facts] : Prop :=
  ∀ (m : (ℓ : Loc Cert.HFwd.nD Cert.HFwd.τ Cert.HFwd.sig) → Buf (Elt Bits) ℓ) (g : Dev Cert.HFwd.nD → PrngReg), Pre_HFwd m →
    θ_run (Cert.HFwd.defs (F := Bits)) (onTc (τ := Cert.HFwd.τ) (Cert.HFwd.main (F := Bits))) ⟨m, fun _ => 0, g⟩ (fun r => (∀ c : Dev Cert.HFwd.nD,
      r.2.mem ((c.tc : Thread Cert.HFwd.nD Cert.HFwd.τ).loc Cert.HFwd.main_arg0) = m ((c.tc : Thread Cert.HFwd.nD Cert.HFwd.τ).loc Cert.HFwd.main_arg0)
      ∧ r.2.mem ((c.tc : Thread Cert.HFwd.nD Cert.HFwd.τ).loc Cert.HFwd.main_arg1) = m ((c.tc : Thread Cert.HFwd.nD Cert.HFwd.τ).loc Cert.HFwd.main_arg1)
      ∧ r.2.mem ((c.tc : Thread Cert.HFwd.nD Cert.HFwd.τ).loc Cert.HFwd.main_arg2) = m ((c.tc : Thread Cert.HFwd.nD Cert.HFwd.τ).loc Cert.HFwd.main_arg2)
      ∧ r.2.mem ((c.tc : Thread Cert.HFwd.nD Cert.HFwd.τ).loc Cert.HFwd.main_arg3) = m ((c.tc : Thread Cert.HFwd.nD Cert.HFwd.τ).loc Cert.HFwd.main_arg3))
      ∧ r.2.sem = fun _ => 0)

def quiescent_HFwdIdeal [hHFwdIdeal : Cert.HFwdIdeal.Facts] : Prop :=
  ∀ (m : (ℓ : Loc Cert.HFwdIdeal.nD Cert.HFwdIdeal.τ Cert.HFwdIdeal.sig) → Buf (Elt Ideal) ℓ) (g : Dev Cert.HFwdIdeal.nD → PrngReg), Pre_HFwdIdeal m →
    θ_run (Cert.HFwdIdeal.defs (F := Ideal)) (onTc (τ := Cert.HFwdIdeal.τ) (Cert.HFwdIdeal.main (F := Ideal))) ⟨m, fun _ => 0, g⟩ (fun r => (∀ c : Dev Cert.HFwdIdeal.nD,
      r.2.mem ((c.tc : Thread Cert.HFwdIdeal.nD Cert.HFwdIdeal.τ).loc Cert.HFwdIdeal.main_arg0) = m ((c.tc : Thread Cert.HFwdIdeal.nD Cert.HFwdIdeal.τ).loc Cert.HFwdIdeal.main_arg0)
      ∧ r.2.mem ((c.tc : Thread Cert.HFwdIdeal.nD Cert.HFwdIdeal.τ).loc Cert.HFwdIdeal.main_arg1) = m ((c.tc : Thread Cert.HFwdIdeal.nD Cert.HFwdIdeal.τ).loc Cert.HFwdIdeal.main_arg1)
      ∧ r.2.mem ((c.tc : Thread Cert.HFwdIdeal.nD Cert.HFwdIdeal.τ).loc Cert.HFwdIdeal.main_arg2) = m ((c.tc : Thread Cert.HFwdIdeal.nD Cert.HFwdIdeal.τ).loc Cert.HFwdIdeal.main_arg2)
      ∧ r.2.mem ((c.tc : Thread Cert.HFwdIdeal.nD Cert.HFwdIdeal.τ).loc Cert.HFwdIdeal.main_arg3) = m ((c.tc : Thread Cert.HFwdIdeal.nD Cert.HFwdIdeal.τ).loc Cert.HFwdIdeal.main_arg3))
      ∧ r.2.sem = fun _ => 0)

def quiescent_HFwdRefIdeal [hHFwdRefIdeal : Cert.HFwdRefIdeal.Facts] : Prop :=
  ∀ (m : (ℓ : Loc Cert.HFwdRefIdeal.nD Cert.HFwdRefIdeal.τ Cert.HFwdRefIdeal.sig) → Buf (Elt Ideal) ℓ) (g : Dev Cert.HFwdRefIdeal.nD → PrngReg), Pre_HFwdRefIdeal m →
    θ_run (Cert.HFwdRefIdeal.defs (F := Ideal)) (onTc (τ := Cert.HFwdRefIdeal.τ) (Cert.HFwdRefIdeal.main (F := Ideal))) ⟨m, fun _ => 0, g⟩ (fun r => (∀ c : Dev Cert.HFwdRefIdeal.nD,
      r.2.mem ((c.tc : Thread Cert.HFwdRefIdeal.nD Cert.HFwdRefIdeal.τ).loc Cert.HFwdRefIdeal.main_arg0) = m ((c.tc : Thread Cert.HFwdRefIdeal.nD Cert.HFwdRefIdeal.τ).loc Cert.HFwdRefIdeal.main_arg0)
      ∧ r.2.mem ((c.tc : Thread Cert.HFwdRefIdeal.nD Cert.HFwdRefIdeal.τ).loc Cert.HFwdRefIdeal.main_arg1) = m ((c.tc : Thread Cert.HFwdRefIdeal.nD Cert.HFwdRefIdeal.τ).loc Cert.HFwdRefIdeal.main_arg1)
      ∧ r.2.mem ((c.tc : Thread Cert.HFwdRefIdeal.nD Cert.HFwdRefIdeal.τ).loc Cert.HFwdRefIdeal.main_arg2) = m ((c.tc : Thread Cert.HFwdRefIdeal.nD Cert.HFwdRefIdeal.τ).loc Cert.HFwdRefIdeal.main_arg2)
      ∧ r.2.mem ((c.tc : Thread Cert.HFwdRefIdeal.nD Cert.HFwdRefIdeal.τ).loc Cert.HFwdRefIdeal.main_arg3) = m ((c.tc : Thread Cert.HFwdRefIdeal.nD Cert.HFwdRefIdeal.τ).loc Cert.HFwdRefIdeal.main_arg3))
      ∧ r.2.sem = fun _ => 0)

def quiescent_RwShift [hRwShift : Cert.RwShift.Facts] : Prop :=
  ∀ (m : (ℓ : Loc Cert.RwShift.nD Cert.RwShift.τ Cert.RwShift.sig) → Buf (Elt Bits) ℓ) (g : Dev Cert.RwShift.nD → PrngReg), Pre_RwShift m →
    θ_run (Cert.RwShift.defs (F := Bits)) (onTc (τ := Cert.RwShift.τ) (Cert.RwShift.main (F := Bits))) ⟨m, fun _ => 0, g⟩ (fun r => (∀ c : Dev Cert.RwShift.nD,
      r.2.mem ((c.tc : Thread Cert.RwShift.nD Cert.RwShift.τ).loc Cert.RwShift.main_arg0) = m ((c.tc : Thread Cert.RwShift.nD Cert.RwShift.τ).loc Cert.RwShift.main_arg0)
      ∧ r.2.mem ((c.tc : Thread Cert.RwShift.nD Cert.RwShift.τ).loc Cert.RwShift.main_arg1) = m ((c.tc : Thread Cert.RwShift.nD Cert.RwShift.τ).loc Cert.RwShift.main_arg1))
      ∧ r.2.sem = fun _ => 0)

def quiescent_RwShiftIdeal [hRwShiftIdeal : Cert.RwShiftIdeal.Facts] : Prop :=
  ∀ (m : (ℓ : Loc Cert.RwShiftIdeal.nD Cert.RwShiftIdeal.τ Cert.RwShiftIdeal.sig) → Buf (Elt Ideal) ℓ) (g : Dev Cert.RwShiftIdeal.nD → PrngReg), Pre_RwShiftIdeal m →
    θ_run (Cert.RwShiftIdeal.defs (F := Ideal)) (onTc (τ := Cert.RwShiftIdeal.τ) (Cert.RwShiftIdeal.main (F := Ideal))) ⟨m, fun _ => 0, g⟩ (fun r => (∀ c : Dev Cert.RwShiftIdeal.nD,
      r.2.mem ((c.tc : Thread Cert.RwShiftIdeal.nD Cert.RwShiftIdeal.τ).loc Cert.RwShiftIdeal.main_arg0) = m ((c.tc : Thread Cert.RwShiftIdeal.nD Cert.RwShiftIdeal.τ).loc Cert.RwShiftIdeal.main_arg0)
      ∧ r.2.mem ((c.tc : Thread Cert.RwShiftIdeal.nD Cert.RwShiftIdeal.τ).loc Cert.RwShiftIdeal.main_arg1) = m ((c.tc : Thread Cert.RwShiftIdeal.nD Cert.RwShiftIdeal.τ).loc Cert.RwShiftIdeal.main_arg1))
      ∧ r.2.sem = fun _ => 0)

def quiescent_RwShiftRefIdeal [hRwShiftRefIdeal : Cert.RwShiftRefIdeal.Facts] : Prop :=
  ∀ (m : (ℓ : Loc Cert.RwShiftRefIdeal.nD Cert.RwShiftRefIdeal.τ Cert.RwShiftRefIdeal.sig) → Buf (Elt Ideal) ℓ) (g : Dev Cert.RwShiftRefIdeal.nD → PrngReg), Pre_RwShiftRefIdeal m →
    θ_run (Cert.RwShiftRefIdeal.defs (F := Ideal)) (onTc (τ := Cert.RwShiftRefIdeal.τ) (Cert.RwShiftRefIdeal.main (F := Ideal))) ⟨m, fun _ => 0, g⟩ (fun r => (∀ c : Dev Cert.RwShiftRefIdeal.nD,
      r.2.mem ((c.tc : Thread Cert.RwShiftRefIdeal.nD Cert.RwShiftRefIdeal.τ).loc Cert.RwShiftRefIdeal.main_arg0) = m ((c.tc : Thread Cert.RwShiftRefIdeal.nD Cert.RwShiftRefIdeal.τ).loc Cert.RwShiftRefIdeal.main_arg0)
      ∧ r.2.mem ((c.tc : Thread Cert.RwShiftRefIdeal.nD Cert.RwShiftRefIdeal.τ).loc Cert.RwShiftRefIdeal.main_arg1) = m ((c.tc : Thread Cert.RwShiftRefIdeal.nD Cert.RwShiftRefIdeal.τ).loc Cert.RwShiftRefIdeal.main_arg1))
      ∧ r.2.sem = fun _ => 0)

def quiescent_RwPost [hRwPost : Cert.RwPost.Facts] : Prop :=
  ∀ (m : (ℓ : Loc Cert.RwPost.nD Cert.RwPost.τ Cert.RwPost.sig) → Buf (Elt Bits) ℓ) (g : Dev Cert.RwPost.nD → PrngReg), Pre_RwPost m →
    θ_run (Cert.RwPost.defs (F := Bits)) (onTc (τ := Cert.RwPost.τ) (Cert.RwPost.main (F := Bits))) ⟨m, fun _ => 0, g⟩ (fun r => (∀ c : Dev Cert.RwPost.nD,
      r.2.mem ((c.tc : Thread Cert.RwPost.nD Cert.RwPost.τ).loc Cert.RwPost.main_arg0) = m ((c.tc : Thread Cert.RwPost.nD Cert.RwPost.τ).loc Cert.RwPost.main_arg0)
      ∧ r.2.mem ((c.tc : Thread Cert.RwPost.nD Cert.RwPost.τ).loc Cert.RwPost.main_arg1) = m ((c.tc : Thread Cert.RwPost.nD Cert.RwPost.τ).loc Cert.RwPost.main_arg1)
      ∧ r.2.mem ((c.tc : Thread Cert.RwPost.nD Cert.RwPost.τ).loc Cert.RwPost.main_arg2) = m ((c.tc : Thread Cert.RwPost.nD Cert.RwPost.τ).loc Cert.RwPost.main_arg2)
      ∧ r.2.mem ((c.tc : Thread Cert.RwPost.nD Cert.RwPost.τ).loc Cert.RwPost.main_arg3) = m ((c.tc : Thread Cert.RwPost.nD Cert.RwPost.τ).loc Cert.RwPost.main_arg3)
      ∧ r.2.mem ((c.tc : Thread Cert.RwPost.nD Cert.RwPost.τ).loc Cert.RwPost.main_arg4) = m ((c.tc : Thread Cert.RwPost.nD Cert.RwPost.τ).loc Cert.RwPost.main_arg4)
      ∧ r.2.mem ((c.tc : Thread Cert.RwPost.nD Cert.RwPost.τ).loc Cert.RwPost.main_arg5) = m ((c.tc : Thread Cert.RwPost.nD Cert.RwPost.τ).loc Cert.RwPost.main_arg5)
      ∧ r.2.mem ((c.tc : Thread Cert.RwPost.nD Cert.RwPost.τ).loc Cert.RwPost.main_arg6) = m ((c.tc : Thread Cert.RwPost.nD Cert.RwPost.τ).loc Cert.RwPost.main_arg6)
      ∧ r.2.mem ((c.tc : Thread Cert.RwPost.nD Cert.RwPost.τ).loc Cert.RwPost.main_arg7) = m ((c.tc : Thread Cert.RwPost.nD Cert.RwPost.τ).loc Cert.RwPost.main_arg7)
      ∧ r.2.mem ((c.tc : Thread Cert.RwPost.nD Cert.RwPost.τ).loc Cert.RwPost.main_arg8) = m ((c.tc : Thread Cert.RwPost.nD Cert.RwPost.τ).loc Cert.RwPost.main_arg8)
      ∧ r.2.mem ((c.tc : Thread Cert.RwPost.nD Cert.RwPost.τ).loc Cert.RwPost.main_arg9) = m ((c.tc : Thread Cert.RwPost.nD Cert.RwPost.τ).loc Cert.RwPost.main_arg9))
      ∧ r.2.sem = fun _ => 0)

def quiescent_RwPostIdeal [hRwPostIdeal : Cert.RwPostIdeal.Facts] : Prop :=
  ∀ (m : (ℓ : Loc Cert.RwPostIdeal.nD Cert.RwPostIdeal.τ Cert.RwPostIdeal.sig) → Buf (Elt Ideal) ℓ) (g : Dev Cert.RwPostIdeal.nD → PrngReg), Pre_RwPostIdeal m →
    θ_run (Cert.RwPostIdeal.defs (F := Ideal)) (onTc (τ := Cert.RwPostIdeal.τ) (Cert.RwPostIdeal.main (F := Ideal))) ⟨m, fun _ => 0, g⟩ (fun r => (∀ c : Dev Cert.RwPostIdeal.nD,
      r.2.mem ((c.tc : Thread Cert.RwPostIdeal.nD Cert.RwPostIdeal.τ).loc Cert.RwPostIdeal.main_arg0) = m ((c.tc : Thread Cert.RwPostIdeal.nD Cert.RwPostIdeal.τ).loc Cert.RwPostIdeal.main_arg0)
      ∧ r.2.mem ((c.tc : Thread Cert.RwPostIdeal.nD Cert.RwPostIdeal.τ).loc Cert.RwPostIdeal.main_arg1) = m ((c.tc : Thread Cert.RwPostIdeal.nD Cert.RwPostIdeal.τ).loc Cert.RwPostIdeal.main_arg1)
      ∧ r.2.mem ((c.tc : Thread Cert.RwPostIdeal.nD Cert.RwPostIdeal.τ).loc Cert.RwPostIdeal.main_arg2) = m ((c.tc : Thread Cert.RwPostIdeal.nD Cert.RwPostIdeal.τ).loc Cert.RwPostIdeal.main_arg2)
      ∧ r.2.mem ((c.tc : Thread Cert.RwPostIdeal.nD Cert.RwPostIdeal.τ).loc Cert.RwPostIdeal.main_arg3) = m ((c.tc : Thread Cert.RwPostIdeal.nD Cert.RwPostIdeal.τ).loc Cert.RwPostIdeal.main_arg3)
      ∧ r.2.mem ((c.tc : Thread Cert.RwPostIdeal.nD Cert.RwPostIdeal.τ).loc Cert.RwPostIdeal.main_arg4) = m ((c.tc : Thread Cert.RwPostIdeal.nD Cert.RwPostIdeal.τ).loc Cert.RwPostIdeal.main_arg4)
      ∧ r.2.mem ((c.tc : Thread Cert.RwPostIdeal.nD Cert.RwPostIdeal.τ).loc Cert.RwPostIdeal.main_arg5) = m ((c.tc : Thread Cert.RwPostIdeal.nD Cert.RwPostIdeal.τ).loc Cert.RwPostIdeal.main_arg5)
      ∧ r.2.mem ((c.tc : Thread Cert.RwPostIdeal.nD Cert.RwPostIdeal.τ).loc Cert.RwPostIdeal.main_arg6) = m ((c.tc : Thread Cert.RwPostIdeal.nD Cert.RwPostIdeal.τ).loc Cert.RwPostIdeal.main_arg6)
      ∧ r.2.mem ((c.tc : Thread Cert.RwPostIdeal.nD Cert.RwPostIdeal.τ).loc Cert.RwPostIdeal.main_arg7) = m ((c.tc : Thread Cert.RwPostIdeal.nD Cert.RwPostIdeal.τ).loc Cert.RwPostIdeal.main_arg7)
      ∧ r.2.mem ((c.tc : Thread Cert.RwPostIdeal.nD Cert.RwPostIdeal.τ).loc Cert.RwPostIdeal.main_arg8) = m ((c.tc : Thread Cert.RwPostIdeal.nD Cert.RwPostIdeal.τ).loc Cert.RwPostIdeal.main_arg8)
      ∧ r.2.mem ((c.tc : Thread Cert.RwPostIdeal.nD Cert.RwPostIdeal.τ).loc Cert.RwPostIdeal.main_arg9) = m ((c.tc : Thread Cert.RwPostIdeal.nD Cert.RwPostIdeal.τ).loc Cert.RwPostIdeal.main_arg9))
      ∧ r.2.sem = fun _ => 0)

def quiescent_RwPostIdeal_pre_rw_bonus_finite [hRwPostIdeal : Cert.RwPostIdeal.Facts] [hPre_rw_bonus_finite : Cert.Pre_rw_bonus_finite.Facts] : Prop :=
  ∀ (m : (ℓ : Loc Cert.RwPostIdeal.nD Cert.RwPostIdeal.τ Cert.RwPostIdeal.sig) → Buf (Elt Ideal) ℓ) (g : Dev Cert.RwPostIdeal.nD → PrngReg), Pre_RwPostIdeal_rw_bonus_finite m →
    θ_run (Cert.RwPostIdeal.defs (F := Ideal)) (onTc (τ := Cert.RwPostIdeal.τ) (Cert.RwPostIdeal.main (F := Ideal))) ⟨m, fun _ => 0, g⟩ (fun r => (∀ c : Dev Cert.RwPostIdeal.nD,
      r.2.mem ((c.tc : Thread Cert.RwPostIdeal.nD Cert.RwPostIdeal.τ).loc Cert.RwPostIdeal.main_arg0) = m ((c.tc : Thread Cert.RwPostIdeal.nD Cert.RwPostIdeal.τ).loc Cert.RwPostIdeal.main_arg0)
      ∧ r.2.mem ((c.tc : Thread Cert.RwPostIdeal.nD Cert.RwPostIdeal.τ).loc Cert.RwPostIdeal.main_arg1) = m ((c.tc : Thread Cert.RwPostIdeal.nD Cert.RwPostIdeal.τ).loc Cert.RwPostIdeal.main_arg1)
      ∧ r.2.mem ((c.tc : Thread Cert.RwPostIdeal.nD Cert.RwPostIdeal.τ).loc Cert.RwPostIdeal.main_arg2) = m ((c.tc : Thread Cert.RwPostIdeal.nD Cert.RwPostIdeal.τ).loc Cert.RwPostIdeal.main_arg2)
      ∧ r.2.mem ((c.tc : Thread Cert.RwPostIdeal.nD Cert.RwPostIdeal.τ).loc Cert.RwPostIdeal.main_arg3) = m ((c.tc : Thread Cert.RwPostIdeal.nD Cert.RwPostIdeal.τ).loc Cert.RwPostIdeal.main_arg3)
      ∧ r.2.mem ((c.tc : Thread Cert.RwPostIdeal.nD Cert.RwPostIdeal.τ).loc Cert.RwPostIdeal.main_arg4) = m ((c.tc : Thread Cert.RwPostIdeal.nD Cert.RwPostIdeal.τ).loc Cert.RwPostIdeal.main_arg4)
      ∧ r.2.mem ((c.tc : Thread Cert.RwPostIdeal.nD Cert.RwPostIdeal.τ).loc Cert.RwPostIdeal.main_arg5) = m ((c.tc : Thread Cert.RwPostIdeal.nD Cert.RwPostIdeal.τ).loc Cert.RwPostIdeal.main_arg5)
      ∧ r.2.mem ((c.tc : Thread Cert.RwPostIdeal.nD Cert.RwPostIdeal.τ).loc Cert.RwPostIdeal.main_arg6) = m ((c.tc : Thread Cert.RwPostIdeal.nD Cert.RwPostIdeal.τ).loc Cert.RwPostIdeal.main_arg6)
      ∧ r.2.mem ((c.tc : Thread Cert.RwPostIdeal.nD Cert.RwPostIdeal.τ).loc Cert.RwPostIdeal.main_arg7) = m ((c.tc : Thread Cert.RwPostIdeal.nD Cert.RwPostIdeal.τ).loc Cert.RwPostIdeal.main_arg7)
      ∧ r.2.mem ((c.tc : Thread Cert.RwPostIdeal.nD Cert.RwPostIdeal.τ).loc Cert.RwPostIdeal.main_arg8) = m ((c.tc : Thread Cert.RwPostIdeal.nD Cert.RwPostIdeal.τ).loc Cert.RwPostIdeal.main_arg8)
      ∧ r.2.mem ((c.tc : Thread Cert.RwPostIdeal.nD Cert.RwPostIdeal.τ).loc Cert.RwPostIdeal.main_arg9) = m ((c.tc : Thread Cert.RwPostIdeal.nD Cert.RwPostIdeal.τ).loc Cert.RwPostIdeal.main_arg9))
      ∧ r.2.sem = fun _ => 0)

def quiescent_RwPostRefIdeal [hRwPostRefIdeal : Cert.RwPostRefIdeal.Facts] : Prop :=
  ∀ (m : (ℓ : Loc Cert.RwPostRefIdeal.nD Cert.RwPostRefIdeal.τ Cert.RwPostRefIdeal.sig) → Buf (Elt Ideal) ℓ) (g : Dev Cert.RwPostRefIdeal.nD → PrngReg), Pre_RwPostRefIdeal m →
    θ_run (Cert.RwPostRefIdeal.defs (F := Ideal)) (onTc (τ := Cert.RwPostRefIdeal.τ) (Cert.RwPostRefIdeal.main (F := Ideal))) ⟨m, fun _ => 0, g⟩ (fun r => (∀ c : Dev Cert.RwPostRefIdeal.nD,
      r.2.mem ((c.tc : Thread Cert.RwPostRefIdeal.nD Cert.RwPostRefIdeal.τ).loc Cert.RwPostRefIdeal.main_arg0) = m ((c.tc : Thread Cert.RwPostRefIdeal.nD Cert.RwPostRefIdeal.τ).loc Cert.RwPostRefIdeal.main_arg0)
      ∧ r.2.mem ((c.tc : Thread Cert.RwPostRefIdeal.nD Cert.RwPostRefIdeal.τ).loc Cert.RwPostRefIdeal.main_arg1) = m ((c.tc : Thread Cert.RwPostRefIdeal.nD Cert.RwPostRefIdeal.τ).loc Cert.RwPostRefIdeal.main_arg1)
      ∧ r.2.mem ((c.tc : Thread Cert.RwPostRefIdeal.nD Cert.RwPostRefIdeal.τ).loc Cert.RwPostRefIdeal.main_arg2) = m ((c.tc : Thread Cert.RwPostRefIdeal.nD Cert.RwPostRefIdeal.τ).loc Cert.RwPostRefIdeal.main_arg2)
      ∧ r.2.mem ((c.tc : Thread Cert.RwPostRefIdeal.nD Cert.RwPostRefIdeal.τ).loc Cert.RwPostRefIdeal.main_arg3) = m ((c.tc : Thread Cert.RwPostRefIdeal.nD Cert.RwPostRefIdeal.τ).loc Cert.RwPostRefIdeal.main_arg3)
      ∧ r.2.mem ((c.tc : Thread Cert.RwPostRefIdeal.nD Cert.RwPostRefIdeal.τ).loc Cert.RwPostRefIdeal.main_arg4) = m ((c.tc : Thread Cert.RwPostRefIdeal.nD Cert.RwPostRefIdeal.τ).loc Cert.RwPostRefIdeal.main_arg4)
      ∧ r.2.mem ((c.tc : Thread Cert.RwPostRefIdeal.nD Cert.RwPostRefIdeal.τ).loc Cert.RwPostRefIdeal.main_arg5) = m ((c.tc : Thread Cert.RwPostRefIdeal.nD Cert.RwPostRefIdeal.τ).loc Cert.RwPostRefIdeal.main_arg5)
      ∧ r.2.mem ((c.tc : Thread Cert.RwPostRefIdeal.nD Cert.RwPostRefIdeal.τ).loc Cert.RwPostRefIdeal.main_arg6) = m ((c.tc : Thread Cert.RwPostRefIdeal.nD Cert.RwPostRefIdeal.τ).loc Cert.RwPostRefIdeal.main_arg6)
      ∧ r.2.mem ((c.tc : Thread Cert.RwPostRefIdeal.nD Cert.RwPostRefIdeal.τ).loc Cert.RwPostRefIdeal.main_arg7) = m ((c.tc : Thread Cert.RwPostRefIdeal.nD Cert.RwPostRefIdeal.τ).loc Cert.RwPostRefIdeal.main_arg7)
      ∧ r.2.mem ((c.tc : Thread Cert.RwPostRefIdeal.nD Cert.RwPostRefIdeal.τ).loc Cert.RwPostRefIdeal.main_arg8) = m ((c.tc : Thread Cert.RwPostRefIdeal.nD Cert.RwPostRefIdeal.τ).loc Cert.RwPostRefIdeal.main_arg8)
      ∧ r.2.mem ((c.tc : Thread Cert.RwPostRefIdeal.nD Cert.RwPostRefIdeal.τ).loc Cert.RwPostRefIdeal.main_arg9) = m ((c.tc : Thread Cert.RwPostRefIdeal.nD Cert.RwPostRefIdeal.τ).loc Cert.RwPostRefIdeal.main_arg9))
      ∧ r.2.sem = fun _ => 0)

def quiescent_RwPostRefIdeal_pre_rw_bonus_finite [hRwPostRefIdeal : Cert.RwPostRefIdeal.Facts] [hPre_rw_bonus_finite : Cert.Pre_rw_bonus_finite.Facts] : Prop :=
  ∀ (m : (ℓ : Loc Cert.RwPostRefIdeal.nD Cert.RwPostRefIdeal.τ Cert.RwPostRefIdeal.sig) → Buf (Elt Ideal) ℓ) (g : Dev Cert.RwPostRefIdeal.nD → PrngReg), Pre_RwPostRefIdeal_rw_bonus_finite m →
    θ_run (Cert.RwPostRefIdeal.defs (F := Ideal)) (onTc (τ := Cert.RwPostRefIdeal.τ) (Cert.RwPostRefIdeal.main (F := Ideal))) ⟨m, fun _ => 0, g⟩ (fun r => (∀ c : Dev Cert.RwPostRefIdeal.nD,
      r.2.mem ((c.tc : Thread Cert.RwPostRefIdeal.nD Cert.RwPostRefIdeal.τ).loc Cert.RwPostRefIdeal.main_arg0) = m ((c.tc : Thread Cert.RwPostRefIdeal.nD Cert.RwPostRefIdeal.τ).loc Cert.RwPostRefIdeal.main_arg0)
      ∧ r.2.mem ((c.tc : Thread Cert.RwPostRefIdeal.nD Cert.RwPostRefIdeal.τ).loc Cert.RwPostRefIdeal.main_arg1) = m ((c.tc : Thread Cert.RwPostRefIdeal.nD Cert.RwPostRefIdeal.τ).loc Cert.RwPostRefIdeal.main_arg1)
      ∧ r.2.mem ((c.tc : Thread Cert.RwPostRefIdeal.nD Cert.RwPostRefIdeal.τ).loc Cert.RwPostRefIdeal.main_arg2) = m ((c.tc : Thread Cert.RwPostRefIdeal.nD Cert.RwPostRefIdeal.τ).loc Cert.RwPostRefIdeal.main_arg2)
      ∧ r.2.mem ((c.tc : Thread Cert.RwPostRefIdeal.nD Cert.RwPostRefIdeal.τ).loc Cert.RwPostRefIdeal.main_arg3) = m ((c.tc : Thread Cert.RwPostRefIdeal.nD Cert.RwPostRefIdeal.τ).loc Cert.RwPostRefIdeal.main_arg3)
      ∧ r.2.mem ((c.tc : Thread Cert.RwPostRefIdeal.nD Cert.RwPostRefIdeal.τ).loc Cert.RwPostRefIdeal.main_arg4) = m ((c.tc : Thread Cert.RwPostRefIdeal.nD Cert.RwPostRefIdeal.τ).loc Cert.RwPostRefIdeal.main_arg4)
      ∧ r.2.mem ((c.tc : Thread Cert.RwPostRefIdeal.nD Cert.RwPostRefIdeal.τ).loc Cert.RwPostRefIdeal.main_arg5) = m ((c.tc : Thread Cert.RwPostRefIdeal.nD Cert.RwPostRefIdeal.τ).loc Cert.RwPostRefIdeal.main_arg5)
      ∧ r.2.mem ((c.tc : Thread Cert.RwPostRefIdeal.nD Cert.RwPostRefIdeal.τ).loc Cert.RwPostRefIdeal.main_arg6) = m ((c.tc : Thread Cert.RwPostRefIdeal.nD Cert.RwPostRefIdeal.τ).loc Cert.RwPostRefIdeal.main_arg6)
      ∧ r.2.mem ((c.tc : Thread Cert.RwPostRefIdeal.nD Cert.RwPostRefIdeal.τ).loc Cert.RwPostRefIdeal.main_arg7) = m ((c.tc : Thread Cert.RwPostRefIdeal.nD Cert.RwPostRefIdeal.τ).loc Cert.RwPostRefIdeal.main_arg7)
      ∧ r.2.mem ((c.tc : Thread Cert.RwPostRefIdeal.nD Cert.RwPostRefIdeal.τ).loc Cert.RwPostRefIdeal.main_arg8) = m ((c.tc : Thread Cert.RwPostRefIdeal.nD Cert.RwPostRefIdeal.τ).loc Cert.RwPostRefIdeal.main_arg8)
      ∧ r.2.mem ((c.tc : Thread Cert.RwPostRefIdeal.nD Cert.RwPostRefIdeal.τ).loc Cert.RwPostRefIdeal.main_arg9) = m ((c.tc : Thread Cert.RwPostRefIdeal.nD Cert.RwPostRefIdeal.τ).loc Cert.RwPostRefIdeal.main_arg9))
      ∧ r.2.sem = fun _ => 0)

def quiescent_OutMm [hOutMm : Cert.OutMm.Facts] : Prop :=
  ∀ (m : (ℓ : Loc Cert.OutMm.nD Cert.OutMm.τ Cert.OutMm.sig) → Buf (Elt Bits) ℓ) (g : Dev Cert.OutMm.nD → PrngReg), Pre_OutMm m →
    θ_run (Cert.OutMm.defs (F := Bits)) (onTc (τ := Cert.OutMm.τ) (Cert.OutMm.main (F := Bits))) ⟨m, fun _ => 0, g⟩ (fun r => (∀ c : Dev Cert.OutMm.nD,
      r.2.mem ((c.tc : Thread Cert.OutMm.nD Cert.OutMm.τ).loc Cert.OutMm.main_arg0) = m ((c.tc : Thread Cert.OutMm.nD Cert.OutMm.τ).loc Cert.OutMm.main_arg0)
      ∧ r.2.mem ((c.tc : Thread Cert.OutMm.nD Cert.OutMm.τ).loc Cert.OutMm.main_arg1) = m ((c.tc : Thread Cert.OutMm.nD Cert.OutMm.τ).loc Cert.OutMm.main_arg1))
      ∧ r.2.sem = fun _ => 0)

def quiescent_OutMmIdeal [hOutMmIdeal : Cert.OutMmIdeal.Facts] : Prop :=
  ∀ (m : (ℓ : Loc Cert.OutMmIdeal.nD Cert.OutMmIdeal.τ Cert.OutMmIdeal.sig) → Buf (Elt Ideal) ℓ) (g : Dev Cert.OutMmIdeal.nD → PrngReg), Pre_OutMmIdeal m →
    θ_run (Cert.OutMmIdeal.defs (F := Ideal)) (onTc (τ := Cert.OutMmIdeal.τ) (Cert.OutMmIdeal.main (F := Ideal))) ⟨m, fun _ => 0, g⟩ (fun r => (∀ c : Dev Cert.OutMmIdeal.nD,
      r.2.mem ((c.tc : Thread Cert.OutMmIdeal.nD Cert.OutMmIdeal.τ).loc Cert.OutMmIdeal.main_arg0) = m ((c.tc : Thread Cert.OutMmIdeal.nD Cert.OutMmIdeal.τ).loc Cert.OutMmIdeal.main_arg0)
      ∧ r.2.mem ((c.tc : Thread Cert.OutMmIdeal.nD Cert.OutMmIdeal.τ).loc Cert.OutMmIdeal.main_arg1) = m ((c.tc : Thread Cert.OutMmIdeal.nD Cert.OutMmIdeal.τ).loc Cert.OutMmIdeal.main_arg1))
      ∧ r.2.sem = fun _ => 0)

def quiescent_OutMmRefIdeal [hOutMmRefIdeal : Cert.OutMmRefIdeal.Facts] : Prop :=
  ∀ (m : (ℓ : Loc Cert.OutMmRefIdeal.nD Cert.OutMmRefIdeal.τ Cert.OutMmRefIdeal.sig) → Buf (Elt Ideal) ℓ) (g : Dev Cert.OutMmRefIdeal.nD → PrngReg), Pre_OutMmRefIdeal m →
    θ_run (Cert.OutMmRefIdeal.defs (F := Ideal)) (onTc (τ := Cert.OutMmRefIdeal.τ) (Cert.OutMmRefIdeal.main (F := Ideal))) ⟨m, fun _ => 0, g⟩ (fun r => (∀ c : Dev Cert.OutMmRefIdeal.nD,
      r.2.mem ((c.tc : Thread Cert.OutMmRefIdeal.nD Cert.OutMmRefIdeal.τ).loc Cert.OutMmRefIdeal.main_arg0) = m ((c.tc : Thread Cert.OutMmRefIdeal.nD Cert.OutMmRefIdeal.τ).loc Cert.OutMmRefIdeal.main_arg0)
      ∧ r.2.mem ((c.tc : Thread Cert.OutMmRefIdeal.nD Cert.OutMmRefIdeal.τ).loc Cert.OutMmRefIdeal.main_arg1) = m ((c.tc : Thread Cert.OutMmRefIdeal.nD Cert.OutMmRefIdeal.τ).loc Cert.OutMmRefIdeal.main_arg1))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1)
      ∧ r.2.mem ((c.tc : Thread Cert.DMerged.nD Cert.DMerged.τ).loc Cert.DMerged.main_arg2) = m ((c.tc : Thread Cert.DMerged.nD Cert.DMerged.τ).loc Cert.DMerged.main_arg2))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1)
      ∧ r.2.mem ((c.tc : Thread Cert.DMergedIdeal.nD Cert.DMergedIdeal.τ).loc Cert.DMergedIdeal.main_arg2) = m ((c.tc : Thread Cert.DMergedIdeal.nD Cert.DMergedIdeal.τ).loc Cert.DMergedIdeal.main_arg2))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1)
      ∧ r.2.mem ((c.tc : Thread Cert.DMergedRefIdeal.nD Cert.DMergedRefIdeal.τ).loc Cert.DMergedRefIdeal.main_arg2) = m ((c.tc : Thread Cert.DMergedRefIdeal.nD Cert.DMergedRefIdeal.τ).loc Cert.DMergedRefIdeal.main_arg2))
      ∧ r.2.sem = fun _ => 0)

def quiescent_DWOut [hDWOut : Cert.DWOut.Facts] : Prop :=
  ∀ (m : (ℓ : Loc Cert.DWOut.nD Cert.DWOut.τ Cert.DWOut.sig) → Buf (Elt Bits) ℓ) (g : Dev Cert.DWOut.nD → PrngReg), Pre_DWOut m →
    θ_run (Cert.DWOut.defs (F := Bits)) (onTc (τ := Cert.DWOut.τ) (Cert.DWOut.main (F := Bits))) ⟨m, fun _ => 0, g⟩ (fun r => (∀ c : Dev Cert.DWOut.nD,
      r.2.mem ((c.tc : Thread Cert.DWOut.nD Cert.DWOut.τ).loc Cert.DWOut.main_arg0) = m ((c.tc : Thread Cert.DWOut.nD Cert.DWOut.τ).loc Cert.DWOut.main_arg0)
      ∧ r.2.mem ((c.tc : Thread Cert.DWOut.nD Cert.DWOut.τ).loc Cert.DWOut.main_arg1) = m ((c.tc : Thread Cert.DWOut.nD Cert.DWOut.τ).loc Cert.DWOut.main_arg1)
      ∧ r.2.mem ((c.tc : Thread Cert.DWOut.nD Cert.DWOut.τ).loc Cert.DWOut.main_arg2) = m ((c.tc : Thread Cert.DWOut.nD Cert.DWOut.τ).loc Cert.DWOut.main_arg2))
      ∧ r.2.sem = fun _ => 0)

def quiescent_DWOutIdeal [hDWOutIdeal : Cert.DWOutIdeal.Facts] : Prop :=
  ∀ (m : (ℓ : Loc Cert.DWOutIdeal.nD Cert.DWOutIdeal.τ Cert.DWOutIdeal.sig) → Buf (Elt Ideal) ℓ) (g : Dev Cert.DWOutIdeal.nD → PrngReg), Pre_DWOutIdeal m →
    θ_run (Cert.DWOutIdeal.defs (F := Ideal)) (onTc (τ := Cert.DWOutIdeal.τ) (Cert.DWOutIdeal.main (F := Ideal))) ⟨m, fun _ => 0, g⟩ (fun r => (∀ c : Dev Cert.DWOutIdeal.nD,
      r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
      ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1)
      ∧ r.2.mem ((c.tc : Thread Cert.DWOutIdeal.nD Cert.DWOutIdeal.τ).loc Cert.DWOutIdeal.main_arg2) = m ((c.tc : Thread Cert.DWOutIdeal.nD Cert.DWOutIdeal.τ).loc Cert.DWOutIdeal.main_arg2))
      ∧ r.2.sem = fun _ => 0)

def quiescent_DWOutRefIdeal [hDWOutRefIdeal : Cert.DWOutRefIdeal.Facts] : Prop :=
  ∀ (m : (ℓ : Loc Cert.DWOutRefIdeal.nD Cert.DWOutRefIdeal.τ Cert.DWOutRefIdeal.sig) → Buf (Elt Ideal) ℓ) (g : Dev Cert.DWOutRefIdeal.nD → PrngReg), Pre_DWOutRefIdeal m →
    θ_run (Cert.DWOutRefIdeal.defs (F := Ideal)) (onTc (τ := Cert.DWOutRefIdeal.τ) (Cert.DWOutRefIdeal.main (F := Ideal))) ⟨m, fun _ => 0, g⟩ (fun r => (∀ c : Dev Cert.DWOutRefIdeal.nD,
      r.2.mem ((c.tc : Thread Cert.DWOutRefIdeal.nD Cert.DWOutRefIdeal.τ).loc Cert.DWOutRefIdeal.main_arg0) = m ((c.tc : Thread Cert.DWOutRefIdeal.nD Cert.DWOutRefIdeal.τ).loc Cert.DWOutRefIdeal.main_arg0)
      ∧ r.2.mem ((c.tc : Thread Cert.DWOutRefIdeal.nD Cert.DWOutRefIdeal.τ).loc Cert.DWOutRefIdeal.main_arg1) = m ((c.tc : Thread Cert.DWOutRefIdeal.nD Cert.DWOutRefIdeal.τ).loc Cert.DWOutRefIdeal.main_arg1)
      ∧ r.2.mem ((c.tc : Thread Cert.DWOutRefIdeal.nD Cert.DWOutRefIdeal.τ).loc Cert.DWOutRefIdeal.main_arg2) = m ((c.tc : Thread Cert.DWOutRefIdeal.nD Cert.DWOutRefIdeal.τ).loc Cert.DWOutRefIdeal.main_arg2))
      ∧ r.2.sem = fun _ => 0)

def quiescent_ProjMm [hProjMm : Cert.ProjMm.Facts] : Prop :=
  ∀ (m : (ℓ : Loc Cert.ProjMm.nD Cert.ProjMm.τ Cert.ProjMm.sig) → Buf (Elt Bits) ℓ) (g : Dev Cert.ProjMm.nD → PrngReg), Pre_ProjMm m →
    θ_run (Cert.ProjMm.defs (F := Bits)) (onTc (τ := Cert.ProjMm.τ) (Cert.ProjMm.main (F := Bits))) ⟨m, fun _ => 0, g⟩ (fun r => (∀ c : Dev Cert.ProjMm.nD,
      r.2.mem ((c.tc : Thread Cert.ProjMm.nD Cert.ProjMm.τ).loc Cert.ProjMm.main_arg0) = m ((c.tc : Thread Cert.ProjMm.nD Cert.ProjMm.τ).loc Cert.ProjMm.main_arg0)
      ∧ r.2.mem ((c.tc : Thread Cert.ProjMm.nD Cert.ProjMm.τ).loc Cert.ProjMm.main_arg1) = m ((c.tc : Thread Cert.ProjMm.nD Cert.ProjMm.τ).loc Cert.ProjMm.main_arg1))
      ∧ r.2.sem = fun _ => 0)

def quiescent_ProjMmIdeal [hProjMmIdeal : Cert.ProjMmIdeal.Facts] : Prop :=
  ∀ (m : (ℓ : Loc Cert.ProjMmIdeal.nD Cert.ProjMmIdeal.τ Cert.ProjMmIdeal.sig) → Buf (Elt Ideal) ℓ) (g : Dev Cert.ProjMmIdeal.nD → PrngReg), Pre_ProjMmIdeal m →
    θ_run (Cert.ProjMmIdeal.defs (F := Ideal)) (onTc (τ := Cert.ProjMmIdeal.τ) (Cert.ProjMmIdeal.main (F := Ideal))) ⟨m, fun _ => 0, g⟩ (fun r => (∀ c : Dev Cert.ProjMmIdeal.nD,
      r.2.mem ((c.tc : Thread Cert.ProjMmIdeal.nD Cert.ProjMmIdeal.τ).loc Cert.ProjMmIdeal.main_arg0) = m ((c.tc : Thread Cert.ProjMmIdeal.nD Cert.ProjMmIdeal.τ).loc Cert.ProjMmIdeal.main_arg0)
      ∧ r.2.mem ((c.tc : Thread Cert.ProjMmIdeal.nD Cert.ProjMmIdeal.τ).loc Cert.ProjMmIdeal.main_arg1) = m ((c.tc : Thread Cert.ProjMmIdeal.nD Cert.ProjMmIdeal.τ).loc Cert.ProjMmIdeal.main_arg1))
      ∧ r.2.sem = fun _ => 0)

def quiescent_ProjMmRefIdeal [hProjMmRefIdeal : Cert.ProjMmRefIdeal.Facts] : Prop :=
  ∀ (m : (ℓ : Loc Cert.ProjMmRefIdeal.nD Cert.ProjMmRefIdeal.τ Cert.ProjMmRefIdeal.sig) → Buf (Elt Ideal) ℓ) (g : Dev Cert.ProjMmRefIdeal.nD → PrngReg), Pre_ProjMmRefIdeal m →
    θ_run (Cert.ProjMmRefIdeal.defs (F := Ideal)) (onTc (τ := Cert.ProjMmRefIdeal.τ) (Cert.ProjMmRefIdeal.main (F := Ideal))) ⟨m, fun _ => 0, g⟩ (fun r => (∀ c : Dev Cert.ProjMmRefIdeal.nD,
      r.2.mem ((c.tc : Thread Cert.ProjMmRefIdeal.nD Cert.ProjMmRefIdeal.τ).loc Cert.ProjMmRefIdeal.main_arg0) = m ((c.tc : Thread Cert.ProjMmRefIdeal.nD Cert.ProjMmRefIdeal.τ).loc Cert.ProjMmRefIdeal.main_arg0)
      ∧ r.2.mem ((c.tc : Thread Cert.ProjMmRefIdeal.nD Cert.ProjMmRefIdeal.τ).loc Cert.ProjMmRefIdeal.main_arg1) = m ((c.tc : Thread Cert.ProjMmRefIdeal.nD Cert.ProjMmRefIdeal.τ).loc Cert.ProjMmRefIdeal.main_arg1))
      ∧ r.2.sem = fun _ => 0)

def quiescent_DWIn [hDWIn : Cert.DWIn.Facts] : Prop :=
  ∀ (m : (ℓ : Loc Cert.DWIn.nD Cert.DWIn.τ Cert.DWIn.sig) → Buf (Elt Bits) ℓ) (g : Dev Cert.DWIn.nD → PrngReg), Pre_DWIn m →
    θ_run (Cert.DWIn.defs (F := Bits)) (onTc (τ := Cert.DWIn.τ) (Cert.DWIn.main (F := Bits))) ⟨m, fun _ => 0, g⟩ (fun r => (∀ c : Dev Cert.DWIn.nD,
      r.2.mem ((c.tc : Thread Cert.DWIn.nD Cert.DWIn.τ).loc Cert.DWIn.main_arg0) = m ((c.tc : Thread Cert.DWIn.nD Cert.DWIn.τ).loc Cert.DWIn.main_arg0)
      ∧ r.2.mem ((c.tc : Thread Cert.DWIn.nD Cert.DWIn.τ).loc Cert.DWIn.main_arg1) = m ((c.tc : Thread Cert.DWIn.nD Cert.DWIn.τ).loc Cert.DWIn.main_arg1)
      ∧ r.2.mem ((c.tc : Thread Cert.DWIn.nD Cert.DWIn.τ).loc Cert.DWIn.main_arg2) = m ((c.tc : Thread Cert.DWIn.nD Cert.DWIn.τ).loc Cert.DWIn.main_arg2))
      ∧ r.2.sem = fun _ => 0)

def quiescent_DWInIdeal [hDWInIdeal : Cert.DWInIdeal.Facts] : Prop :=
  ∀ (m : (ℓ : Loc Cert.DWInIdeal.nD Cert.DWInIdeal.τ Cert.DWInIdeal.sig) → Buf (Elt Ideal) ℓ) (g : Dev Cert.DWInIdeal.nD → PrngReg), Pre_DWInIdeal m →
    θ_run (Cert.DWInIdeal.defs (F := Ideal)) (onTc (τ := Cert.DWInIdeal.τ) (Cert.DWInIdeal.main (F := Ideal))) ⟨m, fun _ => 0, g⟩ (fun r => (∀ c : Dev Cert.DWInIdeal.nD,
      r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
      ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1)
      ∧ r.2.mem ((c.tc : Thread Cert.DWInIdeal.nD Cert.DWInIdeal.τ).loc Cert.DWInIdeal.main_arg2) = m ((c.tc : Thread Cert.DWInIdeal.nD Cert.DWInIdeal.τ).loc Cert.DWInIdeal.main_arg2))
      ∧ r.2.sem = fun _ => 0)

def quiescent_DWInRefIdeal [hDWInRefIdeal : Cert.DWInRefIdeal.Facts] : Prop :=
  ∀ (m : (ℓ : Loc Cert.DWInRefIdeal.nD Cert.DWInRefIdeal.τ Cert.DWInRefIdeal.sig) → Buf (Elt Ideal) ℓ) (g : Dev Cert.DWInRefIdeal.nD → PrngReg), Pre_DWInRefIdeal m →
    θ_run (Cert.DWInRefIdeal.defs (F := Ideal)) (onTc (τ := Cert.DWInRefIdeal.τ) (Cert.DWInRefIdeal.main (F := Ideal))) ⟨m, fun _ => 0, g⟩ (fun r => (∀ c : Dev Cert.DWInRefIdeal.nD,
      r.2.mem ((c.tc : Thread Cert.DWInRefIdeal.nD Cert.DWInRefIdeal.τ).loc Cert.DWInRefIdeal.main_arg0) = m ((c.tc : Thread Cert.DWInRefIdeal.nD Cert.DWInRefIdeal.τ).loc Cert.DWInRefIdeal.main_arg0)
      ∧ r.2.mem ((c.tc : Thread Cert.DWInRefIdeal.nD Cert.DWInRefIdeal.τ).loc Cert.DWInRefIdeal.main_arg1) = m ((c.tc : Thread Cert.DWInRefIdeal.nD Cert.DWInRefIdeal.τ).loc Cert.DWInRefIdeal.main_arg1)
      ∧ r.2.mem ((c.tc : Thread Cert.DWInRefIdeal.nD Cert.DWInRefIdeal.τ).loc Cert.DWInRefIdeal.main_arg2) = m ((c.tc : Thread Cert.DWInRefIdeal.nD Cert.DWInRefIdeal.τ).loc Cert.DWInRefIdeal.main_arg2))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1)
      ∧ r.2.mem ((c.tc : Thread Cert.DH.nD Cert.DH.τ).loc Cert.DH.main_arg2) = m ((c.tc : Thread Cert.DH.nD Cert.DH.τ).loc Cert.DH.main_arg2))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
      ∧ r.2.mem ((c.tc : Thread Cert.DHIdeal.nD Cert.DHIdeal.τ).loc Cert.DHIdeal.main_arg2) = m ((c.tc : Thread Cert.DHIdeal.nD Cert.DHIdeal.τ).loc Cert.DHIdeal.main_arg2))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1)
      ∧ r.2.mem ((c.tc : Thread Cert.DHRefIdeal.nD Cert.DHRefIdeal.τ).loc Cert.DHRefIdeal.main_arg2) = m ((c.tc : Thread Cert.DHRefIdeal.nD Cert.DHRefIdeal.τ).loc Cert.DHRefIdeal.main_arg2))
      ∧ r.2.sem = fun _ => 0)

def quiescent_AdamwAdaW [hAdamwAdaW : Cert.AdamwAdaW.Facts] : Prop :=
  ∀ (m : (ℓ : Loc Cert.AdamwAdaW.nD Cert.AdamwAdaW.τ Cert.AdamwAdaW.sig) → Buf (Elt Bits) ℓ) (g : Dev Cert.AdamwAdaW.nD → PrngReg), Pre_AdamwAdaW m →
    θ_run (Cert.AdamwAdaW.defs (F := Bits)) (onTc (τ := Cert.AdamwAdaW.τ) (Cert.AdamwAdaW.main (F := Bits))) ⟨m, fun _ => 0, g⟩ (fun r => (∀ c : Dev Cert.AdamwAdaW.nD,
      r.2.mem ((c.tc : Thread Cert.AdamwAdaW.nD Cert.AdamwAdaW.τ).loc Cert.AdamwAdaW.main_arg0) = m ((c.tc : Thread Cert.AdamwAdaW.nD Cert.AdamwAdaW.τ).loc Cert.AdamwAdaW.main_arg0)
      ∧ r.2.mem ((c.tc : Thread Cert.AdamwAdaW.nD Cert.AdamwAdaW.τ).loc Cert.AdamwAdaW.main_arg1) = m ((c.tc : Thread Cert.AdamwAdaW.nD Cert.AdamwAdaW.τ).loc Cert.AdamwAdaW.main_arg1)
      ∧ r.2.mem ((c.tc : Thread Cert.AdamwAdaW.nD Cert.AdamwAdaW.τ).loc Cert.AdamwAdaW.main_arg2) = m ((c.tc : Thread Cert.AdamwAdaW.nD Cert.AdamwAdaW.τ).loc Cert.AdamwAdaW.main_arg2)
      ∧ r.2.mem ((c.tc : Thread Cert.AdamwAdaW.nD Cert.AdamwAdaW.τ).loc Cert.AdamwAdaW.main_arg3) = m ((c.tc : Thread Cert.AdamwAdaW.nD Cert.AdamwAdaW.τ).loc Cert.AdamwAdaW.main_arg3))
      ∧ r.2.sem = fun _ => 0)

def quiescent_AdamwAdaWIdeal [hAdamwAdaWIdeal : Cert.AdamwAdaWIdeal.Facts] : Prop :=
  ∀ (m : (ℓ : Loc Cert.AdamwAdaWIdeal.nD Cert.AdamwAdaWIdeal.τ Cert.AdamwAdaWIdeal.sig) → Buf (Elt Ideal) ℓ) (g : Dev Cert.AdamwAdaWIdeal.nD → PrngReg), Pre_AdamwAdaWIdeal m →
    θ_run (Cert.AdamwAdaWIdeal.defs (F := Ideal)) (onTc (τ := Cert.AdamwAdaWIdeal.τ) (Cert.AdamwAdaWIdeal.main (F := Ideal))) ⟨m, fun _ => 0, g⟩ (fun r => (∀ c : Dev Cert.AdamwAdaWIdeal.nD,
      r.2.mem ((c.tc : Thread Cert.AdamwAdaWIdeal.nD Cert.AdamwAdaWIdeal.τ).loc Cert.AdamwAdaWIdeal.main_arg0) = m ((c.tc : Thread Cert.AdamwAdaWIdeal.nD Cert.AdamwAdaWIdeal.τ).loc Cert.AdamwAdaWIdeal.main_arg0)
      ∧ r.2.mem ((c.tc : Thread Cert.AdamwAdaWIdeal.nD Cert.AdamwAdaWIdeal.τ).loc Cert.AdamwAdaWIdeal.main_arg1) = m ((c.tc : Thread Cert.AdamwAdaWIdeal.nD Cert.AdamwAdaWIdeal.τ).loc Cert.AdamwAdaWIdeal.main_arg1)
      ∧ r.2.mem ((c.tc : Thread Cert.AdamwAdaWIdeal.nD Cert.AdamwAdaWIdeal.τ).loc Cert.AdamwAdaWIdeal.main_arg2) = m ((c.tc : Thread Cert.AdamwAdaWIdeal.nD Cert.AdamwAdaWIdeal.τ).loc Cert.AdamwAdaWIdeal.main_arg2)
      ∧ r.2.mem ((c.tc : Thread Cert.AdamwAdaWIdeal.nD Cert.AdamwAdaWIdeal.τ).loc Cert.AdamwAdaWIdeal.main_arg3) = m ((c.tc : Thread Cert.AdamwAdaWIdeal.nD Cert.AdamwAdaWIdeal.τ).loc Cert.AdamwAdaWIdeal.main_arg3))
      ∧ r.2.sem = fun _ => 0)

def quiescent_AdamwAdaWRefIdeal [hAdamwAdaWRefIdeal : Cert.AdamwAdaWRefIdeal.Facts] : Prop :=
  ∀ (m : (ℓ : Loc Cert.AdamwAdaWRefIdeal.nD Cert.AdamwAdaWRefIdeal.τ Cert.AdamwAdaWRefIdeal.sig) → Buf (Elt Ideal) ℓ) (g : Dev Cert.AdamwAdaWRefIdeal.nD → PrngReg), Pre_AdamwAdaWRefIdeal m →
    θ_run (Cert.AdamwAdaWRefIdeal.defs (F := Ideal)) (onTc (τ := Cert.AdamwAdaWRefIdeal.τ) (Cert.AdamwAdaWRefIdeal.main (F := Ideal))) ⟨m, fun _ => 0, g⟩ (fun r => (∀ c : Dev Cert.AdamwAdaWRefIdeal.nD,
      r.2.mem ((c.tc : Thread Cert.AdamwAdaWRefIdeal.nD Cert.AdamwAdaWRefIdeal.τ).loc Cert.AdamwAdaWRefIdeal.main_arg0) = m ((c.tc : Thread Cert.AdamwAdaWRefIdeal.nD Cert.AdamwAdaWRefIdeal.τ).loc Cert.AdamwAdaWRefIdeal.main_arg0)
      ∧ r.2.mem ((c.tc : Thread Cert.AdamwAdaWRefIdeal.nD Cert.AdamwAdaWRefIdeal.τ).loc Cert.AdamwAdaWRefIdeal.main_arg1) = m ((c.tc : Thread Cert.AdamwAdaWRefIdeal.nD Cert.AdamwAdaWRefIdeal.τ).loc Cert.AdamwAdaWRefIdeal.main_arg1)
      ∧ r.2.mem ((c.tc : Thread Cert.AdamwAdaWRefIdeal.nD Cert.AdamwAdaWRefIdeal.τ).loc Cert.AdamwAdaWRefIdeal.main_arg2) = m ((c.tc : Thread Cert.AdamwAdaWRefIdeal.nD Cert.AdamwAdaWRefIdeal.τ).loc Cert.AdamwAdaWRefIdeal.main_arg2)
      ∧ r.2.mem ((c.tc : Thread Cert.AdamwAdaWRefIdeal.nD Cert.AdamwAdaWRefIdeal.τ).loc Cert.AdamwAdaWRefIdeal.main_arg3) = m ((c.tc : Thread Cert.AdamwAdaWRefIdeal.nD Cert.AdamwAdaWRefIdeal.τ).loc Cert.AdamwAdaWRefIdeal.main_arg3))
      ∧ r.2.sem = fun _ => 0)

def quiescent_ProjJoin [hProjJoin : Cert.ProjJoin.Facts] : Prop :=
  ∀ (m : (ℓ : Loc Cert.ProjJoin.nD Cert.ProjJoin.τ Cert.ProjJoin.sig) → Buf (Elt Bits) ℓ) (g : Dev Cert.ProjJoin.nD → PrngReg), Pre_ProjJoin m →
    θ_run (Cert.ProjJoin.defs (F := Bits)) (onTc (τ := Cert.ProjJoin.τ) (Cert.ProjJoin.main (F := Bits))) ⟨m, fun _ => 0, g⟩ (fun r => (∀ c : Dev Cert.ProjJoin.nD,
      r.2.mem ((c.tc : Thread Cert.ProjJoin.nD Cert.ProjJoin.τ).loc Cert.ProjJoin.main_arg0) = m ((c.tc : Thread Cert.ProjJoin.nD Cert.ProjJoin.τ).loc Cert.ProjJoin.main_arg0))
      ∧ r.2.sem = fun _ => 0)

def quiescent_ProjJoinIdeal [hProjJoinIdeal : Cert.ProjJoinIdeal.Facts] : Prop :=
  ∀ (m : (ℓ : Loc Cert.ProjJoinIdeal.nD Cert.ProjJoinIdeal.τ Cert.ProjJoinIdeal.sig) → Buf (Elt Ideal) ℓ) (g : Dev Cert.ProjJoinIdeal.nD → PrngReg), Pre_ProjJoinIdeal m →
    θ_run (Cert.ProjJoinIdeal.defs (F := Ideal)) (onTc (τ := Cert.ProjJoinIdeal.τ) (Cert.ProjJoinIdeal.main (F := Ideal))) ⟨m, fun _ => 0, g⟩ (fun r => (∀ c : Dev Cert.ProjJoinIdeal.nD,
      r.2.mem ((c.tc : Thread Cert.ProjJoinIdeal.nD Cert.ProjJoinIdeal.τ).loc Cert.ProjJoinIdeal.main_arg0) = m ((c.tc : Thread Cert.ProjJoinIdeal.nD Cert.ProjJoinIdeal.τ).loc Cert.ProjJoinIdeal.main_arg0))
      ∧ r.2.sem = fun _ => 0)

def quiescent_ProjJoinRefIdeal [hProjJoinRefIdeal : Cert.ProjJoinRefIdeal.Facts] : Prop :=
  ∀ (m : (ℓ : Loc Cert.ProjJoinRefIdeal.nD Cert.ProjJoinRefIdeal.τ Cert.ProjJoinRefIdeal.sig) → Buf (Elt Ideal) ℓ) (g : Dev Cert.ProjJoinRefIdeal.nD → PrngReg), Pre_ProjJoinRefIdeal m →
    θ_run (Cert.ProjJoinRefIdeal.defs (F := Ideal)) (onTc (τ := Cert.ProjJoinRefIdeal.τ) (Cert.ProjJoinRefIdeal.main (F := Ideal))) ⟨m, fun _ => 0, g⟩ (fun r => (∀ c : Dev Cert.ProjJoinRefIdeal.nD,
      r.2.mem ((c.tc : Thread Cert.ProjJoinRefIdeal.nD Cert.ProjJoinRefIdeal.τ).loc Cert.ProjJoinRefIdeal.main_arg0) = m ((c.tc : Thread Cert.ProjJoinRefIdeal.nD Cert.ProjJoinRefIdeal.τ).loc Cert.ProjJoinRefIdeal.main_arg0))
      ∧ r.2.sem = fun _ => 0)

def quiescent_GKa [hGKa : Cert.GKa.Facts] : Prop :=
  ∀ (m : (ℓ : Loc Cert.GKa.nD Cert.GKa.τ Cert.GKa.sig) → Buf (Elt Bits) ℓ) (g : Dev Cert.GKa.nD → PrngReg), Pre_GKa m →
    θ_run (Cert.GKa.defs (F := Bits)) (onTc (τ := Cert.GKa.τ) (Cert.GKa.main (F := Bits))) ⟨m, fun _ => 0, g⟩ (fun r => (∀ c : Dev Cert.GKa.nD,
      r.2.mem ((c.tc : Thread Cert.GKa.nD Cert.GKa.τ).loc Cert.GKa.main_arg0) = m ((c.tc : Thread Cert.GKa.nD Cert.GKa.τ).loc Cert.GKa.main_arg0)
      ∧ r.2.mem ((c.tc : Thread Cert.GKa.nD Cert.GKa.τ).loc Cert.GKa.main_arg1) = m ((c.tc : Thread Cert.GKa.nD Cert.GKa.τ).loc Cert.GKa.main_arg1)
      ∧ r.2.mem ((c.tc : Thread Cert.GKa.nD Cert.GKa.τ).loc Cert.GKa.main_arg2) = m ((c.tc : Thread Cert.GKa.nD Cert.GKa.τ).loc Cert.GKa.main_arg2))
      ∧ r.2.sem = fun _ => 0)

def quiescent_GKaIdeal [hGKaIdeal : Cert.GKaIdeal.Facts] : Prop :=
  ∀ (m : (ℓ : Loc Cert.GKaIdeal.nD Cert.GKaIdeal.τ Cert.GKaIdeal.sig) → Buf (Elt Ideal) ℓ) (g : Dev Cert.GKaIdeal.nD → PrngReg), Pre_GKaIdeal m →
    θ_run (Cert.GKaIdeal.defs (F := Ideal)) (onTc (τ := Cert.GKaIdeal.τ) (Cert.GKaIdeal.main (F := Ideal))) ⟨m, fun _ => 0, g⟩ (fun r => (∀ c : Dev Cert.GKaIdeal.nD,
      r.2.mem ((c.tc : Thread Cert.GKaIdeal.nD Cert.GKaIdeal.τ).loc Cert.GKaIdeal.main_arg0) = m ((c.tc : Thread Cert.GKaIdeal.nD Cert.GKaIdeal.τ).loc Cert.GKaIdeal.main_arg0)
      ∧ r.2.mem ((c.tc : Thread Cert.GKaIdeal.nD Cert.GKaIdeal.τ).loc Cert.GKaIdeal.main_arg1) = m ((c.tc : Thread Cert.GKaIdeal.nD Cert.GKaIdeal.τ).loc Cert.GKaIdeal.main_arg1)
      ∧ r.2.mem ((c.tc : Thread Cert.GKaIdeal.nD Cert.GKaIdeal.τ).loc Cert.GKaIdeal.main_arg2) = m ((c.tc : Thread Cert.GKaIdeal.nD Cert.GKaIdeal.τ).loc Cert.GKaIdeal.main_arg2))
      ∧ r.2.sem = fun _ => 0)

def quiescent_GKaRefIdeal [hGKaRefIdeal : Cert.GKaRefIdeal.Facts] : Prop :=
  ∀ (m : (ℓ : Loc Cert.GKaRefIdeal.nD Cert.GKaRefIdeal.τ Cert.GKaRefIdeal.sig) → Buf (Elt Ideal) ℓ) (g : Dev Cert.GKaRefIdeal.nD → PrngReg), Pre_GKaRefIdeal m →
    θ_run (Cert.GKaRefIdeal.defs (F := Ideal)) (onTc (τ := Cert.GKaRefIdeal.τ) (Cert.GKaRefIdeal.main (F := Ideal))) ⟨m, fun _ => 0, g⟩ (fun r => (∀ c : Dev Cert.GKaRefIdeal.nD,
      r.2.mem ((c.tc : Thread Cert.GKaRefIdeal.nD Cert.GKaRefIdeal.τ).loc Cert.GKaRefIdeal.main_arg0) = m ((c.tc : Thread Cert.GKaRefIdeal.nD Cert.GKaRefIdeal.τ).loc Cert.GKaRefIdeal.main_arg0)
      ∧ r.2.mem ((c.tc : Thread Cert.GKaRefIdeal.nD Cert.GKaRefIdeal.τ).loc Cert.GKaRefIdeal.main_arg1) = m ((c.tc : Thread Cert.GKaRefIdeal.nD Cert.GKaRefIdeal.τ).loc Cert.GKaRefIdeal.main_arg1)
      ∧ r.2.mem ((c.tc : Thread Cert.GKaRefIdeal.nD Cert.GKaRefIdeal.τ).loc Cert.GKaRefIdeal.main_arg2) = m ((c.tc : Thread Cert.GKaRefIdeal.nD Cert.GKaRefIdeal.τ).loc Cert.GKaRefIdeal.main_arg2))
      ∧ r.2.sem = fun _ => 0)

def preserves_CondBwd_CondBwdIdeal : Prop :=
  True

def algebraic_CondBwdIdeal_CondBwdRefIdeal [hCondBwdIdeal : Cert.CondBwdIdeal.Facts] [hCondBwdRefIdeal : Cert.CondBwdRefIdeal.Facts] : Prop :=
  ∀ (m : (ℓ : Loc Cert.CondBwdIdeal.nD Cert.CondBwdIdeal.τ Cert.CondBwdIdeal.sig) → Buf (Elt Ideal) ℓ) (g : Dev Cert.CondBwdIdeal.nD → PrngReg)
    (m' : (ℓ : Loc Cert.CondBwdRefIdeal.nD Cert.CondBwdRefIdeal.τ Cert.CondBwdRefIdeal.sig) → Buf (Elt Ideal) ℓ) (g' : Dev Cert.CondBwdRefIdeal.nD → PrngReg), Pre_CondBwdIdeal m →
    (∀ c : Dev Cert.CondBwdIdeal.nD,
      m' ((c.tc : Thread Cert.CondBwdRefIdeal.nD Cert.CondBwdRefIdeal.τ).loc Cert.CondBwdRefIdeal.main_arg0) = m ((c.tc : Thread Cert.CondBwdIdeal.nD Cert.CondBwdIdeal.τ).loc Cert.CondBwdIdeal.main_arg0)
      ∧ m' ((c.tc : Thread Cert.CondBwdRefIdeal.nD Cert.CondBwdRefIdeal.τ).loc Cert.CondBwdRefIdeal.main_arg1) = m ((c.tc : Thread Cert.CondBwdIdeal.nD Cert.CondBwdIdeal.τ).loc Cert.CondBwdIdeal.main_arg1)
      ∧ m' ((c.tc : Thread Cert.CondBwdRefIdeal.nD Cert.CondBwdRefIdeal.τ).loc Cert.CondBwdRefIdeal.main_arg2) = m ((c.tc : Thread Cert.CondBwdIdeal.nD Cert.CondBwdIdeal.τ).loc Cert.CondBwdIdeal.main_arg2)) →
    ∃ (v0 : (c : Dev Cert.CondBwdIdeal.nD) → Buf (Elt Ideal) ((c.tc : Thread Cert.CondBwdIdeal.nD Cert.CondBwdIdeal.τ).loc Cert.CondBwdIdeal.main_v3)),
      θ_run (Cert.CondBwdIdeal.defs (F := Ideal)) (onTc (τ := Cert.CondBwdIdeal.τ) (Cert.CondBwdIdeal.main (F := Ideal))) ⟨m, fun _ => 0, g⟩ (fun r => ∀ c : Dev Cert.CondBwdIdeal.nD,
          r.2.mem ((c.tc : Thread Cert.CondBwdIdeal.nD Cert.CondBwdIdeal.τ).loc Cert.CondBwdIdeal.main_v3) = v0 c
          ∧ r.2.mem ((c.tc : Thread Cert.CondBwdIdeal.nD Cert.CondBwdIdeal.τ).loc Cert.CondBwdIdeal.main_arg0) = m ((c.tc : Thread Cert.CondBwdIdeal.nD Cert.CondBwdIdeal.τ).loc Cert.CondBwdIdeal.main_arg0)
          ∧ r.2.mem ((c.tc : Thread Cert.CondBwdIdeal.nD Cert.CondBwdIdeal.τ).loc Cert.CondBwdIdeal.main_arg1) = m ((c.tc : Thread Cert.CondBwdIdeal.nD Cert.CondBwdIdeal.τ).loc Cert.CondBwdIdeal.main_arg1)
          ∧ r.2.mem ((c.tc : Thread Cert.CondBwdIdeal.nD Cert.CondBwdIdeal.τ).loc Cert.CondBwdIdeal.main_arg2) = m ((c.tc : Thread Cert.CondBwdIdeal.nD Cert.CondBwdIdeal.τ).loc Cert.CondBwdIdeal.main_arg2))
      ∧ θ_run (Cert.CondBwdRefIdeal.defs (F := Ideal)) (onTc (τ := Cert.CondBwdRefIdeal.τ) (Cert.CondBwdRefIdeal.main (F := Ideal))) ⟨m', fun _ => 0, g'⟩ (fun r => ∀ c : Dev Cert.CondBwdRefIdeal.nD,
          r.2.mem ((c.tc : Thread Cert.CondBwdRefIdeal.nD Cert.CondBwdRefIdeal.τ).loc Cert.CondBwdRefIdeal.main_v4) = v0 c
          ∧ r.2.mem ((c.tc : Thread Cert.CondBwdRefIdeal.nD Cert.CondBwdRefIdeal.τ).loc Cert.CondBwdRefIdeal.main_arg0) = m' ((c.tc : Thread Cert.CondBwdRefIdeal.nD Cert.CondBwdRefIdeal.τ).loc Cert.CondBwdRefIdeal.main_arg0)
          ∧ r.2.mem ((c.tc : Thread Cert.CondBwdRefIdeal.nD Cert.CondBwdRefIdeal.τ).loc Cert.CondBwdRefIdeal.main_arg1) = m' ((c.tc : Thread Cert.CondBwdRefIdeal.nD Cert.CondBwdRefIdeal.τ).loc Cert.CondBwdRefIdeal.main_arg1)
          ∧ r.2.mem ((c.tc : Thread Cert.CondBwdRefIdeal.nD Cert.CondBwdRefIdeal.τ).loc Cert.CondBwdRefIdeal.main_arg2) = m' ((c.tc : Thread Cert.CondBwdRefIdeal.nD Cert.CondBwdRefIdeal.τ).loc Cert.CondBwdRefIdeal.main_arg2))

def preserves_ShiftBwd_ShiftBwdIdeal : Prop :=
  True

def algebraic_ShiftBwdIdeal_ShiftBwdRefIdeal_pre_shift_finite [hShiftBwdIdeal : Cert.ShiftBwdIdeal.Facts] [hShiftBwdRefIdeal : Cert.ShiftBwdRefIdeal.Facts] [hPre_shift_finite : Cert.Pre_shift_finite.Facts] : Prop :=
  ∀ (m : (ℓ : Loc Cert.ShiftBwdIdeal.nD Cert.ShiftBwdIdeal.τ Cert.ShiftBwdIdeal.sig) → Buf (Elt Ideal) ℓ) (g : Dev Cert.ShiftBwdIdeal.nD → PrngReg)
    (m' : (ℓ : Loc Cert.ShiftBwdRefIdeal.nD Cert.ShiftBwdRefIdeal.τ Cert.ShiftBwdRefIdeal.sig) → Buf (Elt Ideal) ℓ) (g' : Dev Cert.ShiftBwdRefIdeal.nD → PrngReg), Pre_ShiftBwdIdeal_shift_finite m →
    (∀ c : Dev Cert.ShiftBwdIdeal.nD,
      m' ((c.tc : Thread Cert.ShiftBwdRefIdeal.nD Cert.ShiftBwdRefIdeal.τ).loc Cert.ShiftBwdRefIdeal.main_arg0) = m ((c.tc : Thread Cert.ShiftBwdIdeal.nD Cert.ShiftBwdIdeal.τ).loc Cert.ShiftBwdIdeal.main_arg0)
      ∧ m' ((c.tc : Thread Cert.ShiftBwdRefIdeal.nD Cert.ShiftBwdRefIdeal.τ).loc Cert.ShiftBwdRefIdeal.main_arg1) = m ((c.tc : Thread Cert.ShiftBwdIdeal.nD Cert.ShiftBwdIdeal.τ).loc Cert.ShiftBwdIdeal.main_arg1)
      ∧ m' ((c.tc : Thread Cert.ShiftBwdRefIdeal.nD Cert.ShiftBwdRefIdeal.τ).loc Cert.ShiftBwdRefIdeal.main_arg2) = m ((c.tc : Thread Cert.ShiftBwdIdeal.nD Cert.ShiftBwdIdeal.τ).loc Cert.ShiftBwdIdeal.main_arg2)
      ∧ m' ((c.tc : Thread Cert.ShiftBwdRefIdeal.nD Cert.ShiftBwdRefIdeal.τ).loc Cert.ShiftBwdRefIdeal.main_arg3) = m ((c.tc : Thread Cert.ShiftBwdIdeal.nD Cert.ShiftBwdIdeal.τ).loc Cert.ShiftBwdIdeal.main_arg3)
      ∧ m' ((c.tc : Thread Cert.ShiftBwdRefIdeal.nD Cert.ShiftBwdRefIdeal.τ).loc Cert.ShiftBwdRefIdeal.main_arg4) = m ((c.tc : Thread Cert.ShiftBwdIdeal.nD Cert.ShiftBwdIdeal.τ).loc Cert.ShiftBwdIdeal.main_arg4)) →
    ∃ (v0 : (c : Dev Cert.ShiftBwdIdeal.nD) → Buf (Elt Ideal) ((c.tc : Thread Cert.ShiftBwdIdeal.nD Cert.ShiftBwdIdeal.τ).loc Cert.ShiftBwdIdeal.main_v0_0)) (v1 : (c : Dev Cert.ShiftBwdIdeal.nD) → Buf (Elt Ideal) ((c.tc : Thread Cert.ShiftBwdIdeal.nD Cert.ShiftBwdIdeal.τ).loc Cert.ShiftBwdIdeal.main_v0_1)),
      θ_run (Cert.ShiftBwdIdeal.defs (F := Ideal)) (onTc (τ := Cert.ShiftBwdIdeal.τ) (Cert.ShiftBwdIdeal.main (F := Ideal))) ⟨m, fun _ => 0, g⟩ (fun r => ∀ c : Dev Cert.ShiftBwdIdeal.nD,
          r.2.mem ((c.tc : Thread Cert.ShiftBwdIdeal.nD Cert.ShiftBwdIdeal.τ).loc Cert.ShiftBwdIdeal.main_v0_0) = v0 c
          ∧ r.2.mem ((c.tc : Thread Cert.ShiftBwdIdeal.nD Cert.ShiftBwdIdeal.τ).loc Cert.ShiftBwdIdeal.main_v0_1) = v1 c
          ∧ r.2.mem ((c.tc : Thread Cert.ShiftBwdIdeal.nD Cert.ShiftBwdIdeal.τ).loc Cert.ShiftBwdIdeal.main_arg0) = m ((c.tc : Thread Cert.ShiftBwdIdeal.nD Cert.ShiftBwdIdeal.τ).loc Cert.ShiftBwdIdeal.main_arg0)
          ∧ r.2.mem ((c.tc : Thread Cert.ShiftBwdIdeal.nD Cert.ShiftBwdIdeal.τ).loc Cert.ShiftBwdIdeal.main_arg1) = m ((c.tc : Thread Cert.ShiftBwdIdeal.nD Cert.ShiftBwdIdeal.τ).loc Cert.ShiftBwdIdeal.main_arg1)
          ∧ r.2.mem ((c.tc : Thread Cert.ShiftBwdIdeal.nD Cert.ShiftBwdIdeal.τ).loc Cert.ShiftBwdIdeal.main_arg2) = m ((c.tc : Thread Cert.ShiftBwdIdeal.nD Cert.ShiftBwdIdeal.τ).loc Cert.ShiftBwdIdeal.main_arg2)
          ∧ r.2.mem ((c.tc : Thread Cert.ShiftBwdIdeal.nD Cert.ShiftBwdIdeal.τ).loc Cert.ShiftBwdIdeal.main_arg3) = m ((c.tc : Thread Cert.ShiftBwdIdeal.nD Cert.ShiftBwdIdeal.τ).loc Cert.ShiftBwdIdeal.main_arg3)
          ∧ r.2.mem ((c.tc : Thread Cert.ShiftBwdIdeal.nD Cert.ShiftBwdIdeal.τ).loc Cert.ShiftBwdIdeal.main_arg4) = m ((c.tc : Thread Cert.ShiftBwdIdeal.nD Cert.ShiftBwdIdeal.τ).loc Cert.ShiftBwdIdeal.main_arg4))
      ∧ θ_run (Cert.ShiftBwdRefIdeal.defs (F := Ideal)) (onTc (τ := Cert.ShiftBwdRefIdeal.τ) (Cert.ShiftBwdRefIdeal.main (F := Ideal))) ⟨m', fun _ => 0, g'⟩ (fun r => ∀ c : Dev Cert.ShiftBwdRefIdeal.nD,
          r.2.mem ((c.tc : Thread Cert.ShiftBwdRefIdeal.nD Cert.ShiftBwdRefIdeal.τ).loc Cert.ShiftBwdRefIdeal.main_v174) = v0 c
          ∧ r.2.mem ((c.tc : Thread Cert.ShiftBwdRefIdeal.nD Cert.ShiftBwdRefIdeal.τ).loc Cert.ShiftBwdRefIdeal.main_v162) = v1 c
          ∧ r.2.mem ((c.tc : Thread Cert.ShiftBwdRefIdeal.nD Cert.ShiftBwdRefIdeal.τ).loc Cert.ShiftBwdRefIdeal.main_arg0) = m' ((c.tc : Thread Cert.ShiftBwdRefIdeal.nD Cert.ShiftBwdRefIdeal.τ).loc Cert.ShiftBwdRefIdeal.main_arg0)
          ∧ r.2.mem ((c.tc : Thread Cert.ShiftBwdRefIdeal.nD Cert.ShiftBwdRefIdeal.τ).loc Cert.ShiftBwdRefIdeal.main_arg1) = m' ((c.tc : Thread Cert.ShiftBwdRefIdeal.nD Cert.ShiftBwdRefIdeal.τ).loc Cert.ShiftBwdRefIdeal.main_arg1)
          ∧ r.2.mem ((c.tc : Thread Cert.ShiftBwdRefIdeal.nD Cert.ShiftBwdRefIdeal.τ).loc Cert.ShiftBwdRefIdeal.main_arg2) = m' ((c.tc : Thread Cert.ShiftBwdRefIdeal.nD Cert.ShiftBwdRefIdeal.τ).loc Cert.ShiftBwdRefIdeal.main_arg2)
          ∧ r.2.mem ((c.tc : Thread Cert.ShiftBwdRefIdeal.nD Cert.ShiftBwdRefIdeal.τ).loc Cert.ShiftBwdRefIdeal.main_arg3) = m' ((c.tc : Thread Cert.ShiftBwdRefIdeal.nD Cert.ShiftBwdRefIdeal.τ).loc Cert.ShiftBwdRefIdeal.main_arg3)
          ∧ r.2.mem ((c.tc : Thread Cert.ShiftBwdRefIdeal.nD Cert.ShiftBwdRefIdeal.τ).loc Cert.ShiftBwdRefIdeal.main_arg4) = m' ((c.tc : Thread Cert.ShiftBwdRefIdeal.nD Cert.ShiftBwdRefIdeal.τ).loc Cert.ShiftBwdRefIdeal.main_arg4))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v1_0)) (v1 : (c : Dev Cert.MergeBwdIdeal.nD) → Buf (Elt Ideal) ((c.tc : Thread Cert.MergeBwdIdeal.nD Cert.MergeBwdIdeal.τ).loc Cert.MergeBwdIdeal.main_v1_1)) (v2 : (c : Dev Cert.MergeBwdIdeal.nD) → Buf (Elt Ideal) ((c.tc : Thread Cert.MergeBwdIdeal.nD Cert.MergeBwdIdeal.τ).loc Cert.MergeBwdIdeal.main_v1_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v1_0) = v0 c
          ∧ r.2.mem ((c.tc : Thread Cert.MergeBwdIdeal.nD Cert.MergeBwdIdeal.τ).loc Cert.MergeBwdIdeal.main_v1_1) = v1 c
          ∧ r.2.mem ((c.tc : Thread Cert.MergeBwdIdeal.nD Cert.MergeBwdIdeal.τ).loc Cert.MergeBwdIdeal.main_v1_2) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v33) = v0 c
          ∧ r.2.mem ((c.tc : Thread Cert.MergeBwdRefIdeal.nD Cert.MergeBwdRefIdeal.τ).loc Cert.MergeBwdRefIdeal.main_v34) = v1 c
          ∧ r.2.mem ((c.tc : Thread Cert.MergeBwdRefIdeal.nD Cert.MergeBwdRefIdeal.τ).loc Cert.MergeBwdRefIdeal.main_v35) = v2 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_HgPostBwd_HgPostBwdIdeal : Prop :=
  True

def algebraic_HgPostBwdIdeal_HgPostBwdRefIdeal [hHgPostBwdIdeal : Cert.HgPostBwdIdeal.Facts] [hHgPostBwdRefIdeal : Cert.HgPostBwdRefIdeal.Facts] : Prop :=
  ∀ (m : (ℓ : Loc Cert.HgPostBwdIdeal.nD Cert.HgPostBwdIdeal.τ Cert.HgPostBwdIdeal.sig) → Buf (Elt Ideal) ℓ) (g : Dev Cert.HgPostBwdIdeal.nD → PrngReg)
    (m' : (ℓ : Loc Cert.HgPostBwdRefIdeal.nD Cert.HgPostBwdRefIdeal.τ Cert.HgPostBwdRefIdeal.sig) → Buf (Elt Ideal) ℓ) (g' : Dev Cert.HgPostBwdRefIdeal.nD → PrngReg), Pre_HgPostBwdIdeal m →
    (∀ c : Dev Cert.HgPostBwdIdeal.nD,
      m' ((c.tc : Thread Cert.HgPostBwdRefIdeal.nD Cert.HgPostBwdRefIdeal.τ).loc Cert.HgPostBwdRefIdeal.main_arg0) = m ((c.tc : Thread Cert.HgPostBwdIdeal.nD Cert.HgPostBwdIdeal.τ).loc Cert.HgPostBwdIdeal.main_arg0)
      ∧ m' ((c.tc : Thread Cert.HgPostBwdRefIdeal.nD Cert.HgPostBwdRefIdeal.τ).loc Cert.HgPostBwdRefIdeal.main_arg1) = m ((c.tc : Thread Cert.HgPostBwdIdeal.nD Cert.HgPostBwdIdeal.τ).loc Cert.HgPostBwdIdeal.main_arg1)
      ∧ m' ((c.tc : Thread Cert.HgPostBwdRefIdeal.nD Cert.HgPostBwdRefIdeal.τ).loc Cert.HgPostBwdRefIdeal.main_arg2) = m ((c.tc : Thread Cert.HgPostBwdIdeal.nD Cert.HgPostBwdIdeal.τ).loc Cert.HgPostBwdIdeal.main_arg2)
      ∧ m' ((c.tc : Thread Cert.HgPostBwdRefIdeal.nD Cert.HgPostBwdRefIdeal.τ).loc Cert.HgPostBwdRefIdeal.main_arg3) = m ((c.tc : Thread Cert.HgPostBwdIdeal.nD Cert.HgPostBwdIdeal.τ).loc Cert.HgPostBwdIdeal.main_arg3)
      ∧ m' ((c.tc : Thread Cert.HgPostBwdRefIdeal.nD Cert.HgPostBwdRefIdeal.τ).loc Cert.HgPostBwdRefIdeal.main_arg4) = m ((c.tc : Thread Cert.HgPostBwdIdeal.nD Cert.HgPostBwdIdeal.τ).loc Cert.HgPostBwdIdeal.main_arg4)) →
    ∃ (v0 : (c : Dev Cert.HgPostBwdIdeal.nD) → Buf (Elt Ideal) ((c.tc : Thread Cert.HgPostBwdIdeal.nD Cert.HgPostBwdIdeal.τ).loc Cert.HgPostBwdIdeal.main_v0_0)) (v1 : (c : Dev Cert.HgPostBwdIdeal.nD) → Buf (Elt Ideal) ((c.tc : Thread Cert.HgPostBwdIdeal.nD Cert.HgPostBwdIdeal.τ).loc Cert.HgPostBwdIdeal.main_v0_1)) (v2 : (c : Dev Cert.HgPostBwdIdeal.nD) → Buf (Elt Ideal) ((c.tc : Thread Cert.HgPostBwdIdeal.nD Cert.HgPostBwdIdeal.τ).loc Cert.HgPostBwdIdeal.main_v0_2)),
      θ_run (Cert.HgPostBwdIdeal.defs (F := Ideal)) (onTc (τ := Cert.HgPostBwdIdeal.τ) (Cert.HgPostBwdIdeal.main (F := Ideal))) ⟨m, fun _ => 0, g⟩ (fun r => ∀ c : Dev Cert.HgPostBwdIdeal.nD,
          r.2.mem ((c.tc : Thread Cert.HgPostBwdIdeal.nD Cert.HgPostBwdIdeal.τ).loc Cert.HgPostBwdIdeal.main_v0_0) = v0 c
          ∧ r.2.mem ((c.tc : Thread Cert.HgPostBwdIdeal.nD Cert.HgPostBwdIdeal.τ).loc Cert.HgPostBwdIdeal.main_v0_1) = v1 c
          ∧ r.2.mem ((c.tc : Thread Cert.HgPostBwdIdeal.nD Cert.HgPostBwdIdeal.τ).loc Cert.HgPostBwdIdeal.main_v0_2) = v2 c
          ∧ r.2.mem ((c.tc : Thread Cert.HgPostBwdIdeal.nD Cert.HgPostBwdIdeal.τ).loc Cert.HgPostBwdIdeal.main_arg0) = m ((c.tc : Thread Cert.HgPostBwdIdeal.nD Cert.HgPostBwdIdeal.τ).loc Cert.HgPostBwdIdeal.main_arg0)
          ∧ r.2.mem ((c.tc : Thread Cert.HgPostBwdIdeal.nD Cert.HgPostBwdIdeal.τ).loc Cert.HgPostBwdIdeal.main_arg1) = m ((c.tc : Thread Cert.HgPostBwdIdeal.nD Cert.HgPostBwdIdeal.τ).loc Cert.HgPostBwdIdeal.main_arg1)
          ∧ r.2.mem ((c.tc : Thread Cert.HgPostBwdIdeal.nD Cert.HgPostBwdIdeal.τ).loc Cert.HgPostBwdIdeal.main_arg2) = m ((c.tc : Thread Cert.HgPostBwdIdeal.nD Cert.HgPostBwdIdeal.τ).loc Cert.HgPostBwdIdeal.main_arg2)
          ∧ r.2.mem ((c.tc : Thread Cert.HgPostBwdIdeal.nD Cert.HgPostBwdIdeal.τ).loc Cert.HgPostBwdIdeal.main_arg3) = m ((c.tc : Thread Cert.HgPostBwdIdeal.nD Cert.HgPostBwdIdeal.τ).loc Cert.HgPostBwdIdeal.main_arg3)
          ∧ r.2.mem ((c.tc : Thread Cert.HgPostBwdIdeal.nD Cert.HgPostBwdIdeal.τ).loc Cert.HgPostBwdIdeal.main_arg4) = m ((c.tc : Thread Cert.HgPostBwdIdeal.nD Cert.HgPostBwdIdeal.τ).loc Cert.HgPostBwdIdeal.main_arg4))
      ∧ θ_run (Cert.HgPostBwdRefIdeal.defs (F := Ideal)) (onTc (τ := Cert.HgPostBwdRefIdeal.τ) (Cert.HgPostBwdRefIdeal.main (F := Ideal))) ⟨m', fun _ => 0, g'⟩ (fun r => ∀ c : Dev Cert.HgPostBwdRefIdeal.nD,
          r.2.mem ((c.tc : Thread Cert.HgPostBwdRefIdeal.nD Cert.HgPostBwdRefIdeal.τ).loc Cert.HgPostBwdRefIdeal.main_v48) = v0 c
          ∧ r.2.mem ((c.tc : Thread Cert.HgPostBwdRefIdeal.nD Cert.HgPostBwdRefIdeal.τ).loc Cert.HgPostBwdRefIdeal.main_v49) = v1 c
          ∧ r.2.mem ((c.tc : Thread Cert.HgPostBwdRefIdeal.nD Cert.HgPostBwdRefIdeal.τ).loc Cert.HgPostBwdRefIdeal.main_v32) = v2 c
          ∧ r.2.mem ((c.tc : Thread Cert.HgPostBwdRefIdeal.nD Cert.HgPostBwdRefIdeal.τ).loc Cert.HgPostBwdRefIdeal.main_arg0) = m' ((c.tc : Thread Cert.HgPostBwdRefIdeal.nD Cert.HgPostBwdRefIdeal.τ).loc Cert.HgPostBwdRefIdeal.main_arg0)
          ∧ r.2.mem ((c.tc : Thread Cert.HgPostBwdRefIdeal.nD Cert.HgPostBwdRefIdeal.τ).loc Cert.HgPostBwdRefIdeal.main_arg1) = m' ((c.tc : Thread Cert.HgPostBwdRefIdeal.nD Cert.HgPostBwdRefIdeal.τ).loc Cert.HgPostBwdRefIdeal.main_arg1)
          ∧ r.2.mem ((c.tc : Thread Cert.HgPostBwdRefIdeal.nD Cert.HgPostBwdRefIdeal.τ).loc Cert.HgPostBwdRefIdeal.main_arg2) = m' ((c.tc : Thread Cert.HgPostBwdRefIdeal.nD Cert.HgPostBwdRefIdeal.τ).loc Cert.HgPostBwdRefIdeal.main_arg2)
          ∧ r.2.mem ((c.tc : Thread Cert.HgPostBwdRefIdeal.nD Cert.HgPostBwdRefIdeal.τ).loc Cert.HgPostBwdRefIdeal.main_arg3) = m' ((c.tc : Thread Cert.HgPostBwdRefIdeal.nD Cert.HgPostBwdRefIdeal.τ).loc Cert.HgPostBwdRefIdeal.main_arg3)
          ∧ r.2.mem ((c.tc : Thread Cert.HgPostBwdRefIdeal.nD Cert.HgPostBwdRefIdeal.τ).loc Cert.HgPostBwdRefIdeal.main_arg4) = m' ((c.tc : Thread Cert.HgPostBwdRefIdeal.nD Cert.HgPostBwdRefIdeal.τ).loc Cert.HgPostBwdRefIdeal.main_arg4))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v2_0)) (v1 : (c : Dev Cert.FinalIdeal.nD) → Buf (Elt Ideal) ((c.tc : Thread Cert.FinalIdeal.nD Cert.FinalIdeal.τ).loc Cert.FinalIdeal.main_v2_1)) (v2 : (c : Dev Cert.FinalIdeal.nD) → Buf (Elt Ideal) ((c.tc : Thread Cert.FinalIdeal.nD Cert.FinalIdeal.τ).loc Cert.FinalIdeal.main_v2_2)) (v3 : (c : Dev Cert.FinalIdeal.nD) → Buf (Elt Ideal) ((c.tc : Thread Cert.FinalIdeal.nD Cert.FinalIdeal.τ).loc Cert.FinalIdeal.main_v2_3)) (v4 : (c : Dev Cert.FinalIdeal.nD) → Buf (Elt Ideal) ((c.tc : Thread Cert.FinalIdeal.nD Cert.FinalIdeal.τ).loc Cert.FinalIdeal.main_v2_4)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2_0) = v0 c
          ∧ r.2.mem ((c.tc : Thread Cert.FinalIdeal.nD Cert.FinalIdeal.τ).loc Cert.FinalIdeal.main_v2_1) = v1 c
          ∧ r.2.mem ((c.tc : Thread Cert.FinalIdeal.nD Cert.FinalIdeal.τ).loc Cert.FinalIdeal.main_v2_2) = v2 c
          ∧ r.2.mem ((c.tc : Thread Cert.FinalIdeal.nD Cert.FinalIdeal.τ).loc Cert.FinalIdeal.main_v2_3) = v3 c
          ∧ r.2.mem ((c.tc : Thread Cert.FinalIdeal.nD Cert.FinalIdeal.τ).loc Cert.FinalIdeal.main_v2_4) = v4 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v68) = v0 c
          ∧ r.2.mem ((c.tc : Thread Cert.FinalRefIdeal.nD Cert.FinalRefIdeal.τ).loc Cert.FinalRefIdeal.main_v69) = v1 c
          ∧ r.2.mem ((c.tc : Thread Cert.FinalRefIdeal.nD Cert.FinalRefIdeal.τ).loc Cert.FinalRefIdeal.main_v70) = v2 c
          ∧ r.2.mem ((c.tc : Thread Cert.FinalRefIdeal.nD Cert.FinalRefIdeal.τ).loc Cert.FinalRefIdeal.main_v66) = v3 c
          ∧ r.2.mem ((c.tc : Thread Cert.FinalRefIdeal.nD Cert.FinalRefIdeal.τ).loc Cert.FinalRefIdeal.main_v71) = v4 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def preserves_HBwd_HBwdIdeal : Prop :=
  True

def algebraic_HBwdIdeal_HBwdRefIdeal [hHBwdIdeal : Cert.HBwdIdeal.Facts] [hHBwdRefIdeal : Cert.HBwdRefIdeal.Facts] : Prop :=
  ∀ (m : (ℓ : Loc Cert.HBwdIdeal.nD Cert.HBwdIdeal.τ Cert.HBwdIdeal.sig) → Buf (Elt Ideal) ℓ) (g : Dev Cert.HBwdIdeal.nD → PrngReg)
    (m' : (ℓ : Loc Cert.HBwdRefIdeal.nD Cert.HBwdRefIdeal.τ Cert.HBwdRefIdeal.sig) → Buf (Elt Ideal) ℓ) (g' : Dev Cert.HBwdRefIdeal.nD → PrngReg), Pre_HBwdIdeal m →
    (∀ c : Dev Cert.HBwdIdeal.nD,
      m' ((c.tc : Thread Cert.HBwdRefIdeal.nD Cert.HBwdRefIdeal.τ).loc Cert.HBwdRefIdeal.main_arg0) = m ((c.tc : Thread Cert.HBwdIdeal.nD Cert.HBwdIdeal.τ).loc Cert.HBwdIdeal.main_arg0)
      ∧ m' ((c.tc : Thread Cert.HBwdRefIdeal.nD Cert.HBwdRefIdeal.τ).loc Cert.HBwdRefIdeal.main_arg1) = m ((c.tc : Thread Cert.HBwdIdeal.nD Cert.HBwdIdeal.τ).loc Cert.HBwdIdeal.main_arg1)
      ∧ m' ((c.tc : Thread Cert.HBwdRefIdeal.nD Cert.HBwdRefIdeal.τ).loc Cert.HBwdRefIdeal.main_arg2) = m ((c.tc : Thread Cert.HBwdIdeal.nD Cert.HBwdIdeal.τ).loc Cert.HBwdIdeal.main_arg2)
      ∧ m' ((c.tc : Thread Cert.HBwdRefIdeal.nD Cert.HBwdRefIdeal.τ).loc Cert.HBwdRefIdeal.main_arg3) = m ((c.tc : Thread Cert.HBwdIdeal.nD Cert.HBwdIdeal.τ).loc Cert.HBwdIdeal.main_arg3)
      ∧ m' ((c.tc : Thread Cert.HBwdRefIdeal.nD Cert.HBwdRefIdeal.τ).loc Cert.HBwdRefIdeal.main_arg4) = m ((c.tc : Thread Cert.HBwdIdeal.nD Cert.HBwdIdeal.τ).loc Cert.HBwdIdeal.main_arg4)
      ∧ m' ((c.tc : Thread Cert.HBwdRefIdeal.nD Cert.HBwdRefIdeal.τ).loc Cert.HBwdRefIdeal.main_arg5) = m ((c.tc : Thread Cert.HBwdIdeal.nD Cert.HBwdIdeal.τ).loc Cert.HBwdIdeal.main_arg5)) →
    ∃ (v0 : (c : Dev Cert.HBwdIdeal.nD) → Buf (Elt Ideal) ((c.tc : Thread Cert.HBwdIdeal.nD Cert.HBwdIdeal.τ).loc Cert.HBwdIdeal.main_v1_0)) (v1 : (c : Dev Cert.HBwdIdeal.nD) → Buf (Elt Ideal) ((c.tc : Thread Cert.HBwdIdeal.nD Cert.HBwdIdeal.τ).loc Cert.HBwdIdeal.main_v1_1)) (v2 : (c : Dev Cert.HBwdIdeal.nD) → Buf (Elt Ideal) ((c.tc : Thread Cert.HBwdIdeal.nD Cert.HBwdIdeal.τ).loc Cert.HBwdIdeal.main_v1_2)),
      θ_run (Cert.HBwdIdeal.defs (F := Ideal)) (onTc (τ := Cert.HBwdIdeal.τ) (Cert.HBwdIdeal.main (F := Ideal))) ⟨m, fun _ => 0, g⟩ (fun r => ∀ c : Dev Cert.HBwdIdeal.nD,
          r.2.mem ((c.tc : Thread Cert.HBwdIdeal.nD Cert.HBwdIdeal.τ).loc Cert.HBwdIdeal.main_v1_0) = v0 c
          ∧ r.2.mem ((c.tc : Thread Cert.HBwdIdeal.nD Cert.HBwdIdeal.τ).loc Cert.HBwdIdeal.main_v1_1) = v1 c
          ∧ r.2.mem ((c.tc : Thread Cert.HBwdIdeal.nD Cert.HBwdIdeal.τ).loc Cert.HBwdIdeal.main_v1_2) = v2 c
          ∧ r.2.mem ((c.tc : Thread Cert.HBwdIdeal.nD Cert.HBwdIdeal.τ).loc Cert.HBwdIdeal.main_arg0) = m ((c.tc : Thread Cert.HBwdIdeal.nD Cert.HBwdIdeal.τ).loc Cert.HBwdIdeal.main_arg0)
          ∧ r.2.mem ((c.tc : Thread Cert.HBwdIdeal.nD Cert.HBwdIdeal.τ).loc Cert.HBwdIdeal.main_arg1) = m ((c.tc : Thread Cert.HBwdIdeal.nD Cert.HBwdIdeal.τ).loc Cert.HBwdIdeal.main_arg1)
          ∧ r.2.mem ((c.tc : Thread Cert.HBwdIdeal.nD Cert.HBwdIdeal.τ).loc Cert.HBwdIdeal.main_arg2) = m ((c.tc : Thread Cert.HBwdIdeal.nD Cert.HBwdIdeal.τ).loc Cert.HBwdIdeal.main_arg2)
          ∧ r.2.mem ((c.tc : Thread Cert.HBwdIdeal.nD Cert.HBwdIdeal.τ).loc Cert.HBwdIdeal.main_arg3) = m ((c.tc : Thread Cert.HBwdIdeal.nD Cert.HBwdIdeal.τ).loc Cert.HBwdIdeal.main_arg3)
          ∧ r.2.mem ((c.tc : Thread Cert.HBwdIdeal.nD Cert.HBwdIdeal.τ).loc Cert.HBwdIdeal.main_arg4) = m ((c.tc : Thread Cert.HBwdIdeal.nD Cert.HBwdIdeal.τ).loc Cert.HBwdIdeal.main_arg4)
          ∧ r.2.mem ((c.tc : Thread Cert.HBwdIdeal.nD Cert.HBwdIdeal.τ).loc Cert.HBwdIdeal.main_arg5) = m ((c.tc : Thread Cert.HBwdIdeal.nD Cert.HBwdIdeal.τ).loc Cert.HBwdIdeal.main_arg5))
      ∧ θ_run (Cert.HBwdRefIdeal.defs (F := Ideal)) (onTc (τ := Cert.HBwdRefIdeal.τ) (Cert.HBwdRefIdeal.main (F := Ideal))) ⟨m', fun _ => 0, g'⟩ (fun r => ∀ c : Dev Cert.HBwdRefIdeal.nD,
          r.2.mem ((c.tc : Thread Cert.HBwdRefIdeal.nD Cert.HBwdRefIdeal.τ).loc Cert.HBwdRefIdeal.main_v134) = v0 c
          ∧ r.2.mem ((c.tc : Thread Cert.HBwdRefIdeal.nD Cert.HBwdRefIdeal.τ).loc Cert.HBwdRefIdeal.main_v113) = v1 c
          ∧ r.2.mem ((c.tc : Thread Cert.HBwdRefIdeal.nD Cert.HBwdRefIdeal.τ).loc Cert.HBwdRefIdeal.main_v132) = v2 c
          ∧ r.2.mem ((c.tc : Thread Cert.HBwdRefIdeal.nD Cert.HBwdRefIdeal.τ).loc Cert.HBwdRefIdeal.main_arg0) = m' ((c.tc : Thread Cert.HBwdRefIdeal.nD Cert.HBwdRefIdeal.τ).loc Cert.HBwdRefIdeal.main_arg0)
          ∧ r.2.mem ((c.tc : Thread Cert.HBwdRefIdeal.nD Cert.HBwdRefIdeal.τ).loc Cert.HBwdRefIdeal.main_arg1) = m' ((c.tc : Thread Cert.HBwdRefIdeal.nD Cert.HBwdRefIdeal.τ).loc Cert.HBwdRefIdeal.main_arg1)
          ∧ r.2.mem ((c.tc : Thread Cert.HBwdRefIdeal.nD Cert.HBwdRefIdeal.τ).loc Cert.HBwdRefIdeal.main_arg2) = m' ((c.tc : Thread Cert.HBwdRefIdeal.nD Cert.HBwdRefIdeal.τ).loc Cert.HBwdRefIdeal.main_arg2)
          ∧ r.2.mem ((c.tc : Thread Cert.HBwdRefIdeal.nD Cert.HBwdRefIdeal.τ).loc Cert.HBwdRefIdeal.main_arg3) = m' ((c.tc : Thread Cert.HBwdRefIdeal.nD Cert.HBwdRefIdeal.τ).loc Cert.HBwdRefIdeal.main_arg3)
          ∧ r.2.mem ((c.tc : Thread Cert.HBwdRefIdeal.nD Cert.HBwdRefIdeal.τ).loc Cert.HBwdRefIdeal.main_arg4) = m' ((c.tc : Thread Cert.HBwdRefIdeal.nD Cert.HBwdRefIdeal.τ).loc Cert.HBwdRefIdeal.main_arg4)
          ∧ r.2.mem ((c.tc : Thread Cert.HBwdRefIdeal.nD Cert.HBwdRefIdeal.τ).loc Cert.HBwdRefIdeal.main_arg5) = m' ((c.tc : Thread Cert.HBwdRefIdeal.nD Cert.HBwdRefIdeal.τ).loc Cert.HBwdRefIdeal.main_arg5))

def preserves_RwPostBwd_RwPostBwdIdeal : Prop :=
  True

def algebraic_RwPostBwdIdeal_RwPostBwdRefIdeal_pre_rw_post_finite [hRwPostBwdIdeal : Cert.RwPostBwdIdeal.Facts] [hRwPostBwdRefIdeal : Cert.RwPostBwdRefIdeal.Facts] [hPre_rw_post_finite : Cert.Pre_rw_post_finite.Facts] : Prop :=
  ∀ (m : (ℓ : Loc Cert.RwPostBwdIdeal.nD Cert.RwPostBwdIdeal.τ Cert.RwPostBwdIdeal.sig) → Buf (Elt Ideal) ℓ) (g : Dev Cert.RwPostBwdIdeal.nD → PrngReg)
    (m' : (ℓ : Loc Cert.RwPostBwdRefIdeal.nD Cert.RwPostBwdRefIdeal.τ Cert.RwPostBwdRefIdeal.sig) → Buf (Elt Ideal) ℓ) (g' : Dev Cert.RwPostBwdRefIdeal.nD → PrngReg), Pre_RwPostBwdIdeal_rw_post_finite m →
    (∀ c : Dev Cert.RwPostBwdIdeal.nD,
      m' ((c.tc : Thread Cert.RwPostBwdRefIdeal.nD Cert.RwPostBwdRefIdeal.τ).loc Cert.RwPostBwdRefIdeal.main_arg0) = m ((c.tc : Thread Cert.RwPostBwdIdeal.nD Cert.RwPostBwdIdeal.τ).loc Cert.RwPostBwdIdeal.main_arg0)
      ∧ m' ((c.tc : Thread Cert.RwPostBwdRefIdeal.nD Cert.RwPostBwdRefIdeal.τ).loc Cert.RwPostBwdRefIdeal.main_arg1) = m ((c.tc : Thread Cert.RwPostBwdIdeal.nD Cert.RwPostBwdIdeal.τ).loc Cert.RwPostBwdIdeal.main_arg1)
      ∧ m' ((c.tc : Thread Cert.RwPostBwdRefIdeal.nD Cert.RwPostBwdRefIdeal.τ).loc Cert.RwPostBwdRefIdeal.main_arg2) = m ((c.tc : Thread Cert.RwPostBwdIdeal.nD Cert.RwPostBwdIdeal.τ).loc Cert.RwPostBwdIdeal.main_arg2)
      ∧ m' ((c.tc : Thread Cert.RwPostBwdRefIdeal.nD Cert.RwPostBwdRefIdeal.τ).loc Cert.RwPostBwdRefIdeal.main_arg3) = m ((c.tc : Thread Cert.RwPostBwdIdeal.nD Cert.RwPostBwdIdeal.τ).loc Cert.RwPostBwdIdeal.main_arg3)
      ∧ m' ((c.tc : Thread Cert.RwPostBwdRefIdeal.nD Cert.RwPostBwdRefIdeal.τ).loc Cert.RwPostBwdRefIdeal.main_arg4) = m ((c.tc : Thread Cert.RwPostBwdIdeal.nD Cert.RwPostBwdIdeal.τ).loc Cert.RwPostBwdIdeal.main_arg4)
      ∧ m' ((c.tc : Thread Cert.RwPostBwdRefIdeal.nD Cert.RwPostBwdRefIdeal.τ).loc Cert.RwPostBwdRefIdeal.main_arg5) = m ((c.tc : Thread Cert.RwPostBwdIdeal.nD Cert.RwPostBwdIdeal.τ).loc Cert.RwPostBwdIdeal.main_arg5)
      ∧ m' ((c.tc : Thread Cert.RwPostBwdRefIdeal.nD Cert.RwPostBwdRefIdeal.τ).loc Cert.RwPostBwdRefIdeal.main_arg6) = m ((c.tc : Thread Cert.RwPostBwdIdeal.nD Cert.RwPostBwdIdeal.τ).loc Cert.RwPostBwdIdeal.main_arg6)
      ∧ m' ((c.tc : Thread Cert.RwPostBwdRefIdeal.nD Cert.RwPostBwdRefIdeal.τ).loc Cert.RwPostBwdRefIdeal.main_arg7) = m ((c.tc : Thread Cert.RwPostBwdIdeal.nD Cert.RwPostBwdIdeal.τ).loc Cert.RwPostBwdIdeal.main_arg7)
      ∧ m' ((c.tc : Thread Cert.RwPostBwdRefIdeal.nD Cert.RwPostBwdRefIdeal.τ).loc Cert.RwPostBwdRefIdeal.main_arg8) = m ((c.tc : Thread Cert.RwPostBwdIdeal.nD Cert.RwPostBwdIdeal.τ).loc Cert.RwPostBwdIdeal.main_arg8)
      ∧ m' ((c.tc : Thread Cert.RwPostBwdRefIdeal.nD Cert.RwPostBwdRefIdeal.τ).loc Cert.RwPostBwdRefIdeal.main_arg9) = m ((c.tc : Thread Cert.RwPostBwdIdeal.nD Cert.RwPostBwdIdeal.τ).loc Cert.RwPostBwdIdeal.main_arg9)
      ∧ m' ((c.tc : Thread Cert.RwPostBwdRefIdeal.nD Cert.RwPostBwdRefIdeal.τ).loc Cert.RwPostBwdRefIdeal.main_arg10) = m ((c.tc : Thread Cert.RwPostBwdIdeal.nD Cert.RwPostBwdIdeal.τ).loc Cert.RwPostBwdIdeal.main_arg10)) →
    ∃ (v0 : (c : Dev Cert.RwPostBwdIdeal.nD) → Buf (Elt Ideal) ((c.tc : Thread Cert.RwPostBwdIdeal.nD Cert.RwPostBwdIdeal.τ).loc Cert.RwPostBwdIdeal.main_v1_0)) (v1 : (c : Dev Cert.RwPostBwdIdeal.nD) → Buf (Elt Ideal) ((c.tc : Thread Cert.RwPostBwdIdeal.nD Cert.RwPostBwdIdeal.τ).loc Cert.RwPostBwdIdeal.main_v1_1)) (v2 : (c : Dev Cert.RwPostBwdIdeal.nD) → Buf (Elt Ideal) ((c.tc : Thread Cert.RwPostBwdIdeal.nD Cert.RwPostBwdIdeal.τ).loc Cert.RwPostBwdIdeal.main_v1_2)) (v3 : (c : Dev Cert.RwPostBwdIdeal.nD) → Buf (Elt Ideal) ((c.tc : Thread Cert.RwPostBwdIdeal.nD Cert.RwPostBwdIdeal.τ).loc Cert.RwPostBwdIdeal.main_v1_3)) (v4 : (c : Dev Cert.RwPostBwdIdeal.nD) → Buf (Elt Ideal) ((c.tc : Thread Cert.RwPostBwdIdeal.nD Cert.RwPostBwdIdeal.τ).loc Cert.RwPostBwdIdeal.main_v1_4)) (v5 : (c : Dev Cert.RwPostBwdIdeal.nD) → Buf (Elt Ideal) ((c.tc : Thread Cert.RwPostBwdIdeal.nD Cert.RwPostBwdIdeal.τ).loc Cert.RwPostBwdIdeal.main_v1_5)) (v6 : (c : Dev Cert.RwPostBwdIdeal.nD) → Buf (Elt Ideal) ((c.tc : Thread Cert.RwPostBwdIdeal.nD Cert.RwPostBwdIdeal.τ).loc Cert.RwPostBwdIdeal.main_v1_6)) (v7 : (c : Dev Cert.RwPostBwdIdeal.nD) → Buf (Elt Ideal) ((c.tc : Thread Cert.RwPostBwdIdeal.nD Cert.RwPostBwdIdeal.τ).loc Cert.RwPostBwdIdeal.main_v1_7)) (v8 : (c : Dev Cert.RwPostBwdIdeal.nD) → Buf (Elt Ideal) ((c.tc : Thread Cert.RwPostBwdIdeal.nD Cert.RwPostBwdIdeal.τ).loc Cert.RwPostBwdIdeal.main_v1_8)),
      θ_run (Cert.RwPostBwdIdeal.defs (F := Ideal)) (onTc (τ := Cert.RwPostBwdIdeal.τ) (Cert.RwPostBwdIdeal.main (F := Ideal))) ⟨m, fun _ => 0, g⟩ (fun r => ∀ c : Dev Cert.RwPostBwdIdeal.nD,
          r.2.mem ((c.tc : Thread Cert.RwPostBwdIdeal.nD Cert.RwPostBwdIdeal.τ).loc Cert.RwPostBwdIdeal.main_v1_0) = v0 c
          ∧ r.2.mem ((c.tc : Thread Cert.RwPostBwdIdeal.nD Cert.RwPostBwdIdeal.τ).loc Cert.RwPostBwdIdeal.main_v1_1) = v1 c
          ∧ r.2.mem ((c.tc : Thread Cert.RwPostBwdIdeal.nD Cert.RwPostBwdIdeal.τ).loc Cert.RwPostBwdIdeal.main_v1_2) = v2 c
          ∧ r.2.mem ((c.tc : Thread Cert.RwPostBwdIdeal.nD Cert.RwPostBwdIdeal.τ).loc Cert.RwPostBwdIdeal.main_v1_3) = v3 c
          ∧ r.2.mem ((c.tc : Thread Cert.RwPostBwdIdeal.nD Cert.RwPostBwdIdeal.τ).loc Cert.RwPostBwdIdeal.main_v1_4) = v4 c
          ∧ r.2.mem ((c.tc : Thread Cert.RwPostBwdIdeal.nD Cert.RwPostBwdIdeal.τ).loc Cert.RwPostBwdIdeal.main_v1_5) = v5 c
          ∧ r.2.mem ((c.tc : Thread Cert.RwPostBwdIdeal.nD Cert.RwPostBwdIdeal.τ).loc Cert.RwPostBwdIdeal.main_v1_6) = v6 c
          ∧ r.2.mem ((c.tc : Thread Cert.RwPostBwdIdeal.nD Cert.RwPostBwdIdeal.τ).loc Cert.RwPostBwdIdeal.main_v1_7) = v7 c
          ∧ r.2.mem ((c.tc : Thread Cert.RwPostBwdIdeal.nD Cert.RwPostBwdIdeal.τ).loc Cert.RwPostBwdIdeal.main_v1_8) = v8 c
          ∧ r.2.mem ((c.tc : Thread Cert.RwPostBwdIdeal.nD Cert.RwPostBwdIdeal.τ).loc Cert.RwPostBwdIdeal.main_arg0) = m ((c.tc : Thread Cert.RwPostBwdIdeal.nD Cert.RwPostBwdIdeal.τ).loc Cert.RwPostBwdIdeal.main_arg0)
          ∧ r.2.mem ((c.tc : Thread Cert.RwPostBwdIdeal.nD Cert.RwPostBwdIdeal.τ).loc Cert.RwPostBwdIdeal.main_arg1) = m ((c.tc : Thread Cert.RwPostBwdIdeal.nD Cert.RwPostBwdIdeal.τ).loc Cert.RwPostBwdIdeal.main_arg1)
          ∧ r.2.mem ((c.tc : Thread Cert.RwPostBwdIdeal.nD Cert.RwPostBwdIdeal.τ).loc Cert.RwPostBwdIdeal.main_arg2) = m ((c.tc : Thread Cert.RwPostBwdIdeal.nD Cert.RwPostBwdIdeal.τ).loc Cert.RwPostBwdIdeal.main_arg2)
          ∧ r.2.mem ((c.tc : Thread Cert.RwPostBwdIdeal.nD Cert.RwPostBwdIdeal.τ).loc Cert.RwPostBwdIdeal.main_arg3) = m ((c.tc : Thread Cert.RwPostBwdIdeal.nD Cert.RwPostBwdIdeal.τ).loc Cert.RwPostBwdIdeal.main_arg3)
          ∧ r.2.mem ((c.tc : Thread Cert.RwPostBwdIdeal.nD Cert.RwPostBwdIdeal.τ).loc Cert.RwPostBwdIdeal.main_arg4) = m ((c.tc : Thread Cert.RwPostBwdIdeal.nD Cert.RwPostBwdIdeal.τ).loc Cert.RwPostBwdIdeal.main_arg4)
          ∧ r.2.mem ((c.tc : Thread Cert.RwPostBwdIdeal.nD Cert.RwPostBwdIdeal.τ).loc Cert.RwPostBwdIdeal.main_arg5) = m ((c.tc : Thread Cert.RwPostBwdIdeal.nD Cert.RwPostBwdIdeal.τ).loc Cert.RwPostBwdIdeal.main_arg5)
          ∧ r.2.mem ((c.tc : Thread Cert.RwPostBwdIdeal.nD Cert.RwPostBwdIdeal.τ).loc Cert.RwPostBwdIdeal.main_arg6) = m ((c.tc : Thread Cert.RwPostBwdIdeal.nD Cert.RwPostBwdIdeal.τ).loc Cert.RwPostBwdIdeal.main_arg6)
          ∧ r.2.mem ((c.tc : Thread Cert.RwPostBwdIdeal.nD Cert.RwPostBwdIdeal.τ).loc Cert.RwPostBwdIdeal.main_arg7) = m ((c.tc : Thread Cert.RwPostBwdIdeal.nD Cert.RwPostBwdIdeal.τ).loc Cert.RwPostBwdIdeal.main_arg7)
          ∧ r.2.mem ((c.tc : Thread Cert.RwPostBwdIdeal.nD Cert.RwPostBwdIdeal.τ).loc Cert.RwPostBwdIdeal.main_arg8) = m ((c.tc : Thread Cert.RwPostBwdIdeal.nD Cert.RwPostBwdIdeal.τ).loc Cert.RwPostBwdIdeal.main_arg8)
          ∧ r.2.mem ((c.tc : Thread Cert.RwPostBwdIdeal.nD Cert.RwPostBwdIdeal.τ).loc Cert.RwPostBwdIdeal.main_arg9) = m ((c.tc : Thread Cert.RwPostBwdIdeal.nD Cert.RwPostBwdIdeal.τ).loc Cert.RwPostBwdIdeal.main_arg9)
          ∧ r.2.mem ((c.tc : Thread Cert.RwPostBwdIdeal.nD Cert.RwPostBwdIdeal.τ).loc Cert.RwPostBwdIdeal.main_arg10) = m ((c.tc : Thread Cert.RwPostBwdIdeal.nD Cert.RwPostBwdIdeal.τ).loc Cert.RwPostBwdIdeal.main_arg10))
      ∧ θ_run (Cert.RwPostBwdRefIdeal.defs (F := Ideal)) (onTc (τ := Cert.RwPostBwdRefIdeal.τ) (Cert.RwPostBwdRefIdeal.main (F := Ideal))) ⟨m', fun _ => 0, g'⟩ (fun r => ∀ c : Dev Cert.RwPostBwdRefIdeal.nD,
          r.2.mem ((c.tc : Thread Cert.RwPostBwdRefIdeal.nD Cert.RwPostBwdRefIdeal.τ).loc Cert.RwPostBwdRefIdeal.main_v215) = v0 c
          ∧ r.2.mem ((c.tc : Thread Cert.RwPostBwdRefIdeal.nD Cert.RwPostBwdRefIdeal.τ).loc Cert.RwPostBwdRefIdeal.main_v223) = v1 c
          ∧ r.2.mem ((c.tc : Thread Cert.RwPostBwdRefIdeal.nD Cert.RwPostBwdRefIdeal.τ).loc Cert.RwPostBwdRefIdeal.main_v224) = v2 c
          ∧ r.2.mem ((c.tc : Thread Cert.RwPostBwdRefIdeal.nD Cert.RwPostBwdRefIdeal.τ).loc Cert.RwPostBwdRefIdeal.main_v214) = v3 c
          ∧ r.2.mem ((c.tc : Thread Cert.RwPostBwdRefIdeal.nD Cert.RwPostBwdRefIdeal.τ).loc Cert.RwPostBwdRefIdeal.main_v208) = v4 c
          ∧ r.2.mem ((c.tc : Thread Cert.RwPostBwdRefIdeal.nD Cert.RwPostBwdRefIdeal.τ).loc Cert.RwPostBwdRefIdeal.main_v225) = v5 c
          ∧ r.2.mem ((c.tc : Thread Cert.RwPostBwdRefIdeal.nD Cert.RwPostBwdRefIdeal.τ).loc Cert.RwPostBwdRefIdeal.main_v226) = v6 c
          ∧ r.2.mem ((c.tc : Thread Cert.RwPostBwdRefIdeal.nD Cert.RwPostBwdRefIdeal.τ).loc Cert.RwPostBwdRefIdeal.main_v227) = v7 c
          ∧ r.2.mem ((c.tc : Thread Cert.RwPostBwdRefIdeal.nD Cert.RwPostBwdRefIdeal.τ).loc Cert.RwPostBwdRefIdeal.main_v228) = v8 c
          ∧ r.2.mem ((c.tc : Thread Cert.RwPostBwdRefIdeal.nD Cert.RwPostBwdRefIdeal.τ).loc Cert.RwPostBwdRefIdeal.main_arg0) = m' ((c.tc : Thread Cert.RwPostBwdRefIdeal.nD Cert.RwPostBwdRefIdeal.τ).loc Cert.RwPostBwdRefIdeal.main_arg0)
          ∧ r.2.mem ((c.tc : Thread Cert.RwPostBwdRefIdeal.nD Cert.RwPostBwdRefIdeal.τ).loc Cert.RwPostBwdRefIdeal.main_arg1) = m' ((c.tc : Thread Cert.RwPostBwdRefIdeal.nD Cert.RwPostBwdRefIdeal.τ).loc Cert.RwPostBwdRefIdeal.main_arg1)
          ∧ r.2.mem ((c.tc : Thread Cert.RwPostBwdRefIdeal.nD Cert.RwPostBwdRefIdeal.τ).loc Cert.RwPostBwdRefIdeal.main_arg2) = m' ((c.tc : Thread Cert.RwPostBwdRefIdeal.nD Cert.RwPostBwdRefIdeal.τ).loc Cert.RwPostBwdRefIdeal.main_arg2)
          ∧ r.2.mem ((c.tc : Thread Cert.RwPostBwdRefIdeal.nD Cert.RwPostBwdRefIdeal.τ).loc Cert.RwPostBwdRefIdeal.main_arg3) = m' ((c.tc : Thread Cert.RwPostBwdRefIdeal.nD Cert.RwPostBwdRefIdeal.τ).loc Cert.RwPostBwdRefIdeal.main_arg3)
          ∧ r.2.mem ((c.tc : Thread Cert.RwPostBwdRefIdeal.nD Cert.RwPostBwdRefIdeal.τ).loc Cert.RwPostBwdRefIdeal.main_arg4) = m' ((c.tc : Thread Cert.RwPostBwdRefIdeal.nD Cert.RwPostBwdRefIdeal.τ).loc Cert.RwPostBwdRefIdeal.main_arg4)
          ∧ r.2.mem ((c.tc : Thread Cert.RwPostBwdRefIdeal.nD Cert.RwPostBwdRefIdeal.τ).loc Cert.RwPostBwdRefIdeal.main_arg5) = m' ((c.tc : Thread Cert.RwPostBwdRefIdeal.nD Cert.RwPostBwdRefIdeal.τ).loc Cert.RwPostBwdRefIdeal.main_arg5)
          ∧ r.2.mem ((c.tc : Thread Cert.RwPostBwdRefIdeal.nD Cert.RwPostBwdRefIdeal.τ).loc Cert.RwPostBwdRefIdeal.main_arg6) = m' ((c.tc : Thread Cert.RwPostBwdRefIdeal.nD Cert.RwPostBwdRefIdeal.τ).loc Cert.RwPostBwdRefIdeal.main_arg6)
          ∧ r.2.mem ((c.tc : Thread Cert.RwPostBwdRefIdeal.nD Cert.RwPostBwdRefIdeal.τ).loc Cert.RwPostBwdRefIdeal.main_arg7) = m' ((c.tc : Thread Cert.RwPostBwdRefIdeal.nD Cert.RwPostBwdRefIdeal.τ).loc Cert.RwPostBwdRefIdeal.main_arg7)
          ∧ r.2.mem ((c.tc : Thread Cert.RwPostBwdRefIdeal.nD Cert.RwPostBwdRefIdeal.τ).loc Cert.RwPostBwdRefIdeal.main_arg8) = m' ((c.tc : Thread Cert.RwPostBwdRefIdeal.nD Cert.RwPostBwdRefIdeal.τ).loc Cert.RwPostBwdRefIdeal.main_arg8)
          ∧ r.2.mem ((c.tc : Thread Cert.RwPostBwdRefIdeal.nD Cert.RwPostBwdRefIdeal.τ).loc Cert.RwPostBwdRefIdeal.main_arg9) = m' ((c.tc : Thread Cert.RwPostBwdRefIdeal.nD Cert.RwPostBwdRefIdeal.τ).loc Cert.RwPostBwdRefIdeal.main_arg9)
          ∧ r.2.mem ((c.tc : Thread Cert.RwPostBwdRefIdeal.nD Cert.RwPostBwdRefIdeal.τ).loc Cert.RwPostBwdRefIdeal.main_arg10) = m' ((c.tc : Thread Cert.RwPostBwdRefIdeal.nD Cert.RwPostBwdRefIdeal.τ).loc Cert.RwPostBwdRefIdeal.main_arg10))

def preserves_HgScanFwd0_HgScanFwd0Ideal : Prop :=
  True

def algebraic_HgScanFwd0Ideal_HgScanFwd0RefIdeal_pre_hg_lb_finite [hHgScanFwd0Ideal : Cert.HgScanFwd0Ideal.Facts] [hHgScanFwd0RefIdeal : Cert.HgScanFwd0RefIdeal.Facts] [hPre_hg_lb_finite : Cert.Pre_hg_lb_finite.Facts] : Prop :=
  ∀ (m : (ℓ : Loc Cert.HgScanFwd0Ideal.nD Cert.HgScanFwd0Ideal.τ Cert.HgScanFwd0Ideal.sig) → Buf (Elt Ideal) ℓ) (g : Dev Cert.HgScanFwd0Ideal.nD → PrngReg)
    (m' : (ℓ : Loc Cert.HgScanFwd0RefIdeal.nD Cert.HgScanFwd0RefIdeal.τ Cert.HgScanFwd0RefIdeal.sig) → Buf (Elt Ideal) ℓ) (g' : Dev Cert.HgScanFwd0RefIdeal.nD → PrngReg), Pre_HgScanFwd0Ideal_hg_lb_finite m →
    (∀ c : Dev Cert.HgScanFwd0Ideal.nD,
      m' ((c.tc : Thread Cert.HgScanFwd0RefIdeal.nD Cert.HgScanFwd0RefIdeal.τ).loc Cert.HgScanFwd0RefIdeal.main_arg0) = m ((c.tc : Thread Cert.HgScanFwd0Ideal.nD Cert.HgScanFwd0Ideal.τ).loc Cert.HgScanFwd0Ideal.main_arg0)
      ∧ m' ((c.tc : Thread Cert.HgScanFwd0RefIdeal.nD Cert.HgScanFwd0RefIdeal.τ).loc Cert.HgScanFwd0RefIdeal.main_arg1) = m ((c.tc : Thread Cert.HgScanFwd0Ideal.nD Cert.HgScanFwd0Ideal.τ).loc Cert.HgScanFwd0Ideal.main_arg1)) →
    ∃ (v0 : (c : Dev Cert.HgScanFwd0Ideal.nD) → Buf (Elt Ideal) ((c.tc : Thread Cert.HgScanFwd0Ideal.nD Cert.HgScanFwd0Ideal.τ).loc Cert.HgScanFwd0Ideal.main_v0_0)) (v1 : (c : Dev Cert.HgScanFwd0Ideal.nD) → Buf (Elt Ideal) ((c.tc : Thread Cert.HgScanFwd0Ideal.nD Cert.HgScanFwd0Ideal.τ).loc Cert.HgScanFwd0Ideal.main_v0_1)),
      θ_run (Cert.HgScanFwd0Ideal.defs (F := Ideal)) (onTc (τ := Cert.HgScanFwd0Ideal.τ) (Cert.HgScanFwd0Ideal.main (F := Ideal))) ⟨m, fun _ => 0, g⟩ (fun r => ∀ c : Dev Cert.HgScanFwd0Ideal.nD,
          r.2.mem ((c.tc : Thread Cert.HgScanFwd0Ideal.nD Cert.HgScanFwd0Ideal.τ).loc Cert.HgScanFwd0Ideal.main_v0_0) = v0 c
          ∧ r.2.mem ((c.tc : Thread Cert.HgScanFwd0Ideal.nD Cert.HgScanFwd0Ideal.τ).loc Cert.HgScanFwd0Ideal.main_v0_1) = v1 c
          ∧ r.2.mem ((c.tc : Thread Cert.HgScanFwd0Ideal.nD Cert.HgScanFwd0Ideal.τ).loc Cert.HgScanFwd0Ideal.main_arg0) = m ((c.tc : Thread Cert.HgScanFwd0Ideal.nD Cert.HgScanFwd0Ideal.τ).loc Cert.HgScanFwd0Ideal.main_arg0)
          ∧ r.2.mem ((c.tc : Thread Cert.HgScanFwd0Ideal.nD Cert.HgScanFwd0Ideal.τ).loc Cert.HgScanFwd0Ideal.main_arg1) = m ((c.tc : Thread Cert.HgScanFwd0Ideal.nD Cert.HgScanFwd0Ideal.τ).loc Cert.HgScanFwd0Ideal.main_arg1))
      ∧ θ_run (Cert.HgScanFwd0RefIdeal.defs (F := Ideal)) (onTc (τ := Cert.HgScanFwd0RefIdeal.τ) (Cert.HgScanFwd0RefIdeal.main (F := Ideal))) ⟨m', fun _ => 0, g'⟩ (fun r => ∀ c : Dev Cert.HgScanFwd0RefIdeal.nD,
          r.2.mem ((c.tc : Thread Cert.HgScanFwd0RefIdeal.nD Cert.HgScanFwd0RefIdeal.τ).loc Cert.HgScanFwd0RefIdeal.main_v55) = v0 c
          ∧ r.2.mem ((c.tc : Thread Cert.HgScanFwd0RefIdeal.nD Cert.HgScanFwd0RefIdeal.τ).loc Cert.HgScanFwd0RefIdeal.main_v57) = v1 c
          ∧ r.2.mem ((c.tc : Thread Cert.HgScanFwd0RefIdeal.nD Cert.HgScanFwd0RefIdeal.τ).loc Cert.HgScanFwd0RefIdeal.main_arg0) = m' ((c.tc : Thread Cert.HgScanFwd0RefIdeal.nD Cert.HgScanFwd0RefIdeal.τ).loc Cert.HgScanFwd0RefIdeal.main_arg0)
          ∧ r.2.mem ((c.tc : Thread Cert.HgScanFwd0RefIdeal.nD Cert.HgScanFwd0RefIdeal.τ).loc Cert.HgScanFwd0RefIdeal.main_arg1) = m' ((c.tc : Thread Cert.HgScanFwd0RefIdeal.nD Cert.HgScanFwd0RefIdeal.τ).loc Cert.HgScanFwd0RefIdeal.main_arg1))

def preserves_HgScanFwd1_HgScanFwd1Ideal : Prop :=
  True

def algebraic_HgScanFwd1Ideal_HgScanFwd1RefIdeal_pre_hg_lb_finite [hHgScanFwd1Ideal : Cert.HgScanFwd1Ideal.Facts] [hHgScanFwd1RefIdeal : Cert.HgScanFwd1RefIdeal.Facts] [hPre_hg_lb_finite : Cert.Pre_hg_lb_finite.Facts] : Prop :=
  ∀ (m : (ℓ : Loc Cert.HgScanFwd1Ideal.nD Cert.HgScanFwd1Ideal.τ Cert.HgScanFwd1Ideal.sig) → Buf (Elt Ideal) ℓ) (g : Dev Cert.HgScanFwd1Ideal.nD → PrngReg)
    (m' : (ℓ : Loc Cert.HgScanFwd1RefIdeal.nD Cert.HgScanFwd1RefIdeal.τ Cert.HgScanFwd1RefIdeal.sig) → Buf (Elt Ideal) ℓ) (g' : Dev Cert.HgScanFwd1RefIdeal.nD → PrngReg), Pre_HgScanFwd1Ideal_hg_lb_finite m →
    (∀ c : Dev Cert.HgScanFwd1Ideal.nD,
      m' ((c.tc : Thread Cert.HgScanFwd1RefIdeal.nD Cert.HgScanFwd1RefIdeal.τ).loc Cert.HgScanFwd1RefIdeal.main_arg0) = m ((c.tc : Thread Cert.HgScanFwd1Ideal.nD Cert.HgScanFwd1Ideal.τ).loc Cert.HgScanFwd1Ideal.main_arg0)
      ∧ m' ((c.tc : Thread Cert.HgScanFwd1RefIdeal.nD Cert.HgScanFwd1RefIdeal.τ).loc Cert.HgScanFwd1RefIdeal.main_arg1) = m ((c.tc : Thread Cert.HgScanFwd1Ideal.nD Cert.HgScanFwd1Ideal.τ).loc Cert.HgScanFwd1Ideal.main_arg1)) →
    ∃ (v0 : (c : Dev Cert.HgScanFwd1Ideal.nD) → Buf (Elt Ideal) ((c.tc : Thread Cert.HgScanFwd1Ideal.nD Cert.HgScanFwd1Ideal.τ).loc Cert.HgScanFwd1Ideal.main_v0_0)) (v1 : (c : Dev Cert.HgScanFwd1Ideal.nD) → Buf (Elt Ideal) ((c.tc : Thread Cert.HgScanFwd1Ideal.nD Cert.HgScanFwd1Ideal.τ).loc Cert.HgScanFwd1Ideal.main_v0_1)),
      θ_run (Cert.HgScanFwd1Ideal.defs (F := Ideal)) (onTc (τ := Cert.HgScanFwd1Ideal.τ) (Cert.HgScanFwd1Ideal.main (F := Ideal))) ⟨m, fun _ => 0, g⟩ (fun r => ∀ c : Dev Cert.HgScanFwd1Ideal.nD,
          r.2.mem ((c.tc : Thread Cert.HgScanFwd1Ideal.nD Cert.HgScanFwd1Ideal.τ).loc Cert.HgScanFwd1Ideal.main_v0_0) = v0 c
          ∧ r.2.mem ((c.tc : Thread Cert.HgScanFwd1Ideal.nD Cert.HgScanFwd1Ideal.τ).loc Cert.HgScanFwd1Ideal.main_v0_1) = v1 c
          ∧ r.2.mem ((c.tc : Thread Cert.HgScanFwd1Ideal.nD Cert.HgScanFwd1Ideal.τ).loc Cert.HgScanFwd1Ideal.main_arg0) = m ((c.tc : Thread Cert.HgScanFwd1Ideal.nD Cert.HgScanFwd1Ideal.τ).loc Cert.HgScanFwd1Ideal.main_arg0)
          ∧ r.2.mem ((c.tc : Thread Cert.HgScanFwd1Ideal.nD Cert.HgScanFwd1Ideal.τ).loc Cert.HgScanFwd1Ideal.main_arg1) = m ((c.tc : Thread Cert.HgScanFwd1Ideal.nD Cert.HgScanFwd1Ideal.τ).loc Cert.HgScanFwd1Ideal.main_arg1))
      ∧ θ_run (Cert.HgScanFwd1RefIdeal.defs (F := Ideal)) (onTc (τ := Cert.HgScanFwd1RefIdeal.τ) (Cert.HgScanFwd1RefIdeal.main (F := Ideal))) ⟨m', fun _ => 0, g'⟩ (fun r => ∀ c : Dev Cert.HgScanFwd1RefIdeal.nD,
          r.2.mem ((c.tc : Thread Cert.HgScanFwd1RefIdeal.nD Cert.HgScanFwd1RefIdeal.τ).loc Cert.HgScanFwd1RefIdeal.main_v80) = v0 c
          ∧ r.2.mem ((c.tc : Thread Cert.HgScanFwd1RefIdeal.nD Cert.HgScanFwd1RefIdeal.τ).loc Cert.HgScanFwd1RefIdeal.main_v82) = v1 c
          ∧ r.2.mem ((c.tc : Thread Cert.HgScanFwd1RefIdeal.nD Cert.HgScanFwd1RefIdeal.τ).loc Cert.HgScanFwd1RefIdeal.main_arg0) = m' ((c.tc : Thread Cert.HgScanFwd1RefIdeal.nD Cert.HgScanFwd1RefIdeal.τ).loc Cert.HgScanFwd1RefIdeal.main_arg0)
          ∧ r.2.mem ((c.tc : Thread Cert.HgScanFwd1RefIdeal.nD Cert.HgScanFwd1RefIdeal.τ).loc Cert.HgScanFwd1RefIdeal.main_arg1) = m' ((c.tc : Thread Cert.HgScanFwd1RefIdeal.nD Cert.HgScanFwd1RefIdeal.τ).loc Cert.HgScanFwd1RefIdeal.main_arg1))

def preserves_CondSilu_CondSiluIdeal : Prop :=
  True

def algebraic_CondSiluIdeal_CondSiluRefIdeal [hCondSiluIdeal : Cert.CondSiluIdeal.Facts] [hCondSiluRefIdeal : Cert.CondSiluRefIdeal.Facts] : Prop :=
  ∀ (m : (ℓ : Loc Cert.CondSiluIdeal.nD Cert.CondSiluIdeal.τ Cert.CondSiluIdeal.sig) → Buf (Elt Ideal) ℓ) (g : Dev Cert.CondSiluIdeal.nD → PrngReg)
    (m' : (ℓ : Loc Cert.CondSiluRefIdeal.nD Cert.CondSiluRefIdeal.τ Cert.CondSiluRefIdeal.sig) → Buf (Elt Ideal) ℓ) (g' : Dev Cert.CondSiluRefIdeal.nD → PrngReg), Pre_CondSiluIdeal m →
    (∀ c : Dev Cert.CondSiluIdeal.nD,
      m' ((c.tc : Thread Cert.CondSiluRefIdeal.nD Cert.CondSiluRefIdeal.τ).loc Cert.CondSiluRefIdeal.main_arg0) = m ((c.tc : Thread Cert.CondSiluIdeal.nD Cert.CondSiluIdeal.τ).loc Cert.CondSiluIdeal.main_arg0)
      ∧ m' ((c.tc : Thread Cert.CondSiluRefIdeal.nD Cert.CondSiluRefIdeal.τ).loc Cert.CondSiluRefIdeal.main_arg1) = m ((c.tc : Thread Cert.CondSiluIdeal.nD Cert.CondSiluIdeal.τ).loc Cert.CondSiluIdeal.main_arg1)) →
    ∃ (v0 : (c : Dev Cert.CondSiluIdeal.nD) → Buf (Elt Ideal) ((c.tc : Thread Cert.CondSiluIdeal.nD Cert.CondSiluIdeal.τ).loc Cert.CondSiluIdeal.main_v3)),
      θ_run (Cert.CondSiluIdeal.defs (F := Ideal)) (onTc (τ := Cert.CondSiluIdeal.τ) (Cert.CondSiluIdeal.main (F := Ideal))) ⟨m, fun _ => 0, g⟩ (fun r => ∀ c : Dev Cert.CondSiluIdeal.nD,
          r.2.mem ((c.tc : Thread Cert.CondSiluIdeal.nD Cert.CondSiluIdeal.τ).loc Cert.CondSiluIdeal.main_v3) = v0 c
          ∧ r.2.mem ((c.tc : Thread Cert.CondSiluIdeal.nD Cert.CondSiluIdeal.τ).loc Cert.CondSiluIdeal.main_arg0) = m ((c.tc : Thread Cert.CondSiluIdeal.nD Cert.CondSiluIdeal.τ).loc Cert.CondSiluIdeal.main_arg0)
          ∧ r.2.mem ((c.tc : Thread Cert.CondSiluIdeal.nD Cert.CondSiluIdeal.τ).loc Cert.CondSiluIdeal.main_arg1) = m ((c.tc : Thread Cert.CondSiluIdeal.nD Cert.CondSiluIdeal.τ).loc Cert.CondSiluIdeal.main_arg1))
      ∧ θ_run (Cert.CondSiluRefIdeal.defs (F := Ideal)) (onTc (τ := Cert.CondSiluRefIdeal.τ) (Cert.CondSiluRefIdeal.main (F := Ideal))) ⟨m', fun _ => 0, g'⟩ (fun r => ∀ c : Dev Cert.CondSiluRefIdeal.nD,
          r.2.mem ((c.tc : Thread Cert.CondSiluRefIdeal.nD Cert.CondSiluRefIdeal.τ).loc Cert.CondSiluRefIdeal.main_v3) = v0 c
          ∧ r.2.mem ((c.tc : Thread Cert.CondSiluRefIdeal.nD Cert.CondSiluRefIdeal.τ).loc Cert.CondSiluRefIdeal.main_arg0) = m' ((c.tc : Thread Cert.CondSiluRefIdeal.nD Cert.CondSiluRefIdeal.τ).loc Cert.CondSiluRefIdeal.main_arg0)
          ∧ r.2.mem ((c.tc : Thread Cert.CondSiluRefIdeal.nD Cert.CondSiluRefIdeal.τ).loc Cert.CondSiluRefIdeal.main_arg1) = m' ((c.tc : Thread Cert.CondSiluRefIdeal.nD Cert.CondSiluRefIdeal.τ).loc Cert.CondSiluRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v18) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_HgPost_HgPostIdeal : Prop :=
  True

def algebraic_HgPostIdeal_HgPostRefIdeal [hHgPostIdeal : Cert.HgPostIdeal.Facts] [hHgPostRefIdeal : Cert.HgPostRefIdeal.Facts] : Prop :=
  ∀ (m : (ℓ : Loc Cert.HgPostIdeal.nD Cert.HgPostIdeal.τ Cert.HgPostIdeal.sig) → Buf (Elt Ideal) ℓ) (g : Dev Cert.HgPostIdeal.nD → PrngReg)
    (m' : (ℓ : Loc Cert.HgPostRefIdeal.nD Cert.HgPostRefIdeal.τ Cert.HgPostRefIdeal.sig) → Buf (Elt Ideal) ℓ) (g' : Dev Cert.HgPostRefIdeal.nD → PrngReg), Pre_HgPostIdeal m →
    (∀ c : Dev Cert.HgPostIdeal.nD,
      m' ((c.tc : Thread Cert.HgPostRefIdeal.nD Cert.HgPostRefIdeal.τ).loc Cert.HgPostRefIdeal.main_arg0) = m ((c.tc : Thread Cert.HgPostIdeal.nD Cert.HgPostIdeal.τ).loc Cert.HgPostIdeal.main_arg0)
      ∧ m' ((c.tc : Thread Cert.HgPostRefIdeal.nD Cert.HgPostRefIdeal.τ).loc Cert.HgPostRefIdeal.main_arg1) = m ((c.tc : Thread Cert.HgPostIdeal.nD Cert.HgPostIdeal.τ).loc Cert.HgPostIdeal.main_arg1)
      ∧ m' ((c.tc : Thread Cert.HgPostRefIdeal.nD Cert.HgPostRefIdeal.τ).loc Cert.HgPostRefIdeal.main_arg2) = m ((c.tc : Thread Cert.HgPostIdeal.nD Cert.HgPostIdeal.τ).loc Cert.HgPostIdeal.main_arg2)
      ∧ m' ((c.tc : Thread Cert.HgPostRefIdeal.nD Cert.HgPostRefIdeal.τ).loc Cert.HgPostRefIdeal.main_arg3) = m ((c.tc : Thread Cert.HgPostIdeal.nD Cert.HgPostIdeal.τ).loc Cert.HgPostIdeal.main_arg3)) →
    ∃ (v0 : (c : Dev Cert.HgPostIdeal.nD) → Buf (Elt Ideal) ((c.tc : Thread Cert.HgPostIdeal.nD Cert.HgPostIdeal.τ).loc Cert.HgPostIdeal.main_v0)),
      θ_run (Cert.HgPostIdeal.defs (F := Ideal)) (onTc (τ := Cert.HgPostIdeal.τ) (Cert.HgPostIdeal.main (F := Ideal))) ⟨m, fun _ => 0, g⟩ (fun r => ∀ c : Dev Cert.HgPostIdeal.nD,
          r.2.mem ((c.tc : Thread Cert.HgPostIdeal.nD Cert.HgPostIdeal.τ).loc Cert.HgPostIdeal.main_v0) = v0 c
          ∧ r.2.mem ((c.tc : Thread Cert.HgPostIdeal.nD Cert.HgPostIdeal.τ).loc Cert.HgPostIdeal.main_arg0) = m ((c.tc : Thread Cert.HgPostIdeal.nD Cert.HgPostIdeal.τ).loc Cert.HgPostIdeal.main_arg0)
          ∧ r.2.mem ((c.tc : Thread Cert.HgPostIdeal.nD Cert.HgPostIdeal.τ).loc Cert.HgPostIdeal.main_arg1) = m ((c.tc : Thread Cert.HgPostIdeal.nD Cert.HgPostIdeal.τ).loc Cert.HgPostIdeal.main_arg1)
          ∧ r.2.mem ((c.tc : Thread Cert.HgPostIdeal.nD Cert.HgPostIdeal.τ).loc Cert.HgPostIdeal.main_arg2) = m ((c.tc : Thread Cert.HgPostIdeal.nD Cert.HgPostIdeal.τ).loc Cert.HgPostIdeal.main_arg2)
          ∧ r.2.mem ((c.tc : Thread Cert.HgPostIdeal.nD Cert.HgPostIdeal.τ).loc Cert.HgPostIdeal.main_arg3) = m ((c.tc : Thread Cert.HgPostIdeal.nD Cert.HgPostIdeal.τ).loc Cert.HgPostIdeal.main_arg3))
      ∧ θ_run (Cert.HgPostRefIdeal.defs (F := Ideal)) (onTc (τ := Cert.HgPostRefIdeal.τ) (Cert.HgPostRefIdeal.main (F := Ideal))) ⟨m', fun _ => 0, g'⟩ (fun r => ∀ c : Dev Cert.HgPostRefIdeal.nD,
          r.2.mem ((c.tc : Thread Cert.HgPostRefIdeal.nD Cert.HgPostRefIdeal.τ).loc Cert.HgPostRefIdeal.main_v20) = v0 c
          ∧ r.2.mem ((c.tc : Thread Cert.HgPostRefIdeal.nD Cert.HgPostRefIdeal.τ).loc Cert.HgPostRefIdeal.main_arg0) = m' ((c.tc : Thread Cert.HgPostRefIdeal.nD Cert.HgPostRefIdeal.τ).loc Cert.HgPostRefIdeal.main_arg0)
          ∧ r.2.mem ((c.tc : Thread Cert.HgPostRefIdeal.nD Cert.HgPostRefIdeal.τ).loc Cert.HgPostRefIdeal.main_arg1) = m' ((c.tc : Thread Cert.HgPostRefIdeal.nD Cert.HgPostRefIdeal.τ).loc Cert.HgPostRefIdeal.main_arg1)
          ∧ r.2.mem ((c.tc : Thread Cert.HgPostRefIdeal.nD Cert.HgPostRefIdeal.τ).loc Cert.HgPostRefIdeal.main_arg2) = m' ((c.tc : Thread Cert.HgPostRefIdeal.nD Cert.HgPostRefIdeal.τ).loc Cert.HgPostRefIdeal.main_arg2)
          ∧ r.2.mem ((c.tc : Thread Cert.HgPostRefIdeal.nD Cert.HgPostRefIdeal.τ).loc Cert.HgPostRefIdeal.main_arg3) = m' ((c.tc : Thread Cert.HgPostRefIdeal.nD Cert.HgPostRefIdeal.τ).loc Cert.HgPostRefIdeal.main_arg3))

def preserves_HFwd_HFwdIdeal : Prop :=
  True

def algebraic_HFwdIdeal_HFwdRefIdeal [hHFwdIdeal : Cert.HFwdIdeal.Facts] [hHFwdRefIdeal : Cert.HFwdRefIdeal.Facts] : Prop :=
  ∀ (m : (ℓ : Loc Cert.HFwdIdeal.nD Cert.HFwdIdeal.τ Cert.HFwdIdeal.sig) → Buf (Elt Ideal) ℓ) (g : Dev Cert.HFwdIdeal.nD → PrngReg)
    (m' : (ℓ : Loc Cert.HFwdRefIdeal.nD Cert.HFwdRefIdeal.τ Cert.HFwdRefIdeal.sig) → Buf (Elt Ideal) ℓ) (g' : Dev Cert.HFwdRefIdeal.nD → PrngReg), Pre_HFwdIdeal m →
    (∀ c : Dev Cert.HFwdIdeal.nD,
      m' ((c.tc : Thread Cert.HFwdRefIdeal.nD Cert.HFwdRefIdeal.τ).loc Cert.HFwdRefIdeal.main_arg0) = m ((c.tc : Thread Cert.HFwdIdeal.nD Cert.HFwdIdeal.τ).loc Cert.HFwdIdeal.main_arg0)
      ∧ m' ((c.tc : Thread Cert.HFwdRefIdeal.nD Cert.HFwdRefIdeal.τ).loc Cert.HFwdRefIdeal.main_arg1) = m ((c.tc : Thread Cert.HFwdIdeal.nD Cert.HFwdIdeal.τ).loc Cert.HFwdIdeal.main_arg1)
      ∧ m' ((c.tc : Thread Cert.HFwdRefIdeal.nD Cert.HFwdRefIdeal.τ).loc Cert.HFwdRefIdeal.main_arg2) = m ((c.tc : Thread Cert.HFwdIdeal.nD Cert.HFwdIdeal.τ).loc Cert.HFwdIdeal.main_arg2)
      ∧ m' ((c.tc : Thread Cert.HFwdRefIdeal.nD Cert.HFwdRefIdeal.τ).loc Cert.HFwdRefIdeal.main_arg3) = m ((c.tc : Thread Cert.HFwdIdeal.nD Cert.HFwdIdeal.τ).loc Cert.HFwdIdeal.main_arg3)) →
    ∃ (v0 : (c : Dev Cert.HFwdIdeal.nD) → Buf (Elt Ideal) ((c.tc : Thread Cert.HFwdIdeal.nD Cert.HFwdIdeal.τ).loc Cert.HFwdIdeal.main_v1)),
      θ_run (Cert.HFwdIdeal.defs (F := Ideal)) (onTc (τ := Cert.HFwdIdeal.τ) (Cert.HFwdIdeal.main (F := Ideal))) ⟨m, fun _ => 0, g⟩ (fun r => ∀ c : Dev Cert.HFwdIdeal.nD,
          r.2.mem ((c.tc : Thread Cert.HFwdIdeal.nD Cert.HFwdIdeal.τ).loc Cert.HFwdIdeal.main_v1) = v0 c
          ∧ r.2.mem ((c.tc : Thread Cert.HFwdIdeal.nD Cert.HFwdIdeal.τ).loc Cert.HFwdIdeal.main_arg0) = m ((c.tc : Thread Cert.HFwdIdeal.nD Cert.HFwdIdeal.τ).loc Cert.HFwdIdeal.main_arg0)
          ∧ r.2.mem ((c.tc : Thread Cert.HFwdIdeal.nD Cert.HFwdIdeal.τ).loc Cert.HFwdIdeal.main_arg1) = m ((c.tc : Thread Cert.HFwdIdeal.nD Cert.HFwdIdeal.τ).loc Cert.HFwdIdeal.main_arg1)
          ∧ r.2.mem ((c.tc : Thread Cert.HFwdIdeal.nD Cert.HFwdIdeal.τ).loc Cert.HFwdIdeal.main_arg2) = m ((c.tc : Thread Cert.HFwdIdeal.nD Cert.HFwdIdeal.τ).loc Cert.HFwdIdeal.main_arg2)
          ∧ r.2.mem ((c.tc : Thread Cert.HFwdIdeal.nD Cert.HFwdIdeal.τ).loc Cert.HFwdIdeal.main_arg3) = m ((c.tc : Thread Cert.HFwdIdeal.nD Cert.HFwdIdeal.τ).loc Cert.HFwdIdeal.main_arg3))
      ∧ θ_run (Cert.HFwdRefIdeal.defs (F := Ideal)) (onTc (τ := Cert.HFwdRefIdeal.τ) (Cert.HFwdRefIdeal.main (F := Ideal))) ⟨m', fun _ => 0, g'⟩ (fun r => ∀ c : Dev Cert.HFwdRefIdeal.nD,
          r.2.mem ((c.tc : Thread Cert.HFwdRefIdeal.nD Cert.HFwdRefIdeal.τ).loc Cert.HFwdRefIdeal.main_v55) = v0 c
          ∧ r.2.mem ((c.tc : Thread Cert.HFwdRefIdeal.nD Cert.HFwdRefIdeal.τ).loc Cert.HFwdRefIdeal.main_arg0) = m' ((c.tc : Thread Cert.HFwdRefIdeal.nD Cert.HFwdRefIdeal.τ).loc Cert.HFwdRefIdeal.main_arg0)
          ∧ r.2.mem ((c.tc : Thread Cert.HFwdRefIdeal.nD Cert.HFwdRefIdeal.τ).loc Cert.HFwdRefIdeal.main_arg1) = m' ((c.tc : Thread Cert.HFwdRefIdeal.nD Cert.HFwdRefIdeal.τ).loc Cert.HFwdRefIdeal.main_arg1)
          ∧ r.2.mem ((c.tc : Thread Cert.HFwdRefIdeal.nD Cert.HFwdRefIdeal.τ).loc Cert.HFwdRefIdeal.main_arg2) = m' ((c.tc : Thread Cert.HFwdRefIdeal.nD Cert.HFwdRefIdeal.τ).loc Cert.HFwdRefIdeal.main_arg2)
          ∧ r.2.mem ((c.tc : Thread Cert.HFwdRefIdeal.nD Cert.HFwdRefIdeal.τ).loc Cert.HFwdRefIdeal.main_arg3) = m' ((c.tc : Thread Cert.HFwdRefIdeal.nD Cert.HFwdRefIdeal.τ).loc Cert.HFwdRefIdeal.main_arg3))

def preserves_RwShift_RwShiftIdeal : Prop :=
  True

def algebraic_RwShiftIdeal_RwShiftRefIdeal [hRwShiftIdeal : Cert.RwShiftIdeal.Facts] [hRwShiftRefIdeal : Cert.RwShiftRefIdeal.Facts] : Prop :=
  ∀ (m : (ℓ : Loc Cert.RwShiftIdeal.nD Cert.RwShiftIdeal.τ Cert.RwShiftIdeal.sig) → Buf (Elt Ideal) ℓ) (g : Dev Cert.RwShiftIdeal.nD → PrngReg)
    (m' : (ℓ : Loc Cert.RwShiftRefIdeal.nD Cert.RwShiftRefIdeal.τ Cert.RwShiftRefIdeal.sig) → Buf (Elt Ideal) ℓ) (g' : Dev Cert.RwShiftRefIdeal.nD → PrngReg), Pre_RwShiftIdeal m →
    (∀ c : Dev Cert.RwShiftIdeal.nD,
      m' ((c.tc : Thread Cert.RwShiftRefIdeal.nD Cert.RwShiftRefIdeal.τ).loc Cert.RwShiftRefIdeal.main_arg0) = m ((c.tc : Thread Cert.RwShiftIdeal.nD Cert.RwShiftIdeal.τ).loc Cert.RwShiftIdeal.main_arg0)
      ∧ m' ((c.tc : Thread Cert.RwShiftRefIdeal.nD Cert.RwShiftRefIdeal.τ).loc Cert.RwShiftRefIdeal.main_arg1) = m ((c.tc : Thread Cert.RwShiftIdeal.nD Cert.RwShiftIdeal.τ).loc Cert.RwShiftIdeal.main_arg1)) →
    ∃ (v0 : (c : Dev Cert.RwShiftIdeal.nD) → Buf (Elt Ideal) ((c.tc : Thread Cert.RwShiftIdeal.nD Cert.RwShiftIdeal.τ).loc Cert.RwShiftIdeal.main_v0)),
      θ_run (Cert.RwShiftIdeal.defs (F := Ideal)) (onTc (τ := Cert.RwShiftIdeal.τ) (Cert.RwShiftIdeal.main (F := Ideal))) ⟨m, fun _ => 0, g⟩ (fun r => ∀ c : Dev Cert.RwShiftIdeal.nD,
          r.2.mem ((c.tc : Thread Cert.RwShiftIdeal.nD Cert.RwShiftIdeal.τ).loc Cert.RwShiftIdeal.main_v0) = v0 c
          ∧ r.2.mem ((c.tc : Thread Cert.RwShiftIdeal.nD Cert.RwShiftIdeal.τ).loc Cert.RwShiftIdeal.main_arg0) = m ((c.tc : Thread Cert.RwShiftIdeal.nD Cert.RwShiftIdeal.τ).loc Cert.RwShiftIdeal.main_arg0)
          ∧ r.2.mem ((c.tc : Thread Cert.RwShiftIdeal.nD Cert.RwShiftIdeal.τ).loc Cert.RwShiftIdeal.main_arg1) = m ((c.tc : Thread Cert.RwShiftIdeal.nD Cert.RwShiftIdeal.τ).loc Cert.RwShiftIdeal.main_arg1))
      ∧ θ_run (Cert.RwShiftRefIdeal.defs (F := Ideal)) (onTc (τ := Cert.RwShiftRefIdeal.τ) (Cert.RwShiftRefIdeal.main (F := Ideal))) ⟨m', fun _ => 0, g'⟩ (fun r => ∀ c : Dev Cert.RwShiftRefIdeal.nD,
          r.2.mem ((c.tc : Thread Cert.RwShiftRefIdeal.nD Cert.RwShiftRefIdeal.τ).loc Cert.RwShiftRefIdeal.main_v67) = v0 c
          ∧ r.2.mem ((c.tc : Thread Cert.RwShiftRefIdeal.nD Cert.RwShiftRefIdeal.τ).loc Cert.RwShiftRefIdeal.main_arg0) = m' ((c.tc : Thread Cert.RwShiftRefIdeal.nD Cert.RwShiftRefIdeal.τ).loc Cert.RwShiftRefIdeal.main_arg0)
          ∧ r.2.mem ((c.tc : Thread Cert.RwShiftRefIdeal.nD Cert.RwShiftRefIdeal.τ).loc Cert.RwShiftRefIdeal.main_arg1) = m' ((c.tc : Thread Cert.RwShiftRefIdeal.nD Cert.RwShiftRefIdeal.τ).loc Cert.RwShiftRefIdeal.main_arg1))

def preserves_RwPost_RwPostIdeal : Prop :=
  True

def algebraic_RwPostIdeal_RwPostRefIdeal_pre_rw_bonus_finite [hRwPostIdeal : Cert.RwPostIdeal.Facts] [hRwPostRefIdeal : Cert.RwPostRefIdeal.Facts] [hPre_rw_bonus_finite : Cert.Pre_rw_bonus_finite.Facts] : Prop :=
  ∀ (m : (ℓ : Loc Cert.RwPostIdeal.nD Cert.RwPostIdeal.τ Cert.RwPostIdeal.sig) → Buf (Elt Ideal) ℓ) (g : Dev Cert.RwPostIdeal.nD → PrngReg)
    (m' : (ℓ : Loc Cert.RwPostRefIdeal.nD Cert.RwPostRefIdeal.τ Cert.RwPostRefIdeal.sig) → Buf (Elt Ideal) ℓ) (g' : Dev Cert.RwPostRefIdeal.nD → PrngReg), Pre_RwPostIdeal_rw_bonus_finite m →
    (∀ c : Dev Cert.RwPostIdeal.nD,
      m' ((c.tc : Thread Cert.RwPostRefIdeal.nD Cert.RwPostRefIdeal.τ).loc Cert.RwPostRefIdeal.main_arg0) = m ((c.tc : Thread Cert.RwPostIdeal.nD Cert.RwPostIdeal.τ).loc Cert.RwPostIdeal.main_arg0)
      ∧ m' ((c.tc : Thread Cert.RwPostRefIdeal.nD Cert.RwPostRefIdeal.τ).loc Cert.RwPostRefIdeal.main_arg1) = m ((c.tc : Thread Cert.RwPostIdeal.nD Cert.RwPostIdeal.τ).loc Cert.RwPostIdeal.main_arg1)
      ∧ m' ((c.tc : Thread Cert.RwPostRefIdeal.nD Cert.RwPostRefIdeal.τ).loc Cert.RwPostRefIdeal.main_arg2) = m ((c.tc : Thread Cert.RwPostIdeal.nD Cert.RwPostIdeal.τ).loc Cert.RwPostIdeal.main_arg2)
      ∧ m' ((c.tc : Thread Cert.RwPostRefIdeal.nD Cert.RwPostRefIdeal.τ).loc Cert.RwPostRefIdeal.main_arg3) = m ((c.tc : Thread Cert.RwPostIdeal.nD Cert.RwPostIdeal.τ).loc Cert.RwPostIdeal.main_arg3)
      ∧ m' ((c.tc : Thread Cert.RwPostRefIdeal.nD Cert.RwPostRefIdeal.τ).loc Cert.RwPostRefIdeal.main_arg4) = m ((c.tc : Thread Cert.RwPostIdeal.nD Cert.RwPostIdeal.τ).loc Cert.RwPostIdeal.main_arg4)
      ∧ m' ((c.tc : Thread Cert.RwPostRefIdeal.nD Cert.RwPostRefIdeal.τ).loc Cert.RwPostRefIdeal.main_arg5) = m ((c.tc : Thread Cert.RwPostIdeal.nD Cert.RwPostIdeal.τ).loc Cert.RwPostIdeal.main_arg5)
      ∧ m' ((c.tc : Thread Cert.RwPostRefIdeal.nD Cert.RwPostRefIdeal.τ).loc Cert.RwPostRefIdeal.main_arg6) = m ((c.tc : Thread Cert.RwPostIdeal.nD Cert.RwPostIdeal.τ).loc Cert.RwPostIdeal.main_arg6)
      ∧ m' ((c.tc : Thread Cert.RwPostRefIdeal.nD Cert.RwPostRefIdeal.τ).loc Cert.RwPostRefIdeal.main_arg7) = m ((c.tc : Thread Cert.RwPostIdeal.nD Cert.RwPostIdeal.τ).loc Cert.RwPostIdeal.main_arg7)
      ∧ m' ((c.tc : Thread Cert.RwPostRefIdeal.nD Cert.RwPostRefIdeal.τ).loc Cert.RwPostRefIdeal.main_arg8) = m ((c.tc : Thread Cert.RwPostIdeal.nD Cert.RwPostIdeal.τ).loc Cert.RwPostIdeal.main_arg8)
      ∧ m' ((c.tc : Thread Cert.RwPostRefIdeal.nD Cert.RwPostRefIdeal.τ).loc Cert.RwPostRefIdeal.main_arg9) = m ((c.tc : Thread Cert.RwPostIdeal.nD Cert.RwPostIdeal.τ).loc Cert.RwPostIdeal.main_arg9)) →
    ∃ (v0 : (c : Dev Cert.RwPostIdeal.nD) → Buf (Elt Ideal) ((c.tc : Thread Cert.RwPostIdeal.nD Cert.RwPostIdeal.τ).loc Cert.RwPostIdeal.main_v1)),
      θ_run (Cert.RwPostIdeal.defs (F := Ideal)) (onTc (τ := Cert.RwPostIdeal.τ) (Cert.RwPostIdeal.main (F := Ideal))) ⟨m, fun _ => 0, g⟩ (fun r => ∀ c : Dev Cert.RwPostIdeal.nD,
          r.2.mem ((c.tc : Thread Cert.RwPostIdeal.nD Cert.RwPostIdeal.τ).loc Cert.RwPostIdeal.main_v1) = v0 c
          ∧ r.2.mem ((c.tc : Thread Cert.RwPostIdeal.nD Cert.RwPostIdeal.τ).loc Cert.RwPostIdeal.main_arg0) = m ((c.tc : Thread Cert.RwPostIdeal.nD Cert.RwPostIdeal.τ).loc Cert.RwPostIdeal.main_arg0)
          ∧ r.2.mem ((c.tc : Thread Cert.RwPostIdeal.nD Cert.RwPostIdeal.τ).loc Cert.RwPostIdeal.main_arg1) = m ((c.tc : Thread Cert.RwPostIdeal.nD Cert.RwPostIdeal.τ).loc Cert.RwPostIdeal.main_arg1)
          ∧ r.2.mem ((c.tc : Thread Cert.RwPostIdeal.nD Cert.RwPostIdeal.τ).loc Cert.RwPostIdeal.main_arg2) = m ((c.tc : Thread Cert.RwPostIdeal.nD Cert.RwPostIdeal.τ).loc Cert.RwPostIdeal.main_arg2)
          ∧ r.2.mem ((c.tc : Thread Cert.RwPostIdeal.nD Cert.RwPostIdeal.τ).loc Cert.RwPostIdeal.main_arg3) = m ((c.tc : Thread Cert.RwPostIdeal.nD Cert.RwPostIdeal.τ).loc Cert.RwPostIdeal.main_arg3)
          ∧ r.2.mem ((c.tc : Thread Cert.RwPostIdeal.nD Cert.RwPostIdeal.τ).loc Cert.RwPostIdeal.main_arg4) = m ((c.tc : Thread Cert.RwPostIdeal.nD Cert.RwPostIdeal.τ).loc Cert.RwPostIdeal.main_arg4)
          ∧ r.2.mem ((c.tc : Thread Cert.RwPostIdeal.nD Cert.RwPostIdeal.τ).loc Cert.RwPostIdeal.main_arg5) = m ((c.tc : Thread Cert.RwPostIdeal.nD Cert.RwPostIdeal.τ).loc Cert.RwPostIdeal.main_arg5)
          ∧ r.2.mem ((c.tc : Thread Cert.RwPostIdeal.nD Cert.RwPostIdeal.τ).loc Cert.RwPostIdeal.main_arg6) = m ((c.tc : Thread Cert.RwPostIdeal.nD Cert.RwPostIdeal.τ).loc Cert.RwPostIdeal.main_arg6)
          ∧ r.2.mem ((c.tc : Thread Cert.RwPostIdeal.nD Cert.RwPostIdeal.τ).loc Cert.RwPostIdeal.main_arg7) = m ((c.tc : Thread Cert.RwPostIdeal.nD Cert.RwPostIdeal.τ).loc Cert.RwPostIdeal.main_arg7)
          ∧ r.2.mem ((c.tc : Thread Cert.RwPostIdeal.nD Cert.RwPostIdeal.τ).loc Cert.RwPostIdeal.main_arg8) = m ((c.tc : Thread Cert.RwPostIdeal.nD Cert.RwPostIdeal.τ).loc Cert.RwPostIdeal.main_arg8)
          ∧ r.2.mem ((c.tc : Thread Cert.RwPostIdeal.nD Cert.RwPostIdeal.τ).loc Cert.RwPostIdeal.main_arg9) = m ((c.tc : Thread Cert.RwPostIdeal.nD Cert.RwPostIdeal.τ).loc Cert.RwPostIdeal.main_arg9))
      ∧ θ_run (Cert.RwPostRefIdeal.defs (F := Ideal)) (onTc (τ := Cert.RwPostRefIdeal.τ) (Cert.RwPostRefIdeal.main (F := Ideal))) ⟨m', fun _ => 0, g'⟩ (fun r => ∀ c : Dev Cert.RwPostRefIdeal.nD,
          r.2.mem ((c.tc : Thread Cert.RwPostRefIdeal.nD Cert.RwPostRefIdeal.τ).loc Cert.RwPostRefIdeal.main_v102) = v0 c
          ∧ r.2.mem ((c.tc : Thread Cert.RwPostRefIdeal.nD Cert.RwPostRefIdeal.τ).loc Cert.RwPostRefIdeal.main_arg0) = m' ((c.tc : Thread Cert.RwPostRefIdeal.nD Cert.RwPostRefIdeal.τ).loc Cert.RwPostRefIdeal.main_arg0)
          ∧ r.2.mem ((c.tc : Thread Cert.RwPostRefIdeal.nD Cert.RwPostRefIdeal.τ).loc Cert.RwPostRefIdeal.main_arg1) = m' ((c.tc : Thread Cert.RwPostRefIdeal.nD Cert.RwPostRefIdeal.τ).loc Cert.RwPostRefIdeal.main_arg1)
          ∧ r.2.mem ((c.tc : Thread Cert.RwPostRefIdeal.nD Cert.RwPostRefIdeal.τ).loc Cert.RwPostRefIdeal.main_arg2) = m' ((c.tc : Thread Cert.RwPostRefIdeal.nD Cert.RwPostRefIdeal.τ).loc Cert.RwPostRefIdeal.main_arg2)
          ∧ r.2.mem ((c.tc : Thread Cert.RwPostRefIdeal.nD Cert.RwPostRefIdeal.τ).loc Cert.RwPostRefIdeal.main_arg3) = m' ((c.tc : Thread Cert.RwPostRefIdeal.nD Cert.RwPostRefIdeal.τ).loc Cert.RwPostRefIdeal.main_arg3)
          ∧ r.2.mem ((c.tc : Thread Cert.RwPostRefIdeal.nD Cert.RwPostRefIdeal.τ).loc Cert.RwPostRefIdeal.main_arg4) = m' ((c.tc : Thread Cert.RwPostRefIdeal.nD Cert.RwPostRefIdeal.τ).loc Cert.RwPostRefIdeal.main_arg4)
          ∧ r.2.mem ((c.tc : Thread Cert.RwPostRefIdeal.nD Cert.RwPostRefIdeal.τ).loc Cert.RwPostRefIdeal.main_arg5) = m' ((c.tc : Thread Cert.RwPostRefIdeal.nD Cert.RwPostRefIdeal.τ).loc Cert.RwPostRefIdeal.main_arg5)
          ∧ r.2.mem ((c.tc : Thread Cert.RwPostRefIdeal.nD Cert.RwPostRefIdeal.τ).loc Cert.RwPostRefIdeal.main_arg6) = m' ((c.tc : Thread Cert.RwPostRefIdeal.nD Cert.RwPostRefIdeal.τ).loc Cert.RwPostRefIdeal.main_arg6)
          ∧ r.2.mem ((c.tc : Thread Cert.RwPostRefIdeal.nD Cert.RwPostRefIdeal.τ).loc Cert.RwPostRefIdeal.main_arg7) = m' ((c.tc : Thread Cert.RwPostRefIdeal.nD Cert.RwPostRefIdeal.τ).loc Cert.RwPostRefIdeal.main_arg7)
          ∧ r.2.mem ((c.tc : Thread Cert.RwPostRefIdeal.nD Cert.RwPostRefIdeal.τ).loc Cert.RwPostRefIdeal.main_arg8) = m' ((c.tc : Thread Cert.RwPostRefIdeal.nD Cert.RwPostRefIdeal.τ).loc Cert.RwPostRefIdeal.main_arg8)
          ∧ r.2.mem ((c.tc : Thread Cert.RwPostRefIdeal.nD Cert.RwPostRefIdeal.τ).loc Cert.RwPostRefIdeal.main_arg9) = m' ((c.tc : Thread Cert.RwPostRefIdeal.nD Cert.RwPostRefIdeal.τ).loc Cert.RwPostRefIdeal.main_arg9))

def preserves_OutMm_OutMmIdeal : Prop :=
  True

def algebraic_OutMmIdeal_OutMmRefIdeal [hOutMmIdeal : Cert.OutMmIdeal.Facts] [hOutMmRefIdeal : Cert.OutMmRefIdeal.Facts] : Prop :=
  ∀ (m : (ℓ : Loc Cert.OutMmIdeal.nD Cert.OutMmIdeal.τ Cert.OutMmIdeal.sig) → Buf (Elt Ideal) ℓ) (g : Dev Cert.OutMmIdeal.nD → PrngReg)
    (m' : (ℓ : Loc Cert.OutMmRefIdeal.nD Cert.OutMmRefIdeal.τ Cert.OutMmRefIdeal.sig) → Buf (Elt Ideal) ℓ) (g' : Dev Cert.OutMmRefIdeal.nD → PrngReg), Pre_OutMmIdeal m →
    (∀ c : Dev Cert.OutMmIdeal.nD,
      m' ((c.tc : Thread Cert.OutMmRefIdeal.nD Cert.OutMmRefIdeal.τ).loc Cert.OutMmRefIdeal.main_arg0) = m ((c.tc : Thread Cert.OutMmIdeal.nD Cert.OutMmIdeal.τ).loc Cert.OutMmIdeal.main_arg0)
      ∧ m' ((c.tc : Thread Cert.OutMmRefIdeal.nD Cert.OutMmRefIdeal.τ).loc Cert.OutMmRefIdeal.main_arg1) = m ((c.tc : Thread Cert.OutMmIdeal.nD Cert.OutMmIdeal.τ).loc Cert.OutMmIdeal.main_arg1)) →
    ∃ (v0 : (c : Dev Cert.OutMmIdeal.nD) → Buf (Elt Ideal) ((c.tc : Thread Cert.OutMmIdeal.nD Cert.OutMmIdeal.τ).loc Cert.OutMmIdeal.main_v0)),
      θ_run (Cert.OutMmIdeal.defs (F := Ideal)) (onTc (τ := Cert.OutMmIdeal.τ) (Cert.OutMmIdeal.main (F := Ideal))) ⟨m, fun _ => 0, g⟩ (fun r => ∀ c : Dev Cert.OutMmIdeal.nD,
          r.2.mem ((c.tc : Thread Cert.OutMmIdeal.nD Cert.OutMmIdeal.τ).loc Cert.OutMmIdeal.main_v0) = v0 c
          ∧ r.2.mem ((c.tc : Thread Cert.OutMmIdeal.nD Cert.OutMmIdeal.τ).loc Cert.OutMmIdeal.main_arg0) = m ((c.tc : Thread Cert.OutMmIdeal.nD Cert.OutMmIdeal.τ).loc Cert.OutMmIdeal.main_arg0)
          ∧ r.2.mem ((c.tc : Thread Cert.OutMmIdeal.nD Cert.OutMmIdeal.τ).loc Cert.OutMmIdeal.main_arg1) = m ((c.tc : Thread Cert.OutMmIdeal.nD Cert.OutMmIdeal.τ).loc Cert.OutMmIdeal.main_arg1))
      ∧ θ_run (Cert.OutMmRefIdeal.defs (F := Ideal)) (onTc (τ := Cert.OutMmRefIdeal.τ) (Cert.OutMmRefIdeal.main (F := Ideal))) ⟨m', fun _ => 0, g'⟩ (fun r => ∀ c : Dev Cert.OutMmRefIdeal.nD,
          r.2.mem ((c.tc : Thread Cert.OutMmRefIdeal.nD Cert.OutMmRefIdeal.τ).loc Cert.OutMmRefIdeal.main_v2) = v0 c
          ∧ r.2.mem ((c.tc : Thread Cert.OutMmRefIdeal.nD Cert.OutMmRefIdeal.τ).loc Cert.OutMmRefIdeal.main_arg0) = m' ((c.tc : Thread Cert.OutMmRefIdeal.nD Cert.OutMmRefIdeal.τ).loc Cert.OutMmRefIdeal.main_arg0)
          ∧ r.2.mem ((c.tc : Thread Cert.OutMmRefIdeal.nD Cert.OutMmRefIdeal.τ).loc Cert.OutMmRefIdeal.main_arg1) = m' ((c.tc : Thread Cert.OutMmRefIdeal.nD Cert.OutMmRefIdeal.τ).loc Cert.OutMmRefIdeal.main_arg1))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)
      ∧ m' ((c.tc : Thread Cert.DMergedRefIdeal.nD Cert.DMergedRefIdeal.τ).loc Cert.DMergedRefIdeal.main_arg2) = m ((c.tc : Thread Cert.DMergedIdeal.nD Cert.DMergedIdeal.τ).loc Cert.DMergedIdeal.main_arg2)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1)
          ∧ r.2.mem ((c.tc : Thread Cert.DMergedIdeal.nD Cert.DMergedIdeal.τ).loc Cert.DMergedIdeal.main_arg2) = m ((c.tc : Thread Cert.DMergedIdeal.nD Cert.DMergedIdeal.τ).loc Cert.DMergedIdeal.main_arg2))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v6) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1)
          ∧ r.2.mem ((c.tc : Thread Cert.DMergedRefIdeal.nD Cert.DMergedRefIdeal.τ).loc Cert.DMergedRefIdeal.main_arg2) = m' ((c.tc : Thread Cert.DMergedRefIdeal.nD Cert.DMergedRefIdeal.τ).loc Cert.DMergedRefIdeal.main_arg2))

def preserves_DWOut_DWOutIdeal : Prop :=
  True

def algebraic_DWOutIdeal_DWOutRefIdeal [hDWOutIdeal : Cert.DWOutIdeal.Facts] [hDWOutRefIdeal : Cert.DWOutRefIdeal.Facts] : Prop :=
  ∀ (m : (ℓ : Loc Cert.DWOutIdeal.nD Cert.DWOutIdeal.τ Cert.DWOutIdeal.sig) → Buf (Elt Ideal) ℓ) (g : Dev Cert.DWOutIdeal.nD → PrngReg)
    (m' : (ℓ : Loc Cert.DWOutRefIdeal.nD Cert.DWOutRefIdeal.τ Cert.DWOutRefIdeal.sig) → Buf (Elt Ideal) ℓ) (g' : Dev Cert.DWOutRefIdeal.nD → PrngReg), Pre_DWOutIdeal m →
    (∀ c : Dev Cert.DWOutIdeal.nD,
      m' ((c.tc : Thread Cert.DWOutRefIdeal.nD Cert.DWOutRefIdeal.τ).loc Cert.DWOutRefIdeal.main_arg0) = m ((c.tc : Thread Cert.DWOutIdeal.nD Cert.DWOutIdeal.τ).loc Cert.DWOutIdeal.main_arg0)
      ∧ m' ((c.tc : Thread Cert.DWOutRefIdeal.nD Cert.DWOutRefIdeal.τ).loc Cert.DWOutRefIdeal.main_arg1) = m ((c.tc : Thread Cert.DWOutIdeal.nD Cert.DWOutIdeal.τ).loc Cert.DWOutIdeal.main_arg1)
      ∧ m' ((c.tc : Thread Cert.DWOutRefIdeal.nD Cert.DWOutRefIdeal.τ).loc Cert.DWOutRefIdeal.main_arg2) = m ((c.tc : Thread Cert.DWOutIdeal.nD Cert.DWOutIdeal.τ).loc Cert.DWOutIdeal.main_arg2)) →
    ∃ (v0 : (c : Dev Cert.DWOutIdeal.nD) → Buf (Elt Ideal) ((c.tc : Thread Cert.DWOutIdeal.nD Cert.DWOutIdeal.τ).loc Cert.DWOutIdeal.main_v0)),
      θ_run (Cert.DWOutIdeal.defs (F := Ideal)) (onTc (τ := Cert.DWOutIdeal.τ) (Cert.DWOutIdeal.main (F := Ideal))) ⟨m, fun _ => 0, g⟩ (fun r => ∀ c : Dev Cert.DWOutIdeal.nD,
          r.2.mem ((c.tc : Thread Cert.DWOutIdeal.nD Cert.DWOutIdeal.τ).loc Cert.DWOutIdeal.main_v0) = v0 c
          ∧ r.2.mem ((c.tc : Thread Cert.DWOutIdeal.nD Cert.DWOutIdeal.τ).loc Cert.DWOutIdeal.main_arg0) = m ((c.tc : Thread Cert.DWOutIdeal.nD Cert.DWOutIdeal.τ).loc Cert.DWOutIdeal.main_arg0)
          ∧ r.2.mem ((c.tc : Thread Cert.DWOutIdeal.nD Cert.DWOutIdeal.τ).loc Cert.DWOutIdeal.main_arg1) = m ((c.tc : Thread Cert.DWOutIdeal.nD Cert.DWOutIdeal.τ).loc Cert.DWOutIdeal.main_arg1)
          ∧ r.2.mem ((c.tc : Thread Cert.DWOutIdeal.nD Cert.DWOutIdeal.τ).loc Cert.DWOutIdeal.main_arg2) = m ((c.tc : Thread Cert.DWOutIdeal.nD Cert.DWOutIdeal.τ).loc Cert.DWOutIdeal.main_arg2))
      ∧ θ_run (Cert.DWOutRefIdeal.defs (F := Ideal)) (onTc (τ := Cert.DWOutRefIdeal.τ) (Cert.DWOutRefIdeal.main (F := Ideal))) ⟨m', fun _ => 0, g'⟩ (fun r => ∀ c : Dev Cert.DWOutRefIdeal.nD,
          r.2.mem ((c.tc : Thread Cert.DWOutRefIdeal.nD Cert.DWOutRefIdeal.τ).loc Cert.DWOutRefIdeal.main_v5) = v0 c
          ∧ r.2.mem ((c.tc : Thread Cert.DWOutRefIdeal.nD Cert.DWOutRefIdeal.τ).loc Cert.DWOutRefIdeal.main_arg0) = m' ((c.tc : Thread Cert.DWOutRefIdeal.nD Cert.DWOutRefIdeal.τ).loc Cert.DWOutRefIdeal.main_arg0)
          ∧ r.2.mem ((c.tc : Thread Cert.DWOutRefIdeal.nD Cert.DWOutRefIdeal.τ).loc Cert.DWOutRefIdeal.main_arg1) = m' ((c.tc : Thread Cert.DWOutRefIdeal.nD Cert.DWOutRefIdeal.τ).loc Cert.DWOutRefIdeal.main_arg1)
          ∧ r.2.mem ((c.tc : Thread Cert.DWOutRefIdeal.nD Cert.DWOutRefIdeal.τ).loc Cert.DWOutRefIdeal.main_arg2) = m' ((c.tc : Thread Cert.DWOutRefIdeal.nD Cert.DWOutRefIdeal.τ).loc Cert.DWOutRefIdeal.main_arg2))

def preserves_ProjMm_ProjMmIdeal : Prop :=
  True

def algebraic_ProjMmIdeal_ProjMmRefIdeal [hProjMmIdeal : Cert.ProjMmIdeal.Facts] [hProjMmRefIdeal : Cert.ProjMmRefIdeal.Facts] : Prop :=
  ∀ (m : (ℓ : Loc Cert.ProjMmIdeal.nD Cert.ProjMmIdeal.τ Cert.ProjMmIdeal.sig) → Buf (Elt Ideal) ℓ) (g : Dev Cert.ProjMmIdeal.nD → PrngReg)
    (m' : (ℓ : Loc Cert.ProjMmRefIdeal.nD Cert.ProjMmRefIdeal.τ Cert.ProjMmRefIdeal.sig) → Buf (Elt Ideal) ℓ) (g' : Dev Cert.ProjMmRefIdeal.nD → PrngReg), Pre_ProjMmIdeal m →
    (∀ c : Dev Cert.ProjMmIdeal.nD,
      m' ((c.tc : Thread Cert.ProjMmRefIdeal.nD Cert.ProjMmRefIdeal.τ).loc Cert.ProjMmRefIdeal.main_arg0) = m ((c.tc : Thread Cert.ProjMmIdeal.nD Cert.ProjMmIdeal.τ).loc Cert.ProjMmIdeal.main_arg0)
      ∧ m' ((c.tc : Thread Cert.ProjMmRefIdeal.nD Cert.ProjMmRefIdeal.τ).loc Cert.ProjMmRefIdeal.main_arg1) = m ((c.tc : Thread Cert.ProjMmIdeal.nD Cert.ProjMmIdeal.τ).loc Cert.ProjMmIdeal.main_arg1)) →
    ∃ (v0 : (c : Dev Cert.ProjMmIdeal.nD) → Buf (Elt Ideal) ((c.tc : Thread Cert.ProjMmIdeal.nD Cert.ProjMmIdeal.τ).loc Cert.ProjMmIdeal.main_v0)),
      θ_run (Cert.ProjMmIdeal.defs (F := Ideal)) (onTc (τ := Cert.ProjMmIdeal.τ) (Cert.ProjMmIdeal.main (F := Ideal))) ⟨m, fun _ => 0, g⟩ (fun r => ∀ c : Dev Cert.ProjMmIdeal.nD,
          r.2.mem ((c.tc : Thread Cert.ProjMmIdeal.nD Cert.ProjMmIdeal.τ).loc Cert.ProjMmIdeal.main_v0) = v0 c
          ∧ r.2.mem ((c.tc : Thread Cert.ProjMmIdeal.nD Cert.ProjMmIdeal.τ).loc Cert.ProjMmIdeal.main_arg0) = m ((c.tc : Thread Cert.ProjMmIdeal.nD Cert.ProjMmIdeal.τ).loc Cert.ProjMmIdeal.main_arg0)
          ∧ r.2.mem ((c.tc : Thread Cert.ProjMmIdeal.nD Cert.ProjMmIdeal.τ).loc Cert.ProjMmIdeal.main_arg1) = m ((c.tc : Thread Cert.ProjMmIdeal.nD Cert.ProjMmIdeal.τ).loc Cert.ProjMmIdeal.main_arg1))
      ∧ θ_run (Cert.ProjMmRefIdeal.defs (F := Ideal)) (onTc (τ := Cert.ProjMmRefIdeal.τ) (Cert.ProjMmRefIdeal.main (F := Ideal))) ⟨m', fun _ => 0, g'⟩ (fun r => ∀ c : Dev Cert.ProjMmRefIdeal.nD,
          r.2.mem ((c.tc : Thread Cert.ProjMmRefIdeal.nD Cert.ProjMmRefIdeal.τ).loc Cert.ProjMmRefIdeal.main_v3) = v0 c
          ∧ r.2.mem ((c.tc : Thread Cert.ProjMmRefIdeal.nD Cert.ProjMmRefIdeal.τ).loc Cert.ProjMmRefIdeal.main_arg0) = m' ((c.tc : Thread Cert.ProjMmRefIdeal.nD Cert.ProjMmRefIdeal.τ).loc Cert.ProjMmRefIdeal.main_arg0)
          ∧ r.2.mem ((c.tc : Thread Cert.ProjMmRefIdeal.nD Cert.ProjMmRefIdeal.τ).loc Cert.ProjMmRefIdeal.main_arg1) = m' ((c.tc : Thread Cert.ProjMmRefIdeal.nD Cert.ProjMmRefIdeal.τ).loc Cert.ProjMmRefIdeal.main_arg1))

def preserves_DWIn_DWInIdeal : Prop :=
  True

def algebraic_DWInIdeal_DWInRefIdeal [hDWInIdeal : Cert.DWInIdeal.Facts] [hDWInRefIdeal : Cert.DWInRefIdeal.Facts] : Prop :=
  ∀ (m : (ℓ : Loc Cert.DWInIdeal.nD Cert.DWInIdeal.τ Cert.DWInIdeal.sig) → Buf (Elt Ideal) ℓ) (g : Dev Cert.DWInIdeal.nD → PrngReg)
    (m' : (ℓ : Loc Cert.DWInRefIdeal.nD Cert.DWInRefIdeal.τ Cert.DWInRefIdeal.sig) → Buf (Elt Ideal) ℓ) (g' : Dev Cert.DWInRefIdeal.nD → PrngReg), Pre_DWInIdeal m →
    (∀ c : Dev Cert.DWInIdeal.nD,
      m' ((c.tc : Thread Cert.DWInRefIdeal.nD Cert.DWInRefIdeal.τ).loc Cert.DWInRefIdeal.main_arg0) = m ((c.tc : Thread Cert.DWInIdeal.nD Cert.DWInIdeal.τ).loc Cert.DWInIdeal.main_arg0)
      ∧ m' ((c.tc : Thread Cert.DWInRefIdeal.nD Cert.DWInRefIdeal.τ).loc Cert.DWInRefIdeal.main_arg1) = m ((c.tc : Thread Cert.DWInIdeal.nD Cert.DWInIdeal.τ).loc Cert.DWInIdeal.main_arg1)
      ∧ m' ((c.tc : Thread Cert.DWInRefIdeal.nD Cert.DWInRefIdeal.τ).loc Cert.DWInRefIdeal.main_arg2) = m ((c.tc : Thread Cert.DWInIdeal.nD Cert.DWInIdeal.τ).loc Cert.DWInIdeal.main_arg2)) →
    ∃ (v0 : (c : Dev Cert.DWInIdeal.nD) → Buf (Elt Ideal) ((c.tc : Thread Cert.DWInIdeal.nD Cert.DWInIdeal.τ).loc Cert.DWInIdeal.main_v0)),
      θ_run (Cert.DWInIdeal.defs (F := Ideal)) (onTc (τ := Cert.DWInIdeal.τ) (Cert.DWInIdeal.main (F := Ideal))) ⟨m, fun _ => 0, g⟩ (fun r => ∀ c : Dev Cert.DWInIdeal.nD,
          r.2.mem ((c.tc : Thread Cert.DWInIdeal.nD Cert.DWInIdeal.τ).loc Cert.DWInIdeal.main_v0) = v0 c
          ∧ r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
          ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1)
          ∧ r.2.mem ((c.tc : Thread Cert.DWInIdeal.nD Cert.DWInIdeal.τ).loc Cert.DWInIdeal.main_arg2) = m ((c.tc : Thread Cert.DWInIdeal.nD Cert.DWInIdeal.τ).loc Cert.DWInIdeal.main_arg2))
      ∧ θ_run (Cert.DWInRefIdeal.defs (F := Ideal)) (onTc (τ := Cert.DWInRefIdeal.τ) (Cert.DWInRefIdeal.main (F := Ideal))) ⟨m', fun _ => 0, g'⟩ (fun r => ∀ c : Dev Cert.DWInRefIdeal.nD,
          r.2.mem ((c.tc : Thread Cert.DWInRefIdeal.nD Cert.DWInRefIdeal.τ).loc Cert.DWInRefIdeal.main_v8) = v0 c
          ∧ r.2.mem ((c.tc : Thread Cert.DWInRefIdeal.nD Cert.DWInRefIdeal.τ).loc Cert.DWInRefIdeal.main_arg0) = m' ((c.tc : Thread Cert.DWInRefIdeal.nD Cert.DWInRefIdeal.τ).loc Cert.DWInRefIdeal.main_arg0)
          ∧ r.2.mem ((c.tc : Thread Cert.DWInRefIdeal.nD Cert.DWInRefIdeal.τ).loc Cert.DWInRefIdeal.main_arg1) = m' ((c.tc : Thread Cert.DWInRefIdeal.nD Cert.DWInRefIdeal.τ).loc Cert.DWInRefIdeal.main_arg1)
          ∧ r.2.mem ((c.tc : Thread Cert.DWInRefIdeal.nD Cert.DWInRefIdeal.τ).loc Cert.DWInRefIdeal.main_arg2) = m' ((c.tc : Thread Cert.DWInRefIdeal.nD Cert.DWInRefIdeal.τ).loc Cert.DWInRefIdeal.main_arg2))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)
      ∧ m' ((c.tc : Thread Cert.DHRefIdeal.nD Cert.DHRefIdeal.τ).loc Cert.DHRefIdeal.main_arg2) = m ((c.tc : Thread Cert.DHIdeal.nD Cert.DHIdeal.τ).loc Cert.DHIdeal.main_arg2)) →
    ∃ (v0 : (c : Dev Cert.DHIdeal.nD) → Buf (Elt Ideal) ((c.tc : Thread Cert.DHIdeal.nD Cert.DHIdeal.τ).loc Cert.DHIdeal.main_v0)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v0) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
          ∧ r.2.mem ((c.tc : Thread Cert.DHIdeal.nD Cert.DHIdeal.τ).loc Cert.DHIdeal.main_arg2) = m ((c.tc : Thread Cert.DHIdeal.nD Cert.DHIdeal.τ).loc Cert.DHIdeal.main_arg2))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v6) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1)
          ∧ r.2.mem ((c.tc : Thread Cert.DHRefIdeal.nD Cert.DHRefIdeal.τ).loc Cert.DHRefIdeal.main_arg2) = m' ((c.tc : Thread Cert.DHRefIdeal.nD Cert.DHRefIdeal.τ).loc Cert.DHRefIdeal.main_arg2))

def preserves_AdamwAdaW_AdamwAdaWIdeal : Prop :=
  True

def algebraic_AdamwAdaWIdeal_AdamwAdaWRefIdeal [hAdamwAdaWIdeal : Cert.AdamwAdaWIdeal.Facts] [hAdamwAdaWRefIdeal : Cert.AdamwAdaWRefIdeal.Facts] : Prop :=
  ∀ (m : (ℓ : Loc Cert.AdamwAdaWIdeal.nD Cert.AdamwAdaWIdeal.τ Cert.AdamwAdaWIdeal.sig) → Buf (Elt Ideal) ℓ) (g : Dev Cert.AdamwAdaWIdeal.nD → PrngReg)
    (m' : (ℓ : Loc Cert.AdamwAdaWRefIdeal.nD Cert.AdamwAdaWRefIdeal.τ Cert.AdamwAdaWRefIdeal.sig) → Buf (Elt Ideal) ℓ) (g' : Dev Cert.AdamwAdaWRefIdeal.nD → PrngReg), Pre_AdamwAdaWIdeal m →
    (∀ c : Dev Cert.AdamwAdaWIdeal.nD,
      m' ((c.tc : Thread Cert.AdamwAdaWRefIdeal.nD Cert.AdamwAdaWRefIdeal.τ).loc Cert.AdamwAdaWRefIdeal.main_arg0) = m ((c.tc : Thread Cert.AdamwAdaWIdeal.nD Cert.AdamwAdaWIdeal.τ).loc Cert.AdamwAdaWIdeal.main_arg0)
      ∧ m' ((c.tc : Thread Cert.AdamwAdaWRefIdeal.nD Cert.AdamwAdaWRefIdeal.τ).loc Cert.AdamwAdaWRefIdeal.main_arg1) = m ((c.tc : Thread Cert.AdamwAdaWIdeal.nD Cert.AdamwAdaWIdeal.τ).loc Cert.AdamwAdaWIdeal.main_arg1)
      ∧ m' ((c.tc : Thread Cert.AdamwAdaWRefIdeal.nD Cert.AdamwAdaWRefIdeal.τ).loc Cert.AdamwAdaWRefIdeal.main_arg2) = m ((c.tc : Thread Cert.AdamwAdaWIdeal.nD Cert.AdamwAdaWIdeal.τ).loc Cert.AdamwAdaWIdeal.main_arg2)
      ∧ m' ((c.tc : Thread Cert.AdamwAdaWRefIdeal.nD Cert.AdamwAdaWRefIdeal.τ).loc Cert.AdamwAdaWRefIdeal.main_arg3) = m ((c.tc : Thread Cert.AdamwAdaWIdeal.nD Cert.AdamwAdaWIdeal.τ).loc Cert.AdamwAdaWIdeal.main_arg3)) →
    ∃ (v0 : (c : Dev Cert.AdamwAdaWIdeal.nD) → Buf (Elt Ideal) ((c.tc : Thread Cert.AdamwAdaWIdeal.nD Cert.AdamwAdaWIdeal.τ).loc Cert.AdamwAdaWIdeal.main_v1_0)) (v1 : (c : Dev Cert.AdamwAdaWIdeal.nD) → Buf (Elt Ideal) ((c.tc : Thread Cert.AdamwAdaWIdeal.nD Cert.AdamwAdaWIdeal.τ).loc Cert.AdamwAdaWIdeal.main_v1_1)) (v2 : (c : Dev Cert.AdamwAdaWIdeal.nD) → Buf (Elt Ideal) ((c.tc : Thread Cert.AdamwAdaWIdeal.nD Cert.AdamwAdaWIdeal.τ).loc Cert.AdamwAdaWIdeal.main_v1_2)) (v3 : (c : Dev Cert.AdamwAdaWIdeal.nD) → Buf (Elt Ideal) ((c.tc : Thread Cert.AdamwAdaWIdeal.nD Cert.AdamwAdaWIdeal.τ).loc Cert.AdamwAdaWIdeal.main_v1_3)),
      θ_run (Cert.AdamwAdaWIdeal.defs (F := Ideal)) (onTc (τ := Cert.AdamwAdaWIdeal.τ) (Cert.AdamwAdaWIdeal.main (F := Ideal))) ⟨m, fun _ => 0, g⟩ (fun r => ∀ c : Dev Cert.AdamwAdaWIdeal.nD,
          r.2.mem ((c.tc : Thread Cert.AdamwAdaWIdeal.nD Cert.AdamwAdaWIdeal.τ).loc Cert.AdamwAdaWIdeal.main_v1_0) = v0 c
          ∧ r.2.mem ((c.tc : Thread Cert.AdamwAdaWIdeal.nD Cert.AdamwAdaWIdeal.τ).loc Cert.AdamwAdaWIdeal.main_v1_1) = v1 c
          ∧ r.2.mem ((c.tc : Thread Cert.AdamwAdaWIdeal.nD Cert.AdamwAdaWIdeal.τ).loc Cert.AdamwAdaWIdeal.main_v1_2) = v2 c
          ∧ r.2.mem ((c.tc : Thread Cert.AdamwAdaWIdeal.nD Cert.AdamwAdaWIdeal.τ).loc Cert.AdamwAdaWIdeal.main_v1_3) = v3 c
          ∧ r.2.mem ((c.tc : Thread Cert.AdamwAdaWIdeal.nD Cert.AdamwAdaWIdeal.τ).loc Cert.AdamwAdaWIdeal.main_arg0) = m ((c.tc : Thread Cert.AdamwAdaWIdeal.nD Cert.AdamwAdaWIdeal.τ).loc Cert.AdamwAdaWIdeal.main_arg0)
          ∧ r.2.mem ((c.tc : Thread Cert.AdamwAdaWIdeal.nD Cert.AdamwAdaWIdeal.τ).loc Cert.AdamwAdaWIdeal.main_arg1) = m ((c.tc : Thread Cert.AdamwAdaWIdeal.nD Cert.AdamwAdaWIdeal.τ).loc Cert.AdamwAdaWIdeal.main_arg1)
          ∧ r.2.mem ((c.tc : Thread Cert.AdamwAdaWIdeal.nD Cert.AdamwAdaWIdeal.τ).loc Cert.AdamwAdaWIdeal.main_arg2) = m ((c.tc : Thread Cert.AdamwAdaWIdeal.nD Cert.AdamwAdaWIdeal.τ).loc Cert.AdamwAdaWIdeal.main_arg2)
          ∧ r.2.mem ((c.tc : Thread Cert.AdamwAdaWIdeal.nD Cert.AdamwAdaWIdeal.τ).loc Cert.AdamwAdaWIdeal.main_arg3) = m ((c.tc : Thread Cert.AdamwAdaWIdeal.nD Cert.AdamwAdaWIdeal.τ).loc Cert.AdamwAdaWIdeal.main_arg3))
      ∧ θ_run (Cert.AdamwAdaWRefIdeal.defs (F := Ideal)) (onTc (τ := Cert.AdamwAdaWRefIdeal.τ) (Cert.AdamwAdaWRefIdeal.main (F := Ideal))) ⟨m', fun _ => 0, g'⟩ (fun r => ∀ c : Dev Cert.AdamwAdaWRefIdeal.nD,
          r.2.mem ((c.tc : Thread Cert.AdamwAdaWRefIdeal.nD Cert.AdamwAdaWRefIdeal.τ).loc Cert.AdamwAdaWRefIdeal.main_arg3) = v0 c
          ∧ r.2.mem ((c.tc : Thread Cert.AdamwAdaWRefIdeal.nD Cert.AdamwAdaWRefIdeal.τ).loc Cert.AdamwAdaWRefIdeal.main_v23) = v1 c
          ∧ r.2.mem ((c.tc : Thread Cert.AdamwAdaWRefIdeal.nD Cert.AdamwAdaWRefIdeal.τ).loc Cert.AdamwAdaWRefIdeal.main_v4) = v2 c
          ∧ r.2.mem ((c.tc : Thread Cert.AdamwAdaWRefIdeal.nD Cert.AdamwAdaWRefIdeal.τ).loc Cert.AdamwAdaWRefIdeal.main_v10) = v3 c
          ∧ r.2.mem ((c.tc : Thread Cert.AdamwAdaWRefIdeal.nD Cert.AdamwAdaWRefIdeal.τ).loc Cert.AdamwAdaWRefIdeal.main_arg0) = m' ((c.tc : Thread Cert.AdamwAdaWRefIdeal.nD Cert.AdamwAdaWRefIdeal.τ).loc Cert.AdamwAdaWRefIdeal.main_arg0)
          ∧ r.2.mem ((c.tc : Thread Cert.AdamwAdaWRefIdeal.nD Cert.AdamwAdaWRefIdeal.τ).loc Cert.AdamwAdaWRefIdeal.main_arg1) = m' ((c.tc : Thread Cert.AdamwAdaWRefIdeal.nD Cert.AdamwAdaWRefIdeal.τ).loc Cert.AdamwAdaWRefIdeal.main_arg1)
          ∧ r.2.mem ((c.tc : Thread Cert.AdamwAdaWRefIdeal.nD Cert.AdamwAdaWRefIdeal.τ).loc Cert.AdamwAdaWRefIdeal.main_arg2) = m' ((c.tc : Thread Cert.AdamwAdaWRefIdeal.nD Cert.AdamwAdaWRefIdeal.τ).loc Cert.AdamwAdaWRefIdeal.main_arg2)
          ∧ r.2.mem ((c.tc : Thread Cert.AdamwAdaWRefIdeal.nD Cert.AdamwAdaWRefIdeal.τ).loc Cert.AdamwAdaWRefIdeal.main_arg3) = m' ((c.tc : Thread Cert.AdamwAdaWRefIdeal.nD Cert.AdamwAdaWRefIdeal.τ).loc Cert.AdamwAdaWRefIdeal.main_arg3))

def preserves_ProjJoin_ProjJoinIdeal : Prop :=
  True

def algebraic_ProjJoinIdeal_ProjJoinRefIdeal [hProjJoinIdeal : Cert.ProjJoinIdeal.Facts] [hProjJoinRefIdeal : Cert.ProjJoinRefIdeal.Facts] : Prop :=
  ∀ (m : (ℓ : Loc Cert.ProjJoinIdeal.nD Cert.ProjJoinIdeal.τ Cert.ProjJoinIdeal.sig) → Buf (Elt Ideal) ℓ) (g : Dev Cert.ProjJoinIdeal.nD → PrngReg)
    (m' : (ℓ : Loc Cert.ProjJoinRefIdeal.nD Cert.ProjJoinRefIdeal.τ Cert.ProjJoinRefIdeal.sig) → Buf (Elt Ideal) ℓ) (g' : Dev Cert.ProjJoinRefIdeal.nD → PrngReg), Pre_ProjJoinIdeal m →
    (∀ c : Dev Cert.ProjJoinIdeal.nD,
      m' ((c.tc : Thread Cert.ProjJoinRefIdeal.nD Cert.ProjJoinRefIdeal.τ).loc Cert.ProjJoinRefIdeal.main_arg0) = m ((c.tc : Thread Cert.ProjJoinIdeal.nD Cert.ProjJoinIdeal.τ).loc Cert.ProjJoinIdeal.main_arg0)) →
    ∃ (v0 : (c : Dev Cert.ProjJoinIdeal.nD) → Buf (Elt Ideal) ((c.tc : Thread Cert.ProjJoinIdeal.nD Cert.ProjJoinIdeal.τ).loc Cert.ProjJoinIdeal.main_v0)),
      θ_run (Cert.ProjJoinIdeal.defs (F := Ideal)) (onTc (τ := Cert.ProjJoinIdeal.τ) (Cert.ProjJoinIdeal.main (F := Ideal))) ⟨m, fun _ => 0, g⟩ (fun r => ∀ c : Dev Cert.ProjJoinIdeal.nD,
          r.2.mem ((c.tc : Thread Cert.ProjJoinIdeal.nD Cert.ProjJoinIdeal.τ).loc Cert.ProjJoinIdeal.main_v0) = v0 c
          ∧ r.2.mem ((c.tc : Thread Cert.ProjJoinIdeal.nD Cert.ProjJoinIdeal.τ).loc Cert.ProjJoinIdeal.main_arg0) = m ((c.tc : Thread Cert.ProjJoinIdeal.nD Cert.ProjJoinIdeal.τ).loc Cert.ProjJoinIdeal.main_arg0))
      ∧ θ_run (Cert.ProjJoinRefIdeal.defs (F := Ideal)) (onTc (τ := Cert.ProjJoinRefIdeal.τ) (Cert.ProjJoinRefIdeal.main (F := Ideal))) ⟨m', fun _ => 0, g'⟩ (fun r => ∀ c : Dev Cert.ProjJoinRefIdeal.nD,
          r.2.mem ((c.tc : Thread Cert.ProjJoinRefIdeal.nD Cert.ProjJoinRefIdeal.τ).loc Cert.ProjJoinRefIdeal.main_v1) = v0 c
          ∧ r.2.mem ((c.tc : Thread Cert.ProjJoinRefIdeal.nD Cert.ProjJoinRefIdeal.τ).loc Cert.ProjJoinRefIdeal.main_arg0) = m' ((c.tc : Thread Cert.ProjJoinRefIdeal.nD Cert.ProjJoinRefIdeal.τ).loc Cert.ProjJoinRefIdeal.main_arg0))

def preserves_GKa_GKaIdeal : Prop :=
  True

def algebraic_GKaIdeal_GKaRefIdeal [hGKaIdeal : Cert.GKaIdeal.Facts] [hGKaRefIdeal : Cert.GKaRefIdeal.Facts] : Prop :=
  ∀ (m : (ℓ : Loc Cert.GKaIdeal.nD Cert.GKaIdeal.τ Cert.GKaIdeal.sig) → Buf (Elt Ideal) ℓ) (g : Dev Cert.GKaIdeal.nD → PrngReg)
    (m' : (ℓ : Loc Cert.GKaRefIdeal.nD Cert.GKaRefIdeal.τ Cert.GKaRefIdeal.sig) → Buf (Elt Ideal) ℓ) (g' : Dev Cert.GKaRefIdeal.nD → PrngReg), Pre_GKaIdeal m →
    (∀ c : Dev Cert.GKaIdeal.nD,
      m' ((c.tc : Thread Cert.GKaRefIdeal.nD Cert.GKaRefIdeal.τ).loc Cert.GKaRefIdeal.main_arg0) = m ((c.tc : Thread Cert.GKaIdeal.nD Cert.GKaIdeal.τ).loc Cert.GKaIdeal.main_arg0)
      ∧ m' ((c.tc : Thread Cert.GKaRefIdeal.nD Cert.GKaRefIdeal.τ).loc Cert.GKaRefIdeal.main_arg1) = m ((c.tc : Thread Cert.GKaIdeal.nD Cert.GKaIdeal.τ).loc Cert.GKaIdeal.main_arg1)
      ∧ m' ((c.tc : Thread Cert.GKaRefIdeal.nD Cert.GKaRefIdeal.τ).loc Cert.GKaRefIdeal.main_arg2) = m ((c.tc : Thread Cert.GKaIdeal.nD Cert.GKaIdeal.τ).loc Cert.GKaIdeal.main_arg2)) →
    ∃ (v0 : (c : Dev Cert.GKaIdeal.nD) → Buf (Elt Ideal) ((c.tc : Thread Cert.GKaIdeal.nD Cert.GKaIdeal.τ).loc Cert.GKaIdeal.main_v0)),
      θ_run (Cert.GKaIdeal.defs (F := Ideal)) (onTc (τ := Cert.GKaIdeal.τ) (Cert.GKaIdeal.main (F := Ideal))) ⟨m, fun _ => 0, g⟩ (fun r => ∀ c : Dev Cert.GKaIdeal.nD,
          r.2.mem ((c.tc : Thread Cert.GKaIdeal.nD Cert.GKaIdeal.τ).loc Cert.GKaIdeal.main_v0) = v0 c
          ∧ r.2.mem ((c.tc : Thread Cert.GKaIdeal.nD Cert.GKaIdeal.τ).loc Cert.GKaIdeal.main_arg0) = m ((c.tc : Thread Cert.GKaIdeal.nD Cert.GKaIdeal.τ).loc Cert.GKaIdeal.main_arg0)
          ∧ r.2.mem ((c.tc : Thread Cert.GKaIdeal.nD Cert.GKaIdeal.τ).loc Cert.GKaIdeal.main_arg1) = m ((c.tc : Thread Cert.GKaIdeal.nD Cert.GKaIdeal.τ).loc Cert.GKaIdeal.main_arg1)
          ∧ r.2.mem ((c.tc : Thread Cert.GKaIdeal.nD Cert.GKaIdeal.τ).loc Cert.GKaIdeal.main_arg2) = m ((c.tc : Thread Cert.GKaIdeal.nD Cert.GKaIdeal.τ).loc Cert.GKaIdeal.main_arg2))
      ∧ θ_run (Cert.GKaRefIdeal.defs (F := Ideal)) (onTc (τ := Cert.GKaRefIdeal.τ) (Cert.GKaRefIdeal.main (F := Ideal))) ⟨m', fun _ => 0, g'⟩ (fun r => ∀ c : Dev Cert.GKaRefIdeal.nD,
          r.2.mem ((c.tc : Thread Cert.GKaRefIdeal.nD Cert.GKaRefIdeal.τ).loc Cert.GKaRefIdeal.main_v1) = v0 c
          ∧ r.2.mem ((c.tc : Thread Cert.GKaRefIdeal.nD Cert.GKaRefIdeal.τ).loc Cert.GKaRefIdeal.main_arg0) = m' ((c.tc : Thread Cert.GKaRefIdeal.nD Cert.GKaRefIdeal.τ).loc Cert.GKaRefIdeal.main_arg0)
          ∧ r.2.mem ((c.tc : Thread Cert.GKaRefIdeal.nD Cert.GKaRefIdeal.τ).loc Cert.GKaRefIdeal.main_arg1) = m' ((c.tc : Thread Cert.GKaRefIdeal.nD Cert.GKaRefIdeal.τ).loc Cert.GKaRefIdeal.main_arg1)
          ∧ r.2.mem ((c.tc : Thread Cert.GKaRefIdeal.nD Cert.GKaRefIdeal.τ).loc Cert.GKaRefIdeal.main_arg2) = m' ((c.tc : Thread Cert.GKaRefIdeal.nD Cert.GKaRefIdeal.τ).loc Cert.GKaRefIdeal.main_arg2))

def Claim : Prop :=
  ∃ (hCondBwd : Cert.CondBwd.Facts) (hCondBwdIdeal : Cert.CondBwdIdeal.Facts) (hCondBwdRefIdeal : Cert.CondBwdRefIdeal.Facts) (hShiftBwd : Cert.ShiftBwd.Facts) (hShiftBwdIdeal : Cert.ShiftBwdIdeal.Facts) (hShiftBwdRefIdeal : Cert.ShiftBwdRefIdeal.Facts) (hMergeBwd : Cert.MergeBwd.Facts) (hMergeBwdIdeal : Cert.MergeBwdIdeal.Facts) (hMergeBwdRefIdeal : Cert.MergeBwdRefIdeal.Facts) (hHgPostBwd : Cert.HgPostBwd.Facts) (hHgPostBwdIdeal : Cert.HgPostBwdIdeal.Facts) (hHgPostBwdRefIdeal : Cert.HgPostBwdRefIdeal.Facts) (hFinal : Cert.Final.Facts) (hFinalIdeal : Cert.FinalIdeal.Facts) (hFinalRefIdeal : Cert.FinalRefIdeal.Facts) (hHBwd : Cert.HBwd.Facts) (hHBwdIdeal : Cert.HBwdIdeal.Facts) (hHBwdRefIdeal : Cert.HBwdRefIdeal.Facts) (hRwPostBwd : Cert.RwPostBwd.Facts) (hRwPostBwdIdeal : Cert.RwPostBwdIdeal.Facts) (hRwPostBwdRefIdeal : Cert.RwPostBwdRefIdeal.Facts) (hHgScanFwd0 : Cert.HgScanFwd0.Facts) (hHgScanFwd0Ideal : Cert.HgScanFwd0Ideal.Facts) (hHgScanFwd0RefIdeal : Cert.HgScanFwd0RefIdeal.Facts) (hHgScanFwd1 : Cert.HgScanFwd1.Facts) (hHgScanFwd1Ideal : Cert.HgScanFwd1Ideal.Facts) (hHgScanFwd1RefIdeal : Cert.HgScanFwd1RefIdeal.Facts) (hCondSilu : Cert.CondSilu.Facts) (hCondSiluIdeal : Cert.CondSiluIdeal.Facts) (hCondSiluRefIdeal : Cert.CondSiluRefIdeal.Facts) (hMerge : Cert.Merge.Facts) (hMergeIdeal : Cert.MergeIdeal.Facts) (hMergeRefIdeal : Cert.MergeRefIdeal.Facts) (hHgPost : Cert.HgPost.Facts) (hHgPostIdeal : Cert.HgPostIdeal.Facts) (hHgPostRefIdeal : Cert.HgPostRefIdeal.Facts) (hHFwd : Cert.HFwd.Facts) (hHFwdIdeal : Cert.HFwdIdeal.Facts) (hHFwdRefIdeal : Cert.HFwdRefIdeal.Facts) (hRwShift : Cert.RwShift.Facts) (hRwShiftIdeal : Cert.RwShiftIdeal.Facts) (hRwShiftRefIdeal : Cert.RwShiftRefIdeal.Facts) (hRwPost : Cert.RwPost.Facts) (hRwPostIdeal : Cert.RwPostIdeal.Facts) (hRwPostRefIdeal : Cert.RwPostRefIdeal.Facts) (hOutMm : Cert.OutMm.Facts) (hOutMmIdeal : Cert.OutMmIdeal.Facts) (hOutMmRefIdeal : Cert.OutMmRefIdeal.Facts) (hDMerged : Cert.DMerged.Facts) (hDMergedIdeal : Cert.DMergedIdeal.Facts) (hDMergedRefIdeal : Cert.DMergedRefIdeal.Facts) (hDWOut : Cert.DWOut.Facts) (hDWOutIdeal : Cert.DWOutIdeal.Facts) (hDWOutRefIdeal : Cert.DWOutRefIdeal.Facts) (hProjMm : Cert.ProjMm.Facts) (hProjMmIdeal : Cert.ProjMmIdeal.Facts) (hProjMmRefIdeal : Cert.ProjMmRefIdeal.Facts) (hDWIn : Cert.DWIn.Facts) (hDWInIdeal : Cert.DWInIdeal.Facts) (hDWInRefIdeal : Cert.DWInRefIdeal.Facts) (hDH : Cert.DH.Facts) (hDHIdeal : Cert.DHIdeal.Facts) (hDHRefIdeal : Cert.DHRefIdeal.Facts) (hAdamwAdaW : Cert.AdamwAdaW.Facts) (hAdamwAdaWIdeal : Cert.AdamwAdaWIdeal.Facts) (hAdamwAdaWRefIdeal : Cert.AdamwAdaWRefIdeal.Facts) (hProjJoin : Cert.ProjJoin.Facts) (hProjJoinIdeal : Cert.ProjJoinIdeal.Facts) (hProjJoinRefIdeal : Cert.ProjJoinRefIdeal.Facts) (hGKa : Cert.GKa.Facts) (hGKaIdeal : Cert.GKaIdeal.Facts) (hGKaRefIdeal : Cert.GKaRefIdeal.Facts) (hPre_shift_finite : Cert.Pre_shift_finite.Facts) (hPre_rw_post_finite : Cert.Pre_rw_post_finite.Facts) (hPre_hg_lb_finite : Cert.Pre_hg_lb_finite.Facts) (hPre_rw_bonus_finite : Cert.Pre_rw_bonus_finite.Facts),
    quiescent_CondBwd (hCondBwd := hCondBwd)
    ∧ quiescent_CondBwdIdeal (hCondBwdIdeal := hCondBwdIdeal)
    ∧ quiescent_CondBwdRefIdeal (hCondBwdRefIdeal := hCondBwdRefIdeal)
    ∧ quiescent_ShiftBwd (hShiftBwd := hShiftBwd)
    ∧ quiescent_ShiftBwdIdeal (hShiftBwdIdeal := hShiftBwdIdeal)
    ∧ quiescent_ShiftBwdIdeal_pre_shift_finite (hShiftBwdIdeal := hShiftBwdIdeal) (hPre_shift_finite := hPre_shift_finite)
    ∧ quiescent_ShiftBwdRefIdeal (hShiftBwdRefIdeal := hShiftBwdRefIdeal)
    ∧ quiescent_ShiftBwdRefIdeal_pre_shift_finite (hShiftBwdRefIdeal := hShiftBwdRefIdeal) (hPre_shift_finite := hPre_shift_finite)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_HgPostBwd (hHgPostBwd := hHgPostBwd)
    ∧ quiescent_HgPostBwdIdeal (hHgPostBwdIdeal := hHgPostBwdIdeal)
    ∧ quiescent_HgPostBwdRefIdeal (hHgPostBwdRefIdeal := hHgPostBwdRefIdeal)
    ∧ quiescent_Final (hFinal := hFinal)
    ∧ quiescent_FinalIdeal (hFinalIdeal := hFinalIdeal)
    ∧ quiescent_FinalRefIdeal (hFinalRefIdeal := hFinalRefIdeal)
    ∧ quiescent_HBwd (hHBwd := hHBwd)
    ∧ quiescent_HBwdIdeal (hHBwdIdeal := hHBwdIdeal)
    ∧ quiescent_HBwdRefIdeal (hHBwdRefIdeal := hHBwdRefIdeal)
    ∧ quiescent_RwPostBwd (hRwPostBwd := hRwPostBwd)
    ∧ quiescent_RwPostBwdIdeal (hRwPostBwdIdeal := hRwPostBwdIdeal)
    ∧ quiescent_RwPostBwdIdeal_pre_rw_post_finite (hRwPostBwdIdeal := hRwPostBwdIdeal) (hPre_rw_post_finite := hPre_rw_post_finite)
    ∧ quiescent_RwPostBwdRefIdeal (hRwPostBwdRefIdeal := hRwPostBwdRefIdeal)
    ∧ quiescent_RwPostBwdRefIdeal_pre_rw_post_finite (hRwPostBwdRefIdeal := hRwPostBwdRefIdeal) (hPre_rw_post_finite := hPre_rw_post_finite)
    ∧ quiescent_HgScanFwd0 (hHgScanFwd0 := hHgScanFwd0)
    ∧ quiescent_HgScanFwd0Ideal (hHgScanFwd0Ideal := hHgScanFwd0Ideal)
    ∧ quiescent_HgScanFwd0Ideal_pre_hg_lb_finite (hHgScanFwd0Ideal := hHgScanFwd0Ideal) (hPre_hg_lb_finite := hPre_hg_lb_finite)
    ∧ quiescent_HgScanFwd0RefIdeal (hHgScanFwd0RefIdeal := hHgScanFwd0RefIdeal)
    ∧ quiescent_HgScanFwd0RefIdeal_pre_hg_lb_finite (hHgScanFwd0RefIdeal := hHgScanFwd0RefIdeal) (hPre_hg_lb_finite := hPre_hg_lb_finite)
    ∧ quiescent_HgScanFwd1 (hHgScanFwd1 := hHgScanFwd1)
    ∧ quiescent_HgScanFwd1Ideal (hHgScanFwd1Ideal := hHgScanFwd1Ideal)
    ∧ quiescent_HgScanFwd1Ideal_pre_hg_lb_finite (hHgScanFwd1Ideal := hHgScanFwd1Ideal) (hPre_hg_lb_finite := hPre_hg_lb_finite)
    ∧ quiescent_HgScanFwd1RefIdeal (hHgScanFwd1RefIdeal := hHgScanFwd1RefIdeal)
    ∧ quiescent_HgScanFwd1RefIdeal_pre_hg_lb_finite (hHgScanFwd1RefIdeal := hHgScanFwd1RefIdeal) (hPre_hg_lb_finite := hPre_hg_lb_finite)
    ∧ quiescent_CondSilu (hCondSilu := hCondSilu)
    ∧ quiescent_CondSiluIdeal (hCondSiluIdeal := hCondSiluIdeal)
    ∧ quiescent_CondSiluRefIdeal (hCondSiluRefIdeal := hCondSiluRefIdeal)
    ∧ quiescent_Merge (hMerge := hMerge)
    ∧ quiescent_MergeIdeal (hMergeIdeal := hMergeIdeal)
    ∧ quiescent_MergeRefIdeal (hMergeRefIdeal := hMergeRefIdeal)
    ∧ quiescent_HgPost (hHgPost := hHgPost)
    ∧ quiescent_HgPostIdeal (hHgPostIdeal := hHgPostIdeal)
    ∧ quiescent_HgPostRefIdeal (hHgPostRefIdeal := hHgPostRefIdeal)
    ∧ quiescent_HFwd (hHFwd := hHFwd)
    ∧ quiescent_HFwdIdeal (hHFwdIdeal := hHFwdIdeal)
    ∧ quiescent_HFwdRefIdeal (hHFwdRefIdeal := hHFwdRefIdeal)
    ∧ quiescent_RwShift (hRwShift := hRwShift)
    ∧ quiescent_RwShiftIdeal (hRwShiftIdeal := hRwShiftIdeal)
    ∧ quiescent_RwShiftRefIdeal (hRwShiftRefIdeal := hRwShiftRefIdeal)
    ∧ quiescent_RwPost (hRwPost := hRwPost)
    ∧ quiescent_RwPostIdeal (hRwPostIdeal := hRwPostIdeal)
    ∧ quiescent_RwPostIdeal_pre_rw_bonus_finite (hRwPostIdeal := hRwPostIdeal) (hPre_rw_bonus_finite := hPre_rw_bonus_finite)
    ∧ quiescent_RwPostRefIdeal (hRwPostRefIdeal := hRwPostRefIdeal)
    ∧ quiescent_RwPostRefIdeal_pre_rw_bonus_finite (hRwPostRefIdeal := hRwPostRefIdeal) (hPre_rw_bonus_finite := hPre_rw_bonus_finite)
    ∧ quiescent_OutMm (hOutMm := hOutMm)
    ∧ quiescent_OutMmIdeal (hOutMmIdeal := hOutMmIdeal)
    ∧ quiescent_OutMmRefIdeal (hOutMmRefIdeal := hOutMmRefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_DWOut (hDWOut := hDWOut)
    ∧ quiescent_DWOutIdeal (hDWOutIdeal := hDWOutIdeal)
    ∧ quiescent_DWOutRefIdeal (hDWOutRefIdeal := hDWOutRefIdeal)
    ∧ quiescent_ProjMm (hProjMm := hProjMm)
    ∧ quiescent_ProjMmIdeal (hProjMmIdeal := hProjMmIdeal)
    ∧ quiescent_ProjMmRefIdeal (hProjMmRefIdeal := hProjMmRefIdeal)
    ∧ quiescent_DWIn (hDWIn := hDWIn)
    ∧ quiescent_DWInIdeal (hDWInIdeal := hDWInIdeal)
    ∧ quiescent_DWInRefIdeal (hDWInRefIdeal := hDWInRefIdeal)
    ∧ quiescent_DH (hDH := hDH)
    ∧ quiescent_DHIdeal (hDHIdeal := hDHIdeal)
    ∧ quiescent_DHRefIdeal (hDHRefIdeal := hDHRefIdeal)
    ∧ quiescent_AdamwAdaW (hAdamwAdaW := hAdamwAdaW)
    ∧ quiescent_AdamwAdaWIdeal (hAdamwAdaWIdeal := hAdamwAdaWIdeal)
    ∧ quiescent_AdamwAdaWRefIdeal (hAdamwAdaWRefIdeal := hAdamwAdaWRefIdeal)
    ∧ quiescent_ProjJoin (hProjJoin := hProjJoin)
    ∧ quiescent_ProjJoinIdeal (hProjJoinIdeal := hProjJoinIdeal)
    ∧ quiescent_ProjJoinRefIdeal (hProjJoinRefIdeal := hProjJoinRefIdeal)
    ∧ quiescent_GKa (hGKa := hGKa)
    ∧ quiescent_GKaIdeal (hGKaIdeal := hGKaIdeal)
    ∧ quiescent_GKaRefIdeal (hGKaRefIdeal := hGKaRefIdeal)
    ∧ preserves_CondBwd_CondBwdIdeal
    ∧ algebraic_CondBwdIdeal_CondBwdRefIdeal (hCondBwdIdeal := hCondBwdIdeal) (hCondBwdRefIdeal := hCondBwdRefIdeal)
    ∧ preserves_ShiftBwd_ShiftBwdIdeal
    ∧ algebraic_ShiftBwdIdeal_ShiftBwdRefIdeal_pre_shift_finite (hShiftBwdIdeal := hShiftBwdIdeal) (hShiftBwdRefIdeal := hShiftBwdRefIdeal) (hPre_shift_finite := hPre_shift_finite)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_HgPostBwd_HgPostBwdIdeal
    ∧ algebraic_HgPostBwdIdeal_HgPostBwdRefIdeal (hHgPostBwdIdeal := hHgPostBwdIdeal) (hHgPostBwdRefIdeal := hHgPostBwdRefIdeal)
    ∧ preserves_Final_FinalIdeal
    ∧ algebraic_FinalIdeal_FinalRefIdeal (hFinalIdeal := hFinalIdeal) (hFinalRefIdeal := hFinalRefIdeal)
    ∧ preserves_HBwd_HBwdIdeal
    ∧ algebraic_HBwdIdeal_HBwdRefIdeal (hHBwdIdeal := hHBwdIdeal) (hHBwdRefIdeal := hHBwdRefIdeal)
    ∧ preserves_RwPostBwd_RwPostBwdIdeal
    ∧ algebraic_RwPostBwdIdeal_RwPostBwdRefIdeal_pre_rw_post_finite (hRwPostBwdIdeal := hRwPostBwdIdeal) (hRwPostBwdRefIdeal := hRwPostBwdRefIdeal) (hPre_rw_post_finite := hPre_rw_post_finite)
    ∧ preserves_HgScanFwd0_HgScanFwd0Ideal
    ∧ algebraic_HgScanFwd0Ideal_HgScanFwd0RefIdeal_pre_hg_lb_finite (hHgScanFwd0Ideal := hHgScanFwd0Ideal) (hHgScanFwd0RefIdeal := hHgScanFwd0RefIdeal) (hPre_hg_lb_finite := hPre_hg_lb_finite)
    ∧ preserves_HgScanFwd1_HgScanFwd1Ideal
    ∧ algebraic_HgScanFwd1Ideal_HgScanFwd1RefIdeal_pre_hg_lb_finite (hHgScanFwd1Ideal := hHgScanFwd1Ideal) (hHgScanFwd1RefIdeal := hHgScanFwd1RefIdeal) (hPre_hg_lb_finite := hPre_hg_lb_finite)
    ∧ preserves_CondSilu_CondSiluIdeal
    ∧ algebraic_CondSiluIdeal_CondSiluRefIdeal (hCondSiluIdeal := hCondSiluIdeal) (hCondSiluRefIdeal := hCondSiluRefIdeal)
    ∧ preserves_Merge_MergeIdeal
    ∧ algebraic_MergeIdeal_MergeRefIdeal (hMergeIdeal := hMergeIdeal) (hMergeRefIdeal := hMergeRefIdeal)
    ∧ preserves_HgPost_HgPostIdeal
    ∧ algebraic_HgPostIdeal_HgPostRefIdeal (hHgPostIdeal := hHgPostIdeal) (hHgPostRefIdeal := hHgPostRefIdeal)
    ∧ preserves_HFwd_HFwdIdeal
    ∧ algebraic_HFwdIdeal_HFwdRefIdeal (hHFwdIdeal := hHFwdIdeal) (hHFwdRefIdeal := hHFwdRefIdeal)
    ∧ preserves_RwShift_RwShiftIdeal
    ∧ algebraic_RwShiftIdeal_RwShiftRefIdeal (hRwShiftIdeal := hRwShiftIdeal) (hRwShiftRefIdeal := hRwShiftRefIdeal)
    ∧ preserves_RwPost_RwPostIdeal
    ∧ algebraic_RwPostIdeal_RwPostRefIdeal_pre_rw_bonus_finite (hRwPostIdeal := hRwPostIdeal) (hRwPostRefIdeal := hRwPostRefIdeal) (hPre_rw_bonus_finite := hPre_rw_bonus_finite)
    ∧ preserves_OutMm_OutMmIdeal
    ∧ algebraic_OutMmIdeal_OutMmRefIdeal (hOutMmIdeal := hOutMmIdeal) (hOutMmRefIdeal := hOutMmRefIdeal)
    ∧ preserves_DMerged_DMergedIdeal
    ∧ algebraic_DMergedIdeal_DMergedRefIdeal (hDMergedIdeal := hDMergedIdeal) (hDMergedRefIdeal := hDMergedRefIdeal)
    ∧ preserves_DWOut_DWOutIdeal
    ∧ algebraic_DWOutIdeal_DWOutRefIdeal (hDWOutIdeal := hDWOutIdeal) (hDWOutRefIdeal := hDWOutRefIdeal)
    ∧ preserves_ProjMm_ProjMmIdeal
    ∧ algebraic_ProjMmIdeal_ProjMmRefIdeal (hProjMmIdeal := hProjMmIdeal) (hProjMmRefIdeal := hProjMmRefIdeal)
    ∧ preserves_DWIn_DWInIdeal
    ∧ algebraic_DWInIdeal_DWInRefIdeal (hDWInIdeal := hDWInIdeal) (hDWInRefIdeal := hDWInRefIdeal)
    ∧ preserves_DH_DHIdeal
    ∧ algebraic_DHIdeal_DHRefIdeal (hDHIdeal := hDHIdeal) (hDHRefIdeal := hDHRefIdeal)
    ∧ preserves_AdamwAdaW_AdamwAdaWIdeal
    ∧ algebraic_AdamwAdaWIdeal_AdamwAdaWRefIdeal (hAdamwAdaWIdeal := hAdamwAdaWIdeal) (hAdamwAdaWRefIdeal := hAdamwAdaWRefIdeal)
    ∧ preserves_ProjJoin_ProjJoinIdeal
    ∧ algebraic_ProjJoinIdeal_ProjJoinRefIdeal (hProjJoinIdeal := hProjJoinIdeal) (hProjJoinRefIdeal := hProjJoinRefIdeal)
    ∧ preserves_GKa_GKaIdeal
    ∧ algebraic_GKaIdeal_GKaRefIdeal (hGKaIdeal := hGKaIdeal) (hGKaRefIdeal := hGKaRefIdeal)
-- ==== Pre_hg_lb_finite.lean ====
abbrev S2304x13568 : Shape := ⟨2, ![2304, 13568]⟩
abbrev S2x1024 : Shape := ⟨2, ![2, 1024]⟩
abbrev S_ : Shape := ⟨0, ![]⟩

class Facts : Prop where
  bcast_S_S2x1024 : S_.BroadcastsInDim S2x1024 (![] : Fin 0 → Fin S2x1024.rank)

variable [Facts]

def fn {F : FTy → Type} [FloatOps F] (main_arg0 : FVec F S2304x13568 .f32) (main_arg1 : FVec F S2x1024 .f32) : IVec S2x1024 1 :=
  let main_v0 : FVec F S2x1024 .f32 := Host.absf main_arg1
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  main_v2
-- ==== Pre_rw_bonus_finite.lean ====
abbrev S2304x1024 : Shape := ⟨2, ![2304, 1024]⟩
abbrev S2304x3328 : Shape := ⟨2, ![2304, 3328]⟩
abbrev S2304x13568 : Shape := ⟨2, ![2304, 13568]⟩
abbrev S2x1024 : Shape := ⟨2, ![2, 1024]⟩
abbrev S2x64x1024 : Shape := ⟨3, ![2, 64, 1024]⟩
abbrev S1x1024 : Shape := ⟨2, ![1, 1024]⟩
abbrev S_ : Shape := ⟨0, ![]⟩

class Facts : Prop where
  bcast_S_S2304x3328 : S_.BroadcastsInDim S2304x3328 (![] : Fin 0 → Fin S2304x3328.rank)
  bcast_S_S1x1024 : S_.BroadcastsInDim S1x1024 (![] : Fin 0 → Fin S1x1024.rank)

variable [Facts]

def fn {F : FTy → Type} [FloatOps F] (main_arg0 : FVec F S2304x1024 .f32) (main_arg1 : FVec F S2304x1024 .f32) (main_arg2 : FVec F S2304x3328 .f32) (main_arg3 : FVec F S2304x13568 .f32) (main_arg4 : FVec F S2x1024 .f32) (main_arg5 : FVec F S2x64x1024 .f32) (main_arg6 : FVec F S1x1024 .f32) (main_arg7 : FVec F S1x1024 .f32) (main_arg8 : FVec F S1x1024 .f32) (main_arg9 : FVec F S1x1024 .f32) : IVec S2304x3328 1 × IVec S1x1024 1 :=
  let main_v0 : FVec F S2304x3328 .f32 := Host.absf main_arg2
  let main_cst : FVec F S_ .f32 := constant S_ .f32 0x7F800000#32
  let main_v1 : FVec F S2304x3328 .f32 := broadcastInDim S2304x3328 ![] bcast_S_S2304x3328 main_cst
  let main_v2 : IVec S2304x3328 1 := cmpf .olt main_v0 main_v1
  let main_v3 : FVec F S1x1024 .f32 := Host.absf main_arg6
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  (main_v2, main_v5)
-- ==== Pre_rw_post_finite.lean ====
abbrev S2304x1024 : Shape := ⟨2, ![2304, 1024]⟩
abbrev S2304x3328 : Shape := ⟨2, ![2304, 3328]⟩
abbrev S2304x13568 : Shape := ⟨2, ![2304, 13568]⟩
abbrev S2x1024 : Shape := ⟨2, ![2, 1024]⟩
abbrev S2x64x1024 : Shape := ⟨3, ![2, 64, 1024]⟩
abbrev S1x1024 : Shape := ⟨2, ![1, 1024]⟩
abbrev S_ : Shape := ⟨0, ![]⟩

class Facts : Prop where
  bcast_S_S2304x3328 : S_.BroadcastsInDim S2304x3328 (![] : Fin 0 → Fin S2304x3328.rank)
  bcast_S_S2304x13568 : S_.BroadcastsInDim S2304x13568 (![] : Fin 0 → Fin S2304x13568.rank)
  bcast_S_S1x1024 : S_.BroadcastsInDim S1x1024 (![] : Fin 0 → Fin S1x1024.rank)
  bcast_S_S2304x1024 : S_.BroadcastsInDim S2304x1024 (![] : Fin 0 → Fin S2304x1024.rank)

variable [Facts]

def fn {F : FTy → Type} [FloatOps F] (main_arg0 : FVec F S2304x1024 .f32) (main_arg1 : FVec F S2304x1024 .f32) (main_arg2 : FVec F S2304x3328 .f32) (main_arg3 : FVec F S2304x13568 .f32) (main_arg4 : FVec F S2x1024 .f32) (main_arg5 : FVec F S2x64x1024 .f32) (main_arg6 : FVec F S1x1024 .f32) (main_arg7 : FVec F S1x1024 .f32) (main_arg8 : FVec F S1x1024 .f32) (main_arg9 : FVec F S1x1024 .f32) (main_arg10 : FVec F S2304x1024 .f32) : IVec S2304x3328 1 × IVec S2304x13568 1 × IVec S1x1024 1 × IVec S1x1024 1 × IVec S2304x1024 1 :=
  let main_v0 : FVec F S2304x3328 .f32 := Host.absf main_arg2
  let main_cst : FVec F S_ .f32 := constant S_ .f32 0x7F800000#32
  let main_v1 : FVec F S2304x3328 .f32 := broadcastInDim S2304x3328 ![] bcast_S_S2304x3328 main_cst
  let main_v2 : IVec S2304x3328 1 := cmpf .olt main_v0 main_v1
  let main_v3 : FVec F S2304x13568 .f32 := Host.absf main_arg3
  let main_cst_0 : FVec F S_ .f32 := constant S_ .f32 0x7F800000#32
  let main_v4 : FVec F S2304x13568 .f32 := broadcastInDim S2304x13568 ![] bcast_S_S2304x13568 main_cst_0
  let main_v5 : IVec S2304x13568 1 := cmpf .olt main_v3 main_v4
  let main_v6 : FVec F S1x1024 .f32 := Host.absf main_arg6
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg7
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S2304x1024 .f32 := Host.absf main_arg10
  let main_cst_3 : FVec F S_ .f32 := constant S_ .f32 0x7F800000#32
  let main_v13 : FVec F S2304x1024 .f32 := broadcastInDim S2304x1024 ![] bcast_S_S2304x1024 main_cst_3
  let main_v14 : IVec S2304x1024 1 := cmpf .olt main_v12 main_v13
  (main_v2, main_v5, main_v8, main_v11, main_v14)
-- ==== Pre_shift_finite.lean ====
abbrev S2304x13568 : Shape := ⟨2, ![2304, 13568]⟩
abbrev S4x3328 : Shape := ⟨2, ![4, 3328]⟩
abbrev S2304x3328 : Shape := ⟨2, ![2304, 3328]⟩
abbrev S_ : Shape := ⟨0, ![]⟩

class Facts : Prop where
  bcast_S_S4x3328 : S_.BroadcastsInDim S4x3328 (![] : Fin 0 → Fin S4x3328.rank)
  bcast_S_S2304x3328 : S_.BroadcastsInDim S2304x3328 (![] : Fin 0 → Fin S2304x3328.rank)

variable [Facts]

def fn {F : FTy → Type} [FloatOps F] (main_arg0 : FVec F S2304x13568 .f32) (main_arg1 : FVec F S4x3328 .f32) (main_arg2 : FVec F S2304x3328 .f32) (main_arg3 : FVec F S2304x3328 .f32) (main_arg4 : FVec F S2304x3328 .f32) : IVec S4x3328 1 × IVec S2304x3328 1 × IVec S2304x3328 1 × IVec S2304x3328 1 :=
  let main_v0 : FVec F S4x3328 .f32 := Host.absf main_arg1
  let main_cst : FVec F S_ .f32 := constant S_ .f32 0x7F800000#32
  let main_v1 : FVec F S4x3328 .f32 := broadcastInDim S4x3328 ![] bcast_S_S4x3328 main_cst
  let main_v2 : IVec S4x3328 1 := cmpf .olt main_v0 main_v1
  let main_v3 : FVec F S2304x3328 .f32 := Host.absf main_arg2
  let main_cst_0 : FVec F S_ .f32 := constant S_ .f32 0x7F800000#32
  let main_v4 : FVec F S2304x3328 .f32 := broadcastInDim S2304x3328 ![] bcast_S_S2304x3328 main_cst_0
  let main_v5 : IVec S2304x3328 1 := cmpf .olt main_v3 main_v4
  let main_v6 : FVec F S2304x3328 .f32 := Host.absf main_arg3
  let main_cst_1 : FVec F S_ .f32 := constant S_ .f32 0x7F800000#32
  let main_v7 : FVec F S2304x3328 .f32 := broadcastInDim S2304x3328 ![] bcast_S_S2304x3328 main_cst_1
  let main_v8 : IVec S2304x3328 1 := cmpf .olt main_v6 main_v7
  let main_v9 : FVec F S2304x3328 .f32 := Host.absf main_arg4
  let main_cst_2 : FVec F S_ .f32 := constant S_ .f32 0x7F800000#32
  let main_v10 : FVec F S2304x3328 .f32 := broadcastInDim S2304x3328 ![] bcast_S_S2304x3328 main_cst_2
  let main_v11 : IVec S2304x3328 1 := cmpf .olt main_v9 main_v10
  (main_v2, main_v5, main_v8, main_v11)
-- ==== CondBwd.lean ====
abbrev S8x2048 : Shape := ⟨2, ![8, 2048]⟩
abbrev S2048 : Shape := ⟨1, ![2048]⟩
abbrev S16x2048 : Shape := ⟨2, ![16, 2048]⟩
abbrev S1x2048 : Shape := ⟨2, ![1, 2048]⟩
abbrev S_ : Shape := ⟨0, ![]⟩
abbrev S7x2048 : Shape := ⟨2, ![7, 2048]⟩

abbrev nBuf : Space → Nat
  | .hbm => 8
  | .vmem => 3
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S16x2048, .f32⟩
  | .hbm, ⟨3, _⟩ => ⟨S1x2048, .f32⟩
  | .hbm, ⟨4, _⟩ => ⟨S_, .f32⟩
  | .hbm, ⟨5, _⟩ => ⟨S7x2048, .f32⟩
  | .hbm, ⟨6, _⟩ => ⟨S16x2048, .f32⟩
  | .hbm, ⟨7, _⟩ => ⟨S16x2048, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== CondBwdRefIdeal.lean ====
abbrev S8x2048 : Shape := ⟨2, ![8, 2048]⟩
abbrev S2048 : Shape := ⟨1, ![2048]⟩
abbrev S16x2048 : Shape := ⟨2, ![16, 2048]⟩
abbrev S1x2048 : Shape := ⟨2, ![1, 2048]⟩
abbrev S_ : Shape := ⟨0, ![]⟩
abbrev S7x2048 : Shape := ⟨2, ![7, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S16x2048, .f32⟩
  | .hbm, ⟨3, _⟩ => ⟨S1x2048, .f32⟩
  | .hbm, ⟨4, _⟩ => ⟨S_, .f32⟩
  | .hbm, ⟨5, _⟩ => ⟨S7x2048, .f32⟩
  | .hbm, ⟨6, _⟩ => ⟨S16x2048, .f32⟩
  | .hbm, ⟨7, _⟩ => ⟨S16x2048, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S16x2048, .f32⟩
  | .hbm, ⟨15, _⟩ => ⟨S_, .f32⟩
  | .hbm, ⟨16, _⟩ => ⟨S16x2048, .f32⟩
  | .hbm, ⟨17, _⟩ => ⟨S16x2048, .f32⟩
  | .hbm, ⟨18, _⟩ => ⟨S16x2048, .f32⟩
  | .hbm, ⟨19, _⟩ => ⟨S16x2048, .f32⟩
  | .hbm, ⟨20, _⟩ => ⟨S16x2048, .f32⟩
  | .hbm, ⟨21, _⟩ => ⟨S16x2048, .f32⟩
  | .hbm, ⟨22, _⟩ => ⟨S16x2048, .f32⟩
  | .hbm, ⟨23, _⟩ => ⟨S16x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v4 : Ref sig .tc := ⟨.hbm, 23, rfl⟩

abbrev nD : Nat := 1
abbrev τ : Topo := Topo.v7x

variable {F : FTy → Type} [FloatOps F]
-- ==== ShiftBwd.lean ====
abbrev S2304x13568 : Shape := ⟨2, ![2304, 13568]⟩
abbrev S4x3328 : Shape := ⟨2, ![4, 3328]⟩
abbrev S2304x3328 : Shape := ⟨2, ![2304, 3328]⟩
abbrev S2304x128 : Shape := ⟨2, ![2304, 128]⟩
abbrev S4x128 : Shape := ⟨2, ![4, 128]⟩
abbrev S2304x1 : Shape := ⟨2, ![2304, 1]⟩
abbrev S128 : Shape := ⟨1, ![128]⟩
abbrev S1x128 : Shape := ⟨2, ![1, 128]⟩

abbrev nBuf : Space → Nat
  | .hbm => 7
  | .vmem => 14
  | .smem => 0
  | _ => 0

abbrev bufTy : (tb : Table) → Fin (tcTables nBuf tb) → BufTy
  | .hbm, ⟨0, _⟩ => ⟨S2304x13568, .f32⟩
  | .hbm, ⟨1, _⟩ => ⟨S4x3328, .f32⟩
  | .hbm, ⟨2, _⟩ => ⟨S2304x3328, .f32⟩
  | .hbm, ⟨3, _⟩ => ⟨S2304x3328, .f32⟩
  | .hbm, ⟨4, _⟩ => ⟨S2304x3328, .f32⟩
  | .hbm, ⟨5, _⟩ => ⟨S2304x3328, .bf16⟩
  | .hbm, ⟨6, _⟩ => ⟨S4x3328, .f32⟩
  | .local _ .vmem, ⟨0, _⟩ => ⟨S2304x128, .f32⟩
  | .local _ .vmem, ⟨1, _⟩ => ⟨S2304x128, .f32⟩
  | .local _ .vmem, ⟨2, _⟩ => ⟨S4x128, .f32⟩
  | .local _ .vmem, ⟨3, _⟩ => ⟨S4x128, .f32⟩
  | .local _ .vmem, ⟨4, _⟩ => ⟨S2304x128, .f32⟩
  | .local _ .vmem, ⟨5, _⟩ => ⟨S2304x128, .f32⟩
  | .local _ .vmem, ⟨6, _⟩ => ⟨S2304x128, .f32⟩
  | .local _ .vmem, ⟨7, _⟩ => ⟨S2304x128, .f32⟩
  | .local _ .vmem, ⟨8, _⟩ => ⟨S2304x128, .f32⟩
  | .local _ .vmem, ⟨9, _⟩ => ⟨S2304x128, .f32⟩
  | .local _ .vmem, ⟨10, _⟩ => ⟨S2304x128, .bf16⟩
  | .local _ .vmem, ⟨11, _⟩ => ⟨S2304x128, .bf16⟩
  | .local _ .vmem, ⟨12, _⟩ => ⟨S4x128, .f32⟩
  | .local _ .vmem, ⟨13, _⟩ => ⟨S4x128, .f32⟩
  | _, _ => ⟨S2304x13568, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2304x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2304x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2304x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ShiftBwdRefIdeal.lean ====
abbrev S2304x13568 : Shape := ⟨2, ![2304, 13568]⟩
abbrev S4x3328 : Shape := ⟨2, ![4, 3328]⟩
abbrev S2304x3328 : Shape := ⟨2, ![2304, 3328]⟩
abbrev S256x3328 : Shape := ⟨2, ![256, 3328]⟩
abbrev S1x256x3328 : Shape := ⟨3, ![1, 256, 3328]⟩
abbrev S1x1x3328 : Shape := ⟨3, ![1, 1, 3328]⟩
abbrev S_ : Shape := ⟨0, ![]⟩
abbrev S1x255x3328 : Shape := ⟨3, ![1, 255, 3328]⟩
abbrev S1x3328 : Shape := ⟨2, ![1, 3328]⟩
abbrev S3328 : Shape := ⟨1, ![3328]⟩
abbrev S2048x3328 : Shape := ⟨2, ![2048, 3328]⟩
abbrev S32x64x3328 : Shape := ⟨3, ![32, 64, 3328]⟩
abbrev S32x1x3328 : Shape := ⟨3, ![32, 1, 3328]⟩
abbrev S32x63x3328 : Shape := ⟨3, ![32, 63, 3328]⟩
abbrev S1x64x3328 : Shape := ⟨3, ![1, 64, 3328]⟩
abbrev S31x64x3328 : Shape := ⟨3, ![31, 64, 3328]⟩

abbrev nBuf : Space → Nat
  | .hbm => 215
  | .vmem => 0
  | .smem => 0
  | _ => 0

abbrev hbmTy0_0 (i : Nat) : BufTy := match i % 128 with
  | 0 => ⟨S2304x13568, .f32⟩
  | 1 => ⟨S4x3328, .f32⟩
  | 2 => ⟨S2304x3328, .f32⟩
  | 3 => ⟨S2304x3328, .f32⟩
  | 4 => ⟨S2304x3328, .f32⟩
  | 5 => ⟨S2304x3328, .f32⟩
  | 6 => ⟨S256x3328, .f32⟩
  | 7 => ⟨S1x256x3328, .f32⟩
  | 8 => ⟨S1x1x3328, .f32⟩
  | 9 => ⟨S_, .f32⟩
  | 10 => ⟨S1x1x3328, .f32⟩
  | 11 => ⟨S1x255x3328, .f32⟩
  | 12 => ⟨S1x256x3328, .f32⟩
  | 13 => ⟨S_, .f32⟩
  | 14 => ⟨S1x1x3328, .f32⟩
  | 15 => ⟨S1x255x3328, .f32⟩
  | 16 => ⟨S1x256x3328, .f32⟩
  | 17 => ⟨S_, .f32⟩
  | 18 => ⟨S1x1x3328, .f32⟩
  | 19 => ⟨S1x3328, .f32⟩
  | 20 => ⟨S3328, .f32⟩
  | 21 => ⟨S1x256x3328, .f32⟩
  | 22 => ⟨S1x1x3328, .f32⟩
  | 23 => ⟨S1x256x3328, .f32⟩
  | 24 => ⟨S1x256x3328, .f32⟩
  | 25 => ⟨S1x256x3328, .f32⟩
  | 26 => ⟨S1x3328, .f32⟩
  | 27 => ⟨S3328, .f32⟩
  | 28 => ⟨S1x256x3328, .f32⟩
  | 29 => ⟨S1x1x3328, .f32⟩
  | 30 => ⟨S1x256x3328, .f32⟩
  | 31 => ⟨S1x256x3328, .f32⟩
  | 32 => ⟨S1x256x3328, .f32⟩
  | 33 => ⟨S256x3328, .f32⟩
  | 34 => ⟨S2048x3328, .f32⟩
  | 35 => ⟨S32x64x3328, .f32⟩
  | 36 => ⟨S32x1x3328, .f32⟩
  | 37 => ⟨S_, .f32⟩
  | 38 => ⟨S32x1x3328, .f32⟩
  | 39 => ⟨S32x63x3328, .f32⟩
  | 40 => ⟨S32x64x3328, .f32⟩
  | 41 => ⟨S_, .f32⟩
  | 42 => ⟨S32x1x3328, .f32⟩
  | 43 => ⟨S32x63x3328, .f32⟩
  | 44 => ⟨S32x64x3328, .f32⟩
  | 45 => ⟨S_, .f32⟩
  | 46 => ⟨S32x1x3328, .f32⟩
  | 47 => ⟨S1x3328, .f32⟩
  | 48 => ⟨S3328, .f32⟩
  | 49 => ⟨S32x64x3328, .f32⟩
  | 50 => ⟨S1x1x3328, .f32⟩
  | 51 => ⟨S32x64x3328, .f32⟩
  | 52 => ⟨S32x64x3328, .f32⟩
  | 53 => ⟨S32x64x3328, .f32⟩
  | 54 => ⟨S1x3328, .f32⟩
  | 55 => ⟨S3328, .f32⟩
  | 56 => ⟨S32x64x3328, .f32⟩
  | 57 => ⟨S1x1x3328, .f32⟩
  | 58 => ⟨S32x64x3328, .f32⟩
  | 59 => ⟨S32x64x3328, .f32⟩
  | 60 => ⟨S32x64x3328, .f32⟩
  | 61 => ⟨S1x64x3328, .f32⟩
  | 62 => ⟨S_, .f32⟩
  | 63 => ⟨S1x64x3328, .f32⟩
  | 64 => ⟨S31x64x3328, .f32⟩
  | 65 => ⟨S32x64x3328, .f32⟩
  | 66 => ⟨S_, .f32⟩
  | 67 => ⟨S1x64x3328, .f32⟩
  | 68 => ⟨S31x64x3328, .f32⟩
  | 69 => ⟨S32x64x3328, .f32⟩
  | 70 => ⟨S_, .f32⟩
  | 71 => ⟨S1x64x3328, .f32⟩
  | 72 => ⟨S1x3328, .f32⟩
  | 73 => ⟨S3328, .f32⟩
  | 74 => ⟨S32x64x3328, .f32⟩
  | 75 => ⟨S1x1x3328, .f32⟩
  | 76 => ⟨S32x64x3328, .f32⟩
  | 77 => ⟨S32x64x3328, .f32⟩
  | 78 => ⟨S32x64x3328, .f32⟩
  | 79 => ⟨S1x3328, .f32⟩
  | 80 => ⟨S3328, .f32⟩
  | 81 => ⟨S32x64x3328, .f32⟩
  | 82 => ⟨S1x1x3328, .f32⟩
  | 83 => ⟨S32x64x3328, .f32⟩
  | 84 => ⟨S32x64x3328, .f32⟩
  | 85 => ⟨S32x64x3328, .f32⟩
  | 86 => ⟨S2048x3328, .f32⟩
  | 87 => ⟨S2304x3328, .f32⟩
  | 88 => ⟨S2304x3328, .f32⟩
  | 89 => ⟨S2304x3328, .f32⟩
  | 90 => ⟨S256x3328, .f32⟩
  | 91 => ⟨S2048x3328, .f32⟩
  | 92 => ⟨S32x64x3328, .f32⟩
  | 93 => ⟨S32x64x3328, .f32⟩
  | 94 => ⟨S32x64x3328, .f32⟩
  | 95 => ⟨S32x64x3328, .f32⟩
  | 96 => ⟨S_, .f32⟩
  | 97 => ⟨S3328, .f32⟩
  | 98 => ⟨S1x1x3328, .f32⟩
  | 99 => ⟨S_, .f32⟩
  | 100 => ⟨S3328, .f32⟩
  | 101 => ⟨S32x64x3328, .f32⟩
  | 102 => ⟨S1x3328, .f32⟩
  | 103 => ⟨S_, .f32⟩
  | 104 => ⟨S4x3328, .f32⟩
  | 105 => ⟨S32x64x3328, .f32⟩
  | 106 => ⟨S32x64x3328, .f32⟩
  | 107 => ⟨S32x64x3328, .f32⟩
  | 108 => ⟨S_, .f32⟩
  | 109 => ⟨S3328, .f32⟩
  | 110 => ⟨S1x1x3328, .f32⟩
  | 111 => ⟨S_, .f32⟩
  | 112 => ⟨S3328, .f32⟩
  | 113 => ⟨S32x64x3328, .f32⟩
  | 114 => ⟨S32x64x3328, .f32⟩
  | 115 => ⟨S1x3328, .f32⟩
  | 116 => ⟨S_, .f32⟩
  | 117 => ⟨S4x3328, .f32⟩
  | 118 => ⟨S4x3328, .f32⟩
  | 119 => ⟨S31x64x3328, .f32⟩
  | 120 => ⟨S1x64x3328, .f32⟩
  | 121 => ⟨S_, .f32⟩
  | 122 => ⟨S32x64x3328, .f32⟩
  | 123 => ⟨S32x64x3328, .f32⟩
  | 124 => ⟨S1x64x3328, .f32⟩
  | 125 => ⟨S31x64x3328, .f32⟩
  | 126 => ⟨S_, .f32⟩
  | 127 => ⟨S32x64x3328, .f32⟩
  | _ => ⟨S2304x13568, .f32⟩

abbrev hbmTy0_1 (i : Nat) : BufTy := match i % 128 with
  | 0 => ⟨S32x64x3328, .f32⟩
  | 1 => ⟨S32x64x3328, .f32⟩
  | 2 => ⟨S32x64x3328, .f32⟩
  | 3 => ⟨S32x64x3328, .f32⟩
  | 4 => ⟨S_, .f32⟩
  | 5 => ⟨S3328, .f32⟩
  | 6 => ⟨S1x1x3328, .f32⟩
  | 7 => ⟨S_, .f32⟩
  | 8 => ⟨S3328, .f32⟩
  | 9 => ⟨S32x64x3328, .f32⟩
  | 10 => ⟨S32x64x3328, .f32⟩
  | 11 => ⟨S1x3328, .f32⟩
  | 12 => ⟨S_, .f32⟩
  | 13 => ⟨S4x3328, .f32⟩
  | 14 => ⟨S4x3328, .f32⟩
  | 15 => ⟨S32x64x3328, .f32⟩
  | 16 => ⟨S32x64x3328, .f32⟩
  | 17 => ⟨S32x64x3328, .f32⟩
  | 18 => ⟨S32x64x3328, .f32⟩
  | 19 => ⟨S_, .f32⟩
  | 20 => ⟨S3328, .f32⟩
  | 21 => ⟨S1x1x3328, .f32⟩
  | 22 => ⟨S_, .f32⟩
  | 23 => ⟨S3328, .f32⟩
  | 24 => ⟨S32x64x3328, .f32⟩
  | 25 => ⟨S32x64x3328, .f32⟩
  | 26 => ⟨S1x3328, .f32⟩
  | 27 => ⟨S_, .f32⟩
  | 28 => ⟨S4x3328, .f32⟩
  | 29 => ⟨S4x3328, .f32⟩
  | 30 => ⟨S32x63x3328, .f32⟩
  | 31 => ⟨S32x1x3328, .f32⟩
  | 32 => ⟨S_, .f32⟩
  | 33 => ⟨S32x64x3328, .f32⟩
  | 34 => ⟨S32x64x3328, .f32⟩
  | 35 => ⟨S32x1x3328, .f32⟩
  | 36 => ⟨S32x63x3328, .f32⟩
  | 37 => ⟨S_, .f32⟩
  | 38 => ⟨S32x64x3328, .f32⟩
  | 39 => ⟨S32x64x3328, .f32⟩
  | 40 => ⟨S2048x3328, .f32⟩
  | 41 => ⟨S_, .f32⟩
  | 42 => ⟨S2304x3328, .f32⟩
  | 43 => ⟨S1x256x3328, .f32⟩
  | 44 => ⟨S1x256x3328, .f32⟩
  | 45 => ⟨S1x256x3328, .f32⟩
  | 46 => ⟨S1x256x3328, .f32⟩
  | 47 => ⟨S_, .f32⟩
  | 48 => ⟨S1x3328, .f32⟩
  | 49 => ⟨S1x1x3328, .f32⟩
  | 50 => ⟨S_, .f32⟩
  | 51 => ⟨S3328, .f32⟩
  | 52 => ⟨S1x256x3328, .f32⟩
  | 53 => ⟨S1x3328, .f32⟩
  | 54 => ⟨S_, .f32⟩
  | 55 => ⟨S4x3328, .f32⟩
  | 56 => ⟨S4x3328, .f32⟩
  | 57 => ⟨S1x256x3328, .f32⟩
  | 58 => ⟨S1x256x3328, .f32⟩
  | 59 => ⟨S1x256x3328, .f32⟩
  | 60 => ⟨S1x256x3328, .f32⟩
  | 61 => ⟨S_, .f32⟩
  | 62 => ⟨S1x3328, .f32⟩
  | 63 => ⟨S1x1x3328, .f32⟩
  | 64 => ⟨S_, .f32⟩
  | 65 => ⟨S3328, .f32⟩
  | 66 => ⟨S1x256x3328, .f32⟩
  | 67 => ⟨S1x256x3328, .f32⟩
  | 68 => ⟨S1x3328, .f32⟩
  | 69 => ⟨S_, .f32⟩
  | 70 => ⟨S4x3328, .f32⟩
  | 71 => ⟨S4x3328, .f32⟩
  | 72 => ⟨S1x255x3328, .f32⟩
  | 73 => ⟨S1x1x3328, .f32⟩
  | 74 => ⟨S_, .f32⟩
  | 75 => ⟨S1x256x3328, .f32⟩
  | 76 => ⟨S1x256x3328, .f32⟩
  | 77 => ⟨S1x1x3328, .f32⟩
  | 78 => ⟨S1x255x3328, .f32⟩
  | 79 => ⟨S_, .f32⟩
  | 80 => ⟨S1x256x3328, .f32⟩
  | 81 => ⟨S1x256x3328, .f32⟩
  | 82 => ⟨S256x3328, .f32⟩
  | 83 => ⟨S_, .f32⟩
  | 84 => ⟨S2304x3328, .f32⟩
  | 85 => ⟨S2304x3328, .f32⟩
  | 86 => ⟨S2304x3328, .bf16⟩
  | _ => ⟨S2304x13568, .f32⟩

abbrev hbmTy (i : Nat) : BufTy := match i / 128 with
  | 0 => hbmTy0_0 i
  | 1 => hbmTy0_1 i
  | _ => ⟨S2304x13568, .f32⟩

abbrev bufTy : (tb : Table) → Fin (tcTables nBuf tb) → BufTy
  | .hbm, ⟨i, _⟩ => hbmTy i
  | _, _ => ⟨S2304x13568, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst_8 : Ref sig .tc := ⟨.hbm, 96, rfl⟩
abbrev main_v82 : Ref sig .tc := ⟨.hbm, 97, rfl⟩
abbrev main_v83 : Ref sig .tc := ⟨.hbm, 98, rfl⟩
abbrev main_cst_9 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_10 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_11 : Ref sig .tc := ⟨.hbm, 108, rfl⟩
abbrev main_v91 : Ref sig .tc := ⟨.hbm, 109, rfl⟩
abbrev main_v92 : Ref sig .tc := ⟨.hbm, 110, rfl⟩
abbrev main_cst_12 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_13 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_14 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_15 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_16 : Ref sig .tc := ⟨.hbm, 132, rfl⟩
abbrev main_v110 : Ref sig .tc := ⟨.hbm, 133, rfl⟩
abbrev main_v111 : Ref sig .tc := ⟨.hbm, 134, rfl⟩
abbrev main_cst_17 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_cst_18 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_cst_19 : Ref sig .tc := ⟨.hbm, 147, rfl⟩
abbrev main_v122 : Ref sig .tc := ⟨.hbm, 148, rfl⟩
abbrev main_v123 : Ref sig .tc := ⟨.hbm, 149, rfl⟩
abbrev main_cst_20 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_21 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_cst_22 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_cst_23 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_cst_24 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_cst_25 : Ref sig .tc := ⟨.hbm, 175, rfl⟩
abbrev main_v144 : Ref sig .tc := ⟨.hbm, 176, rfl⟩
abbrev main_v145 : Ref sig .tc := ⟨.hbm, 177, rfl⟩
abbrev main_cst_26 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_cst_27 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_cst_28 : Ref sig .tc := ⟨.hbm, 189, rfl⟩
abbrev main_v155 : Ref sig .tc := ⟨.hbm, 190, rfl⟩
abbrev main_v156 : Ref sig .tc := ⟨.hbm, 191, rfl⟩
abbrev main_cst_29 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_cst_30 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_cst_31 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_cst_32 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_cst_33 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩

abbrev nD : Nat := 1
abbrev τ : Topo := Topo.v7x

variable {F : FTy → Type} [FloatOps F]
-- ==== MergeBwd.lean ====
abbrev S2304x2048 : Shape := ⟨2, ![2304, 2048]⟩
abbrev S2304x13568 : Shape := ⟨2, ![2304, 13568]⟩
abbrev S2304x4096 : Shape := ⟨2, ![2304, 4096]⟩
abbrev S256x2048 : Shape := ⟨2, ![256, 2048]⟩
abbrev S256x4096 : Shape := ⟨2, ![256, 4096]⟩

abbrev nBuf : Space → Nat
  | .hbm => 8
  | .vmem => 16
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x13568, .f32⟩
  | .hbm, ⟨3, _⟩ => ⟨S2304x2048, .f32⟩
  | .hbm, ⟨4, _⟩ => ⟨S2304x4096, .f32⟩
  | .hbm, ⟨5, _⟩ => ⟨S2304x2048, .bf16⟩
  | .hbm, ⟨6, _⟩ => ⟨S2304x2048, .bf16⟩
  | .hbm, ⟨7, _⟩ => ⟨S2304x4096, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x4096, .bf16⟩
  | .local _ .vmem, ⟨15, _⟩ => ⟨S256x4096, .bf16⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c1_i32 : BitVec 32 := 1#32
  let c0_i32_1 : BitVec 32 := 0#32
  ![v2.toNat, c1_i32.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeBwdRefIdeal.lean ====
abbrev S2304x2048 : Shape := ⟨2, ![2304, 2048]⟩
abbrev S2304x13568 : Shape := ⟨2, ![2304, 13568]⟩
abbrev S2304x4096 : Shape := ⟨2, ![2304, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x13568, .f32⟩
  | .hbm, ⟨3, _⟩ => ⟨S2304x2048, .f32⟩
  | .hbm, ⟨4, _⟩ => ⟨S2304x4096, .f32⟩
  | .hbm, ⟨5, _⟩ => ⟨S2304x2048, .f32⟩
  | .hbm, ⟨6, _⟩ => ⟨S2304x2048, .f32⟩
  | .hbm, ⟨7, _⟩ => ⟨S2304x2048, .f32⟩
  | .hbm, ⟨8, _⟩ => ⟨S2304x2048, .f32⟩
  | .hbm, ⟨9, _⟩ => ⟨S_, .f32⟩
  | .hbm, ⟨10, _⟩ => ⟨S2304x2048, .f32⟩
  | .hbm, ⟨11, _⟩ => ⟨S2304x2048, .f32⟩
  | .hbm, ⟨12, _⟩ => ⟨S_, .f32⟩
  | .hbm, ⟨13, _⟩ => ⟨S2304x2048, .f32⟩
  | .hbm, ⟨14, _⟩ => ⟨S2304x2048, .f32⟩
  | .hbm, ⟨15, _⟩ => ⟨S_, .f32⟩
  | .hbm, ⟨16, _⟩ => ⟨S2304x2048, .f32⟩
  | .hbm, ⟨17, _⟩ => ⟨S2304x2048, .f32⟩
  | .hbm, ⟨18, _⟩ => ⟨S2304x2048, .f32⟩
  | .hbm, ⟨19, _⟩ => ⟨S2304x2048, .f32⟩
  | .hbm, ⟨20, _⟩ => ⟨S2304x2048, .f32⟩
  | .hbm, ⟨21, _⟩ => ⟨S2304x2048, .f32⟩
  | .hbm, ⟨22, _⟩ => ⟨S_, .f32⟩
  | .hbm, ⟨23, _⟩ => ⟨S2304x2048, .f32⟩
  | .hbm, ⟨24, _⟩ => ⟨S2304x2048, .f32⟩
  | .hbm, ⟨25, _⟩ => ⟨S_, .f32⟩
  | .hbm, ⟨26, _⟩ => ⟨S2304x2048, .f32⟩
  | .hbm, ⟨27, _⟩ => ⟨S2304x2048, .f32⟩
  | .hbm, ⟨28, _⟩ => ⟨S_, .f32⟩
  | .hbm, ⟨29, _⟩ => ⟨S2304x2048, .f32⟩
  | .hbm, ⟨30, _⟩ => ⟨S2304x2048, .f32⟩
  | .hbm, ⟨31, _⟩ => ⟨S2304x2048, .f32⟩
  | .hbm, ⟨32, _⟩ => ⟨S2304x2048, .f32⟩
  | .hbm, ⟨33, _⟩ => ⟨S2304x2048, .f32⟩
  | .hbm, ⟨34, _⟩ => ⟨S2304x2048, .f32⟩
  | .hbm, ⟨35, _⟩ => ⟨S2304x2048, .f32⟩
  | .hbm, ⟨36, _⟩ => ⟨S2304x2048, .f32⟩
  | .hbm, ⟨37, _⟩ => ⟨S2304x2048, .f32⟩
  | .hbm, ⟨38, _⟩ => ⟨S2304x2048, .f32⟩
  | .hbm, ⟨39, _⟩ => ⟨S2304x2048, .f32⟩
  | .hbm, ⟨40, _⟩ => ⟨S2304x2048, .f32⟩
  | .hbm, ⟨41, _⟩ => ⟨S2304x2048, .f32⟩
  | .hbm, ⟨42, _⟩ => ⟨S2304x4096, .f32⟩
  | .hbm, ⟨43, _⟩ => ⟨S2304x2048, .bf16⟩
  | .hbm, ⟨44, _⟩ => ⟨S2304x2048, .bf16⟩
  | .hbm, ⟨45, _⟩ => ⟨S2304x4096, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== HgPostBwd.lean ====
abbrev S2304x1024 : Shape := ⟨2, ![2304, 1024]⟩
abbrev S2304x13568 : Shape := ⟨2, ![2304, 13568]⟩
abbrev S1x1024 : Shape := ⟨2, ![1, 1024]⟩
abbrev S256x1024 : Shape := ⟨2, ![256, 1024]⟩
abbrev S256x8x128 : Shape := ⟨3, ![256, 8, 128]⟩
abbrev S256x8 : Shape := ⟨2, ![256, 8]⟩
abbrev S256x8x1 : Shape := ⟨3, ![256, 8, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2304x13568, .f32⟩
  | .hbm, ⟨3, _⟩ => ⟨S1x1024, .f32⟩
  | .hbm, ⟨4, _⟩ => ⟨S2304x1024, .f32⟩
  | .hbm, ⟨5, _⟩ => ⟨S2304x1024, .f32⟩
  | .hbm, ⟨6, _⟩ => ⟨S2304x1024, .bf16⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c4_i32 : BitVec 32 := 4#32
  let c0_i32_1 : BitVec 32 := 0#32
  ![v2.toNat, c4_i32.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== HgPostBwdRefIdeal.lean ====
abbrev S2304x1024 : Shape := ⟨2, ![2304, 1024]⟩
abbrev S2304x13568 : Shape := ⟨2, ![2304, 13568]⟩
abbrev S1x1024 : Shape := ⟨2, ![1, 1024]⟩
abbrev S2304x8x128 : Shape := ⟨3, ![2304, 8, 128]⟩
abbrev S_ : Shape := ⟨0, ![]⟩
abbrev S2304x8 : Shape := ⟨2, ![2304, 8]⟩
abbrev S2304x8x1 : Shape := ⟨3, ![2304, 8, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2304x13568, .f32⟩
  | .hbm, ⟨3, _⟩ => ⟨S1x1024, .f32⟩
  | .hbm, ⟨4, _⟩ => ⟨S2304x1024, .f32⟩
  | .hbm, ⟨5, _⟩ => ⟨S2304x1024, .f32⟩
  | .hbm, ⟨6, _⟩ => ⟨S2304x1024, .f32⟩
  | .hbm, ⟨7, _⟩ => ⟨S2304x8x128, .f32⟩
  | .hbm, ⟨8, _⟩ => ⟨S2304x8x128, .f32⟩
  | .hbm, ⟨9, _⟩ => ⟨S_, .f32⟩
  | .hbm, ⟨10, _⟩ => ⟨S2304x8, .f32⟩
  | .hbm, ⟨11, _⟩ => ⟨S2304x8x1, .f32⟩
  | .hbm, ⟨12, _⟩ => ⟨S_, .f32⟩
  | .hbm, ⟨13, _⟩ => ⟨S2304x8x1, .f32⟩
  | .hbm, ⟨14, _⟩ => ⟨S2304x8x1, .f32⟩
  | .hbm, ⟨15, _⟩ => ⟨S_, .f32⟩
  | .hbm, ⟨16, _⟩ => ⟨S2304x8x1, .f32⟩
  | .hbm, ⟨17, _⟩ => ⟨S2304x8x1, .f32⟩
  | .hbm, ⟨18, _⟩ => ⟨S2304x8x1, .f32⟩
  | .hbm, ⟨19, _⟩ => ⟨S2304x8x1, .f32⟩
  | .hbm, ⟨20, _⟩ => ⟨S_, .f32⟩
  | .hbm, ⟨21, _⟩ => ⟨S2304x8x1, .f32⟩
  | .hbm, ⟨22, _⟩ => ⟨S2304x8x1, .f32⟩
  | .hbm, ⟨23, _⟩ => ⟨S2304x8x128, .f32⟩
  | .hbm, ⟨24, _⟩ => ⟨S2304x8x128, .f32⟩
  | .hbm, ⟨25, _⟩ => ⟨S2304x1024, .f32⟩
  | .hbm, ⟨26, _⟩ => ⟨S1024, .f32⟩
  | .hbm, ⟨27, _⟩ => ⟨S1x1024, .f32⟩
  | .hbm, ⟨28, _⟩ => ⟨S2304x1024, .f32⟩
  | .hbm, ⟨29, _⟩ => ⟨S2304x1024, .f32⟩
  | .hbm, ⟨30, _⟩ => ⟨S2304x1024, .f32⟩
  | .hbm, ⟨31, _⟩ => ⟨S2304x1024, .f32⟩
  | .hbm, ⟨32, _⟩ => ⟨S_, .f32⟩
  | .hbm, ⟨33, _⟩ => ⟨S2304x1024, .f32⟩
  | .hbm, ⟨34, _⟩ => ⟨S2304x1024, .f32⟩
  | .hbm, ⟨35, _⟩ => ⟨S_, .f32⟩
  | .hbm, ⟨36, _⟩ => ⟨S2304x1024, .f32⟩
  | .hbm, ⟨37, _⟩ => ⟨S2304x1024, .f32⟩
  | .hbm, ⟨38, _⟩ => ⟨S_, .f32⟩
  | .hbm, ⟨39, _⟩ => ⟨S2304x1024, .f32⟩
  | .hbm, ⟨40, _⟩ => ⟨S2304x1024, .f32⟩
  | .hbm, ⟨41, _⟩ => ⟨S2304x1024, .f32⟩
  | .hbm, ⟨42, _⟩ => ⟨S2304x1024, .f32⟩
  | .hbm, ⟨43, _⟩ => ⟨S2304x1024, .f32⟩
  | .hbm, ⟨44, _⟩ => ⟨S2304x1024, .f32⟩
  | .hbm, ⟨45, _⟩ => ⟨S2304x1024, .f32⟩
  | .hbm, ⟨46, _⟩ => ⟨S2304x1024, .f32⟩
  | .hbm, ⟨47, _⟩ => ⟨S2304x1024, .f32⟩
  | .hbm, ⟨48, _⟩ => ⟨S2304x1024, .f32⟩
  | .hbm, ⟨49, _⟩ => ⟨S2304x1024, .f32⟩
  | .hbm, ⟨50, _⟩ => ⟨S2304x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2304x1024, .f32⟩
  | .hbm, ⟨55, _⟩ => ⟨S2304x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2304x8x128, .f32⟩
  | .hbm, ⟨60, _⟩ => ⟨S2304x8x128, .f32⟩
  | .hbm, ⟨61, _⟩ => ⟨S_, .f32⟩
  | .hbm, ⟨62, _⟩ => ⟨S2304x8, .f32⟩
  | .hbm, ⟨63, _⟩ => ⟨S2304x8x1, .f32⟩
  | .hbm, ⟨64, _⟩ => ⟨S2304x8x128, .f32⟩
  | .hbm, ⟨65, _⟩ => ⟨S2304x8x128, .f32⟩
  | .hbm, ⟨66, _⟩ => ⟨S2304x8x1, .f32⟩
  | .hbm, ⟨67, _⟩ => ⟨S_, .f32⟩
  | .hbm, ⟨68, _⟩ => ⟨S2304x8x1, .f32⟩
  | .hbm, ⟨69, _⟩ => ⟨S2304x8x1, .f32⟩
  | .hbm, ⟨70, _⟩ => ⟨S_, .f32⟩
  | .hbm, ⟨71, _⟩ => ⟨S2304x8, .f32⟩
  | .hbm, ⟨72, _⟩ => ⟨S2304x8x128, .f32⟩
  | .hbm, ⟨73, _⟩ => ⟨S2304x8x128, .f32⟩
  | .hbm, ⟨74, _⟩ => ⟨S2304x8x128, .f32⟩
  | .hbm, ⟨75, _⟩ => ⟨S2304x8x128, .f32⟩
  | .hbm, ⟨76, _⟩ => ⟨S2304x8x128, .f32⟩
  | .hbm, ⟨77, _⟩ => ⟨S2304x1024, .f32⟩
  | .hbm, ⟨78, _⟩ => ⟨S2304x1024, .bf16⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v21_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v21_1 : Ref sig .tc := ⟨.hbm, 41, rfl⟩
abbrev main_v21_0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== Final.lean ====
abbrev S2048x2048 : Shape := ⟨2, ![2048, 2048]⟩
abbrev S2304x2048 : Shape := ⟨2, ![2304, 2048]⟩
abbrev S8x6144 : Shape := ⟨2, ![8, 6144]⟩
abbrev S2048 : Shape := ⟨1, ![2048]⟩
abbrev S1x2048 : Shape := ⟨2, ![1, 2048]⟩
abbrev S8x3x2048 : Shape := ⟨3, ![8, 3, 2048]⟩
abbrev S8x128 : Shape := ⟨2, ![8, 128]⟩
abbrev S256x2048 : Shape := ⟨2, ![256, 2048]⟩
abbrev S1x3x2048 : Shape := ⟨3, ![1, 3, 2048]⟩
abbrev S3x2048 : Shape := ⟨2, ![3, 2048]⟩
abbrev S256 : Shape := ⟨1, ![256]⟩
abbrev S256x1 : Shape := ⟨2, ![256, 1]⟩
abbrev S1x256 : Shape := ⟨2, ![1, 256]⟩
abbrev S1 : Shape := ⟨1, ![1]⟩
abbrev S1x1 : Shape := ⟨2, ![1, 1]⟩
abbrev S1x4096 : Shape := ⟨2, ![1, 4096]⟩
abbrev S1x6144 : Shape := ⟨2, ![1, 6144]⟩
abbrev S7x6144 : Shape := ⟨2, ![7, 6144]⟩

abbrev nBuf : Space → Nat
  | .hbm => 12
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2304x2048, .f32⟩
  | .hbm, ⟨2, _⟩ => ⟨S8x6144, .f32⟩
  | .hbm, ⟨3, _⟩ => ⟨S2048, .f32⟩
  | .hbm, ⟨4, _⟩ => ⟨S2048x2048, .f32⟩
  | .hbm, ⟨5, _⟩ => ⟨S1x2048, .f32⟩
  | .hbm, ⟨6, _⟩ => ⟨S8x3x2048, .f32⟩
  | .hbm, ⟨7, _⟩ => ⟨S2304x2048, .f32⟩
  | .hbm, ⟨8, _⟩ => ⟨S2304x2048, .bf16⟩
  | .hbm, ⟨9, _⟩ => ⟨S8x128, .f32⟩
  | .hbm, ⟨10, _⟩ => ⟨S8x6144, .f32⟩
  | .hbm, ⟨11, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S8x3x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S8x128, .f32⟩
  | .local _ .vmem, ⟨13, _⟩ => ⟨S8x6144, .f32⟩
  | .local _ .vmem, ⟨14, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FinalRefIdeal.lean ====
abbrev S2048x2048 : Shape := ⟨2, ![2048, 2048]⟩
abbrev S2304x2048 : Shape := ⟨2, ![2304, 2048]⟩
abbrev S8x6144 : Shape := ⟨2, ![8, 6144]⟩
abbrev S2048 : Shape := ⟨1, ![2048]⟩
abbrev S1x2048 : Shape := ⟨2, ![1, 2048]⟩
abbrev S_ : Shape := ⟨0, ![]⟩
abbrev S2048x1 : Shape := ⟨2, ![2048, 1]⟩
abbrev S256x2048 : Shape := ⟨2, ![256, 2048]⟩
abbrev S8x128 : Shape := ⟨2, ![8, 128]⟩

abbrev nBuf : Space → Nat
  | .hbm => 99
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2304x2048, .f32⟩
  | .hbm, ⟨2, _⟩ => ⟨S8x6144, .f32⟩
  | .hbm, ⟨3, _⟩ => ⟨S2048, .f32⟩
  | .hbm, ⟨4, _⟩ => ⟨S2048x2048, .f32⟩
  | .hbm, ⟨5, _⟩ => ⟨S1x2048, .f32⟩
  | .hbm, ⟨6, _⟩ => ⟨S2048, .f32⟩
  | .hbm, ⟨7, _⟩ => ⟨S2048x2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x2048, .f32⟩
  | .hbm, ⟨28, _⟩ => ⟨S2048x2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S2048, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S2048x2048, .f32⟩
  | .hbm, ⟨60, _⟩ => ⟨S2048x2048, .f32⟩
  | .hbm, ⟨61, _⟩ => ⟨S_, .f32⟩
  | .hbm, ⟨62, _⟩ => ⟨S2048, .f32⟩
  | .hbm, ⟨63, _⟩ => ⟨S2048x2048, .f32⟩
  | .hbm, ⟨64, _⟩ => ⟨S_, .f32⟩
  | .hbm, ⟨65, _⟩ => ⟨S2048, .f32⟩
  | .hbm, ⟨66, _⟩ => ⟨S2048x1, .f32⟩
  | .hbm, ⟨67, _⟩ => ⟨S2048x2048, .f32⟩
  | .hbm, ⟨68, _⟩ => ⟨S2048x2048, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S_, .f32⟩
  | .hbm, ⟨84, _⟩ => ⟨S2048, .f32⟩
  | .hbm, ⟨85, _⟩ => ⟨S1x2048, .f32⟩
  | .hbm, ⟨86, _⟩ => ⟨S_, .f32⟩
  | .hbm, ⟨87, _⟩ => ⟨S2048, .f32⟩
  | .hbm, ⟨88, _⟩ => ⟨S_, .f32⟩
  | .hbm, ⟨89, _⟩ => ⟨S2304x2048, .f32⟩
  | .hbm, ⟨90, _⟩ => ⟨S1x2048, .f32⟩
  | .hbm, ⟨91, _⟩ => ⟨S_, .f32⟩
  | .hbm, ⟨92, _⟩ => ⟨S8x6144, .f32⟩
  | .hbm, ⟨93, _⟩ => ⟨S_, .f32⟩
  | .hbm, ⟨94, _⟩ => ⟨S256x2048, .f32⟩
  | .hbm, ⟨95, _⟩ => ⟨S2304x2048, .f32⟩
  | .hbm, ⟨96, _⟩ => ⟨S2304x2048, .bf16⟩
  | .hbm, ⟨97, _⟩ => ⟨S8x128, .f32⟩
  | .hbm, ⟨98, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_cst_18 : Ref sig .tc := ⟨.hbm, 88, rfl⟩
abbrev main_v64 : Ref sig .tc := ⟨.hbm, 89, rfl⟩
abbrev main_v65 : Ref sig .tc := ⟨.hbm, 90, rfl⟩
abbrev main_cst_19 : Ref sig .tc := ⟨.hbm, 91, rfl⟩
abbrev main_v66 : Ref sig .tc := ⟨.hbm, 92, rfl⟩
abbrev main_cst_20 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]
-- ==== HBwd.lean ====
abbrev S256x2048 : Shape := ⟨2, ![256, 2048]⟩
abbrev S2048x2048 : Shape := ⟨2, ![2048, 2048]⟩
abbrev S1x2048 : Shape := ⟨2, ![1, 2048]⟩
abbrev S8x6144 : Shape := ⟨2, ![8, 6144]⟩
abbrev S2304x2048 : Shape := ⟨2, ![2304, 2048]⟩
abbrev S8x3x2048 : Shape := ⟨3, ![8, 3, 2048]⟩
abbrev S1x3x2048 : Shape := ⟨3, ![1, 3, 2048]⟩
abbrev S3x2048 : Shape := ⟨2, ![3, 2048]⟩
abbrev S256 : Shape := ⟨1, ![256]⟩
abbrev S256x1 : Shape := ⟨2, ![256, 1]⟩
abbrev S2048 : Shape := ⟨1, ![2048]⟩
abbrev S1x6144 : Shape := ⟨2, ![1, 6144]⟩
abbrev S6x6144 : Shape := ⟨2, ![6, 6144]⟩

abbrev nBuf : Space → Nat
  | .hbm => 10
  | .vmem => 14
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S1x2048, .f32⟩
  | .hbm, ⟨3, _⟩ => ⟨S8x6144, .f32⟩
  | .hbm, ⟨4, _⟩ => ⟨S2304x2048, .f32⟩
  | .hbm, ⟨5, _⟩ => ⟨S2304x2048, .f32⟩
  | .hbm, ⟨6, _⟩ => ⟨S8x3x2048, .f32⟩
  | .hbm, ⟨7, _⟩ => ⟨S2048x2048, .f32⟩
  | .hbm, ⟨8, _⟩ => ⟨S1x2048, .f32⟩
  | .hbm, ⟨9, _⟩ => ⟨S8x6144, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S8x3x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S8x6144, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== HBwdRefIdeal.lean ====
abbrev S256x2048 : Shape := ⟨2, ![256, 2048]⟩
abbrev S2048x2048 : Shape := ⟨2, ![2048, 2048]⟩
abbrev S1x2048 : Shape := ⟨2, ![1, 2048]⟩
abbrev S8x6144 : Shape := ⟨2, ![8, 6144]⟩
abbrev S2304x2048 : Shape := ⟨2, ![2304, 2048]⟩
abbrev S1x6144 : Shape := ⟨2, ![1, 6144]⟩
abbrev S6144 : Shape := ⟨1, ![6144]⟩
abbrev S2048 : Shape := ⟨1, ![2048]⟩
abbrev S_ : Shape := ⟨0, ![]⟩
abbrev S256 : Shape := ⟨1, ![256]⟩
abbrev S256x1 : Shape := ⟨2, ![256, 1]⟩
abbrev S2048x1 : Shape := ⟨2, ![2048, 1]⟩

abbrev nBuf : Space → Nat
  | .hbm => 173
  | .vmem => 0
  | .smem => 0
  | _ => 0

abbrev hbmTy0_0 (i : Nat) : BufTy := match i % 128 with
  | 0 => ⟨S256x2048, .f32⟩
  | 1 => ⟨S2048x2048, .f32⟩
  | 2 => ⟨S1x2048, .f32⟩
  | 3 => ⟨S8x6144, .f32⟩
  | 4 => ⟨S2304x2048, .f32⟩
  | 5 => ⟨S2304x2048, .f32⟩
  | 6 => ⟨S1x6144, .f32⟩
  | 7 => ⟨S6144, .f32⟩
  | 8 => ⟨S2048, .f32⟩
  | 9 => ⟨S2048, .f32⟩
  | 10 => ⟨S2048, .f32⟩
  | 11 => ⟨S256x2048, .f32⟩
  | 12 => ⟨S_, .f32⟩
  | 13 => ⟨S256, .f32⟩
  | 14 => ⟨S256x1, .f32⟩
  | 15 => ⟨S_, .f32⟩
  | 16 => ⟨S256x1, .f32⟩
  | 17 => ⟨S256x1, .f32⟩
  | 18 => ⟨S_, .f32⟩
  | 19 => ⟨S256x1, .f32⟩
  | 20 => ⟨S256x1, .f32⟩
  | 21 => ⟨S256x1, .f32⟩
  | 22 => ⟨S256x1, .f32⟩
  | 23 => ⟨S_, .f32⟩
  | 24 => ⟨S256x1, .f32⟩
  | 25 => ⟨S256x1, .f32⟩
  | 26 => ⟨S256x2048, .f32⟩
  | 27 => ⟨S256x2048, .f32⟩
  | 28 => ⟨S2048, .f32⟩
  | 29 => ⟨S1x2048, .f32⟩
  | 30 => ⟨S256x2048, .f32⟩
  | 31 => ⟨S256x2048, .f32⟩
  | 32 => ⟨S_, .f32⟩
  | 33 => ⟨S2048, .f32⟩
  | 34 => ⟨S2048, .f32⟩
  | 35 => ⟨S1x2048, .f32⟩
  | 36 => ⟨S256x2048, .f32⟩
  | 37 => ⟨S256x2048, .f32⟩
  | 38 => ⟨S1x2048, .f32⟩
  | 39 => ⟨S256x2048, .f32⟩
  | 40 => ⟨S256x2048, .f32⟩
  | 41 => ⟨S1x6144, .f32⟩
  | 42 => ⟨S6144, .f32⟩
  | 43 => ⟨S2048, .f32⟩
  | 44 => ⟨S2048, .f32⟩
  | 45 => ⟨S2048, .f32⟩
  | 46 => ⟨S2048x2048, .f32⟩
  | 47 => ⟨S_, .f32⟩
  | 48 => ⟨S2048, .f32⟩
  | 49 => ⟨S2048x1, .f32⟩
  | 50 => ⟨S_, .f32⟩
  | 51 => ⟨S2048x1, .f32⟩
  | 52 => ⟨S2048x1, .f32⟩
  | 53 => ⟨S_, .f32⟩
  | 54 => ⟨S2048x1, .f32⟩
  | 55 => ⟨S2048x1, .f32⟩
  | 56 => ⟨S2048x1, .f32⟩
  | 57 => ⟨S2048x1, .f32⟩
  | 58 => ⟨S_, .f32⟩
  | 59 => ⟨S2048x1, .f32⟩
  | 60 => ⟨S2048x1, .f32⟩
  | 61 => ⟨S2048x2048, .f32⟩
  | 62 => ⟨S2048x2048, .f32⟩
  | 63 => ⟨S2048, .f32⟩
  | 64 => ⟨S1x2048, .f32⟩
  | 65 => ⟨S2048x2048, .f32⟩
  | 66 => ⟨S2048x2048, .f32⟩
  | 67 => ⟨S_, .f32⟩
  | 68 => ⟨S2048, .f32⟩
  | 69 => ⟨S2048, .f32⟩
  | 70 => ⟨S1x2048, .f32⟩
  | 71 => ⟨S2048x2048, .f32⟩
  | 72 => ⟨S2048x2048, .f32⟩
  | 73 => ⟨S1x2048, .f32⟩
  | 74 => ⟨S2048x2048, .f32⟩
  | 75 => ⟨S2048x2048, .f32⟩
  | 76 => ⟨S2304x2048, .f32⟩
  | 77 => ⟨S256x2048, .f32⟩
  | 78 => ⟨S2048x2048, .f32⟩
  | 79 => ⟨S_, .f32⟩
  | 80 => ⟨S2048, .f32⟩
  | 81 => ⟨S1x2048, .f32⟩
  | 82 => ⟨S_, .f32⟩
  | 83 => ⟨S2048, .f32⟩
  | 84 => ⟨S2048x2048, .f32⟩
  | 85 => ⟨S_, .f32⟩
  | 86 => ⟨S2048, .f32⟩
  | 87 => ⟨S1x2048, .f32⟩
  | 88 => ⟨S2048x2048, .f32⟩
  | 89 => ⟨S2048x2048, .f32⟩
  | 90 => ⟨S_, .f32⟩
  | 91 => ⟨S2048, .f32⟩
  | 92 => ⟨S2048x2048, .f32⟩
  | 93 => ⟨S_, .f32⟩
  | 94 => ⟨S2048, .f32⟩
  | 95 => ⟨S1x2048, .f32⟩
  | 96 => ⟨S2048x2048, .f32⟩
  | 97 => ⟨S2048x2048, .f32⟩
  | 98 => ⟨S_, .f32⟩
  | 99 => ⟨S2048, .f32⟩
  | 100 => ⟨S1x2048, .f32⟩
  | 101 => ⟨S2048x2048, .f32⟩
  | 102 => ⟨S_, .f32⟩
  | 103 => ⟨S2048, .f32⟩
  | 104 => ⟨S2048x1, .f32⟩
  | 105 => ⟨S2048x2048, .f32⟩
  | 106 => ⟨S2048x2048, .f32⟩
  | 107 => ⟨S2048x1, .f32⟩
  | 108 => ⟨S_, .f32⟩
  | 109 => ⟨S2048x1, .f32⟩
  | 110 => ⟨S2048x1, .f32⟩
  | 111 => ⟨S_, .f32⟩
  | 112 => ⟨S2048, .f32⟩
  | 113 => ⟨S2048x2048, .f32⟩
  | 114 => ⟨S2048x2048, .f32⟩
  | 115 => ⟨S2048x2048, .f32⟩
  | 116 => ⟨S2048x2048, .f32⟩
  | 117 => ⟨S2048x2048, .f32⟩
  | 118 => ⟨S_, .f32⟩
  | 119 => ⟨S2048, .f32⟩
  | 120 => ⟨S6144, .f32⟩
  | 121 => ⟨S1x6144, .f32⟩
  | 122 => ⟨S_, .f32⟩
  | 123 => ⟨S8x6144, .f32⟩
  | 124 => ⟨S_, .f32⟩
  | 125 => ⟨S2048, .f32⟩
  | 126 => ⟨S1x2048, .f32⟩
  | 127 => ⟨S_, .f32⟩
  | _ => ⟨S256x2048, .f32⟩

abbrev hbmTy0_1 (i : Nat) : BufTy := match i % 128 with
  | 0 => ⟨S2048, .f32⟩
  | 1 => ⟨S256x2048, .f32⟩
  | 2 => ⟨S_, .f32⟩
  | 3 => ⟨S2048, .f32⟩
  | 4 => ⟨S1x2048, .f32⟩
  | 5 => ⟨S256x2048, .f32⟩
  | 6 => ⟨S256x2048, .f32⟩
  | 7 => ⟨S_, .f32⟩
  | 8 => ⟨S2048, .f32⟩
  | 9 => ⟨S256x2048, .f32⟩
  | 10 => ⟨S_, .f32⟩
  | 11 => ⟨S2048, .f32⟩
  | 12 => ⟨S1x2048, .f32⟩
  | 13 => ⟨S256x2048, .f32⟩
  | 14 => ⟨S256x2048, .f32⟩
  | 15 => ⟨S_, .f32⟩
  | 16 => ⟨S2048, .f32⟩
  | 17 => ⟨S1x2048, .f32⟩
  | 18 => ⟨S1x2048, .f32⟩
  | 19 => ⟨S256x2048, .f32⟩
  | 20 => ⟨S_, .f32⟩
  | 21 => ⟨S256, .f32⟩
  | 22 => ⟨S256x1, .f32⟩
  | 23 => ⟨S256x2048, .f32⟩
  | 24 => ⟨S256x2048, .f32⟩
  | 25 => ⟨S256x1, .f32⟩
  | 26 => ⟨S_, .f32⟩
  | 27 => ⟨S256x1, .f32⟩
  | 28 => ⟨S256x1, .f32⟩
  | 29 => ⟨S_, .f32⟩
  | 30 => ⟨S256, .f32⟩
  | 31 => ⟨S256x2048, .f32⟩
  | 32 => ⟨S256x2048, .f32⟩
  | 33 => ⟨S256x2048, .f32⟩
  | 34 => ⟨S256x2048, .f32⟩
  | 35 => ⟨S256x2048, .f32⟩
  | 36 => ⟨S_, .f32⟩
  | 37 => ⟨S2048, .f32⟩
  | 38 => ⟨S6144, .f32⟩
  | 39 => ⟨S1x6144, .f32⟩
  | 40 => ⟨S_, .f32⟩
  | 41 => ⟨S8x6144, .f32⟩
  | 42 => ⟨S8x6144, .f32⟩
  | 43 => ⟨S2048x2048, .f32⟩
  | 44 => ⟨S2048x2048, .f32⟩
  | _ => ⟨S256x2048, .f32⟩

abbrev hbmTy (i : Nat) : BufTy := match i / 128 with
  | 0 => hbmTy0_0 i
  | 1 => hbmTy0_1 i
  | _ => ⟨S256x2048, .f32⟩

abbrev bufTy : (tb : Table) → Fin (tcTables nBuf tb) → BufTy
  | .hbm, ⟨i, _⟩ => hbmTy i
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_cst_11 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_12 : Ref sig .tc := ⟨.hbm, 90, rfl⟩
abbrev main_v71 : Ref sig .tc := ⟨.hbm, 91, rfl⟩
abbrev main_v72 : Ref sig .tc := ⟨.hbm, 92, rfl⟩
abbrev main_cst_13 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_14 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_15 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_16 : Ref sig .tc := ⟨.hbm, 108, rfl⟩
abbrev main_v85 : Ref sig .tc := ⟨.hbm, 109, rfl⟩
abbrev main_v86 : Ref sig .tc := ⟨.hbm, 110, rfl⟩
abbrev main_cst_17 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_18 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_19 : Ref sig .tc := ⟨.hbm, 122, rfl⟩
abbrev main_v96 : Ref sig .tc := ⟨.hbm, 123, rfl⟩
abbrev main_cst_20 : Ref sig .tc := ⟨.hbm, 124, rfl⟩
abbrev main_v97 : Ref sig .tc := ⟨.hbm, 125, rfl⟩
abbrev main_v98 : Ref sig .tc := ⟨.hbm, 126, rfl⟩
abbrev main_cst_21 : Ref sig .tc := ⟨.hbm, 127, rfl⟩
abbrev main_v99 : Ref sig .tc := ⟨.hbm, 128, rfl⟩
abbrev main_v100 : Ref sig .tc := ⟨.hbm, 129, rfl⟩
abbrev main_cst_22 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_23 : Ref sig .tc := ⟨.hbm, 135, rfl⟩
abbrev main_v105 : Ref sig .tc := ⟨.hbm, 136, rfl⟩
abbrev main_v106 : Ref sig .tc := ⟨.hbm, 137, rfl⟩
abbrev main_cst_24 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_25 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_26 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_27 : Ref sig .tc := ⟨.hbm, 154, rfl⟩
abbrev main_v120 : Ref sig .tc := ⟨.hbm, 155, rfl⟩
abbrev main_v121 : Ref sig .tc := ⟨.hbm, 156, rfl⟩
abbrev main_cst_28 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_29 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_30 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩

abbrev nD : Nat := 1
abbrev τ : Topo := Topo.v7x

variable {F : FTy → Type} [FloatOps F]
-- ==== RwPostBwd.lean ====
abbrev S2304x1024 : Shape := ⟨2, ![2304, 1024]⟩
abbrev S2304x3328 : Shape := ⟨2, ![2304, 3328]⟩
abbrev S2304x13568 : Shape := ⟨2, ![2304, 13568]⟩
abbrev S2x1024 : Shape := ⟨2, ![2, 1024]⟩
abbrev S2x64x1024 : Shape := ⟨3, ![2, 64, 1024]⟩
abbrev S1x1024 : Shape := ⟨2, ![1, 1024]⟩
abbrev S256x1024 : Shape := ⟨2, ![256, 1024]⟩
abbrev S256x128 : Shape := ⟨2, ![256, 128]⟩
abbrev S256x3328 : Shape := ⟨2, ![256, 3328]⟩
abbrev S256x64 : Shape := ⟨2, ![256, 64]⟩
abbrev S1x64x1024 : Shape := ⟨3, ![1, 64, 1024]⟩
abbrev S64x1024 : Shape := ⟨2, ![64, 1024]⟩
abbrev S256x16x64 : Shape := ⟨3, ![256, 16, 64]⟩
abbrev S256x16 : Shape := ⟨2, ![256, 16]⟩
abbrev S256x16x1 : Shape := ⟨3, ![256, 16, 1]⟩
abbrev S1024 : Shape := ⟨1, ![1024]⟩
abbrev S1024x64 : Shape := ⟨2, ![1024, 64]⟩

abbrev nBuf : Space → Nat
  | .hbm => 21
  | .vmem => 34
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2304x3328, .f32⟩
  | .hbm, ⟨3, _⟩ => ⟨S2304x13568, .f32⟩
  | .hbm, ⟨4, _⟩ => ⟨S2x1024, .f32⟩
  | .hbm, ⟨5, _⟩ => ⟨S2x64x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S2304x1024, .f32⟩
  | .hbm, ⟨11, _⟩ => ⟨S2304x1024, .f32⟩
  | .hbm, ⟨12, _⟩ => ⟨S2304x1024, .f32⟩
  | .hbm, ⟨13, _⟩ => ⟨S2304x3328, .f32⟩
  | .hbm, ⟨14, _⟩ => ⟨S2304x1024, .bf16⟩
  | .hbm, ⟨15, _⟩ => ⟨S2x1024, .f32⟩
  | .hbm, ⟨16, _⟩ => ⟨S2x64x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S2x1024, .f32⟩
  | .local _ .vmem, ⟨17, _⟩ => ⟨S2x64x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | .local _ .vmem, ⟨24, _⟩ => ⟨S256x3328, .f32⟩
  | .local _ .vmem, ⟨25, _⟩ => ⟨S256x3328, .f32⟩
  | .local _ .vmem, ⟨26, _⟩ => ⟨S256x1024, .bf16⟩
  | .local _ .vmem, ⟨27, _⟩ => ⟨S256x1024, .bf16⟩
  | .local _ .vmem, ⟨28, _⟩ => ⟨S2x1024, .f32⟩
  | .local _ .vmem, ⟨29, _⟩ => ⟨S2x64x1024, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev main_v1_6 : Ref sig .tc := ⟨.hbm, 18, rfl⟩
abbrev main_v1_7 : Ref sig .tc := ⟨.hbm, 19, rfl⟩
abbrev main_v1_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c1_i32 : BitVec 32 := 1#32
  let c0_i32_1 : BitVec 32 := 0#32
  ![v2.toNat, c1_i32.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c2_i32 : BitVec 32 := 2#32
  let c0_i32_1 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c25_i32 : BitVec 32 := 25#32
  let c0_i32_1 : BitVec 32 := 0#32
  ![v2.toNat, c25_i32.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_15 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_16 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x3328 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x64x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== RwPostBwdRefIdeal.lean ====
abbrev S2304x1024 : Shape := ⟨2, ![2304, 1024]⟩
abbrev S2304x3328 : Shape := ⟨2, ![2304, 3328]⟩
abbrev S2304x13568 : Shape := ⟨2, ![2304, 13568]⟩
abbrev S2x1024 : Shape := ⟨2, ![2, 1024]⟩
abbrev S2x64x1024 : Shape := ⟨3, ![2, 64, 1024]⟩
abbrev S1x1024 : Shape := ⟨2, ![1, 1024]⟩
abbrev S1024 : Shape := ⟨1, ![1024]⟩
abbrev S2304x128 : Shape := ⟨2, ![2304, 128]⟩
abbrev S2304x2x64 : Shape := ⟨3, ![2304, 2, 64]⟩
abbrev S2304x16x64 : Shape := ⟨3, ![2304, 16, 64]⟩
abbrev S2304x1x64 : Shape := ⟨3, ![2304, 1, 64]⟩
abbrev S2304x64 : Shape := ⟨2, ![2304, 64]⟩
abbrev S1x64x1024 : Shape := ⟨3, ![1, 64, 1024]⟩
abbrev S64x1024 : Shape := ⟨2, ![64, 1024]⟩
abbrev S_ : Shape := ⟨0, ![]⟩
abbrev S2304x16 : Shape := ⟨2, ![2304, 16]⟩
abbrev S2304x16x1 : Shape := ⟨3, ![2304, 16, 1]⟩
abbrev S1024x64 : Shape := ⟨2, ![1024, 64]⟩

abbrev nBuf : Space → Nat
  | .hbm => 307
  | .vmem => 0
  | .smem => 0
  | _ => 0

abbrev hbmTy0_0 (i : Nat) : BufTy := match i % 128 with
  | 0 => ⟨S2304x1024, .f32⟩
  | 1 => ⟨S2304x1024, .f32⟩
  | 2 => ⟨S2304x3328, .f32⟩
  | 3 => ⟨S2304x13568, .f32⟩
  | 4 => ⟨S2x1024, .f32⟩
  | 5 => ⟨S2x64x1024, .f32⟩
  | 6 => ⟨S1x1024, .f32⟩
  | 7 => ⟨S1x1024, .f32⟩
  | 8 => ⟨S1x1024, .f32⟩
  | 9 => ⟨S1x1024, .f32⟩
  | 10 => ⟨S2304x1024, .f32⟩
  | 11 => ⟨S2304x1024, .f32⟩
  | 12 => ⟨S1024, .f32⟩
  | 13 => ⟨S1024, .f32⟩
  | 14 => ⟨S1024, .f32⟩
  | 15 => ⟨S1024, .f32⟩
  | 16 => ⟨S2304x1024, .f32⟩
  | 17 => ⟨S2304x1024, .f32⟩
  | 18 => ⟨S2304x1024, .f32⟩
  | 19 => ⟨S2304x128, .f32⟩
  | 20 => ⟨S2304x2x64, .f32⟩
  | 21 => ⟨S2304x1024, .f32⟩
  | 22 => ⟨S2304x16x64, .f32⟩
  | 23 => ⟨S1x1024, .f32⟩
  | 24 => ⟨S1024, .f32⟩
  | 25 => ⟨S2304x1x64, .f32⟩
  | 26 => ⟨S2304x64, .f32⟩
  | 27 => ⟨S1x64x1024, .f32⟩
  | 28 => ⟨S64x1024, .f32⟩
  | 29 => ⟨S2304x1024, .f32⟩
  | 30 => ⟨S1x1024, .f32⟩
  | 31 => ⟨S2304x1024, .f32⟩
  | 32 => ⟨S2304x1024, .f32⟩
  | 33 => ⟨S2304x1024, .f32⟩
  | 34 => ⟨S2304x1024, .f32⟩
  | 35 => ⟨S_, .f32⟩
  | 36 => ⟨S2304x1024, .f32⟩
  | 37 => ⟨S2304x1024, .f32⟩
  | 38 => ⟨S_, .f32⟩
  | 39 => ⟨S2304x1024, .f32⟩
  | 40 => ⟨S2304x1024, .f32⟩
  | 41 => ⟨S_, .f32⟩
  | 42 => ⟨S2304x1024, .f32⟩
  | 43 => ⟨S2304x1024, .f32⟩
  | 44 => ⟨S2304x1024, .f32⟩
  | 45 => ⟨S_, .f32⟩
  | 46 => ⟨S2304x1024, .f32⟩
  | 47 => ⟨S2304x1024, .f32⟩
  | 48 => ⟨S1x1024, .f32⟩
  | 49 => ⟨S2304x1024, .f32⟩
  | 50 => ⟨S2304x1024, .f32⟩
  | 51 => ⟨S_, .f32⟩
  | 52 => ⟨S2304x1024, .f32⟩
  | 53 => ⟨S2304x1024, .f32⟩
  | 54 => ⟨S2304x1024, .f32⟩
  | 55 => ⟨S_, .f32⟩
  | 56 => ⟨S2304x1024, .f32⟩
  | 57 => ⟨S2304x1024, .f32⟩
  | 58 => ⟨S1x1024, .f32⟩
  | 59 => ⟨S1024, .f32⟩
  | 60 => ⟨S2304x1x64, .f32⟩
  | 61 => ⟨S2304x64, .f32⟩
  | 62 => ⟨S1x64x1024, .f32⟩
  | 63 => ⟨S64x1024, .f32⟩
  | 64 => ⟨S2304x1024, .f32⟩
  | 65 => ⟨S1x1024, .f32⟩
  | 66 => ⟨S2304x1024, .f32⟩
  | 67 => ⟨S2304x1024, .f32⟩
  | 68 => ⟨S2304x1024, .f32⟩
  | 69 => ⟨S2304x1024, .f32⟩
  | 70 => ⟨S_, .f32⟩
  | 71 => ⟨S2304x1024, .f32⟩
  | 72 => ⟨S2304x1024, .f32⟩
  | 73 => ⟨S_, .f32⟩
  | 74 => ⟨S2304x1024, .f32⟩
  | 75 => ⟨S2304x1024, .f32⟩
  | 76 => ⟨S_, .f32⟩
  | 77 => ⟨S2304x1024, .f32⟩
  | 78 => ⟨S2304x1024, .f32⟩
  | 79 => ⟨S2304x1024, .f32⟩
  | 80 => ⟨S_, .f32⟩
  | 81 => ⟨S2304x1024, .f32⟩
  | 82 => ⟨S2304x1024, .f32⟩
  | 83 => ⟨S1x1024, .f32⟩
  | 84 => ⟨S2304x1024, .f32⟩
  | 85 => ⟨S2304x1024, .f32⟩
  | 86 => ⟨S_, .f32⟩
  | 87 => ⟨S2304x1024, .f32⟩
  | 88 => ⟨S2304x1024, .f32⟩
  | 89 => ⟨S2304x1024, .f32⟩
  | 90 => ⟨S2304x1024, .f32⟩
  | 91 => ⟨S_, .f32⟩
  | 92 => ⟨S2304x16, .f32⟩
  | 93 => ⟨S2304x16x1, .f32⟩
  | 94 => ⟨S_, .f32⟩
  | 95 => ⟨S2304x16x1, .f32⟩
  | 96 => ⟨S2304x16x1, .f32⟩
  | 97 => ⟨S2304x16x64, .f32⟩
  | 98 => ⟨S2304x16x64, .f32⟩
  | 99 => ⟨S2304x16x64, .f32⟩
  | 100 => ⟨S_, .f32⟩
  | 101 => ⟨S2304x16x64, .f32⟩
  | 102 => ⟨S2304x16x64, .f32⟩
  | 103 => ⟨S_, .f32⟩
  | 104 => ⟨S2304x16, .f32⟩
  | 105 => ⟨S2304x16x1, .f32⟩
  | 106 => ⟨S_, .f32⟩
  | 107 => ⟨S2304x16x1, .f32⟩
  | 108 => ⟨S2304x16x1, .f32⟩
  | 109 => ⟨S2304x16x64, .f32⟩
  | 110 => ⟨S2304x16x64, .f32⟩
  | 111 => ⟨S_, .f32⟩
  | 112 => ⟨S2304x16x1, .f32⟩
  | 113 => ⟨S2304x16x1, .f32⟩
  | 114 => ⟨S2304x16x1, .f32⟩
  | 115 => ⟨S2304x16x1, .f32⟩
  | 116 => ⟨S_, .f32⟩
  | 117 => ⟨S2304x16x1, .f32⟩
  | 118 => ⟨S2304x16x1, .f32⟩
  | 119 => ⟨S2304x16x64, .f32⟩
  | 120 => ⟨S2304x16x64, .f32⟩
  | 121 => ⟨S2304x1024, .f32⟩
  | 122 => ⟨S1x1024, .f32⟩
  | 123 => ⟨S2304x1024, .f32⟩
  | 124 => ⟨S2304x1024, .f32⟩
  | 125 => ⟨S1x1024, .f32⟩
  | 126 => ⟨S2304x1024, .f32⟩
  | 127 => ⟨S2304x1024, .f32⟩
  | _ => ⟨S2304x1024, .f32⟩

abbrev hbmTy0_1 (i : Nat) : BufTy := match i % 128 with
  | 0 => ⟨S2304x1024, .f32⟩
  | 1 => ⟨S1x1024, .f32⟩
  | 2 => ⟨S2304x1024, .f32⟩
  | 3 => ⟨S2304x1024, .f32⟩
  | 4 => ⟨S2304x16x64, .f32⟩
  | 5 => ⟨S_, .f32⟩
  | 6 => ⟨S2304x16, .f32⟩
  | 7 => ⟨S2304x16x1, .f32⟩
  | 8 => ⟨S2304x16x64, .f32⟩
  | 9 => ⟨S2304x16x64, .f32⟩
  | 10 => ⟨S2304x16x64, .f32⟩
  | 11 => ⟨S2304x1024, .f32⟩
  | 12 => ⟨S2304x1024, .f32⟩
  | 13 => ⟨S2304x1024, .f32⟩
  | 14 => ⟨S2304x1024, .f32⟩
  | 15 => ⟨S_, .f32⟩
  | 16 => ⟨S2304x1024, .f32⟩
  | 17 => ⟨S2304x1024, .f32⟩
  | 18 => ⟨S_, .f32⟩
  | 19 => ⟨S2304x1024, .f32⟩
  | 20 => ⟨S2304x1024, .f32⟩
  | 21 => ⟨S_, .f32⟩
  | 22 => ⟨S2304x1024, .f32⟩
  | 23 => ⟨S2304x1024, .f32⟩
  | 24 => ⟨S2304x1024, .f32⟩
  | 25 => ⟨S2304x1024, .f32⟩
  | 26 => ⟨S2304x1024, .f32⟩
  | 27 => ⟨S2304x1024, .f32⟩
  | 28 => ⟨S2304x1024, .f32⟩
  | 29 => ⟨S2304x1024, .f32⟩
  | 30 => ⟨S2304x1024, .f32⟩
  | 31 => ⟨S2304x1024, .f32⟩
  | 32 => ⟨S2304x1024, .f32⟩
  | 33 => ⟨S2304x16x64, .f32⟩
  | 34 => ⟨S2304x16x64, .f32⟩
  | 35 => ⟨S2304x16x64, .f32⟩
  | 36 => ⟨S2304x16x64, .f32⟩
  | 37 => ⟨S_, .f32⟩
  | 38 => ⟨S2304x16, .f32⟩
  | 39 => ⟨S2304x16x1, .f32⟩
  | 40 => ⟨S2304x1024, .f32⟩
  | 41 => ⟨S_, .f32⟩
  | 42 => ⟨S2304x16, .f32⟩
  | 43 => ⟨S2304x16x64, .f32⟩
  | 44 => ⟨S2304x1024, .f32⟩
  | 45 => ⟨S2304x1024, .f32⟩
  | 46 => ⟨S_, .f32⟩
  | 47 => ⟨S1024, .f32⟩
  | 48 => ⟨S1x1024, .f32⟩
  | 49 => ⟨S2304x1024, .f32⟩
  | 50 => ⟨S2304x1024, .f32⟩
  | 51 => ⟨S_, .f32⟩
  | 52 => ⟨S1024, .f32⟩
  | 53 => ⟨S2304x1024, .f32⟩
  | 54 => ⟨S2304x1024, .f32⟩
  | 55 => ⟨S_, .f32⟩
  | 56 => ⟨S1024, .f32⟩
  | 57 => ⟨S1x1024, .f32⟩
  | 58 => ⟨S_, .f32⟩
  | 59 => ⟨S1024, .f32⟩
  | 60 => ⟨S2304x1024, .f32⟩
  | 61 => ⟨S_, .f32⟩
  | 62 => ⟨S1024, .f32⟩
  | 63 => ⟨S1x1024, .f32⟩
  | 64 => ⟨S2304x1024, .f32⟩
  | 65 => ⟨S2304x1024, .f32⟩
  | 66 => ⟨S_, .f32⟩
  | 67 => ⟨S1024, .f32⟩
  | 68 => ⟨S2304x16x64, .f32⟩
  | 69 => ⟨S2304x16x64, .f32⟩
  | 70 => ⟨S_, .f32⟩
  | 71 => ⟨S2304x16, .f32⟩
  | 72 => ⟨S2304x16x1, .f32⟩
  | 73 => ⟨S2304x16x64, .f32⟩
  | 74 => ⟨S2304x16x64, .f32⟩
  | 75 => ⟨S2304x16x1, .f32⟩
  | 76 => ⟨S2304x16x64, .f32⟩
  | 77 => ⟨S_, .f32⟩
  | 78 => ⟨S2304x16, .f32⟩
  | 79 => ⟨S2304x16x1, .f32⟩
  | 80 => ⟨S_, .f32⟩
  | 81 => ⟨S2304x16x1, .f32⟩
  | 82 => ⟨S2304x16x1, .f32⟩
  | 83 => ⟨S_, .f32⟩
  | 84 => ⟨S2304x16, .f32⟩
  | 85 => ⟨S2304x16x64, .f32⟩
  | 86 => ⟨S2304x16x64, .f32⟩
  | 87 => ⟨S2304x16x64, .f32⟩
  | 88 => ⟨S_, .f32⟩
  | 89 => ⟨S2304x16, .f32⟩
  | 90 => ⟨S2304x16x1, .f32⟩
  | 91 => ⟨S2304x16x64, .f32⟩
  | 92 => ⟨S2304x16x1, .f32⟩
  | 93 => ⟨S_, .f32⟩
  | 94 => ⟨S2304x16x1, .f32⟩
  | 95 => ⟨S2304x16x1, .f32⟩
  | 96 => ⟨S_, .f32⟩
  | 97 => ⟨S2304x16, .f32⟩
  | 98 => ⟨S2304x16x64, .f32⟩
  | 99 => ⟨S2304x16x64, .f32⟩
  | 100 => ⟨S2304x1024, .f32⟩
  | 101 => ⟨S2304x1024, .f32⟩
  | 102 => ⟨S2304x1024, .f32⟩
  | 103 => ⟨S_, .f32⟩
  | 104 => ⟨S1024, .f32⟩
  | 105 => ⟨S1x1024, .f32⟩
  | 106 => ⟨S2304x1024, .f32⟩
  | 107 => ⟨S2304x1024, .f32⟩
  | 108 => ⟨S_, .f32⟩
  | 109 => ⟨S1024, .f32⟩
  | 110 => ⟨S2304x1024, .f32⟩
  | 111 => ⟨S_, .f32⟩
  | 112 => ⟨S1024, .f32⟩
  | 113 => ⟨S1x1024, .f32⟩
  | 114 => ⟨S_, .f32⟩
  | 115 => ⟨S1024, .f32⟩
  | 116 => ⟨S1024x64, .f32⟩
  | 117 => ⟨S64x1024, .f32⟩
  | 118 => ⟨S2304x64, .f32⟩
  | 119 => ⟨S1x64x1024, .f32⟩
  | 120 => ⟨S_, .f32⟩
  | 121 => ⟨S2x64x1024, .f32⟩
  | 122 => ⟨S2304x1x64, .f32⟩
  | 123 => ⟨S_, .f32⟩
  | 124 => ⟨S2304x2x64, .f32⟩
  | 125 => ⟨S1x1024, .f32⟩
  | 126 => ⟨S_, .f32⟩
  | 127 => ⟨S2x1024, .f32⟩
  | _ => ⟨S2304x1024, .f32⟩

abbrev hbmTy0_2 (i : Nat) : BufTy := match i % 128 with
  | 0 => ⟨S2304x1024, .f32⟩
  | 1 => ⟨S2304x1024, .f32⟩
  | 2 => ⟨S2304x1024, .f32⟩
  | 3 => ⟨S2304x1024, .f32⟩
  | 4 => ⟨S_, .f32⟩
  | 5 => ⟨S1024, .f32⟩
  | 6 => ⟨S1x1024, .f32⟩
  | 7 => ⟨S2304x1024, .f32⟩
  | 8 => ⟨S2304x1024, .f32⟩
  | 9 => ⟨S_, .f32⟩
  | 10 => ⟨S1024, .f32⟩
  | 11 => ⟨S1024, .f32⟩
  | 12 => ⟨S2304x1024, .f32⟩
  | 13 => ⟨S_, .f32⟩
  | 14 => ⟨S1024, .f32⟩
  | 15 => ⟨S1x1024, .f32⟩
  | 16 => ⟨S_, .f32⟩
  | 17 => ⟨S1024, .f32⟩
  | 18 => ⟨S1024x64, .f32⟩
  | 19 => ⟨S64x1024, .f32⟩
  | 20 => ⟨S2304x64, .f32⟩
  | 21 => ⟨S1x64x1024, .f32⟩
  | 22 => ⟨S_, .f32⟩
  | 23 => ⟨S2x64x1024, .f32⟩
  | 24 => ⟨S2x64x1024, .f32⟩
  | 25 => ⟨S2304x1x64, .f32⟩
  | 26 => ⟨S_, .f32⟩
  | 27 => ⟨S2304x2x64, .f32⟩
  | 28 => ⟨S2304x2x64, .f32⟩
  | 29 => ⟨S1x1024, .f32⟩
  | 30 => ⟨S_, .f32⟩
  | 31 => ⟨S2x1024, .f32⟩
  | 32 => ⟨S2x1024, .f32⟩
  | 33 => ⟨S2304x1024, .f32⟩
  | 34 => ⟨S2304x128, .f32⟩
  | 35 => ⟨S_, .f32⟩
  | 36 => ⟨S2304x3328, .f32⟩
  | 37 => ⟨S_, .f32⟩
  | 38 => ⟨S2304x3328, .f32⟩
  | 39 => ⟨S2304x3328, .f32⟩
  | 40 => ⟨S_, .f32⟩
  | 41 => ⟨S2304x3328, .f32⟩
  | 42 => ⟨S2304x3328, .f32⟩
  | 43 => ⟨S_, .f32⟩
  | 44 => ⟨S2304x3328, .f32⟩
  | 45 => ⟨S2304x3328, .f32⟩
  | 46 => ⟨S2304x1024, .bf16⟩
  | 47 => ⟨S1x1024, .f32⟩
  | 48 => ⟨S1x1024, .f32⟩
  | 49 => ⟨S1x1024, .f32⟩
  | 50 => ⟨S1x1024, .f32⟩
  | _ => ⟨S2304x1024, .f32⟩

abbrev hbmTy (i : Nat) : BufTy := match i / 128 with
  | 0 => hbmTy0_0 i
  | 1 => hbmTy0_1 i
  | 2 => hbmTy0_2 i
  | _ => ⟨S2304x1024, .f32⟩

abbrev bufTy : (tb : Table) → Fin (tcTables nBuf tb) → BufTy
  | .hbm, ⟨i, _⟩ => hbmTy i
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_5 : Ref sig .tc := ⟨.hbm, 70, rfl⟩
abbrev main_v53 : Ref sig .tc := ⟨.hbm, 71, rfl⟩
abbrev main_v54 : Ref sig .tc := ⟨.hbm, 72, rfl⟩
abbrev main_cst_6 : Ref sig .tc := ⟨.hbm, 73, rfl⟩
abbrev main_v55 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_8 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_10 : Ref sig .tc := ⟨.hbm, 91, rfl⟩
abbrev main_v69 : Ref sig .tc := ⟨.hbm, 92, rfl⟩
abbrev main_v70 : Ref sig .tc := ⟨.hbm, 93, rfl⟩
abbrev main_cst_11 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_12 : Ref sig .tc := ⟨.hbm, 100, rfl⟩
abbrev main_v76 : Ref sig .tc := ⟨.hbm, 101, rfl⟩
abbrev main_v77 : Ref sig .tc := ⟨.hbm, 102, rfl⟩
abbrev main_cst_13 : Ref sig .tc := ⟨.hbm, 103, rfl⟩
abbrev main_v78 : Ref sig .tc := ⟨.hbm, 104, rfl⟩
abbrev main_v79 : Ref sig .tc := ⟨.hbm, 105, rfl⟩
abbrev main_cst_14 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_15 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_16 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_17 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_call0_v0 : Ref sig .tc := ⟨.hbm, 141, rfl⟩
abbrev main_call0_v1 : Ref sig .tc := ⟨.hbm, 142, rfl⟩
abbrev main_call0_cst : Ref sig .tc := ⟨.hbm, 143, rfl⟩
abbrev main_call0_v2 : Ref sig .tc := ⟨.hbm, 144, rfl⟩
abbrev main_call0_v3 : Ref sig .tc := ⟨.hbm, 145, rfl⟩
abbrev main_call0_cst_0 : Ref sig .tc := ⟨.hbm, 146, rfl⟩
abbrev main_call0_v4 : Ref sig .tc := ⟨.hbm, 147, rfl⟩
abbrev main_v111_2 : Ref sig .tc := ⟨.hbm, 148, rfl⟩
abbrev main_call0_cst_1 : Ref sig .tc := ⟨.hbm, 149, rfl⟩
abbrev main_call0_v6 : Ref sig .tc := ⟨.hbm, 150, rfl⟩
abbrev main_call0_v7 : Ref sig .tc := ⟨.hbm, 151, rfl⟩
abbrev main_v111_1 : Ref sig .tc := ⟨.hbm, 152, rfl⟩
abbrev main_v111_0 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_call1_v0 : Ref sig .tc := ⟨.hbm, 157, rfl⟩
abbrev main_call1_v1 : Ref sig .tc := ⟨.hbm, 158, rfl⟩
abbrev main_call1_v2 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_18 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_19 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_20 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_21 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_22 : Ref sig .tc := ⟨.hbm, 183, rfl⟩
abbrev main_v134 : Ref sig .tc := ⟨.hbm, 184, rfl⟩
abbrev main_v135 : Ref sig .tc := ⟨.hbm, 185, rfl⟩
abbrev main_cst_23 : Ref sig .tc := ⟨.hbm, 186, rfl⟩
abbrev main_v136 : Ref sig .tc := ⟨.hbm, 187, rfl⟩
abbrev main_v137 : Ref sig .tc := ⟨.hbm, 188, rfl⟩
abbrev main_cst_24 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_cst_25 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_26 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_cst_27 : Ref sig .tc := ⟨.hbm, 205, rfl⟩
abbrev main_v151 : Ref sig .tc := ⟨.hbm, 206, rfl⟩
abbrev main_v152 : Ref sig .tc := ⟨.hbm, 207, rfl⟩
abbrev main_cst_28 : Ref sig .tc := ⟨.hbm, 208, rfl⟩
abbrev main_v153 : Ref sig .tc := ⟨.hbm, 209, rfl⟩
abbrev main_v154 : Ref sig .tc := ⟨.hbm, 210, rfl⟩
abbrev main_cst_29 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_cst_30 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_cst_31 : Ref sig .tc := ⟨.hbm, 221, rfl⟩
abbrev main_v163 : Ref sig .tc := ⟨.hbm, 222, rfl⟩
abbrev main_v164 : Ref sig .tc := ⟨.hbm, 223, rfl⟩
abbrev main_cst_32 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_cst_33 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_cst_34 : Ref sig .tc := ⟨.hbm, 236, rfl⟩
abbrev main_v175 : Ref sig .tc := ⟨.hbm, 237, rfl⟩
abbrev main_v176 : Ref sig .tc := ⟨.hbm, 238, rfl⟩
abbrev main_cst_35 : Ref sig .tc := ⟨.hbm, 239, rfl⟩
abbrev main_v177 : Ref sig .tc := ⟨.hbm, 240, rfl⟩
abbrev main_v178 : Ref sig .tc := ⟨.hbm, 241, rfl⟩
abbrev main_cst_36 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_cst_37 : Ref sig .tc := ⟨.hbm, 248, rfl⟩
abbrev main_v184 : Ref sig .tc := ⟨.hbm, 249, rfl⟩
abbrev main_v185 : Ref sig .tc := ⟨.hbm, 250, rfl⟩
abbrev main_cst_38 : Ref sig .tc := ⟨.hbm, 251, rfl⟩
abbrev main_v186 : Ref sig .tc := ⟨.hbm, 252, rfl⟩
abbrev main_v187 : Ref sig .tc := ⟨.hbm, 253, rfl⟩
abbrev main_cst_39 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_cst_40 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_cst_41 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_cst_42 : Ref sig .tc := ⟨.hbm, 269, rfl⟩
abbrev main_v200 : Ref sig .tc := ⟨.hbm, 270, rfl⟩
abbrev main_v201 : Ref sig .tc := ⟨.hbm, 271, rfl⟩
abbrev main_cst_43 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_cst_44 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_cst_45 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_cst_46 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_cst_47 : Ref sig .tc := ⟨.hbm, 291, rfl⟩
abbrev main_v217 : Ref sig .tc := ⟨.hbm, 292, rfl⟩
abbrev main_cst_48 : Ref sig .tc := ⟨.hbm, 293, rfl⟩
abbrev main_v218 : Ref sig .tc := ⟨.hbm, 294, rfl⟩
abbrev main_v219 : Ref sig .tc := ⟨.hbm, 295, rfl⟩
abbrev main_cst_49 : Ref sig .tc := ⟨.hbm, 296, rfl⟩
abbrev main_v220 : Ref sig .tc := ⟨.hbm, 297, rfl⟩
abbrev main_v221 : Ref sig .tc := ⟨.hbm, 298, rfl⟩
abbrev main_cst_50 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩

abbrev nD : Nat := 1
abbrev τ : Topo := Topo.v7x

variable {F : FTy → Type} [FloatOps F]
-- ==== HgScanFwd0.lean ====
abbrev S2304x13568 : Shape := ⟨2, ![2304, 13568]⟩
abbrev S2x1024 : Shape := ⟨2, ![2, 1024]⟩
abbrev S2304x1024 : Shape := ⟨2, ![2304, 1024]⟩
abbrev S36x8x128x128 : Shape := ⟨4, ![36, 8, 128, 128]⟩
abbrev S64x1024 : Shape := ⟨2, ![64, 1024]⟩
abbrev S1x8x128x128 : Shape := ⟨4, ![1, 8, 128, 128]⟩
abbrev S8x128x128 : Shape := ⟨3, ![8, 128, 128]⟩
abbrev S1x1024 : Shape := ⟨2, ![1, 1024]⟩
abbrev S63x1024 : Shape := ⟨2, ![63, 1024]⟩
abbrev S62x1024 : Shape := ⟨2, ![62, 1024]⟩
abbrev S4x1024 : Shape := ⟨2, ![4, 1024]⟩
abbrev S60x1024 : Shape := ⟨2, ![60, 1024]⟩
abbrev S8x1024 : Shape := ⟨2, ![8, 1024]⟩
abbrev S56x1024 : Shape := ⟨2, ![56, 1024]⟩
abbrev S16x1024 : Shape := ⟨2, ![16, 1024]⟩
abbrev S48x1024 : Shape := ⟨2, ![48, 1024]⟩
abbrev S32x1024 : Shape := ⟨2, ![32, 1024]⟩
abbrev S16x8x128 : Shape := ⟨3, ![16, 8, 128]⟩
abbrev S1x8x128 : Shape := ⟨3, ![1, 8, 128]⟩
abbrev S16x8 : Shape := ⟨2, ![16, 8]⟩
abbrev S16x8x1 : Shape := ⟨3, ![16, 8, 1]⟩
abbrev S15x8x128 : Shape := ⟨3, ![15, 8, 128]⟩
abbrev S15x8 : Shape := ⟨2, ![15, 8]⟩
abbrev S15x8x1 : Shape := ⟨3, ![15, 8, 1]⟩
abbrev S14x8x128 : Shape := ⟨3, ![14, 8, 128]⟩
abbrev S14x8 : Shape := ⟨2, ![14, 8]⟩
abbrev S14x8x1 : Shape := ⟨3, ![14, 8, 1]⟩
abbrev S2x8x128 : Shape := ⟨3, ![2, 8, 128]⟩
abbrev S13x8x128 : Shape := ⟨3, ![13, 8, 128]⟩
abbrev S13x8 : Shape := ⟨2, ![13, 8]⟩
abbrev S13x8x1 : Shape := ⟨3, ![13, 8, 1]⟩
abbrev S3x8x128 : Shape := ⟨3, ![3, 8, 128]⟩
abbrev S12x8x128 : Shape := ⟨3, ![12, 8, 128]⟩
abbrev S12x8 : Shape := ⟨2, ![12, 8]⟩
abbrev S12x8x1 : Shape := ⟨3, ![12, 8, 1]⟩
abbrev S4x8x128 : Shape := ⟨3, ![4, 8, 128]⟩
abbrev S11x8x128 : Shape := ⟨3, ![11, 8, 128]⟩
abbrev S11x8 : Shape := ⟨2, ![11, 8]⟩
abbrev S11x8x1 : Shape := ⟨3, ![11, 8, 1]⟩
abbrev S5x8x128 : Shape := ⟨3, ![5, 8, 128]⟩
abbrev S10x8x128 : Shape := ⟨3, ![10, 8, 128]⟩
abbrev S10x8 : Shape := ⟨2, ![10, 8]⟩
abbrev S10x8x1 : Shape := ⟨3, ![10, 8, 1]⟩
abbrev S6x8x128 : Shape := ⟨3, ![6, 8, 128]⟩
abbrev S9x8x128 : Shape := ⟨3, ![9, 8, 128]⟩
abbrev S9x8 : Shape := ⟨2, ![9, 8]⟩
abbrev S9x8x1 : Shape := ⟨3, ![9, 8, 1]⟩
abbrev S7x8x128 : Shape := ⟨3, ![7, 8, 128]⟩
abbrev S8x8x128 : Shape := ⟨3, ![8, 8, 128]⟩
abbrev S8x8 : Shape := ⟨2, ![8, 8]⟩
abbrev S8x8x1 : Shape := ⟨3, ![8, 8, 1]⟩
abbrev S7x8 : Shape := ⟨2, ![7, 8]⟩
abbrev S7x8x1 : Shape := ⟨3, ![7, 8, 1]⟩
abbrev S6x8 : Shape := ⟨2, ![6, 8]⟩
abbrev S6x8x1 : Shape := ⟨3, ![6, 8, 1]⟩
abbrev S5x8 : Shape := ⟨2, ![5, 8]⟩
abbrev S5x8x1 : Shape := ⟨3, ![5, 8, 1]⟩
abbrev S4x8 : Shape := ⟨2, ![4, 8]⟩
abbrev S4x8x1 : Shape := ⟨3, ![4, 8, 1]⟩
abbrev S3x8 : Shape := ⟨2, ![3, 8]⟩
abbrev S3x8x1 : Shape := ⟨3, ![3, 8, 1]⟩
abbrev S2x8 : Shape := ⟨2, ![2, 8]⟩
abbrev S2x8x1 : Shape := ⟨3, ![2, 8, 1]⟩
abbrev S1x8 : Shape := ⟨2, ![1, 8]⟩
abbrev S1x8x1 : Shape := ⟨3, ![1, 8, 1]⟩
abbrev S8x16x128 : Shape := ⟨3, ![8, 16, 128]⟩
abbrev S8x16x16 : Shape := ⟨3, ![8, 16, 16]⟩
abbrev S32x8x128 : Shape := ⟨3, ![32, 8, 128]⟩
abbrev S8x32x128 : Shape := ⟨3, ![8, 32, 128]⟩
abbrev S8x16x32 : Shape := ⟨3, ![8, 16, 32]⟩
abbrev S48x8x128 : Shape := ⟨3, ![48, 8, 128]⟩
abbrev S8x48x128 : Shape := ⟨3, ![8, 48, 128]⟩
abbrev S8x16x48 : Shape := ⟨3, ![8, 16, 48]⟩
abbrev S64x8x128 : Shape := ⟨3, ![64, 8, 128]⟩
abbrev S8x64x128 : Shape := ⟨3, ![8, 64, 128]⟩
abbrev S8x1x128 : Shape := ⟨3, ![8, 1, 128]⟩

abbrev nBuf : Space → Nat
  | .hbm => 4
  | .vmem => 12
  | .smem => 0
  | _ => 0

abbrev bufTy : (tb : Table) → Fin (tcTables nBuf tb) → BufTy
  | .hbm, ⟨0, _⟩ => ⟨S2304x13568, .f32⟩
  | .hbm, ⟨1, _⟩ => ⟨S2x1024, .f32⟩
  | .hbm, ⟨2, _⟩ => ⟨S2304x1024, .f32⟩
  | .hbm, ⟨3, _⟩ => ⟨S36x8x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S2x1024, .f32⟩
  | .local _ .vmem, ⟨7, _⟩ => ⟨S64x1024, .f32⟩
  | .local _ .vmem, ⟨8, _⟩ => ⟨S64x1024, .f32⟩
  | .local _ .vmem, ⟨9, _⟩ => ⟨S1x8x128x128, .f32⟩
  | .local _ .vmem, ⟨10, _⟩ => ⟨S1x8x128x128, .f32⟩
  | .local _ .vmem, ⟨11, _⟩ => ⟨S8x128x128, .f32⟩
  | _, _ => ⟨S2304x13568, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HgScanFwd0RefIdeal.lean ====
abbrev S2304x13568 : Shape := ⟨2, ![2304, 13568]⟩
abbrev S2x1024 : Shape := ⟨2, ![2, 1024]⟩
abbrev S2304x1024 : Shape := ⟨2, ![2304, 1024]⟩
abbrev S_ : Shape := ⟨0, ![]⟩
abbrev S1024 : Shape := ⟨1, ![1024]⟩
abbrev S1x1024 : Shape := ⟨2, ![1, 1024]⟩
abbrev S1x2304x8x128 : Shape := ⟨4, ![1, 2304, 8, 128]⟩
abbrev S1x8x128x128 : Shape := ⟨4, ![1, 8, 128, 128]⟩
abbrev S64x64 : Shape := ⟨2, ![64, 64]⟩
abbrev S1x36x64x8x128 : Shape := ⟨5, ![1, 36, 64, 8, 128]⟩
abbrev S36x1x8x64x128 : Shape := ⟨5, ![36, 1, 8, 64, 128]⟩
abbrev S36x1x8x128x128 : Shape := ⟨5, ![36, 1, 8, 128, 128]⟩
abbrev S1x1x8x64x128 : Shape := ⟨5, ![1, 1, 8, 64, 128]⟩
abbrev S1x8x64x128 : Shape := ⟨4, ![1, 8, 64, 128]⟩
abbrev S1x8x64x1x128 : Shape := ⟨5, ![1, 8, 64, 1, 128]⟩
abbrev S1x8x1x64x128 : Shape := ⟨5, ![1, 8, 1, 64, 128]⟩
abbrev S1x8x64x64x128 : Shape := ⟨5, ![1, 8, 64, 64, 128]⟩
abbrev S64x64x1 : Shape := ⟨3, ![64, 64, 1]⟩
abbrev S1x8x64x64 : Shape := ⟨4, ![1, 8, 64, 64]⟩
abbrev S1x8x1x128 : Shape := ⟨4, ![1, 8, 1, 128]⟩
abbrev S1x8x128 : Shape := ⟨3, ![1, 8, 128]⟩
abbrev S1x8x128x1 : Shape := ⟨4, ![1, 8, 128, 1]⟩
abbrev S1x1x8x128x128 : Shape := ⟨5, ![1, 1, 8, 128, 128]⟩
abbrev S36x8x128x128 : Shape := ⟨4, ![36, 8, 128, 128]⟩

abbrev nBuf : Space → Nat
  | .hbm => 181
  | .vmem => 0
  | .smem => 0
  | _ => 0

abbrev hbmTy0_0 (i : Nat) : BufTy := match i % 128 with
  | 0 => ⟨S2304x13568, .f32⟩
  | 1 => ⟨S2x1024, .f32⟩
  | 2 => ⟨S2304x1024, .f32⟩
  | 3 => ⟨S2304x1024, .f32⟩
  | 4 => ⟨S2304x1024, .f32⟩
  | 5 => ⟨S_, .f32⟩
  | 6 => ⟨S1024, .f32⟩
  | 7 => ⟨S_, .f32⟩
  | 8 => ⟨S1024, .f32⟩
  | 9 => ⟨S1024, .f32⟩
  | 10 => ⟨S1x1024, .f32⟩
  | 11 => ⟨S2x1024, .f32⟩
  | 12 => ⟨S2x1024, .f32⟩
  | 13 => ⟨S2x1024, .f32⟩
  | 14 => ⟨S_, .f32⟩
  | 15 => ⟨S1024, .f32⟩
  | 16 => ⟨S1x1024, .f32⟩
  | 17 => ⟨S2x1024, .f32⟩
  | 18 => ⟨S2x1024, .f32⟩
  | 19 => ⟨S_, .f32⟩
  | 20 => ⟨S_, .f32⟩
  | 21 => ⟨S2x1024, .f32⟩
  | 22 => ⟨S1x1024, .f32⟩
  | 23 => ⟨S1024, .f32⟩
  | 24 => ⟨S_, .f32⟩
  | 25 => ⟨S1024, .f32⟩
  | 26 => ⟨S1024, .f32⟩
  | 27 => ⟨S2304x1024, .f32⟩
  | 28 => ⟨S2304x1024, .f32⟩
  | 29 => ⟨S_, .f32⟩
  | 30 => ⟨S2304x1024, .f32⟩
  | 31 => ⟨S2304x1024, .f32⟩
  | 32 => ⟨S_, .f32⟩
  | 33 => ⟨S2304x1024, .f32⟩
  | 34 => ⟨S2304x1024, .f32⟩
  | 35 => ⟨S1x1024, .f32⟩
  | 36 => ⟨S2304x1024, .f32⟩
  | 37 => ⟨S2304x1024, .f32⟩
  | 38 => ⟨S1x1024, .f32⟩
  | 39 => ⟨S2304x1024, .f32⟩
  | 40 => ⟨S2304x1024, .f32⟩
  | 41 => ⟨S2304x1024, .f32⟩
  | 42 => ⟨S2304x1024, .f32⟩
  | 43 => ⟨S_, .f32⟩
  | 44 => ⟨S2304x1024, .f32⟩
  | 45 => ⟨S2304x1024, .f32⟩
  | 46 => ⟨S_, .f32⟩
  | 47 => ⟨S2304x1024, .f32⟩
  | 48 => ⟨S2304x1024, .f32⟩
  | 49 => ⟨S2304x1024, .f32⟩
  | 50 => ⟨S1x2304x8x128, .f32⟩
  | 51 => ⟨S_, .f32⟩
  | 52 => ⟨S2304x1024, .f32⟩
  | 53 => ⟨S2304x1024, .f32⟩
  | 54 => ⟨S1x2304x8x128, .f32⟩
  | 55 => ⟨S1x2304x8x128, .f32⟩
  | 56 => ⟨S2304x1024, .f32⟩
  | 57 => ⟨S1x2304x8x128, .f32⟩
  | 58 => ⟨S_, .f32⟩
  | 59 => ⟨S1x8x128x128, .f32⟩
  | 60 => ⟨S_, .i1⟩
  | 61 => ⟨S64x64, .i1⟩
  | 62 => ⟨S64x64, .i32⟩
  | 63 => ⟨S_, .i32⟩
  | 64 => ⟨S64x64, .i32⟩
  | 65 => ⟨S64x64, .i32⟩
  | 66 => ⟨S64x64, .i32⟩
  | 67 => ⟨S64x64, .i1⟩
  | 68 => ⟨S_, .i1⟩
  | 69 => ⟨S64x64, .i1⟩
  | 70 => ⟨S64x64, .i1⟩
  | 71 => ⟨S1x36x64x8x128, .f32⟩
  | 72 => ⟨S36x1x8x64x128, .f32⟩
  | 73 => ⟨S1x36x64x8x128, .f32⟩
  | 74 => ⟨S36x1x8x64x128, .f32⟩
  | 75 => ⟨S1x36x64x8x128, .f32⟩
  | 76 => ⟨S36x1x8x64x128, .f32⟩
  | 77 => ⟨S1x36x64x8x128, .f32⟩
  | 78 => ⟨S36x1x8x64x128, .f32⟩
  | 79 => ⟨S_, .f32⟩
  | 80 => ⟨S36x1x8x64x128, .f32⟩
  | 81 => ⟨S_, .f32⟩
  | 82 => ⟨S36x1x8x128x128, .f32⟩
  | 83 => ⟨S_, .i32⟩
  | 84 => ⟨S36x1x8x64x128, .f32⟩
  | 85 => ⟨S36x1x8x64x128, .f32⟩
  | 86 => ⟨S36x1x8x64x128, .f32⟩
  | 87 => ⟨S36x1x8x64x128, .f32⟩
  | 88 => ⟨S64x64, .i1⟩
  | 89 => ⟨S_, .i32⟩
  | 90 => ⟨S1x8x128x128, .f32⟩
  | 91 => ⟨S36x1x8x64x128, .f32⟩
  | 92 => ⟨S36x1x8x128x128, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S1x1x8x64x128, .f32⟩
  | 100 => ⟨S1x8x64x128, .f32⟩
  | 101 => ⟨S_, .i32⟩
  | 102 => ⟨S_, .i32⟩
  | 103 => ⟨S_, .i32⟩
  | 104 => ⟨S_, .i32⟩
  | 105 => ⟨S1x1x8x64x128, .f32⟩
  | 106 => ⟨S1x8x64x128, .f32⟩
  | 107 => ⟨S_, .i32⟩
  | 108 => ⟨S_, .i32⟩
  | 109 => ⟨S_, .i32⟩
  | 110 => ⟨S_, .i32⟩
  | 111 => ⟨S1x1x8x64x128, .f32⟩
  | 112 => ⟨S1x8x64x128, .f32⟩
  | 113 => ⟨S_, .i32⟩
  | 114 => ⟨S_, .i32⟩
  | 115 => ⟨S_, .i32⟩
  | 116 => ⟨S_, .i32⟩
  | 117 => ⟨S1x1x8x64x128, .f32⟩
  | 118 => ⟨S1x8x64x128, .f32⟩
  | 119 => ⟨S_, .f32⟩
  | 120 => ⟨S_, .f32⟩
  | 121 => ⟨S1x8x64x128, .f32⟩
  | 122 => ⟨S1x8x64x1x128, .f32⟩
  | 123 => ⟨S1x8x1x64x128, .f32⟩
  | 124 => ⟨S1x8x64x64x128, .f32⟩
  | 125 => ⟨S1x8x64x64x128, .f32⟩
  | 126 => ⟨S1x8x64x64x128, .f32⟩
  | 127 => ⟨S64x64x1, .i1⟩
  | _ => ⟨S2304x13568, .f32⟩

abbrev hbmTy0_1 (i : Nat) : BufTy := match i % 128 with
  | 0 => ⟨S_, .f32⟩
  | 1 => ⟨S1x8x64x64x128, .f32⟩
  | 2 => ⟨S1x8x64x64x128, .f32⟩
  | 3 => ⟨S1x8x64x64x128, .f32⟩
  | 4 => ⟨S_, .f32⟩
  | 5 => ⟨S_, .f32⟩
  | 6 => ⟨S1x8x64x64x128, .i1⟩
  | 7 => ⟨S1x8x64x64x128, .f32⟩
  | 8 => ⟨S1x8x64x64x128, .f32⟩
  | 9 => ⟨S1x8x64x1x128, .f32⟩
  | 10 => ⟨S1x8x1x64x128, .f32⟩
  | 11 => ⟨S1x8x64x64x128, .f32⟩
  | 12 => ⟨S1x8x64x64x128, .f32⟩
  | 13 => ⟨S1x8x64x64x128, .f32⟩
  | 14 => ⟨S1x8x64x64x128, .f32⟩
  | 15 => ⟨S_, .f32⟩
  | 16 => ⟨S1x8x64x64, .f32⟩
  | 17 => ⟨S1x8x64x128, .f32⟩
  | 18 => ⟨S1x8x64x128, .f32⟩
  | 19 => ⟨S1x8x64x128, .f32⟩
  | 20 => ⟨S1x8x64x128, .f32⟩
  | 21 => ⟨S1x8x64x128, .f32⟩
  | 22 => ⟨S1x8x1x128, .f32⟩
  | 23 => ⟨S1x8x128, .f32⟩
  | 24 => ⟨S1x8x128, .f32⟩
  | 25 => ⟨S1x8x128x1, .f32⟩
  | 26 => ⟨S1x8x128x128, .f32⟩
  | 27 => ⟨S1x8x128x128, .f32⟩
  | 28 => ⟨S1x8x64x128, .f32⟩
  | 29 => ⟨S1x8x64x128, .f32⟩
  | 30 => ⟨S1x8x64x128, .f32⟩
  | 31 => ⟨S1x8x64x128, .f32⟩
  | 32 => ⟨S1x8x128x128, .f32⟩
  | 33 => ⟨S1x8x128x128, .f32⟩
  | 34 => ⟨S1x1x8x64x128, .f32⟩
  | 35 => ⟨S_, .i32⟩
  | 36 => ⟨S_, .i32⟩
  | 37 => ⟨S_, .i32⟩
  | 38 => ⟨S_, .i32⟩
  | 39 => ⟨S36x1x8x64x128, .f32⟩
  | 40 => ⟨S1x1x8x128x128, .f32⟩
  | 41 => ⟨S_, .i32⟩
  | 42 => ⟨S_, .i32⟩
  | 43 => ⟨S_, .i32⟩
  | 44 => ⟨S_, .i32⟩
  | 45 => ⟨S36x1x8x128x128, .f32⟩
  | 46 => ⟨S_, .i32⟩
  | 47 => ⟨S_, .i32⟩
  | 48 => ⟨S1x36x64x8x128, .f32⟩
  | 49 => ⟨S1x2304x8x128, .f32⟩
  | 50 => ⟨S2304x1024, .f32⟩
  | 51 => ⟨S36x8x128x128, .f32⟩
  | 52 => ⟨S36x8x128x128, .f32⟩
  | _ => ⟨S2304x13568, .f32⟩

abbrev hbmTy (i : Nat) : BufTy := match i / 128 with
  | 0 => hbmTy0_0 i
  | 1 => hbmTy0_1 i
  | _ => ⟨S2304x13568, .f32⟩

abbrev bufTy : (tb : Table) → Fin (tcTables nBuf tb) → BufTy
  | .hbm, ⟨i, _⟩ => hbmTy i
  | _, _ => ⟨S2304x13568, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_call0_cst : Ref sig .tc := ⟨.hbm, 19, rfl⟩
abbrev main_call0_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_c : Ref sig .tc := ⟨.hbm, 60, rfl⟩
abbrev main_v40 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_0 : Ref sig .tc := ⟨.hbm, 68, rfl⟩
abbrev main_call2_v5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_c_9 : Ref sig .tc := ⟨.hbm, 83, rfl⟩
abbrev main_v52_0 : Ref sig .tc := ⟨.hbm, 84, rfl⟩
abbrev main_v52_1 : Ref sig .tc := ⟨.hbm, 85, rfl⟩
abbrev main_v52_2 : Ref sig .tc := ⟨.hbm, 86, rfl⟩
abbrev main_v52_3 : Ref sig .tc := ⟨.hbm, 87, rfl⟩
abbrev main_v52_4 : Ref sig .tc := ⟨.hbm, 88, rfl⟩
abbrev main_v52_5 : Ref sig .tc := ⟨.hbm, 89, rfl⟩
abbrev main_v52_6 : Ref sig .tc := ⟨.hbm, 90, rfl⟩
abbrev main_v52_7 : Ref sig .tc := ⟨.hbm, 91, rfl⟩
abbrev main_v52_8 : Ref sig .tc := ⟨.hbm, 92, rfl⟩
abbrev main_while0c_c_18 : Ref sig .tc := ⟨.hbm, 93, rfl⟩
abbrev main_while0c_v58 : Ref sig .tc := ⟨.hbm, 94, rfl⟩
abbrev main_while0b_call3_c : Ref sig .tc := ⟨.hbm, 95, rfl⟩
abbrev main_while0b_call3_c_0 : Ref sig .tc := ⟨.hbm, 96, rfl⟩
abbrev main_while0b_call3_c_1 : Ref sig .tc := ⟨.hbm, 97, rfl⟩
abbrev main_while0b_call3_c_2 : Ref sig .tc := ⟨.hbm, 98, rfl⟩
abbrev main_while0b_call3_v0 : Ref sig .tc := ⟨.hbm, 99, rfl⟩
abbrev main_while0b_v58 : Ref sig .tc := ⟨.hbm, 100, rfl⟩
abbrev main_while0b_call4_c : Ref sig .tc := ⟨.hbm, 101, rfl⟩
abbrev main_while0b_call4_c_0 : Ref sig .tc := ⟨.hbm, 102, rfl⟩
abbrev main_while0b_call4_c_1 : Ref sig .tc := ⟨.hbm, 103, rfl⟩
abbrev main_while0b_call4_c_2 : Ref sig .tc := ⟨.hbm, 104, rfl⟩
abbrev main_while0b_call4_v0 : Ref sig .tc := ⟨.hbm, 105, rfl⟩
abbrev main_while0b_v59 : Ref sig .tc := ⟨.hbm, 106, rfl⟩
abbrev main_while0b_call5_c : Ref sig .tc := ⟨.hbm, 107, rfl⟩
abbrev main_while0b_call5_c_0 : Ref sig .tc := ⟨.hbm, 108, rfl⟩
abbrev main_while0b_call5_c_1 : Ref sig .tc := ⟨.hbm, 109, rfl⟩
abbrev main_while0b_call5_c_2 : Ref sig .tc := ⟨.hbm, 110, rfl⟩
abbrev main_while0b_call5_v0 : Ref sig .tc := ⟨.hbm, 111, rfl⟩
abbrev main_while0b_v60 : Ref sig .tc := ⟨.hbm, 112, rfl⟩
abbrev main_while0b_call6_c : Ref sig .tc := ⟨.hbm, 113, rfl⟩
abbrev main_while0b_call6_c_0 : Ref sig .tc := ⟨.hbm, 114, rfl⟩
abbrev main_while0b_call6_c_1 : Ref sig .tc := ⟨.hbm, 115, rfl⟩
abbrev main_while0b_call6_c_2 : Ref sig .tc := ⟨.hbm, 116, rfl⟩
abbrev main_while0b_call6_v0 : Ref sig .tc := ⟨.hbm, 117, rfl⟩
abbrev main_while0b_v61 : Ref sig .tc := ⟨.hbm, 118, rfl⟩
abbrev main_while0b_call7_call0_cst : Ref sig .tc := ⟨.hbm, 119, rfl⟩
abbrev main_while0b_call7_call0_v0 : Ref sig .tc := ⟨.hbm, 120, rfl⟩
abbrev main_while0b_v62 : Ref sig .tc := ⟨.hbm, 121, rfl⟩
abbrev main_while0b_v63 : Ref sig .tc := ⟨.hbm, 122, rfl⟩
abbrev main_while0b_v64 : Ref sig .tc := ⟨.hbm, 123, rfl⟩
abbrev main_while0b_v65 : Ref sig .tc := ⟨.hbm, 124, rfl⟩
abbrev main_while0b_v66 : Ref sig .tc := ⟨.hbm, 125, rfl⟩
abbrev main_while0b_v67 : Ref sig .tc := ⟨.hbm, 126, rfl⟩
abbrev main_while0b_v68 : Ref sig .tc := ⟨.hbm, 127, rfl⟩
abbrev main_while0b_cst_18 : Ref sig .tc := ⟨.hbm, 128, rfl⟩
abbrev main_while0b_v69 : Ref sig .tc := ⟨.hbm, 129, rfl⟩
abbrev main_while0b_v70 : Ref sig .tc := ⟨.hbm, 130, rfl⟩
abbrev main_while0b_v71 : Ref sig .tc := ⟨.hbm, 131, rfl⟩
abbrev main_while0b_cst_19 : Ref sig .tc := ⟨.hbm, 132, rfl⟩
abbrev main_while0b_call8_v0 : Ref sig .tc := ⟨.hbm, 133, rfl⟩
abbrev main_while0b_call8_v1 : Ref sig .tc := ⟨.hbm, 134, rfl⟩
abbrev main_while0b_call8_v2 : Ref sig .tc := ⟨.hbm, 135, rfl⟩
abbrev main_while0b_v72 : Ref sig .tc := ⟨.hbm, 136, rfl⟩
abbrev main_while0b_v73 : Ref sig .tc := ⟨.hbm, 137, rfl⟩
abbrev main_while0b_v74 : Ref sig .tc := ⟨.hbm, 138, rfl⟩
abbrev main_while0b_v75 : Ref sig .tc := ⟨.hbm, 139, rfl⟩
abbrev main_while0b_v76 : Ref sig .tc := ⟨.hbm, 140, rfl⟩
abbrev main_while0b_v77 : Ref sig .tc := ⟨.hbm, 141, rfl⟩
abbrev main_while0b_v78 : Ref sig .tc := ⟨.hbm, 142, rfl⟩
abbrev main_while0b_cst_20 : Ref sig .tc := ⟨.hbm, 143, rfl⟩
abbrev main_while0b_v79 : Ref sig .tc := ⟨.hbm, 144, rfl⟩
abbrev main_while0b_v80 : Ref sig .tc := ⟨.hbm, 145, rfl⟩
abbrev main_while0b_v81 : Ref sig .tc := ⟨.hbm, 146, rfl⟩
abbrev main_while0b_v82 : Ref sig .tc := ⟨.hbm, 147, rfl⟩
abbrev main_while0b_v83 : Ref sig .tc := ⟨.hbm, 148, rfl⟩
abbrev main_while0b_v84 : Ref sig .tc := ⟨.hbm, 149, rfl⟩
abbrev main_while0b_v85 : Ref sig .tc := ⟨.hbm, 150, rfl⟩
abbrev main_while0b_v86 : Ref sig .tc := ⟨.hbm, 151, rfl⟩
abbrev main_while0b_v87 : Ref sig .tc := ⟨.hbm, 152, rfl⟩
abbrev main_while0b_v88 : Ref sig .tc := ⟨.hbm, 153, rfl⟩
abbrev main_while0b_v89 : Ref sig .tc := ⟨.hbm, 154, rfl⟩
abbrev main_while0b_v90 : Ref sig .tc := ⟨.hbm, 155, rfl⟩
abbrev main_while0b_v91 : Ref sig .tc := ⟨.hbm, 156, rfl⟩
abbrev main_while0b_v92 : Ref sig .tc := ⟨.hbm, 157, rfl⟩
abbrev main_while0b_v93 : Ref sig .tc := ⟨.hbm, 158, rfl⟩
abbrev main_while0b_v94 : Ref sig .tc := ⟨.hbm, 159, rfl⟩
abbrev main_while0b_v95 : Ref sig .tc := ⟨.hbm, 160, rfl⟩
abbrev main_while0b_v96 : Ref sig .tc := ⟨.hbm, 161, rfl⟩
abbrev main_while0b_call9_v0 : Ref sig .tc := ⟨.hbm, 162, rfl⟩
abbrev main_while0b_call9_c : Ref sig .tc := ⟨.hbm, 163, rfl⟩
abbrev main_while0b_call9_c_0 : Ref sig .tc := ⟨.hbm, 164, rfl⟩
abbrev main_while0b_call9_c_1 : Ref sig .tc := ⟨.hbm, 165, rfl⟩
abbrev main_while0b_call9_c_2 : Ref sig .tc := ⟨.hbm, 166, rfl⟩
abbrev main_while0b_v97 : Ref sig .tc := ⟨.hbm, 167, rfl⟩
abbrev main_while0b_call10_v0 : Ref sig .tc := ⟨.hbm, 168, rfl⟩
abbrev main_while0b_call10_c : Ref sig .tc := ⟨.hbm, 169, rfl⟩
abbrev main_while0b_call10_c_0 : Ref sig .tc := ⟨.hbm, 170, rfl⟩
abbrev main_while0b_call10_c_1 : Ref sig .tc := ⟨.hbm, 171, rfl⟩
abbrev main_while0b_call10_c_2 : Ref sig .tc := ⟨.hbm, 172, rfl⟩
abbrev main_while0b_v98 : Ref sig .tc := ⟨.hbm, 173, rfl⟩
abbrev main_while0b_c_21 : Ref sig .tc := ⟨.hbm, 174, rfl⟩
abbrev main_while0b_v99 : Ref sig .tc := ⟨.hbm, 175, rfl⟩
abbrev main_v53 : Ref sig .tc := ⟨.hbm, 176, rfl⟩
abbrev main_v54 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩

abbrev nD : Nat := 1
abbrev τ : Topo := Topo.v7x

variable {F : FTy → Type} [FloatOps F]

abbrev main_while0_count : Scf.Loop 32 := ⟨0#32, 36#32, 1#32⟩
-- ==== HgScanFwd1.lean ====
abbrev S2304x13568 : Shape := ⟨2, ![2304, 13568]⟩
abbrev S2x1024 : Shape := ⟨2, ![2, 1024]⟩
abbrev S2304x1024 : Shape := ⟨2, ![2304, 1024]⟩
abbrev S36x8x128x128 : Shape := ⟨4, ![36, 8, 128, 128]⟩
abbrev S64x1024 : Shape := ⟨2, ![64, 1024]⟩
abbrev S1x8x128x128 : Shape := ⟨4, ![1, 8, 128, 128]⟩
abbrev S8x128x128 : Shape := ⟨3, ![8, 128, 128]⟩
abbrev S1x1024 : Shape := ⟨2, ![1, 1024]⟩
abbrev S63x1024 : Shape := ⟨2, ![63, 1024]⟩
abbrev S62x1024 : Shape := ⟨2, ![62, 1024]⟩
abbrev S4x1024 : Shape := ⟨2, ![4, 1024]⟩
abbrev S60x1024 : Shape := ⟨2, ![60, 1024]⟩
abbrev S8x1024 : Shape := ⟨2, ![8, 1024]⟩
abbrev S56x1024 : Shape := ⟨2, ![56, 1024]⟩
abbrev S16x1024 : Shape := ⟨2, ![16, 1024]⟩
abbrev S48x1024 : Shape := ⟨2, ![48, 1024]⟩
abbrev S32x1024 : Shape := ⟨2, ![32, 1024]⟩
abbrev S16x8x128 : Shape := ⟨3, ![16, 8, 128]⟩
abbrev S1x8x128 : Shape := ⟨3, ![1, 8, 128]⟩
abbrev S1x8 : Shape := ⟨2, ![1, 8]⟩
abbrev S1x8x1 : Shape := ⟨3, ![1, 8, 1]⟩
abbrev S15x8x128 : Shape := ⟨3, ![15, 8, 128]⟩
abbrev S2x8x128 : Shape := ⟨3, ![2, 8, 128]⟩
abbrev S2x8 : Shape := ⟨2, ![2, 8]⟩
abbrev S2x8x1 : Shape := ⟨3, ![2, 8, 1]⟩
abbrev S14x8x128 : Shape := ⟨3, ![14, 8, 128]⟩
abbrev S3x8x128 : Shape := ⟨3, ![3, 8, 128]⟩
abbrev S3x8 : Shape := ⟨2, ![3, 8]⟩
abbrev S3x8x1 : Shape := ⟨3, ![3, 8, 1]⟩
abbrev S13x8x128 : Shape := ⟨3, ![13, 8, 128]⟩
abbrev S4x8x128 : Shape := ⟨3, ![4, 8, 128]⟩
abbrev S4x8 : Shape := ⟨2, ![4, 8]⟩
abbrev S4x8x1 : Shape := ⟨3, ![4, 8, 1]⟩
abbrev S12x8x128 : Shape := ⟨3, ![12, 8, 128]⟩
abbrev S5x8x128 : Shape := ⟨3, ![5, 8, 128]⟩
abbrev S5x8 : Shape := ⟨2, ![5, 8]⟩
abbrev S5x8x1 : Shape := ⟨3, ![5, 8, 1]⟩
abbrev S11x8x128 : Shape := ⟨3, ![11, 8, 128]⟩
abbrev S6x8x128 : Shape := ⟨3, ![6, 8, 128]⟩
abbrev S6x8 : Shape := ⟨2, ![6, 8]⟩
abbrev S6x8x1 : Shape := ⟨3, ![6, 8, 1]⟩
abbrev S10x8x128 : Shape := ⟨3, ![10, 8, 128]⟩
abbrev S7x8x128 : Shape := ⟨3, ![7, 8, 128]⟩
abbrev S7x8 : Shape := ⟨2, ![7, 8]⟩
abbrev S7x8x1 : Shape := ⟨3, ![7, 8, 1]⟩
abbrev S9x8x128 : Shape := ⟨3, ![9, 8, 128]⟩
abbrev S8x8x128 : Shape := ⟨3, ![8, 8, 128]⟩
abbrev S8x8 : Shape := ⟨2, ![8, 8]⟩
abbrev S8x8x1 : Shape := ⟨3, ![8, 8, 1]⟩
abbrev S9x8 : Shape := ⟨2, ![9, 8]⟩
abbrev S9x8x1 : Shape := ⟨3, ![9, 8, 1]⟩
abbrev S10x8 : Shape := ⟨2, ![10, 8]⟩
abbrev S10x8x1 : Shape := ⟨3, ![10, 8, 1]⟩
abbrev S11x8 : Shape := ⟨2, ![11, 8]⟩
abbrev S11x8x1 : Shape := ⟨3, ![11, 8, 1]⟩
abbrev S12x8 : Shape := ⟨2, ![12, 8]⟩
abbrev S12x8x1 : Shape := ⟨3, ![12, 8, 1]⟩
abbrev S13x8 : Shape := ⟨2, ![13, 8]⟩
abbrev S13x8x1 : Shape := ⟨3, ![13, 8, 1]⟩
abbrev S14x8 : Shape := ⟨2, ![14, 8]⟩
abbrev S14x8x1 : Shape := ⟨3, ![14, 8, 1]⟩
abbrev S15x8 : Shape := ⟨2, ![15, 8]⟩
abbrev S15x8x1 : Shape := ⟨3, ![15, 8, 1]⟩
abbrev S16x8 : Shape := ⟨2, ![16, 8]⟩
abbrev S16x8x1 : Shape := ⟨3, ![16, 8, 1]⟩
abbrev S8x16x128 : Shape := ⟨3, ![8, 16, 128]⟩
abbrev S8x16x16 : Shape := ⟨3, ![8, 16, 16]⟩
abbrev S32x8x128 : Shape := ⟨3, ![32, 8, 128]⟩
abbrev S8x32x128 : Shape := ⟨3, ![8, 32, 128]⟩
abbrev S8x16x32 : Shape := ⟨3, ![8, 16, 32]⟩
abbrev S48x8x128 : Shape := ⟨3, ![48, 8, 128]⟩
abbrev S8x48x128 : Shape := ⟨3, ![8, 48, 128]⟩
abbrev S8x16x48 : Shape := ⟨3, ![8, 16, 48]⟩
abbrev S64x8x128 : Shape := ⟨3, ![64, 8, 128]⟩
abbrev S8x64x128 : Shape := ⟨3, ![8, 64, 128]⟩
abbrev S8x1x128 : Shape := ⟨3, ![8, 1, 128]⟩

abbrev nBuf : Space → Nat
  | .hbm => 4
  | .vmem => 12
  | .smem => 0
  | _ => 0

abbrev bufTy : (tb : Table) → Fin (tcTables nBuf tb) → BufTy
  | .hbm, ⟨0, _⟩ => ⟨S2304x13568, .f32⟩
  | .hbm, ⟨1, _⟩ => ⟨S2x1024, .f32⟩
  | .hbm, ⟨2, _⟩ => ⟨S2304x1024, .f32⟩
  | .hbm, ⟨3, _⟩ => ⟨S36x8x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S2x1024, .f32⟩
  | .local _ .vmem, ⟨7, _⟩ => ⟨S64x1024, .f32⟩
  | .local _ .vmem, ⟨8, _⟩ => ⟨S64x1024, .f32⟩
  | .local _ .vmem, ⟨9, _⟩ => ⟨S1x8x128x128, .f32⟩
  | .local _ .vmem, ⟨10, _⟩ => ⟨S1x8x128x128, .f32⟩
  | .local _ .vmem, ⟨11, _⟩ => ⟨S8x128x128, .f32⟩
  | _, _ => ⟨S2304x13568, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c4_i32 : BitVec 32 := 4#32
  let v0 : BitVec 1 := Scalar.cmpi .slt arg0 c4_i32
  let c3_i32 : BitVec 32 := 3#32
  let v1 : BitVec 32 := Scalar.subi c3_i32 arg0
  let c4_i32_0 : BitVec 32 := 4#32
  let v2 : BitVec 32 := Scalar.subi arg0 c4_i32_0
  let c35_i32 : BitVec 32 := 35#32
  let v3 : BitVec 32 := Scalar.subi c35_i32 v2
  let v4 : BitVec 32 := Scalar.select v0 v1 v3
  let c0_i32 : BitVec 32 := 0#32
  let c0_i32_1 : BitVec 32 := 0#32
  ![v4.toNat, c0_i32.toNat]

def cc0_transform_1 (i : grid0.Coords) : Fin 2 → Nat :=
  let arg0 : BitVec 32 := BitVec.ofNat 32 (i 0).val
  let c4_i32 : BitVec 32 := 4#32
  let v0 : BitVec 1 := Scalar.cmpi .slt arg0 c4_i32
  let c3_i32 : BitVec 32 := 3#32
  let v1 : BitVec 32 := Scalar.subi c3_i32 arg0
  let c4_i32_0 : BitVec 32 := 4#32
  let v2 : BitVec 32 := Scalar.subi arg0 c4_i32_0
  let c35_i32 : BitVec 32 := 35#32
  let v3 : BitVec 32 := Scalar.subi c35_i32 v2
  let v4 : BitVec 32 := Scalar.select v0 v1 v3
  let c1_i32 : BitVec 32 := 1#32
  let c0_i32 : BitVec 32 := 0#32
  ![v4.toNat, c1_i32.toNat]

def cc0_transform_2 (i : grid0.Coords) : Fin 2 → Nat :=
  let arg0 : BitVec 32 := BitVec.ofNat 32 (i 0).val
  let c4_i32 : BitVec 32 := 4#32
  let v0 : BitVec 1 := Scalar.cmpi .slt arg0 c4_i32
  let c3_i32 : BitVec 32 := 3#32
  let v1 : BitVec 32 := Scalar.subi c3_i32 arg0
  let c4_i32_0 : BitVec 32 := 4#32
  let v2 : BitVec 32 := Scalar.subi arg0 c4_i32_0
  let c35_i32 : BitVec 32 := 35#32
  let v3 : BitVec 32 := Scalar.subi c35_i32 v2
  let v4 : BitVec 32 := Scalar.select v0 v1 v3
  let c3_i32_1 : BitVec 32 := 3#32
  let c0_i32 : BitVec 32 := 0#32
  ![v4.toNat, c3_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let v0 : BitVec 1 := Scalar.cmpi .slt arg0 c4_i32
  let c3_i32 : BitVec 32 := 3#32
  let v1 : BitVec 32 := Scalar.subi c3_i32 arg0
  let c4_i32_0 : BitVec 32 := 4#32
  let v2 : BitVec 32 := Scalar.subi arg0 c4_i32_0
  let c35_i32 : BitVec 32 := 35#32
  let v3 : BitVec 32 := Scalar.subi c35_i32 v2
  let v4 : BitVec 32 := Scalar.select v0 v1 v3
  let c0_i32 : BitVec 32 := 0#32
  let c0_i32_1 : BitVec 32 := 0#32
  ![v4.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== HgScanFwd1RefIdeal.lean ====
abbrev S2304x13568 : Shape := ⟨2, ![2304, 13568]⟩
abbrev S2x1024 : Shape := ⟨2, ![2, 1024]⟩
abbrev S2304x1024 : Shape := ⟨2, ![2304, 1024]⟩
abbrev S_ : Shape := ⟨0, ![]⟩
abbrev S1024 : Shape := ⟨1, ![1024]⟩
abbrev S1x1024 : Shape := ⟨2, ![1, 1024]⟩
abbrev S1x2304x8x128 : Shape := ⟨4, ![1, 2304, 8, 128]⟩
abbrev S1x256x8x128 : Shape := ⟨4, ![1, 256, 8, 128]⟩
abbrev S1x2048x8x128 : Shape := ⟨4, ![1, 2048, 8, 128]⟩
abbrev S1x8x128x128 : Shape := ⟨4, ![1, 8, 128, 128]⟩
abbrev S64x64 : Shape := ⟨2, ![64, 64]⟩
abbrev S1x36x64x8x128 : Shape := ⟨5, ![1, 36, 64, 8, 128]⟩
abbrev S36x1x8x64x128 : Shape := ⟨5, ![36, 1, 8, 64, 128]⟩
abbrev S36x1x8x128x128 : Shape := ⟨5, ![36, 1, 8, 128, 128]⟩
abbrev S1x1x8x64x128 : Shape := ⟨5, ![1, 1, 8, 64, 128]⟩
abbrev S1x8x64x128 : Shape := ⟨4, ![1, 8, 64, 128]⟩
abbrev S1x8x64x1x128 : Shape := ⟨5, ![1, 8, 64, 1, 128]⟩
abbrev S1x8x1x64x128 : Shape := ⟨5, ![1, 8, 1, 64, 128]⟩
abbrev S1x8x64x64x128 : Shape := ⟨5, ![1, 8, 64, 64, 128]⟩
abbrev S64x64x1 : Shape := ⟨3, ![64, 64, 1]⟩
abbrev S1x8x64x64 : Shape := ⟨4, ![1, 8, 64, 64]⟩
abbrev S1x8x1x128 : Shape := ⟨4, ![1, 8, 1, 128]⟩
abbrev S1x8x128 : Shape := ⟨3, ![1, 8, 128]⟩
abbrev S1x8x128x1 : Shape := ⟨4, ![1, 8, 128, 1]⟩
abbrev S1x1x8x128x128 : Shape := ⟨5, ![1, 1, 8, 128, 128]⟩
abbrev S36x8x128x128 : Shape := ⟨4, ![36, 8, 128, 128]⟩

abbrev nBuf : Space → Nat
  | .hbm => 206
  | .vmem => 0
  | .smem => 0
  | _ => 0

abbrev hbmTy0_0 (i : Nat) : BufTy := match i % 128 with
  | 0 => ⟨S2304x13568, .f32⟩
  | 1 => ⟨S2x1024, .f32⟩
  | 2 => ⟨S2304x1024, .f32⟩
  | 3 => ⟨S2304x1024, .f32⟩
  | 4 => ⟨S2304x1024, .f32⟩
  | 5 => ⟨S_, .f32⟩
  | 6 => ⟨S1024, .f32⟩
  | 7 => ⟨S_, .f32⟩
  | 8 => ⟨S1024, .f32⟩
  | 9 => ⟨S1024, .f32⟩
  | 10 => ⟨S1x1024, .f32⟩
  | 11 => ⟨S2x1024, .f32⟩
  | 12 => ⟨S2x1024, .f32⟩
  | 13 => ⟨S2x1024, .f32⟩
  | 14 => ⟨S_, .f32⟩
  | 15 => ⟨S1024, .f32⟩
  | 16 => ⟨S1x1024, .f32⟩
  | 17 => ⟨S2x1024, .f32⟩
  | 18 => ⟨S2x1024, .f32⟩
  | 19 => ⟨S_, .f32⟩
  | 20 => ⟨S_, .f32⟩
  | 21 => ⟨S2x1024, .f32⟩
  | 22 => ⟨S1x1024, .f32⟩
  | 23 => ⟨S1024, .f32⟩
  | 24 => ⟨S_, .f32⟩
  | 25 => ⟨S1024, .f32⟩
  | 26 => ⟨S1024, .f32⟩
  | 27 => ⟨S2304x1024, .f32⟩
  | 28 => ⟨S2304x1024, .f32⟩
  | 29 => ⟨S_, .f32⟩
  | 30 => ⟨S2304x1024, .f32⟩
  | 31 => ⟨S2304x1024, .f32⟩
  | 32 => ⟨S_, .f32⟩
  | 33 => ⟨S2304x1024, .f32⟩
  | 34 => ⟨S2304x1024, .f32⟩
  | 35 => ⟨S1x1024, .f32⟩
  | 36 => ⟨S2304x1024, .f32⟩
  | 37 => ⟨S2304x1024, .f32⟩
  | 38 => ⟨S1x1024, .f32⟩
  | 39 => ⟨S2304x1024, .f32⟩
  | 40 => ⟨S2304x1024, .f32⟩
  | 41 => ⟨S2304x1024, .f32⟩
  | 42 => ⟨S2304x1024, .f32⟩
  | 43 => ⟨S_, .f32⟩
  | 44 => ⟨S2304x1024, .f32⟩
  | 45 => ⟨S2304x1024, .f32⟩
  | 46 => ⟨S_, .f32⟩
  | 47 => ⟨S2304x1024, .f32⟩
  | 48 => ⟨S2304x1024, .f32⟩
  | 49 => ⟨S2304x1024, .f32⟩
  | 50 => ⟨S1x2304x8x128, .f32⟩
  | 51 => ⟨S1x256x8x128, .f32⟩
  | 52 => ⟨S1x256x8x128, .f32⟩
  | 53 => ⟨S1x2048x8x128, .f32⟩
  | 54 => ⟨S1x2048x8x128, .f32⟩
  | 55 => ⟨S1x2304x8x128, .f32⟩
  | 56 => ⟨S_, .f32⟩
  | 57 => ⟨S2304x1024, .f32⟩
  | 58 => ⟨S2304x1024, .f32⟩
  | 59 => ⟨S1x2304x8x128, .f32⟩
  | 60 => ⟨S1x256x8x128, .f32⟩
  | 61 => ⟨S1x256x8x128, .f32⟩
  | 62 => ⟨S1x2048x8x128, .f32⟩
  | 63 => ⟨S1x2048x8x128, .f32⟩
  | 64 => ⟨S1x2304x8x128, .f32⟩
  | 65 => ⟨S1x2304x8x128, .f32⟩
  | 66 => ⟨S1x256x8x128, .f32⟩
  | 67 => ⟨S1x256x8x128, .f32⟩
  | 68 => ⟨S1x2048x8x128, .f32⟩
  | 69 => ⟨S1x2048x8x128, .f32⟩
  | 70 => ⟨S1x2304x8x128, .f32⟩
  | 71 => ⟨S2304x1024, .f32⟩
  | 72 => ⟨S1x2304x8x128, .f32⟩
  | 73 => ⟨S1x256x8x128, .f32⟩
  | 74 => ⟨S1x256x8x128, .f32⟩
  | 75 => ⟨S1x2048x8x128, .f32⟩
  | 76 => ⟨S1x2048x8x128, .f32⟩
  | 77 => ⟨S1x2304x8x128, .f32⟩
  | 78 => ⟨S_, .f32⟩
  | 79 => ⟨S1x8x128x128, .f32⟩
  | 80 => ⟨S_, .i1⟩
  | 81 => ⟨S64x64, .i1⟩
  | 82 => ⟨S64x64, .i32⟩
  | 83 => ⟨S_, .i32⟩
  | 84 => ⟨S64x64, .i32⟩
  | 85 => ⟨S64x64, .i32⟩
  | 86 => ⟨S64x64, .i32⟩
  | 87 => ⟨S64x64, .i1⟩
  | 88 => ⟨S_, .i1⟩
  | 89 => ⟨S64x64, .i1⟩
  | 90 => ⟨S64x64, .i1⟩
  | 91 => ⟨S1x36x64x8x128, .f32⟩
  | 92 => ⟨S36x1x8x64x128, .f32⟩
  | 93 => ⟨S1x36x64x8x128, .f32⟩
  | 94 => ⟨S36x1x8x64x128, .f32⟩
  | 95 => ⟨S1x36x64x8x128, .f32⟩
  | 96 => ⟨S36x1x8x64x128, .f32⟩
  | 97 => ⟨S1x36x64x8x128, .f32⟩
  | 98 => ⟨S36x1x8x64x128, .f32⟩
  | 99 => ⟨S_, .f32⟩
  | 100 => ⟨S36x1x8x64x128, .f32⟩
  | 101 => ⟨S_, .f32⟩
  | 102 => ⟨S36x1x8x128x128, .f32⟩
  | 103 => ⟨S_, .i32⟩
  | 104 => ⟨S36x1x8x64x128, .f32⟩
  | 105 => ⟨S36x1x8x64x128, .f32⟩
  | 106 => ⟨S36x1x8x64x128, .f32⟩
  | 107 => ⟨S36x1x8x64x128, .f32⟩
  | 108 => ⟨S64x64, .i1⟩
  | 109 => ⟨S_, .i32⟩
  | 110 => ⟨S1x8x128x128, .f32⟩
  | 111 => ⟨S36x1x8x64x128, .f32⟩
  | 112 => ⟨S36x1x8x128x128, .f32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S1x1x8x64x128, .f32⟩
  | 120 => ⟨S1x8x64x128, .f32⟩
  | 121 => ⟨S_, .i32⟩
  | 122 => ⟨S_, .i32⟩
  | 123 => ⟨S_, .i32⟩
  | 124 => ⟨S_, .i32⟩
  | 125 => ⟨S1x1x8x64x128, .f32⟩
  | 126 => ⟨S1x8x64x128, .f32⟩
  | 127 => ⟨S_, .i32⟩
  | _ => ⟨S2304x13568, .f32⟩

abbrev hbmTy0_1 (i : Nat) : BufTy := match i % 128 with
  | 0 => ⟨S_, .i32⟩
  | 1 => ⟨S_, .i32⟩
  | 2 => ⟨S_, .i32⟩
  | 3 => ⟨S1x1x8x64x128, .f32⟩
  | 4 => ⟨S1x8x64x128, .f32⟩
  | 5 => ⟨S_, .i32⟩
  | 6 => ⟨S_, .i32⟩
  | 7 => ⟨S_, .i32⟩
  | 8 => ⟨S_, .i32⟩
  | 9 => ⟨S1x1x8x64x128, .f32⟩
  | 10 => ⟨S1x8x64x128, .f32⟩
  | 11 => ⟨S_, .f32⟩
  | 12 => ⟨S_, .f32⟩
  | 13 => ⟨S1x8x64x128, .f32⟩
  | 14 => ⟨S1x8x64x1x128, .f32⟩
  | 15 => ⟨S1x8x1x64x128, .f32⟩
  | 16 => ⟨S1x8x64x64x128, .f32⟩
  | 17 => ⟨S1x8x64x64x128, .f32⟩
  | 18 => ⟨S1x8x64x64x128, .f32⟩
  | 19 => ⟨S64x64x1, .i1⟩
  | 20 => ⟨S_, .f32⟩
  | 21 => ⟨S1x8x64x64x128, .f32⟩
  | 22 => ⟨S1x8x64x64x128, .f32⟩
  | 23 => ⟨S1x8x64x64x128, .f32⟩
  | 24 => ⟨S_, .f32⟩
  | 25 => ⟨S_, .f32⟩
  | 26 => ⟨S1x8x64x64x128, .i1⟩
  | 27 => ⟨S1x8x64x64x128, .f32⟩
  | 28 => ⟨S1x8x64x64x128, .f32⟩
  | 29 => ⟨S1x8x64x1x128, .f32⟩
  | 30 => ⟨S1x8x1x64x128, .f32⟩
  | 31 => ⟨S1x8x64x64x128, .f32⟩
  | 32 => ⟨S1x8x64x64x128, .f32⟩
  | 33 => ⟨S1x8x64x64x128, .f32⟩
  | 34 => ⟨S1x8x64x64x128, .f32⟩
  | 35 => ⟨S_, .f32⟩
  | 36 => ⟨S1x8x64x64, .f32⟩
  | 37 => ⟨S1x8x64x128, .f32⟩
  | 38 => ⟨S1x8x64x128, .f32⟩
  | 39 => ⟨S1x8x64x128, .f32⟩
  | 40 => ⟨S1x8x64x128, .f32⟩
  | 41 => ⟨S1x8x64x128, .f32⟩
  | 42 => ⟨S1x8x1x128, .f32⟩
  | 43 => ⟨S1x8x128, .f32⟩
  | 44 => ⟨S1x8x128, .f32⟩
  | 45 => ⟨S1x8x128x1, .f32⟩
  | 46 => ⟨S1x8x128x128, .f32⟩
  | 47 => ⟨S1x8x128x128, .f32⟩
  | 48 => ⟨S1x8x64x128, .f32⟩
  | 49 => ⟨S1x8x64x128, .f32⟩
  | 50 => ⟨S1x8x64x128, .f32⟩
  | 51 => ⟨S1x8x64x128, .f32⟩
  | 52 => ⟨S1x8x128x128, .f32⟩
  | 53 => ⟨S1x8x128x128, .f32⟩
  | 54 => ⟨S1x1x8x64x128, .f32⟩
  | 55 => ⟨S_, .i32⟩
  | 56 => ⟨S_, .i32⟩
  | 57 => ⟨S_, .i32⟩
  | 58 => ⟨S_, .i32⟩
  | 59 => ⟨S36x1x8x64x128, .f32⟩
  | 60 => ⟨S1x1x8x128x128, .f32⟩
  | 61 => ⟨S_, .i32⟩
  | 62 => ⟨S_, .i32⟩
  | 63 => ⟨S_, .i32⟩
  | 64 => ⟨S_, .i32⟩
  | 65 => ⟨S36x1x8x128x128, .f32⟩
  | 66 => ⟨S_, .i32⟩
  | 67 => ⟨S_, .i32⟩
  | 68 => ⟨S1x36x64x8x128, .f32⟩
  | 69 => ⟨S1x2304x8x128, .f32⟩
  | 70 => ⟨S1x256x8x128, .f32⟩
  | 71 => ⟨S1x256x8x128, .f32⟩
  | 72 => ⟨S1x2048x8x128, .f32⟩
  | 73 => ⟨S1x2048x8x128, .f32⟩
  | 74 => ⟨S1x2304x8x128, .f32⟩
  | 75 => ⟨S2304x1024, .f32⟩
  | 76 => ⟨S36x8x128x128, .f32⟩
  | 77 => ⟨S36x8x128x128, .f32⟩
  | _ => ⟨S2304x13568, .f32⟩

abbrev hbmTy (i : Nat) : BufTy := match i / 128 with
  | 0 => hbmTy0_0 i
  | 1 => hbmTy0_1 i
  | _ => ⟨S2304x13568, .f32⟩

abbrev bufTy : (tb : Table) → Fin (tcTables nBuf tb) → BufTy
  | .hbm, ⟨i, _⟩ => hbmTy i
  | _, _ => ⟨S2304x13568, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_call0_cst : Ref sig .tc := ⟨.hbm, 19, rfl⟩
abbrev main_call0_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_6 : Ref sig .tc := ⟨.hbm, 78, rfl⟩
abbrev main_v59 : Ref sig .tc := ⟨.hbm, 79, rfl⟩
abbrev main_c : Ref sig .tc := ⟨.hbm, 80, rfl⟩
abbrev main_v60 : Ref sig .tc := ⟨.hbm, 81, rfl⟩
abbrev main_call10_v0 : Ref sig .tc := ⟨.hbm, 82, rfl⟩
abbrev main_call10_c : Ref sig .tc := ⟨.hbm, 83, rfl⟩
abbrev main_call10_v1 : Ref sig .tc := ⟨.hbm, 84, rfl⟩
abbrev main_call10_v2 : Ref sig .tc := ⟨.hbm, 85, rfl⟩
abbrev main_call10_v3 : Ref sig .tc := ⟨.hbm, 86, rfl⟩
abbrev main_call10_v4 : Ref sig .tc := ⟨.hbm, 87, rfl⟩
abbrev main_call10_c_0 : Ref sig .tc := ⟨.hbm, 88, rfl⟩
abbrev main_call10_v5 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_7 : Ref sig .tc := ⟨.hbm, 99, rfl⟩
abbrev main_v70 : Ref sig .tc := ⟨.hbm, 100, rfl⟩
abbrev main_cst_8 : Ref sig .tc := ⟨.hbm, 101, rfl⟩
abbrev main_v71 : Ref sig .tc := ⟨.hbm, 102, rfl⟩
abbrev main_c_9 : Ref sig .tc := ⟨.hbm, 103, rfl⟩
abbrev main_v72_0 : Ref sig .tc := ⟨.hbm, 104, rfl⟩
abbrev main_v72_1 : Ref sig .tc := ⟨.hbm, 105, rfl⟩
abbrev main_v72_2 : Ref sig .tc := ⟨.hbm, 106, rfl⟩
abbrev main_v72_3 : Ref sig .tc := ⟨.hbm, 107, rfl⟩
abbrev main_v72_4 : Ref sig .tc := ⟨.hbm, 108, rfl⟩
abbrev main_v72_5 : Ref sig .tc := ⟨.hbm, 109, rfl⟩
abbrev main_v72_6 : Ref sig .tc := ⟨.hbm, 110, rfl⟩
abbrev main_v72_7 : Ref sig .tc := ⟨.hbm, 111, rfl⟩
abbrev main_v72_8 : Ref sig .tc := ⟨.hbm, 112, rfl⟩
abbrev main_while0c_c_18 : Ref sig .tc := ⟨.hbm, 113, rfl⟩
abbrev main_while0c_v83 : Ref sig .tc := ⟨.hbm, 114, rfl⟩
abbrev main_while0b_call11_c : Ref sig .tc := ⟨.hbm, 115, rfl⟩
abbrev main_while0b_call11_c_0 : Ref sig .tc := ⟨.hbm, 116, rfl⟩
abbrev main_while0b_call11_c_1 : Ref sig .tc := ⟨.hbm, 117, rfl⟩
abbrev main_while0b_call11_c_2 : Ref sig .tc := ⟨.hbm, 118, rfl⟩
abbrev main_while0b_call11_v0 : Ref sig .tc := ⟨.hbm, 119, rfl⟩
abbrev main_while0b_v83 : Ref sig .tc := ⟨.hbm, 120, rfl⟩
abbrev main_while0b_call12_c : Ref sig .tc := ⟨.hbm, 121, rfl⟩
abbrev main_while0b_call12_c_0 : Ref sig .tc := ⟨.hbm, 122, rfl⟩
abbrev main_while0b_call12_c_1 : Ref sig .tc := ⟨.hbm, 123, rfl⟩
abbrev main_while0b_call12_c_2 : Ref sig .tc := ⟨.hbm, 124, rfl⟩
abbrev main_while0b_call12_v0 : Ref sig .tc := ⟨.hbm, 125, rfl⟩
abbrev main_while0b_v84 : Ref sig .tc := ⟨.hbm, 126, rfl⟩
abbrev main_while0b_call13_c : Ref sig .tc := ⟨.hbm, 127, rfl⟩
abbrev main_while0b_call13_c_0 : Ref sig .tc := ⟨.hbm, 128, rfl⟩
abbrev main_while0b_call13_c_1 : Ref sig .tc := ⟨.hbm, 129, rfl⟩
abbrev main_while0b_call13_c_2 : Ref sig .tc := ⟨.hbm, 130, rfl⟩
abbrev main_while0b_call13_v0 : Ref sig .tc := ⟨.hbm, 131, rfl⟩
abbrev main_while0b_v85 : Ref sig .tc := ⟨.hbm, 132, rfl⟩
abbrev main_while0b_call14_c : Ref sig .tc := ⟨.hbm, 133, rfl⟩
abbrev main_while0b_call14_c_0 : Ref sig .tc := ⟨.hbm, 134, rfl⟩
abbrev main_while0b_call14_c_1 : Ref sig .tc := ⟨.hbm, 135, rfl⟩
abbrev main_while0b_call14_c_2 : Ref sig .tc := ⟨.hbm, 136, rfl⟩
abbrev main_while0b_call14_v0 : Ref sig .tc := ⟨.hbm, 137, rfl⟩
abbrev main_while0b_v86 : Ref sig .tc := ⟨.hbm, 138, rfl⟩
abbrev main_while0b_call15_call0_cst : Ref sig .tc := ⟨.hbm, 139, rfl⟩
abbrev main_while0b_call15_call0_v0 : Ref sig .tc := ⟨.hbm, 140, rfl⟩
abbrev main_while0b_v87 : Ref sig .tc := ⟨.hbm, 141, rfl⟩
abbrev main_while0b_v88 : Ref sig .tc := ⟨.hbm, 142, rfl⟩
abbrev main_while0b_v89 : Ref sig .tc := ⟨.hbm, 143, rfl⟩
abbrev main_while0b_v90 : Ref sig .tc := ⟨.hbm, 144, rfl⟩
abbrev main_while0b_v91 : Ref sig .tc := ⟨.hbm, 145, rfl⟩
abbrev main_while0b_v92 : Ref sig .tc := ⟨.hbm, 146, rfl⟩
abbrev main_while0b_v93 : Ref sig .tc := ⟨.hbm, 147, rfl⟩
abbrev main_while0b_cst_18 : Ref sig .tc := ⟨.hbm, 148, rfl⟩
abbrev main_while0b_v94 : Ref sig .tc := ⟨.hbm, 149, rfl⟩
abbrev main_while0b_v95 : Ref sig .tc := ⟨.hbm, 150, rfl⟩
abbrev main_while0b_v96 : Ref sig .tc := ⟨.hbm, 151, rfl⟩
abbrev main_while0b_cst_19 : Ref sig .tc := ⟨.hbm, 152, rfl⟩
abbrev main_while0b_call16_v0 : Ref sig .tc := ⟨.hbm, 153, rfl⟩
abbrev main_while0b_call16_v1 : Ref sig .tc := ⟨.hbm, 154, rfl⟩
abbrev main_while0b_call16_v2 : Ref sig .tc := ⟨.hbm, 155, rfl⟩
abbrev main_while0b_v97 : Ref sig .tc := ⟨.hbm, 156, rfl⟩
abbrev main_while0b_v98 : Ref sig .tc := ⟨.hbm, 157, rfl⟩
abbrev main_while0b_v99 : Ref sig .tc := ⟨.hbm, 158, rfl⟩
abbrev main_while0b_v100 : Ref sig .tc := ⟨.hbm, 159, rfl⟩
abbrev main_while0b_v101 : Ref sig .tc := ⟨.hbm, 160, rfl⟩
abbrev main_while0b_v102 : Ref sig .tc := ⟨.hbm, 161, rfl⟩
abbrev main_while0b_v103 : Ref sig .tc := ⟨.hbm, 162, rfl⟩
abbrev main_while0b_cst_20 : Ref sig .tc := ⟨.hbm, 163, rfl⟩
abbrev main_while0b_v104 : Ref sig .tc := ⟨.hbm, 164, rfl⟩
abbrev main_while0b_v105 : Ref sig .tc := ⟨.hbm, 165, rfl⟩
abbrev main_while0b_v106 : Ref sig .tc := ⟨.hbm, 166, rfl⟩
abbrev main_while0b_v107 : Ref sig .tc := ⟨.hbm, 167, rfl⟩
abbrev main_while0b_v108 : Ref sig .tc := ⟨.hbm, 168, rfl⟩
abbrev main_while0b_v109 : Ref sig .tc := ⟨.hbm, 169, rfl⟩
abbrev main_while0b_v110 : Ref sig .tc := ⟨.hbm, 170, rfl⟩
abbrev main_while0b_v111 : Ref sig .tc := ⟨.hbm, 171, rfl⟩
abbrev main_while0b_v112 : Ref sig .tc := ⟨.hbm, 172, rfl⟩
abbrev main_while0b_v113 : Ref sig .tc := ⟨.hbm, 173, rfl⟩
abbrev main_while0b_v114 : Ref sig .tc := ⟨.hbm, 174, rfl⟩
abbrev main_while0b_v115 : Ref sig .tc := ⟨.hbm, 175, rfl⟩
abbrev main_while0b_v116 : Ref sig .tc := ⟨.hbm, 176, rfl⟩
abbrev main_while0b_v117 : Ref sig .tc := ⟨.hbm, 177, rfl⟩
abbrev main_while0b_v118 : Ref sig .tc := ⟨.hbm, 178, rfl⟩
abbrev main_while0b_v119 : Ref sig .tc := ⟨.hbm, 179, rfl⟩
abbrev main_while0b_v120 : Ref sig .tc := ⟨.hbm, 180, rfl⟩
abbrev main_while0b_v121 : Ref sig .tc := ⟨.hbm, 181, rfl⟩
abbrev main_while0b_call17_v0 : Ref sig .tc := ⟨.hbm, 182, rfl⟩
abbrev main_while0b_call17_c : Ref sig .tc := ⟨.hbm, 183, rfl⟩
abbrev main_while0b_call17_c_0 : Ref sig .tc := ⟨.hbm, 184, rfl⟩
abbrev main_while0b_call17_c_1 : Ref sig .tc := ⟨.hbm, 185, rfl⟩
abbrev main_while0b_call17_c_2 : Ref sig .tc := ⟨.hbm, 186, rfl⟩
abbrev main_while0b_v122 : Ref sig .tc := ⟨.hbm, 187, rfl⟩
abbrev main_while0b_call18_v0 : Ref sig .tc := ⟨.hbm, 188, rfl⟩
abbrev main_while0b_call18_c : Ref sig .tc := ⟨.hbm, 189, rfl⟩
abbrev main_while0b_call18_c_0 : Ref sig .tc := ⟨.hbm, 190, rfl⟩
abbrev main_while0b_call18_c_1 : Ref sig .tc := ⟨.hbm, 191, rfl⟩
abbrev main_while0b_call18_c_2 : Ref sig .tc := ⟨.hbm, 192, rfl⟩
abbrev main_while0b_v123 : Ref sig .tc := ⟨.hbm, 193, rfl⟩
abbrev main_while0b_c_21 : Ref sig .tc := ⟨.hbm, 194, rfl⟩
abbrev main_while0b_v124 : Ref sig .tc := ⟨.hbm, 195, rfl⟩
abbrev main_v73 : Ref sig .tc := ⟨.hbm, 196, rfl⟩
abbrev main_v74 : Ref sig .tc := ⟨.hbm, 197, rfl⟩
abbrev main_v75 : Ref sig .tc := ⟨.hbm, 198, rfl⟩
abbrev main_v76 : Ref sig .tc := ⟨.hbm, 199, rfl⟩
abbrev main_v77 : Ref sig .tc := ⟨.hbm, 200, rfl⟩
abbrev main_v78 : Ref sig .tc := ⟨.hbm, 201, rfl⟩
abbrev main_v79 : Ref sig .tc := ⟨.hbm, 202, rfl⟩
abbrev main_v80 : Ref sig .tc := ⟨.hbm, 203, rfl⟩
abbrev main_v81 : Ref sig .tc := ⟨.hbm, 204, rfl⟩
abbrev main_v82 : Ref sig .tc := ⟨.hbm, 205, rfl⟩

abbrev nD : Nat := 1
abbrev τ : Topo := Topo.v7x

variable {F : FTy → Type} [FloatOps F]

abbrev main_while0_count : Scf.Loop 32 := ⟨0#32, 36#32, 1#32⟩
-- ==== CondSilu.lean ====
abbrev S8x2048 : Shape := ⟨2, ![8, 2048]⟩
abbrev S2048 : Shape := ⟨1, ![2048]⟩
abbrev S1x2048 : Shape := ⟨2, ![1, 2048]⟩
abbrev S_ : Shape := ⟨0, ![]⟩
abbrev S7x2048 : Shape := ⟨2, ![7, 2048]⟩
abbrev S16x2048 : Shape := ⟨2, ![16, 2048]⟩

abbrev nBuf : Space → Nat
  | .hbm => 7
  | .vmem => 2
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S1x2048, .f32⟩
  | .hbm, ⟨3, _⟩ => ⟨S_, .f32⟩
  | .hbm, ⟨4, _⟩ => ⟨S7x2048, .f32⟩
  | .hbm, ⟨5, _⟩ => ⟨S16x2048, .f32⟩
  | .hbm, ⟨6, _⟩ => ⟨S16x2048, .f32⟩
  | .local _ .vmem, ⟨0, _⟩ => ⟨S16x2048, .f32⟩
  | .local _ .vmem, ⟨1, _⟩ => ⟨S16x2048, .f32⟩
  | _, _ => ⟨S8x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== CondSiluRefIdeal.lean ====
abbrev S8x2048 : Shape := ⟨2, ![8, 2048]⟩
abbrev S2048 : Shape := ⟨1, ![2048]⟩
abbrev S1x2048 : Shape := ⟨2, ![1, 2048]⟩
abbrev S_ : Shape := ⟨0, ![]⟩
abbrev S7x2048 : Shape := ⟨2, ![7, 2048]⟩
abbrev S16x2048 : Shape := ⟨2, ![16, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S1x2048, .f32⟩
  | .hbm, ⟨3, _⟩ => ⟨S_, .f32⟩
  | .hbm, ⟨4, _⟩ => ⟨S7x2048, .f32⟩
  | .hbm, ⟨5, _⟩ => ⟨S16x2048, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S_, .f32⟩
  | .hbm, ⟨12, _⟩ => ⟨S16x2048, .f32⟩
  | .hbm, ⟨13, _⟩ => ⟨S16x2048, .f32⟩
  | .hbm, ⟨14, _⟩ => ⟨S16x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Merge.lean ====
abbrev S2304x2048 : Shape := ⟨2, ![2304, 2048]⟩
abbrev S2304x13568 : Shape := ⟨2, ![2304, 13568]⟩
abbrev S2304x4096 : Shape := ⟨2, ![2304, 4096]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x13568, .f32⟩
  | .hbm, ⟨3, _⟩ => ⟨S2304x4096, .f32⟩
  | .hbm, ⟨4, _⟩ => ⟨S2304x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c1_i32 : BitVec 32 := 1#32
  let c0_i32_1 : BitVec 32 := 0#32
  ![v2.toNat, c1_i32.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S2304x2048 : Shape := ⟨2, ![2304, 2048]⟩
abbrev S2304x13568 : Shape := ⟨2, ![2304, 13568]⟩
abbrev S2304x4096 : Shape := ⟨2, ![2304, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x13568, .f32⟩
  | .hbm, ⟨3, _⟩ => ⟨S2304x4096, .f32⟩
  | .hbm, ⟨4, _⟩ => ⟨S2304x2048, .f32⟩
  | .hbm, ⟨5, _⟩ => ⟨S2304x2048, .f32⟩
  | .hbm, ⟨6, _⟩ => ⟨S2304x2048, .f32⟩
  | .hbm, ⟨7, _⟩ => ⟨S2304x2048, .f32⟩
  | .hbm, ⟨8, _⟩ => ⟨S_, .f32⟩
  | .hbm, ⟨9, _⟩ => ⟨S2304x2048, .f32⟩
  | .hbm, ⟨10, _⟩ => ⟨S2304x2048, .f32⟩
  | .hbm, ⟨11, _⟩ => ⟨S_, .f32⟩
  | .hbm, ⟨12, _⟩ => ⟨S2304x2048, .f32⟩
  | .hbm, ⟨13, _⟩ => ⟨S2304x2048, .f32⟩
  | .hbm, ⟨14, _⟩ => ⟨S2304x2048, .f32⟩
  | .hbm, ⟨15, _⟩ => ⟨S2304x2048, .f32⟩
  | .hbm, ⟨16, _⟩ => ⟨S2304x2048, .f32⟩
  | .hbm, ⟨17, _⟩ => ⟨S_, .f32⟩
  | .hbm, ⟨18, _⟩ => ⟨S2304x2048, .f32⟩
  | .hbm, ⟨19, _⟩ => ⟨S2304x2048, .f32⟩
  | .hbm, ⟨20, _⟩ => ⟨S_, .f32⟩
  | .hbm, ⟨21, _⟩ => ⟨S2304x2048, .f32⟩
  | .hbm, ⟨22, _⟩ => ⟨S2304x2048, .f32⟩
  | .hbm, ⟨23, _⟩ => ⟨S2304x2048, .f32⟩
  | .hbm, ⟨24, _⟩ => ⟨S2304x2048, .f32⟩
  | .hbm, ⟨25, _⟩ => ⟨S2304x2048, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== HgPost.lean ====
abbrev S2304x1024 : Shape := ⟨2, ![2304, 1024]⟩
abbrev S2304x13568 : Shape := ⟨2, ![2304, 13568]⟩
abbrev S1x1024 : Shape := ⟨2, ![1, 1024]⟩
abbrev S256x1024 : Shape := ⟨2, ![256, 1024]⟩
abbrev S256x8x128 : Shape := ⟨3, ![256, 8, 128]⟩
abbrev S256x8 : Shape := ⟨2, ![256, 8]⟩
abbrev S256x8x1 : Shape := ⟨3, ![256, 8, 1]⟩

abbrev nBuf : Space → Nat
  | .hbm => 5
  | .vmem => 9
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2304x13568, .f32⟩
  | .hbm, ⟨3, _⟩ => ⟨S1x1024, .f32⟩
  | .hbm, ⟨4, _⟩ => ⟨S2304x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c4_i32 : BitVec 32 := 4#32
  let c0_i32_1 : BitVec 32 := 0#32
  ![v2.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== HgPostRefIdeal.lean ====
abbrev S2304x1024 : Shape := ⟨2, ![2304, 1024]⟩
abbrev S2304x13568 : Shape := ⟨2, ![2304, 13568]⟩
abbrev S1x1024 : Shape := ⟨2, ![1, 1024]⟩
abbrev S2304x8x128 : Shape := ⟨3, ![2304, 8, 128]⟩
abbrev S_ : Shape := ⟨0, ![]⟩
abbrev S2304x8 : Shape := ⟨2, ![2304, 8]⟩
abbrev S2304x8x1 : Shape := ⟨3, ![2304, 8, 1]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2304x13568, .f32⟩
  | .hbm, ⟨3, _⟩ => ⟨S1x1024, .f32⟩
  | .hbm, ⟨4, _⟩ => ⟨S2304x1024, .f32⟩
  | .hbm, ⟨5, _⟩ => ⟨S2304x1024, .f32⟩
  | .hbm, ⟨6, _⟩ => ⟨S2304x8x128, .f32⟩
  | .hbm, ⟨7, _⟩ => ⟨S2304x8x128, .f32⟩
  | .hbm, ⟨8, _⟩ => ⟨S_, .f32⟩
  | .hbm, ⟨9, _⟩ => ⟨S2304x8, .f32⟩
  | .hbm, ⟨10, _⟩ => ⟨S2304x8x1, .f32⟩
  | .hbm, ⟨11, _⟩ => ⟨S_, .f32⟩
  | .hbm, ⟨12, _⟩ => ⟨S2304x8x1, .f32⟩
  | .hbm, ⟨13, _⟩ => ⟨S2304x8x1, .f32⟩
  | .hbm, ⟨14, _⟩ => ⟨S_, .f32⟩
  | .hbm, ⟨15, _⟩ => ⟨S2304x8x1, .f32⟩
  | .hbm, ⟨16, _⟩ => ⟨S2304x8x1, .f32⟩
  | .hbm, ⟨17, _⟩ => ⟨S2304x8x1, .f32⟩
  | .hbm, ⟨18, _⟩ => ⟨S2304x8x128, .f32⟩
  | .hbm, ⟨19, _⟩ => ⟨S2304x8x128, .f32⟩
  | .hbm, ⟨20, _⟩ => ⟨S2304x1024, .f32⟩
  | .hbm, ⟨21, _⟩ => ⟨S1024, .f32⟩
  | .hbm, ⟨22, _⟩ => ⟨S1x1024, .f32⟩
  | .hbm, ⟨23, _⟩ => ⟨S2304x1024, .f32⟩
  | .hbm, ⟨24, _⟩ => ⟨S2304x1024, .f32⟩
  | .hbm, ⟨25, _⟩ => ⟨S2304x1024, .f32⟩
  | .hbm, ⟨26, _⟩ => ⟨S2304x1024, .f32⟩
  | .hbm, ⟨27, _⟩ => ⟨S_, .f32⟩
  | .hbm, ⟨28, _⟩ => ⟨S2304x1024, .f32⟩
  | .hbm, ⟨29, _⟩ => ⟨S2304x1024, .f32⟩
  | .hbm, ⟨30, _⟩ => ⟨S_, .f32⟩
  | .hbm, ⟨31, _⟩ => ⟨S2304x1024, .f32⟩
  | .hbm, ⟨32, _⟩ => ⟨S2304x1024, .f32⟩
  | .hbm, ⟨33, _⟩ => ⟨S2304x1024, .f32⟩
  | .hbm, ⟨34, _⟩ => ⟨S2304x1024, .f32⟩
  | .hbm, ⟨35, _⟩ => ⟨S2304x1024, .bf16⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== HFwd.lean ====
abbrev S256x2048 : Shape := ⟨2, ![256, 2048]⟩
abbrev S2048x2048 : Shape := ⟨2, ![2048, 2048]⟩
abbrev S1x2048 : Shape := ⟨2, ![1, 2048]⟩
abbrev S8x6144 : Shape := ⟨2, ![8, 6144]⟩
abbrev S8x3x2048 : Shape := ⟨3, ![8, 3, 2048]⟩
abbrev S2304x2048 : Shape := ⟨2, ![2304, 2048]⟩
abbrev S1x3x2048 : Shape := ⟨3, ![1, 3, 2048]⟩
abbrev S3x2048 : Shape := ⟨2, ![3, 2048]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S1x2048, .f32⟩
  | .hbm, ⟨3, _⟩ => ⟨S8x6144, .f32⟩
  | .hbm, ⟨4, _⟩ => ⟨S8x3x2048, .f32⟩
  | .hbm, ⟨5, _⟩ => ⟨S2304x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S8x3x2048, .f32⟩
  | .local _ .vmem, ⟨6, _⟩ => ⟨S256x2048, .bf16⟩
  | .local _ .vmem, ⟨7, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== HFwdRefIdeal.lean ====
abbrev S256x2048 : Shape := ⟨2, ![256, 2048]⟩
abbrev S2048x2048 : Shape := ⟨2, ![2048, 2048]⟩
abbrev S1x2048 : Shape := ⟨2, ![1, 2048]⟩
abbrev S8x6144 : Shape := ⟨2, ![8, 6144]⟩
abbrev S1x6144 : Shape := ⟨2, ![1, 6144]⟩
abbrev S6144 : Shape := ⟨1, ![6144]⟩
abbrev S2048 : Shape := ⟨1, ![2048]⟩
abbrev S_ : Shape := ⟨0, ![]⟩
abbrev S256 : Shape := ⟨1, ![256]⟩
abbrev S256x1 : Shape := ⟨2, ![256, 1]⟩
abbrev S2048x1 : Shape := ⟨2, ![2048, 1]⟩
abbrev S2304x2048 : Shape := ⟨2, ![2304, 2048]⟩

abbrev nBuf : Space → Nat
  | .hbm => 68
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S1x2048, .f32⟩
  | .hbm, ⟨3, _⟩ => ⟨S8x6144, .f32⟩
  | .hbm, ⟨4, _⟩ => ⟨S1x6144, .f32⟩
  | .hbm, ⟨5, _⟩ => ⟨S6144, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S256x2048, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x2048, .f32⟩
  | .hbm, ⟨21, _⟩ => ⟨S256x2048, .f32⟩
  | .hbm, ⟨22, _⟩ => ⟨S2048, .f32⟩
  | .hbm, ⟨23, _⟩ => ⟨S1x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S1x2048, .f32⟩
  | .hbm, ⟨30, _⟩ => ⟨S256x2048, .f32⟩
  | .hbm, ⟨31, _⟩ => ⟨S256x2048, .f32⟩
  | .hbm, ⟨32, _⟩ => ⟨S1x2048, .f32⟩
  | .hbm, ⟨33, _⟩ => ⟨S256x2048, .f32⟩
  | .hbm, ⟨34, _⟩ => ⟨S256x2048, .f32⟩
  | .hbm, ⟨35, _⟩ => ⟨S1x6144, .f32⟩
  | .hbm, ⟨36, _⟩ => ⟨S6144, .f32⟩
  | .hbm, ⟨37, _⟩ => ⟨S2048, .f32⟩
  | .hbm, ⟨38, _⟩ => ⟨S2048, .f32⟩
  | .hbm, ⟨39, _⟩ => ⟨S2048, .f32⟩
  | .hbm, ⟨40, _⟩ => ⟨S2048x2048, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S2048x2048, .f32⟩
  | .hbm, ⟨52, _⟩ => ⟨S2048x2048, .f32⟩
  | .hbm, ⟨53, _⟩ => ⟨S2048, .f32⟩
  | .hbm, ⟨54, _⟩ => ⟨S1x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048, .f32⟩
  | .hbm, ⟨60, _⟩ => ⟨S1x2048, .f32⟩
  | .hbm, ⟨61, _⟩ => ⟨S2048x2048, .f32⟩
  | .hbm, ⟨62, _⟩ => ⟨S2048x2048, .f32⟩
  | .hbm, ⟨63, _⟩ => ⟨S1x2048, .f32⟩
  | .hbm, ⟨64, _⟩ => ⟨S2048x2048, .f32⟩
  | .hbm, ⟨65, _⟩ => ⟨S2048x2048, .f32⟩
  | .hbm, ⟨66, _⟩ => ⟨S2304x2048, .f32⟩
  | .hbm, ⟨67, _⟩ => ⟨S2304x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== RwShift.lean ====
abbrev S2304x13568 : Shape := ⟨2, ![2304, 13568]⟩
abbrev S4x3328 : Shape := ⟨2, ![4, 3328]⟩
abbrev S2304x3328 : Shape := ⟨2, ![2304, 3328]⟩
abbrev S2304x128 : Shape := ⟨2, ![2304, 128]⟩
abbrev S4x128 : Shape := ⟨2, ![4, 128]⟩
abbrev S2304x1 : Shape := ⟨2, ![2304, 1]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S2304x13568, .f32⟩
  | .hbm, ⟨1, _⟩ => ⟨S4x3328, .f32⟩
  | .hbm, ⟨2, _⟩ => ⟨S2304x3328, .f32⟩
  | .local _ .vmem, ⟨0, _⟩ => ⟨S2304x128, .f32⟩
  | .local _ .vmem, ⟨1, _⟩ => ⟨S2304x128, .f32⟩
  | .local _ .vmem, ⟨2, _⟩ => ⟨S4x128, .f32⟩
  | .local _ .vmem, ⟨3, _⟩ => ⟨S4x128, .f32⟩
  | .local _ .vmem, ⟨4, _⟩ => ⟨S2304x128, .f32⟩
  | .local _ .vmem, ⟨5, _⟩ => ⟨S2304x128, .f32⟩
  | _, _ => ⟨S2304x13568, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c40_i32 : BitVec 32 := 40#32
  let v0 : BitVec 32 := Scalar.addi c40_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RwShiftRefIdeal.lean ====
abbrev S2304x13568 : Shape := ⟨2, ![2304, 13568]⟩
abbrev S4x3328 : Shape := ⟨2, ![4, 3328]⟩
abbrev S2304x3328 : Shape := ⟨2, ![2304, 3328]⟩
abbrev S256x3328 : Shape := ⟨2, ![256, 3328]⟩
abbrev S1x256x3328 : Shape := ⟨3, ![1, 256, 3328]⟩
abbrev S1x1x3328 : Shape := ⟨3, ![1, 1, 3328]⟩
abbrev S_ : Shape := ⟨0, ![]⟩
abbrev S1x255x3328 : Shape := ⟨3, ![1, 255, 3328]⟩
abbrev S1x3328 : Shape := ⟨2, ![1, 3328]⟩
abbrev S3328 : Shape := ⟨1, ![3328]⟩
abbrev S2048x3328 : Shape := ⟨2, ![2048, 3328]⟩
abbrev S32x64x3328 : Shape := ⟨3, ![32, 64, 3328]⟩
abbrev S32x1x3328 : Shape := ⟨3, ![32, 1, 3328]⟩
abbrev S32x63x3328 : Shape := ⟨3, ![32, 63, 3328]⟩
abbrev S1x64x3328 : Shape := ⟨3, ![1, 64, 3328]⟩
abbrev S31x64x3328 : Shape := ⟨3, ![31, 64, 3328]⟩

abbrev nBuf : Space → Nat
  | .hbm => 73
  | .vmem => 0
  | .smem => 0
  | _ => 0

abbrev bufTy : (tb : Table) → Fin (tcTables nBuf tb) → BufTy
  | .hbm, ⟨0, _⟩ => ⟨S2304x13568, .f32⟩
  | .hbm, ⟨1, _⟩ => ⟨S4x3328, .f32⟩
  | .hbm, ⟨2, _⟩ => ⟨S2304x3328, .f32⟩
  | .hbm, ⟨3, _⟩ => ⟨S256x3328, .f32⟩
  | .hbm, ⟨4, _⟩ => ⟨S1x256x3328, .f32⟩
  | .hbm, ⟨5, _⟩ => ⟨S1x1x3328, .f32⟩
  | .hbm, ⟨6, _⟩ => ⟨S_, .f32⟩
  | .hbm, ⟨7, _⟩ => ⟨S1x1x3328, .f32⟩
  | .hbm, ⟨8, _⟩ => ⟨S1x255x3328, .f32⟩
  | .hbm, ⟨9, _⟩ => ⟨S1x256x3328, .f32⟩
  | .hbm, ⟨10, _⟩ => ⟨S1x255x3328, .f32⟩
  | .hbm, ⟨11, _⟩ => ⟨S1x256x3328, .f32⟩
  | .hbm, ⟨12, _⟩ => ⟨S1x3328, .f32⟩
  | .hbm, ⟨13, _⟩ => ⟨S3328, .f32⟩
  | .hbm, ⟨14, _⟩ => ⟨S1x256x3328, .f32⟩
  | .hbm, ⟨15, _⟩ => ⟨S1x1x3328, .f32⟩
  | .hbm, ⟨16, _⟩ => ⟨S1x256x3328, .f32⟩
  | .hbm, ⟨17, _⟩ => ⟨S1x256x3328, .f32⟩
  | .hbm, ⟨18, _⟩ => ⟨S1x256x3328, .f32⟩
  | .hbm, ⟨19, _⟩ => ⟨S1x3328, .f32⟩
  | .hbm, ⟨20, _⟩ => ⟨S3328, .f32⟩
  | .hbm, ⟨21, _⟩ => ⟨S1x256x3328, .f32⟩
  | .hbm, ⟨22, _⟩ => ⟨S1x1x3328, .f32⟩
  | .hbm, ⟨23, _⟩ => ⟨S1x256x3328, .f32⟩
  | .hbm, ⟨24, _⟩ => ⟨S1x256x3328, .f32⟩
  | .hbm, ⟨25, _⟩ => ⟨S1x256x3328, .f32⟩
  | .hbm, ⟨26, _⟩ => ⟨S256x3328, .f32⟩
  | .hbm, ⟨27, _⟩ => ⟨S2048x3328, .f32⟩
  | .hbm, ⟨28, _⟩ => ⟨S32x64x3328, .f32⟩
  | .hbm, ⟨29, _⟩ => ⟨S32x1x3328, .f32⟩
  | .hbm, ⟨30, _⟩ => ⟨S_, .f32⟩
  | .hbm, ⟨31, _⟩ => ⟨S32x1x3328, .f32⟩
  | .hbm, ⟨32, _⟩ => ⟨S32x63x3328, .f32⟩
  | .hbm, ⟨33, _⟩ => ⟨S32x64x3328, .f32⟩
  | .hbm, ⟨34, _⟩ => ⟨S32x63x3328, .f32⟩
  | .hbm, ⟨35, _⟩ => ⟨S32x64x3328, .f32⟩
  | .hbm, ⟨36, _⟩ => ⟨S1x3328, .f32⟩
  | .hbm, ⟨37, _⟩ => ⟨S3328, .f32⟩
  | .hbm, ⟨38, _⟩ => ⟨S32x64x3328, .f32⟩
  | .hbm, ⟨39, _⟩ => ⟨S1x1x3328, .f32⟩
  | .hbm, ⟨40, _⟩ => ⟨S32x64x3328, .f32⟩
  | .hbm, ⟨41, _⟩ => ⟨S32x64x3328, .f32⟩
  | .hbm, ⟨42, _⟩ => ⟨S32x64x3328, .f32⟩
  | .hbm, ⟨43, _⟩ => ⟨S1x3328, .f32⟩
  | .hbm, ⟨44, _⟩ => ⟨S3328, .f32⟩
  | .hbm, ⟨45, _⟩ => ⟨S32x64x3328, .f32⟩
  | .hbm, ⟨46, _⟩ => ⟨S1x1x3328, .f32⟩
  | .hbm, ⟨47, _⟩ => ⟨S32x64x3328, .f32⟩
  | .hbm, ⟨48, _⟩ => ⟨S32x64x3328, .f32⟩
  | .hbm, ⟨49, _⟩ => ⟨S32x64x3328, .f32⟩
  | .hbm, ⟨50, _⟩ => ⟨S1x64x3328, .f32⟩
  | .hbm, ⟨51, _⟩ => ⟨S_, .f32⟩
  | .hbm, ⟨52, _⟩ => ⟨S1x64x3328, .f32⟩
  | .hbm, ⟨53, _⟩ => ⟨S31x64x3328, .f32⟩
  | .hbm, ⟨54, _⟩ => ⟨S32x64x3328, .f32⟩
  | .hbm, ⟨55, _⟩ => ⟨S31x64x3328, .f32⟩
  | .hbm, ⟨56, _⟩ => ⟨S32x64x3328, .f32⟩
  | .hbm, ⟨57, _⟩ => ⟨S1x3328, .f32⟩
  | .hbm, ⟨58, _⟩ => ⟨S3328, .f32⟩
  | .hbm, ⟨59, _⟩ => ⟨S32x64x3328, .f32⟩
  | .hbm, ⟨60, _⟩ => ⟨S1x1x3328, .f32⟩
  | .hbm, ⟨61, _⟩ => ⟨S32x64x3328, .f32⟩
  | .hbm, ⟨62, _⟩ => ⟨S32x64x3328, .f32⟩
  | .hbm, ⟨63, _⟩ => ⟨S32x64x3328, .f32⟩
  | .hbm, ⟨64, _⟩ => ⟨S1x3328, .f32⟩
  | .hbm, ⟨65, _⟩ => ⟨S3328, .f32⟩
  | .hbm, ⟨66, _⟩ => ⟨S32x64x3328, .f32⟩
  | .hbm, ⟨67, _⟩ => ⟨S1x1x3328, .f32⟩
  | .hbm, ⟨68, _⟩ => ⟨S32x64x3328, .f32⟩
  | .hbm, ⟨69, _⟩ => ⟨S32x64x3328, .f32⟩
  | .hbm, ⟨70, _⟩ => ⟨S32x64x3328, .f32⟩
  | .hbm, ⟨71, _⟩ => ⟨S2048x3328, .f32⟩
  | .hbm, ⟨72, _⟩ => ⟨S2304x3328, .f32⟩
  | _, _ => ⟨S2304x13568, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst_0 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_cst_1 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩

abbrev nD : Nat := 1
abbrev τ : Topo := Topo.v7x

variable {F : FTy → Type} [FloatOps F]
-- ==== RwPost.lean ====
abbrev S2304x1024 : Shape := ⟨2, ![2304, 1024]⟩
abbrev S2304x3328 : Shape := ⟨2, ![2304, 3328]⟩
abbrev S2304x13568 : Shape := ⟨2, ![2304, 13568]⟩
abbrev S2x1024 : Shape := ⟨2, ![2, 1024]⟩
abbrev S2x64x1024 : Shape := ⟨3, ![2, 64, 1024]⟩
abbrev S1x1024 : Shape := ⟨2, ![1, 1024]⟩
abbrev S256x1024 : Shape := ⟨2, ![256, 1024]⟩
abbrev S256x128 : Shape := ⟨2, ![256, 128]⟩
abbrev S256x64 : Shape := ⟨2, ![256, 64]⟩
abbrev S1x64x1024 : Shape := ⟨3, ![1, 64, 1024]⟩
abbrev S64x1024 : Shape := ⟨2, ![64, 1024]⟩
abbrev S256x16x64 : Shape := ⟨3, ![256, 16, 64]⟩
abbrev S256x16 : Shape := ⟨2, ![256, 16]⟩
abbrev S256x16x1 : Shape := ⟨3, ![256, 16, 1]⟩

abbrev nBuf : Space → Nat
  | .hbm => 12
  | .vmem => 22
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2304x3328, .f32⟩
  | .hbm, ⟨3, _⟩ => ⟨S2304x13568, .f32⟩
  | .hbm, ⟨4, _⟩ => ⟨S2x1024, .f32⟩
  | .hbm, ⟨5, _⟩ => ⟨S2x64x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S2304x1024, .f32⟩
  | .hbm, ⟨11, _⟩ => ⟨S2304x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S256x1024, .f32⟩
  | .local _ .vmem, ⟨13, _⟩ => ⟨S256x1024, .f32⟩
  | .local _ .vmem, ⟨14, _⟩ => ⟨S2x1024, .f32⟩
  | .local _ .vmem, ⟨15, _⟩ => ⟨S2x64x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S256x1024, .bf16⟩
  | .local _ .vmem, ⟨21, _⟩ => ⟨S256x1024, .bf16⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c1_i32 : BitVec 32 := 1#32
  let c0_i32_1 : BitVec 32 := 0#32
  ![v2.toNat, c1_i32.toNat]

def cc0_transform_4 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c2_i32 : BitVec 32 := 2#32
  let c0_i32_1 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c25_i32 : BitVec 32 := 25#32
  let c0_i32_1 : BitVec 32 := 0#32
  ![v2.toNat, c25_i32.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  ![v2.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RwPostRefIdeal.lean ====
abbrev S2304x1024 : Shape := ⟨2, ![2304, 1024]⟩
abbrev S2304x3328 : Shape := ⟨2, ![2304, 3328]⟩
abbrev S2304x13568 : Shape := ⟨2, ![2304, 13568]⟩
abbrev S2x1024 : Shape := ⟨2, ![2, 1024]⟩
abbrev S2x64x1024 : Shape := ⟨3, ![2, 64, 1024]⟩
abbrev S1x1024 : Shape := ⟨2, ![1, 1024]⟩
abbrev S1024 : Shape := ⟨1, ![1024]⟩
abbrev S2304x128 : Shape := ⟨2, ![2304, 128]⟩
abbrev S2304x2x64 : Shape := ⟨3, ![2304, 2, 64]⟩
abbrev S2304x16x64 : Shape := ⟨3, ![2304, 16, 64]⟩
abbrev S2304x1x64 : Shape := ⟨3, ![2304, 1, 64]⟩
abbrev S2304x64 : Shape := ⟨2, ![2304, 64]⟩
abbrev S1x64x1024 : Shape := ⟨3, ![1, 64, 1024]⟩
abbrev S64x1024 : Shape := ⟨2, ![64, 1024]⟩
abbrev S_ : Shape := ⟨0, ![]⟩
abbrev S2304x16 : Shape := ⟨2, ![2304, 16]⟩
abbrev S2304x16x1 : Shape := ⟨3, ![2304, 16, 1]⟩

abbrev nBuf : Space → Nat
  | .hbm => 136
  | .vmem => 0
  | .smem => 0
  | _ => 0

abbrev hbmTy0_0 (i : Nat) : BufTy := match i % 128 with
  | 0 => ⟨S2304x1024, .f32⟩
  | 1 => ⟨S2304x1024, .f32⟩
  | 2 => ⟨S2304x3328, .f32⟩
  | 3 => ⟨S2304x13568, .f32⟩
  | 4 => ⟨S2x1024, .f32⟩
  | 5 => ⟨S2x64x1024, .f32⟩
  | 6 => ⟨S1x1024, .f32⟩
  | 7 => ⟨S1x1024, .f32⟩
  | 8 => ⟨S1x1024, .f32⟩
  | 9 => ⟨S1x1024, .f32⟩
  | 10 => ⟨S2304x1024, .f32⟩
  | 11 => ⟨S1024, .f32⟩
  | 12 => ⟨S1024, .f32⟩
  | 13 => ⟨S1024, .f32⟩
  | 14 => ⟨S1024, .f32⟩
  | 15 => ⟨S2304x1024, .f32⟩
  | 16 => ⟨S2304x1024, .f32⟩
  | 17 => ⟨S2304x1024, .f32⟩
  | 18 => ⟨S2304x128, .f32⟩
  | 19 => ⟨S2304x2x64, .f32⟩
  | 20 => ⟨S2304x1024, .f32⟩
  | 21 => ⟨S2304x16x64, .f32⟩
  | 22 => ⟨S1x1024, .f32⟩
  | 23 => ⟨S1024, .f32⟩
  | 24 => ⟨S2304x1x64, .f32⟩
  | 25 => ⟨S2304x64, .f32⟩
  | 26 => ⟨S1x64x1024, .f32⟩
  | 27 => ⟨S64x1024, .f32⟩
  | 28 => ⟨S2304x1024, .f32⟩
  | 29 => ⟨S1x1024, .f32⟩
  | 30 => ⟨S2304x1024, .f32⟩
  | 31 => ⟨S2304x1024, .f32⟩
  | 32 => ⟨S2304x1024, .f32⟩
  | 33 => ⟨S2304x1024, .f32⟩
  | 34 => ⟨S_, .f32⟩
  | 35 => ⟨S2304x1024, .f32⟩
  | 36 => ⟨S2304x1024, .f32⟩
  | 37 => ⟨S_, .f32⟩
  | 38 => ⟨S2304x1024, .f32⟩
  | 39 => ⟨S2304x1024, .f32⟩
  | 40 => ⟨S_, .f32⟩
  | 41 => ⟨S2304x1024, .f32⟩
  | 42 => ⟨S2304x1024, .f32⟩
  | 43 => ⟨S1x1024, .f32⟩
  | 44 => ⟨S2304x1024, .f32⟩
  | 45 => ⟨S2304x1024, .f32⟩
  | 46 => ⟨S_, .f32⟩
  | 47 => ⟨S2304x1024, .f32⟩
  | 48 => ⟨S2304x1024, .f32⟩
  | 49 => ⟨S2304x1024, .f32⟩
  | 50 => ⟨S_, .f32⟩
  | 51 => ⟨S2304x1024, .f32⟩
  | 52 => ⟨S2304x1024, .f32⟩
  | 53 => ⟨S1x1024, .f32⟩
  | 54 => ⟨S1024, .f32⟩
  | 55 => ⟨S2304x1x64, .f32⟩
  | 56 => ⟨S2304x64, .f32⟩
  | 57 => ⟨S1x64x1024, .f32⟩
  | 58 => ⟨S64x1024, .f32⟩
  | 59 => ⟨S2304x1024, .f32⟩
  | 60 => ⟨S1x1024, .f32⟩
  | 61 => ⟨S2304x1024, .f32⟩
  | 62 => ⟨S2304x1024, .f32⟩
  | 63 => ⟨S2304x1024, .f32⟩
  | 64 => ⟨S2304x1024, .f32⟩
  | 65 => ⟨S_, .f32⟩
  | 66 => ⟨S2304x1024, .f32⟩
  | 67 => ⟨S2304x1024, .f32⟩
  | 68 => ⟨S_, .f32⟩
  | 69 => ⟨S2304x1024, .f32⟩
  | 70 => ⟨S2304x1024, .f32⟩
  | 71 => ⟨S_, .f32⟩
  | 72 => ⟨S2304x1024, .f32⟩
  | 73 => ⟨S2304x1024, .f32⟩
  | 74 => ⟨S1x1024, .f32⟩
  | 75 => ⟨S2304x1024, .f32⟩
  | 76 => ⟨S2304x1024, .f32⟩
  | 77 => ⟨S_, .f32⟩
  | 78 => ⟨S2304x1024, .f32⟩
  | 79 => ⟨S2304x1024, .f32⟩
  | 80 => ⟨S2304x1024, .f32⟩
  | 81 => ⟨S2304x1024, .f32⟩
  | 82 => ⟨S_, .f32⟩
  | 83 => ⟨S2304x16, .f32⟩
  | 84 => ⟨S2304x16x1, .f32⟩
  | 85 => ⟨S_, .f32⟩
  | 86 => ⟨S2304x16x1, .f32⟩
  | 87 => ⟨S2304x16x1, .f32⟩
  | 88 => ⟨S2304x16x64, .f32⟩
  | 89 => ⟨S2304x16x64, .f32⟩
  | 90 => ⟨S2304x16x64, .f32⟩
  | 91 => ⟨S_, .f32⟩
  | 92 => ⟨S2304x16, .f32⟩
  | 93 => ⟨S2304x16x1, .f32⟩
  | 94 => ⟨S_, .f32⟩
  | 95 => ⟨S2304x16x1, .f32⟩
  | 96 => ⟨S2304x16x1, .f32⟩
  | 97 => ⟨S2304x16x64, .f32⟩
  | 98 => ⟨S2304x16x64, .f32⟩
  | 99 => ⟨S_, .f32⟩
  | 100 => ⟨S2304x16x1, .f32⟩
  | 101 => ⟨S2304x16x1, .f32⟩
  | 102 => ⟨S2304x16x1, .f32⟩
  | 103 => ⟨S2304x16x64, .f32⟩
  | 104 => ⟨S2304x16x64, .f32⟩
  | 105 => ⟨S2304x1024, .f32⟩
  | 106 => ⟨S1x1024, .f32⟩
  | 107 => ⟨S2304x1024, .f32⟩
  | 108 => ⟨S2304x1024, .f32⟩
  | 109 => ⟨S1x1024, .f32⟩
  | 110 => ⟨S2304x1024, .f32⟩
  | 111 => ⟨S2304x1024, .f32⟩
  | 112 => ⟨S2304x1024, .f32⟩
  | 113 => ⟨S1x1024, .f32⟩
  | 114 => ⟨S2304x1024, .f32⟩
  | 115 => ⟨S2304x1024, .f32⟩
  | 116 => ⟨S2304x16x64, .f32⟩
  | 117 => ⟨S_, .f32⟩
  | 118 => ⟨S2304x16, .f32⟩
  | 119 => ⟨S2304x16x1, .f32⟩
  | 120 => ⟨S2304x16x64, .f32⟩
  | 121 => ⟨S2304x16x64, .f32⟩
  | 122 => ⟨S2304x16x64, .f32⟩
  | 123 => ⟨S2304x1024, .f32⟩
  | 124 => ⟨S2304x1024, .f32⟩
  | 125 => ⟨S2304x1024, .f32⟩
  | 126 => ⟨S2304x1024, .f32⟩
  | 127 => ⟨S_, .f32⟩
  | _ => ⟨S2304x1024, .f32⟩

abbrev hbmTy0_1 (i : Nat) : BufTy := match i % 128 with
  | 0 => ⟨S2304x1024, .f32⟩
  | 1 => ⟨S2304x1024, .f32⟩
  | 2 => ⟨S_, .f32⟩
  | 3 => ⟨S2304x1024, .f32⟩
  | 4 => ⟨S2304x1024, .f32⟩
  | 5 => ⟨S2304x1024, .f32⟩
  | 6 => ⟨S2304x1024, .f32⟩
  | 7 => ⟨S2304x1024, .bf16⟩
  | _ => ⟨S2304x1024, .f32⟩

abbrev hbmTy (i : Nat) : BufTy := match i / 128 with
  | 0 => hbmTy0_0 i
  | 1 => hbmTy0_1 i
  | _ => ⟨S2304x1024, .f32⟩

abbrev bufTy : (tb : Table) → Fin (tcTables nBuf tb) → BufTy
  | .hbm, ⟨i, _⟩ => hbmTy i
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_7 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_8 : Ref sig .tc := ⟨.hbm, 82, rfl⟩
abbrev main_v63 : Ref sig .tc := ⟨.hbm, 83, rfl⟩
abbrev main_v64 : Ref sig .tc := ⟨.hbm, 84, rfl⟩
abbrev main_cst_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_10 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_13 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_call0_v0 : Ref sig .tc := ⟨.hbm, 125, rfl⟩
abbrev main_call0_v1 : Ref sig .tc := ⟨.hbm, 126, rfl⟩
abbrev main_call0_cst : Ref sig .tc := ⟨.hbm, 127, rfl⟩
abbrev main_call0_v2 : Ref sig .tc := ⟨.hbm, 128, rfl⟩
abbrev main_call0_v3 : Ref sig .tc := ⟨.hbm, 129, rfl⟩
abbrev main_call0_cst_0 : Ref sig .tc := ⟨.hbm, 130, rfl⟩
abbrev main_call0_v4 : Ref sig .tc := ⟨.hbm, 131, rfl⟩
abbrev main_call0_v5 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩

abbrev nD : Nat := 1
abbrev τ : Topo := Topo.v7x

variable {F : FTy → Type} [FloatOps F]
-- ==== OutMm.lean ====
abbrev S2304x2048 : Shape := ⟨2, ![2304, 2048]⟩
abbrev S2048x2048 : Shape := ⟨2, ![2048, 2048]⟩
abbrev S768x1024 : Shape := ⟨2, ![768, 1024]⟩
abbrev S1024x512 : Shape := ⟨2, ![1024, 512]⟩
abbrev S768x512 : Shape := ⟨2, ![768, 512]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .local _ .vmem, ⟨0, _⟩ => ⟨S768x1024, .bf16⟩
  | .local _ .vmem, ⟨1, _⟩ => ⟨S768x1024, .bf16⟩
  | .local _ .vmem, ⟨2, _⟩ => ⟨S1024x512, .bf16⟩
  | .local _ .vmem, ⟨3, _⟩ => ⟨S1024x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutMmRefIdeal.lean ====
abbrev S2304x2048 : Shape := ⟨2, ![2304, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .f32⟩
  | .hbm, ⟨3, _⟩ => ⟨S2048x2048, .f32⟩
  | .hbm, ⟨4, _⟩ => ⟨S2304x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DMerged.lean ====
abbrev S2304x2048 : Shape := ⟨2, ![2304, 2048]⟩
abbrev S2048x2048 : Shape := ⟨2, ![2048, 2048]⟩
abbrev S768x1024 : Shape := ⟨2, ![768, 1024]⟩
abbrev S512x1024 : Shape := ⟨2, ![512, 1024]⟩
abbrev S768x512 : Shape := ⟨2, ![768, 512]⟩

abbrev nBuf : Space → Nat
  | .hbm => 4
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .bf16⟩
  | .hbm, ⟨3, _⟩ => ⟨S2304x2048, .f32⟩
  | .local _ .vmem, ⟨0, _⟩ => ⟨S768x1024, .bf16⟩
  | .local _ .vmem, ⟨1, _⟩ => ⟨S768x1024, .bf16⟩
  | .local _ .vmem, ⟨2, _⟩ => ⟨S512x1024, .bf16⟩
  | .local _ .vmem, ⟨3, _⟩ => ⟨S512x1024, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedRefIdeal.lean ====
abbrev S2304x2048 : Shape := ⟨2, ![2304, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .bf16⟩
  | .hbm, ⟨3, _⟩ => ⟨S2304x2048, .f32⟩
  | .hbm, ⟨4, _⟩ => ⟨S2048x2048, .f32⟩
  | .hbm, ⟨5, _⟩ => ⟨S2304x2048, .f32⟩
  | .hbm, ⟨6, _⟩ => ⟨S2304x2048, .f32⟩
  | .hbm, ⟨7, _⟩ => ⟨S2048x2048, .f32⟩
  | .hbm, ⟨8, _⟩ => ⟨S2048x2048, .f32⟩
  | .hbm, ⟨9, _⟩ => ⟨S2304x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DWOut.lean ====
abbrev S2304x2048 : Shape := ⟨2, ![2304, 2048]⟩
abbrev S2048x2048 : Shape := ⟨2, ![2048, 2048]⟩
abbrev S768x512 : Shape := ⟨2, ![768, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .bf16⟩
  | .hbm, ⟨3, _⟩ => ⟨S2048x2048, .f32⟩
  | .local _ .vmem, ⟨0, _⟩ => ⟨S768x512, .bf16⟩
  | .local _ .vmem, ⟨1, _⟩ => ⟨S768x512, .bf16⟩
  | .local _ .vmem, ⟨2, _⟩ => ⟨S768x512, .bf16⟩
  | .local _ .vmem, ⟨3, _⟩ => ⟨S768x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWOutRefIdeal.lean ====
abbrev S2304x2048 : Shape := ⟨2, ![2304, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2048x2048, .bf16⟩
  | .hbm, ⟨2, _⟩ => ⟨S2304x2048, .bf16⟩
  | .hbm, ⟨3, _⟩ => ⟨S2304x2048, .f32⟩
  | .hbm, ⟨4, _⟩ => ⟨S2048x2048, .f32⟩
  | .hbm, ⟨5, _⟩ => ⟨S2304x2048, .f32⟩
  | .hbm, ⟨6, _⟩ => ⟨S2304x2048, .f32⟩
  | .hbm, ⟨7, _⟩ => ⟨S2048x2048, .f32⟩
  | .hbm, ⟨8, _⟩ => ⟨S2048x2048, .f32⟩
  | .hbm, ⟨9, _⟩ => ⟨S2304x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjMm.lean ====
abbrev S2304x2048 : Shape := ⟨2, ![2304, 2048]⟩
abbrev S4x2048x3392 : Shape := ⟨3, ![4, 2048, 3392]⟩
abbrev S4x2304x3392 : Shape := ⟨3, ![4, 2304, 3392]⟩
abbrev S768x512 : Shape := ⟨2, ![768, 512]⟩
abbrev S1x512x3392 : Shape := ⟨3, ![1, 512, 3392]⟩
abbrev S1x768x3392 : Shape := ⟨3, ![1, 768, 3392]⟩
abbrev S768x3392 : Shape := ⟨2, ![768, 3392]⟩
abbrev S512x3392 : Shape := ⟨2, ![512, 3392]⟩

abbrev nBuf : Space → Nat
  | .hbm => 3
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S4x2048x3392, .bf16⟩
  | .hbm, ⟨2, _⟩ => ⟨S4x2304x3392, .f32⟩
  | .local _ .vmem, ⟨0, _⟩ => ⟨S768x512, .bf16⟩
  | .local _ .vmem, ⟨1, _⟩ => ⟨S768x512, .bf16⟩
  | .local _ .vmem, ⟨2, _⟩ => ⟨S1x512x3392, .bf16⟩
  | .local _ .vmem, ⟨3, _⟩ => ⟨S1x512x3392, .bf16⟩
  | .local _ .vmem, ⟨4, _⟩ => ⟨S1x768x3392, .f32⟩
  | .local _ .vmem, ⟨5, _⟩ => ⟨S1x768x3392, .f32⟩
  | .local _ .vmem, ⟨6, _⟩ => ⟨S768x3392, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x3392 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x768x3392 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjMmRefIdeal.lean ====
abbrev S2304x2048 : Shape := ⟨2, ![2304, 2048]⟩
abbrev S4x2048x3392 : Shape := ⟨3, ![4, 2048, 3392]⟩
abbrev S4x3392x2304 : Shape := ⟨3, ![4, 3392, 2304]⟩
abbrev S4x2304x3392 : Shape := ⟨3, ![4, 2304, 3392]⟩

abbrev nBuf : Space → Nat
  | .hbm => 6
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x2048x3392, .bf16⟩
  | .hbm, ⟨2, _⟩ => ⟨S2304x2048, .f32⟩
  | .hbm, ⟨3, _⟩ => ⟨S4x2048x3392, .f32⟩
  | .hbm, ⟨4, _⟩ => ⟨S4x3392x2304, .f32⟩
  | .hbm, ⟨5, _⟩ => ⟨S4x2304x3392, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DWIn.lean ====
abbrev S2304x2048 : Shape := ⟨2, ![2304, 2048]⟩
abbrev S4x2048x3392 : Shape := ⟨3, ![4, 2048, 3392]⟩
abbrev S4x2304x3392 : Shape := ⟨3, ![4, 2304, 3392]⟩
abbrev S768x512 : Shape := ⟨2, ![768, 512]⟩
abbrev S1x768x3392 : Shape := ⟨3, ![1, 768, 3392]⟩
abbrev S1x512x3392 : Shape := ⟨3, ![1, 512, 3392]⟩
abbrev S512x3392 : Shape := ⟨2, ![512, 3392]⟩
abbrev S768x3392 : Shape := ⟨2, ![768, 3392]⟩

abbrev nBuf : Space → Nat
  | .hbm => 4
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S4x2048x3392, .bf16⟩
  | .hbm, ⟨2, _⟩ => ⟨S4x2304x3392, .bf16⟩
  | .hbm, ⟨3, _⟩ => ⟨S4x2048x3392, .f32⟩
  | .local _ .vmem, ⟨0, _⟩ => ⟨S768x512, .bf16⟩
  | .local _ .vmem, ⟨1, _⟩ => ⟨S768x512, .bf16⟩
  | .local _ .vmem, ⟨2, _⟩ => ⟨S1x768x3392, .bf16⟩
  | .local _ .vmem, ⟨3, _⟩ => ⟨S1x768x3392, .bf16⟩
  | .local _ .vmem, ⟨4, _⟩ => ⟨S1x512x3392, .f32⟩
  | .local _ .vmem, ⟨5, _⟩ => ⟨S1x512x3392, .f32⟩
  | .local _ .vmem, ⟨6, _⟩ => ⟨S512x3392, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x768x3392 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x3392 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWInRefIdeal.lean ====
abbrev S2304x2048 : Shape := ⟨2, ![2304, 2048]⟩
abbrev S4x2048x3392 : Shape := ⟨3, ![4, 2048, 3392]⟩
abbrev S4x2304x3392 : Shape := ⟨3, ![4, 2304, 3392]⟩
abbrev S4x3392x2304 : Shape := ⟨3, ![4, 3392, 2304]⟩
abbrev S4x3392x2048 : Shape := ⟨3, ![4, 3392, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x2048x3392, .bf16⟩
  | .hbm, ⟨2, _⟩ => ⟨S4x2304x3392, .bf16⟩
  | .hbm, ⟨3, _⟩ => ⟨S2304x2048, .f32⟩
  | .hbm, ⟨4, _⟩ => ⟨S4x2048x3392, .f32⟩
  | .hbm, ⟨5, _⟩ => ⟨S4x2304x3392, .f32⟩
  | .hbm, ⟨6, _⟩ => ⟨S4x3392x2304, .f32⟩
  | .hbm, ⟨7, _⟩ => ⟨S4x2304x3392, .f32⟩
  | .hbm, ⟨8, _⟩ => ⟨S4x3392x2304, .f32⟩
  | .hbm, ⟨9, _⟩ => ⟨S2304x2048, .f32⟩
  | .hbm, ⟨10, _⟩ => ⟨S4x3392x2048, .f32⟩
  | .hbm, ⟨11, _⟩ => ⟨S4x2048x3392, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DH.lean ====
abbrev S2304x2048 : Shape := ⟨2, ![2304, 2048]⟩
abbrev S4x2048x3392 : Shape := ⟨3, ![4, 2048, 3392]⟩
abbrev S4x2304x3392 : Shape := ⟨3, ![4, 2304, 3392]⟩
abbrev S1x768x3392 : Shape := ⟨3, ![1, 768, 3392]⟩
abbrev S1x512x3392 : Shape := ⟨3, ![1, 512, 3392]⟩
abbrev S768x512 : Shape := ⟨2, ![768, 512]⟩
abbrev S768x3392 : Shape := ⟨2, ![768, 3392]⟩
abbrev S512x3392 : Shape := ⟨2, ![512, 3392]⟩

abbrev nBuf : Space → Nat
  | .hbm => 4
  | .vmem => 7
  | .smem => 0
  | _ => 0

abbrev bufTy : (tb : Table) → Fin (tcTables nBuf tb) → BufTy
  | .hbm, ⟨0, _⟩ => ⟨S2304x2048, .bf16⟩
  | .hbm, ⟨1, _⟩ => ⟨S4x2048x3392, .bf16⟩
  | .hbm, ⟨2, _⟩ => ⟨S4x2304x3392, .bf16⟩
  | .hbm, ⟨3, _⟩ => ⟨S2304x2048, .f32⟩
  | .local _ .vmem, ⟨0, _⟩ => ⟨S1x768x3392, .bf16⟩
  | .local _ .vmem, ⟨1, _⟩ => ⟨S1x768x3392, .bf16⟩
  | .local _ .vmem, ⟨2, _⟩ => ⟨S1x512x3392, .bf16⟩
  | .local _ .vmem, ⟨3, _⟩ => ⟨S1x512x3392, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x768x3392 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x3392 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHRefIdeal.lean ====
abbrev S2304x2048 : Shape := ⟨2, ![2304, 2048]⟩
abbrev S4x2048x3392 : Shape := ⟨3, ![4, 2048, 3392]⟩
abbrev S4x2304x3392 : Shape := ⟨3, ![4, 2304, 3392]⟩
abbrev S4x3392x2304 : Shape := ⟨3, ![4, 3392, 2304]⟩
abbrev S4x3392x2048 : Shape := ⟨3, ![4, 3392, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x2048x3392, .bf16⟩
  | .hbm, ⟨2, _⟩ => ⟨S4x2304x3392, .bf16⟩
  | .hbm, ⟨3, _⟩ => ⟨S2304x2048, .f32⟩
  | .hbm, ⟨4, _⟩ => ⟨S4x2048x3392, .f32⟩
  | .hbm, ⟨5, _⟩ => ⟨S4x2304x3392, .f32⟩
  | .hbm, ⟨6, _⟩ => ⟨S4x3392x2304, .f32⟩
  | .hbm, ⟨7, _⟩ => ⟨S4x2304x3392, .f32⟩
  | .hbm, ⟨8, _⟩ => ⟨S4x3392x2304, .f32⟩
  | .hbm, ⟨9, _⟩ => ⟨S2304x2048, .f32⟩
  | .hbm, ⟨10, _⟩ => ⟨S4x3392x2048, .f32⟩
  | .hbm, ⟨11, _⟩ => ⟨S4x2048x3392, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AdamwAdaW.lean ====
abbrev S2048x1536 : Shape := ⟨2, ![2048, 1536]⟩
abbrev S1x2048x1536 : Shape := ⟨3, ![1, 2048, 1536]⟩
abbrev S128x1536 : Shape := ⟨2, ![128, 1536]⟩
abbrev S1x128x1536 : Shape := ⟨3, ![1, 128, 1536]⟩

abbrev nBuf : Space → Nat
  | .hbm => 9
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S1x2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S1x128x1536, .f32⟩
  | .local _ .vmem, ⟨7, _⟩ => ⟨S1x128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwAdaWRefIdeal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ProjJoin.lean ====
abbrev S4x2304x3392 : Shape := ⟨3, ![4, 2304, 3392]⟩
abbrev S2304x13568 : Shape := ⟨2, ![2304, 13568]⟩
abbrev S4x128x3392 : Shape := ⟨3, ![4, 128, 3392]⟩
abbrev S128x13568 : Shape := ⟨2, ![128, 13568]⟩
abbrev S1x128x3392 : Shape := ⟨3, ![1, 128, 3392]⟩
abbrev S128x3392 : Shape := ⟨2, ![128, 3392]⟩

abbrev nBuf : Space → Nat
  | .hbm => 2
  | .vmem => 4
  | .smem => 0
  | _ => 0

abbrev bufTy : (tb : Table) → Fin (tcTables nBuf tb) → BufTy
  | .hbm, ⟨0, _⟩ => ⟨S4x2304x3392, .f32⟩
  | .hbm, ⟨1, _⟩ => ⟨S2304x13568, .f32⟩
  | .local _ .vmem, ⟨0, _⟩ => ⟨S4x128x3392, .f32⟩
  | .local _ .vmem, ⟨1, _⟩ => ⟨S4x128x3392, .f32⟩
  | .local _ .vmem, ⟨2, _⟩ => ⟨S128x13568, .f32⟩
  | .local _ .vmem, ⟨3, _⟩ => ⟨S128x13568, .f32⟩
  | _, _ => ⟨S4x2304x3392, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![18], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x3392 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x13568 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ProjJoinRefIdeal.lean ====
abbrev S4x2304x3392 : Shape := ⟨3, ![4, 2304, 3392]⟩
abbrev S2304x4x3392 : Shape := ⟨3, ![2304, 4, 3392]⟩
abbrev S2304x13568 : Shape := ⟨2, ![2304, 13568]⟩

abbrev nBuf : Space → Nat
  | .hbm => 3
  | .vmem => 0
  | .smem => 0
  | _ => 0

abbrev bufTy : (tb : Table) → Fin (tcTables nBuf tb) → BufTy
  | .hbm, ⟨0, _⟩ => ⟨S4x2304x3392, .f32⟩
  | .hbm, ⟨1, _⟩ => ⟨S2304x4x3392, .f32⟩
  | .hbm, ⟨2, _⟩ => ⟨S2304x13568, .f32⟩
  | _, _ => ⟨S4x2304x3392, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== GKa.lean ====
abbrev S1x1024 : Shape := ⟨2, ![1, 1024]⟩

abbrev nBuf : Space → Nat
  | .hbm => 4
  | .vmem => 4
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== GKaRefIdeal.lean ====
abbrev S1x1024 : Shape := ⟨2, ![1, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.CondBwd.lean ====
/-
  `cond_bwd`: the gradient through silu at the rows of the conditioning vector, one grid point over whole arrays. The
  result array is the body's one payload over the two operands as the region finds them; the first operand is made by
  the host (the eight rows `c`, the row `c_ctx`, seven rows of zeros).
-/
module

public import proofs.«01_k».proof.Defs
public import proofs.«01_k».proof.Proof.Gen.CondBwd.Frame
public import proofs.«01_k».proof.Proof.Gen.CondBwdIdeal.Frame
public import proofs.«01_k».proof.Proof.Gen.CondBwdRefIdeal.Run
public import proofs.«01_k».proof.Proof.Gen.CondBwdRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.CondBwdIdeal.RefValue

open Cert.CondBwdIdeal Cert.CondBwdIdeal.Gen

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

/-- The rows of the conditioning vector as the region finds them. -/
abbrev rows (c : Dev nD) : FVec Ideal S16x2048 .f32 := V m c main_v2

/-- The result array after the run: the payload over the rows and the cotangent. -/
theorem final (c : Dev nD) : (dats m 0 c).arrAt 2 cfg0.N = k0_pay1 (F := Ideal) (rows m c) (m ((c : Thread nD τ).loc main_arg2)) := by
  refine (dats m 0 c).arrAt_eq_of_after_last 2 t0_0 (by decide +kernel) _ fun j => ?_
  blk_simp
  rw [after0_2]
  frame_out
  blk_point [iblk, V, idx t0_0]

/-- A concatenation of three pieces is one of equal pieces. -/
theorem concat_congr {a a' : FVec Ideal S8x2048 .f32} {b b' : FVec Ideal S1x2048 .f32} {d d' : FVec Ideal S7x2048 .f32}
    (ha : a = a') (hb : b = b') (hd : d = d') :
    concatenate S16x2048 0 [⟨S8x2048, a⟩, ⟨S1x2048, b⟩, ⟨S7x2048, d⟩] concatenates_S8x2048_S1x2048_S7x2048_S16x2048_d0
      = concatenate S16x2048 0 [⟨S8x2048, a'⟩, ⟨S1x2048, b'⟩, ⟨S7x2048, d'⟩] concatenates_S8x2048_S1x2048_S7x2048_S16x2048_d0 := by
  subst ha hb hd
  rfl

open Cert.CondBwdRefIdeal.Read in
/-- The host makes the rows that the reference makes. -/
theorem rows_eq (c : Dev nD) : rows m c
    = val_main_v2 (F := Ideal) (m ((c : Thread nD τ).loc main_arg0)) (m ((c : Thread nD τ).loc main_arg1)) := by
  have h : shapeCast Cert.CondBwdRefIdeal.S1x2048 (m ((c : Thread nD τ).loc main_arg1)) shapeCasts_S2048_S1x2048
      = val_main_v0 (F := Ideal) (m ((c : Thread nD τ).loc main_arg1)) := by
    funext j
    idx_vars j
    pointwise [val_main_v0]
  unfold rows V val_main_v2
  after_results
  refine concat_congr ?_ ?_ ?_
  · exact V_main_arg0 m c
  · refine Eq.trans ?_ h
    show V m c main_v0 = _
    unfold V
    after_results
    rfl
  · show V m c main_v1 = _
    unfold V
    after_results
    rfl

open Cert.CondBwdRefIdeal.Read in
/-- The reference's result over any rows it makes is the payload over those rows. -/
theorem ref_eq (x0 : FVec Ideal S8x2048 .f32) (x1 : FVec Ideal S2048 .f32) (x2 : FVec Ideal S16x2048 .f32) :
    val_main_v4 (F := Ideal) x0 x1 x2 = k0_pay1 (F := Ideal) (val_main_v2 (F := Ideal) x0 x1) x2 := by
  unfold val_main_v4 val_main_call1_v1 val_main_call1_v2 val_main_call1_v0 val_main_v3_1 val_main_call0_v7 val_main_v3_2
    val_main_call0_v3 val_main_call0_v1 val_main_call0_v0
  generalize val_main_v2 (F := Ideal) x0 x1 = y
  funext j
  idx_vars j
  pointwise! [k0_pay1, val_main_call0_v4, val_main_call0_v2, val_main_call0_v6, val_main_call0_cst, val_main_call0_cst_0, val_main_call0_cst_1]

end Cert.CondBwdIdeal.RefValue

namespace Cert.Proof.CondBwd

open Cert.CondBwdIdeal.RefValue

theorem frame_p : Cert.quiescent_CondBwd := fun m ρ _ => Cert.CondBwd.Gen.frame m ρ
theorem frame_pi : Cert.quiescent_CondBwdIdeal := fun m ρ _ => Cert.CondBwdIdeal.Gen.frame m ρ
theorem frame_ri : Cert.quiescent_CondBwdRefIdeal := fun m ρ _ =>
  (θ_run Cert.CondBwdRefIdeal.defs _ _).mono (fun r h => ⟨fun c => (h c).2,
      Idealize.ShloMosaic.sem_eq_zero_of_no_sems (by decide) r.2⟩)
    (Cert.CondBwdRefIdeal.Value.run (F := Ideal) m ρ)

/-- The kernel's result is the reference's: silu's derivative times the cotangent, at the same rows. -/
theorem algebraic : Cert.algebraic_CondBwdIdeal_CondBwdRefIdeal := by
  pair_intro
  · run_from Cert.CondBwdIdeal.Gen.run_main m g
  · run_from Cert.CondBwdRefIdeal.Value.run m' g'
    rw [Cert.CondBwdRefIdeal.Read.val_main_v4_eq, final m c, rows_eq]
    exact ref_eq _ _ _

end Cert.Proof.CondBwd

end
-- ==== Proof.ShiftSpec.lean ====
/-
  The grid shift's gradients of one channel, written with plain conditions on the row: the text both the kernel's and
  the reference's values are brought to.  Rows 0–255 are the context (a sequence), rows 256–2303 the image (32 by 64).
-/
module

public import Idealize.ShloMosaic.Lib.Pointwise

@[expose] public section

noncomputable section

namespace Cert.ShiftSpec

open Idealize.ShloMosaic

/-- A channel's column of the token matrix. -/
abbrev Col := Fin 2304 → EReal

/-- The row `s` rows up, around the end. -/
abbrev rot (s : Nat) (r : Fin 2304) : Fin 2304 := ⟨(r.val + 2304 - s) % 2304, Nat.mod_lt _ (Nat.succ_pos _)⟩

/-- The row has a left neighbour. -/
abbrev hasL (r : Nat) : Prop := (1 ≤ r ∧ r < 256) ∨ (256 ≤ r ∧ 1 ≤ (r - 256) % 64)
/-- The row has a right neighbour. -/
abbrev hasR (r : Nat) : Prop := r < 255 ∨ (256 ≤ r ∧ (r - 256) % 64 < 63)
/-- The row is an image row with one above. -/
abbrev hasU (r : Nat) : Prop := 320 ≤ r
/-- The row is an image row with one below. -/
abbrev hasD (r : Nat) : Prop := 256 ≤ r ∧ r < 2240

/-- The gradient of the shifted columns. -/
def dp (m0 m1 m2 m3 : EReal) (g : Col) (r : Fin 2304) : EReal :=
  (1 - m0 - m1 - (if 256 ≤ r.val then m2 + m3 else 0)) * g r
    + (if hasR r.val then m0 * g (rot 2303 r) else 0) + (if hasL r.val then m1 * g (rot 1 r) else 0)
    + (if hasD r.val then m2 * g (rot 2240 r) else 0) + (if hasU r.val then m3 * g (rot 64 r) else 0)

/-- The gradient of mixing weight `k`. -/
def dmu (k : Nat) (g x : Col) : EReal :=
  if k < 1 then ∑ r : Fin 2304, g r * ((if hasL r.val then x (rot 1 r) else 0) - x r)
  else if k - 1 < 1 then ∑ r : Fin 2304, g r * ((if hasR r.val then x (rot 2303 r) else 0) - x r)
  else if k - 1 - 1 < 1 then
    ∑ r : Fin 2304, if 256 ≤ r.val then g r * ((if hasU r.val then x (rot 64 r) else 0) - x r) else 0
  else ∑ r : Fin 2304, if 256 ≤ r.val then g r * ((if hasD r.val then x (rot 2240 r) else 0) - x r) else 0

/-- A sum over the rows: the context's and the image's. -/
theorem sum_rows (f : Col) :
    ∑ r : Fin 2304, f r = ∑ k : Fin 256, f ⟨k.val, by omega⟩
      + ∑ a : Fin 32, ∑ b : Fin 64, f ⟨256 + (a.val * 64 + b.val), by omega⟩ := by
  have e := Fin.sum_univ_add (a := 256) (b := 2048) (M := EReal) f
  refine e.trans (congrArg₂ (· + ·) rfl ?_)
  exact Fin.sum_univ_tiles 32 64 rfl (fun i : Fin 2048 => f ⟨256 + i.val, by omega⟩)

/-- Finite factors distribute: the image's coefficient. -/
theorem coef4 {m0 m1 m2 m3 g : EReal} (h0 : m0 ≠ ⊤ ∧ m0 ≠ ⊥) (h1 : m1 ≠ ⊤ ∧ m1 ≠ ⊥) (h2 : m2 ≠ ⊤ ∧ m2 ≠ ⊥)
    (h3 : m3 ≠ ⊤ ∧ m3 ≠ ⊥) (hg : g ≠ ⊤ ∧ g ≠ ⊥) :
    (1 - m0 - m1 - (m2 + m3)) * g = -(m3 * g) + -(m2 * g) + -(m1 * g) + g + -(m0 * g) := by
  lift m0 to ℝ using h0
  lift m1 to ℝ using h1
  lift m2 to ℝ using h2
  lift m3 to ℝ using h3
  lift g to ℝ using hg
  norm_cast
  ring

/-- Finite factors distribute: the context's coefficient. -/
theorem coef2 {m0 m1 g : EReal} (h0 : m0 ≠ ⊤ ∧ m0 ≠ ⊥) (h1 : m1 ≠ ⊤ ∧ m1 ≠ ⊥) (hg : g ≠ ⊤ ∧ g ≠ ⊥) :
    (1 - m0 - m1 - 0) * g = -(m1 * g) + g + -(m0 * g) := by
  lift m0 to ℝ using h0
  lift m1 to ℝ using h1
  lift g to ℝ using hg
  norm_cast
  ring

/-- The order the image's terms are added in does not matter. -/
theorem order4 (a3 a2 a1 g a0 A B C D : EReal) :
    a3 + a2 + D + C + a1 + g + a0 + B + A = a3 + a2 + a1 + g + a0 + A + B + C + D := by ac_rfl

/-- The order the context's terms are added in does not matter. -/
theorem order2 (a1 g a0 A B : EReal) : a1 + g + a0 + B + A = a1 + g + a0 + A + B + 0 + 0 := by
  rw [add_zero, add_zero, add_right_comm]

/-- A sum of two finite values is finite. -/
theorem fin_add {a b : EReal} (ha : a ≠ ⊤ ∧ a ≠ ⊥) (hb : b ≠ ⊤ ∧ b ≠ ⊥) : a + b ≠ ⊤ ∧ a + b ≠ ⊥ := by
  lift a to ℝ using ha
  lift b to ℝ using hb
  exact ⟨EReal.coe_ne_top (a + b), EReal.coe_ne_bot (a + b)⟩

/-- A case distinction that names its evidence, read as one on an equivalent condition. -/
theorem dite_to {p q : Prop} [Decidable p] [Decidable q] {a : p → EReal} {b c : EReal} (h : p ↔ q) (e : ∀ hp, a hp = b) :
    (if hp : p then a hp else c) = if q then b else c := by
  by_cases hp : p
  · rw [dif_pos hp, if_pos (h.mp hp), e]
  · rw [dif_neg hp, if_neg (fun hq => hp (h.mpr hq))]

/-- The same of the condition's negation. -/
theorem dite_to_not {p q : Prop} [Decidable p] [Decidable q] {a : ¬p → EReal} {b c : EReal} (h : ¬p ↔ q) (e : ∀ hp, a hp = b) :
    (if hp : p then c else a hp) = if q then b else c := by
  by_cases hp : p
  · rw [dif_pos hp, if_neg (fun hq => h.mpr hq hp)]
  · rw [dif_neg hp, if_pos (h.mp hp), e]

end Cert.ShiftSpec

end
-- ==== Proof.ShiftRef.lean ====
/-
  The grid shift's reference gradients at an index: the two results of its reverse-mode gradient as the plain text of
  ShiftSpec.
-/
module

public import proofs.«01_k».proof.Defs
public import proofs.«01_k».proof.Proof.ShiftSpec
public import proofs.«01_k».proof.Proof.Gen.ShiftBwdRefIdeal.Run
public import proofs.«01_k».proof.Proof.Gen.ShiftBwdRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ShiftBwdRefIdeal.RefValue

open Cert.ShiftBwdRefIdeal Cert.ShiftBwdRefIdeal.Gen Cert.ShiftBwdRefIdeal.Read
open Cert.ShiftSpec

/-- The host's sum over the leading two axes, at a column. -/
theorem reduce_rows {n0 n1 n2 : Nat} (h : (⟨3, ![n0, n1, n2]⟩ : Shape).ReducesTo [0, 1] ⟨1, ![n2]⟩) (v : (⟨3, ![n0, n1, n2]⟩ : Shape).Idx → EReal)
    (c : EReal) (l : Fin n2) : Ideal.hostReduceAdd h v c (ix1 l) = c + ∑ a : Fin n0, ∑ b : Fin n1, v (ix3 a b l) := by
  unfold Ideal.hostReduceAdd
  rw [← Fintype.sum_prod_type' (fun a b => v (ix3 a b l))]
  congr 1
  refine Finset.sum_bij' (fun i _ => ((i 0 : Fin n0), (i 1 : Fin n1))) (fun p _ => ix3 p.1 p.2 l) ?_ ?_ ?_ ?_ ?_
  · intro i _; exact Finset.mem_univ _
  · intro p _
    refine Finset.mem_filter.mpr ⟨Finset.mem_univ _, ?_⟩
    funext a
    match a with
    | ⟨0, _⟩ => rfl
  · intro i hi
    have e := congrFun (Finset.mem_filter.mp hi).2 ⟨0, Nat.one_pos⟩
    funext a
    match a with
    | ⟨0, _⟩ => rfl
    | ⟨1, _⟩ => rfl
    | ⟨2, _⟩ => exact Fin.ext (congrArg Fin.val e).symm
  · intro p _; rfl
  · intro i hi
    have e := congrFun (Finset.mem_filter.mp hi).2 ⟨0, Nat.one_pos⟩
    congr 1
    funext a
    match a with
    | ⟨0, _⟩ => rfl
    | ⟨1, _⟩ => rfl
    | ⟨2, _⟩ => exact Fin.ext (congrArg Fin.val e)

variable (x0 : FVec Ideal S2304x13568 .f32) (x1 : FVec Ideal S4x3328 .f32) (x2 x3 x4 : FVec Ideal S2304x3328 .f32)

/-- The channel's column of the cotangent: the three consumers' sum. -/
abbrev gcol (ch : Fin 3328) : Col := fun r => x2 (ix2 r ch) + x3 (ix2 r ch) + x4 (ix2 r ch)

/-- The channel's column of the projection. -/
abbrev xcol (ch : Fin 3328) : Col := fun r => x0 (ix2 r ⟨5120 + ch.val, by omega⟩)

theorem v78_at (a : Fin 32) (b : Fin 64) (ch : Fin 3328) :
    val_main_v78 (F := Ideal) x2 x3 x4 (ix3 a b ch) = gcol x2 x3 x4 ch ⟨256 + (a.val * 64 + b.val), by omega⟩ := by
  pointwise [val_main_v78, val_main_v77, val_main_v76, val_main_v75, val_main_v74]
theorem v140_at (b : Fin 256) (ch : Fin 3328) :
    val_main_v140 (F := Ideal) x2 x3 x4 (ix3 0 b ch) = gcol x2 x3 x4 ch ⟨b.val, by omega⟩ := by
  pointwise [val_main_v140, val_main_v139, val_main_v138,  val_main_v77, val_main_v76, val_main_v75, val_main_v74]

theorem v81_at (a : Fin 32) (b : Fin 64) (ch : Fin 3328) (g x : Col) (hg : g = gcol x2 x3 x4 ch) (hx : x = xcol x0 ch) :
    val_main_v81 (F := Ideal) x0 x2 x3 x4 (ix3 a b ch)
      = g ⟨256 + (a.val * 64 + b.val), by omega⟩ * ((if hasD (256 + (a.val * 64 + b.val)) then x (rot 2240 ⟨256 + (a.val * 64 + b.val), by omega⟩) else 0) - x ⟨256 + (a.val * 64 + b.val), by omega⟩) := by
  rw [val_main_v81_apply, v78_at]
  subst hg hx
  pointwise [val_main_cst, val_main_cst_2, val_main_cst_5, val_main_v0, val_main_v1, val_main_v2, val_main_v3, val_main_v4, val_main_v5, val_main_v6, val_main_v7, val_main_v8, val_main_v9, val_main_v25, val_main_v26, val_main_v27, val_main_v28, val_main_v29, val_main_v30, val_main_v31, val_main_v32, val_main_v33, val_main_v34, val_main_v50, val_main_v51, val_main_v52, val_main_v53, val_main_v54, val_main_v55, val_main_v56, val_main_v67, val_main_v60,val_main_v45,val_main_v38,val_main_v20,val_main_v13]
  refine congrArg₂ (· * ·) rfl (congrArg₂ (· - ·) (dite_to ?_ fun hp => congrArg x0 (congrArg₂ ix2 (Fin.ext ?_) rfl)) rfl)
  · simp only [hasD]; omega
  · simp only []; omega

theorem v84_at (ch : Fin 3328) (g x : Col) (hg : g = gcol x2 x3 x4 ch) (hx : x = xcol x0 ch) :
    val_main_v84 (F := Ideal) x0 x2 x3 x4 (ix1 ch)
      = ∑ a : Fin 32, ∑ b : Fin 64, g ⟨256 + (a.val * 64 + b.val), by omega⟩ * ((if hasD (256 + (a.val * 64 + b.val)) then x (rot 2240 ⟨256 + (a.val * 64 + b.val), by omega⟩) else 0) - x ⟨256 + (a.val * 64 + b.val), by omega⟩) := by
  have key := fun (a : Fin 32) (b : Fin 64) => v81_at x0 x2 x3 x4 a b ch g x hg hx
  unfold val_main_v84 val_main_v83 val_main_v82
  generalize val_main_v81 (F := Ideal) x0 x2 x3 x4 = w at key ⊢
  pointwise [val_main_cst_9, val_main_cst_8, reduce_rows]
  simp only [Finset.univ_unique, Finset.sum_singleton]
  exact Finset.sum_congr rfl fun a _ => Finset.sum_congr rfl fun b _ => key a b

theorem v90_at (a : Fin 32) (b : Fin 64) (ch : Fin 3328) (g x : Col) (hg : g = gcol x2 x3 x4 ch) (hx : x = xcol x0 ch) :
    val_main_v90 (F := Ideal) x0 x2 x3 x4 (ix3 a b ch)
      = g ⟨256 + (a.val * 64 + b.val), by omega⟩ * ((if hasU (256 + (a.val * 64 + b.val)) then x (rot 64 ⟨256 + (a.val * 64 + b.val), by omega⟩) else 0) - x ⟨256 + (a.val * 64 + b.val), by omega⟩) := by
  rw [val_main_v90_apply, v78_at]
  subst hg hx
  pointwise [val_main_cst, val_main_cst_2, val_main_cst_5, val_main_v0, val_main_v1, val_main_v2, val_main_v3, val_main_v4, val_main_v5, val_main_v6, val_main_v7, val_main_v8, val_main_v9, val_main_v25, val_main_v26, val_main_v27, val_main_v28, val_main_v29, val_main_v30, val_main_v31, val_main_v32, val_main_v33, val_main_v34, val_main_v50, val_main_v51, val_main_v52, val_main_v53, val_main_v54, val_main_v55, val_main_v56, val_main_v67, val_main_v60,val_main_v45,val_main_v38,val_main_v20,val_main_v13]
  refine congrArg₂ (· * ·) rfl (congrArg₂ (· - ·) (dite_to_not ?_ fun hp => congrArg x0 (congrArg₂ ix2 (Fin.ext ?_) rfl)) rfl)
  · simp only [hasU]; omega
  · simp only []; omega

theorem v93_at (ch : Fin 3328) (g x : Col) (hg : g = gcol x2 x3 x4 ch) (hx : x = xcol x0 ch) :
    val_main_v93 (F := Ideal) x0 x2 x3 x4 (ix1 ch)
      = ∑ a : Fin 32, ∑ b : Fin 64, g ⟨256 + (a.val * 64 + b.val), by omega⟩ * ((if hasU (256 + (a.val * 64 + b.val)) then x (rot 64 ⟨256 + (a.val * 64 + b.val), by omega⟩) else 0) - x ⟨256 + (a.val * 64 + b.val), by omega⟩) := by
  have key := fun (a : Fin 32) (b : Fin 64) => v90_at x0 x2 x3 x4 a b ch g x hg hx
  unfold val_main_v93 val_main_v92 val_main_v91
  generalize val_main_v90 (F := Ideal) x0 x2 x3 x4 = w at key ⊢
  pointwise [val_main_cst_12, val_main_cst_11, reduce_rows]
  simp only [Finset.univ_unique, Finset.sum_singleton]
  exact Finset.sum_congr rfl fun a _ => Finset.sum_congr rfl fun b _ => key a b

theorem v109_at (a : Fin 32) (b : Fin 64) (ch : Fin 3328) (g x : Col) (hg : g = gcol x2 x3 x4 ch) (hx : x = xcol x0 ch) :
    val_main_v109 (F := Ideal) x0 x2 x3 x4 (ix3 a b ch)
      = g ⟨256 + (a.val * 64 + b.val), by omega⟩ * ((if hasR (256 + (a.val * 64 + b.val)) then x (rot 2303 ⟨256 + (a.val * 64 + b.val), by omega⟩) else 0) - x ⟨256 + (a.val * 64 + b.val), by omega⟩) := by
  rw [val_main_v109_apply, v78_at]
  subst hg hx
  pointwise [val_main_cst, val_main_cst_2, val_main_cst_5, val_main_v0, val_main_v1, val_main_v2, val_main_v3, val_main_v4, val_main_v5, val_main_v6, val_main_v7, val_main_v8, val_main_v9, val_main_v25, val_main_v26, val_main_v27, val_main_v28, val_main_v29, val_main_v30, val_main_v31, val_main_v32, val_main_v33, val_main_v34, val_main_v50, val_main_v51, val_main_v52, val_main_v53, val_main_v54, val_main_v55, val_main_v56, val_main_v67, val_main_v60,val_main_v45,val_main_v38,val_main_v20,val_main_v13]
  refine congrArg₂ (· * ·) rfl (congrArg₂ (· - ·) (dite_to ?_ fun hp => congrArg x0 (congrArg₂ ix2 (Fin.ext ?_) rfl)) rfl)
  · simp only [hasR]; omega
  · simp only []; omega

theorem v112_at (ch : Fin 3328) (g x : Col) (hg : g = gcol x2 x3 x4 ch) (hx : x = xcol x0 ch) :
    val_main_v112 (F := Ideal) x0 x2 x3 x4 (ix1 ch)
      = ∑ a : Fin 32, ∑ b : Fin 64, g ⟨256 + (a.val * 64 + b.val), by omega⟩ * ((if hasR (256 + (a.val * 64 + b.val)) then x (rot 2303 ⟨256 + (a.val * 64 + b.val), by omega⟩) else 0) - x ⟨256 + (a.val * 64 + b.val), by omega⟩) := by
  have key := fun (a : Fin 32) (b : Fin 64) => v109_at x0 x2 x3 x4 a b ch g x hg hx
  unfold val_main_v112 val_main_v111 val_main_v110
  generalize val_main_v109 (F := Ideal) x0 x2 x3 x4 = w at key ⊢
  pointwise [val_main_cst_17, val_main_cst_16, reduce_rows]
  simp only [Finset.univ_unique, Finset.sum_singleton]
  exact Finset.sum_congr rfl fun a _ => Finset.sum_congr rfl fun b _ => key a b

theorem v121_at (a : Fin 32) (b : Fin 64) (ch : Fin 3328) (g x : Col) (hg : g = gcol x2 x3 x4 ch) (hx : x = xcol x0 ch) :
    val_main_v121 (F := Ideal) x0 x2 x3 x4 (ix3 a b ch)
      = g ⟨256 + (a.val * 64 + b.val), by omega⟩ * ((if hasL (256 + (a.val * 64 + b.val)) then x (rot 1 ⟨256 + (a.val * 64 + b.val), by omega⟩) else 0) - x ⟨256 + (a.val * 64 + b.val), by omega⟩) := by
  rw [val_main_v121_apply, v78_at]
  subst hg hx
  pointwise [val_main_cst, val_main_cst_2, val_main_cst_5, val_main_v0, val_main_v1, val_main_v2, val_main_v3, val_main_v4, val_main_v5, val_main_v6, val_main_v7, val_main_v8, val_main_v9, val_main_v25, val_main_v26, val_main_v27, val_main_v28, val_main_v29, val_main_v30, val_main_v31, val_main_v32, val_main_v33, val_main_v34, val_main_v50, val_main_v51, val_main_v52, val_main_v53, val_main_v54, val_main_v55, val_main_v56, val_main_v67, val_main_v60,val_main_v45,val_main_v38,val_main_v20,val_main_v13]
  refine congrArg₂ (· * ·) rfl (congrArg₂ (· - ·) (dite_to_not ?_ fun hp => congrArg x0 (congrArg₂ ix2 (Fin.ext ?_) rfl)) rfl)
  · simp only [hasL]; omega
  · simp only []; omega

theorem v124_at (ch : Fin 3328) (g x : Col) (hg : g = gcol x2 x3 x4 ch) (hx : x = xcol x0 ch) :
    val_main_v124 (F := Ideal) x0 x2 x3 x4 (ix1 ch)
      = ∑ a : Fin 32, ∑ b : Fin 64, g ⟨256 + (a.val * 64 + b.val), by omega⟩ * ((if hasL (256 + (a.val * 64 + b.val)) then x (rot 1 ⟨256 + (a.val * 64 + b.val), by omega⟩) else 0) - x ⟨256 + (a.val * 64 + b.val), by omega⟩) := by
  have key := fun (a : Fin 32) (b : Fin 64) => v121_at x0 x2 x3 x4 a b ch g x hg hx
  unfold val_main_v124 val_main_v123 val_main_v122
  generalize val_main_v121 (F := Ideal) x0 x2 x3 x4 = w at key ⊢
  pointwise [val_main_cst_20, val_main_cst_19, reduce_rows]
  simp only [Finset.univ_unique, Finset.sum_singleton]
  exact Finset.sum_congr rfl fun a _ => Finset.sum_congr rfl fun b _ => key a b

theorem v143_at (k : Fin 256) (ch : Fin 3328) (g x : Col) (hg : g = gcol x2 x3 x4 ch) (hx : x = xcol x0 ch) :
    val_main_v143 (F := Ideal) x0 x2 x3 x4 (ix3 0 k ch)
      = g ⟨k.val, by omega⟩ * ((if hasR k.val then x (rot 2303 ⟨k.val, by omega⟩) else 0) - x ⟨k.val, by omega⟩) := by
  rw [val_main_v143_apply, v140_at]
  subst hg hx
  pointwise [val_main_cst, val_main_cst_2, val_main_cst_5, val_main_v0, val_main_v1, val_main_v2, val_main_v3, val_main_v4, val_main_v5, val_main_v6, val_main_v7, val_main_v8, val_main_v9, val_main_v25, val_main_v26, val_main_v27, val_main_v28, val_main_v29, val_main_v30, val_main_v31, val_main_v32, val_main_v33, val_main_v34, val_main_v50, val_main_v51, val_main_v52, val_main_v53, val_main_v54, val_main_v55, val_main_v56, val_main_v67, val_main_v60,val_main_v45,val_main_v38,val_main_v20,val_main_v13]
  refine congrArg₂ (· * ·) rfl (congrArg₂ (· - ·) (dite_to ?_ fun hp => congrArg x0 (congrArg₂ ix2 (Fin.ext ?_) rfl)) rfl)
  · simp only [hasR]; omega
  · simp only []; omega

theorem v146_at (ch : Fin 3328) (g x : Col) (hg : g = gcol x2 x3 x4 ch) (hx : x = xcol x0 ch) :
    val_main_v146 (F := Ideal) x0 x2 x3 x4 (ix1 ch)
      = ∑ k : Fin 256, g ⟨k.val, by omega⟩ * ((if hasR k.val then x (rot 2303 ⟨k.val, by omega⟩) else 0) - x ⟨k.val, by omega⟩) := by
  have key := fun (k : Fin 256) => v143_at x0 x2 x3 x4 k ch g x hg hx
  unfold val_main_v146 val_main_v145 val_main_v144
  generalize val_main_v143 (F := Ideal) x0 x2 x3 x4 = w at key ⊢
  pointwise [val_main_cst_26, val_main_cst_25, reduce_rows]
  simp only [Finset.univ_unique, Finset.sum_singleton]
  exact Finset.sum_congr rfl fun k _ => key k

theorem v154_at (k : Fin 256) (ch : Fin 3328) (g x : Col) (hg : g = gcol x2 x3 x4 ch) (hx : x = xcol x0 ch) :
    val_main_v154 (F := Ideal) x0 x2 x3 x4 (ix3 0 k ch)
      = g ⟨k.val, by omega⟩ * ((if hasL k.val then x (rot 1 ⟨k.val, by omega⟩) else 0) - x ⟨k.val, by omega⟩) := by
  rw [val_main_v154_apply, v140_at]
  subst hg hx
  pointwise [val_main_cst, val_main_cst_2, val_main_cst_5, val_main_v0, val_main_v1, val_main_v2, val_main_v3, val_main_v4, val_main_v5, val_main_v6, val_main_v7, val_main_v8, val_main_v9, val_main_v25, val_main_v26, val_main_v27, val_main_v28, val_main_v29, val_main_v30, val_main_v31, val_main_v32, val_main_v33, val_main_v34, val_main_v50, val_main_v51, val_main_v52, val_main_v53, val_main_v54, val_main_v55, val_main_v56, val_main_v67, val_main_v60,val_main_v45,val_main_v38,val_main_v20,val_main_v13]
  refine congrArg₂ (· * ·) rfl (congrArg₂ (· - ·) (dite_to_not ?_ fun hp => congrArg x0 (congrArg₂ ix2 (Fin.ext ?_) rfl)) rfl)
  · simp only [hasL]; omega
  · simp only []; omega

theorem v157_at (ch : Fin 3328) (g x : Col) (hg : g = gcol x2 x3 x4 ch) (hx : x = xcol x0 ch) :
    val_main_v157 (F := Ideal) x0 x2 x3 x4 (ix1 ch)
      = ∑ k : Fin 256, g ⟨k.val, by omega⟩ * ((if hasL k.val then x (rot 1 ⟨k.val, by omega⟩) else 0) - x ⟨k.val, by omega⟩) := by
  have key := fun (k : Fin 256) => v154_at x0 x2 x3 x4 k ch g x hg hx
  unfold val_main_v157 val_main_v156 val_main_v155
  generalize val_main_v154 (F := Ideal) x0 x2 x3 x4 = w at key ⊢
  pointwise [val_main_cst_29, val_main_cst_28, reduce_rows]
  simp only [Finset.univ_unique, Finset.sum_singleton]
  exact Finset.sum_congr rfl fun k _ => key k

/-- The mixing weights' gradient of the reference is the plain text. -/
theorem dmu_at (k : Fin 4) (ch : Fin 3328) :
    val_main_v162 (F := Ideal) x0 x2 x3 x4 (ix2 k ch) = dmu k.val (gcol x2 x3 x4 ch) (xcol x0 ch) := by
  have e84 := v84_at x0 x2 x3 x4 ch _ _ rfl rfl
  have e93 := v93_at x0 x2 x3 x4 ch _ _ rfl rfl
  have e112 := v112_at x0 x2 x3 x4 ch _ _ rfl rfl
  have e124 := v124_at x0 x2 x3 x4 ch _ _ rfl rfl
  have e146 := v146_at x0 x2 x3 x4 ch _ _ rfl rfl
  have e157 := v157_at x0 x2 x3 x4 ch _ _ rfl rfl
  unfold val_main_v162 val_main_v161 val_main_v150 val_main_v149 val_main_v129 val_main_v128 val_main_v117 val_main_v116 val_main_v98 val_main_v97 val_main_v87 val_main_v160 val_main_v148 val_main_v127 val_main_v115 val_main_v96 val_main_v86
  generalize val_main_v84 (F := Ideal) x0 x2 x3 x4 = g84 at *
  generalize val_main_v93 (F := Ideal) x0 x2 x3 x4 = g93 at *
  generalize val_main_v112 (F := Ideal) x0 x2 x3 x4 = g112 at *
  generalize val_main_v124 (F := Ideal) x0 x2 x3 x4 = g124 at *
  generalize val_main_v146 (F := Ideal) x0 x2 x3 x4 = g146 at *
  generalize val_main_v157 (F := Ideal) x0 x2 x3 x4 = g157 at *
  generalize gcol x2 x3 x4 ch = g at *
  generalize xcol x0 ch = x at *
  pointwise [val_main_cst_10, val_main_cst_13, val_main_cst_18, val_main_cst_21, val_main_cst_27, val_main_cst_30]
  rw [e84, e93, e112, e124, e146, e157]
  have top (f : Col) : ∑ r : Fin 2304, (if 256 ≤ r.val then f r else 0) = ∑ a : Fin 32, ∑ b : Fin 64, f ⟨256 + (a.val * 64 + b.val), by omega⟩ := by
    rw [sum_rows]
    have z : ∑ k : Fin 256, (if 256 ≤ (⟨k.val, by omega⟩ : Fin 2304).val then f ⟨k.val, by omega⟩ else 0) = 0 :=
      Finset.sum_eq_zero fun k _ => if_neg (by have := k.isLt; simp only []; omega)
    rw [z, zero_add]
    exact Finset.sum_congr rfl fun a _ => Finset.sum_congr rfl fun b _ => if_pos (Nat.le_add_right _ _)
  unfold dmu
  rw [top, top, sum_rows, sum_rows]
  fin_cases k
  · simp only [Fin.zero_eta, Fin.val_zero]
    rw [dif_neg (by omega), dif_neg (by omega), dif_neg (by omega), dif_pos (by omega), dif_neg (by omega), dif_pos (by omega), if_pos (by omega)]
    rw [zero_add, zero_add, zero_add, add_zero, add_comm]
  · simp only [Fin.mk_one, Fin.val_one]
    rw [dif_neg (by omega), dif_neg (by omega), dif_pos (by omega), dif_neg (by omega), dif_pos (by omega), dif_neg (by omega), if_neg (by omega), if_pos (by omega)]
    rw [zero_add, zero_add, add_zero, add_zero, add_comm]
  · simp only [Fin.reduceFinMk, Fin.val_two]
    rw [dif_neg (by omega), dif_pos (by omega), dif_neg (by omega), dif_neg (by omega), dif_neg (by omega), dif_neg (by omega), if_neg (by omega), if_neg (by omega), if_pos (by omega)]
    rw [zero_add, add_zero, add_zero, add_zero, add_zero]
  · show _ = (if (3 : ℕ) < 1 then _ else if (3 : ℕ) - 1 < 1 then _ else if (3 : ℕ) - 1 - 1 < 1 then _ else _)
    rw [dif_pos (by decide), dif_neg (by decide), dif_neg (by decide), dif_neg (by decide), dif_neg (by decide), dif_neg (by decide), if_neg (by omega), if_neg (by omega), if_neg (by omega)]
    rw [add_zero, add_zero, add_zero, add_zero, add_zero]

/-- A mixing weight of the channel. -/
abbrev mcol (k : Fin 4) (ch : Fin 3328) : EReal := x1 (ix2 k ch)

theorem v137_at (a : Fin 32) (b : Fin 64) (ch : Fin 3328) (g : Col) (hg : g = gcol x2 x3 x4 ch)
    (h0 : mcol x1 0 ch ≠ ⊤ ∧ mcol x1 0 ch ≠ ⊥) (h1 : mcol x1 1 ch ≠ ⊤ ∧ mcol x1 1 ch ≠ ⊥)
    (h2 : mcol x1 2 ch ≠ ⊤ ∧ mcol x1 2 ch ≠ ⊥) (h3 : mcol x1 3 ch ≠ ⊤ ∧ mcol x1 3 ch ≠ ⊥) (hf : ∀ r, g r ≠ ⊤ ∧ g r ≠ ⊥) :
    val_main_v137 (F := Ideal) x1 x2 x3 x4 (ix3 a b ch)
      = dp (mcol x1 0 ch) (mcol x1 1 ch) (mcol x1 2 ch) (mcol x1 3 ch) g ⟨256 + (a.val * 64 + b.val), by omega⟩ := by
  have key := fun (a : Fin 32) (b : Fin 64) => v78_at x2 x3 x4 a b ch
  rw [← hg] at key
  unfold val_main_v137 val_main_v136 val_main_v135 val_main_v133 val_main_v126 val_main_v132 val_main_v130 val_main_v125 val_main_v118 val_main_v114 val_main_v113 val_main_v106 val_main_v105 val_main_v104 val_main_v102 val_main_v101 val_main_v99 val_main_v95 val_main_v94 val_main_v85
    val_main_v120 val_main_v108 val_main_v89 val_main_v80
  generalize val_main_v78 (F := Ideal) x2 x3 x4 = w at *
  pointwise [val_main_v119, val_main_v39, val_main_v37, val_main_v36, val_main_cst_23, val_main_cst_22,  val_main_cst_15,  val_main_cst_14, val_main_v107, val_main_v88, val_main_v79, val_main_v68, val_main_v46, val_main_v61, val_main_v66, val_main_v65,val_main_v59, val_main_v58, val_main_v44, val_main_v43]
  simp only [key]
  unfold dp
  rw [if_pos (show 256 ≤ (⟨256 + (a.val * 64 + b.val), by omega⟩ : Fin 2304).val from Nat.le_add_right _ _), coef4 h0 h1 h2 h3 (hf _)]
  rw [dite_to (q := hasU (256 + (a.val * 64 + b.val))) (b := mcol x1 3 ch * g (rot 64 ⟨256 + (a.val * 64 + b.val), by omega⟩)) (by simp only [hasU]; omega)
      (fun hp => congrArg (mcol x1 3 ch * g ·) (Fin.ext (by simp only []; omega))),
    dite_to (q := hasD (256 + (a.val * 64 + b.val))) (b := mcol x1 2 ch * g (rot 2240 ⟨256 + (a.val * 64 + b.val), by omega⟩)) (by simp only [hasD]; omega)
      (fun hp => congrArg (mcol x1 2 ch * g ·) (Fin.ext (by simp only []; omega))),
    dite_to (q := hasL (256 + (a.val * 64 + b.val))) (b := mcol x1 1 ch * g (rot 1 ⟨256 + (a.val * 64 + b.val), by omega⟩)) (by simp only [hasL]; omega)
      (fun hp => congrArg (mcol x1 1 ch * g ·) (Fin.ext (by simp only []; omega))),
    dite_to (q := hasR (256 + (a.val * 64 + b.val))) (b := mcol x1 0 ch * g (rot 2303 ⟨256 + (a.val * 64 + b.val), by omega⟩)) (by simp only [hasR]; omega)
      (fun hp => congrArg (mcol x1 0 ch * g ·) (Fin.ext (by simp only []; omega)))]
  exact order4 _ _ _ _ _ _ _ _ _

theorem v170_at (b : Fin 256) (ch : Fin 3328) (g : Col) (hg : g = gcol x2 x3 x4 ch)
    (h0 : mcol x1 0 ch ≠ ⊤ ∧ mcol x1 0 ch ≠ ⊥) (h1 : mcol x1 1 ch ≠ ⊤ ∧ mcol x1 1 ch ≠ ⊥) (hf : ∀ r, g r ≠ ⊤ ∧ g r ≠ ⊥) :
    val_main_v170 (F := Ideal) x1 x2 x3 x4 (ix3 0 b ch)
      = dp (mcol x1 0 ch) (mcol x1 1 ch) (mcol x1 2 ch) (mcol x1 3 ch) g ⟨b.val, by omega⟩ := by
  have key := fun (b : Fin 256) => v140_at x2 x3 x4 b ch
  rw [← hg] at key
  unfold val_main_v170 val_main_v169 val_main_v168 val_main_v166 val_main_v165 val_main_v163   val_main_v159 val_main_v158 val_main_v151 val_main_v147 val_main_v153 val_main_v142
  generalize val_main_v140 (F := Ideal) x2 x3 x4 = w at *
  pointwise [val_main_cst_31, val_main_cst_32, val_main_v152, val_main_v141, val_main_v21, val_main_v14, val_main_v19, val_main_v12, val_main_v18, val_main_v11, val_main_v17, val_main_v10]
  simp only [key]
  unfold dp
  have hb := b.isLt
  rw [if_neg (show ¬ 256 ≤ (⟨b.val, by omega⟩ : Fin 2304).val by simp only []; omega), coef2 h0 h1 (hf _)]
  rw [dite_to (q := hasL b.val) (b := mcol x1 1 ch * g (rot 1 ⟨b.val, by omega⟩)) (by simp only [hasL]; omega)
      (fun hp => congrArg (mcol x1 1 ch * g ·) (Fin.ext (by simp only []; omega))),
    dite_to (q := hasR b.val) (b := mcol x1 0 ch * g (rot 2303 ⟨b.val, by omega⟩)) (by simp only [hasR]; omega)
      (fun hp => congrArg (mcol x1 0 ch * g ·) (Fin.ext (by simp only []; omega))),
    if_neg (show ¬ hasD (⟨b.val, by omega⟩ : Fin 2304).val by simp only [hasD]; omega), if_neg (show ¬ hasU (⟨b.val, by omega⟩ : Fin 2304).val by simp only [hasU]; omega)]
  exact order2 _ _ _ _ _

/-- The columns' gradient of the reference is the plain text, of finite arguments. -/
theorem dp_at (r : Fin 2304) (ch : Fin 3328) (g : Col) (hg : g = gcol x2 x3 x4 ch)
    (h0 : mcol x1 0 ch ≠ ⊤ ∧ mcol x1 0 ch ≠ ⊥) (h1 : mcol x1 1 ch ≠ ⊤ ∧ mcol x1 1 ch ≠ ⊥)
    (h2 : mcol x1 2 ch ≠ ⊤ ∧ mcol x1 2 ch ≠ ⊥) (h3 : mcol x1 3 ch ≠ ⊤ ∧ mcol x1 3 ch ≠ ⊥) (hf : ∀ r, g r ≠ ⊤ ∧ g r ≠ ⊥) :
    val_main_v174 (F := Ideal) x1 x2 x3 x4 (ix2 r ch) = dp (mcol x1 0 ch) (mcol x1 1 ch) (mcol x1 2 ch) (mcol x1 3 ch) g r := by
  have ki := fun a b => v137_at x1 x2 x3 x4 a b ch g hg h0 h1 h2 h3 hf
  have kc := fun b => v170_at x1 x2 x3 x4 b ch g hg h0 h1 hf
  unfold val_main_v174 val_main_v173 val_main_v172 val_main_v171 val_main_v139 val_main_v138
  generalize val_main_v137 (F := Ideal) x1 x2 x3 x4 = w at *
  generalize val_main_v170 (F := Ideal) x1 x2 x3 x4 = u at *
  pointwise [val_main_cst_33, val_main_cst_24]
  simp only [ki, kc]
  have hr := r.isLt
  by_cases h : r.val < 256
  · rw [dif_pos h, dif_neg (by omega), zero_add]
  · rw [dif_neg h, dif_pos (by omega), add_zero]
    congr 1
    exact Fin.ext (by simp only []; omega)

end Cert.ShiftBwdRefIdeal.RefValue

end
-- ==== Proof.ShiftBwd.lean ====
/-
  The gradient of the grid shift (`shift_bwd`): the kernel goes over the 3328 shifted columns 128 at a time, with the
  neighbours as rotations of the whole column and the borders as masks; each tile's two blocks are the plain text of
  ShiftSpec, which the reference's are as well.
-/
module

public import proofs.«01_k».proof.Defs
public import proofs.«01_k».proof.Proof.Gen.ShiftBwd.Frame
public import proofs.«01_k».proof.Proof.Gen.ShiftBwdIdeal.Frame
public import proofs.«01_k».proof.Proof.Gen.ShiftBwdRefIdeal.Run
public import proofs.«01_k».proof.Proof.Gen.ShiftBwdRefIdeal.Read
public import proofs.«01_k».proof.Proof.ShiftRef
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ShiftBwdIdeal.RefValue

open Cert.ShiftBwdIdeal Cert.ShiftBwdIdeal.Gen
open Cert.ShiftSpec

variable (m : (ℓ : Loc nD τ sig) → Buf (Elt Ideal) ℓ)

/-- A one-bit choice is a case distinction. -/
theorem sel_of (c : BitVec 1) (p : Prop) [Decidable p] (a b : EReal) (h : c = if p then 1#1 else 0#1) :
    Scalar.select c a b = if p then a else b := by
  subst h
  by_cases hp : p
  · rw [if_pos hp, if_pos hp]; rfl
  · rw [if_neg hp, if_neg hp]; rfl

theorem sel_isx (r : Fin 2304) (a b : EReal) : Scalar.select (k0_pay3 (ix2 r (0 : Fin 1))) a b = if 256 ≤ r.val then a else b :=
  sel_of _ _ _ _ (by pointwise [k0_pay9, k0_pay8, k0_pay7, k0_pay6, k0_pay5, k0_pay4, k0_pay3]; revert r; decide +kernel)

theorem sel_ml (r : Fin 2304) (a b : EReal) : Scalar.select (k0_pay6 (ix2 r (0 : Fin 1))) a b = if hasL r.val then a else b :=
  sel_of _ _ _ _ (by pointwise [k0_pay9, k0_pay8, k0_pay7, k0_pay6, k0_pay5, k0_pay4, k0_pay3]; revert r; decide +kernel)

theorem sel_mr (r : Fin 2304) (a b : EReal) : Scalar.select (k0_pay7 (ix2 r (0 : Fin 1))) a b = if hasR r.val then a else b :=
  sel_of _ _ _ _ (by pointwise [k0_pay9, k0_pay8, k0_pay7, k0_pay6, k0_pay5, k0_pay4, k0_pay3]; revert r; decide +kernel)

theorem sel_mu (r : Fin 2304) (a b : EReal) : Scalar.select (k0_pay8 (ix2 r (0 : Fin 1))) a b = if hasU r.val then a else b :=
  sel_of _ _ _ _ (by pointwise [k0_pay9, k0_pay8, k0_pay7, k0_pay6, k0_pay5, k0_pay4, k0_pay3]; revert r; decide +kernel)

theorem sel_md (r : Fin 2304) (a b : EReal) : Scalar.select (k0_pay9 (ix2 r (0 : Fin 1))) a b = if hasD r.val then a else b :=
  sel_of _ _ _ _ (by pointwise [k0_pay9, k0_pay8, k0_pay7, k0_pay6, k0_pay5, k0_pay4, k0_pay3]; revert r; decide +kernel)

theorem sel_ml1 (r : Fin 2304) (a b : EReal) : Scalar.select (k0_pay6 (ix2 (rot 2303 r) (0 : Fin 1))) a b = if hasR r.val then a else b :=
  sel_of _ _ _ _ (by pointwise [k0_pay9, k0_pay8, k0_pay7, k0_pay6, k0_pay5, k0_pay4, k0_pay3]; revert r; decide +kernel)

theorem sel_mr1 (r : Fin 2304) (a b : EReal) : Scalar.select (k0_pay7 (ix2 (rot 1 r) (0 : Fin 1))) a b = if hasL r.val then a else b :=
  sel_of _ _ _ _ (by pointwise [k0_pay9, k0_pay8, k0_pay7, k0_pay6, k0_pay5, k0_pay4, k0_pay3]; revert r; decide +kernel)

theorem sel_mu1 (r : Fin 2304) (a b : EReal) : Scalar.select (k0_pay8 (ix2 (rot 2240 r) (0 : Fin 1))) a b = if hasD r.val then a else b :=
  sel_of _ _ _ _ (by pointwise [k0_pay9, k0_pay8, k0_pay7, k0_pay6, k0_pay5, k0_pay4, k0_pay3]; revert r; decide +kernel)

theorem sel_md1 (r : Fin 2304) (a b : EReal) : Scalar.select (k0_pay9 (ix2 (rot 64 r) (0 : Fin 1))) a b = if hasU r.val then a else b :=
  sel_of _ _ _ _ (by pointwise [k0_pay9, k0_pay8, k0_pay7, k0_pay6, k0_pay5, k0_pay4, k0_pay3]; revert r; decide +kernel)

/-- The tile's columns' gradient at an index. -/
theorem pay1_at (mu : FVec Ideal S4x128 .f32) (g : FVec Ideal S2304x128 .f32) (r : Fin 2304) (l : Fin 128) :
    k0_pay1 (F := Ideal) mu g k0_pay6 k0_pay7 k0_pay8 k0_pay9 (k0_pay13 mu) (k0_pay14 mu) (Scalar.ofBits .f32 0x00000000#32) (k0_pay15 k0_pay3) (ix2 r l)
      = dp (mu (ix2 0 l)) (mu (ix2 1 l)) (mu (ix2 2 l)) (mu (ix2 3 l)) (fun r => g (ix2 r l)) r := by
  have h0 := sel_isx r; have h1 := sel_ml1 r; have h2 := sel_mr1 r; have h3 := sel_mu1 r; have h4 := sel_md1 r
  generalize k0_pay3 = isx at *
  generalize k0_pay6 = ml at *
  generalize k0_pay7 = mr at *
  generalize k0_pay8 = mup at *
  generalize k0_pay9 = mdn at *
  pointwise [k0_pay1, k0_pay13, k0_pay14, k0_pay15]
  rw [h0, h1, h2, h3, h4]
  rfl

/-- The tile's mixing weights' gradient at an index. -/
theorem pay12_at (x g : FVec Ideal S2304x128 .f32) (k : Fin 4) (l : Fin 128) :
    k0_pay12 (F := Ideal) x g k0_pay3 k0_pay7 k0_pay8 k0_pay9 (k0_pay10 x) (k0_pay11 x) (Scalar.ofBits .f32 0x00000000#32) (ix2 k l)
      = dmu k.val (fun r => g (ix2 r l)) (fun r => x (ix2 r l)) := by
  unfold k0_pay10
  have h0 := fun r => sel_isx r; have h1 := fun r => sel_ml r; have h2 := fun r => sel_mr r; have h3 := fun r => sel_mu r; have h4 := fun r => sel_md r
  generalize k0_pay3 = isx at *
  generalize k0_pay6 = ml at *
  generalize k0_pay7 = mr at *
  generalize k0_pay8 = mup at *
  generalize k0_pay9 = mdn at *
  pointwise [k0_pay12, k0_pay11]
  simp only [h0, h1, h2, h3, h4]
  rfl

theorem pay2_at (x y z : FVec Ideal S2304x128 .f32) (r : Fin 2304) (l : Fin 128) :
    k0_pay2 (F := Ideal) x y z (ix2 r l) = x (ix2 r l) + y (ix2 r l) + z (ix2 r l) := by
  pointwise! [k0_pay2]

theorem idx : ∀ t : Fin cfg0.N, win0_0.index t = ![0, 40 + t.val] ∧ win0_1.index t = ![0, t.val] ∧ win0_2.index t = ![0, t.val]
    ∧ win0_3.index t = ![0, t.val] ∧ win0_4.index t = ![0, t.val] ∧ win0_5.index t = ![0, t.val] ∧ win0_6.index t = ![0, t.val] :=
  (by decide +kernel : ∀ t : Fin grid0.N, _)

/-- The channel's column of the cotangent and of the projection, and its mixing weights. -/
abbrev gcol (c : Dev nD) (ch : Fin 3328) : Col :=
  Cert.ShiftBwdRefIdeal.RefValue.gcol (m ((c : Thread nD τ).loc main_arg2)) (m ((c : Thread nD τ).loc main_arg3)) (m ((c : Thread nD τ).loc main_arg4)) ch
abbrev xcol (c : Dev nD) (ch : Fin 3328) : Col :=
  Cert.ShiftBwdRefIdeal.RefValue.xcol (m ((c : Thread nD τ).loc main_arg0)) ch
abbrev mcol (c : Dev nD) (k : Fin 4) (ch : Fin 3328) : EReal :=
  Cert.ShiftBwdRefIdeal.RefValue.mcol (m ((c : Thread nD τ).loc main_arg1)) k ch

/-- Equal weights, columns and rows give equal gradients. -/
theorem dp_congr {a a' b b' d d' e e' : EReal} {g g' : Col} {r r' : Fin 2304} (ha : a = a') (hb : b = b') (hd : d = d')
    (he : e = e') (hg : ∀ r, g r = g' r) (hr : r = r') : dp a b d e g r = dp a' b' d' e' g' r' := by
  obtain rfl : g = g' := funext hg
  subst ha hb hd he hr
  rfl

theorem dmu_congr {k k' : Nat} {g g' x x' : Col} (hk : k = k') (hg : ∀ r, g r = g' r) (hx : ∀ r, x r = x' r) :
    dmu k g x = dmu k' g' x' := by
  obtain rfl : g = g' := funext hg
  obtain rfl : x = x' := funext hx
  subst hk
  rfl

theorem z2 : (![0, 0] : Fin 2 → Nat) = fun _ => 0 := by decide

theorem pay1_full (x0 : FVec Ideal S2304x128 .f32) (x1 : FVec Ideal S4x128 .f32) (x2 x3 x4 : FVec Ideal S2304x128 .f32) (r : Fin 2304) (l : Fin 128) :
    k0_pay1 (F := Ideal) x1 (k0_pay16 (F := Ideal) x0 x1 x2 x3 x4) k0_pay6
      (k0_pay18 (F := Ideal) x0 x1 x2 x3 x4) (k0_pay19 (F := Ideal) x0 x1 x2 x3 x4) (k0_pay20 (F := Ideal) x0 x1 x2 x3 x4) (k0_pay13 x1)
      (k0_pay14 x1) (FloatOps.ofBits FTy.f32 0#32) (k0_pay15 (k0_pay17 (F := Ideal) x0 x1 x2 x3 x4)) (ix2 r l)
      = dp (x1 (ix2 0 l)) (x1 (ix2 1 l)) (x1 (ix2 2 l)) (x1 (ix2 3 l))
        (fun r => x2 (ix2 r l) + x3 (ix2 r l) + x4 (ix2 r l)) r := by
  unfold k0_pay16 k0_pay17 k0_pay18 k0_pay19 k0_pay20
  refine (pay1_at _ _ r l).trans (dp_congr rfl rfl rfl rfl (fun r => ?_) rfl)
  refine (pay2_at _ _ _ r l).trans ?_
  rw [View.ld_unit_zero z2, View.ld_unit_zero z2, View.ld_unit_zero z2]

theorem pay12_full (x0 : FVec Ideal S2304x128 .f32) (x1 : FVec Ideal S4x128 .f32) (x2 x3 x4 : FVec Ideal S2304x128 .f32) (k : Fin 4) (l : Fin 128) :
    k0_pay12 (F := Ideal) x0 (k0_pay16 (F := Ideal) x0 x1 x2 x3 x4)
      (k0_pay17 (F := Ideal) x0 x1 x2 x3 x4) (k0_pay18 (F := Ideal) x0 x1 x2 x3 x4) (k0_pay19 (F := Ideal) x0 x1 x2 x3 x4) (k0_pay20 (F := Ideal) x0 x1 x2 x3 x4) (k0_pay10 x0)
      (k0_pay11 x0) (FloatOps.ofBits FTy.f32 0#32) (ix2 k l)
      = dmu k.val (fun r => x2 (ix2 r l) + x3 (ix2 r l) + x4 (ix2 r l)) (fun r => x0 (ix2 r l)) := by
  unfold k0_pay16 k0_pay17 k0_pay18 k0_pay19 k0_pay20
  refine (pay12_at _ _ k l).trans (dmu_congr rfl (fun r => ?_) fun r => rfl)
  refine (pay2_at _ _ _ r l).trans ?_
  rw [View.ld_unit_zero z2, View.ld_unit_zero z2, View.ld_unit_zero z2]

/-- The first result after the run: the columns' gradient. -/
theorem final5 (c : Dev nD) : (dats m 0 c).arrAt 5 cfg0.N
    = (fun j => dp (mcol m c 0 (j 1)) (mcol m c 1 (j 1)) (mcol m c 2 (j 1)) (mcol m c 3 (j 1)) (gcol m c (j 1)) (j 0) : FVec Ideal S2304x3328 .bf16) := by
  refine (dats m 0 c).arrAt_eq_of_covers 5 _ (by decide +kernel) fun t _ y => ?_
  blk_simp
  rw [after0_5]
  frame_out
  idx_vars y
  refine (pay1_full _ _ _ _ _ y0 y1).trans ?_
  unfold mcol gcol Cert.ShiftBwdRefIdeal.RefValue.mcol Cert.ShiftBwdRefIdeal.RefValue.gcol
  refine dp_congr ?_ ?_ ?_ ?_ (fun r => ?_) ?_
  all_goals first
    | blk_point [iblk, V, idx t]
    | (apply Fin.ext; blk_simp [idx t]; done)

/-- The second result after the run: the mixing weights' gradient. -/
theorem final6 (c : Dev nD) : (dats m 0 c).arrAt 6 cfg0.N
    = (fun j => dmu (j 0).val (gcol m c (j 1)) (xcol m c (j 1)) : FVec Ideal S4x3328 .f32) := by
  refine (dats m 0 c).arrAt_eq_of_covers 6 _ (by decide +kernel) fun t _ y => ?_
  blk_simp
  rw [after0_6]
  frame_out
  idx_vars y
  refine (pay12_full _ _ _ _ _ y0 y1).trans ?_
  unfold xcol gcol Cert.ShiftBwdRefIdeal.RefValue.xcol Cert.ShiftBwdRefIdeal.RefValue.gcol
  refine dmu_congr ?_ (fun r => ?_) (fun r => ?_)
  all_goals first
    | blk_point [iblk, V, idx t]
    | (blk_simp [idx t]; done)

end Cert.ShiftBwdIdeal.RefValue

namespace Cert.Proof.ShiftBwd

open Cert.ShiftBwdIdeal.RefValue
open Cert.ShiftSpec

/-- The side conditions of the finiteness predicate. -/
theorem facts_pre : Cert.Pre_shift_finite.Facts := ⟨by decide, by decide⟩

theorem frame_p : Cert.quiescent_ShiftBwd := fun m ρ _ => Cert.ShiftBwd.Gen.frame m ρ
theorem frame_pi : Cert.quiescent_ShiftBwdIdeal := fun m ρ _ => Cert.ShiftBwdIdeal.Gen.frame m ρ
theorem frame_ri : Cert.quiescent_ShiftBwdRefIdeal := fun m ρ _ =>
  (θ_run Cert.ShiftBwdRefIdeal.defs _ _).mono (fun r h => ⟨fun c => (h c).2.2,
      Idealize.ShloMosaic.sem_eq_zero_of_no_sems (by decide) r.2⟩)
    (Cert.ShiftBwdRefIdeal.Value.run (F := Ideal) m ρ)
theorem frame_pi_pre : Cert.quiescent_ShiftBwdIdeal_pre_shift_finite (hPre_shift_finite := facts_pre) := fun m ρ _ => frame_pi m ρ trivial
theorem frame_ri_pre : Cert.quiescent_ShiftBwdRefIdeal_pre_shift_finite (hPre_shift_finite := facts_pre) := fun m ρ _ => frame_ri m ρ trivial

/-- Less than infinity in absolute value is finite. -/
theorem finite_of {s : Shape} (x : FVec Ideal s .f32) (h : (⟨0, ![]⟩ : Shape).BroadcastsInDim s (![] : Fin 0 → Fin s.rank)) (i : s.Idx)
    (e : cmpf .olt (Host.absf x) (broadcastInDim s ![] h (constant ⟨0, ![]⟩ .f32 0x7F800000#32)) = fun _ => 1#1) :
    x i ≠ ⊤ ∧ x i ≠ ⊥ := by
  have e' : FloatOps.cmpf (F := Ideal) .olt (FloatOps.hostAbsf (x i)) (FloatOps.ofBits .f32 0x7F800000#32) = 1#1 := congrFun e i
  have top : (FloatOps.ofBits .f32 0x7F800000#32 : Ideal .f32) = (⊤ : EReal) := by simp [FloatOps.ofBits, Ideal.ofBits, Ideal.ieee]
  rw [top] at e'
  generalize x i = a at *
  constructor
  · rintro rfl
    revert e'
    simp [FloatOps.cmpf, FloatOps.hostAbsf, Ideal.cmp]
  · rintro rfl
    revert e'
    simp [FloatOps.cmpf, FloatOps.hostAbsf, Ideal.cmp]

/-- Under the precondition the mixing weights and the three cotangents are finite. -/
theorem finite (m : (ℓ : Loc Cert.ShiftBwdIdeal.nD Cert.ShiftBwdIdeal.τ Cert.ShiftBwdIdeal.sig) → Buf (Elt Ideal) ℓ)
    (h : Cert.Pre_ShiftBwdIdeal_shift_finite (hPre_shift_finite := facts_pre) m) (c : Dev Cert.ShiftBwdIdeal.nD) (ch : Fin 3328) :
    (∀ k : Fin 4, mcol m c k ch ≠ ⊤ ∧ mcol m c k ch ≠ ⊥) ∧ ∀ r : Fin 2304, gcol m c ch r ≠ ⊤ ∧ gcol m c ch r ≠ ⊥ := by
  obtain ⟨h1, h2, h3, h4⟩ := h c
  exact ⟨fun k => finite_of _ _ _ h1, fun r => fin_add (fin_add (finite_of _ _ _ h2) (finite_of _ _ _ h3)) (finite_of _ _ _ h4)⟩

/-- The reference's first result at the kernel's arguments. -/
theorem ref5 (m : (ℓ : Loc Cert.ShiftBwdIdeal.nD Cert.ShiftBwdIdeal.τ Cert.ShiftBwdIdeal.sig) → Buf (Elt Ideal) ℓ)
    (h : Cert.Pre_ShiftBwdIdeal_shift_finite (hPre_shift_finite := facts_pre) m) (c : Dev Cert.ShiftBwdIdeal.nD)
    (x1 : FVec Ideal Cert.ShiftBwdIdeal.S4x3328 .f32) (x2 x3 x4 : FVec Ideal Cert.ShiftBwdIdeal.S2304x3328 .f32)
    (e1 : x1 = m (c.tc.loc Cert.ShiftBwdIdeal.main_arg1)) (e2 : x2 = m (c.tc.loc Cert.ShiftBwdIdeal.main_arg2))
    (e3 : x3 = m (c.tc.loc Cert.ShiftBwdIdeal.main_arg3)) (e4 : x4 = m (c.tc.loc Cert.ShiftBwdIdeal.main_arg4)) :
    Cert.ShiftBwdRefIdeal.Read.val_main_v174 (F := Ideal) x1 x2 x3 x4
      = (fun j => dp (mcol m c 0 (j 1)) (mcol m c 1 (j 1)) (mcol m c 2 (j 1)) (mcol m c 3 (j 1)) (gcol m c (j 1)) (j 0) : FVec Ideal Cert.ShiftBwdIdeal.S2304x3328 .bf16) := by
  subst e1 e2 e3 e4
  funext j
  idx_vars j
  have hf := finite m h c j1
  exact Cert.ShiftBwdRefIdeal.RefValue.dp_at _ _ _ _ j0 j1 _ rfl (hf.1 0) (hf.1 1) (hf.1 2) (hf.1 3) hf.2

/-- The reference's second result at the kernel's arguments. -/
theorem ref6 (m : (ℓ : Loc Cert.ShiftBwdIdeal.nD Cert.ShiftBwdIdeal.τ Cert.ShiftBwdIdeal.sig) → Buf (Elt Ideal) ℓ) (c : Dev Cert.ShiftBwdIdeal.nD)
    (x0 : FVec Ideal Cert.ShiftBwdIdeal.S2304x13568 .f32) (x2 x3 x4 : FVec Ideal Cert.ShiftBwdIdeal.S2304x3328 .f32)
    (e0 : x0 = m (c.tc.loc Cert.ShiftBwdIdeal.main_arg0)) (e2 : x2 = m (c.tc.loc Cert.ShiftBwdIdeal.main_arg2))
    (e3 : x3 = m (c.tc.loc Cert.ShiftBwdIdeal.main_arg3)) (e4 : x4 = m (c.tc.loc Cert.ShiftBwdIdeal.main_arg4)) :
    Cert.ShiftBwdRefIdeal.Read.val_main_v162 (F := Ideal) x0 x2 x3 x4
      = (fun j => dmu (j 0).val (gcol m c (j 1)) (xcol m c (j 1)) : FVec Ideal Cert.ShiftBwdIdeal.S4x3328 .f32) := by
  subst e0 e2 e3 e4
  funext j
  idx_vars j
  exact Cert.ShiftBwdRefIdeal.RefValue.dmu_at _ _ _ _ j0 j1

/-- Of finite mixing weights and cotangents, the kernel's two gradients are the reference's. -/
theorem algebraic : Cert.algebraic_ShiftBwdIdeal_ShiftBwdRefIdeal_pre_shift_finite (hPre_shift_finite := facts_pre) := by
  pair_intro
  · run_from Cert.ShiftBwdIdeal.Gen.run_main m g
  · run_from Cert.ShiftBwdRefIdeal.Value.run m' g'
    · rw [Cert.ShiftBwdRefIdeal.Read.val_main_v174_eq, final5 m c]
      exact ref5 m hpre c _ _ _ _ (hagree c).2.1 (hagree c).2.2.1 (hagree c).2.2.2.1 (hagree c).2.2.2.2
    · rw [Cert.ShiftBwdRefIdeal.Read.val_main_v162_eq, final6 m c]
      exact ref6 m c _ _ _ _ (hagree c).1 (hagree c).2.2.1 (hagree c).2.2.2.1 (hagree c).2.2.2.2

end Cert.Proof.ShiftBwd

end
-- ==== Proof.MergeBwd.lean ====
module

public import proofs.«01_k».proof.Defs
public import proofs.«01_k».proof.Proof.Gen.MergeBwd.Frame
public import proofs.«01_k».proof.Proof.Gen.MergeBwdIdeal.Frame
public import proofs.«01_k».proof.Proof.Gen.MergeBwdRefIdeal.Run
public import proofs.«01_k».proof.Proof.Gen.MergeBwdRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeBwdIdeal.RefValue

open Cert.MergeBwdIdeal Cert.MergeBwdIdeal.Gen

variable (m : (ℓ : Loc nD τ sig) → Buf (Elt Ideal) ℓ)

/-- A branch's gradient: the gate's logistic times the cotangent. -/
def dBranch (g d : EReal) : EReal := Ideal.logistic g * d

/-- A gate's gradient: the cotangent times the branch times the logistic's derivative. -/
def dGate (g a d : EReal) : EReal := d * a * (Ideal.logistic g * (1 - Ideal.logistic g))

theorem pay5_at (g d : FVec Ideal S256x2048 .f32) (r : Fin 256) (l : Fin 2048) :
    k0_pay5 (F := Ideal) g d (ix2 r l) = dBranch (g (ix2 r l)) (d (ix2 r l)) := by
  pointwise [k0_pay5, k0_pay1, k0_pay3]
  rfl

theorem pay6_at (g d : FVec Ideal S256x2048 .f32) (r : Fin 256) (l : Fin 2048) :
    k0_pay6 (F := Ideal) g d (ix2 r l) = dBranch (g (ix2 r l)) (d (ix2 r l)) := by
  pointwise [k0_pay6, k0_pay2, k0_pay4]
  rfl

theorem pay7_at (a b g h d : FVec Ideal S256x2048 .f32) (r : Fin 256) (l : Fin 4096) :
    k0_pay7 (F := Ideal) a b g h d (ix2 r l)
      = if p : l.val < 2048 then dGate (g (ix2 r ⟨l.val, p⟩)) (a (ix2 r ⟨l.val, p⟩)) (d (ix2 r ⟨l.val, p⟩))
        else dGate (h (ix2 r ⟨l.val - 2048, by omega⟩)) (b (ix2 r ⟨l.val - 2048, by omega⟩)) (d (ix2 r ⟨l.val - 2048, by omega⟩)) := by
  pointwise [k0_pay7, k0_pay1, k0_pay2, k0_pay3, k0_pay4]
  rfl

theorem idx : ∀ t : Fin cfg0.N, win0_0.index t = ![t.val, 0] ∧ win0_1.index t = ![t.val, 0] ∧ win0_2.index t = ![t.val, 0]
    ∧ win0_3.index t = ![t.val, 1] ∧ win0_4.index t = ![t.val, 0] ∧ win0_5.index t = ![t.val, 0] ∧ win0_6.index t = ![t.val, 0]
    ∧ win0_7.index t = ![t.val, 0] :=
  (by decide +kernel : ∀ t : Fin grid0.N, _)

theorem dBranch_congr {a a' b b' : EReal} (ha : a = a') (hb : b = b') : dBranch a b = dBranch a' b' := by
  subst ha hb
  rfl

theorem dGate_congr {a a' b b' d d' : EReal} (ha : a = a') (hb : b = b') (hd : d = d') : dGate a b d = dGate a' b' d' := by
  subst ha hb hd
  rfl

/-- The gates' columns are the projection's last 4096. -/
theorem V_v0 (c : Dev nD) : V m c main_v0
    = extractStridedSlice S2304x4096 ![0, 9472] (m ((c : Thread nD τ).loc main_arg2)) slices_S2304x13568_S2304x4096_0_9472 := by
  unfold V
  after_results

/-- The same at an index. -/
theorem V_v0_at (c : Dev nD) (j : S2304x4096.Idx) : (V m c main_v0 : FVec Ideal S2304x4096 .f32) j
    = (m ((c : Thread nD τ).loc main_arg2) : FVec Ideal S2304x13568 .f32) (ix2 (j 0 : Fin 2304) ⟨9472 + (j 1).val, by have := (j 1).isLt; change _ < 4096 at this; omega⟩) := by
  rw [V_v0]
  idx_vars j
  pointwise

/-- A branch's gradient at an index, its gate at column `o` on. -/
def branchAt (x : FVec Ideal S2304x13568 .f32) (d : FVec Ideal S2304x2048 .f32) (o : Nat) (ho : o + 2048 ≤ 13568) (r : Fin 2304) (l : Fin 2048) : EReal :=
  dBranch (x (ix2 r ⟨o + l.val, by have := l.isLt; omega⟩)) (d (ix2 r l))

/-- A branch's gradient over the whole array. -/
def branches (x : FVec Ideal S2304x13568 .f32) (d : FVec Ideal S2304x2048 .f32) (o : Nat) (ho : o + 2048 ≤ 13568) : FVec Ideal S2304x2048 .bf16 :=
  fun j => branchAt x d o ho (j 0) (j 1)

/-- A gate's gradient at an index of its own half. -/
def gateAt (x : FVec Ideal S2304x13568 .f32) (a d : FVec Ideal S2304x2048 .f32) (o : Nat) (ho : o + 2048 ≤ 13568) (r : Fin 2304) (l : Fin 2048) : EReal :=
  dGate (x (ix2 r ⟨o + l.val, by have := l.isLt; omega⟩)) (a (ix2 r l)) (d (ix2 r l))

/-- Both gates' gradients side by side. -/
def gates (x : FVec Ideal S2304x13568 .f32) (a b d : FVec Ideal S2304x2048 .f32) : FVec Ideal S2304x4096 .bf16 := fun j =>
  if p : (j 1).val < 2048 then gateAt x a d 9472 (by omega) (j 0) ⟨(j 1).val, p⟩
  else gateAt x b d 11520 (by omega) (j 0) ⟨(j 1).val - 2048, by have := (j 1).isLt; change _ < 4096 at this; omega⟩

/-- The first result after the run. -/
theorem final5 (c : Dev nD) : (dats m 0 c).arrAt 5 cfg0.N
    = branches (m ((c : Thread nD τ).loc main_arg2)) (m ((c : Thread nD τ).loc main_arg3)) 9472 (by omega) := by
  refine (dats m 0 c).arrAt_eq_of_covers 5 _ (by decide +kernel) fun t _ y => ?_
  blk_simp
  rw [after0_5]
  frame_out
  idx_vars y
  refine (pay5_at _ _ y0 y1).trans (dBranch_congr ?_ ?_)
  · refine (V_v0_at m c _).trans ?_
    blk_ext! [idx t]
  · blk_point [iblk, V, idx t]

/-- The second result after the run. -/
theorem final6 (c : Dev nD) : (dats m 0 c).arrAt 6 cfg0.N
    = branches (m ((c : Thread nD τ).loc main_arg2)) (m ((c : Thread nD τ).loc main_arg3)) 11520 (by omega) := by
  refine (dats m 0 c).arrAt_eq_of_covers 6 _ (by decide +kernel) fun t _ y => ?_
  blk_simp
  rw [after0_6]
  frame_out
  idx_vars y
  refine (pay6_at _ _ y0 y1).trans (dBranch_congr ?_ ?_)
  · refine (V_v0_at m c _).trans ?_
    blk_ext! [idx t]
  · blk_point [iblk, V, idx t]

/-- The third result after the run. -/
theorem final7 (c : Dev nD) : (dats m 0 c).arrAt 7 cfg0.N
    = gates (m ((c : Thread nD τ).loc main_arg2)) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7]
  frame_out
  idx_vars y
  refine (pay7_at _ _ _ _ _ y0 y1).trans ?_
  have e1 : ((((View.whole main_v1_2).slice (win0_7.rect t)).emb (ix2 y0 y1)) 1 : Fin 4096).val = y1.val := by
    blk_simp [idx t]
  unfold gates
  by_cases p : y1.val < 2048
  · rw [dif_pos p, dif_pos (e1.symm ▸ p)]
    unfold gateAt
    refine dGate_congr ?_ ?_ ?_
    · refine (V_v0_at m c _).trans ?_
      blk_ext! [idx t]
    · blk_point [iblk, V, idx t]
    · blk_point [iblk, V, idx t]
  · rw [dif_neg p, dif_neg (e1.symm ▸ p)]
    unfold gateAt
    refine dGate_congr ?_ ?_ ?_
    · refine (V_v0_at m c _).trans ?_
      blk_ext! [idx t]
    · blk_point [iblk, V, idx t]
    · blk_point [iblk, V, idx t]

open Cert.MergeBwdRefIdeal.Read

/-- The reference's three results are these gradients. -/
theorem ref5 (x : FVec Ideal S2304x13568 .f32) (d : FVec Ideal S2304x2048 .f32) :
    val_main_v33 (F := Ideal) x d = branches x d 9472 (by omega) := by
  funext j
  idx_vars j
  pointwise [val_main_v0, val_main_v1, val_main_v2, val_main_v3, val_main_v4, val_main_cst, val_main_v5, val_main_v6, val_main_cst_0, val_main_v7, val_main_v8, val_main_cst_1, val_main_v9, val_main_v10, val_main_v11, val_main_v13, val_main_v14, val_main_cst_2, val_main_v15, val_main_v16, val_main_cst_3, val_main_v17, val_main_v18, val_main_cst_4, val_main_v19, val_main_v20, val_main_v21, val_main_v24, val_main_v25, val_main_v26, val_main_v27, val_main_v28, val_main_v29, val_main_v30, val_main_v31, val_main_v32, val_main_v33, val_main_v34, val_main_v35]
  rfl

theorem ref6 (x : FVec Ideal S2304x13568 .f32) (d : FVec Ideal S2304x2048 .f32) :
    val_main_v34 (F := Ideal) x d = branches x d 11520 (by omega) := by
  funext j
  idx_vars j
  pointwise [val_main_v0, val_main_v1, val_main_v2, val_main_v3, val_main_v4, val_main_cst, val_main_v5, val_main_v6, val_main_cst_0, val_main_v7, val_main_v8, val_main_cst_1, val_main_v9, val_main_v10, val_main_v11, val_main_v13, val_main_v14, val_main_cst_2, val_main_v15, val_main_v16, val_main_cst_3, val_main_v17, val_main_v18, val_main_cst_4, val_main_v19, val_main_v20, val_main_v21, val_main_v24, val_main_v25, val_main_v26, val_main_v27, val_main_v28, val_main_v29, val_main_v30, val_main_v31, val_main_v32, val_main_v33, val_main_v34, val_main_v35]
  have h : ∀ k, 9472 + (2048 + k) = 11520 + k := by omega
  simp only [h]
  rfl

theorem ref7 (a b : FVec Ideal S2304x2048 .f32) (x : FVec Ideal S2304x13568 .f32) (d : FVec Ideal S2304x2048 .f32) :
    val_main_v35 (F := Ideal) a b x d = gates x a b d := by
  funext j
  idx_vars j
  pointwise [val_main_v0, val_main_v1, val_main_v2, val_main_v3, val_main_v4, val_main_cst, val_main_v5, val_main_v6, val_main_cst_0, val_main_v7, val_main_v8, val_main_cst_1, val_main_v9, val_main_v10, val_main_v11, val_main_v13, val_main_v14, val_main_cst_2, val_main_v15, val_main_v16, val_main_cst_3, val_main_v17, val_main_v18, val_main_cst_4, val_main_v19, val_main_v20, val_main_v21, val_main_v24, val_main_v25, val_main_v26, val_main_v27, val_main_v28, val_main_v29, val_main_v30, val_main_v31, val_main_v32, val_main_v33, val_main_v34, val_main_v35]
  have h : ∀ k, 9472 + (2048 + k) = 11520 + k := by omega
  simp only [h]
  rfl

end Cert.MergeBwdIdeal.RefValue

namespace Cert.Proof.MergeBwd

open Cert.MergeBwdIdeal.RefValue

theorem frame_p : Cert.quiescent_MergeBwd := fun m ρ _ => Cert.MergeBwd.Gen.frame m ρ
theorem frame_pi : Cert.quiescent_MergeBwdIdeal := fun m ρ _ => Cert.MergeBwdIdeal.Gen.frame m ρ
theorem frame_ri : Cert.quiescent_MergeBwdRefIdeal := fun m ρ _ =>
  (θ_run Cert.MergeBwdRefIdeal.defs _ _).mono (fun r h => ⟨fun c => (h c).2.2.2,
      Idealize.ShloMosaic.sem_eq_zero_of_no_sems (by decide) r.2⟩)
    (Cert.MergeBwdRefIdeal.Value.run (F := Ideal) m ρ)

/-- The kernel's three gradients are the reference's. -/
theorem algebraic : Cert.algebraic_MergeBwdIdeal_MergeBwdRefIdeal := by
  pair_intro
  · run_from Cert.MergeBwdIdeal.Gen.run_main m g
  · run_from Cert.MergeBwdRefIdeal.Value.run m' g'
    · rw [Cert.MergeBwdRefIdeal.Read.val_main_v33_eq, ref5, final5 m c]
    · rw [Cert.MergeBwdRefIdeal.Read.val_main_v34_eq, ref6, final6 m c]
    · rw [Cert.MergeBwdRefIdeal.Read.val_main_v35_eq, ref7, final7 m c]
      exact congrArg (gates _ _ _) (hagree c).2.2.2

end Cert.Proof.MergeBwd

end
-- ==== Proof.HgSpec.lean ====
/-
  The gradients of the first mixer's head: every head of 128 channels normalised by its root mean square, scaled by a gain,
  gated by silu.  All of it lives on one row of 1024 channels, so it is written over rows.
-/
module

public import Idealize.ShloMosaic.Lib.Pointwise

@[expose] public section

noncomputable section

open Idealize.ShloMosaic

namespace Cert.HgSpec

/-- A row of 1024 channels. -/
abbrev Row := Fin 1024 → EReal

/-- Channel `e` of the head that channel `l` belongs to. -/
def grp (l : Fin 1024) (e : Fin 128) : Fin 1024 := ⟨l.val / 128 * 128 + e.val, by have := l.isLt; have := e.isLt; omega⟩

/-- The mean square of a channel's head, with the rounding term. -/
def ms (o : Row) (l : Fin 1024) : EReal :=
  Ideal.div (∑ e : Fin 128, o (grp l e) * o (grp l e)) (Ideal.ofBits .f32 1124073472#32) + Ideal.ofBits .f32 897988541#32

/-- The normalised channel. -/
def nrm (o : Row) (l : Fin 1024) : EReal := o l * Ideal.rsqrt (ms o l)

/-- The cotangent through the gate. -/
def gated (z d : Row) (l : Fin 1024) : EReal := d l * (z l * Ideal.logistic (z l))

/-- The head's common term of the normalisation's gradient, of a cotangent `w` of the normalised row. -/
def common (o w : Row) (l : Fin 1024) : EReal :=
  ∑ _ : Fin 1, Ideal.div ((∑ e : Fin 128, o (grp l e) * w (grp l e))
    * (Ideal.ofBits .f32 3204448256#32 * Ideal.div (Ideal.rsqrt (ms o l)) (ms o l))) (Ideal.ofBits .f32 1124073472#32)

/-- The normalisation's gradient. -/
def dNorm (o w : Row) (l : Fin 1024) : EReal := w l * Ideal.rsqrt (ms o l) + o l * common o w l + common o w l * o l

/-- The gradient of the summed branches. -/
def dO (a b z d g : Row) (l : Fin 1024) : EReal := dNorm (fun l => a l + b l) (fun l => gated z d l * g l) l

/-- The gradient of the gate. -/
def dZ (a b z d g : Row) (l : Fin 1024) : EReal :=
  nrm (fun l => a l + b l) l * g l * d l * Ideal.logistic (z l)
    + z l * (nrm (fun l => a l + b l) l * g l * d l) * (Ideal.logistic (z l) * (1 - Ideal.logistic (z l)))

/-- A row's part of the gain's gradient. -/
def dG (a b z d : Row) (l : Fin 1024) : EReal := nrm (fun l => a l + b l) l * gated z d l

end Cert.HgSpec

end
-- ==== Proof.HgPostBwd.lean ====
module

public import proofs.«01_k».proof.Defs
public import proofs.«01_k».proof.Proof.Gen.HgPostBwd.Frame
public import proofs.«01_k».proof.Proof.Gen.HgPostBwdIdeal.Frame
public import proofs.«01_k».proof.Proof.Gen.HgPostBwdRefIdeal.Run
public import proofs.«01_k».proof.Proof.Gen.HgPostBwdRefIdeal.Read
public import proofs.«01_k».proof.Proof.HgSpec
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.HgPostBwdIdeal.RefValue

open Cert.HgPostBwdIdeal Cert.HgPostBwdIdeal.Gen
open Cert.HgSpec

variable (m : (ℓ : Loc nD τ sig) → Buf (Elt Ideal) ℓ)

theorem pay1_at (a b z d : FVec Ideal S256x1024 .f32) (g : FVec Ideal S1x1024 .f32) (r : Fin 256) (l : Fin 1024) :
    k0_pay1 (F := Ideal) (k0_pay5 a b) (k0_pay7 a b) (k0_pay8 a b) (k0_pay14 z d g) (k0_pay15 a b z d g) (ix2 r l)
      = dO (fun l => a (ix2 r l)) (fun l => b (ix2 r l)) (fun l => z (ix2 r l)) (fun l => d (ix2 r l)) (fun l => g (ix2 0 l)) l := by
  pointwise [k0_pay1, k0_pay2, k0_pay3, k0_pay4, k0_pay5, k0_pay6, k0_pay7, k0_pay8, k0_pay9, k0_pay10, k0_pay11, k0_pay12, k0_pay13, k0_pay14, k0_pay15]
  rfl

theorem pay2_at (a b z d : FVec Ideal S256x1024 .f32) (g : FVec Ideal S1x1024 .f32) (r : Fin 256) (l : Fin 1024) :
    k0_pay2 (F := Ideal) (k0_pay12 a b z d g) (ix2 r l) = dZ (fun l => a (ix2 r l)) (fun l => b (ix2 r l)) (fun l => z (ix2 r l)) (fun l => d (ix2 r l)) (fun l => g (ix2 0 l)) l := by
  pointwise [k0_pay1, k0_pay2, k0_pay3, k0_pay4, k0_pay5, k0_pay6, k0_pay7, k0_pay8, k0_pay9, k0_pay10, k0_pay11, k0_pay12, k0_pay13, k0_pay14, k0_pay15]
  rfl

theorem pay3_at (r : Fin 1) (l : Fin 1024) : k0_pay3 (F := Ideal) (ix2 r l) = 0 := by
  pointwise [k0_pay3]

theorem pay4_at (a b z d : FVec Ideal S256x1024 .f32) (v : FVec Ideal S1x1024 .f32) (q : Fin 1) (l : Fin 1024) :
    k0_pay4 (F := Ideal) (k0_pay13 a b z d) v (ix2 q l) = v (ix2 q l) + ∑ r : Fin 256, dG (fun l => a (ix2 r l)) (fun l => b (ix2 r l)) (fun l => z (ix2 r l)) (fun l => d (ix2 r l)) l := by
  pointwise [k0_pay1, k0_pay2, k0_pay3, k0_pay4, k0_pay5, k0_pay6, k0_pay7, k0_pay8, k0_pay9, k0_pay10, k0_pay11, k0_pay12, k0_pay13, k0_pay14, k0_pay15]
  rfl

section Reference
open Cert.HgPostBwdRefIdeal.Read

theorem ref5_at (a b d : FVec Ideal S2304x1024 .f32) (x : FVec Ideal S2304x13568 .f32) (g : FVec Ideal S1x1024 .f32) (r : Fin 2304) (l : Fin 1024) :
    val_main_v48 (F := Ideal) a b x g d (ix2 r l) = dO (fun l => a (ix2 r l)) (fun l => b (ix2 r l)) (fun l => x (ix2 r ⟨4096 + l.val, by have := l.isLt; omega⟩)) (fun l => d (ix2 r l)) (fun l => g (ix2 0 l)) l := by
  pointwise [val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_call0_v0, val_main_call0_v1, val_main_call0_cst, val_main_call0_v2, val_main_call0_v3, val_main_call0_cst_0, val_main_call0_v4, val_main_v21_2, val_main_call0_cst_1, val_main_call0_v6, val_main_call0_v7, val_main_v21_1, val_main_v21_0, val_main_v22, val_main_v23, val_main_v24, val_main_call1_v0, val_main_call1_v1, val_main_call1_v2, val_main_v25, val_main_v26, val_main_cst_3, val_main_v27, val_main_v28, val_main_v29, val_main_v30, val_main_cst_4, val_main_v31, val_main_v32, val_main_v33, val_main_v34, val_main_cst_5, val_main_v35, val_main_v36, val_main_v37, val_main_v38, val_main_v39, val_main_cst_6, val_main_v40, val_main_v41, val_main_cst_7, val_main_v42, val_main_v43, val_main_v44, val_main_v45, val_main_v46, val_main_v47, val_main_v48, val_main_v49]
  rfl

theorem ref6_at (a b d : FVec Ideal S2304x1024 .f32) (x : FVec Ideal S2304x13568 .f32) (g : FVec Ideal S1x1024 .f32) (r : Fin 2304) (l : Fin 1024) :
    val_main_v49 (F := Ideal) a b x g d (ix2 r l) = dZ (fun l => a (ix2 r l)) (fun l => b (ix2 r l)) (fun l => x (ix2 r ⟨4096 + l.val, by have := l.isLt; omega⟩)) (fun l => d (ix2 r l)) (fun l => g (ix2 0 l)) l := by
  pointwise [val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_call0_v0, val_main_call0_v1, val_main_call0_cst, val_main_call0_v2, val_main_call0_v3, val_main_call0_cst_0, val_main_call0_v4, val_main_v21_2, val_main_call0_cst_1, val_main_call0_v6, val_main_call0_v7, val_main_v21_1, val_main_v21_0, val_main_v22, val_main_v23, val_main_v24, val_main_call1_v0, val_main_call1_v1, val_main_call1_v2, val_main_v25, val_main_v26, val_main_cst_3, val_main_v27, val_main_v28, val_main_v29, val_main_v30, val_main_cst_4, val_main_v31, val_main_v32, val_main_v33, val_main_v34, val_main_cst_5, val_main_v35, val_main_v36, val_main_v37, val_main_v38, val_main_v39, val_main_cst_6, val_main_v40, val_main_v41, val_main_cst_7, val_main_v42, val_main_v43, val_main_v44, val_main_v45, val_main_v46, val_main_v47, val_main_v48, val_main_v49]
  rfl

theorem ref7_at (a b d : FVec Ideal S2304x1024 .f32) (x : FVec Ideal S2304x13568 .f32) (q : Fin 1) (l : Fin 1024) :
    val_main_v32 (F := Ideal) a b x d (ix2 q l) = ∑ r : Fin 2304, dG (fun l => a (ix2 r l)) (fun l => b (ix2 r l)) (fun l => x (ix2 r ⟨4096 + l.val, by have := l.isLt; omega⟩)) (fun l => d (ix2 r l)) l := by
  pointwise [val_main_v0, val_main_v1, val_main_v2, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v20, val_main_call0_v0, val_main_call0_v1, val_main_call0_cst, val_main_call0_v2, val_main_call0_v3, val_main_call0_cst_0, val_main_call0_v4, val_main_v21_2, val_main_call0_cst_1, val_main_call0_v6, val_main_call0_v7, val_main_v21_1, val_main_v21_0, val_main_v22, val_main_v23, val_main_v24, val_main_call1_v0, val_main_call1_v1, val_main_call1_v2, val_main_v25, val_main_v26, val_main_cst_3, val_main_v27, val_main_v28, val_main_v29, val_main_v30, val_main_cst_4, val_main_v31, val_main_v32, val_main_v33, val_main_v34, val_main_cst_5, val_main_v35, val_main_v36, val_main_v37, val_main_v38, val_main_v39, val_main_cst_6, val_main_v40, val_main_v41, val_main_cst_7, val_main_v42, val_main_v43, val_main_v44, val_main_v45, val_main_v46, val_main_v47, val_main_v48, val_main_v49]
  simp only [Finset.univ_unique, Finset.sum_singleton]
  rfl

end Reference

theorem idx : ∀ t : Fin cfg0.N, win0_0.index t = ![t.val, 0] ∧ win0_1.index t = ![t.val, 0] ∧ win0_2.index t = ![t.val, 4]
    ∧ win0_3.index t = ![t.val, 0] ∧ win0_4.index t = ![0, 0] ∧ win0_5.index t = ![t.val, 0] ∧ win0_6.index t = ![t.val, 0]
    ∧ win0_7.index t = ![0, 0] :=
  (by decide +kernel : ∀ t : Fin grid0.N, _)

theorem X2_at (c : Dev nD) (t : Fin cfg0.N) (r : Fin 256) (l : Fin 1024) (p : Fin 2304) (q : Fin 13568) (hp : p.val = t.val * 256 + r.val) (hq : q.val = 4096 + l.val) :
    X0_2 m c t (ix2 r l) = (m ((c : Thread nD τ).loc main_arg2) : FVec Ideal S2304x13568 .f32) (ix2 p q) := by
  unfold X0_2 Pipeline.Window.fill
  rw [dif_pos (moved0_2 t _)]
  blk_ext! [iblk, V, idx t, hp, hq]

/-- Equal rows and channels give equal gradients. -/
theorem row_congr (f : Row → Row → Row → Row → Row → Fin 1024 → EReal) {a a' b b' z z' d d' g g' : Row} {l l' : Fin 1024} (ha : ∀ l, a l = a' l)
    (hb : ∀ l, b l = b' l) (hz : ∀ l, z l = z' l) (hd : ∀ l, d l = d' l) (hg : ∀ l, g l = g' l) (hl : l = l') :
    f a b z d g l = f a' b' z' d' g' l' := by
  obtain rfl : a = a' := funext ha
  obtain rfl : b = b' := funext hb
  obtain rfl : z = z' := funext hz
  obtain rfl : d = d' := funext hd
  obtain rfl : g = g' := funext hg
  subst hl
  rfl

/-- The three result arrays of whole-array arguments. -/
def out5 (a b d : FVec Ideal S2304x1024 .f32) (x : FVec Ideal S2304x13568 .f32) (g : FVec Ideal S1x1024 .f32) (r : Fin 2304) (l : Fin 1024) : EReal :=
  dO (fun l => a (ix2 r l)) (fun l => b (ix2 r l)) (fun l => x (ix2 r ⟨4096 + l.val, by have := l.isLt; omega⟩)) (fun l => d (ix2 r l)) (fun l => g (ix2 0 l)) l
def out6 (a b d : FVec Ideal S2304x1024 .f32) (x : FVec Ideal S2304x13568 .f32) (g : FVec Ideal S1x1024 .f32) (r : Fin 2304) (l : Fin 1024) : EReal :=
  dZ (fun l => a (ix2 r l)) (fun l => b (ix2 r l)) (fun l => x (ix2 r ⟨4096 + l.val, by have := l.isLt; omega⟩)) (fun l => d (ix2 r l)) (fun l => g (ix2 0 l)) l
def out7 (a b d : FVec Ideal S2304x1024 .f32) (x : FVec Ideal S2304x13568 .f32) (l : Fin 1024) (r : Fin 2304) : EReal :=
  dG (fun l => a (ix2 r l)) (fun l => b (ix2 r l)) (fun l => x (ix2 r ⟨4096 + l.val, by have := l.isLt; omega⟩)) (fun l => d (ix2 r l)) l

theorem final5 (c : Dev nD) : (dats m 0 c).arrAt 5 cfg0.N
    = (fun j => out5 (m ((c : Thread nD τ).loc main_arg0)) (m ((c : Thread nD τ).loc main_arg1)) (m ((c : Thread nD τ).loc main_arg4)) (m ((c : Thread nD τ).loc main_arg2)) (m ((c : Thread nD τ).loc main_arg3)) (j 0) (j 1) : FVec Ideal S2304x1024 .f32) := by
  refine (dats m 0 c).arrAt_eq_of_covers 5 _ (by decide +kernel) fun t _ y => ?_
  blk_simp
  rw [after0_5]
  by_cases h : t.val % 9 = 0
  all_goals first
    | rw [outsAt0_A m c t h]
    | rw [outsAt0_B m c t h]
  all_goals frame_out
  all_goals idx_vars y
  all_goals
    refine (pay1_at _ _ _ _ _ y0 y1).trans ?_
    unfold out5
    refine row_congr dO (fun l => ?_) (fun l => ?_) (fun l => ?_) (fun l => ?_) (fun l => ?_) ?_
    · blk_point [iblk, V, idx t]
    · blk_point [iblk, V, idx t]
    · exact X2_at m c t y0 l _ _ (by blk_simp [idx t]) rfl
    · blk_point [iblk, V, idx t]
    · blk_point [iblk, V, idx t]
    · apply Fin.ext
      blk_simp [idx t]

theorem final6 (c : Dev nD) : (dats m 0 c).arrAt 6 cfg0.N
    = (fun j => out6 (m ((c : Thread nD τ).loc main_arg0)) (m ((c : Thread nD τ).loc main_arg1)) (m ((c : Thread nD τ).loc main_arg4)) (m ((c : Thread nD τ).loc main_arg2)) (m ((c : Thread nD τ).loc main_arg3)) (j 0) (j 1) : FVec Ideal S2304x1024 .bf16) := by
  refine (dats m 0 c).arrAt_eq_of_covers 6 _ (by decide +kernel) fun t _ y => ?_
  blk_simp
  rw [after0_6]
  by_cases h : t.val % 9 = 0
  all_goals first
    | rw [outsAt0_A m c t h]
    | rw [outsAt0_B m c t h]
  all_goals frame_out
  all_goals idx_vars y
  all_goals
    refine (pay2_at _ _ _ _ _ y0 y1).trans ?_
    unfold out6
    refine row_congr dZ (fun l => ?_) (fun l => ?_) (fun l => ?_) (fun l => ?_) (fun l => ?_) ?_
    · blk_point [iblk, V, idx t]
    · blk_point [iblk, V, idx t]
    · exact X2_at m c t y0 l _ _ (by blk_simp [idx t]) rfl
    · blk_point [iblk, V, idx t]
    · blk_point [iblk, V, idx t]
    · apply Fin.ext
      blk_simp [idx t]

/-- A tile's part of the gain's gradient. -/
def part (c : Dev nD) (t : Fin cfg0.N) (l : Fin 1024) : EReal :=
  ∑ r : Fin 256, dG (fun l => iblk m c 0 t (ix2 r l)) (fun l => iblk m c 1 t (ix2 r l)) (fun l => X0_2 m c t (ix2 r l)) (fun l => iblk m c 3 t (ix2 r l)) l

theorem final7 (c : Dev nD) : (dats m 0 c).arrAt 7 cfg0.N
    = (fun j => ∑ r : Fin 2304, out7 (m ((c : Thread nD τ).loc main_arg0)) (m ((c : Thread nD τ).loc main_arg1)) (m ((c : Thread nD τ).loc main_arg4)) (m ((c : Thread nD τ).loc main_arg2)) (j 1) r : FVec Ideal S1x1024 .f32) := by
  refine (dats m 0 c).arrAt_eq_of_after_last 7 t0_8 (by decide +kernel) _ fun j => ?_
  blk_simp
  idx_vars j
  rw [after0_7, Pipeline.eq_sum_fin_of_reset_step_apply_last (fun n h => (outsAt0 m c n h).2.2) 9 (fun _ => 0) (fun t j => part m c t (j 1))
    (fun t h j => by
      rw [outsAt0_A m c t h]; frame_out; idx_vars j
      refine (pay4_at _ _ _ _ _ j0 j1).trans ?_
      rw [pay3_at]; rfl)
    (fun t h j => by
      rw [outsAt0_B m c t h]; frame_out; idx_vars j
      exact pay4_at _ _ _ _ _ j0 j1)
    (le_of_eq N_0) t0_8 rfl _, zero_add]
  refine Eq.trans (α := EReal) ?_ (Fin.sum_univ_tiles (M := EReal) 9 256 rfl _).symm
  refine Fin.sum_fin_congr fun t => Fin.sum_fin_congr fun k => ?_
  unfold out7
  refine row_congr (fun a b z d _ => dG a b z d) (g := fun _ => 0) (g' := fun _ => 0) (fun l => ?_) (fun l => ?_) (fun l => ?_) (fun l => ?_) (fun l => rfl) ?_
  · blk_point [iblk, V, idx t]
  · blk_point [iblk, V, idx t]
  · exact X2_at m c t k l _ _ (by blk_simp [idx t]) rfl
  · blk_point [iblk, V, idx t]
  · apply Fin.ext
    blk_simp [idx t]

end Cert.HgPostBwdIdeal.RefValue

namespace Cert.Proof.HgPostBwd

open Cert.HgPostBwdIdeal.RefValue

theorem frame_p : Cert.quiescent_HgPostBwd := fun m ρ _ => Cert.HgPostBwd.Gen.frame m ρ
theorem frame_pi : Cert.quiescent_HgPostBwdIdeal := fun m ρ _ => Cert.HgPostBwdIdeal.Gen.frame m ρ
theorem frame_ri : Cert.quiescent_HgPostBwdRefIdeal := fun m ρ _ =>
  (θ_run Cert.HgPostBwdRefIdeal.defs _ _).mono (fun r h => ⟨fun c => (h c).2.2.2,
      Idealize.ShloMosaic.sem_eq_zero_of_no_sems (by decide) r.2⟩)
    (Cert.HgPostBwdRefIdeal.Value.run (F := Ideal) m ρ)

variable (m : (ℓ : Loc Cert.HgPostBwdIdeal.nD Cert.HgPostBwdIdeal.τ Cert.HgPostBwdIdeal.sig) → Buf (Elt Ideal) ℓ) (c : Dev Cert.HgPostBwdIdeal.nD)

theorem ref5 (x0 : FVec Ideal Cert.HgPostBwdIdeal.S2304x1024 .f32) (x1 : FVec Ideal Cert.HgPostBwdIdeal.S2304x1024 .f32) (x2 : FVec Ideal Cert.HgPostBwdIdeal.S2304x13568 .f32) (x3 : FVec Ideal Cert.HgPostBwdIdeal.S1x1024 .f32) (x4 : FVec Ideal Cert.HgPostBwdIdeal.S2304x1024 .f32)
    (e0 : x0 = m (c.tc.loc Cert.HgPostBwdIdeal.main_arg0)) (e1 : x1 = m (c.tc.loc Cert.HgPostBwdIdeal.main_arg1)) (e2 : x2 = m (c.tc.loc Cert.HgPostBwdIdeal.main_arg2)) (e3 : x3 = m (c.tc.loc Cert.HgPostBwdIdeal.main_arg3)) (e4 : x4 = m (c.tc.loc Cert.HgPostBwdIdeal.main_arg4)) :
    Cert.HgPostBwdRefIdeal.Read.val_main_v48 (F := Ideal) x0 x1 x2 x3 x4
      = (fun j => out5 (m (c.tc.loc Cert.HgPostBwdIdeal.main_arg0)) (m (c.tc.loc Cert.HgPostBwdIdeal.main_arg1)) (m (c.tc.loc Cert.HgPostBwdIdeal.main_arg4)) (m (c.tc.loc Cert.HgPostBwdIdeal.main_arg2)) (m (c.tc.loc Cert.HgPostBwdIdeal.main_arg3)) (j 0) (j 1) : FVec Ideal Cert.HgPostBwdIdeal.S2304x1024 .f32) := by
  subst e0 e1 e2 e3 e4
  funext j
  idx_vars j
  exact ref5_at _ _ _ _ _ j0 j1

theorem ref6 (x0 : FVec Ideal Cert.HgPostBwdIdeal.S2304x1024 .f32) (x1 : FVec Ideal Cert.HgPostBwdIdeal.S2304x1024 .f32) (x2 : FVec Ideal Cert.HgPostBwdIdeal.S2304x13568 .f32) (x3 : FVec Ideal Cert.HgPostBwdIdeal.S1x1024 .f32) (x4 : FVec Ideal Cert.HgPostBwdIdeal.S2304x1024 .f32)
    (e0 : x0 = m (c.tc.loc Cert.HgPostBwdIdeal.main_arg0)) (e1 : x1 = m (c.tc.loc Cert.HgPostBwdIdeal.main_arg1)) (e2 : x2 = m (c.tc.loc Cert.HgPostBwdIdeal.main_arg2)) (e3 : x3 = m (c.tc.loc Cert.HgPostBwdIdeal.main_arg3)) (e4 : x4 = m (c.tc.loc Cert.HgPostBwdIdeal.main_arg4)) :
    Cert.HgPostBwdRefIdeal.Read.val_main_v49 (F := Ideal) x0 x1 x2 x3 x4
      = (fun j => out6 (m (c.tc.loc Cert.HgPostBwdIdeal.main_arg0)) (m (c.tc.loc Cert.HgPostBwdIdeal.main_arg1)) (m (c.tc.loc Cert.HgPostBwdIdeal.main_arg4)) (m (c.tc.loc Cert.HgPostBwdIdeal.main_arg2)) (m (c.tc.loc Cert.HgPostBwdIdeal.main_arg3)) (j 0) (j 1) : FVec Ideal Cert.HgPostBwdIdeal.S2304x1024 .bf16) := by
  subst e0 e1 e2 e3 e4
  funext j
  idx_vars j
  exact ref6_at _ _ _ _ _ j0 j1

theorem ref7 (x0 : FVec Ideal Cert.HgPostBwdIdeal.S2304x1024 .f32) (x1 : FVec Ideal Cert.HgPostBwdIdeal.S2304x1024 .f32) (x2 : FVec Ideal Cert.HgPostBwdIdeal.S2304x13568 .f32) (x4 : FVec Ideal Cert.HgPostBwdIdeal.S2304x1024 .f32)
    (e0 : x0 = m (c.tc.loc Cert.HgPostBwdIdeal.main_arg0)) (e1 : x1 = m (c.tc.loc Cert.HgPostBwdIdeal.main_arg1)) (e2 : x2 = m (c.tc.loc Cert.HgPostBwdIdeal.main_arg2)) (e4 : x4 = m (c.tc.loc Cert.HgPostBwdIdeal.main_arg4)) :
    Cert.HgPostBwdRefIdeal.Read.val_main_v32 (F := Ideal) x0 x1 x2 x4
      = (fun j => ∑ r : Fin 2304, out7 (m (c.tc.loc Cert.HgPostBwdIdeal.main_arg0)) (m (c.tc.loc Cert.HgPostBwdIdeal.main_arg1)) (m (c.tc.loc Cert.HgPostBwdIdeal.main_arg4)) (m (c.tc.loc Cert.HgPostBwdIdeal.main_arg2)) (j 1) r : FVec Ideal Cert.HgPostBwdIdeal.S1x1024 .f32) := by
  subst e0 e1 e2 e4
  funext j
  idx_vars j
  exact ref7_at _ _ _ _ j0 j1

/-- The kernel's three gradients are the reference's. -/
theorem algebraic : Cert.algebraic_HgPostBwdIdeal_HgPostBwdRefIdeal := by
  pair_intro
  · run_from Cert.HgPostBwdIdeal.Gen.run_main m g
  · run_from Cert.HgPostBwdRefIdeal.Value.run m' g'
    · rw [Cert.HgPostBwdRefIdeal.Read.val_main_v48_eq, final5 m c]
      refine ref5 m c _ _ _ _ _ ?_ ?_ ?_ ?_ ?_
      all_goals first
        | exact (hagree c).1
        | exact (hagree c).2.1
        | exact (hagree c).2.2.1
        | exact (hagree c).2.2.2.1
        | exact (hagree c).2.2.2.2
        | rfl
    · rw [Cert.HgPostBwdRefIdeal.Read.val_main_v49_eq, final6 m c]
      refine ref6 m c _ _ _ _ _ ?_ ?_ ?_ ?_ ?_
      all_goals first
        | exact (hagree c).1
        | exact (hagree c).2.1
        | exact (hagree c).2.2.1
        | exact (hagree c).2.2.2.1
        | exact (hagree c).2.2.2.2
        | rfl
    · rw [Cert.HgPostBwdRefIdeal.Read.val_main_v32_eq, final7 m c]
      refine ref7 m c _ _ _ _ ?_ ?_ ?_ ?_
      all_goals first
        | exact (hagree c).1
        | exact (hagree c).2.1
        | exact (hagree c).2.2.1
        | exact (hagree c).2.2.2.1
        | exact (hagree c).2.2.2.2
        | rfl

end Cert.Proof.HgPostBwd

end
-- ==== Proof.FinalSpec.lean ====
/-
  The loss of one row of 2048 channels and its gradients: the row `x + gate · o` is normalised by its root mean square,
  scaled by a gain and compared with the target.
-/
module

public import Idealize.ShloMosaic.Lib.Pointwise

@[expose] public section

noncomputable section

open Idealize.ShloMosaic

namespace Cert.FinalSpec

/-- A row of 2048 channels. -/
abbrev Row := Fin 2048 → EReal

/-- The normalised row's input. -/
def inp (x o a : Row) (l : Fin 2048) : EReal := x l + a l * o l

/-- A row's mean square with the rounding term. -/
def ms (s : Row) : EReal := Ideal.div (∑ l : Fin 2048, s l * s l) (Ideal.ofBits .f32 1157627904#32) + Ideal.ofBits .f32 897988541#32

/-- The normalised row. -/
def nrm (s : Row) (l : Fin 2048) : EReal := s l * Ideal.rsqrt (ms s)

/-- The distance from the target. -/
def res (s g t : Row) (l : Fin 2048) : EReal := nrm s l * g l - t l

/-- The row's loss, still to be halved. -/
def loss (x o a g t : Row) : EReal :=
  Ideal.div (∑ l : Fin 2048, res (inp x o a) g t l * res (inp x o a) g t l) (Ideal.ofBits .f32 1157627904#32)

/-- The loss's gradient at the scaled row. -/
def dY (s g t : Row) (l : Fin 2048) : EReal :=
  Ideal.div (Ideal.ofBits .f32 1056964608#32) (Ideal.ofBits .f32 1157627904#32)
    * (Ideal.ofBits .f32 1073741824#32 * res s g t l)

/-- The row's common term of the normalisation's gradient, of a cotangent `w` of the normalised row. -/
def common (s w : Row) : EReal :=
  Ideal.div ((∑ l : Fin 2048, s l * w l)
    * (Ideal.ofBits .f32 3204448256#32 * Ideal.div (Ideal.rsqrt (ms s)) (ms s))) (Ideal.ofBits .f32 1157627904#32)

/-- The normalisation's gradient. -/
def dNorm (s w : Row) (l : Fin 2048) : EReal := w l * Ideal.rsqrt (ms s) + s l * common s w + common s w * s l

/-- The gradient of the row `x`. -/
def dX (x o a g t : Row) (l : Fin 2048) : EReal := dNorm (inp x o a) (fun l => dY (inp x o a) g t l * g l) l

/-- The gradient of the row `o`. -/
def dO (x o a g t : Row) (l : Fin 2048) : EReal := a l * dX x o a g t l

/-- The row's part of the gate's gradient. -/
def dA (x o a g t : Row) (l : Fin 2048) : EReal := dX x o a g t l * o l

/-- The row's part of the gain's gradient. -/
def dG (x o a g t : Row) (l : Fin 2048) : EReal := nrm (inp x o a) l * dY (inp x o a) g t l

/-- Equal rows and channels give equal values. -/
theorem row_congr (f : Row → Row → Row → Row → Row → Fin 2048 → EReal) {x x' o o' a a' g g' t t' : Row} {l l' : Fin 2048}
    (hx : ∀ l, x l = x' l) (ho : ∀ l, o l = o' l) (ha : ∀ l, a l = a' l) (hg : ∀ l, g l = g' l) (ht : ∀ l, t l = t' l) (hl : l = l') :
    f x o a g t l = f x' o' a' g' t' l' := by
  obtain rfl : x = x' := funext hx
  obtain rfl : o = o' := funext ho
  obtain rfl : a = a' := funext ha
  obtain rfl : g = g' := funext hg
  obtain rfl : t = t' := funext ht
  subst hl
  rfl

/-- A half of a sum is the sum of the halves. -/
theorem half_sum {n : Nat} (f : Fin n → EReal) :
    Ideal.ofBits .f32 1056964608#32 * ∑ i, f i = ∑ i, Ideal.ofBits .f32 1056964608#32 * f i := by
  have e : Ideal.ofBits .f32 1056964608#32 = ((1 / 2 : ℝ) : EReal) := by
    simp [Ideal.ofBits, Ideal.ieee, -EReal.coe_mul]
    norm_num
  rw [e]
  induction n with
  | zero => simp
  | succ n ih =>
    rw [Fin.sum_univ_succ, Fin.sum_univ_succ, ← ih]
    exact EReal.left_distrib_of_nonneg_of_ne_top (EReal.coe_nonneg.mpr (by norm_num)) (EReal.coe_ne_top _) _ _

/-- A choice by a set word. -/
theorem sel1 {α : Type} (a b : α) : Scalar.select 1#1 a b = a := if_pos rfl

/-- A choice by a clear word. -/
theorem sel0 {α : Type} (a b : α) : Scalar.select 0#1 a b = b := if_neg (by decide)

/-- Nine tiles of 256 rows, the first of which gives nothing, sum the other eight's 2048 rows. -/
theorem sum_live (f : Fin 9 → EReal) (F : Fin 2048 → EReal) (h0 : f 0 = 0)
    (h : ∀ t : Fin 8, f t.succ = ∑ k : Fin 256, F ⟨t.val * 256 + k.val, by have := t.isLt; have := k.isLt; omega⟩) :
    ∑ t, f t = ∑ r, F r := by
  rw [Fin.sum_univ_succ, h0, zero_add, Fin.sum_univ_tiles (M := EReal) 8 256 rfl F]
  exact Finset.sum_congr rfl fun t _ => h t

end Cert.FinalSpec

end
-- ==== Proof.Final.lean ====
module

public import proofs.«01_k».proof.Defs
public import proofs.«01_k».proof.Proof.Gen.Final.Frame
public import proofs.«01_k».proof.Proof.Gen.FinalIdeal.Frame
public import proofs.«01_k».proof.Proof.Gen.FinalRefIdeal.Run
public import proofs.«01_k».proof.Proof.Gen.FinalRefIdeal.Read
public import proofs.«01_k».proof.Proof.FinalSpec
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FinalIdeal.RefValue

open Cert.FinalIdeal Cert.FinalIdeal.Gen
open Cert.FinalSpec

variable (m : (ℓ : Loc nD τ sig) → Buf (Elt Ideal) ℓ)

theorem pay2_at (M : FVec Ideal S8x3x2048 .f32) (q : Fin 1) (l : Fin 2048) : k0_pay2 (F := Ideal) M (ix2 q l) = M (ix3 0 2 l) := by
  pointwise [k0_pay2]

theorem pay19_at (q : Fin 8) (l : Fin 128) : k0_pay19 (F := Ideal) (ix2 q l) = 0 := by
  pointwise [k0_pay19]

theorem pay21_at (q : Fin 8) (l : Fin 6144) : k0_pay21 (F := Ideal) (ix2 q l) = 0 := by
  pointwise [k0_pay21]

theorem pay23_at (q : Fin 1) (l : Fin 2048) : k0_pay23 (F := Ideal) (ix2 q l) = 0 := by
  pointwise [k0_pay23]

theorem pay13_at (x o t : FVec Ideal S256x2048 .f32) (M : FVec Ideal S8x3x2048 .f32) (g : FVec Ideal S1x2048 .f32) (r : Fin 256) (l : Fin 2048) :
    k0_pay13 (F := Ideal) (k0_pay1 g) (k0_pay3 x o M) (k0_pay5 x o M) (k0_pay6 x o M) (k0_pay9 x o t M g) (ix2 r l)
      = dX (fun l => x (ix2 r l)) (fun l => o (ix2 r l)) (fun l => M (ix3 0 2 l)) (fun l => g (ix2 0 l)) (fun l => t (ix2 r l)) l := by
  pointwise [k0_pay1, k0_pay2, k0_pay3, k0_pay4, k0_pay5, k0_pay6, k0_pay7, k0_pay8, k0_pay9, k0_pay10, k0_pay11, k0_pay12, k0_pay13, k0_pay18, k0_pay19, k0_pay20, k0_pay21, k0_pay22, k0_pay23, k0_pay24]
  try simp only [Finset.univ_unique, Finset.sum_singleton]
  rfl

theorem pay12_at (x o t : FVec Ideal S256x2048 .f32) (M : FVec Ideal S8x3x2048 .f32) (g : FVec Ideal S1x2048 .f32) (q : Fin 1) (l : Fin 2048) :
    k0_pay12 (F := Ideal) (k0_pay7 x o M) (k0_pay9 x o t M g) (ix2 q l) = ∑ r : Fin 256, dG (fun l => x (ix2 r l)) (fun l => o (ix2 r l)) (fun l => M (ix3 0 2 l)) (fun l => g (ix2 0 l)) (fun l => t (ix2 r l)) l := by
  pointwise [k0_pay1, k0_pay2, k0_pay3, k0_pay4, k0_pay5, k0_pay6, k0_pay7, k0_pay8, k0_pay9, k0_pay10, k0_pay11, k0_pay12, k0_pay13, k0_pay18, k0_pay19, k0_pay20, k0_pay21, k0_pay22, k0_pay23, k0_pay24]
  try simp only [Finset.univ_unique, Finset.sum_singleton]
  rfl

theorem pay10_at (x o t : FVec Ideal S256x2048 .f32) (M : FVec Ideal S8x3x2048 .f32) (g : FVec Ideal S1x2048 .f32) :
    k0_pay10 (F := Ideal) x o t M g = ∑ r : Fin 256, loss (fun l => x (ix2 r l)) (fun l => o (ix2 r l)) (fun l => M (ix3 0 2 l)) (fun l => g (ix2 0 l)) (fun l => t (ix2 r l)) := by
  pointwise [k0_pay1, k0_pay2, k0_pay3, k0_pay4, k0_pay5, k0_pay6, k0_pay7, k0_pay8, k0_pay9, k0_pay10, k0_pay11, k0_pay12, k0_pay13, k0_pay18, k0_pay19, k0_pay20, k0_pay21, k0_pay22, k0_pay23, k0_pay24]
  try simp only [Finset.univ_unique, Finset.sum_singleton]
  rfl

section Reference
open Cert.FinalRefIdeal.Read

theorem ref57_at (x : FVec Ideal S2048x2048 .f32) (o : FVec Ideal S2304x2048 .f32) (M : FVec Ideal S8x6144 .f32) (g : FVec Ideal S2048 .f32) (t : FVec Ideal S2048x2048 .f32) (r : Fin 2048) (l : Fin 2048) :
    val_main_v57 (F := Ideal) x o M g t (ix2 r l) = dX (fun l => x (ix2 r l)) (fun l => o (ix2 ⟨256 + r.val, by have := r.isLt; omega⟩ l)) (fun l => M (ix2 0 ⟨4096 + l.val, by have := l.isLt; omega⟩)) (fun l => g (ix1 l)) (fun l => t (ix2 r l)) l := by
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_cst_2, val_main_v16, val_main_v17, val_main_v18, val_main_v19, val_main_v20, val_main_v21, val_main_v22, val_main_v23, val_main_v24, val_main_cst_3, val_main_v25, val_main_v26, val_main_cst_4, val_main_v27, val_main_cst_5, val_main_v28, val_main_v29, val_main_cst_6, val_main_v30, val_main_cst_7, val_main_v31, val_main_cst_8, val_main_cst_9, val_main_v32, val_main_v33, val_main_cst_10, val_main_v34, val_main_v35, val_main_v36, val_main_v37, val_main_v38, val_main_cst_11, val_main_v39, val_main_v40, val_main_v41, val_main_v42, val_main_cst_12, val_main_v43, val_main_v44, val_main_cst_13, val_main_v45, val_main_v46, val_main_v47, val_main_v48, val_main_v49, val_main_cst_14, val_main_v50, val_main_v51, val_main_cst_15, val_main_v52, val_main_v53, val_main_v54, val_main_v55, val_main_v56, val_main_v57, val_main_v58, val_main_v59, val_main_v60, val_main_cst_16, val_main_v61, val_main_v62, val_main_cst_17, val_main_v63, val_main_cst_18, val_main_v64, val_main_v65, val_main_cst_19, val_main_v66, val_main_cst_20, val_main_v67, val_main_v68, val_main_v69, val_main_v70, val_main_v71]
  try simp only [Finset.univ_unique, Finset.sum_singleton]
  rfl

theorem ref68_at (x : FVec Ideal S2048x2048 .f32) (o : FVec Ideal S2304x2048 .f32) (M : FVec Ideal S8x6144 .f32) (g : FVec Ideal S2048 .f32) (t : FVec Ideal S2048x2048 .f32) (r : Fin 2304) (l : Fin 2048) :
    val_main_v68 (F := Ideal) x o M g t (ix2 r l) = if h : r.val < 256 then 0 else
      (fun r : Fin 2048 => dX (fun l => x (ix2 r l)) (fun l => o (ix2 ⟨256 + r.val, by have := r.isLt; omega⟩ l)) (fun l => M (ix2 0 ⟨4096 + l.val, by have := l.isLt; omega⟩)) (fun l => g (ix1 l)) (fun l => t (ix2 r l)) l) ⟨r.val - 256, by have := r.isLt; omega⟩ := by
  by_cases h : r.val < 256
  · rw [dif_pos h]
    pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_cst_2, val_main_v16, val_main_v17, val_main_v18, val_main_v19, val_main_v20, val_main_v21, val_main_v22, val_main_v23, val_main_v24, val_main_cst_3, val_main_v25, val_main_v26, val_main_cst_4, val_main_v27, val_main_cst_5, val_main_v28, val_main_v29, val_main_cst_6, val_main_v30, val_main_cst_7, val_main_v31, val_main_cst_8, val_main_cst_9, val_main_v32, val_main_v33, val_main_cst_10, val_main_v34, val_main_v35, val_main_v36, val_main_v37, val_main_v38, val_main_cst_11, val_main_v39, val_main_v40, val_main_v41, val_main_v42, val_main_cst_12, val_main_v43, val_main_v44, val_main_cst_13, val_main_v45, val_main_v46, val_main_v47, val_main_v48, val_main_v49, val_main_cst_14, val_main_v50, val_main_v51, val_main_cst_15, val_main_v52, val_main_v53, val_main_v54, val_main_v55, val_main_v56, val_main_v57, val_main_v58, val_main_v59, val_main_v60, val_main_cst_16, val_main_v61, val_main_v62, val_main_cst_17, val_main_v63, val_main_cst_18, val_main_v64, val_main_v65, val_main_cst_19, val_main_v66, val_main_cst_20, val_main_v67, val_main_v68, val_main_v69, val_main_v70, val_main_v71, h]
  · rw [dif_neg h]
    refine Eq.trans ?_ (ref57_at x o M g t _ l)
    unfold val_main_v68
    pointwise [h]

theorem ref69_at (x : FVec Ideal S2048x2048 .f32) (o : FVec Ideal S2304x2048 .f32) (M : FVec Ideal S8x6144 .f32) (g : FVec Ideal S2048 .f32) (t : FVec Ideal S2048x2048 .f32) (r : Fin 2304) (l : Fin 2048) :
    val_main_v69 (F := Ideal) x o M g t (ix2 r l) = if h : r.val < 256 then 0 else
      (fun r : Fin 2048 => dO (fun l => x (ix2 r l)) (fun l => o (ix2 ⟨256 + r.val, by have := r.isLt; omega⟩ l)) (fun l => M (ix2 0 ⟨4096 + l.val, by have := l.isLt; omega⟩)) (fun l => g (ix1 l)) (fun l => t (ix2 r l)) l) ⟨r.val - 256, by have := r.isLt; omega⟩ := by
  by_cases h : r.val < 256
  · rw [dif_pos h]
    pointwise [val_main_v69, val_main_v64, val_main_cst_18, h]
    rw [dif_neg (by omega)]
  · rw [dif_neg h]
    have e := ref57_at x o M g t ⟨r.val - 256, by have := r.isLt; omega⟩ l
    unfold val_main_v69 val_main_v64 val_main_v59
    generalize val_main_v57 (F := Ideal) x o M g t = y at e
    pointwise [val_main_v58, val_main_v3, val_main_v1, val_main_v0, h]
    rw [dif_pos ⟨by omega, by have := r.isLt; omega⟩, e]
    rfl

theorem ref70_at (x : FVec Ideal S2048x2048 .f32) (o : FVec Ideal S2304x2048 .f32) (M : FVec Ideal S8x6144 .f32) (g : FVec Ideal S2048 .f32) (t : FVec Ideal S2048x2048 .f32) (p : Fin 8) (l : Fin 128) :
    val_main_v70 (F := Ideal) x o M g t (ix2 p l) = Ideal.ofBits .f32 1056964608#32 * ∑ r : Fin 2048, loss (fun l => x (ix2 r l)) (fun l => o (ix2 ⟨256 + r.val, by have := r.isLt; omega⟩ l)) (fun l => M (ix2 0 ⟨4096 + l.val, by have := l.isLt; omega⟩)) (fun l => g (ix1 l)) (fun l => t (ix2 r l)) := by
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_cst_2, val_main_v16, val_main_v17, val_main_v18, val_main_v19, val_main_v20, val_main_v21, val_main_v22, val_main_v23, val_main_v24, val_main_cst_3, val_main_v25, val_main_v26, val_main_cst_4, val_main_v27, val_main_cst_5, val_main_v28, val_main_v29, val_main_cst_6, val_main_v30, val_main_cst_7, val_main_v31, val_main_cst_8, val_main_cst_9, val_main_v32, val_main_v33, val_main_cst_10, val_main_v34, val_main_v35, val_main_v36, val_main_v37, val_main_v38, val_main_cst_11, val_main_v39, val_main_v40, val_main_v41, val_main_v42, val_main_cst_12, val_main_v43, val_main_v44, val_main_cst_13, val_main_v45, val_main_v46, val_main_v47, val_main_v48, val_main_v49, val_main_cst_14, val_main_v50, val_main_v51, val_main_cst_15, val_main_v52, val_main_v53, val_main_v54, val_main_v55, val_main_v56, val_main_v57, val_main_v58, val_main_v59, val_main_v60, val_main_cst_16, val_main_v61, val_main_v62, val_main_cst_17, val_main_v63, val_main_cst_18, val_main_v64, val_main_v65, val_main_cst_19, val_main_v66, val_main_cst_20, val_main_v67, val_main_v68, val_main_v69, val_main_v70, val_main_v71]
  try simp only [Finset.univ_unique, Finset.sum_singleton]
  rfl

theorem ref71_at (x : FVec Ideal S2048x2048 .f32) (o : FVec Ideal S2304x2048 .f32) (M : FVec Ideal S8x6144 .f32) (g : FVec Ideal S2048 .f32) (t : FVec Ideal S2048x2048 .f32) (q : Fin 1) (l : Fin 2048) :
    val_main_v71 (F := Ideal) x o M g t (ix2 q l) = ∑ r : Fin 2048, dG (fun l => x (ix2 r l)) (fun l => o (ix2 ⟨256 + r.val, by have := r.isLt; omega⟩ l)) (fun l => M (ix2 0 ⟨4096 + l.val, by have := l.isLt; omega⟩)) (fun l => g (ix1 l)) (fun l => t (ix2 r l)) l := by
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_cst_2, val_main_v16, val_main_v17, val_main_v18, val_main_v19, val_main_v20, val_main_v21, val_main_v22, val_main_v23, val_main_v24, val_main_cst_3, val_main_v25, val_main_v26, val_main_cst_4, val_main_v27, val_main_cst_5, val_main_v28, val_main_v29, val_main_cst_6, val_main_v30, val_main_cst_7, val_main_v31, val_main_cst_8, val_main_cst_9, val_main_v32, val_main_v33, val_main_cst_10, val_main_v34, val_main_v35, val_main_v36, val_main_v37, val_main_v38, val_main_cst_11, val_main_v39, val_main_v40, val_main_v41, val_main_v42, val_main_cst_12, val_main_v43, val_main_v44, val_main_cst_13, val_main_v45, val_main_v46, val_main_v47, val_main_v48, val_main_v49, val_main_cst_14, val_main_v50, val_main_v51, val_main_cst_15, val_main_v52, val_main_v53, val_main_v54, val_main_v55, val_main_v56, val_main_v57, val_main_v58, val_main_v59, val_main_v60, val_main_cst_16, val_main_v61, val_main_v62, val_main_cst_17, val_main_v63, val_main_cst_18, val_main_v64, val_main_v65, val_main_cst_19, val_main_v66, val_main_cst_20, val_main_v67, val_main_v68, val_main_v69, val_main_v70, val_main_v71]
  try simp only [Finset.univ_unique, Finset.sum_singleton]
  rfl

theorem ref63_at (x : FVec Ideal S2048x2048 .f32) (o : FVec Ideal S2304x2048 .f32) (M : FVec Ideal S8x6144 .f32) (g : FVec Ideal S2048 .f32) (t : FVec Ideal S2048x2048 .f32) (l : Fin 2048) :
    val_main_v63 (F := Ideal) x o M g t (ix1 l) = ∑ r : Fin 2048, dA (fun l => x (ix2 r l)) (fun l => o (ix2 ⟨256 + r.val, by have := r.isLt; omega⟩ l)) (fun l => M (ix2 0 ⟨4096 + l.val, by have := l.isLt; omega⟩)) (fun l => g (ix1 l)) (fun l => t (ix2 r l)) l := by
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_cst_2, val_main_v16, val_main_v17, val_main_v18, val_main_v19, val_main_v20, val_main_v21, val_main_v22, val_main_v23, val_main_v24, val_main_cst_3, val_main_v25, val_main_v26, val_main_cst_4, val_main_v27, val_main_cst_5, val_main_v28, val_main_v29, val_main_cst_6, val_main_v30, val_main_cst_7, val_main_v31, val_main_cst_8, val_main_cst_9, val_main_v32, val_main_v33, val_main_cst_10, val_main_v34, val_main_v35, val_main_v36, val_main_v37, val_main_v38, val_main_cst_11, val_main_v39, val_main_v40, val_main_v41, val_main_v42, val_main_cst_12, val_main_v43, val_main_v44, val_main_cst_13, val_main_v45, val_main_v46, val_main_v47, val_main_v48, val_main_v49, val_main_cst_14, val_main_v50, val_main_v51, val_main_cst_15, val_main_v52, val_main_v53, val_main_v54, val_main_v55, val_main_v56, val_main_v57, val_main_v58, val_main_v59, val_main_v60, val_main_cst_16, val_main_v61, val_main_v62, val_main_cst_17, val_main_v63, val_main_cst_18, val_main_v64, val_main_v65, val_main_cst_19, val_main_v66, val_main_cst_20, val_main_v67, val_main_v68, val_main_v69, val_main_v70, val_main_v71]
  try simp only [Finset.univ_unique, Finset.sum_singleton]
  rfl

theorem ref66_at (x : FVec Ideal S2048x2048 .f32) (o : FVec Ideal S2304x2048 .f32) (M : FVec Ideal S8x6144 .f32) (g : FVec Ideal S2048 .f32) (t : FVec Ideal S2048x2048 .f32) (q : Fin 8) (l : Fin 6144) :
    val_main_v66 (F := Ideal) x o M g t (ix2 q l) = if h : q.val < 1 ∧ 4096 ≤ l.val then
      ∑ r : Fin 2048, (fun l => dA (fun l => x (ix2 r l)) (fun l => o (ix2 ⟨256 + r.val, by have := r.isLt; omega⟩ l)) (fun l => M (ix2 0 ⟨4096 + l.val, by have := l.isLt; omega⟩)) (fun l => g (ix1 l)) (fun l => t (ix2 r l)) l) ⟨l.val - 4096, by have := l.isLt; omega⟩ else 0 := by
  unfold val_main_v66
  unfold val_main_v65
  have e := ref63_at x o M g t
  generalize val_main_v63 (F := Ideal) x o M g t = y at e
  pointwise [val_main_cst_19]
  by_cases h : q.val < 1 ∧ 4096 ≤ l.val
  · rw [dif_pos ⟨h.1, h.2, by have := l.isLt; omega⟩, dif_pos h, e]
  · rw [dif_neg (fun h' => h ⟨h'.1, h'.2.1⟩), dif_neg h]

end Reference

/-- The words that say whether a tile holds image rows: all but the first. -/
theorem live : ∀ t : Fin cfg0.N, Scalar.cmpi .sge (BitVec.ofNat 32 (grid0.coords t 0).val) 1#32 = if t.val % 9 = 0 then 0#1 else 1#1 :=
  (by decide +kernel : ∀ t : Fin grid0.N, _)

section Pays
variable (w : BitVec 32) (v6 v9 : FVec Ideal S1x2048 .f32) (v1 v12 v31 : FVec Ideal S256x2048 .f32) (v20 v23 : FVec Ideal S256x1 .f32)

theorem pay15_dead (h : Scalar.cmpi .sge w 1#32 = 0#1) (r : Fin 256) (l : Fin 2048) : k0_pay15 (F := Ideal) w v6 v12 v20 v23 v31 (ix2 r l) = 0 := by
  unfold k0_pay15
  simp only [h, sel0]
  pointwise

theorem pay15_live (h : Scalar.cmpi .sge w 1#32 = 1#1) (r : Fin 256) (l : Fin 2048) :
    k0_pay15 (F := Ideal) w v6 v12 v20 v23 v31 (ix2 r l) = k0_pay13 (F := Ideal) v6 v12 v20 v23 v31 (ix2 r l) := by
  unfold k0_pay15
  simp only [h, sel1]

theorem pay16_dead (h : Scalar.cmpi .sge w 1#32 = 0#1) (r : Fin 256) (l : Fin 2048) :
    k0_pay18 (F := Ideal) (k0_pay16 w v6 v9 v12 v20 v23 v31) (ix2 r l) = 0 := by
  unfold k0_pay16
  simp only [h, sel0]
  pointwise [k0_pay18]

theorem pay16_live (h : Scalar.cmpi .sge w 1#32 = 1#1) (r : Fin 256) (l : Fin 2048) :
    k0_pay18 (F := Ideal) (k0_pay16 w v6 v9 v12 v20 v23 v31) (ix2 r l) = v9 (ix2 0 l) * k0_pay13 (F := Ideal) v6 v12 v20 v23 v31 (ix2 r l) := by
  unfold k0_pay16
  simp only [h, sel1]
  generalize k0_pay13 (F := Ideal) v6 v12 v20 v23 v31 = y
  pointwise [k0_pay18]

theorem pay20_dead (h : Scalar.cmpi .sge w 1#32 = 0#1) (a b : EReal) (v : FVec Ideal S8x128 .f32) (p : Fin 8) (l : Fin 128) :
    k0_pay20 (F := Ideal) (k0_pay17 w a b) v (ix2 p l) = v (ix2 p l) + 0 := by
  unfold k0_pay17
  simp only [h, sel0]
  pointwise [k0_pay20]

theorem pay20_live (h : Scalar.cmpi .sge w 1#32 = 1#1) (a b : EReal) (v : FVec Ideal S8x128 .f32) (p : Fin 8) (l : Fin 128) :
    k0_pay20 (F := Ideal) (k0_pay17 w a b) v (ix2 p l) = v (ix2 p l) + b * a := by
  unfold k0_pay17
  simp only [h, sel1]
  pointwise [k0_pay20]

theorem pay22_dead (h : Scalar.cmpi .sge w 1#32 = 0#1) (v : FVec Ideal S8x6144 .f32) (p : Fin 8) (l : Fin 6144) :
    k0_pay22 (F := Ideal) (k0_pay14 w v1 v6 v12 v20 v23 v31) v (ix2 p l) = v (ix2 p l) + 0 := by
  unfold k0_pay14
  generalize k0_pay13 (F := Ideal) v6 v12 v20 v23 v31 = y
  pointwise [k0_pay22, h]
  split_ifs <;> exact add_zero _

theorem pay22_live (h : Scalar.cmpi .sge w 1#32 = 1#1) (v : FVec Ideal S8x6144 .f32) (p : Fin 8) (l : Fin 6144) :
    k0_pay22 (F := Ideal) (k0_pay14 w v1 v6 v12 v20 v23 v31) v (ix2 p l) = v (ix2 p l)
      + if h : p.val < 1 ∧ 4096 ≤ l.val then
          ∑ r : Fin 256, (fun l : Fin 2048 => k0_pay13 (F := Ideal) v6 v12 v20 v23 v31 (ix2 r l) * v1 (ix2 r l)) ⟨l.val - 4096, by have := l.isLt; omega⟩
        else 0 := by
  unfold k0_pay14
  generalize k0_pay13 (F := Ideal) v6 v12 v20 v23 v31 = y
  pointwise [k0_pay22, h]
  congr 1
  by_cases hp : p.val < 1
  · by_cases hl : l.val < 4096
    · rw [dif_pos hp, dif_pos hl, dif_neg (by omega)]
    · rw [dif_pos hp, dif_neg hl, dif_pos ⟨hp, by omega⟩]
  · rw [dif_neg hp, dif_neg (by omega)]

theorem pay24_dead (a v : FVec Ideal S1x2048 .f32) (p : Fin 1) (l : Fin 2048) :
    k0_pay24 (F := Ideal) a 0#1 v (ix2 p l) = v (ix2 p l) + 0 := by
  unfold k0_pay24
  simp only [sel0]
  pointwise

theorem pay24_live (a v : FVec Ideal S1x2048 .f32) (p : Fin 1) (l : Fin 2048) :
    k0_pay24 (F := Ideal) a 1#1 v (ix2 p l) = v (ix2 p l) + a (ix2 p l) := by
  unfold k0_pay24
  simp only [sel1]
  pointwise

end Pays

theorem idx : ∀ t : Fin cfg0.N, win0_0.index t = ![t.val - 1, 0] ∧ win0_1.index t = ![t.val, 0] ∧ win0_2.index t = ![t.val - 1, 0]
    ∧ win0_3.index t = ![0, 0, 0] ∧ win0_4.index t = ![0, 0] ∧ win0_5.index t = ![t.val, 0] ∧ win0_6.index t = ![t.val, 0]
    ∧ win0_7.index t = ![0, 0] ∧ win0_8.index t = ![0, 0] ∧ win0_9.index t = ![0, 0] :=
  (by decide +kernel : ∀ t : Fin grid0.N, _)

/-- The modulation rows, seen as eight triples of rows. -/
theorem V_v0 (c : Dev nD) : V m c main_v0 = shapeCast S1x2048 (m ((c : Thread nD τ).loc main_arg3)) shapeCasts_S2048_S1x2048 := by
  unfold V
  after_results
  rfl

theorem V_v0_at (c : Dev nD) (j : S1x2048.Idx) : (V m c main_v0 : FVec Ideal S1x2048 .f32) j
    = (m ((c : Thread nD τ).loc main_arg3) : FVec Ideal S2048 .f32) (ix1 (j 1 : Fin 2048)) := by
  rw [V_v0]
  idx_vars j
  pointwise

theorem V_v1 (c : Dev nD) : V m c main_v1 = shapeCast S8x3x2048 (m ((c : Thread nD τ).loc main_arg2)) shapeCasts_S8x6144_S8x3x2048 := by
  unfold V
  after_results
  rfl

theorem V_v1_at (c : Dev nD) (j : S8x3x2048.Idx) : (V m c main_v1 : FVec Ideal S8x3x2048 .f32) j
    = (m ((c : Thread nD τ).loc main_arg2) : FVec Ideal S8x6144 .f32) (ix2 (j 0 : Fin 8)
        ⟨(j 1).val * 2048 + (j 2).val, by have h1 := (j 1).isLt; have h2 := (j 2).isLt; change _ < 3 at h1; change _ < 2048 at h2; omega⟩) := by
  rw [V_v1]
  idx_vars j
  pointwise

/-- The gradients of the two row arguments over all token rows, zero on the first 256. -/
def rowsOf (f : Row → Row → Row → Row → Row → Fin 2048 → EReal) (x : FVec Ideal S2048x2048 .f32) (o : FVec Ideal S2304x2048 .f32) (M : FVec Ideal S8x6144 .f32) (g : FVec Ideal S2048 .f32) (t : FVec Ideal S2048x2048 .f32) (r : Fin 2304) (l : Fin 2048) : EReal :=
  if h : r.val < 256 then 0 else (fun r : Fin 2048 => f (fun l => x (ix2 r l)) (fun l => o (ix2 ⟨256 + r.val, by have := r.isLt; omega⟩ l)) (fun l => M (ix2 0 ⟨4096 + l.val, by have := l.isLt; omega⟩)) (fun l => g (ix1 l)) (fun l => t (ix2 r l)) l) ⟨r.val - 256, by have := r.isLt; omega⟩

/-- A quantity of image row `r`. -/
def rowAt (f : Row → Row → Row → Row → Row → Fin 2048 → EReal) (x : FVec Ideal S2048x2048 .f32) (o : FVec Ideal S2304x2048 .f32) (M : FVec Ideal S8x6144 .f32) (g : FVec Ideal S2048 .f32) (t : FVec Ideal S2048x2048 .f32) (l : Fin 2048) (r : Fin 2048) : EReal := f (fun l => x (ix2 r l)) (fun l => o (ix2 ⟨256 + r.val, by have := r.isLt; omega⟩ l)) (fun l => M (ix2 0 ⟨4096 + l.val, by have := l.isLt; omega⟩)) (fun l => g (ix1 l)) (fun l => t (ix2 r l)) l

theorem rows_eq (f : Row → Row → Row → Row → Row → Fin 2048 → EReal) (c : Dev nD) (t : Fin cfg0.N) (h : ¬t.val % 9 = 0) (k : Fin 256) (r : Fin 2048) (l l' : Fin 2048)
    (hr : r.val = (t.val - 1) * 256 + k.val) (hl : l = l') :
    f (fun l => iblk m c 0 t (ix2 k l)) (fun l => iblk m c 1 t (ix2 k l)) (fun l => iblk m c 3 t (ix3 0 2 l)) (fun l => iblk m c 4 t (ix2 0 l)) (fun l => iblk m c 2 t (ix2 k l)) l
      = rowAt f (m ((c : Thread nD τ).loc main_arg0)) (m ((c : Thread nD τ).loc main_arg1)) (m ((c : Thread nD τ).loc main_arg2)) (m ((c : Thread nD τ).loc main_arg3)) (m ((c : Thread nD τ).loc main_arg4)) l' r := by
  subst hl
  have ht : 1 ≤ t.val := by omega
  unfold rowAt
  refine row_congr f (fun l => ?_) (fun l => ?_) (fun l => ?_) (fun l => ?_) (fun l => ?_) rfl
  · blk_point [iblk, V, idx t, hr]
  · blk_point [iblk, V, idx t, hr]
  · refine (V_v1_at m c _).trans ?_
    blk_ext! [idx t]
  · refine (V_v0_at m c _).trans ?_
    blk_ext! [idx t]
  · blk_point [iblk, V, idx t, hr]

theorem rowsOf_dead (f : Row → Row → Row → Row → Row → Fin 2048 → EReal) (x : FVec Ideal S2048x2048 .f32) (o : FVec Ideal S2304x2048 .f32) (M : FVec Ideal S8x6144 .f32) (g : FVec Ideal S2048 .f32) (t : FVec Ideal S2048x2048 .f32) (r : Fin 2304) (l : Fin 2048) (h : r.val < 256) :
    rowsOf f x o M g t r l = 0 := dif_pos h

theorem rowsOf_live (f : Row → Row → Row → Row → Row → Fin 2048 → EReal) (x : FVec Ideal S2048x2048 .f32) (o : FVec Ideal S2304x2048 .f32) (M : FVec Ideal S8x6144 .f32) (g : FVec Ideal S2048 .f32) (t : FVec Ideal S2048x2048 .f32) (r : Fin 2304) (l : Fin 2048) (p : Fin 2048)
    (hp : r.val = 256 + p.val) : rowsOf f x o M g t r l = rowAt f x o M g t l p := by
  unfold rowsOf rowAt
  rw [dif_neg (by omega)]
  have e : (⟨r.val - 256, by have := r.isLt; omega⟩ : Fin 2048) = p := Fin.ext (Nat.sub_eq_of_eq_add' hp)
  rw [e]

theorem lt_N (t : Fin cfg0.N) : t.val < 9 := lt_of_lt_of_eq t.isLt N_0

theorem final5 (c : Dev nD) : (dats m 0 c).arrAt 5 cfg0.N
    = (fun j => rowsOf dX (m ((c : Thread nD τ).loc main_arg0)) (m ((c : Thread nD τ).loc main_arg1)) (m ((c : Thread nD τ).loc main_arg2)) (m ((c : Thread nD τ).loc main_arg3)) (m ((c : Thread nD τ).loc main_arg4)) (j 0) (j 1) : FVec Ideal S2304x2048 .f32) := by
  refine (dats m 0 c).arrAt_eq_of_covers 5 _ (by decide +kernel) fun t _ y => ?_
  blk_simp
  rw [after0_5]
  have ht := lt_N t
  by_cases h : t.val % 9 = 0
  · rw [outsAt0_A m c t h h h]
    frame_out
    idx_vars y
    refine (pay15_dead _ _ _ _ _ _ ((live t).trans (if_pos h)) y0 y1).trans (rowsOf_dead _ _ _ _ _ _ _ _ ?_).symm
    blk_simp [idx t]
    have := y0.isLt
    omega
  · rw [outsAt0_B m c t h h h]
    frame_out
    idx_vars y
    refine (pay15_live _ _ _ _ _ _ ((live t).trans (if_neg h)) y0 y1).trans ((pay13_at _ _ _ _ _ y0 y1).trans ?_)
    have hy := y0.isLt
    obtain ⟨p, hp⟩ : ∃ p : Fin 2048, p.val = (t.val - 1) * 256 + y0.val := ⟨⟨(t.val - 1) * 256 + y0.val, by omega⟩, rfl⟩
    refine (rows_eq m dX c t h y0 p y1 _ hp ?_).trans (rowsOf_live _ _ _ _ _ _ _ _ _ ?_).symm
    · apply Fin.ext
      blk_simp [idx t]
    · blk_simp [idx t]
      omega

theorem final6 (c : Dev nD) : (dats m 0 c).arrAt 6 cfg0.N
    = (fun j => rowsOf dO (m ((c : Thread nD τ).loc main_arg0)) (m ((c : Thread nD τ).loc main_arg1)) (m ((c : Thread nD τ).loc main_arg2)) (m ((c : Thread nD τ).loc main_arg3)) (m ((c : Thread nD τ).loc main_arg4)) (j 0) (j 1) : FVec Ideal S2304x2048 .bf16) := by
  refine (dats m 0 c).arrAt_eq_of_covers 6 _ (by decide +kernel) fun t _ y => ?_
  blk_simp
  rw [after0_6]
  have ht := lt_N t
  by_cases h : t.val % 9 = 0
  · rw [outsAt0_A m c t h h h]
    frame_out
    idx_vars y
    refine (pay16_dead _ _ _ _ _ _ _ ((live t).trans (if_pos h)) y0 y1).trans (rowsOf_dead _ _ _ _ _ _ _ _ ?_).symm
    blk_simp [idx t]
    have := y0.isLt
    omega
  · rw [outsAt0_B m c t h h h]
    frame_out
    idx_vars y
    refine (pay16_live _ _ _ _ _ _ _ ((live t).trans (if_neg h)) y0 y1).trans ?_
    rw [pay13_at, pay2_at]
    have hy := y0.isLt
    obtain ⟨p, hp⟩ : ∃ p : Fin 2048, p.val = (t.val - 1) * 256 + y0.val := ⟨⟨(t.val - 1) * 256 + y0.val, by omega⟩, rfl⟩
    refine (rows_eq m dO c t h y0 p y1 _ hp ?_).trans (rowsOf_live _ _ _ _ _ _ _ _ _ ?_).symm
    · apply Fin.ext
      blk_simp [idx t]
    · blk_simp [idx t]
      omega

/-- What tile `t` adds of a quantity of the image rows: nothing for the first tile. -/
def part (f : Row → Row → Row → Row → Row → Fin 2048 → EReal) (c : Dev nD) (t : Fin cfg0.N) (l : Fin 2048) : EReal :=
  if t.val % 9 = 0 then 0 else
    ∑ k : Fin 256, f (fun l => iblk m c 0 t (ix2 k l)) (fun l => iblk m c 1 t (ix2 k l)) (fun l => iblk m c 3 t (ix3 0 2 l))
      (fun l => iblk m c 4 t (ix2 0 l)) (fun l => iblk m c 2 t (ix2 k l)) l

/-- The tiles' parts of a quantity sum to the image rows' sum. -/
theorem sum_part (f : Row → Row → Row → Row → Row → Fin 2048 → EReal) (c : Dev nD) (l : Fin 2048) :
    ∑ t : Fin 9, part m f c ⟨t.val, lt_of_lt_of_eq t.isLt N_0.symm⟩ l = ∑ r : Fin 2048, rowAt f (m ((c : Thread nD τ).loc main_arg0)) (m ((c : Thread nD τ).loc main_arg1)) (m ((c : Thread nD τ).loc main_arg2)) (m ((c : Thread nD τ).loc main_arg3)) (m ((c : Thread nD τ).loc main_arg4)) l r := by
  refine sum_live _ _ (if_pos rfl) fun t => ?_
  have ht : ¬(t.val + 1) % 9 = 0 := by have := t.isLt; omega
  refine (if_neg ht).trans ?_
  exact Finset.sum_congr rfl fun k _ => rows_eq m f c ⟨t.val + 1, _⟩ ht k ⟨t.val * 256 + k.val, _⟩ l l rfl rfl

/-- A row's loss, with a channel for the sake of one shape. -/
def lossAt (x o a g t : Row) (_ : Fin 2048) : EReal := Ideal.ofBits .f32 1056964608#32 * loss x o a g t

theorem final7 (c : Dev nD) : (dats m 0 c).arrAt 7 cfg0.N
    = (fun _ => ∑ r : Fin 2048, rowAt lossAt (m ((c : Thread nD τ).loc main_arg0)) (m ((c : Thread nD τ).loc main_arg1)) (m ((c : Thread nD τ).loc main_arg2)) (m ((c : Thread nD τ).loc main_arg3)) (m ((c : Thread nD τ).loc main_arg4)) 0 r : FVec Ideal S8x128 .f32) := by
  refine (dats m 0 c).arrAt_eq_of_after_last 7 t0_8 (by decide +kernel) _ fun j => ?_
  blk_simp
  idx_vars j
  rw [after0_7, Pipeline.eq_sum_fin_of_reset_step_apply_last (fun n h => (outsAt0 m c n h).2.2.1) 9 (fun _ => 0) (fun t j => part m lossAt c t 0)
    (fun t h j => by
      rw [outsAt0_A m c t h h h]; frame_out; idx_vars j
      refine (pay20_dead _ ((live t).trans (if_pos h)) _ _ _ j0 j1).trans ?_
      unfold part
      rw [if_pos h, pay19_at])
    (fun t h j => by
      rw [outsAt0_B m c t h h h]; frame_out; idx_vars j
      refine (pay20_live _ ((live t).trans (if_neg h)) _ _ _ j0 j1).trans ?_
      unfold part
      rw [if_neg h, pay10_at]
      exact congrArg _ (half_sum _))
    (le_of_eq N_0) t0_8 rfl _, zero_add]
  exact sum_part m lossAt c 0

theorem final9 (c : Dev nD) : (dats m 0 c).arrAt 9 cfg0.N
    = (fun j => ∑ r : Fin 2048, rowAt dG (m ((c : Thread nD τ).loc main_arg0)) (m ((c : Thread nD τ).loc main_arg1)) (m ((c : Thread nD τ).loc main_arg2)) (m ((c : Thread nD τ).loc main_arg3)) (m ((c : Thread nD τ).loc main_arg4)) (j 1) r : FVec Ideal S1x2048 .f32) := by
  refine (dats m 0 c).arrAt_eq_of_after_last 9 t0_8 (by decide +kernel) _ fun j => ?_
  blk_simp
  idx_vars j
  rw [after0_9, Pipeline.eq_sum_fin_of_reset_step_apply_last (fun n h => (outsAt0 m c n h).2.2.2.2) 9 (fun _ => 0) (fun t j => part m dG c t (j 1))
    (fun t h j => by
      rw [outsAt0_A m c t h h h]; frame_out; idx_vars j
      rw [(live t).trans (if_pos h)]
      refine (pay24_dead _ _ j0 j1).trans ?_
      unfold part
      rw [if_pos h, pay23_at])
    (fun t h j => by
      rw [outsAt0_B m c t h h h]; frame_out; idx_vars j
      rw [(live t).trans (if_neg h)]
      refine (pay24_live _ _ j0 j1).trans ?_
      unfold part
      rw [if_neg h, pay12_at])
    (le_of_eq N_0) t0_8 rfl _, zero_add]
  exact (sum_part m dG c j1).trans (Finset.sum_congr rfl fun r _ => by blk_simp)

/-- The modulation's gradient: the gate's third of the first row. -/
def modOf (x : FVec Ideal S2048x2048 .f32) (o : FVec Ideal S2304x2048 .f32) (M : FVec Ideal S8x6144 .f32) (g : FVec Ideal S2048 .f32) (t : FVec Ideal S2048x2048 .f32) (q : Fin 8) (l : Fin 6144) : EReal :=
  if h : q.val < 1 ∧ 4096 ≤ l.val then ∑ r : Fin 2048, rowAt dA x o M g t ⟨l.val - 4096, by have := l.isLt; omega⟩ r else 0

/-- Tile `t`'s part of the modulation's gradient. -/
def partM (c : Dev nD) (t : Fin cfg0.N) (q : Fin 8) (l : Fin 6144) : EReal :=
  if h : q.val < 1 ∧ 4096 ≤ l.val then part m dA c t ⟨l.val - 4096, by have := l.isLt; omega⟩ else 0

theorem final8 (c : Dev nD) : (dats m 0 c).arrAt 8 cfg0.N
    = (fun j => modOf (m ((c : Thread nD τ).loc main_arg0)) (m ((c : Thread nD τ).loc main_arg1)) (m ((c : Thread nD τ).loc main_arg2)) (m ((c : Thread nD τ).loc main_arg3)) (m ((c : Thread nD τ).loc main_arg4)) (j 0) (j 1) : FVec Ideal S8x6144 .f32) := by
  refine (dats m 0 c).arrAt_eq_of_after_last 8 t0_8 (by decide +kernel) _ fun j => ?_
  blk_simp
  idx_vars j
  rw [after0_8, Pipeline.eq_sum_fin_of_reset_step_apply_last (fun n h => (outsAt0 m c n h).2.2.2.1) 9 (fun _ => 0)
    (fun t j => partM m c t (j 0) (j 1))
    (fun t h j => by
      rw [outsAt0_A m c t h h h]; frame_out; idx_vars j
      refine (pay22_dead _ _ _ _ _ _ _ ((live t).trans (if_pos h)) _ j0 j1).trans ?_
      rw [pay21_at]
      unfold partM part
      simp only [if_pos h, dite_eq_ite, ite_self])
    (fun t h j => by
      rw [outsAt0_B m c t h h h]; frame_out; idx_vars j
      refine (pay22_live _ _ _ _ _ _ _ ((live t).trans (if_neg h)) _ j0 j1).trans ?_
      unfold partM part
      simp only [if_neg h, pay13_at]
      rfl)
    (le_of_eq N_0) t0_8 rfl _, zero_add]
  unfold partM modOf
  by_cases h : j0.val < 1 ∧ 4096 ≤ j1.val
  · refine (Finset.sum_congr (M := EReal) rfl fun t _ => dif_pos h).trans ((sum_part m dA c _).trans ?_)
    rw [dif_pos h]
    rfl
  · refine Eq.trans (α := EReal) (Finset.sum_eq_zero (M := EReal) fun t _ => dif_neg h) ?_
    rw [dif_neg h]

end Cert.FinalIdeal.RefValue

namespace Cert.Proof.Final

open Cert.FinalIdeal.RefValue

theorem frame_p : Cert.quiescent_Final := fun m ρ _ => Cert.Final.Gen.frame m ρ
theorem frame_pi : Cert.quiescent_FinalIdeal := fun m ρ _ => Cert.FinalIdeal.Gen.frame m ρ
theorem frame_ri : Cert.quiescent_FinalRefIdeal := fun m ρ _ =>
  (θ_run Cert.FinalRefIdeal.defs _ _).mono (fun r h => ⟨fun c => (h c).2.2.2.2.2,
      Idealize.ShloMosaic.sem_eq_zero_of_no_sems (by decide) r.2⟩)
    (Cert.FinalRefIdeal.Value.run (F := Ideal) m ρ)

variable (m : (ℓ : Loc Cert.FinalIdeal.nD Cert.FinalIdeal.τ Cert.FinalIdeal.sig) → Buf (Elt Ideal) ℓ) (c : Dev Cert.FinalIdeal.nD)

theorem ref5 (x0 : FVec Ideal Cert.FinalIdeal.S2048x2048 .f32) (x1 : FVec Ideal Cert.FinalIdeal.S2304x2048 .f32) (x2 : FVec Ideal Cert.FinalIdeal.S8x6144 .f32) (x3 : FVec Ideal Cert.FinalIdeal.S2048 .f32) (x4 : FVec Ideal Cert.FinalIdeal.S2048x2048 .f32)
    (e0 : x0 = m (c.tc.loc Cert.FinalIdeal.main_arg0)) (e1 : x1 = m (c.tc.loc Cert.FinalIdeal.main_arg1)) (e2 : x2 = m (c.tc.loc Cert.FinalIdeal.main_arg2)) (e3 : x3 = m (c.tc.loc Cert.FinalIdeal.main_arg3)) (e4 : x4 = m (c.tc.loc Cert.FinalIdeal.main_arg4)) :
    Cert.FinalRefIdeal.Read.val_main_v68 (F := Ideal) x0 x1 x2 x3 x4
      = (fun j => rowsOf Cert.FinalSpec.dX (m (c.tc.loc Cert.FinalIdeal.main_arg0)) (m (c.tc.loc Cert.FinalIdeal.main_arg1)) (m (c.tc.loc Cert.FinalIdeal.main_arg2)) (m (c.tc.loc Cert.FinalIdeal.main_arg3)) (m (c.tc.loc Cert.FinalIdeal.main_arg4)) (j 0) (j 1) : FVec Ideal Cert.FinalIdeal.S2304x2048 .f32) := by
  subst e0 e1 e2 e3 e4
  funext j
  idx_vars j
  exact ref68_at _ _ _ _ _ j0 j1

theorem ref6 (x0 : FVec Ideal Cert.FinalIdeal.S2048x2048 .f32) (x1 : FVec Ideal Cert.FinalIdeal.S2304x2048 .f32) (x2 : FVec Ideal Cert.FinalIdeal.S8x6144 .f32) (x3 : FVec Ideal Cert.FinalIdeal.S2048 .f32) (x4 : FVec Ideal Cert.FinalIdeal.S2048x2048 .f32)
    (e0 : x0 = m (c.tc.loc Cert.FinalIdeal.main_arg0)) (e1 : x1 = m (c.tc.loc Cert.FinalIdeal.main_arg1)) (e2 : x2 = m (c.tc.loc Cert.FinalIdeal.main_arg2)) (e3 : x3 = m (c.tc.loc Cert.FinalIdeal.main_arg3)) (e4 : x4 = m (c.tc.loc Cert.FinalIdeal.main_arg4)) :
    Cert.FinalRefIdeal.Read.val_main_v69 (F := Ideal) x0 x1 x2 x3 x4
      = (fun j => rowsOf Cert.FinalSpec.dO (m (c.tc.loc Cert.FinalIdeal.main_arg0)) (m (c.tc.loc Cert.FinalIdeal.main_arg1)) (m (c.tc.loc Cert.FinalIdeal.main_arg2)) (m (c.tc.loc Cert.FinalIdeal.main_arg3)) (m (c.tc.loc Cert.FinalIdeal.main_arg4)) (j 0) (j 1) : FVec Ideal Cert.FinalIdeal.S2304x2048 .bf16) := by
  subst e0 e1 e2 e3 e4
  funext j
  idx_vars j
  exact ref69_at _ _ _ _ _ j0 j1

theorem ref7 (x0 : FVec Ideal Cert.FinalIdeal.S2048x2048 .f32) (x1 : FVec Ideal Cert.FinalIdeal.S2304x2048 .f32) (x2 : FVec Ideal Cert.FinalIdeal.S8x6144 .f32) (x3 : FVec Ideal Cert.FinalIdeal.S2048 .f32) (x4 : FVec Ideal Cert.FinalIdeal.S2048x2048 .f32)
    (e0 : x0 = m (c.tc.loc Cert.FinalIdeal.main_arg0)) (e1 : x1 = m (c.tc.loc Cert.FinalIdeal.main_arg1)) (e2 : x2 = m (c.tc.loc Cert.FinalIdeal.main_arg2)) (e3 : x3 = m (c.tc.loc Cert.FinalIdeal.main_arg3)) (e4 : x4 = m (c.tc.loc Cert.FinalIdeal.main_arg4)) :
    Cert.FinalRefIdeal.Read.val_main_v70 (F := Ideal) x0 x1 x2 x3 x4
      = (fun j => ∑ r : Fin 2048, rowAt lossAt (m (c.tc.loc Cert.FinalIdeal.main_arg0)) (m (c.tc.loc Cert.FinalIdeal.main_arg1)) (m (c.tc.loc Cert.FinalIdeal.main_arg2)) (m (c.tc.loc Cert.FinalIdeal.main_arg3)) (m (c.tc.loc Cert.FinalIdeal.main_arg4)) 0 r : FVec Ideal Cert.FinalIdeal.S8x128 .f32) := by
  subst e0 e1 e2 e3 e4
  funext j
  idx_vars j
  exact (ref70_at _ _ _ _ _ j0 j1).trans (Cert.FinalSpec.half_sum _)

theorem ref8 (x0 : FVec Ideal Cert.FinalIdeal.S2048x2048 .f32) (x1 : FVec Ideal Cert.FinalIdeal.S2304x2048 .f32) (x2 : FVec Ideal Cert.FinalIdeal.S8x6144 .f32) (x3 : FVec Ideal Cert.FinalIdeal.S2048 .f32) (x4 : FVec Ideal Cert.FinalIdeal.S2048x2048 .f32)
    (e0 : x0 = m (c.tc.loc Cert.FinalIdeal.main_arg0)) (e1 : x1 = m (c.tc.loc Cert.FinalIdeal.main_arg1)) (e2 : x2 = m (c.tc.loc Cert.FinalIdeal.main_arg2)) (e3 : x3 = m (c.tc.loc Cert.FinalIdeal.main_arg3)) (e4 : x4 = m (c.tc.loc Cert.FinalIdeal.main_arg4)) :
    Cert.FinalRefIdeal.Read.val_main_v66 (F := Ideal) x0 x1 x2 x3 x4
      = (fun j => modOf (m (c.tc.loc Cert.FinalIdeal.main_arg0)) (m (c.tc.loc Cert.FinalIdeal.main_arg1)) (m (c.tc.loc Cert.FinalIdeal.main_arg2)) (m (c.tc.loc Cert.FinalIdeal.main_arg3)) (m (c.tc.loc Cert.FinalIdeal.main_arg4)) (j 0) (j 1) : FVec Ideal Cert.FinalIdeal.S8x6144 .f32) := by
  subst e0 e1 e2 e3 e4
  funext j
  idx_vars j
  exact ref66_at _ _ _ _ _ j0 j1

theorem ref9 (x0 : FVec Ideal Cert.FinalIdeal.S2048x2048 .f32) (x1 : FVec Ideal Cert.FinalIdeal.S2304x2048 .f32) (x2 : FVec Ideal Cert.FinalIdeal.S8x6144 .f32) (x3 : FVec Ideal Cert.FinalIdeal.S2048 .f32) (x4 : FVec Ideal Cert.FinalIdeal.S2048x2048 .f32)
    (e0 : x0 = m (c.tc.loc Cert.FinalIdeal.main_arg0)) (e1 : x1 = m (c.tc.loc Cert.FinalIdeal.main_arg1)) (e2 : x2 = m (c.tc.loc Cert.FinalIdeal.main_arg2)) (e3 : x3 = m (c.tc.loc Cert.FinalIdeal.main_arg3)) (e4 : x4 = m (c.tc.loc Cert.FinalIdeal.main_arg4)) :
    Cert.FinalRefIdeal.Read.val_main_v71 (F := Ideal) x0 x1 x2 x3 x4
      = (fun j => ∑ r : Fin 2048, rowAt Cert.FinalSpec.dG (m (c.tc.loc Cert.FinalIdeal.main_arg0)) (m (c.tc.loc Cert.FinalIdeal.main_arg1)) (m (c.tc.loc Cert.FinalIdeal.main_arg2)) (m (c.tc.loc Cert.FinalIdeal.main_arg3)) (m (c.tc.loc Cert.FinalIdeal.main_arg4)) (j 1) r : FVec Ideal Cert.FinalIdeal.S1x2048 .f32) := by
  subst e0 e1 e2 e3 e4
  funext j
  idx_vars j
  exact ref71_at _ _ _ _ _ j0 j1

/-- The kernel's loss and four gradients are the reference's. -/
theorem algebraic : Cert.algebraic_FinalIdeal_FinalRefIdeal := by
  pair_intro
  · run_from Cert.FinalIdeal.Gen.run_main m g
  · run_from Cert.FinalRefIdeal.Value.run m' g'
    · rw [Cert.FinalRefIdeal.Read.val_main_v68_eq, final5 m c]
      refine ref5 m c _ _ _ _ _ ?_ ?_ ?_ ?_ ?_
      all_goals first
        | exact (hagree c).1
        | exact (hagree c).2.1
        | exact (hagree c).2.2.1
        | exact (hagree c).2.2.2.1
        | exact (hagree c).2.2.2.2
        | rfl
    · rw [Cert.FinalRefIdeal.Read.val_main_v69_eq, final6 m c]
      refine ref6 m c _ _ _ _ _ ?_ ?_ ?_ ?_ ?_
      all_goals first
        | exact (hagree c).1
        | exact (hagree c).2.1
        | exact (hagree c).2.2.1
        | exact (hagree c).2.2.2.1
        | exact (hagree c).2.2.2.2
        | rfl
    · rw [Cert.FinalRefIdeal.Read.val_main_v70_eq, final7 m c]
      refine ref7 m c _ _ _ _ _ ?_ ?_ ?_ ?_ ?_
      all_goals first
        | exact (hagree c).1
        | exact (hagree c).2.1
        | exact (hagree c).2.2.1
        | exact (hagree c).2.2.2.1
        | exact (hagree c).2.2.2.2
        | rfl
    · rw [Cert.FinalRefIdeal.Read.val_main_v66_eq, final8 m c]
      refine ref8 m c _ _ _ _ _ ?_ ?_ ?_ ?_ ?_
      all_goals first
        | exact (hagree c).1
        | exact (hagree c).2.1
        | exact (hagree c).2.2.1
        | exact (hagree c).2.2.2.1
        | exact (hagree c).2.2.2.2
        | rfl
    · rw [Cert.FinalRefIdeal.Read.val_main_v71_eq, final9 m c]
      refine ref9 m c _ _ _ _ _ ?_ ?_ ?_ ?_ ?_
      all_goals first
        | exact (hagree c).1
        | exact (hagree c).2.1
        | exact (hagree c).2.2.1
        | exact (hagree c).2.2.2.1
        | exact (hagree c).2.2.2.2
        | rfl

end Cert.Proof.Final

end
-- ==== Proof.HSpec.lean ====
/-
  The gradients of one modulated row of 2048 channels: the row is normalised by its root mean square and scaled by a gain and
  by one plus a modulation row.
-/
module

public import proofs.«01_k».proof.Proof.FinalSpec

@[expose] public section

noncomputable section

open Idealize.ShloMosaic

namespace Cert.HSpec

open Cert.FinalSpec (Row ms nrm dNorm)

/-- The gradient of the row `s` under the cotangent `w`; `b` is one plus the modulation row. -/
def dS (s g b w : Row) (l : Fin 2048) : EReal := dNorm s (fun l => w l * b l * g l) l

/-- The row's part of the gain's gradient. -/
def dG (s g b w : Row) (l : Fin 2048) : EReal := nrm s l * (w l * b l)

/-- The row's part of the modulation's scaling gradient. -/
def dScale (s g b w : Row) (l : Fin 2048) : EReal := nrm s l * g l * w l

/-- The row's part of the modulation's shifting gradient. -/
def dShift (s g b w : Row) (l : Fin 2048) : EReal := w l

/-- A modulation row's gradient: the shift's, the scale's and nothing for the last third. -/
def cat (A B : Row) (l : Fin 6144) : EReal :=
  if h : l.val < 2048 then A ⟨l.val, h⟩ else if h' : l.val - 2048 < 2048 then B ⟨l.val - 2048, h'⟩ else 0

/-- Equal rows and channels give equal values. -/
theorem row_congr (f : Row → Row → Row → Row → Fin 2048 → EReal) {s s' g g' b b' w w' : Row} {l l' : Fin 2048}
    (hs : ∀ l, s l = s' l) (hg : ∀ l, g l = g' l) (hb : ∀ l, b l = b' l) (hw : ∀ l, w l = w' l) (hl : l = l') :
    f s g b w l = f s' g' b' w' l' := by
  obtain rfl : s = s' := funext hs
  obtain rfl : g = g' := funext hg
  obtain rfl : b = b' := funext hb
  obtain rfl : w = w' := funext hw
  subst hl
  rfl

/-- The three parts' sums are the sum's parts. -/
theorem sum_cat {n : Nat} (A B : Fin n → Row) (l : Fin 6144) : ∑ t, cat (A t) (B t) l = cat (fun l => ∑ t, A t l) (fun l => ∑ t, B t l) l := by
  unfold cat
  split_ifs
  · rfl
  · rfl
  · exact Finset.sum_const_zero

/-- Nine tiles of 256 rows: the context's tile and the image's eight. -/
theorem sum_tiles (f : Fin 9 → EReal) (A : EReal) (F : Fin 2048 → EReal) (h0 : f 0 = A)
    (h : ∀ t : Fin 8, f t.succ = ∑ k : Fin 256, F ⟨t.val * 256 + k.val, by have := t.isLt; have := k.isLt; omega⟩) :
    ∑ t, f t = A + ∑ r, F r := by
  rw [Fin.sum_univ_succ, h0, Fin.sum_univ_tiles (M := EReal) 8 256 rfl F]
  exact congrArg _ (Finset.sum_congr rfl fun t _ => h t)

end Cert.HSpec

end
-- ==== Proof.HBwd.lean ====
module

public import proofs.«01_k».proof.Defs
public import proofs.«01_k».proof.Proof.Gen.HBwd.Frame
public import proofs.«01_k».proof.Proof.Gen.HBwdIdeal.Frame
public import proofs.«01_k».proof.Proof.Gen.HBwdRefIdeal.Run
public import proofs.«01_k».proof.Proof.Gen.HBwdRefIdeal.Read
public import proofs.«01_k».proof.Proof.HSpec
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.HBwdIdeal.RefValue

open Cert.HBwdIdeal Cert.HBwdIdeal.Gen
open Cert.FinalSpec (Row sel0 sel1)
open Cert.HSpec

variable (m : (ℓ : Loc nD τ sig) → Buf (Elt Ideal) ℓ)

/-- A quantity of image row `r`. -/
def imgAt (f : Row → Row → Row → Row → Fin 2048 → EReal) (C : FVec Ideal S256x2048 .f32) (x : FVec Ideal S2048x2048 .f32) (g : FVec Ideal S1x2048 .f32) (M : FVec Ideal S8x6144 .f32) (w : FVec Ideal S2304x2048 .f32) (l : Fin 2048) (r : Fin 2048) : EReal :=
  f (fun l => x (ix2 r l)) (fun l => g (ix2 0 l)) (fun l => 1 + M (ix2 0 ⟨2048 + l.val, by have := l.isLt; omega⟩)) (fun l => w (ix2 ⟨256 + r.val, by have := r.isLt; omega⟩ l)) l

/-- A quantity of context row `r`. -/
def ctxAt (f : Row → Row → Row → Row → Fin 2048 → EReal) (C : FVec Ideal S256x2048 .f32) (x : FVec Ideal S2048x2048 .f32) (g : FVec Ideal S1x2048 .f32) (M : FVec Ideal S8x6144 .f32) (w : FVec Ideal S2304x2048 .f32) (l : Fin 2048) (r : Fin 256) : EReal :=
  f (fun l => C (ix2 r l)) (fun l => g (ix2 0 l)) (fun l => 1 + M (ix2 1 ⟨2048 + l.val, by have := l.isLt; omega⟩)) (fun l => w (ix2 ⟨r.val, by have := r.isLt; omega⟩ l)) l

/-- The gain's gradient. -/
def gainOf (C : FVec Ideal S256x2048 .f32) (x : FVec Ideal S2048x2048 .f32) (g : FVec Ideal S1x2048 .f32) (M : FVec Ideal S8x6144 .f32) (w : FVec Ideal S2304x2048 .f32) (l : Fin 2048) : EReal :=
  (∑ r, ctxAt dG C x g M w l r) + ∑ r, imgAt dG C x g M w l r

/-- The modulation rows' gradients: the image's row, the context's and none for the others. -/
def modOf (C : FVec Ideal S256x2048 .f32) (x : FVec Ideal S2048x2048 .f32) (g : FVec Ideal S1x2048 .f32) (M : FVec Ideal S8x6144 .f32) (w : FVec Ideal S2304x2048 .f32) (p : Fin 8) (l : Fin 6144) : EReal :=
  if p.val < 1 then cat (fun l => ∑ r, imgAt dShift C x g M w l r) (fun l => ∑ r, imgAt dScale C x g M w l r) l
  else if p.val < 2 then cat (fun l => ∑ r, ctxAt dShift C x g M w l r) (fun l => ∑ r, ctxAt dScale C x g M w l r) l
  else 0

section Pays
variable (i : grid0.Coords) (v0 v1 w d : FVec Ideal S256x2048 .f32) (g b : FVec Ideal S1x2048 .f32) (M : FVec Ideal S8x3x2048 .f32)

theorem pay3_img (h : Scalar.cmpi .slt (BitVec.ofNat 32 (i 0).val) 1#32 = 0#1) : k0_pay3 (F := Ideal) i v0 v1 = v1 := by
  unfold k0_pay3
  simp only [h, sel0]

theorem pay3_ctx (h : Scalar.cmpi .slt (BitVec.ofNat 32 (i 0).val) 1#32 = 1#1) : k0_pay3 (F := Ideal) i v0 v1 = v0 := by
  unfold k0_pay3
  simp only [h, sel1]

theorem pay8_img (h : Scalar.cmpi .slt (BitVec.ofNat 32 (i 0).val) 1#32 = 0#1) (q : Fin 1) (l : Fin 2048) :
    k0_pay8 (F := Ideal) i M (ix2 q l) = 1 + M (ix3 0 1 l) := by
  unfold k0_pay8
  simp only [h, sel0]
  pointwise

theorem pay8_ctx (h : Scalar.cmpi .slt (BitVec.ofNat 32 (i 0).val) 1#32 = 1#1) (q : Fin 1) (l : Fin 2048) :
    k0_pay8 (F := Ideal) i M (ix2 q l) = 1 + M (ix3 1 1 l) := by
  unfold k0_pay8
  simp only [h, sel1]
  pointwise

theorem pay14_at (r : Fin 256) (l : Fin 2048) :
    k0_pay14 (F := Ideal) d g (k0_pay3 i v0 v1) (k0_pay5 i v0 v1) (k0_pay6 i v0 v1) b (k0_pay9 w) (ix2 r l)
      = dS (fun l => k0_pay3 (F := Ideal) i v0 v1 (ix2 r l)) (fun l => g (ix2 0 l)) (fun l => b (ix2 0 l)) (fun l => w (ix2 r l)) l + d (ix2 r l) := by
  pointwise [k0_pay4, k0_pay5, k0_pay6, k0_pay7, k0_pay9, k0_pay10, k0_pay11, k0_pay12, k0_pay14, k0_pay16]
  try simp only [Finset.univ_unique, Finset.sum_singleton]
  rfl

theorem pay16_at (v : FVec Ideal S1x2048 .f32) (q : Fin 1) (l : Fin 2048) :
    k0_pay16 (F := Ideal) (k0_pay7 i v0 v1) b (k0_pay9 w) v (ix2 q l)
      = v (ix2 q l) + ∑ r : Fin 256, dG (fun l => k0_pay3 (F := Ideal) i v0 v1 (ix2 r l)) (fun l => g (ix2 0 l)) (fun l => b (ix2 0 l)) (fun l => w (ix2 r l)) l := by
  pointwise [k0_pay4, k0_pay5, k0_pay6, k0_pay7, k0_pay9, k0_pay10, k0_pay11, k0_pay12, k0_pay14, k0_pay16]
  try simp only [Finset.univ_unique, Finset.sum_singleton]
  rfl

theorem pay10_at (q : Fin 1) (l : Fin 2048) : k0_pay10 (F := Ideal) w (ix2 q l) = ∑ r : Fin 256, dShift (fun l => k0_pay3 (F := Ideal) i v0 v1 (ix2 r l)) (fun l => g (ix2 0 l)) (fun l => b (ix2 0 l)) (fun l => w (ix2 r l)) l := by
  pointwise [k0_pay4, k0_pay5, k0_pay6, k0_pay7, k0_pay9, k0_pay10, k0_pay11, k0_pay12, k0_pay14, k0_pay16]
  try simp only [Finset.univ_unique, Finset.sum_singleton]
  rfl

theorem pay11_at (r : Fin 256) (l : Fin 2048) : k0_pay11 (F := Ideal) i v0 v1 w g (ix2 r l) = dScale (fun l => k0_pay3 (F := Ideal) i v0 v1 (ix2 r l)) (fun l => g (ix2 0 l)) (fun l => b (ix2 0 l)) (fun l => w (ix2 r l)) l := by
  pointwise [k0_pay4, k0_pay5, k0_pay6, k0_pay7, k0_pay9, k0_pay10, k0_pay11, k0_pay12, k0_pay14, k0_pay16]
  try simp only [Finset.univ_unique, Finset.sum_singleton]
  rfl

theorem pay13_img (A : FVec Ideal S1x2048 .f32) (B : FVec Ideal S256x2048 .f32) (v : FVec Ideal S8x6144 .f32) (p : Fin 8) (l : Fin 6144) :
    k0_pay2 (F := Ideal) (k0_pay13 0#1 A B) v (ix2 p l)
      = v (ix2 p l) + if p.val < 1 then cat (fun l => A (ix2 0 l)) (fun l => ∑ r : Fin 256, B (ix2 r l)) l else 0 := by
  unfold k0_pay13 cat
  simp only [sel0]
  pointwise [k0_pay2]
  congr 1
  by_cases hp : p.val < 1
  · simp only [hp, if_true, dif_pos]
    have hl := l.isLt
    split_ifs <;> first | rfl | exact congrArg (fun q => A (ix2 q _)) (Subsingleton.elim _ _) | (exfalso; first | contradiction | omega)
  · simp only [hp, if_false, dif_neg, not_false_eq_true]
    have hl := l.isLt
    split_ifs <;> first | rfl | exact congrArg (fun q => A (ix2 q _)) (Subsingleton.elim _ _) | (exfalso; first | contradiction | omega)

theorem pay13_ctx (A : FVec Ideal S1x2048 .f32) (B : FVec Ideal S256x2048 .f32) (v : FVec Ideal S8x6144 .f32) (p : Fin 8) (l : Fin 6144) :
    k0_pay2 (F := Ideal) (k0_pay13 1#1 A B) v (ix2 p l)
      = v (ix2 p l) + if p.val = 1 then cat (fun l => A (ix2 0 l)) (fun l => ∑ r : Fin 256, B (ix2 r l)) l else 0 := by
  unfold k0_pay13 cat
  simp only [sel1]
  pointwise [k0_pay2]
  congr 1
  by_cases hp : p.val = 1
  · simp only [hp, if_true, dif_pos]
    have hl := l.isLt
    split_ifs <;> first | rfl | exact congrArg (fun q => A (ix2 q _)) (Subsingleton.elim _ _) | (exfalso; first | contradiction | omega)
  · simp only [hp, if_false]
    split_ifs <;> first | rfl | exact congrArg (fun q => A (ix2 q _)) (Subsingleton.elim _ _) | (exfalso; first | contradiction | omega)

theorem pay15_at (q : Fin 1) (l : Fin 2048) : k0_pay15 (F := Ideal) (ix2 q l) = 0 := by
  pointwise [k0_pay15]

theorem pay1_at (q : Fin 8) (l : Fin 6144) : k0_pay1 (F := Ideal) (ix2 q l) = 0 := by
  pointwise [k0_pay1]

end Pays

section Reference
open Cert.HBwdRefIdeal.Read

variable (C : FVec Ideal S256x2048 .f32) (x : FVec Ideal S2048x2048 .f32) (g : FVec Ideal S1x2048 .f32) (M : FVec Ideal S8x6144 .f32) (w : FVec Ideal S2304x2048 .f32) (d : FVec Ideal S2304x2048 .f32)

theorem ref134_at (r : Fin 2048) (l : Fin 2048) :
    val_main_v134 (F := Ideal) x g M w d (ix2 r l) = imgAt dS C x g M w l r + d (ix2 ⟨256 + r.val, by have := r.isLt; omega⟩ l) := by
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_cst_2, val_main_v14, val_main_v15, val_main_v16, val_main_v17, val_main_v18, val_main_v19, val_main_v20, val_main_v21, val_main_cst_3, val_main_v22, val_main_v23, val_main_v24, val_main_v25, val_main_v26, val_main_v27, val_main_v28, val_main_v29, val_main_v30, val_main_v31, val_main_v32, val_main_v33, val_main_v34, val_main_v35, val_main_cst_4, val_main_v36, val_main_v37, val_main_cst_5, val_main_v38, val_main_v39, val_main_cst_6, val_main_v40, val_main_v41, val_main_v42, val_main_v43, val_main_cst_7, val_main_v44, val_main_v45, val_main_v46, val_main_v47, val_main_v48, val_main_v49, val_main_v50, val_main_v51, val_main_cst_8, val_main_v52, val_main_v53, val_main_v54, val_main_v55, val_main_v56, val_main_v57, val_main_v58, val_main_v59, val_main_v60, val_main_v61, val_main_v62, val_main_cst_9, val_main_v63, val_main_v64, val_main_cst_10, val_main_v65, val_main_v66, val_main_cst_11, val_main_v67, val_main_v68, val_main_v69, val_main_v70, val_main_cst_12, val_main_v71, val_main_v72, val_main_cst_13, val_main_v73, val_main_v74, val_main_v75, val_main_v76, val_main_cst_14, val_main_v77, val_main_v78, val_main_v79, val_main_cst_15, val_main_v80, val_main_v81, val_main_v82, val_main_v83, val_main_v84, val_main_cst_16, val_main_v85, val_main_v86, val_main_cst_17, val_main_v87, val_main_v88, val_main_v89, val_main_v90, val_main_v91, val_main_v92, val_main_cst_18, val_main_v93, val_main_v94, val_main_v95, val_main_cst_19, val_main_v96, val_main_cst_20, val_main_v97, val_main_v98, val_main_cst_21, val_main_v99, val_main_v100, val_main_cst_22, val_main_v101, val_main_v102, val_main_v103, val_main_v104, val_main_cst_23, val_main_v105, val_main_v106, val_main_cst_24, val_main_v107, val_main_v108, val_main_v109, val_main_v110, val_main_cst_25, val_main_v111, val_main_v112, val_main_v113, val_main_v114, val_main_cst_26, val_main_v115, val_main_v116, val_main_v117, val_main_v118, val_main_v119, val_main_cst_27, val_main_v120, val_main_v121, val_main_cst_28, val_main_v122, val_main_v123, val_main_v124, val_main_v125, val_main_v126, val_main_v127, val_main_cst_29, val_main_v128, val_main_v129, val_main_v130, val_main_cst_30, val_main_v131, val_main_v132, val_main_v133, val_main_v134]
  try simp only [Finset.univ_unique, Finset.sum_singleton]
  rfl

theorem ref113_at (q : Fin 1) (l : Fin 2048) : val_main_v113 (F := Ideal) C x M w (ix2 q l) = gainOf C x g M w l := by
  refine Eq.trans ?_ (add_comm _ _)
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_cst_2, val_main_v14, val_main_v15, val_main_v16, val_main_v17, val_main_v18, val_main_v19, val_main_v20, val_main_v21, val_main_cst_3, val_main_v22, val_main_v23, val_main_v24, val_main_v25, val_main_v26, val_main_v27, val_main_v28, val_main_v29, val_main_v30, val_main_v31, val_main_v32, val_main_v33, val_main_v34, val_main_v35, val_main_cst_4, val_main_v36, val_main_v37, val_main_cst_5, val_main_v38, val_main_v39, val_main_cst_6, val_main_v40, val_main_v41, val_main_v42, val_main_v43, val_main_cst_7, val_main_v44, val_main_v45, val_main_v46, val_main_v47, val_main_v48, val_main_v49, val_main_v50, val_main_v51, val_main_cst_8, val_main_v52, val_main_v53, val_main_v54, val_main_v55, val_main_v56, val_main_v57, val_main_v58, val_main_v59, val_main_v60, val_main_v61, val_main_v62, val_main_cst_9, val_main_v63, val_main_v64, val_main_cst_10, val_main_v65, val_main_v66, val_main_cst_11, val_main_v67, val_main_v68, val_main_v69, val_main_v70, val_main_cst_12, val_main_v71, val_main_v72, val_main_cst_13, val_main_v73, val_main_v74, val_main_v75, val_main_v76, val_main_cst_14, val_main_v77, val_main_v78, val_main_v79, val_main_cst_15, val_main_v80, val_main_v81, val_main_v82, val_main_v83, val_main_v84, val_main_cst_16, val_main_v85, val_main_v86, val_main_cst_17, val_main_v87, val_main_v88, val_main_v89, val_main_v90, val_main_v91, val_main_v92, val_main_cst_18, val_main_v93, val_main_v94, val_main_v95, val_main_cst_19, val_main_v96, val_main_cst_20, val_main_v97, val_main_v98, val_main_cst_21, val_main_v99, val_main_v100, val_main_cst_22, val_main_v101, val_main_v102, val_main_v103, val_main_v104, val_main_cst_23, val_main_v105, val_main_v106, val_main_cst_24, val_main_v107, val_main_v108, val_main_v109, val_main_v110, val_main_cst_25, val_main_v111, val_main_v112, val_main_v113, val_main_v114, val_main_cst_26, val_main_v115, val_main_v116, val_main_v117, val_main_v118, val_main_v119, val_main_cst_27, val_main_v120, val_main_v121, val_main_cst_28, val_main_v122, val_main_v123, val_main_v124, val_main_v125, val_main_v126, val_main_v127, val_main_cst_29, val_main_v128, val_main_v129, val_main_v130, val_main_cst_30, val_main_v131, val_main_v132, val_main_v133, val_main_v134]
  try simp only [Finset.univ_unique, Finset.sum_singleton]
  rfl

theorem ref95_at (q : Fin 1) (l : Fin 6144) : val_main_v95 (F := Ideal) x g w (ix2 q l)
    = cat (fun l => ∑ r, imgAt dShift C x g M w l r) (fun l => ∑ r, imgAt dScale C x g M w l r) l := by
  unfold cat
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_cst_2, val_main_v14, val_main_v15, val_main_v16, val_main_v17, val_main_v18, val_main_v19, val_main_v20, val_main_v21, val_main_cst_3, val_main_v22, val_main_v23, val_main_v24, val_main_v25, val_main_v26, val_main_v27, val_main_v28, val_main_v29, val_main_v30, val_main_v31, val_main_v32, val_main_v33, val_main_v34, val_main_v35, val_main_cst_4, val_main_v36, val_main_v37, val_main_cst_5, val_main_v38, val_main_v39, val_main_cst_6, val_main_v40, val_main_v41, val_main_v42, val_main_v43, val_main_cst_7, val_main_v44, val_main_v45, val_main_v46, val_main_v47, val_main_v48, val_main_v49, val_main_v50, val_main_v51, val_main_cst_8, val_main_v52, val_main_v53, val_main_v54, val_main_v55, val_main_v56, val_main_v57, val_main_v58, val_main_v59, val_main_v60, val_main_v61, val_main_v62, val_main_cst_9, val_main_v63, val_main_v64, val_main_cst_10, val_main_v65, val_main_v66, val_main_cst_11, val_main_v67, val_main_v68, val_main_v69, val_main_v70, val_main_cst_12, val_main_v71, val_main_v72, val_main_cst_13, val_main_v73, val_main_v74, val_main_v75, val_main_v76, val_main_cst_14, val_main_v77, val_main_v78, val_main_v79, val_main_cst_15, val_main_v80, val_main_v81, val_main_v82, val_main_v83, val_main_v84, val_main_cst_16, val_main_v85, val_main_v86, val_main_cst_17, val_main_v87, val_main_v88, val_main_v89, val_main_v90, val_main_v91, val_main_v92, val_main_cst_18, val_main_v93, val_main_v94, val_main_v95, val_main_cst_19, val_main_v96, val_main_cst_20, val_main_v97, val_main_v98, val_main_cst_21, val_main_v99, val_main_v100, val_main_cst_22, val_main_v101, val_main_v102, val_main_v103, val_main_v104, val_main_cst_23, val_main_v105, val_main_v106, val_main_cst_24, val_main_v107, val_main_v108, val_main_v109, val_main_v110, val_main_cst_25, val_main_v111, val_main_v112, val_main_v113, val_main_v114, val_main_cst_26, val_main_v115, val_main_v116, val_main_v117, val_main_v118, val_main_v119, val_main_cst_27, val_main_v120, val_main_v121, val_main_cst_28, val_main_v122, val_main_v123, val_main_v124, val_main_v125, val_main_v126, val_main_v127, val_main_cst_29, val_main_v128, val_main_v129, val_main_v130, val_main_cst_30, val_main_v131, val_main_v132, val_main_v133, val_main_v134]
  try simp only [Finset.univ_unique, Finset.sum_singleton]
  have hl := l.isLt
  split_ifs <;> try first | rfl | (exfalso; omega)

theorem ref130_at (q : Fin 1) (l : Fin 6144) : val_main_v130 (F := Ideal) C g w (ix2 q l)
    = cat (fun l => ∑ r, ctxAt dShift C x g M w l r) (fun l => ∑ r, ctxAt dScale C x g M w l r) l := by
  unfold cat
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_cst_2, val_main_v14, val_main_v15, val_main_v16, val_main_v17, val_main_v18, val_main_v19, val_main_v20, val_main_v21, val_main_cst_3, val_main_v22, val_main_v23, val_main_v24, val_main_v25, val_main_v26, val_main_v27, val_main_v28, val_main_v29, val_main_v30, val_main_v31, val_main_v32, val_main_v33, val_main_v34, val_main_v35, val_main_cst_4, val_main_v36, val_main_v37, val_main_cst_5, val_main_v38, val_main_v39, val_main_cst_6, val_main_v40, val_main_v41, val_main_v42, val_main_v43, val_main_cst_7, val_main_v44, val_main_v45, val_main_v46, val_main_v47, val_main_v48, val_main_v49, val_main_v50, val_main_v51, val_main_cst_8, val_main_v52, val_main_v53, val_main_v54, val_main_v55, val_main_v56, val_main_v57, val_main_v58, val_main_v59, val_main_v60, val_main_v61, val_main_v62, val_main_cst_9, val_main_v63, val_main_v64, val_main_cst_10, val_main_v65, val_main_v66, val_main_cst_11, val_main_v67, val_main_v68, val_main_v69, val_main_v70, val_main_cst_12, val_main_v71, val_main_v72, val_main_cst_13, val_main_v73, val_main_v74, val_main_v75, val_main_v76, val_main_cst_14, val_main_v77, val_main_v78, val_main_v79, val_main_cst_15, val_main_v80, val_main_v81, val_main_v82, val_main_v83, val_main_v84, val_main_cst_16, val_main_v85, val_main_v86, val_main_cst_17, val_main_v87, val_main_v88, val_main_v89, val_main_v90, val_main_v91, val_main_v92, val_main_cst_18, val_main_v93, val_main_v94, val_main_v95, val_main_cst_19, val_main_v96, val_main_cst_20, val_main_v97, val_main_v98, val_main_cst_21, val_main_v99, val_main_v100, val_main_cst_22, val_main_v101, val_main_v102, val_main_v103, val_main_v104, val_main_cst_23, val_main_v105, val_main_v106, val_main_cst_24, val_main_v107, val_main_v108, val_main_v109, val_main_v110, val_main_cst_25, val_main_v111, val_main_v112, val_main_v113, val_main_v114, val_main_cst_26, val_main_v115, val_main_v116, val_main_v117, val_main_v118, val_main_v119, val_main_cst_27, val_main_v120, val_main_v121, val_main_cst_28, val_main_v122, val_main_v123, val_main_v124, val_main_v125, val_main_v126, val_main_v127, val_main_cst_29, val_main_v128, val_main_v129, val_main_v130, val_main_cst_30, val_main_v131, val_main_v132, val_main_v133, val_main_v134]
  try simp only [Finset.univ_unique, Finset.sum_singleton]
  split_ifs <;> first | rfl | (exfalso; omega)

theorem ref132_at (p : Fin 8) (l : Fin 6144) : val_main_v132 (F := Ideal) C x g w (ix2 p l) = modOf C x g M w p l := by
  have e1 := ref95_at C x g M w
  have e2 := ref130_at C x g M w
  unfold val_main_v132 val_main_v96 val_main_v131
  generalize val_main_v95 (F := Ideal) x g w = y at e1
  generalize val_main_v130 (F := Ideal) C g w = z at e2
  unfold modOf
  pointwise [val_main_cst_19, val_main_cst_30, e1, e2]
  have hl := l.isLt
  split_ifs <;> first | exact add_zero _ | exact zero_add _ | (exfalso; omega)

end Reference

/-- The words that say whether a tile holds context rows: the first. -/
theorem isCtx : ∀ t : Fin cfg0.N, Scalar.cmpi .slt (BitVec.ofNat 32 (grid0.coords t 0).val) 1#32 = if t.val % 9 = 0 then 1#1 else 0#1 :=
  (by decide +kernel : ∀ t : Fin grid0.N, _)

theorem idx : ∀ t : Fin cfg0.N, win0_0.index t = ![0, 0] ∧ win0_1.index t = ![t.val - 1, 0] ∧ win0_2.index t = ![t.val, 0]
    ∧ win0_3.index t = ![t.val, 0] ∧ win0_4.index t = ![0, 0] ∧ win0_5.index t = ![0, 0, 0] ∧ win0_6.index t = ![t.val - 1, 0]
    ∧ win0_7.index t = ![0, 0] ∧ win0_8.index t = ![0, 0] :=
  (by decide +kernel : ∀ t : Fin grid0.N, _)

/-- The last visit of each block of the first result holds image rows. -/
theorem flush6 : ∀ t : Fin cfg0.N, (cfg0.win 6).flush t = true → ¬t.val % 9 = 0 := by decide +kernel

theorem lt_N (t : Fin cfg0.N) : t.val < 9 := lt_of_lt_of_eq t.isLt N_0

/-- The modulation rows, seen as eight triples of rows. -/
theorem V_v0 (c : Dev nD) : V m c main_v0 = shapeCast S8x3x2048 (m ((c : Thread nD τ).loc main_arg3)) shapeCasts_S8x6144_S8x3x2048 := by
  unfold V
  after_results
  rfl

theorem V_v0_at (c : Dev nD) (j : S8x3x2048.Idx) : (V m c main_v0 : FVec Ideal S8x3x2048 .f32) j
    = (m ((c : Thread nD τ).loc main_arg3) : FVec Ideal S8x6144 .f32) (ix2 (j 0 : Fin 8)
        ⟨(j 1).val * 2048 + (j 2).val, by have h1 := (j 1).isLt; have h2 := (j 2).isLt; change _ < 3 at h1; change _ < 2048 at h2; omega⟩) := by
  rw [V_v0]
  idx_vars j
  pointwise

theorem img_eq (f : Row → Row → Row → Row → Fin 2048 → EReal) (c : Dev nD) (t : Fin cfg0.N) (h : ¬t.val % 9 = 0) (k : Fin 256) (r : Fin 2048) (l l' : Fin 2048)
    (hr : r.val = (t.val - 1) * 256 + k.val) (hl : l = l') :
    f (fun l => k0_pay3 (F := Ideal) (grid0.coords t) (iblk m c 0 t) (iblk m c 1 t) (ix2 k l)) (fun l => iblk m c 4 t (ix2 0 l))
        (fun l => k0_pay8 (F := Ideal) (grid0.coords t) (iblk m c 5 t) (ix2 0 l)) (fun l => iblk m c 2 t (ix2 k l)) l
      = imgAt f (m ((c : Thread nD τ).loc main_arg0)) (m ((c : Thread nD τ).loc main_arg1)) (m ((c : Thread nD τ).loc main_arg2)) (m ((c : Thread nD τ).loc main_arg3)) (m ((c : Thread nD τ).loc main_arg4)) l' r := by
  subst hl
  have ht : 1 ≤ t.val := by omega
  have hk := k.isLt
  unfold imgAt
  refine row_congr f (fun l => ?_) (fun l => ?_) (fun l => ?_) (fun l => ?_) rfl
  · rw [pay3_img _ _ _ ((isCtx t).trans (if_neg h))]
    blk_point [iblk, V, idx t, hr]
  · blk_point [iblk, V, idx t]
  · rw [pay8_img _ _ ((isCtx t).trans (if_neg h))]
    refine congrArg _ ((V_v0_at m c _).trans ?_)
    blk_ext! [idx t]
  · blk_point [iblk, V, idx t, hr]

theorem ctx_eq (f : Row → Row → Row → Row → Fin 2048 → EReal) (c : Dev nD) (t : Fin cfg0.N) (h : t.val % 9 = 0) (k : Fin 256) (l : Fin 2048) :
    f (fun l => k0_pay3 (F := Ideal) (grid0.coords t) (iblk m c 0 t) (iblk m c 1 t) (ix2 k l)) (fun l => iblk m c 4 t (ix2 0 l))
        (fun l => k0_pay8 (F := Ideal) (grid0.coords t) (iblk m c 5 t) (ix2 0 l)) (fun l => iblk m c 2 t (ix2 k l)) l
      = ctxAt f (m ((c : Thread nD τ).loc main_arg0)) (m ((c : Thread nD τ).loc main_arg1)) (m ((c : Thread nD τ).loc main_arg2)) (m ((c : Thread nD τ).loc main_arg3)) (m ((c : Thread nD τ).loc main_arg4)) l k := by
  have ht : t.val = 0 := by have := lt_N t; omega
  unfold ctxAt
  refine row_congr f (fun l => ?_) (fun l => ?_) (fun l => ?_) (fun l => ?_) rfl
  · rw [pay3_ctx _ _ _ ((isCtx t).trans (if_pos h))]
    blk_point [iblk, V, idx t]
  · blk_point [iblk, V, idx t]
  · rw [pay8_ctx _ _ ((isCtx t).trans (if_pos h))]
    refine congrArg _ ((V_v0_at m c _).trans ?_)
    blk_ext! [idx t]
  · blk_point [iblk, V, idx t, ht]

/-- What tile `t` adds of a quantity of the rows. -/
def part (f : Row → Row → Row → Row → Fin 2048 → EReal) (c : Dev nD) (t : Fin cfg0.N) (l : Fin 2048) : EReal :=
  if t.val % 9 = 0 then ∑ k : Fin 256, ctxAt f (m ((c : Thread nD τ).loc main_arg0)) (m ((c : Thread nD τ).loc main_arg1)) (m ((c : Thread nD τ).loc main_arg2)) (m ((c : Thread nD τ).loc main_arg3)) (m ((c : Thread nD τ).loc main_arg4)) l k
  else ∑ k : Fin 256, imgAt f (m ((c : Thread nD τ).loc main_arg0)) (m ((c : Thread nD τ).loc main_arg1)) (m ((c : Thread nD τ).loc main_arg2)) (m ((c : Thread nD τ).loc main_arg3)) (m ((c : Thread nD τ).loc main_arg4)) l ⟨(t.val - 1) * 256 + k.val, by have := lt_N t; have := k.isLt; omega⟩

theorem part_eq (f : Row → Row → Row → Row → Fin 2048 → EReal) (c : Dev nD) (t : Fin cfg0.N) (l : Fin 2048) :
    ∑ k : Fin 256, f (fun l => k0_pay3 (F := Ideal) (grid0.coords t) (iblk m c 0 t) (iblk m c 1 t) (ix2 k l)) (fun l => iblk m c 4 t (ix2 0 l))
        (fun l => k0_pay8 (F := Ideal) (grid0.coords t) (iblk m c 5 t) (ix2 0 l)) (fun l => iblk m c 2 t (ix2 k l)) l
      = part m f c t l := by
  unfold part
  by_cases h : t.val % 9 = 0
  · rw [if_pos h]
    exact Finset.sum_congr rfl fun k _ => ctx_eq m f c t h k l
  · rw [if_neg h]
    exact Finset.sum_congr rfl fun k _ => img_eq m f c t h k _ l l rfl rfl

theorem sum_part (f : Row → Row → Row → Row → Fin 2048 → EReal) (c : Dev nD) (l : Fin 2048) :
    ∑ t : Fin 9, part m f c ⟨t.val, lt_of_lt_of_eq t.isLt N_0.symm⟩ l
      = (∑ r, ctxAt f (m ((c : Thread nD τ).loc main_arg0)) (m ((c : Thread nD τ).loc main_arg1)) (m ((c : Thread nD τ).loc main_arg2)) (m ((c : Thread nD τ).loc main_arg3)) (m ((c : Thread nD τ).loc main_arg4)) l r) + ∑ r, imgAt f (m ((c : Thread nD τ).loc main_arg0)) (m ((c : Thread nD τ).loc main_arg1)) (m ((c : Thread nD τ).loc main_arg2)) (m ((c : Thread nD τ).loc main_arg3)) (m ((c : Thread nD τ).loc main_arg4)) l r :=
  sum_tiles _ _ _ (if_pos rfl) fun t => if_neg (show ¬(t.val + 1) % 9 = 0 by have := t.isLt; omega)

theorem final6 (c : Dev nD) : (dats m 0 c).arrAt 6 cfg0.N
    = (fun j => imgAt dS (m ((c : Thread nD τ).loc main_arg0)) (m ((c : Thread nD τ).loc main_arg1)) (m ((c : Thread nD τ).loc main_arg2)) (m ((c : Thread nD τ).loc main_arg3)) (m ((c : Thread nD τ).loc main_arg4)) (j 1) (j 0) + (m ((c : Thread nD τ).loc main_arg5) : FVec Ideal S2304x2048 .f32) (ix2 ⟨256 + (j 0).val, by have := (j 0).isLt; change _ < 2048 at this; omega⟩ (j 1)) : FVec Ideal S2048x2048 .f32) := by
  refine (dats m 0 c).arrAt_eq_of_covers 6 _ (by decide +kernel) fun t hf y => ?_
  have h := flush6 t hf
  blk_simp
  rw [after0_6, outsAt0_B m c t h h]
  have ht := lt_N t
  frame_out
  idx_vars y
  refine (pay14_at _ _ _ _ _ _ _ y0 y1).trans ?_
  have hy := y0.isLt
  congr 1
  · refine img_eq m dS c t h y0 _ y1 _ ?_ ?_
    · blk_simp [idx t]
    · apply Fin.ext
      blk_simp [idx t]
  · blk_point [iblk, V, idx t]

theorem final7 (c : Dev nD) : (dats m 0 c).arrAt 7 cfg0.N
    = (fun j => gainOf (m ((c : Thread nD τ).loc main_arg0)) (m ((c : Thread nD τ).loc main_arg1)) (m ((c : Thread nD τ).loc main_arg2)) (m ((c : Thread nD τ).loc main_arg3)) (m ((c : Thread nD τ).loc main_arg4)) (j 1) : FVec Ideal S1x2048 .f32) := by
  refine (dats m 0 c).arrAt_eq_of_after_last 7 t0_8 (by decide +kernel) _ fun j => ?_
  blk_simp
  idx_vars j
  rw [after0_7, Pipeline.eq_sum_fin_of_reset_step_apply_last (fun n h => (outsAt0 m c n h).2.1) 9 (fun _ => 0) (fun t j => part m dG c t (j 1))
    (fun t h j => by
      rw [outsAt0_A m c t h h]; frame_out; idx_vars j
      refine (pay16_at _ _ _ _ (iblk m c 4 t) _ _ j0 j1).trans ?_
      rw [pay15_at]
      exact congrArg _ (part_eq m dG c t j1))
    (fun t h j => by
      rw [outsAt0_B m c t h h]; frame_out; idx_vars j
      refine (pay16_at _ _ _ _ (iblk m c 4 t) _ _ j0 j1).trans ?_
      exact congrArg _ (part_eq m dG c t j1))
    (le_of_eq N_0) t0_8 rfl _, zero_add]
  exact (sum_part m dG c j1).trans (by unfold gainOf; blk_simp)

/-- What tile `t` adds to the modulation's gradient. -/
def partM (c : Dev nD) (t : Fin cfg0.N) (p : Fin 8) (l : Fin 6144) : EReal :=
  if p.val = (if t.val % 9 = 0 then 1 else 0) then cat (part m dShift c t) (part m dScale c t) l else 0

/-- The image tiles' parts sum to the image's sum. -/
theorem sum_img (f : Row → Row → Row → Row → Fin 2048 → EReal) (c : Dev nD) (l : Fin 2048) :
    ∑ t : Fin 8, part m f c ⟨t.succ.val, lt_of_lt_of_eq t.succ.isLt N_0.symm⟩ l = ∑ r, imgAt f (m ((c : Thread nD τ).loc main_arg0)) (m ((c : Thread nD τ).loc main_arg1)) (m ((c : Thread nD τ).loc main_arg2)) (m ((c : Thread nD τ).loc main_arg3)) (m ((c : Thread nD τ).loc main_arg4)) l r := by
  rw [Fin.sum_univ_tiles (M := EReal) 8 256 rfl (fun r => imgAt f (m ((c : Thread nD τ).loc main_arg0)) (m ((c : Thread nD τ).loc main_arg1)) (m ((c : Thread nD τ).loc main_arg2)) (m ((c : Thread nD τ).loc main_arg3)) (m ((c : Thread nD τ).loc main_arg4)) l r)]
  exact Finset.sum_congr rfl fun t _ => if_neg (show ¬(t.val + 1) % 9 = 0 by have := t.isLt; omega)

theorem sum_partM (c : Dev nD) (p : Fin 8) (l : Fin 6144) :
    ∑ t : Fin 9, partM m c ⟨t.val, lt_of_lt_of_eq t.isLt N_0.symm⟩ p l = modOf (m ((c : Thread nD τ).loc main_arg0)) (m ((c : Thread nD τ).loc main_arg1)) (m ((c : Thread nD τ).loc main_arg2)) (m ((c : Thread nD τ).loc main_arg3)) (m ((c : Thread nD τ).loc main_arg4)) p l := by
  rw [Fin.sum_univ_succ]
  unfold partM modOf
  have hs : ∀ t : Fin 8, ¬t.succ.val % 9 = 0 := fun t => by have := t.isLt; rw [Fin.val_succ]; omega
  simp only [hs, if_false, Fin.val_zero, Nat.zero_mod, if_true]
  by_cases h0 : p.val = 0
  · rw [if_neg (by omega), zero_add, if_pos (by omega)]
    simp only [h0, if_true]
    rw [sum_cat]
    simp only [sum_img]
  · simp only [h0, if_false, Finset.sum_const_zero, add_zero]
    rw [if_neg (by omega : ¬p.val < 1)]
    by_cases h1 : p.val = 1
    · rw [if_pos h1, if_pos (by omega)]
      rfl
    · rw [if_neg h1, if_neg (by omega)]

theorem final8 (c : Dev nD) : (dats m 0 c).arrAt 8 cfg0.N
    = (fun j => modOf (m ((c : Thread nD τ).loc main_arg0)) (m ((c : Thread nD τ).loc main_arg1)) (m ((c : Thread nD τ).loc main_arg2)) (m ((c : Thread nD τ).loc main_arg3)) (m ((c : Thread nD τ).loc main_arg4)) (j 0) (j 1) : FVec Ideal S8x6144 .f32) := by
  refine (dats m 0 c).arrAt_eq_of_after_last 8 t0_8 (by decide +kernel) _ fun j => ?_
  blk_simp
  idx_vars j
  rw [after0_8, Pipeline.eq_sum_fin_of_reset_step_apply_last (fun n h => (outsAt0 m c n h).2.2) 9 (fun _ => 0)
    (fun t j => partM m c t (j 0) (j 1))
    (fun t h j => by
      rw [outsAt0_A m c t h h]; frame_out; idx_vars j
      rw [(isCtx t).trans (if_pos h)]
      refine (pay13_ctx _ _ _ j0 j1).trans ?_
      rw [pay1_at]
      unfold partM
      simp only [if_pos h, pay10_at (grid0.coords t) (iblk m c 0 t) (iblk m c 1 t) _ (iblk m c 4 t) (k0_pay8 (F := Ideal) (grid0.coords t) (iblk m c 5 t)), pay11_at _ _ _ _ _ (k0_pay8 (F := Ideal) (grid0.coords t) (iblk m c 5 t)), part_eq]
      first | rfl | done)
    (fun t h j => by
      rw [outsAt0_B m c t h h]; frame_out; idx_vars j
      rw [(isCtx t).trans (if_neg h)]
      refine (pay13_img _ _ _ j0 j1).trans ?_
      unfold partM
      simp only [if_neg h, Nat.lt_one_iff, pay10_at (grid0.coords t) (iblk m c 0 t) (iblk m c 1 t) _ (iblk m c 4 t) (k0_pay8 (F := Ideal) (grid0.coords t) (iblk m c 5 t)), pay11_at _ _ _ _ _ (k0_pay8 (F := Ideal) (grid0.coords t) (iblk m c 5 t)), part_eq]
      first | rfl | done)
    (le_of_eq N_0) t0_8 rfl _, zero_add]
  exact sum_partM m c j0 j1

end Cert.HBwdIdeal.RefValue

namespace Cert.Proof.HBwd

open Cert.HBwdIdeal.RefValue

theorem frame_p : Cert.quiescent_HBwd := fun m ρ _ => Cert.HBwd.Gen.frame m ρ
theorem frame_pi : Cert.quiescent_HBwdIdeal := fun m ρ _ => Cert.HBwdIdeal.Gen.frame m ρ
theorem frame_ri : Cert.quiescent_HBwdRefIdeal := fun m ρ _ =>
  (θ_run Cert.HBwdRefIdeal.defs _ _).mono (fun r h => ⟨fun c => (h c).2.2.2,
      Idealize.ShloMosaic.sem_eq_zero_of_no_sems (by decide) r.2⟩)
    (Cert.HBwdRefIdeal.Value.run (F := Ideal) m ρ)

variable (m : (ℓ : Loc Cert.HBwdIdeal.nD Cert.HBwdIdeal.τ Cert.HBwdIdeal.sig) → Buf (Elt Ideal) ℓ) (c : Dev Cert.HBwdIdeal.nD)

theorem ref6 (x1 : FVec Ideal Cert.HBwdIdeal.S2048x2048 .f32) (x2 : FVec Ideal Cert.HBwdIdeal.S1x2048 .f32) (x3 : FVec Ideal Cert.HBwdIdeal.S8x6144 .f32) (x4 : FVec Ideal Cert.HBwdIdeal.S2304x2048 .f32) (x5 : FVec Ideal Cert.HBwdIdeal.S2304x2048 .f32)
    (e1 : x1 = m (c.tc.loc Cert.HBwdIdeal.main_arg1)) (e2 : x2 = m (c.tc.loc Cert.HBwdIdeal.main_arg2)) (e3 : x3 = m (c.tc.loc Cert.HBwdIdeal.main_arg3)) (e4 : x4 = m (c.tc.loc Cert.HBwdIdeal.main_arg4)) (e5 : x5 = m (c.tc.loc Cert.HBwdIdeal.main_arg5)) :
    Cert.HBwdRefIdeal.Read.val_main_v134 (F := Ideal) x1 x2 x3 x4 x5
      = (fun j => imgAt Cert.HSpec.dS (m (c.tc.loc Cert.HBwdIdeal.main_arg0)) (m (c.tc.loc Cert.HBwdIdeal.main_arg1)) (m (c.tc.loc Cert.HBwdIdeal.main_arg2)) (m (c.tc.loc Cert.HBwdIdeal.main_arg3)) (m (c.tc.loc Cert.HBwdIdeal.main_arg4)) (j 1) (j 0) + (m (c.tc.loc Cert.HBwdIdeal.main_arg5) : FVec Ideal Cert.HBwdIdeal.S2304x2048 .f32) (ix2 ⟨256 + (j 0).val, by have := (j 0).isLt; change _ < 2048 at this; omega⟩ (j 1)) : FVec Ideal Cert.HBwdIdeal.S2048x2048 .f32) := by
  subst e1 e2 e3 e4 e5
  funext j
  idx_vars j
  exact ref134_at (m (c.tc.loc Cert.HBwdIdeal.main_arg0)) _ _ _ _ _ j0 j1

theorem ref7 (x0 : FVec Ideal Cert.HBwdIdeal.S256x2048 .f32) (x1 : FVec Ideal Cert.HBwdIdeal.S2048x2048 .f32) (x3 : FVec Ideal Cert.HBwdIdeal.S8x6144 .f32) (x4 : FVec Ideal Cert.HBwdIdeal.S2304x2048 .f32)
    (e0 : x0 = m (c.tc.loc Cert.HBwdIdeal.main_arg0)) (e1 : x1 = m (c.tc.loc Cert.HBwdIdeal.main_arg1)) (e3 : x3 = m (c.tc.loc Cert.HBwdIdeal.main_arg3)) (e4 : x4 = m (c.tc.loc Cert.HBwdIdeal.main_arg4)) :
    Cert.HBwdRefIdeal.Read.val_main_v113 (F := Ideal) x0 x1 x3 x4
      = (fun j => gainOf (m (c.tc.loc Cert.HBwdIdeal.main_arg0)) (m (c.tc.loc Cert.HBwdIdeal.main_arg1)) (m (c.tc.loc Cert.HBwdIdeal.main_arg2)) (m (c.tc.loc Cert.HBwdIdeal.main_arg3)) (m (c.tc.loc Cert.HBwdIdeal.main_arg4)) (j 1) : FVec Ideal Cert.HBwdIdeal.S1x2048 .f32) := by
  subst e0 e1 e3 e4
  funext j
  idx_vars j
  exact ref113_at _ _ _ _ _ j0 j1

theorem ref8 (x0 : FVec Ideal Cert.HBwdIdeal.S256x2048 .f32) (x1 : FVec Ideal Cert.HBwdIdeal.S2048x2048 .f32) (x2 : FVec Ideal Cert.HBwdIdeal.S1x2048 .f32) (x4 : FVec Ideal Cert.HBwdIdeal.S2304x2048 .f32)
    (e0 : x0 = m (c.tc.loc Cert.HBwdIdeal.main_arg0)) (e1 : x1 = m (c.tc.loc Cert.HBwdIdeal.main_arg1)) (e2 : x2 = m (c.tc.loc Cert.HBwdIdeal.main_arg2)) (e4 : x4 = m (c.tc.loc Cert.HBwdIdeal.main_arg4)) :
    Cert.HBwdRefIdeal.Read.val_main_v132 (F := Ideal) x0 x1 x2 x4
      = (fun j => modOf (m (c.tc.loc Cert.HBwdIdeal.main_arg0)) (m (c.tc.loc Cert.HBwdIdeal.main_arg1)) (m (c.tc.loc Cert.HBwdIdeal.main_arg2)) (m (c.tc.loc Cert.HBwdIdeal.main_arg3)) (m (c.tc.loc Cert.HBwdIdeal.main_arg4)) (j 0) (j 1) : FVec Ideal Cert.HBwdIdeal.S8x6144 .f32) := by
  subst e0 e1 e2 e4
  funext j
  idx_vars j
  exact ref132_at _ _ _ _ _ j0 j1

/-- The kernel's three gradients are the reference's. -/
theorem algebraic : Cert.algebraic_HBwdIdeal_HBwdRefIdeal := by
  pair_intro
  · run_from Cert.HBwdIdeal.Gen.run_main m g
  · run_from Cert.HBwdRefIdeal.Value.run m' g'
    · rw [Cert.HBwdRefIdeal.Read.val_main_v134_eq, final6 m c]
      refine ref6 m c _ _ _ _ _ ?_ ?_ ?_ ?_ ?_
      all_goals first
        | exact (hagree c).1
        | exact (hagree c).2.1
        | exact (hagree c).2.2.1
        | exact (hagree c).2.2.2.1
        | exact (hagree c).2.2.2.2.1
        | exact (hagree c).2.2.2.2.2
        | rfl
    · rw [Cert.HBwdRefIdeal.Read.val_main_v113_eq, final7 m c]
      refine ref7 m c _ _ _ _ ?_ ?_ ?_ ?_
      all_goals first
        | exact (hagree c).1
        | exact (hagree c).2.1
        | exact (hagree c).2.2.1
        | exact (hagree c).2.2.2.1
        | exact (hagree c).2.2.2.2.1
        | exact (hagree c).2.2.2.2.2
        | rfl
    · rw [Cert.HBwdRefIdeal.Read.val_main_v132_eq, final8 m c]
      refine ref8 m c _ _ _ _ ?_ ?_ ?_ ?_
      all_goals first
        | exact (hagree c).1
        | exact (hagree c).2.1
        | exact (hagree c).2.2.1
        | exact (hagree c).2.2.2.1
        | exact (hagree c).2.2.2.2.1
        | exact (hagree c).2.2.2.2.2
        | rfl

end Cert.Proof.HBwd

end
-- ==== Proof.RwFrame.lean ====
module

public import proofs.«01_k».proof.Proof.Gen.RwPostBwdIdeal.Frame.RunA
public import proofs.«01_k».proof.Proof.Gen.RwPostBwdIdeal.Frame.RunB
public import Idealize.ShloMosaic.Lib.Claim

/-! The gradient call of the delta-rule output stage: what its nine outputs hold point by point, and its frame.

The call's grid has nine points; at point 0 the six summed outputs are cleared, at every later point they are read
and added to.  All six clearings test the same word, so one hypothesis decides the case. -/

@[expose] public section

set_option maxRecDepth 16384

noncomputable section

namespace Cert.RwFrame

open Cert.RwPostBwdIdeal Cert.RwPostBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The nine outputs' blocks: three written whole at every point, six summed over the points. -/
abbrev Outs (F : FTy → Type) : Type := Vec F S256x1024 .f32 × Vec F S256x3328 .f32 × Vec F S256x1024 .bf16 × Vec F S2x1024 .f32 × Vec F S2x64x1024 .f32 × Vec F S1x1024 .f32 × Vec F S1x1024 .f32 × Vec F S1x1024 .f32 × Vec F S1x1024 .f32

/-- The body's run at the first point, over that point's blocks. -/
def runA (c : Dev nD) (t : Fin cfg0.N) (h : t.val % 9 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) ((hcond0_0 t).mpr h) ((hcond0_1 t).mpr h) ((hcond0_2 t).mpr h) ((hcond0_3 t).mpr h) ((hcond0_4 t).mpr h) ((hcond0_5 t).mpr h) (iblk m c 0 t) (iblk m c 1 t) (X0_2 m c t) (X0_3 m c t) (X0_4 m c t) (iblk m c 5 t) (iblk m c 6 t) (iblk m c 7 t) (iblk m c 8 t) (iblk m c 9 t) (iblk m c 10 t) (iblk m c 11 t) (iblk m c 12 t) (iblk m c 13 t)

/-- The body's run at a later point, over the blocks and the sums so far. -/
def runB (c : Dev nD) (t : Fin cfg0.N) (h : ¬t.val % 9 = 0) (p : Outs F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (fun e => h ((hcond0_0 t).mp e)) (fun e => h ((hcond0_1 t).mp e)) (fun e => h ((hcond0_2 t).mp e)) (fun e => h ((hcond0_3 t).mp e)) (fun e => h ((hcond0_4 t).mp e)) (fun e => h ((hcond0_5 t).mp e)) (iblk m c 0 t) (iblk m c 1 t) (X0_2 m c t) (X0_3 m c t) (X0_4 m c t) (iblk m c 5 t) (iblk m c 6 t) (iblk m c 7 t) (iblk m c 8 t) (iblk m c 9 t) (iblk m c 10 t) (iblk m c 11 t) (iblk m c 12 t) (iblk m c 13 t) p.2.2.2.1 p.2.2.2.2.1 p.2.2.2.2.2.1 p.2.2.2.2.2.2.1 p.2.2.2.2.2.2.2.1 p.2.2.2.2.2.2.2.2

/-- The outputs after the first point. -/
def outA (c : Dev nD) (t : Fin cfg0.N) (h : t.val % 9 = 0) : Outs F :=
  (VO0_14.read (Elt F) (VO0_14.writes (Elt F) VO0_14.junk (runA m c t h).1),
   VO0_15.read (Elt F) (VO0_15.writes (Elt F) VO0_15.junk (runA m c t h).2.1),
   VO0_16.read (Elt F) (VO0_16.writes (Elt F) VO0_16.junk (runA m c t h).2.2.1),
   VO0_17.read (Elt F) (VO0_17.writes (Elt F) VO0_17.junk (runA m c t h).2.2.2.1),
   VO0_18.read (Elt F) (VO0_18.writes (Elt F) VO0_18.junk (runA m c t h).2.2.2.2.1),
   VO0_19.read (Elt F) (VO0_19.writes (Elt F) VO0_19.junk (runA m c t h).2.2.2.2.2.1),
   VO0_20.read (Elt F) (VO0_20.writes (Elt F) VO0_20.junk (runA m c t h).2.2.2.2.2.2.1),
   VO0_21.read (Elt F) (VO0_21.writes (Elt F) VO0_21.junk (runA m c t h).2.2.2.2.2.2.2.1),
   VO0_22.read (Elt F) (VO0_22.writes (Elt F) VO0_22.junk (runA m c t h).2.2.2.2.2.2.2.2.1))

/-- The outputs after a later point. -/
def outB (c : Dev nD) (t : Fin cfg0.N) (h : ¬t.val % 9 = 0) (p : Outs F) : Outs F :=
  (VO0_14.read (Elt F) (VO0_14.writes (Elt F) VO0_14.junk (runB m c t h p).1),
   VO0_15.read (Elt F) (VO0_15.writes (Elt F) VO0_15.junk (runB m c t h p).2.1),
   VO0_16.read (Elt F) (VO0_16.writes (Elt F) VO0_16.junk (runB m c t h p).2.2.1),
   VO0_17.read (Elt F) (VO0_17.writes (Elt F) VO0_17.junk (runB m c t h p).2.2.2.1),
   VO0_18.read (Elt F) (VO0_18.writes (Elt F) VO0_18.junk (runB m c t h p).2.2.2.2.1),
   VO0_19.read (Elt F) (VO0_19.writes (Elt F) VO0_19.junk (runB m c t h p).2.2.2.2.2.1),
   VO0_20.read (Elt F) (VO0_20.writes (Elt F) VO0_20.junk (runB m c t h p).2.2.2.2.2.2.1),
   VO0_21.read (Elt F) (VO0_21.writes (Elt F) VO0_21.junk (runB m c t h p).2.2.2.2.2.2.2.1),
   VO0_22.read (Elt F) (VO0_22.writes (Elt F) VO0_22.junk (runB m c t h p).2.2.2.2.2.2.2.2.1))

/-- The outputs after the point at position `n`. -/
def outs (c : Dev nD) : (n : ℕ) → n < cfg0.N → Outs F
  | 0, hn => outA m c ⟨0, hn⟩ rfl
  | n + 1, hn => if h : (n + 1) % 9 = 0 then outA m c ⟨n + 1, hn⟩ h
      else outB m c ⟨n + 1, hn⟩ h (outs c n (Nat.lt_of_succ_lt hn))

/-- The outputs one point earlier. -/
abbrev prior (c : Dev nD) (t : Fin cfg0.N) : Outs F := outs m c (t.val - 1) (Nat.lt_of_le_of_lt (Nat.sub_le _ _) t.isLt)

theorem outs_A (c : Dev nD) (t : Fin cfg0.N) (h : t.val % 9 = 0) : outs m c t.val t.isLt = outA m c t h := by
  obtain ⟨n, hn⟩ := t
  cases n with
  | zero => rw [outs]
  | succ n => rw [outs]; exact dif_pos h

theorem outs_B (c : Dev nD) (t : Fin cfg0.N) (h : ¬t.val % 9 = 0) : outs m c t.val t.isLt = outB m c t h (prior m c t) := by
  obtain ⟨n, hn⟩ := t
  cases n with
  | zero => exact absurd (Nat.zero_mod 9) h
  | succ n => rw [outs]; exact dif_neg h

/-- The pipeline's data: each input's buffer at its block, each output's at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => X0_4 m c t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outs m c t.val t.isLt).1
    | ⟨15, _⟩ => (outs m c t.val t.isLt).2.1
    | ⟨16, _⟩ => (outs m c t.val t.isLt).2.2.1
    | ⟨17, _⟩ => (outs m c t.val t.isLt).2.2.2.1
    | ⟨18, _⟩ => (outs m c t.val t.isLt).2.2.2.2.1
    | ⟨19, _⟩ => (outs m c t.val t.isLt).2.2.2.2.2.1
    | ⟨20, _⟩ => (outs m c t.val t.isLt).2.2.2.2.2.2.1
    | ⟨21, _⟩ => (outs m c t.val t.isLt).2.2.2.2.2.2.2.1
    | ⟨22, _⟩ => (outs m c t.val t.isLt).2.2.2.2.2.2.2.2
    | ⟨_ + 23, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = X0_3 m c t := by dsimp only [dats]
theorem after_4 (c : Dev nD) (t : Fin cfg0.N) : (dats m 0 c).after 4 t = X0_4 m c t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = (outs m c t.val t.isLt).1 := by dsimp only [dats]
theorem after_15 (c : Dev nD) (t : Fin cfg0.N) : (dats m 0 c).after 15 t = (outs m c t.val t.isLt).2.1 := by dsimp only [dats]
theorem after_16 (c : Dev nD) (t : Fin cfg0.N) : (dats m 0 c).after 16 t = (outs m c t.val t.isLt).2.2.1 := by dsimp only [dats]
theorem after_17 (c : Dev nD) (t : Fin cfg0.N) : (dats m 0 c).after 17 t = (outs m c t.val t.isLt).2.2.2.1 := by dsimp only [dats]
theorem after_18 (c : Dev nD) (t : Fin cfg0.N) : (dats m 0 c).after 18 t = (outs m c t.val t.isLt).2.2.2.2.1 := by dsimp only [dats]
theorem after_19 (c : Dev nD) (t : Fin cfg0.N) : (dats m 0 c).after 19 t = (outs m c t.val t.isLt).2.2.2.2.2.1 := by dsimp only [dats]
theorem after_20 (c : Dev nD) (t : Fin cfg0.N) : (dats m 0 c).after 20 t = (outs m c t.val t.isLt).2.2.2.2.2.2.1 := by dsimp only [dats]
theorem after_21 (c : Dev nD) (t : Fin cfg0.N) : (dats m 0 c).after 21 t = (outs m c t.val t.isLt).2.2.2.2.2.2.2.1 := by dsimp only [dats]
theorem after_22 (c : Dev nD) (t : Fin cfg0.N) : (dats m 0 c).after 22 t = (outs m c t.val t.isLt).2.2.2.2.2.2.2.2 := by dsimp only [dats]

/-- A summed output's buffer at a later point holds what the point before left. -/
theorem kept (c : Dev nD) (w : Fin cfg0.W) (hw : (cfg0.win w).isOut = true)
    (hf : ∀ t : Fin cfg0.N, (cfg0.win w).flush t = true ↔ t.val % 9 = 8) (hi : ∀ i, cfg0.idle w i = false)
    (hc : ∀ (i : cfg0.grid.Coords) a, (cfg0.win w).clip i a = none) (t : Fin cfg0.N) (h : ¬t.val % 9 = 0) (d) :
    (dats m 0 c).before w t d = (dats m 0 c).after w ⟨t.val - 1, Nat.lt_of_le_of_lt (Nat.sub_le _ _) t.isLt⟩ := by
  have hN : t.val < 9 := lt_of_lt_of_eq t.isLt (show cfg0.N = 9 from N_0)
  exact Dat.before_out_kept _ w hw t (by omega)
    (Bool.eq_false_iff.mpr fun e => by have := (hf _).mp e; dsimp only at this; omega) hi hc d

/-- The outputs' buffers at a point: what the body finds there, and leaves. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- What the body leaves at a point. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 4000000 in
/-- The body at any point turns the one into the other. -/
theorem body_at (c : Dev nD) (t : Fin cfg0.N) :
    pre m c t ⊢ wp frame (wpE (defs₀ (F := F)) Variants.none c none) Set.univ (bodyAt0 t) (fun _ => post m c t) := by
  unfold pre post bodyAt0
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c), before0_7_of m (dats m 0 c) (A_eq m c 7) (after_7 m c), before0_8_of m (dats m 0 c) (A_eq m c 8) (after_8 m c), before0_9_of m (dats m 0 c) (A_eq m c 9) (after_9 m c), before0_10_of m (dats m 0 c) (A_eq m c 10) (after_10 m c), before0_11_of m (dats m 0 c) (A_eq m c 11) (after_11 m c), before0_12_of m (dats m 0 c) (A_eq m c 12) (after_12 m c), before0_13_of m (dats m 0 c) (A_eq m c 13) (after_13 m c)]
  rw [show (dats m 0 c).Φ t.succ = (dats m 0 c).Φ t.castSucc from rfl,
    show (dats m 0 c).owesAt () t.succ = (dats m 0 c).owesAt () t.castSucc from rfl, after_0, after_1, after_2, after_3, after_4, after_5, after_6, after_7, after_8, after_9, after_10, after_11, after_12, after_13, after_14, after_15, after_16, after_17, after_18, after_19, after_20, after_21, after_22]
  by_cases h : t.val % 9 = 0
  · rw [outs_A m c t h]
    unfold outA; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((runA m c t h).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (View.cover_of_tiledL (runA m c t h).1 S256x1024.size (by sl_kernel_rfl))
    isplitl [H15]
    · unfold owns; iexists _; isplitr
      swap; · iexact H15
      ipureintro; exact View.read_writes_of_cover _ _ _ _ _ (View.cover_of_tiledL (runA m c t h).2.1 S256x3328.size (by sl_kernel_rfl))
    isplitl [H16]
    · unfold owns; iexists _; isplitr
      swap; · iexact H16
      ipureintro; exact View.read_writes_of_cover _ _ _ _ _ (View.cover_of_tiledL (runA m c t h).2.2.1 S256x1024.size (by sl_kernel_rfl))
    isplitl [H17]
    · unfold owns; iexists _; isplitr
      swap; · iexact H17
      ipureintro; exact View.read_writes_of_cover _ _ _ _ _ (View.cover_of_tiledL (runA m c t h).2.2.2.1 S2x1024.size (by sl_kernel_rfl))
    isplitl [H18]
    · unfold owns; iexists _; isplitr
      swap; · iexact H18
      ipureintro; exact View.read_writes_of_cover _ _ _ _ _ (View.cover_of_tiledL (runA m c t h).2.2.2.2.1 S2x64x1024.size (by sl_kernel_rfl))
    isplitl [H19]
    · unfold owns; iexists _; isplitr
      swap; · iexact H19
      ipureintro; exact View.read_writes_of_cover _ _ _ _ _ (View.cover_of_tiledL (runA m c t h).2.2.2.2.2.1 S1x1024.size (by sl_kernel_rfl))
    isplitl [H20]
    · unfold owns; iexists _; isplitr
      swap; · iexact H20
      ipureintro; exact View.read_writes_of_cover _ _ _ _ _ (View.cover_of_tiledL (runA m c t h).2.2.2.2.2.2.1 S1x1024.size (by sl_kernel_rfl))
    isplitl [H21]
    · unfold owns; iexists _; isplitr
      swap; · iexact H21
      ipureintro; exact View.read_writes_of_cover _ _ _ _ _ (View.cover_of_tiledL (runA m c t h).2.2.2.2.2.2.2.1 S1x1024.size (by sl_kernel_rfl))
    unfold owns; iexists _; isplitr
    swap; · iexact H22
    ipureintro; exact View.read_writes_of_cover _ _ _ _ _ (View.cover_of_tiledL (runA m c t h).2.2.2.2.2.2.2.2.1 S1x1024.size (by sl_kernel_rfl))
  · rw [outs_B m c t h]
    simp only [kept m c 17 rfl flush0_17 (fun _ => rfl) (fun _ _ => rfl) t h, kept m c 18 rfl flush0_18 (fun _ => rfl) (fun _ _ => rfl) t h, kept m c 19 rfl flush0_19 (fun _ => rfl) (fun _ _ => rfl) t h, kept m c 20 rfl flush0_20 (fun _ => rfl) (fun _ _ => rfl) t h, kept m c 21 rfl flush0_21 (fun _ => rfl) (fun _ _ => rfl) t h, kept m c 22 rfl flush0_22 (fun _ => rfl) (fun _ _ => rfl) t h, after_17, after_18, after_19, after_20, after_21, after_22]
    unfold outB; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((runB m c t h (prior m c t)).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexact H17
    isplitl [H18]; · iexact H18
    isplitl [H19]; · iexact H19
    isplitl [H20]; · iexact H20
    isplitl [H21]; · iexact H21
    isplitl [H22]; · iexact H22
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (View.cover_of_tiledL (runB m c t h (prior m c t)).1 S256x1024.size (by sl_kernel_rfl))
    isplitl [H15]
    · unfold owns; iexists _; isplitr
      swap; · iexact H15
      ipureintro; exact View.read_writes_of_cover _ _ _ _ _ (View.cover_of_tiledL (runB m c t h (prior m c t)).2.1 S256x3328.size (by sl_kernel_rfl))
    isplitl [H16]
    · unfold owns; iexists _; isplitr
      swap; · iexact H16
      ipureintro; exact View.read_writes_of_cover _ _ _ _ _ (View.cover_of_tiledL (runB m c t h (prior m c t)).2.2.1 S256x1024.size (by sl_kernel_rfl))
    isplitl [H17]
    · unfold owns; iexists _; isplitr
      swap; · iexact H17
      ipureintro; exact View.read_writes_of_cover _ _ _ _ _ (View.cover_of_tiledL (runB m c t h (prior m c t)).2.2.2.1 S2x1024.size (by sl_kernel_rfl))
    isplitl [H18]
    · unfold owns; iexists _; isplitr
      swap; · iexact H18
      ipureintro; exact View.read_writes_of_cover _ _ _ _ _ (View.cover_of_tiledL (runB m c t h (prior m c t)).2.2.2.2.1 S2x64x1024.size (by sl_kernel_rfl))
    isplitl [H19]
    · unfold owns; iexists _; isplitr
      swap; · iexact H19
      ipureintro; exact View.read_writes_of_cover _ _ _ _ _ (View.cover_of_tiledL (runB m c t h (prior m c t)).2.2.2.2.2.1 S1x1024.size (by sl_kernel_rfl))
    isplitl [H20]
    · unfold owns; iexists _; isplitr
      swap; · iexact H20
      ipureintro; exact View.read_writes_of_cover _ _ _ _ _ (View.cover_of_tiledL (runB m c t h (prior m c t)).2.2.2.2.2.2.1 S1x1024.size (by sl_kernel_rfl))
    isplitl [H21]
    · unfold owns; iexists _; isplitr
      swap; · iexact H21
      ipureintro; exact View.read_writes_of_cover _ _ _ _ _ (View.cover_of_tiledL (runB m c t h (prior m c t)).2.2.2.2.2.2.2.1 S1x1024.size (by sl_kernel_rfl))
    unfold owns; iexists _; isplitr
    swap; · iexact H22
    ipureintro; exact View.read_writes_of_cover _ _ _ _ _ (View.cover_of_tiledL (runB m c t h (prior m c t)).2.2.2.2.2.2.2.2.1 S1x1024.size (by sl_kernel_rfl))

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body_at m c t) rfl .rfl fun _ => .rfl

set_option backward.isDefEq.respectTransparency.types false in
/-- The launch: every array of the pipeline at what the data computes, every counter back at zero. -/
theorem run_counters : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_counters m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_counters m ρ))

end Cert.RwFrame

end
-- ==== Proof.RwSpec.lean ====
/-
  The gradients of the second mixer's head.  A row has sixteen heads of 64 channels.  The summed branches are normalised
  head by head, scaled and shifted; to that is added each head's bonus times its values; the whole is gated by silu.
  Everything lives on one row of the input, so it is written over rows.
-/
module

public import Idealize.ShloMosaic.Lib.Pointwise

@[expose] public section

noncomputable section

open Idealize.ShloMosaic

namespace Cert.RwSpec

/-- A row of 1024 channels. -/
abbrev Row := Fin 1024 → EReal

/-- What one row of the results is computed from: that row of the arrays, and the shared weights. -/
structure In where
  /-- The first branch. -/
  y0 : Row
  /-- The second branch. -/
  y1 : Row
  /-- The receptance. -/
  r : Row
  /-- The key. -/
  k : Row
  /-- The value. -/
  v : Row
  /-- The low-rank inputs of the two removal gates, 64 each. -/
  lo : Fin 128 → EReal
  /-- The output gate. -/
  z : Row
  /-- The cotangent. -/
  d : Row
  /-- The removal gates' offsets. -/
  a0 : Fin 2 → Row
  /-- The removal gates' second factors. -/
  a2 : Fin 2 → Fin 64 → Row
  /-- The key's mixing weight. -/
  ka : Row
  /-- The bonus weight. -/
  rk : Row
  /-- The gain. -/
  g : Row
  /-- The shift. -/
  b : Row

variable (x : In)

/-- A channel's head. -/
def hd (l : Fin 1024) : Fin 16 := ⟨l.val / 64, by have := l.isLt; omega⟩
/-- A head's channel. -/
def ch (h : Fin 16) (e : Fin 64) : Fin 1024 := ⟨h.val * 64 + e.val, by have := h.isLt; have := e.isLt; omega⟩
/-- A low-rank input of the first gate. -/
def lo0 (j : Fin 64) : Fin 128 := ⟨j.val, by have := j.isLt; omega⟩
/-- A low-rank input of the second gate. -/
def lo1 (j : Fin 64) : Fin 128 := ⟨64 + j.val, by have := j.isLt; omega⟩

/-- The removal gates. -/
def act0 (l : Fin 1024) : EReal := Ideal.logistic (x.a0 0 l + ∑ j : Fin 64, x.lo (lo0 j) * x.a2 0 j l)
def act1 (l : Fin 1024) : EReal := Ideal.logistic (x.a0 1 l + ∑ j : Fin 64, x.lo (lo1 j) * x.a2 1 j l)

/-- Two. -/
abbrev two : EReal := Ideal.ofBits .f32 1073741824#32

/-- The two gates' common weight of the key, minus nothing: `2 + (sum − 2) ka`. -/
def keyK (l : Fin 1024) : EReal := two + (act0 x l + act1 x l - two) * x.ka l
/-- One gate's weight of the key. -/
def key (a : Row) (l : Fin 1024) : EReal := 1 + (a l - 1) * x.ka l
/-- The summed keys, with the common weight. -/
def ksK (l : Fin 1024) : EReal := x.k l * keyK x l
/-- The summed keys, one gate after the other. -/
def ksR (l : Fin 1024) : EReal := x.k l * key x (act0 x) l + x.k l * key x (act1 x) l

/-- A head's mean and the deviation from it. -/
def mean (h : Fin 16) : EReal := Ideal.div (∑ e : Fin 64, (x.y0 (ch h e) + x.y1 (ch h e))) (Ideal.ofBits .f32 1115684864#32)
def cen (h : Fin 16) (e : Fin 64) : EReal := x.y0 (ch h e) + x.y1 (ch h e) - mean x h
def cenl (l : Fin 1024) : EReal := x.y0 l + x.y1 l - mean x (hd l)
/-- A head's variance with the rounding term. -/
def var (h : Fin 16) : EReal :=
  Ideal.div (∑ e : Fin 64, cen x h e * cen x h e) (Ideal.ofBits .f32 1115684864#32) + Ideal.ofBits .f32 975685036#32
/-- The normalised channel. -/
def nrm (l : Fin 1024) : EReal := cenl x l * Ideal.rsqrt (var x (hd l))
/-- A head's bonus, of summed keys `ks`. -/
def bonus (ks : Row) (h : Fin 16) : EReal := ∑ e : Fin 64, x.r (ch h e) * ks (ch h e) * x.rk (ch h e)

/-- The cotangent through the gate. -/
def ds (l : Fin 1024) : EReal := x.d l * (x.z l * Ideal.logistic (x.z l))
/-- The gate's gradient. -/
def dZ (ks : Row) (l : Fin 1024) : EReal :=
  (nrm x l * x.g l + x.b l + bonus x ks (hd l) * x.v l) * x.d l * Ideal.logistic (x.z l)
    + x.z l * ((nrm x l * x.g l + x.b l + bonus x ks (hd l) * x.v l) * x.d l) * (Ideal.logistic (x.z l) * (1 - Ideal.logistic (x.z l)))
/-- The value's gradient. -/
def dV (ks : Row) (l : Fin 1024) : EReal := bonus x ks (hd l) * ds x l
/-- The bonus's cotangent. -/
def dS (h : Fin 16) : EReal := ∑ e : Fin 64, ds x (ch h e) * x.v (ch h e)
/-- A row's part of the bonus weight's gradient. -/
def dRk (ks : Row) (l : Fin 1024) : EReal := x.r l * ks l * dS x (hd l)
def dQ (l : Fin 1024) : EReal := dS x (hd l) * x.rk l
/-- The receptance's gradient. -/
def dR (ks : Row) (l : Fin 1024) : EReal := dQ x l * ks l
/-- The summed keys' cotangent. -/
def w (l : Fin 1024) : EReal := x.r l * dQ x l
/-- A row's part of the gain's gradient. -/
def dGg (l : Fin 1024) : EReal := nrm x l * ds x l

/-- The normalised row's cotangent and the normalisation's gradient. -/
def wn (l : Fin 1024) : EReal := ds x l * x.g l
def c1 (h : Fin 16) : EReal :=
  Ideal.div ((∑ e : Fin 64, cen x h e * wn x (ch h e)) * (Ideal.ofBits .f32 3204448256#32 * Ideal.div (Ideal.rsqrt (var x h)) (var x h)))
    (Ideal.ofBits .f32 1115684864#32)
def c2 (h : Fin 16) : EReal :=
  Ideal.div ((∑ e : Fin 64, -(wn x (ch h e) * Ideal.rsqrt (var x h))) + ∑ e : Fin 64, -(c1 x h * (two * cen x h e)))
    (Ideal.ofBits .f32 1115684864#32)
def dY (l : Fin 1024) : EReal := wn x l * Ideal.rsqrt (var x (hd l)) + c1 x (hd l) * (two * cenl x l) + c2 x (hd l)

/-- The key's gradient, with the common weight and one gate after the other. -/
def dKK (l : Fin 1024) : EReal := w x l * keyK x l
def dKR (l : Fin 1024) : EReal := w x l * key x (act1 x) l + w x l * key x (act0 x) l
/-- A row's part of the mixing weight's gradient. -/
def dKaK (l : Fin 1024) : EReal := (act0 x l + act1 x l - two) * (x.k l * w x l)
def dKaR (a : Row) (l : Fin 1024) : EReal := (a l - 1) * (x.k l * w x l)
/-- A gate's cotangent before its logistic. -/
def dE (a : Row) (l : Fin 1024) : EReal := x.k l * w x l * x.ka l * (a l * (1 - a l))
/-- The low-rank inputs' gradients. -/
def dLo0 (j : Fin 64) : EReal := ∑ l : Fin 1024, dE x (act0 x) l * x.a2 0 j l
def dLo1 (j : Fin 64) : EReal := ∑ l : Fin 1024, dE x (act1 x) l * x.a2 1 j l

/-- Both gates' low-rank inputs' gradients side by side. -/
def dLo (c : Fin 128) : EReal :=
  if h : c.val < 64 then dLo0 x ⟨c.val, h⟩ else dLo1 x ⟨c.val - 64, by have := c.isLt; omega⟩

/-- The gradient of the shifted row, from the receptance's, key's and value's gradients. -/
def dSh (R K V : Row) (c : Fin 3328) : EReal :=
  if h : c.val < 1024 then R ⟨c.val, h⟩
  else if h : c.val - 1024 < 1024 then K ⟨c.val - 1024, h⟩
  else if h : c.val - 1024 - 1024 < 1024 then V ⟨c.val - 1024 - 1024, h⟩
  else if c.val - 1024 - 1024 - 1024 < 128 then 0
  else dLo x ⟨c.val - 1024 - 1024 - 1024 - 128, by have := c.isLt; omega⟩
/-- A row's part of the gates' offsets' and second factors' gradients. -/
def dA0 (q : Fin 2) (l : Fin 1024) : EReal := if q.val < 1 then dE x (act0 x) l else dE x (act1 x) l
def dA2 (q : Fin 2) (j : Fin 64) (l : Fin 1024) : EReal :=
  if q.val < 1 then dE x (act0 x) l * x.lo (lo0 j) else dE x (act1 x) l * x.lo (lo1 j)

/-- Two halves of 64 written into a row of 128 zeros and added. -/
theorem halves (f0 f1 : Fin 64 → EReal) (l : Fin 128) :
    ((if h : (1 ≤ l.val / 64 ∧ l.val / 64 - 1 < 1) ∧ l.val % 64 < 64 then f1 ⟨l.val % 64, h.2⟩ else 0)
      + if h : l.val / 64 < 1 ∧ l.val % 64 < 64 then f0 ⟨l.val % 64, h.2⟩ else 0)
      = if h : l.val < 64 then f0 ⟨l.val, h⟩ else f1 ⟨l.val - 64, by have := l.isLt; omega⟩ := by
  have hl := l.isLt
  by_cases h : l.val < 64
  · rw [dif_neg (by omega), dif_pos (by omega), dif_pos h, zero_add]
    exact congrArg f0 (Fin.ext (by show l.val % 64 = l.val; omega))
  · rw [dif_pos (by omega), dif_neg (by omega), dif_neg h, add_zero]
    exact congrArg f1 (Fin.ext (by show l.val % 64 = l.val - 64; omega))

/-- The four parts of the shifted row's gradient written into rows of zeros and added. -/
theorem padded (R K V : Row) (l : Fin 3328) :
    ((((if h : 3200 ≤ l.val ∧ l.val - 3200 < 128 then dLo x ⟨l.val - 3200, h.2⟩ else 0)
        + if h : 2048 ≤ l.val ∧ l.val - 2048 < 1024 then V ⟨l.val - 2048, h.2⟩ else 0)
        + if h : 1024 ≤ l.val ∧ l.val - 1024 < 1024 then K ⟨l.val - 1024, h.2⟩ else 0)
        + if h : l.val < 1024 then R ⟨l.val, h⟩ else 0) = dSh x R K V l := by
  have hl := l.isLt
  unfold dSh
  by_cases h1 : l.val < 1024
  · rw [dif_neg (by omega), dif_neg (by omega), dif_neg (by omega), dif_pos h1, dif_pos h1]
    simp only [zero_add]
  by_cases h2 : l.val - 1024 < 1024
  · rw [dif_neg (by omega), dif_neg (by omega), dif_pos (by omega), dif_neg h1, dif_neg h1, dif_pos h2]
    simp only [zero_add, add_zero]
  by_cases h3 : l.val - 1024 - 1024 < 1024
  · rw [dif_neg (by omega), dif_pos (by omega), dif_neg (by omega), dif_neg h1, dif_neg h1, dif_neg h2, dif_pos h3]
    simp only [zero_add, add_zero]
    exact congrArg V (Fin.ext (by show l.val - 2048 = l.val - 1024 - 1024; omega))
  by_cases h4 : l.val - 1024 - 1024 - 1024 < 128
  · rw [dif_neg (by omega), dif_neg (by omega), dif_neg (by omega), dif_neg h1, dif_neg h1, dif_neg h2, dif_neg h3, if_pos h4]
    simp only [add_zero]
  rw [dif_pos (by omega), dif_neg (by omega), dif_neg (by omega), dif_neg h1, dif_neg h1, dif_neg h2, dif_neg h3, if_neg h4]
  simp only [add_zero]
  exact congrArg (dLo x) (Fin.ext (by show l.val - 3200 = l.val - 1024 - 1024 - 1024 - 128; omega))

end Cert.RwSpec

end
-- ==== Proof.RwPay.lean ====
module

public import proofs.«01_k».proof.Defs
public import proofs.«01_k».proof.Proof.RwFrame
public import proofs.«01_k».proof.Proof.RwSpec
public import Idealize.ShloMosaic.Lib.Pipeline.ValueKit
public import Idealize.ShloMosaic.Lib.Pointwise
public import Idealize.ShloMosaic.Lib.Claim
public import Idealize.ShloMosaic.Lib.Quiescent

/-! The kernel body's nine results at one tile, read channel by channel. -/

@[expose] public section

set_option maxRecDepth 16384

noncomputable section

open Idealize.ShloMosaic Idealize.ShloMosaic.TcCoe Idealize.SL.Sem
open Idealize.ShloMosaic.Pipeline (Dat)

namespace Cert.RwPostBwdIdeal.RefValue

open Cert.RwPostBwdIdeal Cert.RwPostBwdIdeal.Gen Cert.RwSpec

/-- One row of a tile. -/
def tile (y0 y1 r k v z d : FVec Ideal S256x1024 .f32) (lo : FVec Ideal S256x128 .f32) (a0 : FVec Ideal S2x1024 .f32) (a2 : FVec Ideal S2x64x1024 .f32) (ka rk g b : FVec Ideal S1x1024 .f32) (p : Fin 256) : In where
  y0 := fun l => y0 (ix2 p l)
  y1 := fun l => y1 (ix2 p l)
  r := fun l => r (ix2 p l)
  k := fun l => k (ix2 p l)
  v := fun l => v (ix2 p l)
  lo := fun l => lo (ix2 p l)
  z := fun l => z (ix2 p l)
  d := fun l => d (ix2 p l)
  a0 := fun q l => a0 (ix2 q l)
  a2 := fun q j l => a2 (ix3 q j l)
  ka := fun l => ka (ix2 0 l)
  rk := fun l => rk (ix2 0 l)
  g := fun l => g (ix2 0 l)
  b := fun l => b (ix2 0 l)

theorem pay14_at (y0 y1 r k v z d : FVec Ideal S256x1024 .f32) (lo : FVec Ideal S256x128 .f32) (a0 : FVec Ideal S2x1024 .f32) (a2 : FVec Ideal S2x64x1024 .f32) (ka rk g b : FVec Ideal S1x1024 .f32) (p : Fin 256) (l : Fin 1024) :
    k0_pay44 (F := Ideal) ((k0_pay19 (F := Ideal)) y0 y1) ((k0_pay22 (F := Ideal)) y0 y1) ((k0_pay23 (F := Ideal)) y0 y1) ((k0_pay42 (F := Ideal)) ((k0_pay3 (F := Ideal)) z) d g) ((k0_pay43 (F := Ideal)) ((k0_pay3 (F := Ideal)) z) d g ((k0_pay20 (F := Ideal)) y0 y1)) (ix2 p l) = dY (tile y0 y1 r k v z d lo a0 a2 ka rk g b p) l := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  try simp only [Finset.univ_unique, Finset.sum_singleton, zero_sub, zero_add, add_zero]
  rfl

theorem pay16_at (y0 y1 r k v z d : FVec Ideal S256x1024 .f32) (lo : FVec Ideal S256x128 .f32) (a0 : FVec Ideal S2x1024 .f32) (a2 : FVec Ideal S2x64x1024 .f32) (ka rk g b : FVec Ideal S1x1024 .f32) (p : Fin 256) (l : Fin 1024) :
    k0_pay57 (F := Ideal) ((k0_pay32 (F := Ideal)) r v ((k0_pay3 (F := Ideal)) z) d rk ((k0_pay15 (F := Ideal)) k lo a0 a2 ka ((k0_pay6 (F := Ideal)) lo a0 a2) (k0_pay8 (F := Ideal))) ((k0_pay25 (F := Ideal)) y0 y1 g) ((k0_pay26 (F := Ideal)) b)) (ix2 p l) = dZ (tile y0 y1 r k v z d lo a0 a2 ka rk g b p) (ksK (tile y0 y1 r k v z d lo a0 a2 ka rk g b p)) l := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  try simp only [Finset.univ_unique, Finset.sum_singleton, zero_sub, zero_add, add_zero]
  rfl

theorem pay17_at (y0 y1 r k v z d : FVec Ideal S256x1024 .f32) (lo : FVec Ideal S256x128 .f32) (a0 : FVec Ideal S2x1024 .f32) (a2 : FVec Ideal S2x64x1024 .f32) (ka rk g b : FVec Ideal S1x1024 .f32) (acc : FVec Ideal S2x1024 .f32) (q : Fin 2) (l : Fin 1024) :
    k0_pay59 (F := Ideal) ((k0_pay7 (F := Ideal)) lo a0 a2) ((k0_pay48 (F := Ideal)) k ka ((k0_pay38 (F := Ideal)) r v ((k0_pay3 (F := Ideal)) z) d rk)) ((k0_pay50 (F := Ideal)) k ka ((k0_pay12 (F := Ideal)) lo a0 a2) ((k0_pay38 (F := Ideal)) r v ((k0_pay3 (F := Ideal)) z) d rk)) (k0_pay53 (F := Ideal)) acc (ix2 q l) = acc (ix2 q l) + ∑ p : Fin 256, dA0 (tile y0 y1 r k v z d lo a0 a2 ka rk g b p) q l := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  try simp only [Finset.univ_unique, Finset.sum_singleton, zero_sub, zero_add, add_zero]
  unfold dA0
  split_ifs <;> simp only [zero_add, add_zero] <;> rfl

theorem pay18_at (y0 y1 r k v z d : FVec Ideal S256x1024 .f32) (lo : FVec Ideal S256x128 .f32) (a0 : FVec Ideal S2x1024 .f32) (a2 : FVec Ideal S2x64x1024 .f32) (ka rk g b : FVec Ideal S1x1024 .f32) (acc : FVec Ideal S2x64x1024 .f32) (q : Fin 2) (j : Fin 64) (l : Fin 1024) :
    k0_pay61 (F := Ideal) ((k0_pay55 (F := Ideal)) ((k0_pay4 (F := Ideal)) lo) ((k0_pay7 (F := Ideal)) lo a0 a2) ((k0_pay48 (F := Ideal)) k ka ((k0_pay38 (F := Ideal)) r v ((k0_pay3 (F := Ideal)) z) d rk)) ((k0_pay51 (F := Ideal)) k ka ((k0_pay9 (F := Ideal)) lo) ((k0_pay12 (F := Ideal)) lo a0 a2) ((k0_pay38 (F := Ideal)) r v ((k0_pay3 (F := Ideal)) z) d rk))) acc (ix3 q j l) = acc (ix3 q j l) + ∑ p : Fin 256, dA2 (tile y0 y1 r k v z d lo a0 a2 ka rk g b p) q j l := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  try simp only [Finset.univ_unique, Finset.sum_singleton, zero_sub, zero_add, add_zero]
  unfold dA2
  split_ifs <;> simp only [zero_add, add_zero] <;> rfl

theorem pay19_at (y0 y1 r k v z d : FVec Ideal S256x1024 .f32) (lo : FVec Ideal S256x128 .f32) (a0 : FVec Ideal S2x1024 .f32) (a2 : FVec Ideal S2x64x1024 .f32) (ka rk g b : FVec Ideal S1x1024 .f32) (acc : FVec Ideal S1x1024 .f32) (q : Fin 1) (l : Fin 1024) :
    k0_pay63 (F := Ideal) ((k0_pay47 (F := Ideal)) k ((k0_pay13 (F := Ideal)) lo a0 a2 ((k0_pay6 (F := Ideal)) lo a0 a2) (k0_pay8 (F := Ideal))) ((k0_pay38 (F := Ideal)) r v ((k0_pay3 (F := Ideal)) z) d rk)) acc (ix2 q l) = acc (ix2 q l) + ∑ p : Fin 256, dKaK (tile y0 y1 r k v z d lo a0 a2 ka rk g b p) l := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  try simp only [Finset.univ_unique, Finset.sum_singleton, zero_sub, zero_add, add_zero]
  rfl

theorem pay20_at (y0 y1 r k v z d : FVec Ideal S256x1024 .f32) (lo : FVec Ideal S256x128 .f32) (a0 : FVec Ideal S2x1024 .f32) (a2 : FVec Ideal S2x64x1024 .f32) (ka rk g b : FVec Ideal S1x1024 .f32) (acc : FVec Ideal S1x1024 .f32) (q : Fin 1) (l : Fin 1024) :
    k0_pay65 (F := Ideal) ((k0_pay36 (F := Ideal)) r v ((k0_pay3 (F := Ideal)) z) d ((k0_pay15 (F := Ideal)) k lo a0 a2 ka ((k0_pay6 (F := Ideal)) lo a0 a2) (k0_pay8 (F := Ideal)))) acc (ix2 q l) = acc (ix2 q l) + ∑ p : Fin 256, dRk (tile y0 y1 r k v z d lo a0 a2 ka rk g b p) (ksK (tile y0 y1 r k v z d lo a0 a2 ka rk g b p)) l := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  try simp only [Finset.univ_unique, Finset.sum_singleton, zero_sub, zero_add, add_zero]
  rfl

theorem pay21_at (y0 y1 r k v z d : FVec Ideal S256x1024 .f32) (lo : FVec Ideal S256x128 .f32) (a0 : FVec Ideal S2x1024 .f32) (a2 : FVec Ideal S2x64x1024 .f32) (ka rk g b : FVec Ideal S1x1024 .f32) (acc : FVec Ideal S1x1024 .f32) (q : Fin 1) (l : Fin 1024) :
    k0_pay67 (F := Ideal) ((k0_pay41 (F := Ideal)) ((k0_pay3 (F := Ideal)) z) d ((k0_pay24 (F := Ideal)) y0 y1)) acc (ix2 q l) = acc (ix2 q l) + ∑ p : Fin 256, dGg (tile y0 y1 r k v z d lo a0 a2 ka rk g b p) l := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  try simp only [Finset.univ_unique, Finset.sum_singleton, zero_sub, zero_add, add_zero]
  rfl

theorem pay22_at (y0 y1 r k v z d : FVec Ideal S256x1024 .f32) (lo : FVec Ideal S256x128 .f32) (a0 : FVec Ideal S2x1024 .f32) (a2 : FVec Ideal S2x64x1024 .f32) (ka rk g b : FVec Ideal S1x1024 .f32) (acc : FVec Ideal S1x1024 .f32) (q : Fin 1) (l : Fin 1024) :
    k0_pay2 (F := Ideal) ((k0_pay40 (F := Ideal)) ((k0_pay3 (F := Ideal)) z) d) acc (ix2 q l) = acc (ix2 q l) + ∑ p : Fin 256, ds (tile y0 y1 r k v z d lo a0 a2 ka rk g b p) l := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  try simp only [Finset.univ_unique, Finset.sum_singleton, zero_sub, zero_add, add_zero]
  rfl

theorem zero17_at (q : Fin 2) (l : Fin 1024) : k0_pay58 (F := Ideal) (ix2 q l) = 0 := by
  pointwise [k0_pay58]

theorem zero18_at (q : Fin 2) (j : Fin 64) (l : Fin 1024) : k0_pay60 (F := Ideal) (ix3 q j l) = 0 := by
  pointwise [k0_pay60]

theorem zero19_at (q : Fin 1) (l : Fin 1024) : k0_pay62 (F := Ideal) (ix2 q l) = 0 := by
  pointwise [k0_pay62]

theorem zero20_at (q : Fin 1) (l : Fin 1024) : k0_pay64 (F := Ideal) (ix2 q l) = 0 := by
  pointwise [k0_pay64]

theorem zero21_at (q : Fin 1) (l : Fin 1024) : k0_pay66 (F := Ideal) (ix2 q l) = 0 := by
  pointwise [k0_pay66]

theorem zero22_at (q : Fin 1) (l : Fin 1024) : k0_pay1 (F := Ideal) (ix2 q l) = 0 := by
  pointwise [k0_pay1]

theorem pay39_at (y0 y1 r k v z d : FVec Ideal S256x1024 .f32) (lo : FVec Ideal S256x128 .f32) (a0 : FVec Ideal S2x1024 .f32) (a2 : FVec Ideal S2x64x1024 .f32) (ka rk g b : FVec Ideal S1x1024 .f32) (p : Fin 256) (l : Fin 1024) :
    (k0_pay39 (F := Ideal)) v ((k0_pay3 (F := Ideal)) z) d rk ((k0_pay15 (F := Ideal)) k lo a0 a2 ka ((k0_pay6 (F := Ideal)) lo a0 a2) (k0_pay8 (F := Ideal))) (ix2 p l) = dR (tile y0 y1 r k v z d lo a0 a2 ka rk g b p) (ksK (tile y0 y1 r k v z d lo a0 a2 ka rk g b p)) l := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  try simp only [Finset.univ_unique, Finset.sum_singleton, zero_sub, zero_add, add_zero]
  rfl

theorem pay46_at (y0 y1 r k v z d : FVec Ideal S256x1024 .f32) (lo : FVec Ideal S256x128 .f32) (a0 : FVec Ideal S2x1024 .f32) (a2 : FVec Ideal S2x64x1024 .f32) (ka rk g b : FVec Ideal S1x1024 .f32) (p : Fin 256) (l : Fin 1024) :
    (k0_pay46 (F := Ideal)) ((k0_pay14 (F := Ideal)) lo a0 a2 ka ((k0_pay6 (F := Ideal)) lo a0 a2) (k0_pay8 (F := Ideal))) ((k0_pay38 (F := Ideal)) r v ((k0_pay3 (F := Ideal)) z) d rk) (ix2 p l) = dKK (tile y0 y1 r k v z d lo a0 a2 ka rk g b p) l := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  try simp only [Finset.univ_unique, Finset.sum_singleton, zero_sub, zero_add, add_zero]
  rfl

theorem pay34_at (y0 y1 r k v z d : FVec Ideal S256x1024 .f32) (lo : FVec Ideal S256x128 .f32) (a0 : FVec Ideal S2x1024 .f32) (a2 : FVec Ideal S2x64x1024 .f32) (ka rk g b : FVec Ideal S1x1024 .f32) (p : Fin 256) (l : Fin 1024) :
    (k0_pay34 (F := Ideal)) r ((k0_pay3 (F := Ideal)) z) d rk ((k0_pay15 (F := Ideal)) k lo a0 a2 ka ((k0_pay6 (F := Ideal)) lo a0 a2) (k0_pay8 (F := Ideal))) (ix2 p l) = dV (tile y0 y1 r k v z d lo a0 a2 ka rk g b p) (ksK (tile y0 y1 r k v z d lo a0 a2 ka rk g b p)) l := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  try simp only [Finset.univ_unique, Finset.sum_singleton, zero_sub, zero_add, add_zero]
  rfl

theorem pay48_at (y0 y1 r k v z d : FVec Ideal S256x1024 .f32) (lo : FVec Ideal S256x128 .f32) (a0 : FVec Ideal S2x1024 .f32) (a2 : FVec Ideal S2x64x1024 .f32) (ka rk g b : FVec Ideal S1x1024 .f32) (p : Fin 256) (l : Fin 1024) :
    (k0_pay48 (F := Ideal)) k ka ((k0_pay38 (F := Ideal)) r v ((k0_pay3 (F := Ideal)) z) d rk) (ix2 p l) = k (ix2 p l) * w (tile y0 y1 r k v z d lo a0 a2 ka rk g b p) l * ka (ix2 0 l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  try simp only [Finset.univ_unique, Finset.sum_singleton, zero_sub, zero_add, add_zero]
  rfl

theorem pay52_at (y0 y1 r k v z d : FVec Ideal S256x1024 .f32) (lo : FVec Ideal S256x128 .f32) (a0 : FVec Ideal S2x1024 .f32) (a2 : FVec Ideal S2x64x1024 .f32) (ka rk g b : FVec Ideal S1x1024 .f32) (p : Fin 256) (l : Fin 128) :
    (k0_pay52 (F := Ideal)) k ka ((k0_pay10 (F := Ideal)) a2) ((k0_pay12 (F := Ideal)) lo a0 a2) ((k0_pay38 (F := Ideal)) r v ((k0_pay3 (F := Ideal)) z) d rk) (ix2 p l) = (if h : l.val < 64 then 0 else dLo1 (tile y0 y1 r k v z d lo a0 a2 ka rk g b p) ⟨l.val - 64, by have := l.isLt; omega⟩) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  try simp only [Finset.univ_unique, Finset.sum_singleton, zero_sub, zero_add, add_zero]
  rfl

theorem pay15_at (y0 y1 r k v z d : FVec Ideal S256x1024 .f32) (lo : FVec Ideal S256x128 .f32) (a0 : FVec Ideal S2x1024 .f32) (a2 : FVec Ideal S2x64x1024 .f32) (ka rk g b : FVec Ideal S1x1024 .f32) (p : Fin 256) (l : Fin 3328) :
    k0_pay56 (F := Ideal) ((k0_pay5 (F := Ideal)) a2) ((k0_pay7 (F := Ideal)) lo a0 a2) ((k0_pay34 (F := Ideal)) r ((k0_pay3 (F := Ideal)) z) d rk ((k0_pay15 (F := Ideal)) k lo a0 a2 ka ((k0_pay6 (F := Ideal)) lo a0 a2) (k0_pay8 (F := Ideal)))) ((k0_pay39 (F := Ideal)) v ((k0_pay3 (F := Ideal)) z) d rk ((k0_pay15 (F := Ideal)) k lo a0 a2 ka ((k0_pay6 (F := Ideal)) lo a0 a2) (k0_pay8 (F := Ideal)))) ((k0_pay46 (F := Ideal)) ((k0_pay14 (F := Ideal)) lo a0 a2 ka ((k0_pay6 (F := Ideal)) lo a0 a2) (k0_pay8 (F := Ideal))) ((k0_pay38 (F := Ideal)) r v ((k0_pay3 (F := Ideal)) z) d rk)) ((k0_pay48 (F := Ideal)) k ka ((k0_pay38 (F := Ideal)) r v ((k0_pay3 (F := Ideal)) z) d rk)) ((k0_pay52 (F := Ideal)) k ka ((k0_pay10 (F := Ideal)) a2) ((k0_pay12 (F := Ideal)) lo a0 a2) ((k0_pay38 (F := Ideal)) r v ((k0_pay3 (F := Ideal)) z) d rk)) (ix2 p l) = dSh (tile y0 y1 r k v z d lo a0 a2 ka rk g b p) (dR (tile y0 y1 r k v z d lo a0 a2 ka rk g b p) (ksK (tile y0 y1 r k v z d lo a0 a2 ka rk g b p))) (dKK (tile y0 y1 r k v z d lo a0 a2 ka rk g b p)) (dV (tile y0 y1 r k v z d lo a0 a2 ka rk g b p) (ksK (tile y0 y1 r k v z d lo a0 a2 ka rk g b p))) l := by
  have e1 := fun l => pay39_at y0 y1 r k v z d lo a0 a2 ka rk g b p l
  have e2 := fun l => pay46_at y0 y1 r k v z d lo a0 a2 ka rk g b p l
  have e3 := fun l => pay34_at y0 y1 r k v z d lo a0 a2 ka rk g b p l
  have e4 := fun l => pay48_at y0 y1 r k v z d lo a0 a2 ka rk g b p l
  have e5 := fun l => pay52_at y0 y1 r k v z d lo a0 a2 ka rk g b p l
  generalize (k0_pay39 (F := Ideal)) v ((k0_pay3 (F := Ideal)) z) d rk ((k0_pay15 (F := Ideal)) k lo a0 a2 ka ((k0_pay6 (F := Ideal)) lo a0 a2) (k0_pay8 (F := Ideal))) = v116 at e1 ⊢
  generalize (k0_pay46 (F := Ideal)) ((k0_pay14 (F := Ideal)) lo a0 a2 ka ((k0_pay6 (F := Ideal)) lo a0 a2) (k0_pay8 (F := Ideal))) ((k0_pay38 (F := Ideal)) r v ((k0_pay3 (F := Ideal)) z) d rk) = v155 at e2 ⊢
  generalize (k0_pay34 (F := Ideal)) r ((k0_pay3 (F := Ideal)) z) d rk ((k0_pay15 (F := Ideal)) k lo a0 a2 ka ((k0_pay6 (F := Ideal)) lo a0 a2) (k0_pay8 (F := Ideal))) = v105 at e3 ⊢
  generalize (k0_pay48 (F := Ideal)) k ka ((k0_pay38 (F := Ideal)) r v ((k0_pay3 (F := Ideal)) z) d rk) = v160 at e4 ⊢
  generalize (k0_pay52 (F := Ideal)) k ka ((k0_pay10 (F := Ideal)) a2) ((k0_pay12 (F := Ideal)) lo a0 a2) ((k0_pay38 (F := Ideal)) r v ((k0_pay3 (F := Ideal)) z) d rk) = v171 at e5 ⊢
  pointwise [k0_pay56, k0_pay54, k0_pay5, k0_pay6, k0_pay7, k0_pay4]
  unfold dSh dLo
  simp only [e1, e2, e3, e4, e5]
  split_ifs <;> first | rfl | (rw [zero_add]; rfl) | exact add_zero _

end Cert.RwPostBwdIdeal.RefValue

end
-- ==== Proof.RwSame.lean ====
module

public import proofs.«01_k».proof.Defs
public import proofs.«01_k».proof.Proof.Gen.RwPostBwd
public import proofs.«01_k».proof.Proof.RwFrame

/-! The frame of the program as compiled: the idealised program is the same text, so its frame at machine words is that of the
program as compiled. -/

@[expose] public section

set_option maxRecDepth 16384

noncomputable section

namespace Cert.RwSame

open Idealize.ShloMosaic Idealize.ShloMosaic.TcCoe Idealize.ShloMosaic.Tactic Idealize.SL.Sem

/-- The frame of the idealised program's text, read at machine words. -/
def framed : Prop :=
  ∀ (m : (ℓ : Loc Cert.RwPostBwdIdeal.nD Cert.RwPostBwdIdeal.τ Cert.RwPostBwdIdeal.sig) → Buf (Elt Bits) ℓ) (g : Dev Cert.RwPostBwdIdeal.nD → PrngReg), True →
    θ_run (Cert.RwPostBwdIdeal.defs (F := Bits)) (onTc (τ := Cert.RwPostBwdIdeal.τ) (Cert.RwPostBwdIdeal.main (F := Bits))) ⟨m, fun _ => 0, g⟩ (fun r => (∀ c : Dev Cert.RwPostBwdIdeal.nD,
        r.2.mem ((c.tc : Thread Cert.RwPostBwdIdeal.nD Cert.RwPostBwdIdeal.τ).loc Cert.RwPostBwdIdeal.main_arg0) = m ((c.tc : Thread Cert.RwPostBwdIdeal.nD Cert.RwPostBwdIdeal.τ).loc Cert.RwPostBwdIdeal.main_arg0)
        ∧ r.2.mem ((c.tc : Thread Cert.RwPostBwdIdeal.nD Cert.RwPostBwdIdeal.τ).loc Cert.RwPostBwdIdeal.main_arg1) = m ((c.tc : Thread Cert.RwPostBwdIdeal.nD Cert.RwPostBwdIdeal.τ).loc Cert.RwPostBwdIdeal.main_arg1)
        ∧ r.2.mem ((c.tc : Thread Cert.RwPostBwdIdeal.nD Cert.RwPostBwdIdeal.τ).loc Cert.RwPostBwdIdeal.main_arg2) = m ((c.tc : Thread Cert.RwPostBwdIdeal.nD Cert.RwPostBwdIdeal.τ).loc Cert.RwPostBwdIdeal.main_arg2)
        ∧ r.2.mem ((c.tc : Thread Cert.RwPostBwdIdeal.nD Cert.RwPostBwdIdeal.τ).loc Cert.RwPostBwdIdeal.main_arg3) = m ((c.tc : Thread Cert.RwPostBwdIdeal.nD Cert.RwPostBwdIdeal.τ).loc Cert.RwPostBwdIdeal.main_arg3)
        ∧ r.2.mem ((c.tc : Thread Cert.RwPostBwdIdeal.nD Cert.RwPostBwdIdeal.τ).loc Cert.RwPostBwdIdeal.main_arg4) = m ((c.tc : Thread Cert.RwPostBwdIdeal.nD Cert.RwPostBwdIdeal.τ).loc Cert.RwPostBwdIdeal.main_arg4)
        ∧ r.2.mem ((c.tc : Thread Cert.RwPostBwdIdeal.nD Cert.RwPostBwdIdeal.τ).loc Cert.RwPostBwdIdeal.main_arg5) = m ((c.tc : Thread Cert.RwPostBwdIdeal.nD Cert.RwPostBwdIdeal.τ).loc Cert.RwPostBwdIdeal.main_arg5)
        ∧ r.2.mem ((c.tc : Thread Cert.RwPostBwdIdeal.nD Cert.RwPostBwdIdeal.τ).loc Cert.RwPostBwdIdeal.main_arg6) = m ((c.tc : Thread Cert.RwPostBwdIdeal.nD Cert.RwPostBwdIdeal.τ).loc Cert.RwPostBwdIdeal.main_arg6)
        ∧ r.2.mem ((c.tc : Thread Cert.RwPostBwdIdeal.nD Cert.RwPostBwdIdeal.τ).loc Cert.RwPostBwdIdeal.main_arg7) = m ((c.tc : Thread Cert.RwPostBwdIdeal.nD Cert.RwPostBwdIdeal.τ).loc Cert.RwPostBwdIdeal.main_arg7)
        ∧ r.2.mem ((c.tc : Thread Cert.RwPostBwdIdeal.nD Cert.RwPostBwdIdeal.τ).loc Cert.RwPostBwdIdeal.main_arg8) = m ((c.tc : Thread Cert.RwPostBwdIdeal.nD Cert.RwPostBwdIdeal.τ).loc Cert.RwPostBwdIdeal.main_arg8)
        ∧ r.2.mem ((c.tc : Thread Cert.RwPostBwdIdeal.nD Cert.RwPostBwdIdeal.τ).loc Cert.RwPostBwdIdeal.main_arg9) = m ((c.tc : Thread Cert.RwPostBwdIdeal.nD Cert.RwPostBwdIdeal.τ).loc Cert.RwPostBwdIdeal.main_arg9)
        ∧ r.2.mem ((c.tc : Thread Cert.RwPostBwdIdeal.nD Cert.RwPostBwdIdeal.τ).loc Cert.RwPostBwdIdeal.main_arg10) = m ((c.tc : Thread Cert.RwPostBwdIdeal.nD Cert.RwPostBwdIdeal.τ).loc Cert.RwPostBwdIdeal.main_arg10))
      ∧ r.2.sem = fun _ => 0)

theorem same : framed = Cert.quiescent_RwPostBwd := by sl_kernel_rfl

theorem frame_p : Cert.quiescent_RwPostBwd := same ▸ fun m ρ _ => Cert.RwFrame.frame (F := Bits) m ρ

end Cert.RwSame

end
-- ==== Proof.RwFinite.lean ====
/-
  Of finite keys, values, gates and weights the second mixer's head may take its two removal gates together.
-/
module

public import proofs.«01_k».proof.Proof.RwSpec
public import Idealize.ShloMosaic.Lib.IdealHost

@[expose] public section

noncomputable section

open Idealize.ShloMosaic

namespace Cert.RwSpec

/-- A real number. -/
def Real' (a : EReal) : Prop := a ≠ ⊤ ∧ a ≠ ⊥

theorem coe_real (r : ℝ) : Real' (r : EReal) := ⟨EReal.coe_ne_top r, EReal.coe_ne_bot r⟩

theorem exists_real {a : EReal} (h : Real' a) : ∃ r : ℝ, a = (r : EReal) := by
  lift a to ℝ using h
  exact ⟨a, rfl⟩

theorem mul_real {a b : EReal} (ha : Real' a) (hb : Real' b) : Real' (a * b) := by
  obtain ⟨a, rfl⟩ := exists_real ha
  obtain ⟨b, rfl⟩ := exists_real hb
  rw [← EReal.coe_mul]
  exact coe_real _

theorem add_real {a b : EReal} (ha : Real' a) (hb : Real' b) : Real' (a + b) := by
  obtain ⟨a, rfl⟩ := exists_real ha
  obtain ⟨b, rfl⟩ := exists_real hb
  rw [← EReal.coe_add]
  exact coe_real _

theorem sum_real {ι : Type} (s : Finset ι) (f : ι → EReal) (h : ∀ i, Real' (f i)) : Real' (∑ i ∈ s, f i) := by
  classical
  induction s using Finset.induction_on with
  | empty => exact coe_real 0
  | insert i s hi ih =>
    rw [Finset.sum_insert hi]
    exact add_real (h i) ih

/-- The logistic of anything is a real number. -/
theorem logistic_real (a : EReal) : Real' (Ideal.logistic a) := by
  induction a using EReal.rec with
  | bot => rw [Ideal.logistic_bot]; exact coe_real 0
  | top => rw [Ideal.logistic_top]; exact coe_real 1
  | coe r => rw [Ideal.logistic_coe]; exact coe_real _

theorem two_eq : two = ((2 : ℝ) : EReal) := by
  simp [two, Ideal.ofBits, Ideal.ieee, -EReal.coe_mul]
  norm_cast
  try norm_num

/-- Two terms with one factor each are one term with both. -/
theorem both {k a b s : EReal} (hk : Real' k) (ha : Real' a) (hb : Real' b) (hs : Real' s) :
    k * (two + (a + b - two) * s) = k * (1 + (a - 1) * s) + k * (1 + (b - 1) * s) := by
  obtain ⟨k, rfl⟩ := exists_real hk
  obtain ⟨a, rfl⟩ := exists_real ha
  obtain ⟨b, rfl⟩ := exists_real hb
  obtain ⟨s, rfl⟩ := exists_real hs
  rw [two_eq]
  norm_cast
  ring

theorem both' {u a b : EReal} (hu : Real' u) (ha : Real' a) (hb : Real' b) :
    (a + b - two) * u = (b - 1) * u + (a - 1) * u := by
  obtain ⟨u, rfl⟩ := exists_real hu
  obtain ⟨a, rfl⟩ := exists_real ha
  obtain ⟨b, rfl⟩ := exists_real hb
  rw [two_eq]
  norm_cast
  ring

/-- The entries of a row that have to be real numbers. -/
structure Good (x : In) : Prop where
  r : ∀ l, Real' (x.r l)
  k : ∀ l, Real' (x.k l)
  v : ∀ l, Real' (x.v l)
  z : ∀ l, Real' (x.z l)
  d : ∀ l, Real' (x.d l)
  ka : ∀ l, Real' (x.ka l)
  rk : ∀ l, Real' (x.rk l)

variable {x : In} (h : Good x)
include h

theorem ksK_eq : ksK x = ksR x := funext fun l => both (h.k l) (logistic_real _) (logistic_real _) (h.ka l)

theorem w_real (l : Fin 1024) : Real' (w x l) :=
  mul_real (h.r l) (mul_real (sum_real _ _ fun e => mul_real (mul_real (h.d _) (mul_real (h.z _) (logistic_real _))) (h.v _)) (h.rk l))

theorem dKK_eq : dKK x = dKR x := funext fun l =>
  (both (w_real h l) (logistic_real _) (logistic_real _) (h.ka l)).trans (add_comm _ _)

theorem dKaK_eq (l : Fin 1024) : dKaK x l = dKaR x (act1 x) l + dKaR x (act0 x) l :=
  both' (mul_real (h.k l) (w_real h l)) (logistic_real _) (logistic_real _)

end Cert.RwSpec

end
-- ==== Proof.RwRef.lean ====
module

public import proofs.«01_k».proof.Defs
public import proofs.«01_k».proof.Proof.Gen.RwPostBwdRefIdeal.Run
public import proofs.«01_k».proof.Proof.Gen.RwPostBwdRefIdeal.Read
public import proofs.«01_k».proof.Proof.RwSpec
public import Idealize.ShloMosaic.Lib.Pipeline.ValueKit
public import Idealize.ShloMosaic.Lib.Pointwise

/-! The reference's nine gradients of the second mixer's head, read channel by channel. -/

@[expose] public section

set_option maxRecDepth 16384

noncomputable section

open Idealize.ShloMosaic Idealize.ShloMosaic.TcCoe Idealize.SL.Sem

namespace Cert.RwPostBwdRefIdeal.RefValue

open Cert.RwPostBwdRefIdeal Cert.RwPostBwdRefIdeal.Read Cert.RwSpec

/-- One row of the arrays. -/
def row (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) (x10 : FVec Ideal S2304x1024 .f32) (p : Fin 2304) : In where
  y0 := fun l => x0 (ix2 p l)
  y1 := fun l => x1 (ix2 p l)
  r := fun l => x2 (ix2 p ⟨l.val, by have := l.isLt; omega⟩)
  k := fun l => x2 (ix2 p ⟨1024 + l.val, by have := l.isLt; omega⟩)
  v := fun l => x2 (ix2 p ⟨2048 + l.val, by have := l.isLt; omega⟩)
  lo := fun l => x2 (ix2 p ⟨3200 + l.val, by have := l.isLt; omega⟩)
  z := fun l => x3 (ix2 p ⟨8448 + l.val, by have := l.isLt; omega⟩)
  d := fun l => x10 (ix2 p l)
  a0 := fun q l => x4 (ix2 q l)
  a2 := fun q j l => x5 (ix3 q j l)
  ka := fun l => x6 (ix2 0 l)
  rk := fun l => x7 (ix2 0 l)
  g := fun l => x8 (ix2 0 l)
  b := fun l => x9 (ix2 0 l)

theorem v215_at (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) (x10 : FVec Ideal S2304x1024 .f32) (p : Fin 2304) (l : Fin 1024) :
    val_main_v215 (F := Ideal) x0 x1 x3 x8 x10 (ix2 p l) = dY (row x0 x1 x2 x3 x4 x5 x6 x7 x8 x9 x10 p) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_v24, val_main_v25, val_main_cst_0, val_main_v26, val_main_v27, val_main_cst_1, val_main_v28, val_main_v29, val_main_v30, val_main_cst_2, val_main_v31, val_main_v32, val_main_v33, val_main_v34, val_main_v35, val_main_cst_3, val_main_v36, val_main_v37, val_main_v38, val_main_cst_4, val_main_v39, val_main_v40, val_main_v41, val_main_v42, val_main_v43, val_main_v44, val_main_v45, val_main_v46, val_main_v47, val_main_v48, val_main_v49, val_main_v50, val_main_v51, val_main_v52, val_main_cst_5, val_main_v53, val_main_v54, val_main_cst_6, val_main_v55, val_main_v56, val_main_cst_7, val_main_v57, val_main_v58, val_main_v59, val_main_cst_8, val_main_v60, val_main_v61, val_main_v62, val_main_v63, val_main_v64, val_main_cst_9, val_main_v65, val_main_v66, val_main_v67, val_main_v68, val_main_cst_10, val_main_v69, val_main_v70, val_main_cst_11, val_main_v71, val_main_v72, val_main_v73, val_main_v74, val_main_v75, val_main_cst_12, val_main_v76, val_main_v77, val_main_cst_13, val_main_v78, val_main_v79, val_main_cst_14, val_main_v80, val_main_v81, val_main_v82, val_main_v83, val_main_cst_15, val_main_v84, val_main_v85, val_main_v86, val_main_v87, val_main_cst_16, val_main_v88, val_main_v89, val_main_v90, val_main_v91, val_main_v92, val_main_v93, val_main_v94, val_main_v95, val_main_v96, val_main_v97, val_main_v98, val_main_v99, val_main_v100, val_main_v101, val_main_v102, val_main_v103, val_main_cst_17, val_main_v104, val_main_v105, val_main_v106, val_main_v107, val_main_v108, val_main_v109, val_main_v110, val_main_call0_v0, val_main_call0_v1, val_main_call0_cst, val_main_call0_v2, val_main_call0_v3, val_main_call0_cst_0, val_main_call0_v4, val_main_v111_2, val_main_call0_cst_1, val_main_call0_v6, val_main_call0_v7, val_main_v111_1, val_main_v111_0, val_main_v112, val_main_v113, val_main_v114, val_main_call1_v0, val_main_call1_v1, val_main_call1_v2, val_main_v115, val_main_v116, val_main_v117, val_main_v118, val_main_v119, val_main_cst_18, val_main_v120, val_main_v121, val_main_v122, val_main_cst_19, val_main_v123, val_main_v124, val_main_v125, val_main_v126, val_main_cst_20, val_main_v127, val_main_v128, val_main_v129, val_main_v130, val_main_cst_21, val_main_v131, val_main_v132, val_main_v133, val_main_cst_22, val_main_v134, val_main_v135, val_main_cst_23, val_main_v136, val_main_v137, val_main_cst_24, val_main_v138, val_main_v139, val_main_v140, val_main_v141, val_main_cst_25, val_main_v142, val_main_v143, val_main_v144, val_main_cst_26, val_main_v145, val_main_v146, val_main_v147, val_main_v148, val_main_v149, val_main_v150, val_main_cst_27, val_main_v151, val_main_v152, val_main_cst_28, val_main_v153, val_main_v154, val_main_cst_29, val_main_v155, val_main_v156, val_main_v157, val_main_v158, val_main_cst_30, val_main_v159, val_main_v160, val_main_v161, val_main_v162, val_main_cst_31, val_main_v163, val_main_v164, val_main_cst_32, val_main_v165, val_main_v166, val_main_v167, val_main_v168, val_main_v169, val_main_v170, val_main_cst_33, val_main_v171, val_main_v172, val_main_v173, val_main_v174, val_main_cst_34, val_main_v175, val_main_v176, val_main_cst_35, val_main_v177, val_main_v178, val_main_cst_36, val_main_v179, val_main_v180, val_main_v181, val_main_v182, val_main_v183, val_main_cst_37, val_main_v184, val_main_v185, val_main_cst_38, val_main_v186, val_main_v187, val_main_cst_39, val_main_v188, val_main_v189, val_main_v190, val_main_v191, val_main_v192, val_main_cst_40, val_main_v193, val_main_v194, val_main_v195, val_main_v196, val_main_cst_41, val_main_v197, val_main_v198, val_main_v199, val_main_cst_42, val_main_v200, val_main_v201, val_main_cst_43, val_main_v202, val_main_v203, val_main_v204, val_main_v205, val_main_v206, val_main_cst_44, val_main_v207, val_main_v208, val_main_v209, val_main_cst_45, val_main_v210, val_main_v211, val_main_v212, val_main_cst_46, val_main_v213, val_main_v214, val_main_v215, val_main_v216, val_main_cst_47, val_main_v217, val_main_cst_48, val_main_v218, val_main_v219, val_main_cst_49, val_main_v220, val_main_v221, val_main_cst_50, val_main_v222, val_main_v223, val_main_v224, val_main_v225, val_main_v226, val_main_v227, val_main_v228]
  try simp only [Finset.univ_unique, Finset.sum_singleton, zero_sub, zero_add, add_zero]
  rfl

theorem v224_at (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) (x10 : FVec Ideal S2304x1024 .f32) (p : Fin 2304) (l : Fin 1024) :
    val_main_v224 (F := Ideal) x0 x1 x2 x3 x4 x5 x6 x7 x8 x9 x10 (ix2 p l) = dZ (row x0 x1 x2 x3 x4 x5 x6 x7 x8 x9 x10 p) (ksR (row x0 x1 x2 x3 x4 x5 x6 x7 x8 x9 x10 p)) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_v24, val_main_v25, val_main_cst_0, val_main_v26, val_main_v27, val_main_cst_1, val_main_v28, val_main_v29, val_main_v30, val_main_cst_2, val_main_v31, val_main_v32, val_main_v33, val_main_v34, val_main_v35, val_main_cst_3, val_main_v36, val_main_v37, val_main_v38, val_main_cst_4, val_main_v39, val_main_v40, val_main_v41, val_main_v42, val_main_v43, val_main_v44, val_main_v45, val_main_v46, val_main_v47, val_main_v48, val_main_v49, val_main_v50, val_main_v51, val_main_v52, val_main_cst_5, val_main_v53, val_main_v54, val_main_cst_6, val_main_v55, val_main_v56, val_main_cst_7, val_main_v57, val_main_v58, val_main_v59, val_main_cst_8, val_main_v60, val_main_v61, val_main_v62, val_main_v63, val_main_v64, val_main_cst_9, val_main_v65, val_main_v66, val_main_v67, val_main_v68, val_main_cst_10, val_main_v69, val_main_v70, val_main_cst_11, val_main_v71, val_main_v72, val_main_v73, val_main_v74, val_main_v75, val_main_cst_12, val_main_v76, val_main_v77, val_main_cst_13, val_main_v78, val_main_v79, val_main_cst_14, val_main_v80, val_main_v81, val_main_v82, val_main_v83, val_main_cst_15, val_main_v84, val_main_v85, val_main_v86, val_main_v87, val_main_cst_16, val_main_v88, val_main_v89, val_main_v90, val_main_v91, val_main_v92, val_main_v93, val_main_v94, val_main_v95, val_main_v96, val_main_v97, val_main_v98, val_main_v99, val_main_v100, val_main_v101, val_main_v102, val_main_v103, val_main_cst_17, val_main_v104, val_main_v105, val_main_v106, val_main_v107, val_main_v108, val_main_v109, val_main_v110, val_main_call0_v0, val_main_call0_v1, val_main_call0_cst, val_main_call0_v2, val_main_call0_v3, val_main_call0_cst_0, val_main_call0_v4, val_main_v111_2, val_main_call0_cst_1, val_main_call0_v6, val_main_call0_v7, val_main_v111_1, val_main_v111_0, val_main_v112, val_main_v113, val_main_v114, val_main_call1_v0, val_main_call1_v1, val_main_call1_v2, val_main_v115, val_main_v116, val_main_v117, val_main_v118, val_main_v119, val_main_cst_18, val_main_v120, val_main_v121, val_main_v122, val_main_cst_19, val_main_v123, val_main_v124, val_main_v125, val_main_v126, val_main_cst_20, val_main_v127, val_main_v128, val_main_v129, val_main_v130, val_main_cst_21, val_main_v131, val_main_v132, val_main_v133, val_main_cst_22, val_main_v134, val_main_v135, val_main_cst_23, val_main_v136, val_main_v137, val_main_cst_24, val_main_v138, val_main_v139, val_main_v140, val_main_v141, val_main_cst_25, val_main_v142, val_main_v143, val_main_v144, val_main_cst_26, val_main_v145, val_main_v146, val_main_v147, val_main_v148, val_main_v149, val_main_v150, val_main_cst_27, val_main_v151, val_main_v152, val_main_cst_28, val_main_v153, val_main_v154, val_main_cst_29, val_main_v155, val_main_v156, val_main_v157, val_main_v158, val_main_cst_30, val_main_v159, val_main_v160, val_main_v161, val_main_v162, val_main_cst_31, val_main_v163, val_main_v164, val_main_cst_32, val_main_v165, val_main_v166, val_main_v167, val_main_v168, val_main_v169, val_main_v170, val_main_cst_33, val_main_v171, val_main_v172, val_main_v173, val_main_v174, val_main_cst_34, val_main_v175, val_main_v176, val_main_cst_35, val_main_v177, val_main_v178, val_main_cst_36, val_main_v179, val_main_v180, val_main_v181, val_main_v182, val_main_v183, val_main_cst_37, val_main_v184, val_main_v185, val_main_cst_38, val_main_v186, val_main_v187, val_main_cst_39, val_main_v188, val_main_v189, val_main_v190, val_main_v191, val_main_v192, val_main_cst_40, val_main_v193, val_main_v194, val_main_v195, val_main_v196, val_main_cst_41, val_main_v197, val_main_v198, val_main_v199, val_main_cst_42, val_main_v200, val_main_v201, val_main_cst_43, val_main_v202, val_main_v203, val_main_v204, val_main_v205, val_main_v206, val_main_cst_44, val_main_v207, val_main_v208, val_main_v209, val_main_cst_45, val_main_v210, val_main_v211, val_main_v212, val_main_cst_46, val_main_v213, val_main_v214, val_main_v215, val_main_v216, val_main_cst_47, val_main_v217, val_main_cst_48, val_main_v218, val_main_v219, val_main_cst_49, val_main_v220, val_main_v221, val_main_cst_50, val_main_v222, val_main_v223, val_main_v224, val_main_v225, val_main_v226, val_main_v227, val_main_v228]
  try simp only [Finset.univ_unique, Finset.sum_singleton, zero_sub, zero_add, add_zero]
  rfl

theorem v226_at (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) (x10 : FVec Ideal S2304x1024 .f32) (q : Fin 1) (l : Fin 1024) :
    val_main_v226 (F := Ideal) x2 x3 x4 x5 x6 x10 (ix2 q l) = ∑ p : Fin 2304, dRk (row x0 x1 x2 x3 x4 x5 x6 x7 x8 x9 x10 p) (ksR (row x0 x1 x2 x3 x4 x5 x6 x7 x8 x9 x10 p)) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_v24, val_main_v25, val_main_cst_0, val_main_v26, val_main_v27, val_main_cst_1, val_main_v28, val_main_v29, val_main_v30, val_main_cst_2, val_main_v31, val_main_v32, val_main_v33, val_main_v34, val_main_v35, val_main_cst_3, val_main_v36, val_main_v37, val_main_v38, val_main_cst_4, val_main_v39, val_main_v40, val_main_v41, val_main_v42, val_main_v43, val_main_v44, val_main_v45, val_main_v46, val_main_v47, val_main_v48, val_main_v49, val_main_v50, val_main_v51, val_main_v52, val_main_cst_5, val_main_v53, val_main_v54, val_main_cst_6, val_main_v55, val_main_v56, val_main_cst_7, val_main_v57, val_main_v58, val_main_v59, val_main_cst_8, val_main_v60, val_main_v61, val_main_v62, val_main_v63, val_main_v64, val_main_cst_9, val_main_v65, val_main_v66, val_main_v67, val_main_v68, val_main_cst_10, val_main_v69, val_main_v70, val_main_cst_11, val_main_v71, val_main_v72, val_main_v73, val_main_v74, val_main_v75, val_main_cst_12, val_main_v76, val_main_v77, val_main_cst_13, val_main_v78, val_main_v79, val_main_cst_14, val_main_v80, val_main_v81, val_main_v82, val_main_v83, val_main_cst_15, val_main_v84, val_main_v85, val_main_v86, val_main_v87, val_main_cst_16, val_main_v88, val_main_v89, val_main_v90, val_main_v91, val_main_v92, val_main_v93, val_main_v94, val_main_v95, val_main_v96, val_main_v97, val_main_v98, val_main_v99, val_main_v100, val_main_v101, val_main_v102, val_main_v103, val_main_cst_17, val_main_v104, val_main_v105, val_main_v106, val_main_v107, val_main_v108, val_main_v109, val_main_v110, val_main_call0_v0, val_main_call0_v1, val_main_call0_cst, val_main_call0_v2, val_main_call0_v3, val_main_call0_cst_0, val_main_call0_v4, val_main_v111_2, val_main_call0_cst_1, val_main_call0_v6, val_main_call0_v7, val_main_v111_1, val_main_v111_0, val_main_v112, val_main_v113, val_main_v114, val_main_call1_v0, val_main_call1_v1, val_main_call1_v2, val_main_v115, val_main_v116, val_main_v117, val_main_v118, val_main_v119, val_main_cst_18, val_main_v120, val_main_v121, val_main_v122, val_main_cst_19, val_main_v123, val_main_v124, val_main_v125, val_main_v126, val_main_cst_20, val_main_v127, val_main_v128, val_main_v129, val_main_v130, val_main_cst_21, val_main_v131, val_main_v132, val_main_v133, val_main_cst_22, val_main_v134, val_main_v135, val_main_cst_23, val_main_v136, val_main_v137, val_main_cst_24, val_main_v138, val_main_v139, val_main_v140, val_main_v141, val_main_cst_25, val_main_v142, val_main_v143, val_main_v144, val_main_cst_26, val_main_v145, val_main_v146, val_main_v147, val_main_v148, val_main_v149, val_main_v150, val_main_cst_27, val_main_v151, val_main_v152, val_main_cst_28, val_main_v153, val_main_v154, val_main_cst_29, val_main_v155, val_main_v156, val_main_v157, val_main_v158, val_main_cst_30, val_main_v159, val_main_v160, val_main_v161, val_main_v162, val_main_cst_31, val_main_v163, val_main_v164, val_main_cst_32, val_main_v165, val_main_v166, val_main_v167, val_main_v168, val_main_v169, val_main_v170, val_main_cst_33, val_main_v171, val_main_v172, val_main_v173, val_main_v174, val_main_cst_34, val_main_v175, val_main_v176, val_main_cst_35, val_main_v177, val_main_v178, val_main_cst_36, val_main_v179, val_main_v180, val_main_v181, val_main_v182, val_main_v183, val_main_cst_37, val_main_v184, val_main_v185, val_main_cst_38, val_main_v186, val_main_v187, val_main_cst_39, val_main_v188, val_main_v189, val_main_v190, val_main_v191, val_main_v192, val_main_cst_40, val_main_v193, val_main_v194, val_main_v195, val_main_v196, val_main_cst_41, val_main_v197, val_main_v198, val_main_v199, val_main_cst_42, val_main_v200, val_main_v201, val_main_cst_43, val_main_v202, val_main_v203, val_main_v204, val_main_v205, val_main_v206, val_main_cst_44, val_main_v207, val_main_v208, val_main_v209, val_main_cst_45, val_main_v210, val_main_v211, val_main_v212, val_main_cst_46, val_main_v213, val_main_v214, val_main_v215, val_main_v216, val_main_cst_47, val_main_v217, val_main_cst_48, val_main_v218, val_main_v219, val_main_cst_49, val_main_v220, val_main_v221, val_main_cst_50, val_main_v222, val_main_v223, val_main_v224, val_main_v225, val_main_v226, val_main_v227, val_main_v228]
  try simp only [Finset.univ_unique, Finset.sum_singleton, zero_sub, zero_add, add_zero]
  rfl

theorem v227_at (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) (x10 : FVec Ideal S2304x1024 .f32) (q : Fin 1) (l : Fin 1024) :
    val_main_v227 (F := Ideal) x0 x1 x3 x10 (ix2 q l) = ∑ p : Fin 2304, dGg (row x0 x1 x2 x3 x4 x5 x6 x7 x8 x9 x10 p) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_v24, val_main_v25, val_main_cst_0, val_main_v26, val_main_v27, val_main_cst_1, val_main_v28, val_main_v29, val_main_v30, val_main_cst_2, val_main_v31, val_main_v32, val_main_v33, val_main_v34, val_main_v35, val_main_cst_3, val_main_v36, val_main_v37, val_main_v38, val_main_cst_4, val_main_v39, val_main_v40, val_main_v41, val_main_v42, val_main_v43, val_main_v44, val_main_v45, val_main_v46, val_main_v47, val_main_v48, val_main_v49, val_main_v50, val_main_v51, val_main_v52, val_main_cst_5, val_main_v53, val_main_v54, val_main_cst_6, val_main_v55, val_main_v56, val_main_cst_7, val_main_v57, val_main_v58, val_main_v59, val_main_cst_8, val_main_v60, val_main_v61, val_main_v62, val_main_v63, val_main_v64, val_main_cst_9, val_main_v65, val_main_v66, val_main_v67, val_main_v68, val_main_cst_10, val_main_v69, val_main_v70, val_main_cst_11, val_main_v71, val_main_v72, val_main_v73, val_main_v74, val_main_v75, val_main_cst_12, val_main_v76, val_main_v77, val_main_cst_13, val_main_v78, val_main_v79, val_main_cst_14, val_main_v80, val_main_v81, val_main_v82, val_main_v83, val_main_cst_15, val_main_v84, val_main_v85, val_main_v86, val_main_v87, val_main_cst_16, val_main_v88, val_main_v89, val_main_v90, val_main_v91, val_main_v92, val_main_v93, val_main_v94, val_main_v95, val_main_v96, val_main_v97, val_main_v98, val_main_v99, val_main_v100, val_main_v101, val_main_v102, val_main_v103, val_main_cst_17, val_main_v104, val_main_v105, val_main_v106, val_main_v107, val_main_v108, val_main_v109, val_main_v110, val_main_call0_v0, val_main_call0_v1, val_main_call0_cst, val_main_call0_v2, val_main_call0_v3, val_main_call0_cst_0, val_main_call0_v4, val_main_v111_2, val_main_call0_cst_1, val_main_call0_v6, val_main_call0_v7, val_main_v111_1, val_main_v111_0, val_main_v112, val_main_v113, val_main_v114, val_main_call1_v0, val_main_call1_v1, val_main_call1_v2, val_main_v115, val_main_v116, val_main_v117, val_main_v118, val_main_v119, val_main_cst_18, val_main_v120, val_main_v121, val_main_v122, val_main_cst_19, val_main_v123, val_main_v124, val_main_v125, val_main_v126, val_main_cst_20, val_main_v127, val_main_v128, val_main_v129, val_main_v130, val_main_cst_21, val_main_v131, val_main_v132, val_main_v133, val_main_cst_22, val_main_v134, val_main_v135, val_main_cst_23, val_main_v136, val_main_v137, val_main_cst_24, val_main_v138, val_main_v139, val_main_v140, val_main_v141, val_main_cst_25, val_main_v142, val_main_v143, val_main_v144, val_main_cst_26, val_main_v145, val_main_v146, val_main_v147, val_main_v148, val_main_v149, val_main_v150, val_main_cst_27, val_main_v151, val_main_v152, val_main_cst_28, val_main_v153, val_main_v154, val_main_cst_29, val_main_v155, val_main_v156, val_main_v157, val_main_v158, val_main_cst_30, val_main_v159, val_main_v160, val_main_v161, val_main_v162, val_main_cst_31, val_main_v163, val_main_v164, val_main_cst_32, val_main_v165, val_main_v166, val_main_v167, val_main_v168, val_main_v169, val_main_v170, val_main_cst_33, val_main_v171, val_main_v172, val_main_v173, val_main_v174, val_main_cst_34, val_main_v175, val_main_v176, val_main_cst_35, val_main_v177, val_main_v178, val_main_cst_36, val_main_v179, val_main_v180, val_main_v181, val_main_v182, val_main_v183, val_main_cst_37, val_main_v184, val_main_v185, val_main_cst_38, val_main_v186, val_main_v187, val_main_cst_39, val_main_v188, val_main_v189, val_main_v190, val_main_v191, val_main_v192, val_main_cst_40, val_main_v193, val_main_v194, val_main_v195, val_main_v196, val_main_cst_41, val_main_v197, val_main_v198, val_main_v199, val_main_cst_42, val_main_v200, val_main_v201, val_main_cst_43, val_main_v202, val_main_v203, val_main_v204, val_main_v205, val_main_v206, val_main_cst_44, val_main_v207, val_main_v208, val_main_v209, val_main_cst_45, val_main_v210, val_main_v211, val_main_v212, val_main_cst_46, val_main_v213, val_main_v214, val_main_v215, val_main_v216, val_main_cst_47, val_main_v217, val_main_cst_48, val_main_v218, val_main_v219, val_main_cst_49, val_main_v220, val_main_v221, val_main_cst_50, val_main_v222, val_main_v223, val_main_v224, val_main_v225, val_main_v226, val_main_v227, val_main_v228]
  try simp only [Finset.univ_unique, Finset.sum_singleton, zero_sub, zero_add, add_zero]
  rfl

theorem v228_at (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) (x10 : FVec Ideal S2304x1024 .f32) (q : Fin 1) (l : Fin 1024) :
    val_main_v228 (F := Ideal) x3 x10 (ix2 q l) = ∑ p : Fin 2304, ds (row x0 x1 x2 x3 x4 x5 x6 x7 x8 x9 x10 p) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_v24, val_main_v25, val_main_cst_0, val_main_v26, val_main_v27, val_main_cst_1, val_main_v28, val_main_v29, val_main_v30, val_main_cst_2, val_main_v31, val_main_v32, val_main_v33, val_main_v34, val_main_v35, val_main_cst_3, val_main_v36, val_main_v37, val_main_v38, val_main_cst_4, val_main_v39, val_main_v40, val_main_v41, val_main_v42, val_main_v43, val_main_v44, val_main_v45, val_main_v46, val_main_v47, val_main_v48, val_main_v49, val_main_v50, val_main_v51, val_main_v52, val_main_cst_5, val_main_v53, val_main_v54, val_main_cst_6, val_main_v55, val_main_v56, val_main_cst_7, val_main_v57, val_main_v58, val_main_v59, val_main_cst_8, val_main_v60, val_main_v61, val_main_v62, val_main_v63, val_main_v64, val_main_cst_9, val_main_v65, val_main_v66, val_main_v67, val_main_v68, val_main_cst_10, val_main_v69, val_main_v70, val_main_cst_11, val_main_v71, val_main_v72, val_main_v73, val_main_v74, val_main_v75, val_main_cst_12, val_main_v76, val_main_v77, val_main_cst_13, val_main_v78, val_main_v79, val_main_cst_14, val_main_v80, val_main_v81, val_main_v82, val_main_v83, val_main_cst_15, val_main_v84, val_main_v85, val_main_v86, val_main_v87, val_main_cst_16, val_main_v88, val_main_v89, val_main_v90, val_main_v91, val_main_v92, val_main_v93, val_main_v94, val_main_v95, val_main_v96, val_main_v97, val_main_v98, val_main_v99, val_main_v100, val_main_v101, val_main_v102, val_main_v103, val_main_cst_17, val_main_v104, val_main_v105, val_main_v106, val_main_v107, val_main_v108, val_main_v109, val_main_v110, val_main_call0_v0, val_main_call0_v1, val_main_call0_cst, val_main_call0_v2, val_main_call0_v3, val_main_call0_cst_0, val_main_call0_v4, val_main_v111_2, val_main_call0_cst_1, val_main_call0_v6, val_main_call0_v7, val_main_v111_1, val_main_v111_0, val_main_v112, val_main_v113, val_main_v114, val_main_call1_v0, val_main_call1_v1, val_main_call1_v2, val_main_v115, val_main_v116, val_main_v117, val_main_v118, val_main_v119, val_main_cst_18, val_main_v120, val_main_v121, val_main_v122, val_main_cst_19, val_main_v123, val_main_v124, val_main_v125, val_main_v126, val_main_cst_20, val_main_v127, val_main_v128, val_main_v129, val_main_v130, val_main_cst_21, val_main_v131, val_main_v132, val_main_v133, val_main_cst_22, val_main_v134, val_main_v135, val_main_cst_23, val_main_v136, val_main_v137, val_main_cst_24, val_main_v138, val_main_v139, val_main_v140, val_main_v141, val_main_cst_25, val_main_v142, val_main_v143, val_main_v144, val_main_cst_26, val_main_v145, val_main_v146, val_main_v147, val_main_v148, val_main_v149, val_main_v150, val_main_cst_27, val_main_v151, val_main_v152, val_main_cst_28, val_main_v153, val_main_v154, val_main_cst_29, val_main_v155, val_main_v156, val_main_v157, val_main_v158, val_main_cst_30, val_main_v159, val_main_v160, val_main_v161, val_main_v162, val_main_cst_31, val_main_v163, val_main_v164, val_main_cst_32, val_main_v165, val_main_v166, val_main_v167, val_main_v168, val_main_v169, val_main_v170, val_main_cst_33, val_main_v171, val_main_v172, val_main_v173, val_main_v174, val_main_cst_34, val_main_v175, val_main_v176, val_main_cst_35, val_main_v177, val_main_v178, val_main_cst_36, val_main_v179, val_main_v180, val_main_v181, val_main_v182, val_main_v183, val_main_cst_37, val_main_v184, val_main_v185, val_main_cst_38, val_main_v186, val_main_v187, val_main_cst_39, val_main_v188, val_main_v189, val_main_v190, val_main_v191, val_main_v192, val_main_cst_40, val_main_v193, val_main_v194, val_main_v195, val_main_v196, val_main_cst_41, val_main_v197, val_main_v198, val_main_v199, val_main_cst_42, val_main_v200, val_main_v201, val_main_cst_43, val_main_v202, val_main_v203, val_main_v204, val_main_v205, val_main_v206, val_main_cst_44, val_main_v207, val_main_v208, val_main_v209, val_main_cst_45, val_main_v210, val_main_v211, val_main_v212, val_main_cst_46, val_main_v213, val_main_v214, val_main_v215, val_main_v216, val_main_cst_47, val_main_v217, val_main_cst_48, val_main_v218, val_main_v219, val_main_cst_49, val_main_v220, val_main_v221, val_main_cst_50, val_main_v222, val_main_v223, val_main_v224, val_main_v225, val_main_v226, val_main_v227, val_main_v228]
  try simp only [Finset.univ_unique, Finset.sum_singleton, zero_sub, zero_add, add_zero]
  rfl

theorem v225_at (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) (x10 : FVec Ideal S2304x1024 .f32) (q : Fin 1) (l : Fin 1024) :
    val_main_v225 (F := Ideal) x2 x3 x4 x5 x7 x10 (ix2 q l) = (∑ p : Fin 2304, dKaR (row x0 x1 x2 x3 x4 x5 x6 x7 x8 x9 x10 p) (act1 (row x0 x1 x2 x3 x4 x5 x6 x7 x8 x9 x10 p)) l) + ∑ p : Fin 2304, dKaR (row x0 x1 x2 x3 x4 x5 x6 x7 x8 x9 x10 p) (act0 (row x0 x1 x2 x3 x4 x5 x6 x7 x8 x9 x10 p)) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_v24, val_main_v25, val_main_cst_0, val_main_v26, val_main_v27, val_main_cst_1, val_main_v28, val_main_v29, val_main_v30, val_main_cst_2, val_main_v31, val_main_v32, val_main_v33, val_main_v34, val_main_v35, val_main_cst_3, val_main_v36, val_main_v37, val_main_v38, val_main_cst_4, val_main_v39, val_main_v40, val_main_v41, val_main_v42, val_main_v43, val_main_v44, val_main_v45, val_main_v46, val_main_v47, val_main_v48, val_main_v49, val_main_v50, val_main_v51, val_main_v52, val_main_cst_5, val_main_v53, val_main_v54, val_main_cst_6, val_main_v55, val_main_v56, val_main_cst_7, val_main_v57, val_main_v58, val_main_v59, val_main_cst_8, val_main_v60, val_main_v61, val_main_v62, val_main_v63, val_main_v64, val_main_cst_9, val_main_v65, val_main_v66, val_main_v67, val_main_v68, val_main_cst_10, val_main_v69, val_main_v70, val_main_cst_11, val_main_v71, val_main_v72, val_main_v73, val_main_v74, val_main_v75, val_main_cst_12, val_main_v76, val_main_v77, val_main_cst_13, val_main_v78, val_main_v79, val_main_cst_14, val_main_v80, val_main_v81, val_main_v82, val_main_v83, val_main_cst_15, val_main_v84, val_main_v85, val_main_v86, val_main_v87, val_main_cst_16, val_main_v88, val_main_v89, val_main_v90, val_main_v91, val_main_v92, val_main_v93, val_main_v94, val_main_v95, val_main_v96, val_main_v97, val_main_v98, val_main_v99, val_main_v100, val_main_v101, val_main_v102, val_main_v103, val_main_cst_17, val_main_v104, val_main_v105, val_main_v106, val_main_v107, val_main_v108, val_main_v109, val_main_v110, val_main_call0_v0, val_main_call0_v1, val_main_call0_cst, val_main_call0_v2, val_main_call0_v3, val_main_call0_cst_0, val_main_call0_v4, val_main_v111_2, val_main_call0_cst_1, val_main_call0_v6, val_main_call0_v7, val_main_v111_1, val_main_v111_0, val_main_v112, val_main_v113, val_main_v114, val_main_call1_v0, val_main_call1_v1, val_main_call1_v2, val_main_v115, val_main_v116, val_main_v117, val_main_v118, val_main_v119, val_main_cst_18, val_main_v120, val_main_v121, val_main_v122, val_main_cst_19, val_main_v123, val_main_v124, val_main_v125, val_main_v126, val_main_cst_20, val_main_v127, val_main_v128, val_main_v129, val_main_v130, val_main_cst_21, val_main_v131, val_main_v132, val_main_v133, val_main_cst_22, val_main_v134, val_main_v135, val_main_cst_23, val_main_v136, val_main_v137, val_main_cst_24, val_main_v138, val_main_v139, val_main_v140, val_main_v141, val_main_cst_25, val_main_v142, val_main_v143, val_main_v144, val_main_cst_26, val_main_v145, val_main_v146, val_main_v147, val_main_v148, val_main_v149, val_main_v150, val_main_cst_27, val_main_v151, val_main_v152, val_main_cst_28, val_main_v153, val_main_v154, val_main_cst_29, val_main_v155, val_main_v156, val_main_v157, val_main_v158, val_main_cst_30, val_main_v159, val_main_v160, val_main_v161, val_main_v162, val_main_cst_31, val_main_v163, val_main_v164, val_main_cst_32, val_main_v165, val_main_v166, val_main_v167, val_main_v168, val_main_v169, val_main_v170, val_main_cst_33, val_main_v171, val_main_v172, val_main_v173, val_main_v174, val_main_cst_34, val_main_v175, val_main_v176, val_main_cst_35, val_main_v177, val_main_v178, val_main_cst_36, val_main_v179, val_main_v180, val_main_v181, val_main_v182, val_main_v183, val_main_cst_37, val_main_v184, val_main_v185, val_main_cst_38, val_main_v186, val_main_v187, val_main_cst_39, val_main_v188, val_main_v189, val_main_v190, val_main_v191, val_main_v192, val_main_cst_40, val_main_v193, val_main_v194, val_main_v195, val_main_v196, val_main_cst_41, val_main_v197, val_main_v198, val_main_v199, val_main_cst_42, val_main_v200, val_main_v201, val_main_cst_43, val_main_v202, val_main_v203, val_main_v204, val_main_v205, val_main_v206, val_main_cst_44, val_main_v207, val_main_v208, val_main_v209, val_main_cst_45, val_main_v210, val_main_v211, val_main_v212, val_main_cst_46, val_main_v213, val_main_v214, val_main_v215, val_main_v216, val_main_cst_47, val_main_v217, val_main_cst_48, val_main_v218, val_main_v219, val_main_cst_49, val_main_v220, val_main_v221, val_main_cst_50, val_main_v222, val_main_v223, val_main_v224, val_main_v225, val_main_v226, val_main_v227, val_main_v228]
  try simp only [Finset.univ_unique, Finset.sum_singleton, zero_sub, zero_add, add_zero]
  rfl

theorem v122_at (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) (x10 : FVec Ideal S2304x1024 .f32) (p : Fin 2304) (l : Fin 1024) :
    val_main_v122 (F := Ideal) x2 x3 x4 x5 x6 x7 x10 (ix2 p l) = dV (row x0 x1 x2 x3 x4 x5 x6 x7 x8 x9 x10 p) (ksR (row x0 x1 x2 x3 x4 x5 x6 x7 x8 x9 x10 p)) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_v24, val_main_v25, val_main_cst_0, val_main_v26, val_main_v27, val_main_cst_1, val_main_v28, val_main_v29, val_main_v30, val_main_cst_2, val_main_v31, val_main_v32, val_main_v33, val_main_v34, val_main_v35, val_main_cst_3, val_main_v36, val_main_v37, val_main_v38, val_main_cst_4, val_main_v39, val_main_v40, val_main_v41, val_main_v42, val_main_v43, val_main_v44, val_main_v45, val_main_v46, val_main_v47, val_main_v48, val_main_v49, val_main_v50, val_main_v51, val_main_v52, val_main_cst_5, val_main_v53, val_main_v54, val_main_cst_6, val_main_v55, val_main_v56, val_main_cst_7, val_main_v57, val_main_v58, val_main_v59, val_main_cst_8, val_main_v60, val_main_v61, val_main_v62, val_main_v63, val_main_v64, val_main_cst_9, val_main_v65, val_main_v66, val_main_v67, val_main_v68, val_main_cst_10, val_main_v69, val_main_v70, val_main_cst_11, val_main_v71, val_main_v72, val_main_v73, val_main_v74, val_main_v75, val_main_cst_12, val_main_v76, val_main_v77, val_main_cst_13, val_main_v78, val_main_v79, val_main_cst_14, val_main_v80, val_main_v81, val_main_v82, val_main_v83, val_main_cst_15, val_main_v84, val_main_v85, val_main_v86, val_main_v87, val_main_cst_16, val_main_v88, val_main_v89, val_main_v90, val_main_v91, val_main_v92, val_main_v93, val_main_v94, val_main_v95, val_main_v96, val_main_v97, val_main_v98, val_main_v99, val_main_v100, val_main_v101, val_main_v102, val_main_v103, val_main_cst_17, val_main_v104, val_main_v105, val_main_v106, val_main_v107, val_main_v108, val_main_v109, val_main_v110, val_main_call0_v0, val_main_call0_v1, val_main_call0_cst, val_main_call0_v2, val_main_call0_v3, val_main_call0_cst_0, val_main_call0_v4, val_main_v111_2, val_main_call0_cst_1, val_main_call0_v6, val_main_call0_v7, val_main_v111_1, val_main_v111_0, val_main_v112, val_main_v113, val_main_v114, val_main_call1_v0, val_main_call1_v1, val_main_call1_v2, val_main_v115, val_main_v116, val_main_v117, val_main_v118, val_main_v119, val_main_cst_18, val_main_v120, val_main_v121, val_main_v122, val_main_cst_19, val_main_v123, val_main_v124, val_main_v125, val_main_v126, val_main_cst_20, val_main_v127, val_main_v128, val_main_v129, val_main_v130, val_main_cst_21, val_main_v131, val_main_v132, val_main_v133, val_main_cst_22, val_main_v134, val_main_v135, val_main_cst_23, val_main_v136, val_main_v137, val_main_cst_24, val_main_v138, val_main_v139, val_main_v140, val_main_v141, val_main_cst_25, val_main_v142, val_main_v143, val_main_v144, val_main_cst_26, val_main_v145, val_main_v146, val_main_v147, val_main_v148, val_main_v149, val_main_v150, val_main_cst_27, val_main_v151, val_main_v152, val_main_cst_28, val_main_v153, val_main_v154, val_main_cst_29, val_main_v155, val_main_v156, val_main_v157, val_main_v158, val_main_cst_30, val_main_v159, val_main_v160, val_main_v161, val_main_v162, val_main_cst_31, val_main_v163, val_main_v164, val_main_cst_32, val_main_v165, val_main_v166, val_main_v167, val_main_v168, val_main_v169, val_main_v170, val_main_cst_33, val_main_v171, val_main_v172, val_main_v173, val_main_v174, val_main_cst_34, val_main_v175, val_main_v176, val_main_cst_35, val_main_v177, val_main_v178, val_main_cst_36, val_main_v179, val_main_v180, val_main_v181, val_main_v182, val_main_v183, val_main_cst_37, val_main_v184, val_main_v185, val_main_cst_38, val_main_v186, val_main_v187, val_main_cst_39, val_main_v188, val_main_v189, val_main_v190, val_main_v191, val_main_v192, val_main_cst_40, val_main_v193, val_main_v194, val_main_v195, val_main_v196, val_main_cst_41, val_main_v197, val_main_v198, val_main_v199, val_main_cst_42, val_main_v200, val_main_v201, val_main_cst_43, val_main_v202, val_main_v203, val_main_v204, val_main_v205, val_main_v206, val_main_cst_44, val_main_v207, val_main_v208, val_main_v209, val_main_cst_45, val_main_v210, val_main_v211, val_main_v212, val_main_cst_46, val_main_v213, val_main_v214, val_main_v215, val_main_v216, val_main_cst_47, val_main_v217, val_main_cst_48, val_main_v218, val_main_v219, val_main_cst_49, val_main_v220, val_main_v221, val_main_cst_50, val_main_v222, val_main_v223, val_main_v224, val_main_v225, val_main_v226, val_main_v227, val_main_v228]
  try simp only [Finset.univ_unique, Finset.sum_singleton, zero_sub, zero_add, add_zero]
  rfl

theorem v133_at (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) (x10 : FVec Ideal S2304x1024 .f32) (p : Fin 2304) (l : Fin 1024) :
    val_main_v133 (F := Ideal) x2 x3 x4 x5 x6 x7 x10 (ix2 p l) = dR (row x0 x1 x2 x3 x4 x5 x6 x7 x8 x9 x10 p) (ksR (row x0 x1 x2 x3 x4 x5 x6 x7 x8 x9 x10 p)) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_v24, val_main_v25, val_main_cst_0, val_main_v26, val_main_v27, val_main_cst_1, val_main_v28, val_main_v29, val_main_v30, val_main_cst_2, val_main_v31, val_main_v32, val_main_v33, val_main_v34, val_main_v35, val_main_cst_3, val_main_v36, val_main_v37, val_main_v38, val_main_cst_4, val_main_v39, val_main_v40, val_main_v41, val_main_v42, val_main_v43, val_main_v44, val_main_v45, val_main_v46, val_main_v47, val_main_v48, val_main_v49, val_main_v50, val_main_v51, val_main_v52, val_main_cst_5, val_main_v53, val_main_v54, val_main_cst_6, val_main_v55, val_main_v56, val_main_cst_7, val_main_v57, val_main_v58, val_main_v59, val_main_cst_8, val_main_v60, val_main_v61, val_main_v62, val_main_v63, val_main_v64, val_main_cst_9, val_main_v65, val_main_v66, val_main_v67, val_main_v68, val_main_cst_10, val_main_v69, val_main_v70, val_main_cst_11, val_main_v71, val_main_v72, val_main_v73, val_main_v74, val_main_v75, val_main_cst_12, val_main_v76, val_main_v77, val_main_cst_13, val_main_v78, val_main_v79, val_main_cst_14, val_main_v80, val_main_v81, val_main_v82, val_main_v83, val_main_cst_15, val_main_v84, val_main_v85, val_main_v86, val_main_v87, val_main_cst_16, val_main_v88, val_main_v89, val_main_v90, val_main_v91, val_main_v92, val_main_v93, val_main_v94, val_main_v95, val_main_v96, val_main_v97, val_main_v98, val_main_v99, val_main_v100, val_main_v101, val_main_v102, val_main_v103, val_main_cst_17, val_main_v104, val_main_v105, val_main_v106, val_main_v107, val_main_v108, val_main_v109, val_main_v110, val_main_call0_v0, val_main_call0_v1, val_main_call0_cst, val_main_call0_v2, val_main_call0_v3, val_main_call0_cst_0, val_main_call0_v4, val_main_v111_2, val_main_call0_cst_1, val_main_call0_v6, val_main_call0_v7, val_main_v111_1, val_main_v111_0, val_main_v112, val_main_v113, val_main_v114, val_main_call1_v0, val_main_call1_v1, val_main_call1_v2, val_main_v115, val_main_v116, val_main_v117, val_main_v118, val_main_v119, val_main_cst_18, val_main_v120, val_main_v121, val_main_v122, val_main_cst_19, val_main_v123, val_main_v124, val_main_v125, val_main_v126, val_main_cst_20, val_main_v127, val_main_v128, val_main_v129, val_main_v130, val_main_cst_21, val_main_v131, val_main_v132, val_main_v133, val_main_cst_22, val_main_v134, val_main_v135, val_main_cst_23, val_main_v136, val_main_v137, val_main_cst_24, val_main_v138, val_main_v139, val_main_v140, val_main_v141, val_main_cst_25, val_main_v142, val_main_v143, val_main_v144, val_main_cst_26, val_main_v145, val_main_v146, val_main_v147, val_main_v148, val_main_v149, val_main_v150, val_main_cst_27, val_main_v151, val_main_v152, val_main_cst_28, val_main_v153, val_main_v154, val_main_cst_29, val_main_v155, val_main_v156, val_main_v157, val_main_v158, val_main_cst_30, val_main_v159, val_main_v160, val_main_v161, val_main_v162, val_main_cst_31, val_main_v163, val_main_v164, val_main_cst_32, val_main_v165, val_main_v166, val_main_v167, val_main_v168, val_main_v169, val_main_v170, val_main_cst_33, val_main_v171, val_main_v172, val_main_v173, val_main_v174, val_main_cst_34, val_main_v175, val_main_v176, val_main_cst_35, val_main_v177, val_main_v178, val_main_cst_36, val_main_v179, val_main_v180, val_main_v181, val_main_v182, val_main_v183, val_main_cst_37, val_main_v184, val_main_v185, val_main_cst_38, val_main_v186, val_main_v187, val_main_cst_39, val_main_v188, val_main_v189, val_main_v190, val_main_v191, val_main_v192, val_main_cst_40, val_main_v193, val_main_v194, val_main_v195, val_main_v196, val_main_cst_41, val_main_v197, val_main_v198, val_main_v199, val_main_cst_42, val_main_v200, val_main_v201, val_main_cst_43, val_main_v202, val_main_v203, val_main_v204, val_main_v205, val_main_v206, val_main_cst_44, val_main_v207, val_main_v208, val_main_v209, val_main_cst_45, val_main_v210, val_main_v211, val_main_v212, val_main_cst_46, val_main_v213, val_main_v214, val_main_v215, val_main_v216, val_main_cst_47, val_main_v217, val_main_cst_48, val_main_v218, val_main_v219, val_main_cst_49, val_main_v220, val_main_v221, val_main_cst_50, val_main_v222, val_main_v223, val_main_v224, val_main_v225, val_main_v226, val_main_v227, val_main_v228]
  try simp only [Finset.univ_unique, Finset.sum_singleton, zero_sub, zero_add, add_zero]
  rfl

theorem v191_at (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) (x10 : FVec Ideal S2304x1024 .f32) (p : Fin 2304) (l : Fin 1024) :
    val_main_v191 (F := Ideal) x2 x3 x4 x5 x6 x7 x10 (ix2 p l) = dKR (row x0 x1 x2 x3 x4 x5 x6 x7 x8 x9 x10 p) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_v24, val_main_v25, val_main_cst_0, val_main_v26, val_main_v27, val_main_cst_1, val_main_v28, val_main_v29, val_main_v30, val_main_cst_2, val_main_v31, val_main_v32, val_main_v33, val_main_v34, val_main_v35, val_main_cst_3, val_main_v36, val_main_v37, val_main_v38, val_main_cst_4, val_main_v39, val_main_v40, val_main_v41, val_main_v42, val_main_v43, val_main_v44, val_main_v45, val_main_v46, val_main_v47, val_main_v48, val_main_v49, val_main_v50, val_main_v51, val_main_v52, val_main_cst_5, val_main_v53, val_main_v54, val_main_cst_6, val_main_v55, val_main_v56, val_main_cst_7, val_main_v57, val_main_v58, val_main_v59, val_main_cst_8, val_main_v60, val_main_v61, val_main_v62, val_main_v63, val_main_v64, val_main_cst_9, val_main_v65, val_main_v66, val_main_v67, val_main_v68, val_main_cst_10, val_main_v69, val_main_v70, val_main_cst_11, val_main_v71, val_main_v72, val_main_v73, val_main_v74, val_main_v75, val_main_cst_12, val_main_v76, val_main_v77, val_main_cst_13, val_main_v78, val_main_v79, val_main_cst_14, val_main_v80, val_main_v81, val_main_v82, val_main_v83, val_main_cst_15, val_main_v84, val_main_v85, val_main_v86, val_main_v87, val_main_cst_16, val_main_v88, val_main_v89, val_main_v90, val_main_v91, val_main_v92, val_main_v93, val_main_v94, val_main_v95, val_main_v96, val_main_v97, val_main_v98, val_main_v99, val_main_v100, val_main_v101, val_main_v102, val_main_v103, val_main_cst_17, val_main_v104, val_main_v105, val_main_v106, val_main_v107, val_main_v108, val_main_v109, val_main_v110, val_main_call0_v0, val_main_call0_v1, val_main_call0_cst, val_main_call0_v2, val_main_call0_v3, val_main_call0_cst_0, val_main_call0_v4, val_main_v111_2, val_main_call0_cst_1, val_main_call0_v6, val_main_call0_v7, val_main_v111_1, val_main_v111_0, val_main_v112, val_main_v113, val_main_v114, val_main_call1_v0, val_main_call1_v1, val_main_call1_v2, val_main_v115, val_main_v116, val_main_v117, val_main_v118, val_main_v119, val_main_cst_18, val_main_v120, val_main_v121, val_main_v122, val_main_cst_19, val_main_v123, val_main_v124, val_main_v125, val_main_v126, val_main_cst_20, val_main_v127, val_main_v128, val_main_v129, val_main_v130, val_main_cst_21, val_main_v131, val_main_v132, val_main_v133, val_main_cst_22, val_main_v134, val_main_v135, val_main_cst_23, val_main_v136, val_main_v137, val_main_cst_24, val_main_v138, val_main_v139, val_main_v140, val_main_v141, val_main_cst_25, val_main_v142, val_main_v143, val_main_v144, val_main_cst_26, val_main_v145, val_main_v146, val_main_v147, val_main_v148, val_main_v149, val_main_v150, val_main_cst_27, val_main_v151, val_main_v152, val_main_cst_28, val_main_v153, val_main_v154, val_main_cst_29, val_main_v155, val_main_v156, val_main_v157, val_main_v158, val_main_cst_30, val_main_v159, val_main_v160, val_main_v161, val_main_v162, val_main_cst_31, val_main_v163, val_main_v164, val_main_cst_32, val_main_v165, val_main_v166, val_main_v167, val_main_v168, val_main_v169, val_main_v170, val_main_cst_33, val_main_v171, val_main_v172, val_main_v173, val_main_v174, val_main_cst_34, val_main_v175, val_main_v176, val_main_cst_35, val_main_v177, val_main_v178, val_main_cst_36, val_main_v179, val_main_v180, val_main_v181, val_main_v182, val_main_v183, val_main_cst_37, val_main_v184, val_main_v185, val_main_cst_38, val_main_v186, val_main_v187, val_main_cst_39, val_main_v188, val_main_v189, val_main_v190, val_main_v191, val_main_v192, val_main_cst_40, val_main_v193, val_main_v194, val_main_v195, val_main_v196, val_main_cst_41, val_main_v197, val_main_v198, val_main_v199, val_main_cst_42, val_main_v200, val_main_v201, val_main_cst_43, val_main_v202, val_main_v203, val_main_v204, val_main_v205, val_main_v206, val_main_cst_44, val_main_v207, val_main_v208, val_main_v209, val_main_cst_45, val_main_v210, val_main_v211, val_main_v212, val_main_cst_46, val_main_v213, val_main_v214, val_main_v215, val_main_v216, val_main_cst_47, val_main_v217, val_main_cst_48, val_main_v218, val_main_v219, val_main_cst_49, val_main_v220, val_main_v221, val_main_cst_50, val_main_v222, val_main_v223, val_main_v224, val_main_v225, val_main_v226, val_main_v227, val_main_v228]
  try simp only [Finset.univ_unique, Finset.sum_singleton, zero_sub, zero_add, add_zero]
  rfl

theorem v176_at (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) (x10 : FVec Ideal S2304x1024 .f32) (p : Fin 2304) (l : Fin 1024) :
    val_main_v176 (F := Ideal) x2 x3 x4 x5 x6 x7 x10 (ix2 p l) = dE (row x0 x1 x2 x3 x4 x5 x6 x7 x8 x9 x10 p) (act1 (row x0 x1 x2 x3 x4 x5 x6 x7 x8 x9 x10 p)) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_v24, val_main_v25, val_main_cst_0, val_main_v26, val_main_v27, val_main_cst_1, val_main_v28, val_main_v29, val_main_v30, val_main_cst_2, val_main_v31, val_main_v32, val_main_v33, val_main_v34, val_main_v35, val_main_cst_3, val_main_v36, val_main_v37, val_main_v38, val_main_cst_4, val_main_v39, val_main_v40, val_main_v41, val_main_v42, val_main_v43, val_main_v44, val_main_v45, val_main_v46, val_main_v47, val_main_v48, val_main_v49, val_main_v50, val_main_v51, val_main_v52, val_main_cst_5, val_main_v53, val_main_v54, val_main_cst_6, val_main_v55, val_main_v56, val_main_cst_7, val_main_v57, val_main_v58, val_main_v59, val_main_cst_8, val_main_v60, val_main_v61, val_main_v62, val_main_v63, val_main_v64, val_main_cst_9, val_main_v65, val_main_v66, val_main_v67, val_main_v68, val_main_cst_10, val_main_v69, val_main_v70, val_main_cst_11, val_main_v71, val_main_v72, val_main_v73, val_main_v74, val_main_v75, val_main_cst_12, val_main_v76, val_main_v77, val_main_cst_13, val_main_v78, val_main_v79, val_main_cst_14, val_main_v80, val_main_v81, val_main_v82, val_main_v83, val_main_cst_15, val_main_v84, val_main_v85, val_main_v86, val_main_v87, val_main_cst_16, val_main_v88, val_main_v89, val_main_v90, val_main_v91, val_main_v92, val_main_v93, val_main_v94, val_main_v95, val_main_v96, val_main_v97, val_main_v98, val_main_v99, val_main_v100, val_main_v101, val_main_v102, val_main_v103, val_main_cst_17, val_main_v104, val_main_v105, val_main_v106, val_main_v107, val_main_v108, val_main_v109, val_main_v110, val_main_call0_v0, val_main_call0_v1, val_main_call0_cst, val_main_call0_v2, val_main_call0_v3, val_main_call0_cst_0, val_main_call0_v4, val_main_v111_2, val_main_call0_cst_1, val_main_call0_v6, val_main_call0_v7, val_main_v111_1, val_main_v111_0, val_main_v112, val_main_v113, val_main_v114, val_main_call1_v0, val_main_call1_v1, val_main_call1_v2, val_main_v115, val_main_v116, val_main_v117, val_main_v118, val_main_v119, val_main_cst_18, val_main_v120, val_main_v121, val_main_v122, val_main_cst_19, val_main_v123, val_main_v124, val_main_v125, val_main_v126, val_main_cst_20, val_main_v127, val_main_v128, val_main_v129, val_main_v130, val_main_cst_21, val_main_v131, val_main_v132, val_main_v133, val_main_cst_22, val_main_v134, val_main_v135, val_main_cst_23, val_main_v136, val_main_v137, val_main_cst_24, val_main_v138, val_main_v139, val_main_v140, val_main_v141, val_main_cst_25, val_main_v142, val_main_v143, val_main_v144, val_main_cst_26, val_main_v145, val_main_v146, val_main_v147, val_main_v148, val_main_v149, val_main_v150, val_main_cst_27, val_main_v151, val_main_v152, val_main_cst_28, val_main_v153, val_main_v154, val_main_cst_29, val_main_v155, val_main_v156, val_main_v157, val_main_v158, val_main_cst_30, val_main_v159, val_main_v160, val_main_v161, val_main_v162, val_main_cst_31, val_main_v163, val_main_v164, val_main_cst_32, val_main_v165, val_main_v166, val_main_v167, val_main_v168, val_main_v169, val_main_v170, val_main_cst_33, val_main_v171, val_main_v172, val_main_v173, val_main_v174, val_main_cst_34, val_main_v175, val_main_v176, val_main_cst_35, val_main_v177, val_main_v178, val_main_cst_36, val_main_v179, val_main_v180, val_main_v181, val_main_v182, val_main_v183, val_main_cst_37, val_main_v184, val_main_v185, val_main_cst_38, val_main_v186, val_main_v187, val_main_cst_39, val_main_v188, val_main_v189, val_main_v190, val_main_v191, val_main_v192, val_main_cst_40, val_main_v193, val_main_v194, val_main_v195, val_main_v196, val_main_cst_41, val_main_v197, val_main_v198, val_main_v199, val_main_cst_42, val_main_v200, val_main_v201, val_main_cst_43, val_main_v202, val_main_v203, val_main_v204, val_main_v205, val_main_v206, val_main_cst_44, val_main_v207, val_main_v208, val_main_v209, val_main_cst_45, val_main_v210, val_main_v211, val_main_v212, val_main_cst_46, val_main_v213, val_main_v214, val_main_v215, val_main_v216, val_main_cst_47, val_main_v217, val_main_cst_48, val_main_v218, val_main_v219, val_main_cst_49, val_main_v220, val_main_v221, val_main_cst_50, val_main_v222, val_main_v223, val_main_v224, val_main_v225, val_main_v226, val_main_v227, val_main_v228]
  try simp only [Finset.univ_unique, Finset.sum_singleton, zero_sub, zero_add, add_zero]
  rfl

theorem v199_at (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) (x10 : FVec Ideal S2304x1024 .f32) (p : Fin 2304) (l : Fin 1024) :
    val_main_v199 (F := Ideal) x2 x3 x4 x5 x6 x7 x10 (ix2 p l) = dE (row x0 x1 x2 x3 x4 x5 x6 x7 x8 x9 x10 p) (act0 (row x0 x1 x2 x3 x4 x5 x6 x7 x8 x9 x10 p)) l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_v24, val_main_v25, val_main_cst_0, val_main_v26, val_main_v27, val_main_cst_1, val_main_v28, val_main_v29, val_main_v30, val_main_cst_2, val_main_v31, val_main_v32, val_main_v33, val_main_v34, val_main_v35, val_main_cst_3, val_main_v36, val_main_v37, val_main_v38, val_main_cst_4, val_main_v39, val_main_v40, val_main_v41, val_main_v42, val_main_v43, val_main_v44, val_main_v45, val_main_v46, val_main_v47, val_main_v48, val_main_v49, val_main_v50, val_main_v51, val_main_v52, val_main_cst_5, val_main_v53, val_main_v54, val_main_cst_6, val_main_v55, val_main_v56, val_main_cst_7, val_main_v57, val_main_v58, val_main_v59, val_main_cst_8, val_main_v60, val_main_v61, val_main_v62, val_main_v63, val_main_v64, val_main_cst_9, val_main_v65, val_main_v66, val_main_v67, val_main_v68, val_main_cst_10, val_main_v69, val_main_v70, val_main_cst_11, val_main_v71, val_main_v72, val_main_v73, val_main_v74, val_main_v75, val_main_cst_12, val_main_v76, val_main_v77, val_main_cst_13, val_main_v78, val_main_v79, val_main_cst_14, val_main_v80, val_main_v81, val_main_v82, val_main_v83, val_main_cst_15, val_main_v84, val_main_v85, val_main_v86, val_main_v87, val_main_cst_16, val_main_v88, val_main_v89, val_main_v90, val_main_v91, val_main_v92, val_main_v93, val_main_v94, val_main_v95, val_main_v96, val_main_v97, val_main_v98, val_main_v99, val_main_v100, val_main_v101, val_main_v102, val_main_v103, val_main_cst_17, val_main_v104, val_main_v105, val_main_v106, val_main_v107, val_main_v108, val_main_v109, val_main_v110, val_main_call0_v0, val_main_call0_v1, val_main_call0_cst, val_main_call0_v2, val_main_call0_v3, val_main_call0_cst_0, val_main_call0_v4, val_main_v111_2, val_main_call0_cst_1, val_main_call0_v6, val_main_call0_v7, val_main_v111_1, val_main_v111_0, val_main_v112, val_main_v113, val_main_v114, val_main_call1_v0, val_main_call1_v1, val_main_call1_v2, val_main_v115, val_main_v116, val_main_v117, val_main_v118, val_main_v119, val_main_cst_18, val_main_v120, val_main_v121, val_main_v122, val_main_cst_19, val_main_v123, val_main_v124, val_main_v125, val_main_v126, val_main_cst_20, val_main_v127, val_main_v128, val_main_v129, val_main_v130, val_main_cst_21, val_main_v131, val_main_v132, val_main_v133, val_main_cst_22, val_main_v134, val_main_v135, val_main_cst_23, val_main_v136, val_main_v137, val_main_cst_24, val_main_v138, val_main_v139, val_main_v140, val_main_v141, val_main_cst_25, val_main_v142, val_main_v143, val_main_v144, val_main_cst_26, val_main_v145, val_main_v146, val_main_v147, val_main_v148, val_main_v149, val_main_v150, val_main_cst_27, val_main_v151, val_main_v152, val_main_cst_28, val_main_v153, val_main_v154, val_main_cst_29, val_main_v155, val_main_v156, val_main_v157, val_main_v158, val_main_cst_30, val_main_v159, val_main_v160, val_main_v161, val_main_v162, val_main_cst_31, val_main_v163, val_main_v164, val_main_cst_32, val_main_v165, val_main_v166, val_main_v167, val_main_v168, val_main_v169, val_main_v170, val_main_cst_33, val_main_v171, val_main_v172, val_main_v173, val_main_v174, val_main_cst_34, val_main_v175, val_main_v176, val_main_cst_35, val_main_v177, val_main_v178, val_main_cst_36, val_main_v179, val_main_v180, val_main_v181, val_main_v182, val_main_v183, val_main_cst_37, val_main_v184, val_main_v185, val_main_cst_38, val_main_v186, val_main_v187, val_main_cst_39, val_main_v188, val_main_v189, val_main_v190, val_main_v191, val_main_v192, val_main_cst_40, val_main_v193, val_main_v194, val_main_v195, val_main_v196, val_main_cst_41, val_main_v197, val_main_v198, val_main_v199, val_main_cst_42, val_main_v200, val_main_v201, val_main_cst_43, val_main_v202, val_main_v203, val_main_v204, val_main_v205, val_main_v206, val_main_cst_44, val_main_v207, val_main_v208, val_main_v209, val_main_cst_45, val_main_v210, val_main_v211, val_main_v212, val_main_cst_46, val_main_v213, val_main_v214, val_main_v215, val_main_v216, val_main_cst_47, val_main_v217, val_main_cst_48, val_main_v218, val_main_v219, val_main_cst_49, val_main_v220, val_main_v221, val_main_cst_50, val_main_v222, val_main_v223, val_main_v224, val_main_v225, val_main_v226, val_main_v227, val_main_v228]
  try simp only [Finset.univ_unique, Finset.sum_singleton, zero_sub, zero_add, add_zero]
  rfl

theorem v214_at (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) (x10 : FVec Ideal S2304x1024 .f32) (q : Fin 2) (l : Fin 1024) :
    val_main_v214 (F := Ideal) x2 x3 x4 x5 x6 x7 x10 (ix2 q l) = ∑ p : Fin 2304, dA0 (row x0 x1 x2 x3 x4 x5 x6 x7 x8 x9 x10 p) q l := by
  have e0 := fun p l => v176_at x0 x1 x2 x3 x4 x5 x6 x7 x8 x9 x10 p l
  have e1 := fun p l => v199_at x0 x1 x2 x3 x4 x5 x6 x7 x8 x9 x10 p l
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_v24, val_main_v25, val_main_cst_0, val_main_v26, val_main_v27, val_main_cst_1, val_main_v28, val_main_v29, val_main_v30, val_main_cst_2, val_main_v31, val_main_v32, val_main_v33, val_main_v34, val_main_v35, val_main_cst_3, val_main_v36, val_main_v37, val_main_v38, val_main_cst_4, val_main_v39, val_main_v40, val_main_v41, val_main_v42, val_main_v43, val_main_v44, val_main_v45, val_main_v46, val_main_v47, val_main_v48, val_main_v49, val_main_v50, val_main_v51, val_main_v52, val_main_cst_5, val_main_v53, val_main_v54, val_main_cst_6, val_main_v55, val_main_v56, val_main_cst_7, val_main_v57, val_main_v58, val_main_v59, val_main_cst_8, val_main_v60, val_main_v61, val_main_v62, val_main_v63, val_main_v64, val_main_cst_9, val_main_v65, val_main_v66, val_main_v67, val_main_v68, val_main_cst_10, val_main_v69, val_main_v70, val_main_cst_11, val_main_v71, val_main_v72, val_main_v73, val_main_v74, val_main_v75, val_main_cst_12, val_main_v76, val_main_v77, val_main_cst_13, val_main_v78, val_main_v79, val_main_cst_14, val_main_v80, val_main_v81, val_main_v82, val_main_v83, val_main_cst_15, val_main_v84, val_main_v85, val_main_v86, val_main_v87, val_main_cst_16, val_main_v88, val_main_v89, val_main_v90, val_main_v91, val_main_v92, val_main_v93, val_main_v94, val_main_v95, val_main_v96, val_main_v97, val_main_v98, val_main_v99, val_main_v100, val_main_v101, val_main_v102, val_main_v103, val_main_cst_17, val_main_v104, val_main_v105, val_main_v106, val_main_v107, val_main_v108, val_main_v109, val_main_v110, val_main_call0_v0, val_main_call0_v1, val_main_call0_cst, val_main_call0_v2, val_main_call0_v3, val_main_call0_cst_0, val_main_call0_v4, val_main_v111_2, val_main_call0_cst_1, val_main_call0_v6, val_main_call0_v7, val_main_v111_1, val_main_v111_0, val_main_v112, val_main_v113, val_main_v114, val_main_call1_v0, val_main_call1_v1, val_main_call1_v2, val_main_v115, val_main_v116, val_main_v117, val_main_v118, val_main_v119, val_main_cst_18, val_main_v120, val_main_v121, val_main_v122, val_main_cst_19, val_main_v123, val_main_v124, val_main_v125, val_main_v126, val_main_cst_20, val_main_v127, val_main_v128, val_main_v129, val_main_v130, val_main_cst_21, val_main_v131, val_main_v132, val_main_v133, val_main_cst_22, val_main_v134, val_main_v135, val_main_cst_23, val_main_v136, val_main_v137, val_main_cst_24, val_main_v138, val_main_v139, val_main_v140, val_main_v141, val_main_cst_25, val_main_v142, val_main_v143, val_main_v144, val_main_cst_26, val_main_v145, val_main_v146, val_main_v147, val_main_v148, val_main_v149, val_main_v150, val_main_cst_27, val_main_v151, val_main_v152, val_main_cst_28, val_main_v153, val_main_v154, val_main_cst_29, val_main_v155, val_main_v156, val_main_v157, val_main_v158, val_main_cst_30, val_main_v159, val_main_v160, val_main_v161, val_main_v162, val_main_cst_31, val_main_v163, val_main_v164, val_main_cst_32, val_main_v165, val_main_v166, val_main_v167, val_main_v168, val_main_v169, val_main_v170, val_main_cst_33, val_main_v171, val_main_v172, val_main_v173, val_main_v174, val_main_cst_34, val_main_v175, val_main_cst_35, val_main_v177, val_main_v178, val_main_cst_36, val_main_v179, val_main_v180, val_main_v181, val_main_v182, val_main_v183, val_main_cst_37, val_main_v184, val_main_v185, val_main_cst_38, val_main_v186, val_main_v187, val_main_cst_39, val_main_v188, val_main_v189, val_main_v190, val_main_v191, val_main_v192, val_main_cst_40, val_main_v193, val_main_v194, val_main_v195, val_main_v196, val_main_cst_41, val_main_v197, val_main_v198, val_main_cst_42, val_main_v200, val_main_v201, val_main_cst_43, val_main_v202, val_main_v203, val_main_v204, val_main_v205, val_main_v206, val_main_cst_44, val_main_v207, val_main_v208, val_main_v209, val_main_cst_45, val_main_v210, val_main_v211, val_main_v212, val_main_cst_46, val_main_v213, val_main_v214, val_main_v215, val_main_v216, val_main_cst_47, val_main_v217, val_main_cst_48, val_main_v218, val_main_v219, val_main_cst_49, val_main_v220, val_main_v221, val_main_cst_50, val_main_v222, val_main_v223, val_main_v224, val_main_v225, val_main_v226, val_main_v227, val_main_v228, e0, e1]
  unfold dA0
  by_cases h : q.val < 1
  · rw [dif_neg (by omega), dif_pos h, zero_add]
    simp only [if_pos h, Finset.univ_unique, Finset.sum_singleton]
    try rfl
  · rw [dif_pos (by omega), dif_neg h, add_zero]
    simp only [if_neg h, Finset.univ_unique, Finset.sum_singleton]
    try rfl

theorem v208_at (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) (x10 : FVec Ideal S2304x1024 .f32) (q : Fin 2) (j : Fin 64) (l : Fin 1024) :
    val_main_v208 (F := Ideal) x2 x3 x4 x5 x6 x7 x10 (ix3 q j l) = ∑ p : Fin 2304, dA2 (row x0 x1 x2 x3 x4 x5 x6 x7 x8 x9 x10 p) q j l := by
  have e0 := fun p l => v176_at x0 x1 x2 x3 x4 x5 x6 x7 x8 x9 x10 p l
  have e1 := fun p l => v199_at x0 x1 x2 x3 x4 x5 x6 x7 x8 x9 x10 p l
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_v24, val_main_v25, val_main_cst_0, val_main_v26, val_main_v27, val_main_cst_1, val_main_v28, val_main_v29, val_main_v30, val_main_cst_2, val_main_v31, val_main_v32, val_main_v33, val_main_v34, val_main_v35, val_main_cst_3, val_main_v36, val_main_v37, val_main_v38, val_main_cst_4, val_main_v39, val_main_v40, val_main_v41, val_main_v42, val_main_v43, val_main_v44, val_main_v45, val_main_v46, val_main_v47, val_main_v48, val_main_v49, val_main_v50, val_main_v51, val_main_v52, val_main_cst_5, val_main_v53, val_main_v54, val_main_cst_6, val_main_v55, val_main_v56, val_main_cst_7, val_main_v57, val_main_v58, val_main_v59, val_main_cst_8, val_main_v60, val_main_v61, val_main_v62, val_main_v63, val_main_v64, val_main_cst_9, val_main_v65, val_main_v66, val_main_v67, val_main_v68, val_main_cst_10, val_main_v69, val_main_v70, val_main_cst_11, val_main_v71, val_main_v72, val_main_v73, val_main_v74, val_main_v75, val_main_cst_12, val_main_v76, val_main_v77, val_main_cst_13, val_main_v78, val_main_v79, val_main_cst_14, val_main_v80, val_main_v81, val_main_v82, val_main_v83, val_main_cst_15, val_main_v84, val_main_v85, val_main_v86, val_main_v87, val_main_cst_16, val_main_v88, val_main_v89, val_main_v90, val_main_v91, val_main_v92, val_main_v93, val_main_v94, val_main_v95, val_main_v96, val_main_v97, val_main_v98, val_main_v99, val_main_v100, val_main_v101, val_main_v102, val_main_v103, val_main_cst_17, val_main_v104, val_main_v105, val_main_v106, val_main_v107, val_main_v108, val_main_v109, val_main_v110, val_main_call0_v0, val_main_call0_v1, val_main_call0_cst, val_main_call0_v2, val_main_call0_v3, val_main_call0_cst_0, val_main_call0_v4, val_main_v111_2, val_main_call0_cst_1, val_main_call0_v6, val_main_call0_v7, val_main_v111_1, val_main_v111_0, val_main_v112, val_main_v113, val_main_v114, val_main_call1_v0, val_main_call1_v1, val_main_call1_v2, val_main_v115, val_main_v116, val_main_v117, val_main_v118, val_main_v119, val_main_cst_18, val_main_v120, val_main_v121, val_main_v122, val_main_cst_19, val_main_v123, val_main_v124, val_main_v125, val_main_v126, val_main_cst_20, val_main_v127, val_main_v128, val_main_v129, val_main_v130, val_main_cst_21, val_main_v131, val_main_v132, val_main_v133, val_main_cst_22, val_main_v134, val_main_v135, val_main_cst_23, val_main_v136, val_main_v137, val_main_cst_24, val_main_v138, val_main_v139, val_main_v140, val_main_v141, val_main_cst_25, val_main_v142, val_main_v143, val_main_v144, val_main_cst_26, val_main_v145, val_main_v146, val_main_v147, val_main_v148, val_main_v149, val_main_v150, val_main_cst_27, val_main_v151, val_main_v152, val_main_cst_28, val_main_v153, val_main_v154, val_main_cst_29, val_main_v155, val_main_v156, val_main_v157, val_main_v158, val_main_cst_30, val_main_v159, val_main_v160, val_main_v161, val_main_v162, val_main_cst_31, val_main_v163, val_main_v164, val_main_cst_32, val_main_v165, val_main_v166, val_main_v167, val_main_v168, val_main_v169, val_main_v170, val_main_cst_33, val_main_v171, val_main_v172, val_main_v173, val_main_v174, val_main_cst_34, val_main_v175, val_main_cst_35, val_main_v177, val_main_v178, val_main_cst_36, val_main_v179, val_main_v180, val_main_v181, val_main_v182, val_main_v183, val_main_cst_37, val_main_v184, val_main_v185, val_main_cst_38, val_main_v186, val_main_v187, val_main_cst_39, val_main_v188, val_main_v189, val_main_v190, val_main_v191, val_main_v192, val_main_cst_40, val_main_v193, val_main_v194, val_main_v195, val_main_v196, val_main_cst_41, val_main_v197, val_main_v198, val_main_cst_42, val_main_v200, val_main_v201, val_main_cst_43, val_main_v202, val_main_v203, val_main_v204, val_main_v205, val_main_v206, val_main_cst_44, val_main_v207, val_main_v208, val_main_v209, val_main_cst_45, val_main_v210, val_main_v211, val_main_v212, val_main_cst_46, val_main_v213, val_main_v214, val_main_v215, val_main_v216, val_main_cst_47, val_main_v217, val_main_cst_48, val_main_v218, val_main_v219, val_main_cst_49, val_main_v220, val_main_v221, val_main_cst_50, val_main_v222, val_main_v223, val_main_v224, val_main_v225, val_main_v226, val_main_v227, val_main_v228, e0, e1]
  unfold dA2
  by_cases h : q.val < 1
  · rw [dif_neg (by omega), dif_pos h, zero_add]
    simp only [if_pos h, Finset.univ_unique, Finset.sum_singleton]
    try rfl
  · rw [dif_pos (by omega), dif_neg h, add_zero]
    simp only [if_neg h, Finset.univ_unique, Finset.sum_singleton]
    try rfl

theorem v216_at (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) (x10 : FVec Ideal S2304x1024 .f32) (p : Fin 2304) (l : Fin 128) :
    val_main_v216 (F := Ideal) x2 x3 x4 x5 x6 x7 x10 (ix2 p l) = dLo (row x0 x1 x2 x3 x4 x5 x6 x7 x8 x9 x10 p) l := by
  have e0 := fun p l => v176_at x0 x1 x2 x3 x4 x5 x6 x7 x8 x9 x10 p l
  have e1 := fun p l => v199_at x0 x1 x2 x3 x4 x5 x6 x7 x8 x9 x10 p l
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_v24, val_main_v25, val_main_cst_0, val_main_v26, val_main_v27, val_main_cst_1, val_main_v28, val_main_v29, val_main_v30, val_main_cst_2, val_main_v31, val_main_v32, val_main_v33, val_main_v34, val_main_v35, val_main_cst_3, val_main_v36, val_main_v37, val_main_v38, val_main_cst_4, val_main_v39, val_main_v40, val_main_v41, val_main_v42, val_main_v43, val_main_v44, val_main_v45, val_main_v46, val_main_v47, val_main_v48, val_main_v49, val_main_v50, val_main_v51, val_main_v52, val_main_cst_5, val_main_v53, val_main_v54, val_main_cst_6, val_main_v55, val_main_v56, val_main_cst_7, val_main_v57, val_main_v58, val_main_v59, val_main_cst_8, val_main_v60, val_main_v61, val_main_v62, val_main_v63, val_main_v64, val_main_cst_9, val_main_v65, val_main_v66, val_main_v67, val_main_v68, val_main_cst_10, val_main_v69, val_main_v70, val_main_cst_11, val_main_v71, val_main_v72, val_main_v73, val_main_v74, val_main_v75, val_main_cst_12, val_main_v76, val_main_v77, val_main_cst_13, val_main_v78, val_main_v79, val_main_cst_14, val_main_v80, val_main_v81, val_main_v82, val_main_v83, val_main_cst_15, val_main_v84, val_main_v85, val_main_v86, val_main_v87, val_main_cst_16, val_main_v88, val_main_v89, val_main_v90, val_main_v91, val_main_v92, val_main_v93, val_main_v94, val_main_v95, val_main_v96, val_main_v97, val_main_v98, val_main_v99, val_main_v100, val_main_v101, val_main_v102, val_main_v103, val_main_cst_17, val_main_v104, val_main_v105, val_main_v106, val_main_v107, val_main_v108, val_main_v109, val_main_v110, val_main_call0_v0, val_main_call0_v1, val_main_call0_cst, val_main_call0_v2, val_main_call0_v3, val_main_call0_cst_0, val_main_call0_v4, val_main_v111_2, val_main_call0_cst_1, val_main_call0_v6, val_main_call0_v7, val_main_v111_1, val_main_v111_0, val_main_v112, val_main_v113, val_main_v114, val_main_call1_v0, val_main_call1_v1, val_main_call1_v2, val_main_v115, val_main_v116, val_main_v117, val_main_v118, val_main_v119, val_main_cst_18, val_main_v120, val_main_v121, val_main_v122, val_main_cst_19, val_main_v123, val_main_v124, val_main_v125, val_main_v126, val_main_cst_20, val_main_v127, val_main_v128, val_main_v129, val_main_v130, val_main_cst_21, val_main_v131, val_main_v132, val_main_v133, val_main_cst_22, val_main_v134, val_main_v135, val_main_cst_23, val_main_v136, val_main_v137, val_main_cst_24, val_main_v138, val_main_v139, val_main_v140, val_main_v141, val_main_cst_25, val_main_v142, val_main_v143, val_main_v144, val_main_cst_26, val_main_v145, val_main_v146, val_main_v147, val_main_v148, val_main_v149, val_main_v150, val_main_cst_27, val_main_v151, val_main_v152, val_main_cst_28, val_main_v153, val_main_v154, val_main_cst_29, val_main_v155, val_main_v156, val_main_v157, val_main_v158, val_main_cst_30, val_main_v159, val_main_v160, val_main_v161, val_main_v162, val_main_cst_31, val_main_v163, val_main_v164, val_main_cst_32, val_main_v165, val_main_v166, val_main_v167, val_main_v168, val_main_v169, val_main_v170, val_main_cst_33, val_main_v171, val_main_v172, val_main_v173, val_main_v174, val_main_cst_34, val_main_v175, val_main_cst_35, val_main_v177, val_main_v178, val_main_cst_36, val_main_v179, val_main_v180, val_main_v181, val_main_v182, val_main_v183, val_main_cst_37, val_main_v184, val_main_v185, val_main_cst_38, val_main_v186, val_main_v187, val_main_cst_39, val_main_v188, val_main_v189, val_main_v190, val_main_v191, val_main_v192, val_main_cst_40, val_main_v193, val_main_v194, val_main_v195, val_main_v196, val_main_cst_41, val_main_v197, val_main_v198, val_main_cst_42, val_main_v200, val_main_v201, val_main_cst_43, val_main_v202, val_main_v203, val_main_v204, val_main_v205, val_main_v206, val_main_cst_44, val_main_v207, val_main_v208, val_main_v209, val_main_cst_45, val_main_v210, val_main_v211, val_main_v212, val_main_cst_46, val_main_v213, val_main_v214, val_main_v215, val_main_v216, val_main_cst_47, val_main_v217, val_main_cst_48, val_main_v218, val_main_v219, val_main_cst_49, val_main_v220, val_main_v221, val_main_cst_50, val_main_v222, val_main_v223, val_main_v224, val_main_v225, val_main_v226, val_main_v227, val_main_v228, e0, e1]
  exact halves (dLo0 _) (dLo1 _) l

theorem v223_at (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) (x10 : FVec Ideal S2304x1024 .f32) (p : Fin 2304) (l : Fin 3328) :
    val_main_v223 (F := Ideal) x2 x3 x4 x5 x6 x7 x10 (ix2 p l) = dSh (row x0 x1 x2 x3 x4 x5 x6 x7 x8 x9 x10 p) (dR (row x0 x1 x2 x3 x4 x5 x6 x7 x8 x9 x10 p) (ksR (row x0 x1 x2 x3 x4 x5 x6 x7 x8 x9 x10 p))) (dKR (row x0 x1 x2 x3 x4 x5 x6 x7 x8 x9 x10 p)) (dV (row x0 x1 x2 x3 x4 x5 x6 x7 x8 x9 x10 p) (ksR (row x0 x1 x2 x3 x4 x5 x6 x7 x8 x9 x10 p))) l := by
  have e0 := fun p l => v216_at x0 x1 x2 x3 x4 x5 x6 x7 x8 x9 x10 p l
  have e1 := fun p l => v122_at x0 x1 x2 x3 x4 x5 x6 x7 x8 x9 x10 p l
  have e2 := fun p l => v191_at x0 x1 x2 x3 x4 x5 x6 x7 x8 x9 x10 p l
  have e3 := fun p l => v133_at x0 x1 x2 x3 x4 x5 x6 x7 x8 x9 x10 p l
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_v24, val_main_v25, val_main_cst_0, val_main_v26, val_main_v27, val_main_cst_1, val_main_v28, val_main_v29, val_main_v30, val_main_cst_2, val_main_v31, val_main_v32, val_main_v33, val_main_v34, val_main_v35, val_main_cst_3, val_main_v36, val_main_v37, val_main_v38, val_main_cst_4, val_main_v39, val_main_v40, val_main_v41, val_main_v42, val_main_v43, val_main_v44, val_main_v45, val_main_v46, val_main_v47, val_main_v48, val_main_v49, val_main_v50, val_main_v51, val_main_v52, val_main_cst_5, val_main_v53, val_main_v54, val_main_cst_6, val_main_v55, val_main_v56, val_main_cst_7, val_main_v57, val_main_v58, val_main_v59, val_main_cst_8, val_main_v60, val_main_v61, val_main_v62, val_main_v63, val_main_v64, val_main_cst_9, val_main_v65, val_main_v66, val_main_v67, val_main_v68, val_main_cst_10, val_main_v69, val_main_v70, val_main_cst_11, val_main_v71, val_main_v72, val_main_v73, val_main_v74, val_main_v75, val_main_cst_12, val_main_v76, val_main_v77, val_main_cst_13, val_main_v78, val_main_v79, val_main_cst_14, val_main_v80, val_main_v81, val_main_v82, val_main_v83, val_main_cst_15, val_main_v84, val_main_v85, val_main_v86, val_main_v87, val_main_cst_16, val_main_v88, val_main_v89, val_main_v90, val_main_v91, val_main_v92, val_main_v93, val_main_v94, val_main_v95, val_main_v96, val_main_v97, val_main_v98, val_main_v99, val_main_v100, val_main_v101, val_main_v102, val_main_v103, val_main_cst_17, val_main_v104, val_main_v105, val_main_v106, val_main_v107, val_main_v108, val_main_v109, val_main_v110, val_main_call0_v0, val_main_call0_v1, val_main_call0_cst, val_main_call0_v2, val_main_call0_v3, val_main_call0_cst_0, val_main_call0_v4, val_main_v111_2, val_main_call0_cst_1, val_main_call0_v6, val_main_call0_v7, val_main_v111_1, val_main_v111_0, val_main_v112, val_main_v113, val_main_v114, val_main_call1_v0, val_main_call1_v1, val_main_call1_v2, val_main_v115, val_main_v116, val_main_v117, val_main_v118, val_main_v119, val_main_cst_18, val_main_v120, val_main_v121, val_main_cst_19, val_main_v123, val_main_v124, val_main_v125, val_main_v126, val_main_cst_20, val_main_v127, val_main_v128, val_main_v129, val_main_v130, val_main_cst_21, val_main_v131, val_main_v132, val_main_cst_22, val_main_v134, val_main_v135, val_main_cst_23, val_main_v136, val_main_v137, val_main_cst_24, val_main_v138, val_main_v139, val_main_v140, val_main_v141, val_main_cst_25, val_main_v142, val_main_v143, val_main_v144, val_main_cst_26, val_main_v145, val_main_v146, val_main_v147, val_main_v148, val_main_v149, val_main_v150, val_main_cst_27, val_main_v151, val_main_v152, val_main_cst_28, val_main_v153, val_main_v154, val_main_cst_29, val_main_v155, val_main_v156, val_main_v157, val_main_v158, val_main_cst_30, val_main_v159, val_main_v160, val_main_v161, val_main_v162, val_main_cst_31, val_main_v163, val_main_v164, val_main_cst_32, val_main_v165, val_main_v166, val_main_v167, val_main_v168, val_main_v169, val_main_v170, val_main_cst_33, val_main_v171, val_main_v172, val_main_v173, val_main_v174, val_main_cst_34, val_main_v175, val_main_v176, val_main_cst_35, val_main_v177, val_main_v178, val_main_cst_36, val_main_v179, val_main_v180, val_main_v181, val_main_v182, val_main_v183, val_main_cst_37, val_main_v184, val_main_v185, val_main_cst_38, val_main_v186, val_main_v187, val_main_cst_39, val_main_v188, val_main_v189, val_main_v190, val_main_v192, val_main_cst_40, val_main_v193, val_main_v194, val_main_v195, val_main_v196, val_main_cst_41, val_main_v197, val_main_v198, val_main_v199, val_main_cst_42, val_main_v200, val_main_v201, val_main_cst_43, val_main_v202, val_main_v203, val_main_v204, val_main_v205, val_main_v206, val_main_cst_44, val_main_v207, val_main_v208, val_main_v209, val_main_cst_45, val_main_v210, val_main_v211, val_main_v212, val_main_cst_46, val_main_v213, val_main_v214, val_main_v215, val_main_cst_47, val_main_v217, val_main_cst_48, val_main_v218, val_main_v219, val_main_cst_49, val_main_v220, val_main_v221, val_main_cst_50, val_main_v222, val_main_v223, val_main_v224, val_main_v225, val_main_v226, val_main_v227, val_main_v228, e0, e1, e2, e3]
  exact padded _ _ _ _ l

end Cert.RwPostBwdRefIdeal.RefValue

end
-- ==== Proof.RwValue.lean ====
module

public import proofs.«01_k».proof.Defs
public import proofs.«01_k».proof.RwPostBwd
public import proofs.«01_k».proof.Proof.Gen.RwPostBwd
public import proofs.«01_k».proof.Proof.RwFrame
public import proofs.«01_k».proof.Proof.RwPay
public import proofs.«01_k».proof.Proof.RwSame
public import proofs.«01_k».proof.Proof.RwFinite
public import proofs.«01_k».proof.Proof.RwRef
public import proofs.«01_k».proof.Proof.Gen.RwPostBwdRefIdeal.Run
public import proofs.«01_k».proof.Proof.Gen.RwPostBwdRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.RwPostBwdIdeal.RefValue

open Cert.RwPostBwdIdeal Cert.RwPostBwdIdeal.Gen Cert.RwSpec Cert.RwFrame

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 1] ∧ win0_4.index t = ![t.val, 2] ∧ win0_5.index t = ![t.val, 25] ∧ win0_6.index t = ![t.val, 0]
    ∧ win0_7.index t = ![t.val, 0] ∧ win0_8.index t = ![0, 0] ∧ win0_9.index t = ![0, 0, 0] ∧ win0_10.index t = ![0, 0]
    ∧ win0_11.index t = ![0, 0] ∧ win0_12.index t = ![0, 0] ∧ win0_13.index t = ![0, 0] ∧ win0_14.index t = ![t.val, 0]
    ∧ win0_15.index t = ![t.val, 0] ∧ win0_16.index t = ![t.val, 0] :=
  (by decide +kernel : ∀ t : Fin grid0.N, _)

theorem lt_N (t : Fin cfg0.N) : t.val < 9 := lt_of_lt_of_eq t.isLt N_0

/-- The output gate's columns of the projected rows. -/
theorem V_v0 (c : Dev nD) : V m c main_v0 = extractStridedSlice S2304x1024 ![0, 8448] (m ((c : Thread nD τ).loc main_arg3)) slices_S2304x13568_S2304x1024_0_8448 := by
  unfold V
  after_results

theorem V_v0_at (c : Dev nD) (j : S2304x1024.Idx) : (V m c main_v0 : FVec Ideal S2304x1024 .f32) j
    = ((m ((c : Thread nD τ).loc main_arg3)) : FVec Ideal S2304x13568 .f32) (ix2 (j 0 : Fin 2304) ⟨8448 + (j 1).val, by have h1 := (j 1).isLt; change _ < 1024 at h1; omega⟩) := by
  rw [V_v0]
  idx_vars j
  pointwise

theorem X2_at (c : Dev nD) (t : Fin cfg0.N) (r : Fin 256) (l : Fin 1024) (p : Fin 2304) (q : Fin 3328) (hp : p.val = t.val * 256 + r.val) (hq : q.val = l.val) :
    X0_2 m c t (ix2 r l) = ((m ((c : Thread nD τ).loc main_arg2)) : FVec Ideal S2304x3328 .f32) (ix2 p q) := by
  unfold X0_2 Pipeline.Window.fill
  rw [dif_pos (moved0_2 t _)]
  blk_ext! [iblk, V, idx t, hp, hq]

theorem X3_at (c : Dev nD) (t : Fin cfg0.N) (r : Fin 256) (l : Fin 1024) (p : Fin 2304) (q : Fin 3328) (hp : p.val = t.val * 256 + r.val) (hq : q.val = 1024 + l.val) :
    X0_3 m c t (ix2 r l) = ((m ((c : Thread nD τ).loc main_arg2)) : FVec Ideal S2304x3328 .f32) (ix2 p q) := by
  unfold X0_3 Pipeline.Window.fill
  rw [dif_pos (moved0_3 t _)]
  blk_ext! [iblk, V, idx t, hp, hq]

theorem X4_at (c : Dev nD) (t : Fin cfg0.N) (r : Fin 256) (l : Fin 1024) (p : Fin 2304) (q : Fin 3328) (hp : p.val = t.val * 256 + r.val) (hq : q.val = 2048 + l.val) :
    X0_4 m c t (ix2 r l) = ((m ((c : Thread nD τ).loc main_arg2)) : FVec Ideal S2304x3328 .f32) (ix2 p q) := by
  unfold X0_4 Pipeline.Window.fill
  rw [dif_pos (moved0_4 t _)]
  blk_ext! [iblk, V, idx t, hp, hq]

/-- A row of the arrays as device `c` holds them. -/
def rowOf (c : Dev nD) (p : Fin 2304) : In :=
  Cert.RwPostBwdRefIdeal.RefValue.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) p

/-- The rows of tile `t` are the rows `256 t + k`. -/
theorem tile_eq (c : Dev nD) (t : Fin cfg0.N) (k : Fin 256) (p : Fin 2304) (hp : p.val = t.val * 256 + k.val) :
    tile (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) k = rowOf m c p := by
  unfold tile rowOf Cert.RwPostBwdRefIdeal.RefValue.row
  rw [In.mk.injEq]
  refine ⟨funext fun l => ?_, funext fun l => ?_, funext fun l => ?_, funext fun l => ?_, funext fun l => ?_, funext fun l => ?_, funext fun l => ?_,
    funext fun l => ?_, funext fun q => funext fun l => ?_, funext fun q => funext fun j => funext fun l => ?_, funext fun l => ?_, funext fun l => ?_,
    funext fun l => ?_, funext fun l => ?_⟩
  · blk_point [iblk, V, idx t, hp]
  · blk_point [iblk, V, idx t, hp]
  · exact X2_at m c t k l _ _ hp rfl
  · exact X3_at m c t k l _ _ hp rfl
  · exact X4_at m c t k l _ _ hp rfl
  · blk_point [iblk, V, idx t, hp]
  · refine (V_v0_at m c _).trans ?_
    blk_ext! [idx t, hp]
  · blk_point [iblk, V, idx t, hp]
  · blk_point [iblk, V, idx t]
  · blk_point [iblk, V, idx t]
  · blk_point [iblk, V, idx t]
  · blk_point [iblk, V, idx t]
  · blk_point [iblk, V, idx t]
  · blk_point [iblk, V, idx t]

/-- Result 1 at row `p`. -/
def out14 (R : In) (l : Fin 1024) : EReal := dY R l

theorem final14 (c : Dev nD) : (RwFrame.dats m 0 c).arrAt 14 cfg0.N
    = (fun j => out14 (rowOf m c (j 0)) (j 1) : FVec Ideal S2304x1024 .f32) := by
  refine (RwFrame.dats m 0 c).arrAt_eq_of_covers 14 _ (by decide +kernel) fun t _ y => ?_
  blk_simp
  rw [after_14]
  by_cases h : t.val % 9 = 0
  all_goals first
    | rw [outs_A m c t h]
    | rw [outs_B m c t h]
  all_goals first
    | unfold outA runA
    | unfold outB runB
  all_goals dsimp only
  all_goals frame_out
  all_goals idx_vars y
  all_goals
    refine (pay14_at (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) y0 y1).trans ?_
    rw [tile_eq m c t y0 ⟨t.val * 256 + y0.val, by have := lt_N t; have := y0.isLt; omega⟩ rfl]
    refine congrArg₂ (fun p l => out14 (rowOf m c p) l) (Fin.ext ?_) (Fin.ext ?_)
    · blk_simp [idx t]
    · blk_simp [idx t]

/-- Result 2 at row `p`. -/
def out15 (R : In) (l : Fin 3328) : EReal := dSh R (dR R (ksK R)) (dKK R) (dV R (ksK R)) l

theorem final15 (c : Dev nD) : (RwFrame.dats m 0 c).arrAt 15 cfg0.N
    = (fun j => out15 (rowOf m c (j 0)) (j 1) : FVec Ideal S2304x3328 .f32) := by
  refine (RwFrame.dats m 0 c).arrAt_eq_of_covers 15 _ (by decide +kernel) fun t _ y => ?_
  blk_simp
  rw [after_15]
  by_cases h : t.val % 9 = 0
  all_goals first
    | rw [outs_A m c t h]
    | rw [outs_B m c t h]
  all_goals first
    | unfold outA runA
    | unfold outB runB
  all_goals dsimp only
  all_goals frame_out
  all_goals idx_vars y
  all_goals
    refine (pay15_at (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) y0 y1).trans ?_
    rw [tile_eq m c t y0 ⟨t.val * 256 + y0.val, by have := lt_N t; have := y0.isLt; omega⟩ rfl]
    refine congrArg₂ (fun p l => out15 (rowOf m c p) l) (Fin.ext ?_) (Fin.ext ?_)
    · blk_simp [idx t]
    · blk_simp [idx t]

/-- Result 3 at row `p`. -/
def out16 (R : In) (l : Fin 1024) : EReal := dZ R (ksK R) l

theorem final16 (c : Dev nD) : (RwFrame.dats m 0 c).arrAt 16 cfg0.N
    = (fun j => out16 (rowOf m c (j 0)) (j 1) : FVec Ideal S2304x1024 .bf16) := by
  refine (RwFrame.dats m 0 c).arrAt_eq_of_covers 16 _ (by decide +kernel) fun t _ y => ?_
  blk_simp
  rw [after_16]
  by_cases h : t.val % 9 = 0
  all_goals first
    | rw [outs_A m c t h]
    | rw [outs_B m c t h]
  all_goals first
    | unfold outA runA
    | unfold outB runB
  all_goals dsimp only
  all_goals frame_out
  all_goals idx_vars y
  all_goals
    refine (pay16_at (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) y0 y1).trans ?_
    rw [tile_eq m c t y0 ⟨t.val * 256 + y0.val, by have := lt_N t; have := y0.isLt; omega⟩ rfl]
    refine congrArg₂ (fun p l => out16 (rowOf m c p) l) (Fin.ext ?_) (Fin.ext ?_)
    · blk_simp [idx t]
    · blk_simp [idx t]

/-- A row's part of result 4. -/
def out17 (R : In) (q : Fin 2) (l : Fin 1024) : EReal := dA0 R q l

theorem final17 (c : Dev nD) : (RwFrame.dats m 0 c).arrAt 17 cfg0.N
    = (fun j => ∑ p : Fin 2304, out17 (rowOf m c p) (j 0) (j 1) : FVec Ideal S2x1024 .f32) := by
  refine (RwFrame.dats m 0 c).arrAt_eq_of_after_last 17 t0_8 (by decide +kernel) _ fun j => ?_
  blk_simp
  idx_vars j
  rw [after_17, Pipeline.eq_sum_fin_of_reset_step_apply_last (fun n h => (outs m c n h).2.2.2.1) 9 (fun _ => 0)
    (fun t j => ∑ k : Fin 256, out17 (tile (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) k) (j 0) (j 1))
    (fun t h j => by
      rw [outs_A m c t h]; unfold outA runA; dsimp only; frame_out; idx_vars j
      refine (pay17_at (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) _ j0 j1).trans ?_
      rw [zero17_at]; rfl)
    (fun t h j => by
      rw [outs_B m c t h]; unfold outB runB; dsimp only; frame_out; idx_vars j
      exact pay17_at (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) _ j0 j1)
    (le_of_eq N_0) t0_8 rfl _, zero_add]
  refine Eq.trans (α := EReal) ?_ (Fin.sum_univ_tiles (M := EReal) 9 256 rfl _).symm
  refine Fin.sum_fin_congr fun t => Fin.sum_fin_congr fun k => ?_
  rw [tile_eq m c t k ⟨t.val * 256 + k.val, by have := lt_N t; have := k.isLt; omega⟩ rfl]
  try rfl

/-- A row's part of result 5. -/
def out18 (R : In) (q : Fin 2) (k : Fin 64) (l : Fin 1024) : EReal := dA2 R q k l

theorem final18 (c : Dev nD) : (RwFrame.dats m 0 c).arrAt 18 cfg0.N
    = (fun j => ∑ p : Fin 2304, out18 (rowOf m c p) (j 0) (j 1) (j 2) : FVec Ideal S2x64x1024 .f32) := by
  refine (RwFrame.dats m 0 c).arrAt_eq_of_after_last 18 t0_8 (by decide +kernel) _ fun j => ?_
  blk_simp
  idx_vars j
  rw [after_18, Pipeline.eq_sum_fin_of_reset_step_apply_last (fun n h => (outs m c n h).2.2.2.2.1) 9 (fun _ => 0)
    (fun t j => ∑ k : Fin 256, out18 (tile (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) k) (j 0) (j 1) (j 2))
    (fun t h j => by
      rw [outs_A m c t h]; unfold outA runA; dsimp only; frame_out; idx_vars j
      refine (pay18_at (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) _ j0 j1 j2).trans ?_
      rw [zero18_at]; rfl)
    (fun t h j => by
      rw [outs_B m c t h]; unfold outB runB; dsimp only; frame_out; idx_vars j
      exact pay18_at (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) _ j0 j1 j2)
    (le_of_eq N_0) t0_8 rfl _, zero_add]
  refine Eq.trans (α := EReal) ?_ (Fin.sum_univ_tiles (M := EReal) 9 256 rfl _).symm
  refine Fin.sum_fin_congr fun t => Fin.sum_fin_congr fun k => ?_
  rw [tile_eq m c t k ⟨t.val * 256 + k.val, by have := lt_N t; have := k.isLt; omega⟩ rfl]
  try rfl

/-- A row's part of result 6. -/
def out19 (R : In) (l : Fin 1024) : EReal := dKaK R l

theorem final19 (c : Dev nD) : (RwFrame.dats m 0 c).arrAt 19 cfg0.N
    = (fun j => ∑ p : Fin 2304, out19 (rowOf m c p) (j 1) : FVec Ideal S1x1024 .f32) := by
  refine (RwFrame.dats m 0 c).arrAt_eq_of_after_last 19 t0_8 (by decide +kernel) _ fun j => ?_
  blk_simp
  idx_vars j
  rw [after_19, Pipeline.eq_sum_fin_of_reset_step_apply_last (fun n h => (outs m c n h).2.2.2.2.2.1) 9 (fun _ => 0)
    (fun t j => ∑ k : Fin 256, out19 (tile (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) k) (j 1))
    (fun t h j => by
      rw [outs_A m c t h]; unfold outA runA; dsimp only; frame_out; idx_vars j
      refine (pay19_at (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) _ j0 j1).trans ?_
      rw [zero19_at]; rfl)
    (fun t h j => by
      rw [outs_B m c t h]; unfold outB runB; dsimp only; frame_out; idx_vars j
      exact pay19_at (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) _ j0 j1)
    (le_of_eq N_0) t0_8 rfl _, zero_add]
  refine Eq.trans (α := EReal) ?_ (Fin.sum_univ_tiles (M := EReal) 9 256 rfl _).symm
  refine Fin.sum_fin_congr fun t => Fin.sum_fin_congr fun k => ?_
  rw [tile_eq m c t k ⟨t.val * 256 + k.val, by have := lt_N t; have := k.isLt; omega⟩ rfl]
  try rfl

/-- A row's part of result 7. -/
def out20 (R : In) (l : Fin 1024) : EReal := dRk R (ksK R) l

theorem final20 (c : Dev nD) : (RwFrame.dats m 0 c).arrAt 20 cfg0.N
    = (fun j => ∑ p : Fin 2304, out20 (rowOf m c p) (j 1) : FVec Ideal S1x1024 .f32) := by
  refine (RwFrame.dats m 0 c).arrAt_eq_of_after_last 20 t0_8 (by decide +kernel) _ fun j => ?_
  blk_simp
  idx_vars j
  rw [after_20, Pipeline.eq_sum_fin_of_reset_step_apply_last (fun n h => (outs m c n h).2.2.2.2.2.2.1) 9 (fun _ => 0)
    (fun t j => ∑ k : Fin 256, out20 (tile (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) k) (j 1))
    (fun t h j => by
      rw [outs_A m c t h]; unfold outA runA; dsimp only; frame_out; idx_vars j
      refine (pay20_at (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) _ j0 j1).trans ?_
      rw [zero20_at]; rfl)
    (fun t h j => by
      rw [outs_B m c t h]; unfold outB runB; dsimp only; frame_out; idx_vars j
      exact pay20_at (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) _ j0 j1)
    (le_of_eq N_0) t0_8 rfl _, zero_add]
  refine Eq.trans (α := EReal) ?_ (Fin.sum_univ_tiles (M := EReal) 9 256 rfl _).symm
  refine Fin.sum_fin_congr fun t => Fin.sum_fin_congr fun k => ?_
  rw [tile_eq m c t k ⟨t.val * 256 + k.val, by have := lt_N t; have := k.isLt; omega⟩ rfl]
  try rfl

/-- A row's part of result 8. -/
def out21 (R : In) (l : Fin 1024) : EReal := dGg R l

theorem final21 (c : Dev nD) : (RwFrame.dats m 0 c).arrAt 21 cfg0.N
    = (fun j => ∑ p : Fin 2304, out21 (rowOf m c p) (j 1) : FVec Ideal S1x1024 .f32) := by
  refine (RwFrame.dats m 0 c).arrAt_eq_of_after_last 21 t0_8 (by decide +kernel) _ fun j => ?_
  blk_simp
  idx_vars j
  rw [after_21, Pipeline.eq_sum_fin_of_reset_step_apply_last (fun n h => (outs m c n h).2.2.2.2.2.2.2.1) 9 (fun _ => 0)
    (fun t j => ∑ k : Fin 256, out21 (tile (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) k) (j 1))
    (fun t h j => by
      rw [outs_A m c t h]; unfold outA runA; dsimp only; frame_out; idx_vars j
      refine (pay21_at (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) _ j0 j1).trans ?_
      rw [zero21_at]; rfl)
    (fun t h j => by
      rw [outs_B m c t h]; unfold outB runB; dsimp only; frame_out; idx_vars j
      exact pay21_at (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) _ j0 j1)
    (le_of_eq N_0) t0_8 rfl _, zero_add]
  refine Eq.trans (α := EReal) ?_ (Fin.sum_univ_tiles (M := EReal) 9 256 rfl _).symm
  refine Fin.sum_fin_congr fun t => Fin.sum_fin_congr fun k => ?_
  rw [tile_eq m c t k ⟨t.val * 256 + k.val, by have := lt_N t; have := k.isLt; omega⟩ rfl]
  try rfl

/-- A row's part of result 9. -/
def out22 (R : In) (l : Fin 1024) : EReal := ds R l

theorem final22 (c : Dev nD) : (RwFrame.dats m 0 c).arrAt 22 cfg0.N
    = (fun j => ∑ p : Fin 2304, out22 (rowOf m c p) (j 1) : FVec Ideal S1x1024 .f32) := by
  refine (RwFrame.dats m 0 c).arrAt_eq_of_after_last 22 t0_8 (by decide +kernel) _ fun j => ?_
  blk_simp
  idx_vars j
  rw [after_22, Pipeline.eq_sum_fin_of_reset_step_apply_last (fun n h => (outs m c n h).2.2.2.2.2.2.2.2) 9 (fun _ => 0)
    (fun t j => ∑ k : Fin 256, out22 (tile (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) k) (j 1))
    (fun t h j => by
      rw [outs_A m c t h]; unfold outA runA; dsimp only; frame_out; idx_vars j
      refine (pay22_at (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) _ j0 j1).trans ?_
      rw [zero22_at]; rfl)
    (fun t h j => by
      rw [outs_B m c t h]; unfold outB runB; dsimp only; frame_out; idx_vars j
      exact pay22_at (iblk m c 0 t) (iblk m c 1 t) (X0_2 m c t) (X0_3 m c t) (X0_4 m c t) (iblk m c 6 t) (iblk m c 7 t) (iblk m c 5 t) (iblk m c 8 t) (iblk m c 9 t) (iblk m c 10 t) (iblk m c 11 t) (iblk m c 12 t) (iblk m c 13 t) _ j0 j1)
    (le_of_eq N_0) t0_8 rfl _, zero_add]
  refine Eq.trans (α := EReal) ?_ (Fin.sum_univ_tiles (M := EReal) 9 256 rfl _).symm
  refine Fin.sum_fin_congr fun t => Fin.sum_fin_congr fun k => ?_
  rw [tile_eq m c t k ⟨t.val * 256 + k.val, by have := lt_N t; have := k.isLt; omega⟩ rfl]
  try rfl

end Cert.RwPostBwdIdeal.RefValue

end
-- ==== Proof.RwPostBwd.lean ====
module

public import proofs.«01_k».proof.Proof.ShiftBwd
public import proofs.«01_k».proof.Proof.RwValue
public import proofs.«01_k».proof.Proof.RwRef
public import proofs.«01_k».proof.Proof.Gen.RwPostBwdRefIdeal.Run
public import proofs.«01_k».proof.Proof.Gen.RwPostBwdRefIdeal.Read
public import Idealize.ShloMosaic.Lib.Pipeline.ValueKit
public import Idealize.ShloMosaic.Lib.Pointwise
public import Idealize.ShloMosaic.Lib.Claim
public import Idealize.ShloMosaic.Lib.Quiescent

/-!
  The gradient of the recurrence's output stage: the kernel's nine results, tile by tile, are the reference's
  gradients at finite shifted rows, projected rows, key weights and cotangents.
-/

@[expose] public section

set_option relaxedAutoImplicit false
set_option maxHeartbeats 0

noncomputable section

open Idealize.ShloMosaic Idealize.SL Idealize.SL.Sem

namespace Cert.Proof.RwPostBwd

open Cert.RwPostBwdIdeal.RefValue Cert.RwSpec

theorem frame_p : Cert.quiescent_RwPostBwd := Cert.RwSame.frame_p
theorem frame_pi : Cert.quiescent_RwPostBwdIdeal := fun m ρ _ => Cert.RwFrame.frame m ρ
theorem frame_ri : Cert.quiescent_RwPostBwdRefIdeal := fun m ρ _ =>
  (θ_run Cert.RwPostBwdRefIdeal.defs _ _).mono (fun r h => ⟨fun c => (h c).2.2.2.2.2.2.2.2.2,
      Idealize.ShloMosaic.sem_eq_zero_of_no_sems (by decide) r.2⟩)
    (Cert.RwPostBwdRefIdeal.Value.run (F := Ideal) m ρ)
theorem facts_pre : Cert.Pre_rw_post_finite.Facts := ⟨by decide, by decide, by decide, by decide⟩
theorem frame_pi_pre : Cert.quiescent_RwPostBwdIdeal_pre_rw_post_finite (hPre_rw_post_finite := facts_pre) := fun m ρ _ => Cert.RwFrame.frame m ρ
theorem frame_ri_pre : Cert.quiescent_RwPostBwdRefIdeal_pre_rw_post_finite (hPre_rw_post_finite := facts_pre) := fun m ρ _ =>
  (θ_run Cert.RwPostBwdRefIdeal.defs _ _).mono (fun r h => ⟨fun c => (h c).2.2.2.2.2.2.2.2.2,
      Idealize.ShloMosaic.sem_eq_zero_of_no_sems (by decide) r.2⟩)
    (Cert.RwPostBwdRefIdeal.Value.run (F := Ideal) m ρ)

variable (m : (ℓ : Loc Cert.RwPostBwdIdeal.nD Cert.RwPostBwdIdeal.τ Cert.RwPostBwdIdeal.sig) → Buf (Elt Ideal) ℓ)

/-- Under the precondition every row is finite where the two sides differ. -/
theorem good (h : Cert.Pre_RwPostBwdIdeal_rw_post_finite (hPre_rw_post_finite := facts_pre) m) (c : Dev Cert.RwPostBwdIdeal.nD) (p : Fin 2304) :
    Good (rowOf m c p) := by
  obtain ⟨h1, h2, h3, h4, h5⟩ := h c
  exact {
    r := fun l => ShiftBwd.finite_of _ _ _ h1
    k := fun l => ShiftBwd.finite_of _ _ _ h1
    v := fun l => ShiftBwd.finite_of _ _ _ h1
    z := fun l => ShiftBwd.finite_of _ _ _ h2
    d := fun l => ShiftBwd.finite_of _ _ _ h5
    ka := fun l => ShiftBwd.finite_of _ _ _ h3
    rk := fun l => ShiftBwd.finite_of _ _ _ h4 }

theorem ref14 (c : Dev Cert.RwPostBwdIdeal.nD) (x0 : FVec Ideal Cert.RwPostBwdIdeal.S2304x1024 .f32) (x1 : FVec Ideal Cert.RwPostBwdIdeal.S2304x1024 .f32) (x3 : FVec Ideal Cert.RwPostBwdIdeal.S2304x13568 .f32) (x8 : FVec Ideal Cert.RwPostBwdIdeal.S1x1024 .f32) (x10 : FVec Ideal Cert.RwPostBwdIdeal.S2304x1024 .f32)
    (e0 : x0 = m (c.tc.loc Cert.RwPostBwdIdeal.main_arg0)) (e1 : x1 = m (c.tc.loc Cert.RwPostBwdIdeal.main_arg1)) (e3 : x3 = m (c.tc.loc Cert.RwPostBwdIdeal.main_arg3)) (e8 : x8 = m (c.tc.loc Cert.RwPostBwdIdeal.main_arg8)) (e10 : x10 = m (c.tc.loc Cert.RwPostBwdIdeal.main_arg10)) :
    Cert.RwPostBwdRefIdeal.Read.val_main_v215 (F := Ideal) x0 x1 x3 x8 x10
      = (fun j => out14 (rowOf m c (j 0)) (j 1) : FVec Ideal Cert.RwPostBwdIdeal.S2304x1024 .f32) := by
  subst e0 e1 e3 e8 e10
  funext j
  idx_vars j
  exact Cert.RwPostBwdRefIdeal.RefValue.v215_at (m (c.tc.loc Cert.RwPostBwdIdeal.main_arg0)) (m (c.tc.loc Cert.RwPostBwdIdeal.main_arg1)) (m (c.tc.loc Cert.RwPostBwdIdeal.main_arg2)) (m (c.tc.loc Cert.RwPostBwdIdeal.main_arg3)) (m (c.tc.loc Cert.RwPostBwdIdeal.main_arg4)) (m (c.tc.loc Cert.RwPostBwdIdeal.main_arg5)) (m (c.tc.loc Cert.RwPostBwdIdeal.main_arg6)) (m (c.tc.loc Cert.RwPostBwdIdeal.main_arg7)) (m (c.tc.loc Cert.RwPostBwdIdeal.main_arg8)) (m (c.tc.loc Cert.RwPostBwdIdeal.main_arg9)) (m (c.tc.loc Cert.RwPostBwdIdeal.main_arg10)) j0 j1

theorem ref15 (h : Cert.Pre_RwPostBwdIdeal_rw_post_finite (hPre_rw_post_finite := facts_pre) m) (c : Dev Cert.RwPostBwdIdeal.nD) (x2 : FVec Ideal Cert.RwPostBwdIdeal.S2304x3328 .f32) (x3 : FVec Ideal Cert.RwPostBwdIdeal.S2304x13568 .f32) (x4 : FVec Ideal Cert.RwPostBwdIdeal.S2x1024 .f32) (x5 : FVec Ideal Cert.RwPostBwdIdeal.S2x64x1024 .f32) (x6 : FVec Ideal Cert.RwPostBwdIdeal.S1x1024 .f32) (x7 : FVec Ideal Cert.RwPostBwdIdeal.S1x1024 .f32) (x10 : FVec Ideal Cert.RwPostBwdIdeal.S2304x1024 .f32)
    (e2 : x2 = m (c.tc.loc Cert.RwPostBwdIdeal.main_arg2)) (e3 : x3 = m (c.tc.loc Cert.RwPostBwdIdeal.main_arg3)) (e4 : x4 = m (c.tc.loc Cert.RwPostBwdIdeal.main_arg4)) (e5 : x5 = m (c.tc.loc Cert.RwPostBwdIdeal.main_arg5)) (e6 : x6 = m (c.tc.loc Cert.RwPostBwdIdeal.main_arg6)) (e7 : x7 = m (c.tc.loc Cert.RwPostBwdIdeal.main_arg7)) (e10 : x10 = m (c.tc.loc Cert.RwPostBwdIdeal.main_arg10)) :
    Cert.RwPostBwdRefIdeal.Read.val_main_v223 (F := Ideal) x2 x3 x4 x5 x6 x7 x10
      = (fun j => out15 (rowOf m c (j 0)) (j 1) : FVec Ideal Cert.RwPostBwdIdeal.S2304x3328 .f32) := by
  subst e2 e3 e4 e5 e6 e7 e10
  funext j
  idx_vars j
  have g := good m h c j0
  refine (Cert.RwPostBwdRefIdeal.RefValue.v223_at (m (c.tc.loc Cert.RwPostBwdIdeal.main_arg0)) (m (c.tc.loc Cert.RwPostBwdIdeal.main_arg1)) (m (c.tc.loc Cert.RwPostBwdIdeal.main_arg2)) (m (c.tc.loc Cert.RwPostBwdIdeal.main_arg3)) (m (c.tc.loc Cert.RwPostBwdIdeal.main_arg4)) (m (c.tc.loc Cert.RwPostBwdIdeal.main_arg5)) (m (c.tc.loc Cert.RwPostBwdIdeal.main_arg6)) (m (c.tc.loc Cert.RwPostBwdIdeal.main_arg7)) (m (c.tc.loc Cert.RwPostBwdIdeal.main_arg8)) (m (c.tc.loc Cert.RwPostBwdIdeal.main_arg9)) (m (c.tc.loc Cert.RwPostBwdIdeal.main_arg10)) j0 j1).trans ?_
  change _ = out15 (rowOf m c j0) j1
  unfold out15
  rw [ksK_eq g, dKK_eq g]
  rfl

theorem ref16 (h : Cert.Pre_RwPostBwdIdeal_rw_post_finite (hPre_rw_post_finite := facts_pre) m) (c : Dev Cert.RwPostBwdIdeal.nD) (x0 : FVec Ideal Cert.RwPostBwdIdeal.S2304x1024 .f32) (x1 : FVec Ideal Cert.RwPostBwdIdeal.S2304x1024 .f32) (x2 : FVec Ideal Cert.RwPostBwdIdeal.S2304x3328 .f32) (x3 : FVec Ideal Cert.RwPostBwdIdeal.S2304x13568 .f32) (x4 : FVec Ideal Cert.RwPostBwdIdeal.S2x1024 .f32) (x5 : FVec Ideal Cert.RwPostBwdIdeal.S2x64x1024 .f32) (x6 : FVec Ideal Cert.RwPostBwdIdeal.S1x1024 .f32) (x7 : FVec Ideal Cert.RwPostBwdIdeal.S1x1024 .f32) (x8 : FVec Ideal Cert.RwPostBwdIdeal.S1x1024 .f32) (x9 : FVec Ideal Cert.RwPostBwdIdeal.S1x1024 .f32) (x10 : FVec Ideal Cert.RwPostBwdIdeal.S2304x1024 .f32)
    (e0 : x0 = m (c.tc.loc Cert.RwPostBwdIdeal.main_arg0)) (e1 : x1 = m (c.tc.loc Cert.RwPostBwdIdeal.main_arg1)) (e2 : x2 = m (c.tc.loc Cert.RwPostBwdIdeal.main_arg2)) (e3 : x3 = m (c.tc.loc Cert.RwPostBwdIdeal.main_arg3)) (e4 : x4 = m (c.tc.loc Cert.RwPostBwdIdeal.main_arg4)) (e5 : x5 = m (c.tc.loc Cert.RwPostBwdIdeal.main_arg5)) (e6 : x6 = m (c.tc.loc Cert.RwPostBwdIdeal.main_arg6)) (e7 : x7 = m (c.tc.loc Cert.RwPostBwdIdeal.main_arg7)) (e8 : x8 = m (c.tc.loc Cert.RwPostBwdIdeal.main_arg8)) (e9 : x9 = m (c.tc.loc Cert.RwPostBwdIdeal.main_arg9)) (e10 : x10 = m (c.tc.loc Cert.RwPostBwdIdeal.main_arg10)) :
    Cert.RwPostBwdRefIdeal.Read.val_main_v224 (F := Ideal) x0 x1 x2 x3 x4 x5 x6 x7 x8 x9 x10
      = (fun j => out16 (rowOf m c (j 0)) (j 1) : FVec Ideal Cert.RwPostBwdIdeal.S2304x1024 .bf16) := by
  subst e0 e1 e2 e3 e4 e5 e6 e7 e8 e9 e10
  funext j
  idx_vars j
  have g := good m h c j0
  refine (Cert.RwPostBwdRefIdeal.RefValue.v224_at (m (c.tc.loc Cert.RwPostBwdIdeal.main_arg0)) (m (c.tc.loc Cert.RwPostBwdIdeal.main_arg1)) (m (c.tc.loc Cert.RwPostBwdIdeal.main_arg2)) (m (c.tc.loc Cert.RwPostBwdIdeal.main_arg3)) (m (c.tc.loc Cert.RwPostBwdIdeal.main_arg4)) (m (c.tc.loc Cert.RwPostBwdIdeal.main_arg5)) (m (c.tc.loc Cert.RwPostBwdIdeal.main_arg6)) (m (c.tc.loc Cert.RwPostBwdIdeal.main_arg7)) (m (c.tc.loc Cert.RwPostBwdIdeal.main_arg8)) (m (c.tc.loc Cert.RwPostBwdIdeal.main_arg9)) (m (c.tc.loc Cert.RwPostBwdIdeal.main_arg10)) j0 j1).trans ?_
  change _ = out16 (rowOf m c j0) j1
  unfold out16
  rw [ksK_eq g]
  rfl

theorem ref17 (c : Dev Cert.RwPostBwdIdeal.nD) (x2 : FVec Ideal Cert.RwPostBwdIdeal.S2304x3328 .f32) (x3 : FVec Ideal Cert.RwPostBwdIdeal.S2304x13568 .f32) (x4 : FVec Ideal Cert.RwPostBwdIdeal.S2x1024 .f32) (x5 : FVec Ideal Cert.RwPostBwdIdeal.S2x64x1024 .f32) (x6 : FVec Ideal Cert.RwPostBwdIdeal.S1x1024 .f32) (x7 : FVec Ideal Cert.RwPostBwdIdeal.S1x1024 .f32) (x10 : FVec Ideal Cert.RwPostBwdIdeal.S2304x1024 .f32)
    (e2 : x2 = m (c.tc.loc Cert.RwPostBwdIdeal.main_arg2)) (e3 : x3 = m (c.tc.loc Cert.RwPostBwdIdeal.main_arg3)) (e4 : x4 = m (c.tc.loc Cert.RwPostBwdIdeal.main_arg4)) (e5 : x5 = m (c.tc.loc Cert.RwPostBwdIdeal.main_arg5)) (e6 : x6 = m (c.tc.loc Cert.RwPostBwdIdeal.main_arg6)) (e7 : x7 = m (c.tc.loc Cert.RwPostBwdIdeal.main_arg7)) (e10 : x10 = m (c.tc.loc Cert.RwPostBwdIdeal.main_arg10)) :
    Cert.RwPostBwdRefIdeal.Read.val_main_v214 (F := Ideal) x2 x3 x4 x5 x6 x7 x10
      = (fun j => ∑ p : Fin 2304, out17 (rowOf m c p) (j 0) (j 1) : FVec Ideal Cert.RwPostBwdIdeal.S2x1024 .f32) := by
  subst e2 e3 e4 e5 e6 e7 e10
  funext j
  idx_vars j
  exact Cert.RwPostBwdRefIdeal.RefValue.v214_at (m (c.tc.loc Cert.RwPostBwdIdeal.main_arg0)) (m (c.tc.loc Cert.RwPostBwdIdeal.main_arg1)) (m (c.tc.loc Cert.RwPostBwdIdeal.main_arg2)) (m (c.tc.loc Cert.RwPostBwdIdeal.main_arg3)) (m (c.tc.loc Cert.RwPostBwdIdeal.main_arg4)) (m (c.tc.loc Cert.RwPostBwdIdeal.main_arg5)) (m (c.tc.loc Cert.RwPostBwdIdeal.main_arg6)) (m (c.tc.loc Cert.RwPostBwdIdeal.main_arg7)) (m (c.tc.loc Cert.RwPostBwdIdeal.main_arg8)) (m (c.tc.loc Cert.RwPostBwdIdeal.main_arg9)) (m (c.tc.loc Cert.RwPostBwdIdeal.main_arg10)) j0 j1

theorem ref18 (c : Dev Cert.RwPostBwdIdeal.nD) (x2 : FVec Ideal Cert.RwPostBwdIdeal.S2304x3328 .f32) (x3 : FVec Ideal Cert.RwPostBwdIdeal.S2304x13568 .f32) (x4 : FVec Ideal Cert.RwPostBwdIdeal.S2x1024 .f32) (x5 : FVec Ideal Cert.RwPostBwdIdeal.S2x64x1024 .f32) (x6 : FVec Ideal Cert.RwPostBwdIdeal.S1x1024 .f32) (x7 : FVec Ideal Cert.RwPostBwdIdeal.S1x1024 .f32) (x10 : FVec Ideal Cert.RwPostBwdIdeal.S2304x1024 .f32)
    (e2 : x2 = m (c.tc.loc Cert.RwPostBwdIdeal.main_arg2)) (e3 : x3 = m (c.tc.loc Cert.RwPostBwdIdeal.main_arg3)) (e4 : x4 = m (c.tc.loc Cert.RwPostBwdIdeal.main_arg4)) (e5 : x5 = m (c.tc.loc Cert.RwPostBwdIdeal.main_arg5)) (e6 : x6 = m (c.tc.loc Cert.RwPostBwdIdeal.main_arg6)) (e7 : x7 = m (c.tc.loc Cert.RwPostBwdIdeal.main_arg7)) (e10 : x10 = m (c.tc.loc Cert.RwPostBwdIdeal.main_arg10)) :
    Cert.RwPostBwdRefIdeal.Read.val_main_v208 (F := Ideal) x2 x3 x4 x5 x6 x7 x10
      = (fun j => ∑ p : Fin 2304, out18 (rowOf m c p) (j 0) (j 1) (j 2) : FVec Ideal Cert.RwPostBwdIdeal.S2x64x1024 .f32) := by
  subst e2 e3 e4 e5 e6 e7 e10
  funext j
  idx_vars j
  exact Cert.RwPostBwdRefIdeal.RefValue.v208_at (m (c.tc.loc Cert.RwPostBwdIdeal.main_arg0)) (m (c.tc.loc Cert.RwPostBwdIdeal.main_arg1)) (m (c.tc.loc Cert.RwPostBwdIdeal.main_arg2)) (m (c.tc.loc Cert.RwPostBwdIdeal.main_arg3)) (m (c.tc.loc Cert.RwPostBwdIdeal.main_arg4)) (m (c.tc.loc Cert.RwPostBwdIdeal.main_arg5)) (m (c.tc.loc Cert.RwPostBwdIdeal.main_arg6)) (m (c.tc.loc Cert.RwPostBwdIdeal.main_arg7)) (m (c.tc.loc Cert.RwPostBwdIdeal.main_arg8)) (m (c.tc.loc Cert.RwPostBwdIdeal.main_arg9)) (m (c.tc.loc Cert.RwPostBwdIdeal.main_arg10)) j0 j1 j2

theorem ref19 (h : Cert.Pre_RwPostBwdIdeal_rw_post_finite (hPre_rw_post_finite := facts_pre) m) (c : Dev Cert.RwPostBwdIdeal.nD) (x2 : FVec Ideal Cert.RwPostBwdIdeal.S2304x3328 .f32) (x3 : FVec Ideal Cert.RwPostBwdIdeal.S2304x13568 .f32) (x4 : FVec Ideal Cert.RwPostBwdIdeal.S2x1024 .f32) (x5 : FVec Ideal Cert.RwPostBwdIdeal.S2x64x1024 .f32) (x7 : FVec Ideal Cert.RwPostBwdIdeal.S1x1024 .f32) (x10 : FVec Ideal Cert.RwPostBwdIdeal.S2304x1024 .f32)
    (e2 : x2 = m (c.tc.loc Cert.RwPostBwdIdeal.main_arg2)) (e3 : x3 = m (c.tc.loc Cert.RwPostBwdIdeal.main_arg3)) (e4 : x4 = m (c.tc.loc Cert.RwPostBwdIdeal.main_arg4)) (e5 : x5 = m (c.tc.loc Cert.RwPostBwdIdeal.main_arg5)) (e7 : x7 = m (c.tc.loc Cert.RwPostBwdIdeal.main_arg7)) (e10 : x10 = m (c.tc.loc Cert.RwPostBwdIdeal.main_arg10)) :
    Cert.RwPostBwdRefIdeal.Read.val_main_v225 (F := Ideal) x2 x3 x4 x5 x7 x10
      = (fun j => ∑ p : Fin 2304, out19 (rowOf m c p) (j 1) : FVec Ideal Cert.RwPostBwdIdeal.S1x1024 .f32) := by
  subst e2 e3 e4 e5 e7 e10
  funext j
  idx_vars j
  refine (Cert.RwPostBwdRefIdeal.RefValue.v225_at (m (c.tc.loc Cert.RwPostBwdIdeal.main_arg0)) (m (c.tc.loc Cert.RwPostBwdIdeal.main_arg1)) (m (c.tc.loc Cert.RwPostBwdIdeal.main_arg2)) (m (c.tc.loc Cert.RwPostBwdIdeal.main_arg3)) (m (c.tc.loc Cert.RwPostBwdIdeal.main_arg4)) (m (c.tc.loc Cert.RwPostBwdIdeal.main_arg5)) (m (c.tc.loc Cert.RwPostBwdIdeal.main_arg6)) (m (c.tc.loc Cert.RwPostBwdIdeal.main_arg7)) (m (c.tc.loc Cert.RwPostBwdIdeal.main_arg8)) (m (c.tc.loc Cert.RwPostBwdIdeal.main_arg9)) (m (c.tc.loc Cert.RwPostBwdIdeal.main_arg10)) j0 j1).trans ?_
  refine (Finset.sum_add_distrib (M := EReal)).symm.trans (Finset.sum_congr rfl fun p _ => ?_)
  exact (dKaK_eq (good m h c p) j1).symm

theorem ref20 (h : Cert.Pre_RwPostBwdIdeal_rw_post_finite (hPre_rw_post_finite := facts_pre) m) (c : Dev Cert.RwPostBwdIdeal.nD) (x2 : FVec Ideal Cert.RwPostBwdIdeal.S2304x3328 .f32) (x3 : FVec Ideal Cert.RwPostBwdIdeal.S2304x13568 .f32) (x4 : FVec Ideal Cert.RwPostBwdIdeal.S2x1024 .f32) (x5 : FVec Ideal Cert.RwPostBwdIdeal.S2x64x1024 .f32) (x6 : FVec Ideal Cert.RwPostBwdIdeal.S1x1024 .f32) (x10 : FVec Ideal Cert.RwPostBwdIdeal.S2304x1024 .f32)
    (e2 : x2 = m (c.tc.loc Cert.RwPostBwdIdeal.main_arg2)) (e3 : x3 = m (c.tc.loc Cert.RwPostBwdIdeal.main_arg3)) (e4 : x4 = m (c.tc.loc Cert.RwPostBwdIdeal.main_arg4)) (e5 : x5 = m (c.tc.loc Cert.RwPostBwdIdeal.main_arg5)) (e6 : x6 = m (c.tc.loc Cert.RwPostBwdIdeal.main_arg6)) (e10 : x10 = m (c.tc.loc Cert.RwPostBwdIdeal.main_arg10)) :
    Cert.RwPostBwdRefIdeal.Read.val_main_v226 (F := Ideal) x2 x3 x4 x5 x6 x10
      = (fun j => ∑ p : Fin 2304, out20 (rowOf m c p) (j 1) : FVec Ideal Cert.RwPostBwdIdeal.S1x1024 .f32) := by
  subst e2 e3 e4 e5 e6 e10
  funext j
  idx_vars j
  refine (Cert.RwPostBwdRefIdeal.RefValue.v226_at (m (c.tc.loc Cert.RwPostBwdIdeal.main_arg0)) (m (c.tc.loc Cert.RwPostBwdIdeal.main_arg1)) (m (c.tc.loc Cert.RwPostBwdIdeal.main_arg2)) (m (c.tc.loc Cert.RwPostBwdIdeal.main_arg3)) (m (c.tc.loc Cert.RwPostBwdIdeal.main_arg4)) (m (c.tc.loc Cert.RwPostBwdIdeal.main_arg5)) (m (c.tc.loc Cert.RwPostBwdIdeal.main_arg6)) (m (c.tc.loc Cert.RwPostBwdIdeal.main_arg7)) (m (c.tc.loc Cert.RwPostBwdIdeal.main_arg8)) (m (c.tc.loc Cert.RwPostBwdIdeal.main_arg9)) (m (c.tc.loc Cert.RwPostBwdIdeal.main_arg10)) j0 j1).trans (Finset.sum_congr rfl fun p _ => ?_)
  have g := good m h c p
  unfold out20
  rw [ksK_eq g]
  rfl

theorem ref21 (c : Dev Cert.RwPostBwdIdeal.nD) (x0 : FVec Ideal Cert.RwPostBwdIdeal.S2304x1024 .f32) (x1 : FVec Ideal Cert.RwPostBwdIdeal.S2304x1024 .f32) (x3 : FVec Ideal Cert.RwPostBwdIdeal.S2304x13568 .f32) (x10 : FVec Ideal Cert.RwPostBwdIdeal.S2304x1024 .f32)
    (e0 : x0 = m (c.tc.loc Cert.RwPostBwdIdeal.main_arg0)) (e1 : x1 = m (c.tc.loc Cert.RwPostBwdIdeal.main_arg1)) (e3 : x3 = m (c.tc.loc Cert.RwPostBwdIdeal.main_arg3)) (e10 : x10 = m (c.tc.loc Cert.RwPostBwdIdeal.main_arg10)) :
    Cert.RwPostBwdRefIdeal.Read.val_main_v227 (F := Ideal) x0 x1 x3 x10
      = (fun j => ∑ p : Fin 2304, out21 (rowOf m c p) (j 1) : FVec Ideal Cert.RwPostBwdIdeal.S1x1024 .f32) := by
  subst e0 e1 e3 e10
  funext j
  idx_vars j
  exact Cert.RwPostBwdRefIdeal.RefValue.v227_at (m (c.tc.loc Cert.RwPostBwdIdeal.main_arg0)) (m (c.tc.loc Cert.RwPostBwdIdeal.main_arg1)) (m (c.tc.loc Cert.RwPostBwdIdeal.main_arg2)) (m (c.tc.loc Cert.RwPostBwdIdeal.main_arg3)) (m (c.tc.loc Cert.RwPostBwdIdeal.main_arg4)) (m (c.tc.loc Cert.RwPostBwdIdeal.main_arg5)) (m (c.tc.loc Cert.RwPostBwdIdeal.main_arg6)) (m (c.tc.loc Cert.RwPostBwdIdeal.main_arg7)) (m (c.tc.loc Cert.RwPostBwdIdeal.main_arg8)) (m (c.tc.loc Cert.RwPostBwdIdeal.main_arg9)) (m (c.tc.loc Cert.RwPostBwdIdeal.main_arg10)) j0 j1

theorem ref22 (c : Dev Cert.RwPostBwdIdeal.nD) (x3 : FVec Ideal Cert.RwPostBwdIdeal.S2304x13568 .f32) (x10 : FVec Ideal Cert.RwPostBwdIdeal.S2304x1024 .f32)
    (e3 : x3 = m (c.tc.loc Cert.RwPostBwdIdeal.main_arg3)) (e10 : x10 = m (c.tc.loc Cert.RwPostBwdIdeal.main_arg10)) :
    Cert.RwPostBwdRefIdeal.Read.val_main_v228 (F := Ideal) x3 x10
      = (fun j => ∑ p : Fin 2304, out22 (rowOf m c p) (j 1) : FVec Ideal Cert.RwPostBwdIdeal.S1x1024 .f32) := by
  subst e3 e10
  funext j
  idx_vars j
  exact Cert.RwPostBwdRefIdeal.RefValue.v228_at (m (c.tc.loc Cert.RwPostBwdIdeal.main_arg0)) (m (c.tc.loc Cert.RwPostBwdIdeal.main_arg1)) (m (c.tc.loc Cert.RwPostBwdIdeal.main_arg2)) (m (c.tc.loc Cert.RwPostBwdIdeal.main_arg3)) (m (c.tc.loc Cert.RwPostBwdIdeal.main_arg4)) (m (c.tc.loc Cert.RwPostBwdIdeal.main_arg5)) (m (c.tc.loc Cert.RwPostBwdIdeal.main_arg6)) (m (c.tc.loc Cert.RwPostBwdIdeal.main_arg7)) (m (c.tc.loc Cert.RwPostBwdIdeal.main_arg8)) (m (c.tc.loc Cert.RwPostBwdIdeal.main_arg9)) (m (c.tc.loc Cert.RwPostBwdIdeal.main_arg10)) j0 j1

/-- Of finite inputs, the kernel's nine gradients are the reference's. -/
theorem algebraic : Cert.algebraic_RwPostBwdIdeal_RwPostBwdRefIdeal_pre_rw_post_finite (hPre_rw_post_finite := facts_pre) := by
  pair_intro
  · run_from Cert.RwFrame.run_main m g
    · exact hc.1 (16 : Fin 23)
    · exact hc.1 (17 : Fin 23)
    · exact hc.1 (18 : Fin 23)
    · exact hc.1 (19 : Fin 23)
    · exact hc.1 (20 : Fin 23)
    · exact hc.1 (21 : Fin 23)
    · exact hc.1 (22 : Fin 23)
  · run_from Cert.RwPostBwdRefIdeal.Value.run m' g'
    · rw [Cert.RwPostBwdRefIdeal.Read.val_main_v215_eq, final14 m c]
      refine ref14 m c _ _ _ _ _ ?_ ?_ ?_ ?_ ?_
      all_goals first
        | exact (hagree c).1
        | exact (hagree c).2.1
        | exact (hagree c).2.2.1
        | exact (hagree c).2.2.2.1
        | exact (hagree c).2.2.2.2.1
        | exact (hagree c).2.2.2.2.2.1
        | exact (hagree c).2.2.2.2.2.2.1
        | exact (hagree c).2.2.2.2.2.2.2.1
        | exact (hagree c).2.2.2.2.2.2.2.2.1
        | exact (hagree c).2.2.2.2.2.2.2.2.2.1
        | exact (hagree c).2.2.2.2.2.2.2.2.2.2
        | rfl
    · rw [Cert.RwPostBwdRefIdeal.Read.val_main_v223_eq, final15 m c]
      refine ref15 m hpre c _ _ _ _ _ _ _ ?_ ?_ ?_ ?_ ?_ ?_ ?_
      all_goals first
        | exact (hagree c).1
        | exact (hagree c).2.1
        | exact (hagree c).2.2.1
        | exact (hagree c).2.2.2.1
        | exact (hagree c).2.2.2.2.1
        | exact (hagree c).2.2.2.2.2.1
        | exact (hagree c).2.2.2.2.2.2.1
        | exact (hagree c).2.2.2.2.2.2.2.1
        | exact (hagree c).2.2.2.2.2.2.2.2.1
        | exact (hagree c).2.2.2.2.2.2.2.2.2.1
        | exact (hagree c).2.2.2.2.2.2.2.2.2.2
        | rfl
    · rw [Cert.RwPostBwdRefIdeal.Read.val_main_v224_eq, final16 m c]
      refine ref16 m hpre c _ _ _ _ _ _ _ _ _ _ _ ?_ ?_ ?_ ?_ ?_ ?_ ?_ ?_ ?_ ?_ ?_
      all_goals first
        | exact (hagree c).1
        | exact (hagree c).2.1
        | exact (hagree c).2.2.1
        | exact (hagree c).2.2.2.1
        | exact (hagree c).2.2.2.2.1
        | exact (hagree c).2.2.2.2.2.1
        | exact (hagree c).2.2.2.2.2.2.1
        | exact (hagree c).2.2.2.2.2.2.2.1
        | exact (hagree c).2.2.2.2.2.2.2.2.1
        | exact (hagree c).2.2.2.2.2.2.2.2.2.1
        | exact (hagree c).2.2.2.2.2.2.2.2.2.2
        | rfl
    · rw [Cert.RwPostBwdRefIdeal.Read.val_main_v214_eq, final17 m c]
      refine ref17 m c _ _ _ _ _ _ _ ?_ ?_ ?_ ?_ ?_ ?_ ?_
      all_goals first
        | exact (hagree c).1
        | exact (hagree c).2.1
        | exact (hagree c).2.2.1
        | exact (hagree c).2.2.2.1
        | exact (hagree c).2.2.2.2.1
        | exact (hagree c).2.2.2.2.2.1
        | exact (hagree c).2.2.2.2.2.2.1
        | exact (hagree c).2.2.2.2.2.2.2.1
        | exact (hagree c).2.2.2.2.2.2.2.2.1
        | exact (hagree c).2.2.2.2.2.2.2.2.2.1
        | exact (hagree c).2.2.2.2.2.2.2.2.2.2
        | rfl
    · rw [Cert.RwPostBwdRefIdeal.Read.val_main_v208_eq, final18 m c]
      refine ref18 m c _ _ _ _ _ _ _ ?_ ?_ ?_ ?_ ?_ ?_ ?_
      all_goals first
        | exact (hagree c).1
        | exact (hagree c).2.1
        | exact (hagree c).2.2.1
        | exact (hagree c).2.2.2.1
        | exact (hagree c).2.2.2.2.1
        | exact (hagree c).2.2.2.2.2.1
        | exact (hagree c).2.2.2.2.2.2.1
        | exact (hagree c).2.2.2.2.2.2.2.1
        | exact (hagree c).2.2.2.2.2.2.2.2.1
        | exact (hagree c).2.2.2.2.2.2.2.2.2.1
        | exact (hagree c).2.2.2.2.2.2.2.2.2.2
        | rfl
    · rw [Cert.RwPostBwdRefIdeal.Read.val_main_v225_eq, final19 m c]
      refine ref19 m hpre c _ _ _ _ _ _ ?_ ?_ ?_ ?_ ?_ ?_
      all_goals first
        | exact (hagree c).1
        | exact (hagree c).2.1
        | exact (hagree c).2.2.1
        | exact (hagree c).2.2.2.1
        | exact (hagree c).2.2.2.2.1
        | exact (hagree c).2.2.2.2.2.1
        | exact (hagree c).2.2.2.2.2.2.1
        | exact (hagree c).2.2.2.2.2.2.2.1
        | exact (hagree c).2.2.2.2.2.2.2.2.1
        | exact (hagree c).2.2.2.2.2.2.2.2.2.1
        | exact (hagree c).2.2.2.2.2.2.2.2.2.2
        | rfl
    · rw [Cert.RwPostBwdRefIdeal.Read.val_main_v226_eq, final20 m c]
      refine ref20 m hpre c _ _ _ _ _ _ ?_ ?_ ?_ ?_ ?_ ?_
      all_goals first
        | exact (hagree c).1
        | exact (hagree c).2.1
        | exact (hagree c).2.2.1
        | exact (hagree c).2.2.2.1
        | exact (hagree c).2.2.2.2.1
        | exact (hagree c).2.2.2.2.2.1
        | exact (hagree c).2.2.2.2.2.2.1
        | exact (hagree c).2.2.2.2.2.2.2.1
        | exact (hagree c).2.2.2.2.2.2.2.2.1
        | exact (hagree c).2.2.2.2.2.2.2.2.2.1
        | exact (hagree c).2.2.2.2.2.2.2.2.2.2
        | rfl
    · rw [Cert.RwPostBwdRefIdeal.Read.val_main_v227_eq, final21 m c]
      refine ref21 m c _ _ _ _ ?_ ?_ ?_ ?_
      all_goals first
        | exact (hagree c).1
        | exact (hagree c).2.1
        | exact (hagree c).2.2.1
        | exact (hagree c).2.2.2.1
        | exact (hagree c).2.2.2.2.1
        | exact (hagree c).2.2.2.2.2.1
        | exact (hagree c).2.2.2.2.2.2.1
        | exact (hagree c).2.2.2.2.2.2.2.1
        | exact (hagree c).2.2.2.2.2.2.2.2.1
        | exact (hagree c).2.2.2.2.2.2.2.2.2.1
        | exact (hagree c).2.2.2.2.2.2.2.2.2.2
        | rfl
    · rw [Cert.RwPostBwdRefIdeal.Read.val_main_v228_eq, final22 m c]
      refine ref22 m c _ _ ?_ ?_
      all_goals first
        | exact (hagree c).1
        | exact (hagree c).2.1
        | exact (hagree c).2.2.1
        | exact (hagree c).2.2.2.1
        | exact (hagree c).2.2.2.2.1
        | exact (hagree c).2.2.2.2.2.1
        | exact (hagree c).2.2.2.2.2.2.1
        | exact (hagree c).2.2.2.2.2.2.2.1
        | exact (hagree c).2.2.2.2.2.2.2.2.1
        | exact (hagree c).2.2.2.2.2.2.2.2.2.1
        | exact (hagree c).2.2.2.2.2.2.2.2.2.2
        | rfl

end Cert.Proof.RwPostBwd

end
-- ==== Proof.HfSpec.lean ====
/-
  The gated linear recurrence, 64 rows at a time, on plain rows of extended reals.  A channel `l` belongs to head
  `l / 128`.  A chunk of 64 rows takes the state `S h v e` in, gives out one row of values per row, and hands the next
  state on.  The kernel reaches the same row of values by blocks of 16 rows; the lemmas here say why that is so.
-/
module

public import Idealize.ShloMosaic.PureOps.Ideal
public import Idealize.ShloMosaic.Lib.Pointwise

@[expose] public section

noncomputable section

open Idealize.ShloMosaic

namespace Cert.HfSpec

/-- Channel `e` of the head that channel `l` belongs to. -/
def chan (l : Fin 1024) (e : Fin 128) : Fin 1024 := ⟨l.val / 128 * 128 + e.val, by have := l.isLt; have := e.isLt; omega⟩

/-- Channel `e` of head `h`. -/
def lane (h : Fin 8) (e : Fin 128) : Fin 1024 := ⟨h.val * 128 + e.val, by have := h.isLt; have := e.isLt; omega⟩

/-- Queries, keys, values, log gates, and the log gates summed from the chunk's first row on. -/
structure Chunk where
  q : Fin 64 → Fin 1024 → EReal
  k : Fin 64 → Fin 1024 → EReal
  v : Fin 64 → Fin 1024 → EReal
  g : Fin 64 → Fin 1024 → EReal
  b : Fin 64 → Fin 1024 → EReal

/-- A state: per head, value channel, key channel. -/
abbrev State := Fin 8 → Fin 128 → Fin 128 → EReal

/-- The weight that row `s` has in row `t`'s output in the head of channel `l`. -/
def att (C : Chunk) (t s : Fin 64) (l : Fin 1024) : EReal :=
  ∑ e : Fin 128, C.q t (chan l e) * C.k s (chan l e) * Ideal.exp (min (C.b t (chan l e) - C.b s (chan l e)) 0)

/-- What row `s` gives to row `t`: nothing to rows before it. -/
def part (C : Chunk) (t : Fin 64) (l : Fin 1024) (s : Fin 64) : EReal :=
  if s.val ≤ t.val then att C t s l * C.v s l else 0

/-- What the state gives to row `t`. -/
def held (C : Chunk) (S : State) (t : Fin 64) (l : Fin 1024) : EReal :=
  ∑ e : Fin 128, C.q t (chan l e) * Ideal.exp (C.b t (chan l e))
    * S ⟨l.val / 128, by have := l.isLt; omega⟩ ⟨l.val % 128, by omega⟩ e

/-- Row `t` of the output. -/
def out (C : Chunk) (S : State) (t : Fin 64) (l : Fin 1024) : EReal := ∑ s : Fin 64, part C t l s + held C S t l

/-- The state after the chunk. -/
def next (C : Chunk) (S : State) : State := fun h v e =>
  Ideal.exp (C.b 63 (lane h e)) * S h v e
    + ∑ s : Fin 64, C.v s (lane h v) * (C.k s (lane h e) * Ideal.exp (C.b 63 (lane h e) - C.b s (lane h e)))

/-- The log gates are real, and their running sums real and falling. -/
def Tame (C : Chunk) : Prop :=
  (∀ i l, ∃ r : ℝ, C.g i l = r) ∧ (∀ i l, ∃ r : ℝ, C.b i l = r) ∧ ∀ s t : Fin 64, s.val ≤ t.val → ∀ l, C.b t l ≤ C.b s l

/-! ## Blocks of 16 rows -/

/-- The weight of row `s` in row `t` by way of the first row `p` of `t`'s block of 16. -/
def cross (C : Chunk) (p t s : Fin 64) (l : Fin 1024) : EReal :=
  ∑ e : Fin 128, C.q t (chan l e) * Ideal.exp (C.b t (chan l e) - (C.b p (chan l e) - C.g p (chan l e)))
    * (C.k s (chan l e) * Ideal.exp (C.b p (chan l e) - C.g p (chan l e) - C.b s (chan l e)))

theorem exp_between {x y s : EReal} (hx : ∃ r : ℝ, x = r) (hy : ∃ r : ℝ, y = r) (hs : ∃ r : ℝ, s = r) (h : x ≤ y) :
    Ideal.exp (x - s) * Ideal.exp (s - y) = Ideal.exp (min (x - y) 0) := by
  obtain ⟨x, rfl⟩ := hx
  obtain ⟨y, rfl⟩ := hy
  obtain ⟨s, rfl⟩ := hs
  have hxy : x - y ≤ 0 := sub_nonpos.mpr (EReal.coe_le_coe_iff.mp h)
  rw [← EReal.coe_sub, ← EReal.coe_sub, ← EReal.coe_sub, min_eq_left (EReal.coe_nonpos.mpr hxy), Ideal.exp_coe,
    Ideal.exp_coe, Ideal.exp_coe, ← EReal.coe_mul, ← Real.exp_add]
  congr 2
  ring

theorem cross_eq {C : Chunk} (hC : Tame C) (p t s : Fin 64) (h : s.val ≤ t.val) (l : Fin 1024) :
    cross C p t s l = att C t s l := by
  refine Finset.sum_congr rfl fun e _ => ?_
  have hp : ∃ r : ℝ, C.b p (chan l e) - C.g p (chan l e) = r := by
    obtain ⟨x, hx⟩ := hC.2.1 p (chan l e)
    obtain ⟨y, hy⟩ := hC.1 p (chan l e)
    exact ⟨x - y, by rw [hx, hy, EReal.coe_sub]⟩
  rw [← exp_between (hC.2.1 t _) (hC.2.1 s _) hp (hC.2.2 s t h _)]
  exact mul_mul_mul_comm _ _ _ _

theorem cross_mul {C : Chunk} (hC : Tame C) (p t s : Fin 64) (h : s.val ≤ t.val) (l : Fin 1024) :
    cross C p t s l * C.v s l = part C t l s := by
  rw [cross_eq hC p t s h, part, if_pos h]

/-- A sum over 64 rows, block by block. -/
theorem sum_blocks (f : Fin 64 → EReal) :
    ∑ s, f s = (∑ i : Fin 16, f ⟨i.val, by omega⟩) + (∑ i : Fin 16, f ⟨16 + i.val, by omega⟩)
      + (∑ i : Fin 16, f ⟨32 + i.val, by omega⟩) + ∑ i : Fin 16, f ⟨48 + i.val, by omega⟩ := by
  have h1 := Fin.sum_univ_add (M := EReal) (a := 48) (b := 16) f
  have h2 := Fin.sum_univ_add (M := EReal) (a := 32) (b := 16) fun i : Fin 48 => f ⟨i.val, by omega⟩
  have h3 := Fin.sum_univ_add (M := EReal) (a := 16) (b := 16) fun i : Fin 32 => f ⟨i.val, by omega⟩
  refine h1.trans (congrArg₂ (· + ·) (h2.trans (congrArg₂ (· + ·) h3 ?_)) ?_) <;> exact rfl

/-- A sum over 16 rows, written out. -/
theorem sum_sixteen (f : Fin 16 → EReal) :
    ∑ i, f i = f 0 + f 1 + f 2 + f 3 + f 4 + f 5 + f 6 + f 7 + f 8 + f 9 + f 10 + f 11 + f 12 + f 13 + f 14 + f 15 := by
  simp only [Fin.sum_univ_castSucc, Finset.univ_eq_empty, Finset.sum_empty, zero_add]
  rfl

/-- Sixteen terms of a running sum, each present from its own row on. -/
theorem chain (f : Fin 16 → EReal) (r : Fin 16) (x0 : EReal)
    (x1 : ¬ r.val < 1 → EReal) (x2 : ¬ r.val < 2 → EReal) (x3 : ¬ r.val < 3 → EReal) (x4 : ¬ r.val < 4 → EReal)
    (x5 : ¬ r.val < 5 → EReal) (x6 : ¬ r.val < 6 → EReal) (x7 : ¬ r.val < 7 → EReal) (x8 : ¬ r.val < 8 → EReal)
    (x9 : ¬ r.val < 9 → EReal) (x10 : ¬ r.val < 10 → EReal) (x11 : ¬ r.val < 11 → EReal) (x12 : ¬ r.val < 12 →
    EReal) (x13 : ¬ r.val < 13 → EReal) (x14 : ¬ r.val < 14 → EReal) (x15 : ¬ r.val < 15 → EReal)
    (h0 : x0 = f 0)
    (h1 : ∀ h, x1 h = f 1) (h2 : ∀ h, x2 h = f 2) (h3 : ∀ h, x3 h = f 3) (h4 : ∀ h, x4 h = f 4) (h5 : ∀ h, x5 h
    = f 5) (h6 : ∀ h, x6 h = f 6) (h7 : ∀ h, x7 h = f 7) (h8 : ∀ h, x8 h = f 8) (h9 : ∀ h, x9 h = f 9) (h10 : ∀
    h, x10 h = f 10) (h11 : ∀ h, x11 h = f 11) (h12 : ∀ h, x12 h = f 12) (h13 : ∀ h, x13 h = f 13) (h14 : ∀ h,
    x14 h = f 14) (h15 : ∀ h, x15 h = f 15) :
    x0 + (if h : r.val < 1 then 0 else x1 h) + (if h : r.val < 2 then 0 else x2 h) + (if h : r.val < 3 then 0
      else x3 h) + (if h : r.val < 4 then 0 else x4 h) + (if h : r.val < 5 then 0 else x5 h) + (if h : r.val < 6
      then 0 else x6 h) + (if h : r.val < 7 then 0 else x7 h) + (if h : r.val < 8 then 0 else x8 h) + (if h :
      r.val < 9 then 0 else x9 h) + (if h : r.val < 10 then 0 else x10 h) + (if h : r.val < 11 then 0 else x11
      h) + (if h : r.val < 12 then 0 else x12 h) + (if h : r.val < 13 then 0 else x13 h) + (if h : r.val < 14
      then 0 else x14 h) + (if h : r.val < 15 then 0 else x15 h)
      = ∑ i : Fin 16, if i.val ≤ r.val then f i else 0 := by
  have step : ∀ (n : ℕ) (i : Fin 16) (x : ¬ r.val < n → EReal), i.val = n → (∀ h, x h = f i) →
      (if h : r.val < n then 0 else x h) = if i.val ≤ r.val then f i else 0 := by
    intro n i x hi hx
    by_cases h : r.val < n
    · rw [dif_pos h, if_neg (by omega)]
    · rw [dif_neg h, if_pos (by omega), hx]
  rw [sum_sixteen, step 1 1 x1 rfl h1, step 2 2 x2 rfl h2, step 3 3 x3 rfl h3, step 4 4 x4 rfl h4, step 5 5 x5 rfl h5, step 6 6 x6 rfl h6, step 7 7 x7 rfl h7, step 8 8 x8 rfl h8, step 9 9 x9 rfl h9, step 10 10 x10 rfl h10, step 11 11 x11 rfl h11, step 12 12 x12 rfl h12, step 13 13 x13 rfl h13, step 14 14 x14 rfl h14, step 15 15 x15 rfl h15, h0]
  rfl

/-- The rows of one block of 16 that give to row `r` of it. -/
theorem sum_part (C : Chunk) (p : ℕ) (hp : p ≤ 48) (r : Fin 16) (l : Fin 1024) :
    (∑ i : Fin 16, if i.val ≤ r.val then att C ⟨p + r.val, by omega⟩ ⟨p + i.val, by omega⟩ l * C.v ⟨p + i.val, by omega⟩ l else 0)
      = ∑ i : Fin 16, part C ⟨p + r.val, by omega⟩ l ⟨p + i.val, by omega⟩ :=
  Finset.sum_congr rfl fun i _ => if_congr ⟨fun h => Nat.add_le_add_left h p, fun h => Nat.le_of_add_le_add_left h⟩ rfl rfl

/-- Rows after `t` give nothing. -/
theorem part_after (C : Chunk) (t : Fin 64) (l : Fin 1024) (s : Fin 64) (h : t.val < s.val) : part C t l s = 0 :=
  if_neg (Nat.not_le.mpr h)

theorem rows0 (C : Chunk) (r : Fin 16) (l : Fin 1024) :
    ∑ s, part C ⟨0 + r.val, by omega⟩ l s = ∑ i : Fin 16, part C ⟨0 + r.val, by omega⟩ l ⟨0 + i.val, by omega⟩ := by
  rw [sum_blocks, Finset.sum_eq_zero (f := fun i : Fin 16 => part C _ l ⟨16 + i.val, _⟩) fun i _ => part_after _ _ _ _ (by dsimp only; omega),
    Finset.sum_eq_zero (f := fun i : Fin 16 => part C _ l ⟨32 + i.val, _⟩) fun i _ => part_after _ _ _ _ (by dsimp only; omega),
    Finset.sum_eq_zero (f := fun i : Fin 16 => part C _ l ⟨48 + i.val, _⟩) fun i _ => part_after _ _ _ _ (by dsimp only; omega),
    add_zero, add_zero, add_zero]
  simp only [Nat.zero_add]

theorem rows1 (C : Chunk) (r : Fin 16) (l : Fin 1024) :
    ∑ s, part C ⟨16 + r.val, by omega⟩ l s = (∑ i : Fin 16, part C ⟨16 + r.val, by omega⟩ l ⟨16 + i.val, by omega⟩)
      + ∑ i : Fin 16, part C ⟨16 + r.val, by omega⟩ l ⟨i.val, by omega⟩ := by
  rw [sum_blocks, Finset.sum_eq_zero (f := fun i : Fin 16 => part C _ l ⟨32 + i.val, _⟩) fun i _ => part_after _ _ _ _ (by dsimp only; omega),
    Finset.sum_eq_zero (f := fun i : Fin 16 => part C _ l ⟨48 + i.val, _⟩) fun i _ => part_after _ _ _ _ (by dsimp only; omega),
    add_zero, add_zero, add_comm]

theorem rows2 (C : Chunk) (r : Fin 16) (l : Fin 1024) :
    ∑ s, part C ⟨32 + r.val, by omega⟩ l s = (∑ i : Fin 16, part C ⟨32 + r.val, by omega⟩ l ⟨32 + i.val, by omega⟩)
      + ((∑ i : Fin 16, part C ⟨32 + r.val, by omega⟩ l ⟨i.val, by omega⟩)
        + ∑ i : Fin 16, part C ⟨32 + r.val, by omega⟩ l ⟨16 + i.val, by omega⟩) := by
  rw [sum_blocks, Finset.sum_eq_zero (f := fun i : Fin 16 => part C _ l ⟨48 + i.val, _⟩) fun i _ => part_after _ _ _ _ (by dsimp only; omega),
    add_zero, add_comm]

theorem rows3 (C : Chunk) (r : Fin 16) (l : Fin 1024) :
    ∑ s, part C ⟨48 + r.val, by omega⟩ l s = (∑ i : Fin 16, part C ⟨48 + r.val, by omega⟩ l ⟨48 + i.val, by omega⟩)
      + ∑ i : Fin 48, part C ⟨48 + r.val, by omega⟩ l ⟨i.val, by omega⟩ :=
  (Fin.sum_univ_add (M := EReal) (a := 48) (b := 16) fun s : Fin 64 => part C ⟨48 + r.val, by omega⟩ l s).trans (add_comm _ _)

/-! ## The running sum by doubling -/

/-- One doubling: every row adds the row `w` before it. -/
def dbl (w : ℕ) (a : Fin 64 → EReal) (i : Fin 64) : EReal :=
  a i + if _ : i.val < w then 0 else a ⟨i.val - w, by have := i.isLt; omega⟩

/-- The sum of the last `w` rows up to row `i`. -/
def win (w : ℕ) (g : Fin 64 → EReal) (i : Fin 64) : EReal := ∑ s : Fin 64, if s.val ≤ i.val ∧ i.val < s.val + w then g s else 0

theorem win_one (g : Fin 64 → EReal) : win 1 g = g := by
  funext i
  refine (Finset.sum_eq_single i (fun s _ hs => if_neg fun h => hs (Fin.ext (by omega))) fun h => absurd (Finset.mem_univ _) h).trans ?_
  exact if_pos ⟨le_rfl, by omega⟩

theorem dbl_win (w : ℕ) (g : Fin 64 → EReal) : dbl w (win w g) = win (w + w) g := by
  funext i
  unfold dbl
  by_cases h : i.val < w
  · rw [dif_pos h, add_zero]
    refine Finset.sum_congr rfl fun s _ => ?_
    exact if_congr ⟨fun c => ⟨c.1, by omega⟩, fun c => ⟨c.1, by omega⟩⟩ rfl rfl
  · rw [dif_neg h]
    refine (Finset.sum_add_distrib (M := EReal)).symm.trans (Finset.sum_congr rfl fun s _ => ?_)
    by_cases h1 : s.val ≤ i.val ∧ i.val < s.val + w
    · rw [if_pos h1, if_neg (by dsimp only; omega), if_pos (by omega), add_zero]
    · by_cases h2 : s.val ≤ i.val - w ∧ i.val - w < s.val + w
      · rw [if_neg h1, if_pos h2, if_pos (by omega), zero_add]
      · rw [if_neg h1, if_neg h2, if_neg (by omega), add_zero]

/-- The log gates summed from the first row on. -/
def upto (g : Fin 64 → EReal) (i : Fin 64) : EReal := ∑ s : Fin 64, if s.val ≤ i.val then g s else 0

theorem dbl_all (g : Fin 64 → EReal) : dbl 32 (dbl 16 (dbl 8 (dbl 4 (dbl 2 (dbl 1 g))))) = upto g := by
  conv_lhs => rw [← win_one g]
  rw [dbl_win, dbl_win, dbl_win, dbl_win, dbl_win, dbl_win]
  funext i
  exact Finset.sum_congr rfl fun s _ => if_congr ⟨fun c => c.1, fun c => ⟨c, by omega⟩⟩ rfl rfl

/-- The same sum over a window of 64 rows that ends at row `i`. -/
theorem window_upto (g : Fin 64 → EReal) (i : Fin 64) :
    (∑ d : Fin 64, if h : 63 ≤ i.val + d.val then g ⟨i.val + d.val - 63, by omega⟩ else 0) = upto g i := by
  refine Fintype.sum_equiv (Equiv.addLeft (i + 1)) _ _ fun d => ?_
  have e : (Equiv.addLeft (i + 1) d).val = (i.val + d.val + 1) % 64 := by
    show (i + 1 + d).val = _
    rw [Fin.val_add, Fin.val_add]
    show ((i.val + 1) % 64 + d.val) % 64 = _
    omega
  by_cases h : 63 ≤ i.val + d.val
  · rw [dif_pos h, if_pos (by omega)]
    exact congrArg g (Fin.ext (by rw [e]; show i.val + d.val - 63 = _; omega))
  · rw [dif_neg h, if_neg (by omega)]

/-! ## Gates -/

/-- A gate: between its lower bound and 1. -/
def gate (lb f : EReal) : EReal := lb + (1 - lb) * Ideal.logistic f

theorem logistic_unit (f : EReal) : ∃ r : ℝ, 0 ≤ r ∧ r ≤ 1 ∧ Ideal.logistic f = r := by
  induction f using EReal.rec with
  | bot => exact ⟨0, le_rfl, zero_le_one, by rw [Ideal.logistic_bot]; rfl⟩
  | top => exact ⟨1, zero_le_one, le_rfl, by rw [Ideal.logistic_top]; rfl⟩
  | coe x =>
    have h : 1 ≤ 1 + Real.exp (-x) := le_add_of_nonneg_right (Real.exp_pos _).le
    exact ⟨_, inv_nonneg.mpr (by linarith), inv_le_one_of_one_le₀ h, Ideal.logistic_coe _⟩

theorem log_gate (a b : ℝ) (f : EReal) :
    ∃ r : ℝ, r ≤ 0 ∧ Ideal.log (gate (Ideal.logistic ((a : EReal) - b)) f) = r := by
  obtain ⟨s, hs0, hs1, hs⟩ := logistic_unit f
  have hp : 1 < 1 + Real.exp (-(a - b)) := lt_add_of_pos_right _ (Real.exp_pos _)
  have hp0 : 0 < (1 + Real.exp (-(a - b)))⁻¹ := inv_pos.mpr (by linarith)
  have hp1 : (1 + Real.exp (-(a - b)))⁻¹ < 1 := inv_lt_one_of_one_lt₀ hp
  set p := (1 + Real.exp (-(a - b)))⁻¹ with hpd
  have e : gate (Ideal.logistic ((a : EReal) - b)) f = ((p + (1 - p) * s : ℝ) : EReal) := by
    unfold gate
    rw [hs, ← EReal.coe_sub, Ideal.logistic_coe, ← hpd, EReal.coe_add, EReal.coe_mul, EReal.coe_sub, EReal.coe_one]
  have hpos : 0 < p + (1 - p) * s := by nlinarith
  refine ⟨Real.log (p + (1 - p) * s), Real.log_nonpos hpos.le (by nlinarith), ?_⟩
  rw [e, Ideal.log_coe, if_neg (not_le.mpr hpos)]

/-- Running sums of real numbers below zero are real and fall. -/
theorem upto_tame (g : Fin 64 → EReal) (hg : ∀ i, ∃ r : ℝ, r ≤ 0 ∧ g i = r) :
    (∀ i, ∃ r : ℝ, upto g i = r) ∧ ∀ s t : Fin 64, s.val ≤ t.val → upto g t ≤ upto g s := by
  choose r hr0 hr using hg
  refine ⟨fun i => ?_, fun s t h => Finset.sum_le_sum fun d _ => ?_⟩
  · refine ⟨∑ s : Fin 64, if s.val ≤ i.val then r s else 0, ?_⟩
    refine Eq.trans ?_ (map_sum (⟨⟨Real.toEReal, EReal.coe_zero⟩, EReal.coe_add⟩ : ℝ →+ EReal) _ _).symm
    refine Finset.sum_congr rfl fun s _ => ?_
    by_cases h : s.val ≤ i.val
    · rw [if_pos h, hr]; exact congrArg Real.toEReal (if_pos h).symm
    · rw [if_neg h]; exact congrArg Real.toEReal (if_neg h).symm
  · by_cases h1 : d.val ≤ s.val
    · rw [if_pos h1, if_pos (by omega)]
    · rw [if_neg h1]
      by_cases h2 : d.val ≤ t.val
      · rw [if_pos h2, hr]; exact EReal.coe_nonpos.mpr (hr0 d)
      · rw [if_neg h2]

end Cert.HfSpec

end
-- ==== Proof.HfPay.lean ====
/-
  What the kernel's body computes at one grid point, in the words of `HfSpec`: the running sum of the log gates, each
  block of 16 rows against itself and against the blocks before it, the state's share, and the next state.
-/
module

public import proofs.«01_k».proof.Proof.Gen.HgScanFwd0Ideal.Frame
public import proofs.«01_k».proof.Proof.HfSpec
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.HfPay

open Cert.HgScanFwd0Ideal Cert.HgScanFwd0Ideal.Gen Cert.HfSpec

/-- The chunk that the body holds, as rows. -/
def chunk (Q K V G B : FVec Ideal S64x1024 .f32) : Chunk :=
  ⟨fun i l => Q (ix2 i l), fun i l => K (ix2 i l), fun i l => V (ix2 i l), fun i l => G (ix2 i l), fun i l => B (ix2 i l)⟩

variable (Q K V G B P : FVec Ideal S64x1024 .f32) (S : FVec Ideal S8x128x128 .f32) (r : Fin 16) (l : Fin 1024)

/-! ## The running sum -/

theorem sum_at (x : FVec Ideal S64x1024 .f32) (lb : FVec Ideal S2x1024 .f32) (i : Fin 64) :
    k0_pay9 (F := Ideal) (k0_pay8 x lb) (FloatOps.ofBits FTy.f32 0#32) (ix2 i l)
      = upto (fun s => k0_pay7 (F := Ideal) x lb (ix2 s l)) i := by
  have e : ∀ s : Fin 64, k0_pay8 (F := Ideal) x lb (ix2 s l) = dbl 2 (dbl 1 fun d => k0_pay7 (F := Ideal) x lb (ix2 d l)) s := by
    intro s
    have e7 : k0_pay8 (F := Ideal) x lb = k0_pay8 (F := Ideal) x lb := rfl
    unfold k0_pay8
    generalize k0_pay7 (F := Ideal) x lb = g
    pointwise
    rfl
  rw [← dbl_all, ← (funext e : (fun s => k0_pay8 (F := Ideal) x lb (ix2 s l)) = _)]
  generalize k0_pay8 (F := Ideal) x lb = p
  pointwise [k0_pay9]
  rfl

/-! ## A block of 16 rows against itself -/

set_option maxHeartbeats 1000000 in
theorem block0 (z : Ideal .f32)
    (hB : ∀ (r : Fin 16) (h : Fin 8) (e : Fin 128), k0_pay13 (F := Ideal) P z (ix3 r h e) = B (ix2 ⟨r.val, by omega⟩ (lane h e))) :
    k0_pay26 (F := Ideal) (k0_pay10 Q) (k0_pay11 K) (k0_pay12 V) (k0_pay13 P z) (k0_pay25 (k0_pay10 Q) (k0_pay11
      K) (k0_pay12 V) (k0_pay13 P z) (k0_pay22 (k0_pay10 Q) (k0_pay11 K) (k0_pay12 V) (k0_pay13 P z) (k0_pay21
      (k0_pay10 Q) (k0_pay11 K) (k0_pay12 V) (k0_pay13 P z) (k0_pay18 (k0_pay10 Q) (k0_pay11 K) (k0_pay12 V)
      (k0_pay13 P z) (k0_pay17 (k0_pay10 Q) (k0_pay11 K) (k0_pay12 V) (k0_pay13 P z) (k0_pay14 V Q K P z)
      (k0_pay15 P z) (k0_pay16 Q K))) (k0_pay19 (k0_pay13 P z)) (k0_pay20 (k0_pay10 Q) (k0_pay11 K)))) (k0_pay23
      (k0_pay13 P z)) (k0_pay24 (k0_pay10 Q) (k0_pay11 K))) (ix2 r l)
    = ∑ i : Fin 16, part (chunk Q K V G B) ⟨0 + r.val, by omega⟩ l ⟨0 + i.val, by omega⟩ := by
  pointwise [k0_pay10, k0_pay11, k0_pay12, k0_pay14, k0_pay15, k0_pay16, k0_pay17, k0_pay18, k0_pay19, k0_pay20, k0_pay21,
    k0_pay22, k0_pay23, k0_pay24, k0_pay25, k0_pay26]
  simp only [hB]
  refine (chain (fun i => att (chunk Q K V G B) ⟨0 + r.val, by omega⟩ ⟨0 + i.val, by omega⟩ l
    * (chunk Q K V G B).v ⟨0 + i.val, by omega⟩ l) r _ _ _ _ _ _ _ _ _ _ _ _ _ _ _ _ ?_ ?_ ?_ ?_ ?_ ?_ ?_ ?_ ?_ ?_ ?_
    ?_ ?_ ?_ ?_ ?_).trans ((sum_part _ 0 (by omega) r l).trans ?_)
  rotate_right
  · simp only [Nat.zero_add]
  · simp only [Nat.zero_add]
    rfl
  all_goals intro h
  all_goals first
    | simp only [Nat.add_sub_of_le (Nat.le_of_not_lt h), Nat.zero_add]
      rfl
    | obtain rfl : r = 15 := Fin.ext (by show r.val = 15; omega)
      rfl

theorem block1 :
    k0_pay49 (F := Ideal) (k0_pay29 V) (k0_pay45 (k0_pay27 Q) (k0_pay28 K) (k0_pay29 V) (k0_pay30 B) (k0_pay43
      (k0_pay27 Q) (k0_pay28 K) (k0_pay29 V) (k0_pay30 B) (k0_pay40 (k0_pay27 Q) (k0_pay28 K) (k0_pay29 V)
      (k0_pay30 B) (k0_pay38 (k0_pay27 Q) (k0_pay28 K) (k0_pay29 V) (k0_pay30 B) (k0_pay35 (k0_pay27 Q)
      (k0_pay28 K) (k0_pay29 V) (k0_pay30 B) (k0_pay33 (k0_pay27 Q) (k0_pay28 K) (k0_pay29 V) (k0_pay30 B)
      k0_pay31 (k0_pay32 B) (FloatOps.ofBits FTy.f32 0#32)) (k0_pay34 (k0_pay27 Q) (k0_pay28 K) (k0_pay29 V)
      (k0_pay30 B)) (FloatOps.ofBits FTy.f32 0#32)) (k0_pay36 (k0_pay30 B)) (k0_pay37 (k0_pay27 Q))) (k0_pay39
      (k0_pay27 Q) (k0_pay28 K) (k0_pay29 V) (k0_pay30 B)) (FloatOps.ofBits FTy.f32 0#32)) (k0_pay41 (k0_pay30
      B)) (k0_pay42 (k0_pay27 Q))) (k0_pay44 (k0_pay27 Q) (k0_pay28 K) (k0_pay29 V) (k0_pay30 B))
      (FloatOps.ofBits FTy.f32 0#32)) (k0_pay46 (k0_pay30 B)) (k0_pay47 (k0_pay27 Q)) (k0_pay48 (k0_pay28 K))
      (ix2 r l)
    = ∑ i : Fin 16, part (chunk Q K V G B) ⟨16 + r.val, by omega⟩ l ⟨16 + i.val, by omega⟩ := by
  pointwise [k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47,
    k0_pay48, k0_pay49]
  refine (chain (fun i => att (chunk Q K V G B) ⟨16 + r.val, by omega⟩ ⟨16 + i.val, by omega⟩ l
    * (chunk Q K V G B).v ⟨16 + i.val, by omega⟩ l) r _ _ _ _ _ _ _ _ _ _ _ _ _ _ _ _ ?_ ?_ ?_ ?_ ?_ ?_ ?_ ?_ ?_ ?_ ?_
    ?_ ?_ ?_ ?_ ?_).trans (sum_part _ 16 (by omega) r l)
  · rfl
  all_goals intro h
  all_goals first
    | simp only [Nat.add_sub_of_le (Nat.le_of_not_lt h)]
      rfl
    | obtain rfl : r = 15 := Fin.ext (by show r.val = 15; omega)
      rfl

theorem block2 :
    k0_pay72 (F := Ideal) (k0_pay50 Q) (k0_pay51 K) (k0_pay52 V) (k0_pay53 B) (k0_pay69 (k0_pay50 Q) (k0_pay51
      K) (k0_pay52 V) (k0_pay53 B) (k0_pay66 (k0_pay50 Q) (k0_pay51 K) (k0_pay52 V) (k0_pay53 B) (k0_pay63
      (k0_pay50 Q) (k0_pay51 K) (k0_pay52 V) (k0_pay53 B) (k0_pay60 (k0_pay50 Q) (k0_pay51 K) (k0_pay52 V)
      (k0_pay53 B) (k0_pay57 (k0_pay50 Q) (k0_pay51 K) (k0_pay52 V) (k0_pay53 B) (k0_pay54 V Q K B) (k0_pay55 V)
      (k0_pay56 Q K B)) (k0_pay58 (k0_pay53 B)) k0_pay59) (k0_pay61 (k0_pay52 V)) (k0_pay62 (k0_pay50 Q)
      (k0_pay51 K) (k0_pay53 B))) (k0_pay64 (k0_pay53 B)) k0_pay65) (k0_pay67 (k0_pay52 V)) (k0_pay68 (k0_pay50
      Q) (k0_pay51 K) (k0_pay53 B))) (k0_pay70 (k0_pay53 B)) k0_pay71 (ix2 r l)
    = ∑ i : Fin 16, part (chunk Q K V G B) ⟨32 + r.val, by omega⟩ l ⟨32 + i.val, by omega⟩ := by
  pointwise [k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70,
    k0_pay71, k0_pay72]
  refine (chain (fun i => att (chunk Q K V G B) ⟨32 + r.val, by omega⟩ ⟨32 + i.val, by omega⟩ l
    * (chunk Q K V G B).v ⟨32 + i.val, by omega⟩ l) r _ _ _ _ _ _ _ _ _ _ _ _ _ _ _ _ ?_ ?_ ?_ ?_ ?_ ?_ ?_ ?_ ?_ ?_ ?_
    ?_ ?_ ?_ ?_ ?_).trans (sum_part _ 32 (by omega) r l)
  · rfl
  all_goals intro h
  all_goals first
    | simp only [Nat.add_sub_of_le (Nat.le_of_not_lt h)]
      rfl
    | obtain rfl : r = 15 := Fin.ext (by show r.val = 15; omega)
      rfl

theorem block3 :
    k0_pay96 (F := Ideal) (k0_pay93 (k0_pay73 Q) (k0_pay74 K) (k0_pay75 V) (k0_pay76 B) (k0_pay90 (k0_pay73 Q)
      (k0_pay74 K) (k0_pay75 V) (k0_pay76 B) (k0_pay88 (k0_pay73 Q) (k0_pay74 K) (k0_pay75 V) (k0_pay76 B)
      (k0_pay85 (k0_pay73 Q) (k0_pay74 K) (k0_pay75 V) (k0_pay76 B) (k0_pay83 (k0_pay73 Q) (k0_pay74 K)
      (k0_pay75 V) (k0_pay76 B) (k0_pay80 (k0_pay73 Q) (k0_pay74 K) (k0_pay75 V) (k0_pay76 B) k0_pay77 (k0_pay78
      B) (k0_pay79 Q K)) (k0_pay81 (k0_pay76 B)) (k0_pay82 (k0_pay76 B))) (k0_pay84 (k0_pay73 Q) (k0_pay74 K)
      (k0_pay76 B))) (k0_pay86 (k0_pay76 B)) (k0_pay87 (k0_pay76 B))) (k0_pay89 (k0_pay73 Q) (k0_pay74 K)
      (k0_pay76 B))) (k0_pay91 (k0_pay76 B)) (k0_pay92 (k0_pay76 B))) (k0_pay94 (k0_pay73 Q) (k0_pay74 K)
      (k0_pay76 B)) (k0_pay95 (k0_pay75 V)) (ix2 r l)
    = ∑ i : Fin 16, part (chunk Q K V G B) ⟨48 + r.val, by omega⟩ l ⟨48 + i.val, by omega⟩ := by
  pointwise [k0_pay73, k0_pay74, k0_pay75, k0_pay76, k0_pay77, k0_pay78, k0_pay79, k0_pay80, k0_pay81, k0_pay82, k0_pay83,
    k0_pay84, k0_pay85, k0_pay86, k0_pay87, k0_pay88, k0_pay89, k0_pay90, k0_pay91, k0_pay92, k0_pay93,
    k0_pay94, k0_pay95, k0_pay96]
  refine (chain (fun i => att (chunk Q K V G B) ⟨48 + r.val, by omega⟩ ⟨48 + i.val, by omega⟩ l
    * (chunk Q K V G B).v ⟨48 + i.val, by omega⟩ l) r _ _ _ _ _ _ _ _ _ _ _ _ _ _ _ _ ?_ ?_ ?_ ?_ ?_ ?_ ?_ ?_ ?_ ?_ ?_
    ?_ ?_ ?_ ?_ ?_).trans (sum_part _ 48 (by omega) r l)
  · rfl
  all_goals intro h
  all_goals first
    | simp only [Nat.add_sub_of_le (Nat.le_of_not_lt h)]
      rfl
    | obtain rfl : r = 15 := Fin.ext (by show r.val = 15; omega)
      rfl

/-! ## The blocks before it, the state's share and the next state -/

variable (O : FVec Ideal S16x1024 .f32)

theorem rows1_at (hC : Tame (chunk Q K V G B))
    (hO : O (ix2 r l) = ∑ i : Fin 16, part (chunk Q K V G B) ⟨16 + r.val, by omega⟩ l ⟨16 + i.val, by omega⟩) :
    k0_pay97 (F := Ideal) V Q K G B O (ix2 r l) = ∑ s, part (chunk Q K V G B) ⟨16 + r.val, by omega⟩ l s := by
  pointwise [k0_pay97]
  refine Eq.trans (congrArg₂ (· + ·) hO ?_) (rows1 _ r l).symm
  exact Finset.sum_congr rfl fun x _ => cross_mul hC 16 ⟨16 + r.val, by omega⟩ ⟨x.val, by omega⟩ (by dsimp only; omega) l

theorem rows2_at (hC : Tame (chunk Q K V G B))
    (hO : O (ix2 r l) = ∑ i : Fin 16, part (chunk Q K V G B) ⟨32 + r.val, by omega⟩ l ⟨32 + i.val, by omega⟩) :
    k0_pay101 (F := Ideal) V O (k0_pay99 Q G B) (k0_pay100 K G B) (ix2 r l)
      = ∑ s, part (chunk Q K V G B) ⟨32 + r.val, by omega⟩ l s := by
  pointwise [k0_pay101, k0_pay99, k0_pay98, k0_pay100]
  refine Eq.trans (congrArg₂ (· + ·) hO (congrArg₂ (· + ·) ?_ ?_)) (rows2 _ r l).symm
  · exact Finset.sum_congr rfl fun x _ => cross_mul hC 32 ⟨32 + r.val, by omega⟩ ⟨x.val, by omega⟩ (by dsimp only; omega) l
  · exact Finset.sum_congr rfl fun x _ => cross_mul hC 32 ⟨32 + r.val, by omega⟩ ⟨16 + x.val, by omega⟩ (by dsimp only; omega) l

theorem rows3_at (hC : Tame (chunk Q K V G B))
    (hO : O (ix2 r l) = ∑ i : Fin 16, part (chunk Q K V G B) ⟨48 + r.val, by omega⟩ l ⟨48 + i.val, by omega⟩) :
    k0_pay102 (F := Ideal) V Q K G B O (ix2 r l) = ∑ s, part (chunk Q K V G B) ⟨48 + r.val, by omega⟩ l s := by
  pointwise [k0_pay102]
  refine Eq.trans (congrArg₂ (· + ·) hO ?_) (rows3 _ r l).symm
  refine Finset.sum_congr rfl fun x _ => ?_
  refine Eq.trans ?_ (cross_mul hC 48 ⟨48 + r.val, by omega⟩ ⟨x.val, by omega⟩ (by dsimp only; omega) l)
  by_cases h1 : x.val < 16
  · simp only [dif_pos h1]
    rfl
  · by_cases h2 : x.val - 16 < 16
    · have e : 16 + (x.val - 16) = x.val := by omega
      simp only [dif_neg h1, dif_pos h2, e]
      rfl
    · have e : 32 + (x.val - 16 - 16) = x.val := by omega
      simp only [dif_neg h1, dif_neg h2, e]
      rfl

/-- The four blocks of rows put together, and the state's share added. -/
theorem out_at (A0 A1 A2 A3 : FVec Ideal S16x1024 .f32) (f : Fin 64 → EReal) (i : Fin 64)
    (h0 : ∀ r : Fin 16, A0 (ix2 r l) = f ⟨0 + r.val, by omega⟩) (h1 : ∀ r : Fin 16, A1 (ix2 r l) = f ⟨16 + r.val, by omega⟩)
    (h2 : ∀ r : Fin 16, A2 (ix2 r l) = f ⟨32 + r.val, by omega⟩) (h3 : ∀ r : Fin 16, A3 (ix2 r l) = f ⟨48 + r.val, by omega⟩) :
    k0_pay105 (F := Ideal) S Q A0 A1 A2 A3 (k0_pay103 B) (ix2 i l)
      = f i + held (chunk Q K V G B) (fun h v e => S (ix3 h v e)) i l := by
  pointwise [k0_pay105, k0_pay103]
  refine congrArg (· + held (chunk Q K V G B) (fun h v e => S (ix3 h v e)) i l) ?_
  by_cases c0 : i.val < 16
  · rw [dif_pos c0, h0]
    exact congrArg f (Fin.ext (Nat.zero_add _))
  · by_cases c1 : i.val - 16 < 16
    · rw [dif_neg c0, dif_pos c1, h1]
      exact congrArg f (Fin.ext (by dsimp only; omega))
    · by_cases c2 : i.val - 16 - 16 < 16
      · rw [dif_neg c0, dif_neg c1, dif_pos c2, h2]
        exact congrArg f (Fin.ext (by dsimp only; omega))
      · rw [dif_neg c0, dif_neg c1, dif_neg c2, h3]
        exact congrArg f (Fin.ext (by dsimp only; omega))

theorem next_at (h : Fin 8) (v e : Fin 128) :
    k0_pay1 (F := Ideal) (k0_pay104 S V K B) (ix3 h v e) = next (chunk Q K V G B) (fun h v e => S (ix3 h v e)) h v e := by
  pointwise [k0_pay1, k0_pay104]
  rfl

end Cert.HfPay

end
-- ==== Proof.HfIn.lean ====
/-
  The gated linear recurrence from its inputs: the chunk of 64 rows at a place of the projection, and the state that
  reaches it.
-/
module

public import proofs.«01_k».proof.Proof.HfSpec

@[expose] public section

noncomputable section

open Idealize.ShloMosaic

namespace Cert.HfSpec

/-- Row `i` of chunk `n`. -/
def row (n : ℕ) (i : Fin 64) : Fin 2304 := ⟨n % 36 * 64 + i.val, by have := i.isLt; have := Nat.mod_lt n (by decide : 0 < 36); omega⟩

variable (x : Fin 2304 → Fin 13568 → EReal) (lb : Fin 2 → Fin 1024 → EReal)

/-- The gate of a row and channel: the lower bound is the softmax share of the first of the two rows of `lb`. -/
def gateAt (n : ℕ) (i : Fin 64) (l : Fin 1024) : EReal :=
  gate (Ideal.logistic (lb 0 l - lb 1 l)) (x (row n i) ⟨2048 + l.val, by omega⟩)

/-- Chunk `n` of the projection. -/
def chunkOf (n : ℕ) : Chunk where
  q i l := x (row n i) ⟨l.val, by omega⟩ * Ideal.logistic (x (row n i) ⟨l.val, by omega⟩)
  k i l := 1 - gateAt x lb n i l
  v i l := x (row n i) ⟨1024 + l.val, by omega⟩
  g i l := Ideal.log (gateAt x lb n i l)
  b i l := upto (fun s => Ideal.log (gateAt x lb n s l)) i

/-- The state before chunk `n`. -/
def St : ℕ → State
  | 0 => fun _ _ _ => 0
  | n + 1 => next (chunkOf x lb n) (St n)

/-- Row `n`, channel `l` of the output. -/
def outAt (r : Fin 2304) (l : Fin 1024) : EReal :=
  out (chunkOf x lb (r.val / 64)) (St x lb (r.val / 64)) ⟨r.val % 64, by omega⟩ l

theorem tame_chunk (h : ∀ j l, ∃ r : ℝ, lb j l = r) (n : ℕ) : Tame (chunkOf x lb n) := by
  have hg : ∀ i l, ∃ r : ℝ, r ≤ 0 ∧ (chunkOf x lb n).g i l = r := by
    intro i l
    obtain ⟨a, ha⟩ := h 0 l
    obtain ⟨b, hb⟩ := h 1 l
    obtain ⟨r, hr, e⟩ := log_gate a b (x (row n i) ⟨2048 + l.val, by omega⟩)
    refine ⟨r, hr, ?_⟩
    show Ideal.log (gate (Ideal.logistic (lb 0 l - lb 1 l)) _) = _
    rw [ha, hb]
    exact e
  refine ⟨fun i l => (hg i l).imp fun _ h => h.2, fun i l => (upto_tame _ fun s => hg s l).1 i,
    fun s t hs l => (upto_tame _ fun s => hg s l).2 s t hs⟩

end Cert.HfSpec

end
-- ==== Proof.HfVal.lean ====
/-
  The kernel's two results: by induction along the grid the scratch holds the state after each chunk, so each point's
  block of values and of states is the plain text of `HfIn`.
-/
module

public import proofs.«01_k».proof.Proof.HfPay
public import proofs.«01_k».proof.Proof.HfIn
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.HfVal

open Cert.HgScanFwd0Ideal Cert.HgScanFwd0Ideal.Gen Cert.HfSpec Cert.HfPay

/-- A chunk from what the body reads. -/
def seen (x0 x1 x2 : FVec Ideal S64x1024 .f32) (lb : FVec Ideal S2x1024 .f32) : Chunk :=
  chunk (k0_pay4 x0) (k0_pay6 x2 lb) x1 (k0_pay7 x2 lb) (k0_pay9 (k0_pay8 x2 lb) (FloatOps.ofBits FTy.f32 0#32))

theorem seen_eq (x0 x1 x2 : FVec Ideal S64x1024 .f32) (lb : FVec Ideal S2x1024 .f32) (x : Fin 2304 → Fin 13568 → EReal)
    (b : Fin 2 → Fin 1024 → EReal) (n : ℕ) (h0 : ∀ i l, x0 (ix2 i l) = x (row n i) ⟨l.val, by omega⟩)
    (h1 : ∀ i l, x1 (ix2 i l) = x (row n i) ⟨1024 + l.val, by omega⟩)
    (h2 : ∀ i l, x2 (ix2 i l) = x (row n i) ⟨2048 + l.val, by omega⟩) (hb : ∀ j l, lb (ix2 j l) = b j l) :
    seen x0 x1 x2 lb = chunkOf x b n := by
  have e5 : ∀ (i : Fin 64) (l : Fin 1024), k0_pay5 (F := Ideal) x2 lb (ix2 i l) = gateAt x b n i l := by
    intro i l
    pointwise [k0_pay5]
    rw [h2, hb, hb]
    rfl
  have e4 : ∀ (i : Fin 64) (l : Fin 1024), k0_pay4 (F := Ideal) x0 (ix2 i l) = (chunkOf x b n).q i l := by
    intro i l
    pointwise [k0_pay4]
    rw [h0]
    rfl
  have e6 : ∀ (i : Fin 64) (l : Fin 1024), k0_pay6 (F := Ideal) x2 lb (ix2 i l) = (chunkOf x b n).k i l := by
    intro i l
    unfold k0_pay6
    pointwise
    rw [e5]
    rfl
  have e7 : ∀ (i : Fin 64) (l : Fin 1024), k0_pay7 (F := Ideal) x2 lb (ix2 i l) = (chunkOf x b n).g i l := by
    intro i l
    unfold k0_pay7
    pointwise
    rw [e5]
    rfl
  have e9 : ∀ (i : Fin 64) (l : Fin 1024),
      k0_pay9 (F := Ideal) (k0_pay8 x2 lb) (FloatOps.ofBits FTy.f32 0#32) (ix2 i l) = (chunkOf x b n).b i l := by
    intro i l
    rw [sum_at, (funext fun s => e7 s l : (fun s => k0_pay7 (F := Ideal) x2 lb (ix2 s l)) = _)]
    rfl
  show Chunk.mk _ _ _ _ _ = Chunk.mk _ _ _ _ _
  congr 1 <;> funext i l
  · exact e4 i l
  · exact e6 i l
  · exact h1 i l
  · exact e7 i l
  · exact e9 i l

/-- The body's block of values, as the body computes it. -/
def body (x2 : FVec Ideal S64x1024 .f32) (lb : FVec Ideal S2x1024 .f32) (Q K V G B : FVec Ideal S64x1024 .f32)
    (S : FVec Ideal S8x128x128 .f32) : FVec Ideal S64x1024 .f32 :=
      k0_pay105 (F := Ideal) S Q (k0_pay26 (k0_pay10 Q) (k0_pay11 K) (k0_pay12 V) (k0_pay13 (k0_pay8 x2 lb)
      (FloatOps.ofBits FTy.f32 0#32)) (k0_pay25 (k0_pay10 Q) (k0_pay11 K) (k0_pay12 V) (k0_pay13 (k0_pay8 x2 lb)
      (FloatOps.ofBits FTy.f32 0#32)) (k0_pay22 (k0_pay10 Q) (k0_pay11 K) (k0_pay12 V) (k0_pay13 (k0_pay8 x2 lb)
      (FloatOps.ofBits FTy.f32 0#32)) (k0_pay21 (k0_pay10 Q) (k0_pay11 K) (k0_pay12 V) (k0_pay13 (k0_pay8 x2 lb)
      (FloatOps.ofBits FTy.f32 0#32)) (k0_pay18 (k0_pay10 Q) (k0_pay11 K) (k0_pay12 V) (k0_pay13 (k0_pay8 x2 lb)
      (FloatOps.ofBits FTy.f32 0#32)) (k0_pay17 (k0_pay10 Q) (k0_pay11 K) (k0_pay12 V) (k0_pay13 (k0_pay8 x2 lb)
      (FloatOps.ofBits FTy.f32 0#32)) (k0_pay14 V Q K (k0_pay8 x2 lb) (FloatOps.ofBits FTy.f32 0#32)) (k0_pay15
      (k0_pay8 x2 lb) (FloatOps.ofBits FTy.f32 0#32)) (k0_pay16 Q K))) (k0_pay19 (k0_pay13 (k0_pay8 x2 lb)
      (FloatOps.ofBits FTy.f32 0#32))) (k0_pay20 (k0_pay10 Q) (k0_pay11 K)))) (k0_pay23 (k0_pay13 (k0_pay8 x2 lb)
      (FloatOps.ofBits FTy.f32 0#32))) (k0_pay24 (k0_pay10 Q) (k0_pay11 K)))) (k0_pay97 V Q K G B (k0_pay49 (k0_pay29
      V) (k0_pay45 (k0_pay27 Q) (k0_pay28 K) (k0_pay29 V) (k0_pay30 B) (k0_pay43 (k0_pay27 Q) (k0_pay28 K) (k0_pay29
      V) (k0_pay30 B) (k0_pay40 (k0_pay27 Q) (k0_pay28 K) (k0_pay29 V) (k0_pay30 B) (k0_pay38 (k0_pay27 Q) (k0_pay28
      K) (k0_pay29 V) (k0_pay30 B) (k0_pay35 (k0_pay27 Q) (k0_pay28 K) (k0_pay29 V) (k0_pay30 B) (k0_pay33 (k0_pay27
      Q) (k0_pay28 K) (k0_pay29 V) (k0_pay30 B) k0_pay31 (k0_pay32 B) (FloatOps.ofBits FTy.f32 0#32)) (k0_pay34
      (k0_pay27 Q) (k0_pay28 K) (k0_pay29 V) (k0_pay30 B)) (FloatOps.ofBits FTy.f32 0#32)) (k0_pay36 (k0_pay30 B))
      (k0_pay37 (k0_pay27 Q))) (k0_pay39 (k0_pay27 Q) (k0_pay28 K) (k0_pay29 V) (k0_pay30 B)) (FloatOps.ofBits FTy.f32
      0#32)) (k0_pay41 (k0_pay30 B)) (k0_pay42 (k0_pay27 Q))) (k0_pay44 (k0_pay27 Q) (k0_pay28 K) (k0_pay29 V)
      (k0_pay30 B)) (FloatOps.ofBits FTy.f32 0#32)) (k0_pay46 (k0_pay30 B)) (k0_pay47 (k0_pay27 Q)) (k0_pay48
      (k0_pay28 K)))) (k0_pay101 V (k0_pay72 (k0_pay50 Q) (k0_pay51 K) (k0_pay52 V) (k0_pay53 B) (k0_pay69 (k0_pay50
      Q) (k0_pay51 K) (k0_pay52 V) (k0_pay53 B) (k0_pay66 (k0_pay50 Q) (k0_pay51 K) (k0_pay52 V) (k0_pay53 B)
      (k0_pay63 (k0_pay50 Q) (k0_pay51 K) (k0_pay52 V) (k0_pay53 B) (k0_pay60 (k0_pay50 Q) (k0_pay51 K) (k0_pay52 V)
      (k0_pay53 B) (k0_pay57 (k0_pay50 Q) (k0_pay51 K) (k0_pay52 V) (k0_pay53 B) (k0_pay54 V Q K B) (k0_pay55 V)
      (k0_pay56 Q K B)) (k0_pay58 (k0_pay53 B)) k0_pay59) (k0_pay61 (k0_pay52 V)) (k0_pay62 (k0_pay50 Q) (k0_pay51 K)
      (k0_pay53 B))) (k0_pay64 (k0_pay53 B)) k0_pay65) (k0_pay67 (k0_pay52 V)) (k0_pay68 (k0_pay50 Q) (k0_pay51 K)
      (k0_pay53 B))) (k0_pay70 (k0_pay53 B)) k0_pay71) (k0_pay99 Q G B) (k0_pay100 K G B)) (k0_pay102 V Q K G B
      (k0_pay96 (k0_pay93 (k0_pay73 Q) (k0_pay74 K) (k0_pay75 V) (k0_pay76 B) (k0_pay90 (k0_pay73 Q) (k0_pay74 K)
      (k0_pay75 V) (k0_pay76 B) (k0_pay88 (k0_pay73 Q) (k0_pay74 K) (k0_pay75 V) (k0_pay76 B) (k0_pay85 (k0_pay73 Q)
      (k0_pay74 K) (k0_pay75 V) (k0_pay76 B) (k0_pay83 (k0_pay73 Q) (k0_pay74 K) (k0_pay75 V) (k0_pay76 B) (k0_pay80
      (k0_pay73 Q) (k0_pay74 K) (k0_pay75 V) (k0_pay76 B) k0_pay77 (k0_pay78 B) (k0_pay79 Q K)) (k0_pay81 (k0_pay76
      B)) (k0_pay82 (k0_pay76 B))) (k0_pay84 (k0_pay73 Q) (k0_pay74 K) (k0_pay76 B))) (k0_pay86 (k0_pay76 B))
      (k0_pay87 (k0_pay76 B))) (k0_pay89 (k0_pay73 Q) (k0_pay74 K) (k0_pay76 B))) (k0_pay91 (k0_pay76 B)) (k0_pay92
      (k0_pay76 B))) (k0_pay94 (k0_pay73 Q) (k0_pay74 K) (k0_pay76 B)) (k0_pay95 (k0_pay75 V)))) (k0_pay103 B)

theorem full_at (x2 : FVec Ideal S64x1024 .f32) (lb : FVec Ideal S2x1024 .f32) (Q K V G B : FVec Ideal S64x1024 .f32)
    (S : FVec Ideal S8x128x128 .f32) (i : Fin 64) (l : Fin 1024)
    (hB : B = k0_pay9 (k0_pay8 x2 lb) (FloatOps.ofBits FTy.f32 0#32)) (hC : Tame (chunk Q K V G B)) :
    body x2 lb Q K V G B S (ix2 i l)
    = out (chunk Q K V G B) (fun h v e => S (ix3 h v e)) i l := by
  unfold body
  refine out_at Q K V G B S l _ _ _ _ (fun i => ∑ s, part (chunk Q K V G B) i l s) i (fun r => ?_) (fun r => ?_) (fun r => ?_) fun r => ?_
  · refine (block0 Q K V G B _ r l _ fun r h e => ?_).trans (rows0 _ r l).symm
    subst hB
    generalize k0_pay8 (F := Ideal) x2 lb = P
    unfold k0_pay13
    generalize k0_pay9 (F := Ideal) P (FloatOps.ofBits FTy.f32 0#32) = B
    pointwise
    rfl
  · exact rows1_at Q K V G B r l _ hC (block1 Q K V G B r l)
  · exact rows2_at Q K V G B r l _ hC (block2 Q K V G B r l)
  · exact rows3_at Q K V G B r l _ hC (block3 Q K V G B r l)

variable (m : (ℓ : Loc nD τ sig) → Buf (Elt Ideal) ℓ)

/-- The projection and the gates' bounds at launch. -/
def X (c : Dev nD) (r : Fin 2304) (k : Fin 13568) : EReal := m ((c : Thread nD τ).loc main_arg0) (ix2 r k)
def L (c : Dev nD) (j : Fin 2) (l : Fin 1024) : EReal := m ((c : Thread nD τ).loc main_arg1) (ix2 j l)

theorem idx : ∀ t : Fin cfg0.N, win0_0.index t = ![t.val, 0] ∧ win0_1.index t = ![t.val, 1] ∧ win0_2.index t = ![t.val, 2]
    ∧ win0_3.index t = ![0, 0] ∧ win0_4.index t = ![t.val, 0] ∧ win0_5.index t = ![t.val, 0, 0, 0] :=
  (by decide +kernel : ∀ t : Fin grid0.N, _)

theorem lt_N (t : Fin cfg0.N) : t.val < 36 := lt_of_lt_of_eq t.isLt N_0

theorem seen_at (c : Dev nD) (t : Fin cfg0.N) :
    seen (X0_0 m c t) (X0_1 m c t) (X0_2 m c t) (iblk m c 3 t) = chunkOf (X m c) (L m c) t.val := by
  have ht := lt_N t
  refine seen_eq _ _ _ _ _ _ _ (fun i l => ?_) (fun i l => ?_) (fun i l => ?_) fun j l => ?_
  · unfold X0_0 Pipeline.Window.fill
    rw [dif_pos (moved0_0 t _)]
    unfold X row
    blk_point [iblk, V, idx t]
  · unfold X0_1 Pipeline.Window.fill
    rw [dif_pos (moved0_1 t _)]
    unfold X row
    blk_point [iblk, V, idx t]
  · unfold X0_2 Pipeline.Window.fill
    rw [dif_pos (moved0_2 t _)]
    unfold X row
    blk_point [iblk, V, idx t]
  · unfold L
    blk_point [iblk, V, idx t]

/-- The scratch before and after a point. -/
theorem zero_at (h : Fin 8) (v e : Fin 128) : k0_pay2 (F := Ideal) (ix3 h v e) = 0 := by pointwise [k0_pay2]

theorem next_seen (c : Dev nD) (t : Fin cfg0.N) (S : FVec Ideal S8x128x128 .f32)
    (hS : ∀ h v e, S (ix3 h v e) = St (X m c) (L m c) t.val h v e) (h : Fin 8) (v e : Fin 128) :
    k0_pay1 (F := Ideal) (k0_pay104 S (X0_1 m c t) (k0_pay6 (X0_2 m c t) (iblk m c 3 t))
      (k0_pay9 (k0_pay8 (X0_2 m c t) (iblk m c 3 t)) (FloatOps.ofBits FTy.f32 0#32))) (ix3 h v e)
      = St (X m c) (L m c) (t.val + 1) h v e := by
  have e1 := seen_at m c t
  unfold seen at e1
  refine (next_at (k0_pay4 (X0_0 m c t)) _ _ (k0_pay7 (X0_2 m c t) (iblk m c 3 t)) _ S h v e).trans ?_
  rw [e1, (funext fun h => funext fun v => funext fun e => hS h v e : (fun h v e => S (ix3 h v e)) = _)]
  rfl

theorem state_at (c : Dev nD) (n : ℕ) (hn : n < cfg0.N) (h : Fin 8) (v e : Fin 128) :
    (outsAt0 m c n hn).2.2 (ix3 h v e) = St (X m c) (L m c) (n + 1) h v e := by
  induction n generalizing h v e with
  | zero =>
    rw [outsAt0_A m c ⟨0, hn⟩ rfl]
    frame_out
    exact next_seen m c ⟨0, hn⟩ _ zero_at h v e
  | succ n ih =>
    have h36 := lt_N ⟨n + 1, hn⟩
    rw [outsAt0_B m c ⟨n + 1, hn⟩ (by dsimp only at h36 ⊢; omega)]
    frame_out
    refine next_seen m c ⟨n + 1, hn⟩ _ (fun h v e => ?_) h v e
    rw [read_unread_whole]
    exact ih _ h v e

theorem outs_seen (c : Dev nD) (hL : ∀ j l, ∃ r : ℝ, L m c j l = r) (t : Fin cfg0.N) (S : FVec Ideal S8x128x128 .f32)
    (hS : ∀ h v e, S (ix3 h v e) = St (X m c) (L m c) t.val h v e) (i : Fin 64) (l : Fin 1024) :
    body (X0_2 m c t) (iblk m c 3 t) (k0_pay4 (X0_0 m c t)) (k0_pay6 (X0_2 m c t) (iblk m c 3 t)) (X0_1 m c t)
      (k0_pay7 (X0_2 m c t) (iblk m c 3 t))
      (k0_pay9 (k0_pay8 (X0_2 m c t) (iblk m c 3 t)) (FloatOps.ofBits FTy.f32 0#32)) S (ix2 i l) = out (chunkOf (X m c) (L m c) t.val) (St (X m c) (L m c) t.val) i l := by
  have e1 := seen_at m c t
  unfold seen at e1
  refine (full_at _ _ _ _ _ _ _ S i l rfl (by rw [e1]; exact tame_chunk _ _ hL _)).trans ?_
  rw [e1, (funext fun h => funext fun v => funext fun e => hS h v e : (fun h v e => S (ix3 h v e)) = _)]

theorem pay3_at (S : FVec Ideal S8x128x128 .f32) (h : Fin 8) (v e : Fin 128) :
    k0_pay3 (F := Ideal) S (ix4 0 h v e) = S (ix3 h v e) := by pointwise [k0_pay3]

/-- What the scratch holds when point `t` starts. -/
theorem held_at (c : Dev nD) (t : Fin cfg0.N) (h0 : ¬ t.val % 36 = 0) (hn : t.val - 1 < cfg0.N) (h : Fin 8) (v e : Fin 128) :
    (outsAt0 m c (t.val - 1) hn).2.2 (ix3 h v e) = St (X m c) (L m c) t.val h v e := by
  have e1 : t.val = t.val - 1 + 1 := by have := lt_N t; omega
  rw [state_at, ← e1]

theorem start_at (c : Dev nD) (t : Fin cfg0.N) (h0 : t.val % 36 = 0) (h : Fin 8) (v e : Fin 128) :
    k0_pay2 (F := Ideal) (ix3 h v e) = St (X m c) (L m c) t.val h v e := by
  have e1 : t.val = 0 := by have := lt_N t; omega
  rw [zero_at, e1]
  rfl

theorem outAt_of {x : Fin 2304 → Fin 13568 → EReal} {lb : Fin 2 → Fin 1024 → EReal} (n : ℕ) (i : Fin 64) (l : Fin 1024) (r : Fin 2304) (l' : Fin 1024)
    (hr : r.val = n * 64 + i.val) (hl : l'.val = l.val) : out (chunkOf x lb n) (St x lb n) i l = outAt x lb r l' := by
  obtain rfl : l' = l := Fin.ext hl
  have h1 : r.val / 64 = n := by omega
  have h2 : (⟨r.val % 64, by omega⟩ : Fin 64) = i := Fin.ext (by dsimp only; omega)
  unfold outAt
  rw [h1, h2]

/-- The first result after the run: the values. -/
theorem final_out (c : Dev nD) (hL : ∀ j l, ∃ r : ℝ, L m c j l = r) : (dats m 0 c).arrAt 4 cfg0.N
    = (fun j => outAt (X m c) (L m c) (j 0) (j 1) : FVec Ideal S2304x1024 .f32) := by
  refine (dats m 0 c).arrAt_eq_of_covers 4 _ (by decide +kernel) fun t _ y => ?_
  have ht := lt_N t
  blk_simp
  rw [after0_4]
  by_cases h : t.val % 36 = 0
  · rw [outsAt0_A m c t h]
    frame_out
    idx_vars y
    refine (outs_seen m c hL t _ (start_at m c t h) y0 y1).trans (outAt_of _ _ _ _ _ ?_ ?_) <;> blk_simp [idx t]
  · rw [outsAt0_B m c t h]
    frame_out
    idx_vars y
    rw [read_unread_whole]
    refine (outs_seen m c hL t _ (held_at m c t h _) y0 y1).trans (outAt_of _ _ _ _ _ ?_ ?_) <;> blk_simp [idx t]

/-- The second result after the run: the state before each chunk. -/
theorem final_states (c : Dev nD) : (dats m 0 c).arrAt 5 cfg0.N
    = (fun j => St (X m c) (L m c) (j 0).val (j 1) (j 2) (j 3) : FVec Ideal S36x8x128x128 .f32) := by
  refine (dats m 0 c).arrAt_eq_of_covers 5 _ (by decide +kernel) fun t _ y => ?_
  have ht := lt_N t
  have same : ∀ (n n' : ℕ) (h h' : Fin 8) (v v' e e' : Fin 128), n = n' → h.val = h'.val → v.val = v'.val → e.val = e'.val →
      St (X m c) (L m c) n h v e = St (X m c) (L m c) n' h' v' e' := by
    intro n n' h h' v v' e e' hn hh hv he
    obtain rfl := Fin.ext hh
    obtain rfl := Fin.ext hv
    obtain rfl := Fin.ext he
    rw [hn]
  blk_simp
  rw [after0_5]
  by_cases h : t.val % 36 = 0
  · rw [outsAt0_A m c t h]
    frame_out
    idx_vars y
    obtain rfl : y0 = 0 := Subsingleton.elim _ _
    refine ((pay3_at _ y1 y2 y3).trans (start_at m c t h y1 y2 y3)).trans (same _ _ _ _ _ _ _ _ ?_ ?_ ?_ ?_) <;> blk_simp [idx t]
  · rw [outsAt0_B m c t h]
    frame_out
    idx_vars y
    obtain rfl : y0 = 0 := Subsingleton.elim _ _
    rw [read_unread_whole]
    refine ((pay3_at _ y1 y2 y3).trans (held_at m c t h _ y1 y2 y3)).trans (same _ _ _ _ _ _ _ _ ?_ ?_ ?_ ?_) <;> blk_simp [idx t]

end Cert.HfVal

end
-- ==== Proof.HfWin.lean ====
/-
  Running sums as the host writes them, a window that ends at each row: the window's sum is the plain sum of the rows up
  to that row.  The lower bound of the gates, the first of two running sums of a softmax, is a logistic of a difference.
-/
module

public import proofs.«01_k».proof.Proof.HfIn
public import Idealize.ShloMosaic.Lib.Pointwise

@[expose] public section

set_option maxRecDepth 16384

noncomputable section

open Idealize.ShloMosaic

namespace Cert.HfSpec

theorem fold_sum {n : ℕ} (f : Fin n → EReal) (v : EReal) : (List.finRange n).foldl (fun r i => r + f i) v = v + ∑ i, f i := by
  have e : ∀ (l : List (Fin n)) (v : EReal), l.foldl (fun r i => r + f i) v = v + (l.map f).sum := by
    intro l
    induction l with
    | nil => intro v; exact (add_zero v).symm
    | cons a l ih => intro v; rw [List.foldl_cons, ih, List.map_cons, List.sum_cons, add_assoc]
  rw [e, Fin.sum_univ_def]

/-- A window's sum from zero, position by position. -/
theorem window_sum {s t u : Shape} (window strides lo hi : Fin s.rank → Nat) (x : FVec Ideal s .f32) (init : FVec Ideal u .f32)
    (h : s.ReduceWindows window strides lo hi t) (hu : 0 < u.numel) (h0 : init (Shape.Idx.first hu) = (0 : EReal)) (j : t.Idx) :
    Host.reduceWindowAdd window strides lo hi x init h hu j
      = ∑ p : (⟨s.rank, window⟩ : Shape).Idx,
        if hin : ∀ a, lo a ≤ (j (a.cast h.1.symm)).val * strides a + (p a).val
            ∧ (j (a.cast h.1.symm)).val * strides a + (p a).val - lo a < s.size a
          then x (fun a => ⟨(j (a.cast h.1.symm)).val * strides a + (p a).val - lo a, (hin a).2⟩) else (0 : EReal) := by
  show Host.reduceWindow (· + ·) window strides lo hi x (fun _ : (⟨0, ![]⟩ : Shape).Idx => init (Shape.Idx.first hu)) h (by decide) j = _
  rw [h0]
  unfold Host.reduceWindow
  refine (fold_sum _ _).trans ((zero_add _).trans ?_)
  exact Fintype.sum_equiv (Shape.rowMajor ⟨s.rank, window⟩).symm _ _ fun n => by dsimp only; congr

/-- The running sum of 64 rows. -/
theorem rows_sum (x : FVec Ideal ⟨4, ![1, 8, 64, 128]⟩ .f32) (init : FVec Ideal ⟨0, ![]⟩ .f32)
    (h : (⟨4, ![1, 8, 64, 128]⟩ : Shape).ReduceWindows ![1, 1, 64, 1] ![1, 1, 1, 1] ![0, 0, 63, 0] ![0, 0, 0, 0] ⟨4, ![1, 8, 64, 128]⟩)
    (hu : 0 < (⟨0, ![]⟩ : Shape).numel) (h0 : init (Shape.Idx.first hu) = (0 : EReal)) (k : Fin 8) (i : Fin 64) (e : Fin 128) :
    Host.reduceWindowAdd ![1, 1, 64, 1] ![1, 1, 1, 1] ![0, 0, 63, 0] ![0, 0, 0, 0] x init h hu (ix4 0 k i e)
      = upto (fun s => x (ix4 0 k s e)) i := by
  rw [window_sum _ _ _ _ x init h hu h0, ← window_upto]
  refine (sum_idx4 (n0 := 1) (n1 := 1) (n2 := 64) (n3 := 1) _).trans ?_
  simp only [Fin.sum_univ_one, Fin.isValue]
  refine Finset.sum_congr rfl fun d _ => ?_
  by_cases c : 63 ≤ i.val + d.val
  · rw [dif_pos c, dif_pos (by
      intro a
      match a with
      | ⟨0, _⟩ => exact ⟨Nat.zero_le _, Nat.one_pos⟩
      | ⟨1, _⟩ => exact ⟨Nat.zero_le _, by show k.val * 1 + 0 - 0 < 8; omega⟩
      | ⟨2, _⟩ => exact ⟨by show 63 ≤ i.val * 1 + d.val; omega, by show i.val * 1 + d.val - 63 < 64; omega⟩
      | ⟨3, _⟩ => exact ⟨Nat.zero_le _, by show e.val * 1 + 0 - 0 < 128; omega⟩)]
    refine congrArg x (funext fun a => Fin.ext ?_)
    match a with
    | ⟨0, _⟩ => rfl
    | ⟨1, _⟩ => show k.val * 1 + 0 - 0 = k.val; omega
    | ⟨2, _⟩ => show i.val * 1 + d.val - 63 = i.val + d.val - 63; omega
    | ⟨3, _⟩ => show e.val * 1 + 0 - 0 = e.val; omega
  · rw [dif_neg c, dif_neg fun hin => c (by
      have h2 : 63 ≤ i.val * 1 + d.val := (hin 2).1
      omega)]

/-- The first of two running sums is the first row. -/
theorem first_sum (x : FVec Ideal ⟨2, ![2, 1024]⟩ .f32) (init : FVec Ideal ⟨0, ![]⟩ .f32)
    (h : (⟨2, ![2, 1024]⟩ : Shape).ReduceWindows ![2, 1] ![1, 1] ![1, 0] ![0, 0] ⟨2, ![2, 1024]⟩)
    (hu : 0 < (⟨0, ![]⟩ : Shape).numel) (h0 : init (Shape.Idx.first hu) = (0 : EReal)) (l : Fin 1024) :
    Host.reduceWindowAdd ![2, 1] ![1, 1] ![1, 0] ![0, 0] x init h hu (ix2 0 l) = x (ix2 0 l) := by
  rw [window_sum _ _ _ _ x init h hu h0]
  refine (sum_idx2 (n0 := 2) (n1 := 1) _).trans ?_
  simp only [Fin.sum_univ_two, Fin.sum_univ_one, Fin.isValue]
  rw [dif_neg (fun hin => by have h2 : 1 ≤ 0 * 1 + 0 := (hin 0).1; omega), zero_add, dif_pos (by
      intro a
      match a with
      | ⟨0, _⟩ => exact ⟨by show 1 ≤ 0 * 1 + 1; omega, by show 0 * 1 + 1 - 1 < 2; omega⟩
      | ⟨1, _⟩ => exact ⟨Nat.zero_le _, by show l.val * 1 + 0 - 0 < 1024; omega⟩)]
  refine congrArg x (funext fun a => Fin.ext ?_)
  match a with
  | ⟨0, _⟩ => rfl
  | ⟨1, _⟩ => show l.val * 1 + 0 - 0 = l.val; omega

/-- The softmax of two real numbers, its first share. -/
theorem share (a b c : ℝ) :
    Ideal.div (Ideal.exp ((a : EReal) - c)) (Ideal.exp ((a : EReal) - c) + Ideal.exp ((b : EReal) - c)) = Ideal.logistic ((a : EReal) - b) := by
  rw [← EReal.coe_sub, ← EReal.coe_sub, ← EReal.coe_sub, Ideal.exp_coe, Ideal.exp_coe, Ideal.logistic_coe, ← EReal.coe_add]
  have h1 := Real.exp_pos (a - c)
  have h2 := Real.exp_pos (b - c)
  rw [Ideal.div_coe (by positivity), ← EReal.coe_mul]
  congr 1
  have e1 : Real.exp (-(a - b)) = Real.exp (b - c) / Real.exp (a - c) := by
    rw [← Real.exp_sub]; congr 1; ring
  rw [e1]
  field_simp

end Cert.HfSpec

end
-- ==== Proof.HfRef.lean ====
/-
  What a scan's reference makes of the projection's columns and of the gates' bounds before its loop, as arrays.
-/
module

public import proofs.«01_k».proof.Proof.Gen.HgScanFwd0RefIdeal
public import proofs.«01_k».proof.Proof.HfWin
public import Idealize.ShloMosaic.Lib.Pointwise

@[expose] public section

set_option maxRecDepth 16384

noncomputable section

open Idealize.ShloMosaic Idealize.ShloMosaic.TcCoe Idealize.SL.Sem Idealize.ShloMosaic.StableHlo

namespace Cert.HfRef

open Cert.HgScanFwd0RefIdeal Cert.HgScanFwd0RefIdeal.Gen Cert.HfSpec

/-- The largest of real numbers is real. -/
theorem real_fold {ι : Type} (S : Finset ι) (f : ι → EReal) (b : EReal) (hb : b = ⊥) (hf : ∀ i, ∃ r : ℝ, f i = r) (hS : S.Nonempty) :
    ∃ t : ℝ, max b (S.fold max b f) = t := by
  subst hb
  obtain ⟨i, hi⟩ := hS
  have h1 : S.fold max ⊥ f ≠ ⊤ := ne_of_lt ((Finset.fold_max_lt _).2 ⟨bot_lt_top, fun x _ => by obtain ⟨r, hr⟩ := hf x; rw [hr]; exact EReal.coe_lt_top r⟩)
  have h2 : S.fold max ⊥ f ≠ ⊥ := ne_of_gt ((Finset.lt_fold_max _).2 (Or.inr ⟨i, hi, by obtain ⟨r, hr⟩ := hf i; rw [hr]; exact EReal.bot_lt_coe r⟩))
  exact ⟨_, (bot_sup_eq _).trans (EReal.coe_toReal h1 h2).symm⟩

/-- The chunks of the rows, one head after another. -/
def stack (w : FVec Ideal S2304x1024 .f32) : FVec Ideal S36x1x8x64x128 .f32 :=
  transpose S36x1x8x64x128 [1, 0, 3, 2, 4]
    (shapeCast S1x36x64x8x128 (shapeCast S1x2304x8x128 w shapeCasts_S2304x1024_S1x2304x8x128)
      shapeCasts_S1x2304x8x128_S1x36x64x8x128)
    transposes_S1x36x64x8x128_S36x1x8x64x128_1_0_3_2_4

theorem stack_at (w : FVec Ideal S2304x1024 .f32) (n : Fin 36) (h : Fin 8) (s : Fin 64) (e : Fin 128) :
    stack w (ix5 n 0 h s e) = w (ix2 (row n.val s) (lane h e)) := by
  unfold stack row lane
  pointwise
  exact congrArg w (congrArg₂ ix2 (Fin.ext (by change n.val * 64 + s.val = n.val % 36 * 64 + s.val; rw [Nat.mod_eq_of_lt n.isLt])) rfl)

/-- Ones over the rows. -/
def ones : FVec Ideal S2304x1024 .f32 := broadcastInDim S2304x1024 ![] bcast_S_S2304x1024 (constant (F := Ideal) S_ FTy.f32 1065353216#32)

def asks (w : FVec Ideal S2304x1024 .f32) : FVec Ideal S2304x1024 .f32 :=
  mulf w (Host.divf ones (addf ones (Host.exp (Host.negf w))))

/-- The larger bound of each lane. -/
def top (p : FVec Ideal S2x1024 .f32) : FVec Ideal S1024 .f32 :=
  maximumf (broadcastInDim S1024 ![] bcast_S_S1024 (constant (F := Ideal) S_ FTy.f32 4286578688#32))
    (Host.reduce FloatOps.maximumf p (constant (F := Ideal) S_ FTy.f32 4286578688#32)
      reducesTo_S2x1024_S1024_d0 h_S_)

/-- The weights of the two bounds, and their shares. -/
def weights (p : FVec Ideal S2x1024 .f32) : FVec Ideal S2x1024 .f32 :=
  Host.exp (F := Ideal) (subf p
    (broadcastInDim S2x1024 ![0, 1] bcast_S1x1024_S2x1024_0_1 (broadcastInDim S1x1024 ![1] bcast_S1024_S1x1024_1 (top p))))
def shares (p : FVec Ideal S2x1024 .f32) : FVec Ideal S2x1024 .f32 :=
  Host.divf (F := Ideal) (weights p)
    (broadcastInDim S2x1024 ![0, 1] bcast_S1x1024_S2x1024_0_1 (broadcastInDim S1x1024 ![1] bcast_S1024_S1x1024_1
      (Host.reduceAdd (weights p) (constant (F := Ideal) S_ FTy.f32 0#32) reducesTo_S2x1024_S1024_d0 h_S_)))

/-- The first of the running shares. -/
def low (p : FVec Ideal S2x1024 .f32) : FVec Ideal S1024 .f32 :=
  shapeCast S1024 (extractStridedSlice S1x1024 ![0, 0]
    (Host.reduceWindowAdd (F := Ideal) ![2, 1] ![1, 1] ![1, 0] ![0, 0] (shares p) (broadcastInDim S_ ![] bcast_S_S_ (constant (F := Ideal) S_ FTy.f32 0#32))
      reduceWindows_S2x1024_S2x1024_w2s1p1_0_w1s1p0_0 h_S_) slices_S2x1024_S1x1024_0_0) shapeCasts_S1x1024_S1024

def over (w : FVec Ideal S1024 .f32) : FVec Ideal S2304x1024 .f32 :=
  broadcastInDim S2304x1024 ![0, 1] bcast_S1x1024_S2304x1024_0_1 (broadcastInDim S1x1024 ![1] bcast_S1024_S1x1024_1 w)

def gates (w : FVec Ideal S2304x1024 .f32) (p : FVec Ideal S2x1024 .f32) : FVec Ideal S2304x1024 .f32 :=
  addf (over (low p)) (mulf
    (over (subf (broadcastInDim S1024 ![] bcast_S_S1024 (constant (F := Ideal) S_ FTy.f32 1065353216#32)) (low p)))
    (Host.divf ones (addf ones (Host.exp (Host.negf w)))))

/-- The mask of the rows that a row sees. -/
def tri : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

theorem tri_at (t s : Fin 64) : tri (ix2 t s) = if s.val ≤ t.val then 1#1 else 0#1 := by
  unfold tri
  pointwise
  revert t s
  decide +kernel

theorem asks_at (w : FVec Ideal S2304x1024 .f32) (r : Fin 2304) (l : Fin 1024) :
    asks w (ix2 r l) = w (ix2 r l) * Ideal.logistic (w (ix2 r l)) := by
  unfold asks ones
  pointwise
  rfl

theorem low_at (p : FVec Ideal S2x1024 .f32) (hL : ∀ j l, ∃ r : ℝ, p (ix2 j l) = r) (l : Fin 1024) :
    low p (ix1 l) = Ideal.logistic (p (ix2 0 l) - p (ix2 1 l)) := by
  obtain ⟨a, ha⟩ := hL 0 l
  obtain ⟨b, hb⟩ := hL 1 l
  have ht : ∃ t : ℝ, top p (ix1 l) = t := by
    unfold top
    pointwise
    refine real_fold _ _ _ ?_ (fun j => hL j l) ⟨0, Finset.mem_univ _⟩
    simp [Ideal.ofBits, Ideal.ieee]
  obtain ⟨t, ht⟩ := ht
  have hw : ∀ j, weights p (ix2 j l) = Ideal.exp (p (ix2 j l) - t) := by
    intro j
    unfold weights
    pointwise
    rw [ht]
  rw [ha, hb, ← share a b t, ← ha, ← hb, ← hw, ← hw]
  unfold low
  pointwise
  refine (first_sum (shares p) _ _ _ (by exact Ideal.ofBits_zero_f32) l).trans ?_
  unfold shares
  pointwise
  rw [Fin.sum_univ_two]

theorem gates_at (w : FVec Ideal S2304x1024 .f32) (p : FVec Ideal S2x1024 .f32) (hL : ∀ j l, ∃ r : ℝ, p (ix2 j l) = r) (r : Fin 2304) (l : Fin 1024) :
    gates w p (ix2 r l) = gate (Ideal.logistic (p (ix2 0 l) - p (ix2 1 l))) (w (ix2 r l)) := by
  rw [← low_at p hL]
  unfold gates over ones
  pointwise
  rfl

/-- The keys. -/
def keys (w : FVec Ideal S2304x1024 .f32) (p : FVec Ideal S2x1024 .f32) : FVec Ideal S2304x1024 .f32 := subf ones (gates w p)

theorem keys_at (w : FVec Ideal S2304x1024 .f32) (p : FVec Ideal S2x1024 .f32) (hL : ∀ j l, ∃ r : ℝ, p (ix2 j l) = r) (r : Fin 2304) (l : Fin 1024) :
    keys w p (ix2 r l) = 1 - gate (Ideal.logistic (p (ix2 0 l) - p (ix2 1 l))) (w (ix2 r l)) := by
  rw [← gates_at w p hL]
  unfold keys ones
  pointwise

end Cert.HfRef

end
-- ==== Proof.HfLoop.lean ====
/-
  One trip of a scan's reference, of whatever arrays its loop carries.
-/
module

public import proofs.«01_k».proof.Proof.HfRef

@[expose] public section

set_option maxRecDepth 16384

noncomputable section

open Idealize.ShloMosaic Idealize.ShloMosaic.TcCoe Idealize.SL.Sem Idealize.ShloMosaic.StableHlo

namespace Cert.HfRef

open Cert.HgScanFwd0RefIdeal Cert.HgScanFwd0RefIdeal.Gen Cert.HfSpec

/-! ## One row of a stack read and written -/

/-- Where a trip reads and writes: its counter's row. -/
def starts (w : IVec S_ 32) : Fin 5 → ℤ := fun k =>
  (((![w, constantI S_ 32 0#32, constantI S_ 32 0#32, constantI S_ 32 0#32, constantI S_ 32 0#32] :
    Fin 5 → (⟨S_, .i32⟩ : BufTy).Contents (Elt Ideal))) k (Shape.Idx.first h_S_)).toInt

theorem word_int : ∀ n : Fin 36, (BitVec.ofNat 32 n.val).toInt = n.val := by decide

theorem starts_at (w : IVec S_ 32) (n : Fin 36) (hw : w = fun _ => BitVec.ofNat 32 n.val) (a : Fin 5) :
    starts w a = ((![n.val, 0, 0, 0, 0] : Fin 5 → ℕ) a : ℤ) := by
  subst hw
  fin_cases a
  · exact word_int n
  all_goals rfl

theorem read_row {d e : ℕ} (x : FVec Ideal ⟨5, ![36, 1, 8, d, e]⟩ .f32) (st : Fin 5 → ℤ) (n : Fin 36)
    (hs : ∀ a, st a = ((![n.val, 0, 0, 0, 0] : Fin 5 → ℕ) a : ℤ))
    (h : (⟨5, ![36, 1, 8, d, e]⟩ : Shape).Slices (fun _ => 0) ⟨5, ![1, 1, 8, d, e]⟩) (j : Fin 8) (k : Fin d) (l : Fin e) :
    Host.dynamicSlice ⟨5, ![1, 1, 8, d, e]⟩ x st h (ix5 0 0 j k l) = x (ix5 n 0 j k l) := by
  have c : ∀ a, Host.clampedStart ⟨5, ![36, 1, 8, d, e]⟩ ⟨5, ![1, 1, 8, d, e]⟩ h.1 st a = (![n.val, 0, 0, 0, 0] : Fin 5 → ℕ) a := by
    intro a
    refine Host.clampedStart_of_le h.1 st a _ (hs a) ?_
    have := n.isLt
    fin_cases a
    · change n.val + 1 ≤ 36; omega
    · change 0 + 1 ≤ 1; omega
    · change 0 + 8 ≤ 8; omega
    · change 0 + d ≤ d; omega
    · change 0 + e ≤ e; omega
  rw [Host.dynamicSlice_apply]
  refine congrArg x ?_
  funext a
  apply Fin.ext
  change Host.clampedStart ⟨5, ![36, 1, 8, d, e]⟩ ⟨5, ![1, 1, 8, d, e]⟩ h.1 st a + _ = _
  rw [c]
  fin_cases a
  · rfl
  all_goals exact Nat.zero_add _

theorem write_row {d e : ℕ} (x : FVec Ideal ⟨5, ![36, 1, 8, d, e]⟩ .f32) (u : FVec Ideal ⟨5, ![1, 1, 8, d, e]⟩ .f32) (st : Fin 5 → ℤ) (n : Fin 36)
    (hs : ∀ a, st a = ((![n.val, 0, 0, 0, 0] : Fin 5 → ℕ) a : ℤ))
    (h : (⟨5, ![36, 1, 8, d, e]⟩ : Shape).Slices (fun _ => 0) ⟨5, ![1, 1, 8, d, e]⟩) (r : Fin 36) (j : Fin 8) (k : Fin d) (l : Fin e) :
    Host.dynamicUpdateSlice x u st h (ix5 r 0 j k l) = if r.val = n.val then u (ix5 0 0 j k l) else x (ix5 r 0 j k l) := by
  have c : ∀ a, Host.clampedStart ⟨5, ![36, 1, 8, d, e]⟩ ⟨5, ![1, 1, 8, d, e]⟩ h.1 st a = (![n.val, 0, 0, 0, 0] : Fin 5 → ℕ) a := by
    intro a
    refine Host.clampedStart_of_le h.1 st a _ (hs a) ?_
    have := n.isLt
    fin_cases a
    · change n.val + 1 ≤ 36; omega
    · change 0 + 1 ≤ 1; omega
    · change 0 + 8 ≤ 8; omega
    · change 0 + d ≤ d; omega
    · change 0 + e ≤ e; omega
  rw [Host.dynamicUpdateSlice_apply]
  by_cases hr : r.val = n.val
  · rw [if_pos hr, dif_pos ?_]
    · refine congrArg u ?_
      funext a
      apply Fin.ext
      change _ - Host.clampedStart ⟨5, ![36, 1, 8, d, e]⟩ ⟨5, ![1, 1, 8, d, e]⟩ h.1 st a = _
      rw [c]
      fin_cases a
      · change r.val - n.val = 0; omega
      all_goals rfl
    · intro a
      rw [c]
      have := r.isLt
      fin_cases a
      · change n.val ≤ r.val ∧ r.val < n.val + 1; omega
      · change 0 ≤ 0 ∧ 0 < 0 + 1; omega
      · change 0 ≤ j.val ∧ j.val < 0 + 8; omega
      · change 0 ≤ k.val ∧ k.val < 0 + d; omega
      · change 0 ≤ l.val ∧ l.val < 0 + e; omega
  · rw [if_neg hr, dif_neg]
    intro hin
    have h0 := hin 0
    rw [c] at h0
    change n.val ≤ r.val ∧ r.val < n.val + 1 at h0
    omega

theorem squeeze_at (y : FVec Ideal S1x1x8x64x128 .f32) (h : Fin 8) (s : Fin 64) (e : Fin 128) :
    shapeCast S1x8x64x128 y shapeCasts_S1x1x8x64x128_S1x8x64x128 (ix4 0 h s e) = y (ix5 0 0 h s e) := by
  pointwise

/-! ## One trip -/

/-- The state after a chunk, as an array of the chunk's keys, values and summed log gates and of the state before it. -/
def stateOf (k v b : FVec Ideal S1x8x64x128 .f32) (S : FVec Ideal S1x8x128x128 .f32) : FVec Ideal S1x8x128x128 .f32 :=
  addf (mulf (broadcastInDim S1x8x128x128 ![0, 1, 2, 3] bcast_S1x8x128x1_S1x8x128x128_0_1_2_3 (broadcastInDim S1x8x128x1 ![0, 1, 2] bcast_S1x8x128_S1x8x128x1_0_1_2
      (Host.exp (shapeCast S1x8x128 (extractStridedSlice S1x8x1x128 ![0, 0, 63, 0] b slices_S1x8x64x128_S1x8x1x128_0_0_63_0) shapeCasts_S1x8x1x128_S1x8x128)))) S)
    (Host.dotGeneral dot_S1x8x64x128_S1x8x64x128_S1x8x128x128_2_2_3_3_01_01 none
      (mulf k (Host.exp (subf (broadcastInDim S1x8x64x128 ![0, 1, 2, 3] bcast_S1x8x1x128_S1x8x64x128_0_1_2_3
        (extractStridedSlice S1x8x1x128 ![0, 0, 63, 0] b slices_S1x8x64x128_S1x8x1x128_0_0_63_0)) b))) v)

theorem stateOf_at (k v b : FVec Ideal S1x8x64x128 .f32) (S : FVec Ideal S1x8x128x128 .f32) (h : Fin 8) (e l : Fin 128) :
    stateOf k v b S (ix4 0 h e l) = Ideal.exp (b (ix4 0 h 63 e)) * S (ix4 0 h e l)
      + ∑ s : Fin 64, k (ix4 0 h s e) * Ideal.exp (b (ix4 0 h 63 e) - b (ix4 0 h s e)) * v (ix4 0 h s l) := by
  unfold stateOf
  pointwise

/-- The weights of a chunk's rows in each other's outputs. -/
def attOf (q k b : FVec Ideal S1x8x64x128 .f32) (w : IVec S64x64 1) : FVec Ideal S1x8x64x64 .f32 :=
  Host.reduceAdd (F := Ideal) (mulf
    (mulf (broadcastInDim S1x8x64x64x128 ![0, 1, 2, 3, 4] bcast_S1x8x64x1x128_S1x8x64x64x128_0_1_2_3_4 (broadcastInDim S1x8x64x1x128 ![0, 1, 2, 4] bcast_S1x8x64x128_S1x8x64x1x128_0_1_2_4 q))
      (broadcastInDim S1x8x64x64x128 ![0, 1, 2, 3, 4] bcast_S1x8x1x64x128_S1x8x64x64x128_0_1_2_3_4 (broadcastInDim S1x8x1x64x128 ![0, 1, 3, 4] bcast_S1x8x64x128_S1x8x1x64x128_0_1_3_4 k)))
    (select (broadcastInDim S1x8x64x64x128 ![2, 3, 4] bcast_S64x64x1_S1x8x64x64x128_2_3_4 (broadcastInDim S64x64x1 ![0, 1] bcast_S64x64_S64x64x1_0_1 w))
      (Host.exp (minimumf
        (subf (broadcastInDim S1x8x64x64x128 ![0, 1, 2, 3, 4] bcast_S1x8x64x1x128_S1x8x64x64x128_0_1_2_3_4 (broadcastInDim S1x8x64x1x128 ![0, 1, 2, 4] bcast_S1x8x64x128_S1x8x64x1x128_0_1_2_4 b))
          (broadcastInDim S1x8x64x64x128 ![0, 1, 2, 3, 4] bcast_S1x8x1x64x128_S1x8x64x64x128_0_1_2_3_4 (broadcastInDim S1x8x1x64x128 ![0, 1, 3, 4] bcast_S1x8x64x128_S1x8x1x64x128_0_1_3_4 b)))
        (broadcastInDim S1x8x64x64x128 ![] bcast_S_S1x8x64x64x128 (constant (F := Ideal) S_ .f32 0x00000000#32))))
      (broadcastInDim S1x8x64x64x128 ![] bcast_S_S1x8x64x64x128 (constant (F := Ideal) S_ .f32 0x00000000#32))))
    (constant (F := Ideal) S_ .f32 0x00000000#32) reducesTo_S1x8x64x64x128_S1x8x64x64_d4 h_S_

theorem attOf_at (q k b : FVec Ideal S1x8x64x128 .f32) (w : IVec S64x64 1) (h : Fin 8) (t s : Fin 64) :
    attOf q k b w (ix4 0 h t s) = ∑ e : Fin 128, q (ix4 0 h t e) * k (ix4 0 h s e)
      * Scalar.select (w (ix2 t s)) (Ideal.exp (min (b (ix4 0 h t e) - b (ix4 0 h s e)) 0)) 0 := by
  unfold attOf
  pointwise

/-- The outputs of a chunk. -/
def outOf (q k v b : FVec Ideal S1x8x64x128 .f32) (w : IVec S64x64 1) (S : FVec Ideal S1x8x128x128 .f32) : FVec Ideal S1x8x64x128 .f32 :=
  addf (Host.dotGeneral dot_S1x8x64x64_S1x8x64x128_S1x8x64x128_3_2_2_3_01_01 none (attOf q k b w) v)
    (Host.dotGeneral dot_S1x8x64x128_S1x8x128x128_S1x8x64x128_3_2_2_3_01_01 none (mulf q (Host.exp b)) S)

theorem outOf_at (q k v b : FVec Ideal S1x8x64x128 .f32) (w : IVec S64x64 1) (S : FVec Ideal S1x8x128x128 .f32) (h : Fin 8) (t : Fin 64) (l : Fin 128) :
    broadcastInDim S1x1x8x64x128 ![1, 2, 3, 4] bcast_S1x8x64x128_S1x1x8x64x128_1_2_3_4 (outOf q k v b w S) (ix5 0 0 h t l)
      = ∑ s : Fin 64, attOf q k b w (ix4 0 h t s) * v (ix4 0 h s l)
        + ∑ e : Fin 128, q (ix4 0 h t e) * Ideal.exp (b (ix4 0 h t e)) * S (ix4 0 h e l) := by
  unfold outOf
  pointwise

/-- The chunk that a trip reads. -/
def pick (a : FVec Ideal S36x1x8x64x128 .f32) (cnt : IVec S_ 32) : FVec Ideal S1x8x64x128 .f32 :=
  shapeCast S1x8x64x128 (Host.dynamicSlice S1x1x8x64x128 a (starts cnt) sliceFits_S36x1x8x64x128_S1x1x8x64x128) shapeCasts_S1x1x8x64x128_S1x8x64x128

/-- A chunk's log gates summed along its rows. -/
def summed (a : FVec Ideal S1x8x64x128 .f32) : FVec Ideal S1x8x64x128 .f32 :=
  Host.reduceWindowAdd (F := Ideal) ![1, 1, 64, 1] ![1, 1, 1, 1] ![0, 0, 63, 0] ![0, 0, 0, 0] a
    (broadcastInDim S_ ![] bcast_S_S_ (constant (F := Ideal) S_ .f32 0x00000000#32)) reduceWindows_S1x8x64x128_S1x8x64x128_w1s1p0_0_w1s1p0_0_w64s1p63_0_w1s1p0_0 h_S_

/-- What the loop carries before trip `n`: the chunks, the mask, the counter, the state, and the rows written so far. -/
structure Holds (x : Fin 2304 → Fin 13568 → EReal) (lb : Fin 2 → Fin 1024 → EReal) (n : ℕ) (Q K V G : FVec Ideal S36x1x8x64x128 .f32)
    (w : IVec S64x64 1) (cnt : IVec S_ 32) (S : FVec Ideal S1x8x128x128 .f32) (O : FVec Ideal S36x1x8x64x128 .f32)
    (B : FVec Ideal S36x1x8x128x128 .f32) : Prop where
  q : ∀ r h s e, Q (ix5 r 0 h s e) = (chunkOf x lb r.val).q s (lane h e)
  k : ∀ r h s e, K (ix5 r 0 h s e) = (chunkOf x lb r.val).k s (lane h e)
  v : ∀ r h s e, V (ix5 r 0 h s e) = (chunkOf x lb r.val).v s (lane h e)
  g : ∀ r h s e, G (ix5 r 0 h s e) = (chunkOf x lb r.val).g s (lane h e)
  mask : w = tri
  count : cnt = fun _ => BitVec.ofNat 32 n
  state : ∀ h e v, S (ix4 0 h e v) = St x lb n h v e
  outs : ∀ (r : Fin 36) h s e, r.val < n → O (ix5 r 0 h s e) = out (chunkOf x lb r.val) (St x lb r.val) s (lane h e)
  states : ∀ (r : Fin 36) h e v, r.val < n → B (ix5 r 0 h e v) = St x lb r.val h v e

variable {x : Fin 2304 → Fin 13568 → EReal} {lb : Fin 2 → Fin 1024 → EReal} {n : Fin 36} {Q K V G : FVec Ideal S36x1x8x64x128 .f32}
  {w : IVec S64x64 1} {cnt : IVec S_ 32} {S : FVec Ideal S1x8x128x128 .f32} {O : FVec Ideal S36x1x8x64x128 .f32} {B : FVec Ideal S36x1x8x128x128 .f32}

theorem read_q (A : Holds x lb n.val Q K V G w cnt S O B) (h : Fin 8) (s : Fin 64) (e : Fin 128) :
    pick Q cnt (ix4 0 h s e) = (chunkOf x lb n.val).q s (lane h e) :=
  (squeeze_at _ h s e).trans ((read_row _ (starts _) n (starts_at _ n A.count) _ h s e).trans (A.q n h s e))

theorem read_k (A : Holds x lb n.val Q K V G w cnt S O B) (h : Fin 8) (s : Fin 64) (e : Fin 128) :
    pick K cnt (ix4 0 h s e) = (chunkOf x lb n.val).k s (lane h e) :=
  (squeeze_at _ h s e).trans ((read_row _ (starts _) n (starts_at _ n A.count) _ h s e).trans (A.k n h s e))

theorem read_v (A : Holds x lb n.val Q K V G w cnt S O B) (h : Fin 8) (s : Fin 64) (e : Fin 128) :
    pick V cnt (ix4 0 h s e) = (chunkOf x lb n.val).v s (lane h e) :=
  (squeeze_at _ h s e).trans ((read_row _ (starts _) n (starts_at _ n A.count) _ h s e).trans (A.v n h s e))

theorem read_b (A : Holds x lb n.val Q K V G w cnt S O B) (h : Fin 8) (t : Fin 64) (e : Fin 128) :
    summed (pick G cnt) (ix4 0 h t e) = (chunkOf x lb n.val).b t (lane h e) :=
  (rows_sum _ _ _ _ (by exact Ideal.ofBits_zero_f32) h t e).trans (congrArg (fun f => upto f t) (funext fun s =>
    (squeeze_at _ h s e).trans ((read_row _ (starts _) n (starts_at _ n A.count) _ h s e).trans (A.g n h s e))))

theorem chan_lane (h : Fin 8) (l e : Fin 128) : chan (lane h l) e = lane h e :=
  Fin.ext (by change (h.val * 128 + l.val) / 128 * 128 + e.val = h.val * 128 + e.val; have := l.isLt; omega)

/-- The rows written after a trip. -/
def nextOuts (Q K V G : FVec Ideal S36x1x8x64x128 .f32) (w : IVec S64x64 1) (cnt : IVec S_ 32) (S : FVec Ideal S1x8x128x128 .f32)
    (O : FVec Ideal S36x1x8x64x128 .f32) : FVec Ideal S36x1x8x64x128 .f32 :=
  Host.dynamicUpdateSlice O (broadcastInDim S1x1x8x64x128 ![1, 2, 3, 4] bcast_S1x8x64x128_S1x1x8x64x128_1_2_3_4
    (outOf (pick Q cnt) (pick K cnt) (pick V cnt) (summed (pick G cnt)) w S)) (starts cnt) updateFits_S36x1x8x64x128_S1x1x8x64x128

/-- The states written after a trip. -/
def nextStates (cnt : IVec S_ 32) (S : FVec Ideal S1x8x128x128 .f32) (B : FVec Ideal S36x1x8x128x128 .f32) : FVec Ideal S36x1x8x128x128 .f32 :=
  Host.dynamicUpdateSlice B (broadcastInDim S1x1x8x128x128 ![1, 2, 3, 4] bcast_S1x8x128x128_S1x1x8x128x128_1_2_3_4 S) (starts cnt)
    updateFits_S36x1x8x128x128_S1x1x8x128x128

theorem step_state (A : Holds x lb n.val Q K V G w cnt S O B) (h : Fin 8) (e v : Fin 128) :
    stateOf (pick K cnt) (pick V cnt) (summed (pick G cnt)) S (ix4 0 h e v) = St x lb (n.val + 1) h v e := by
  refine (stateOf_at (pick K cnt) (pick V cnt) (summed (pick G cnt)) S h e v).trans ?_
  rw [read_b A, A.state]
  refine congrArg (fun z => _ + z) (Finset.sum_congr rfl fun s _ => ?_)
  rw [read_k A, read_b A, read_v A]
  exact mul_comm _ _

theorem step_out (A : Holds x lb n.val Q K V G w cnt S O B) (r : Fin 36) (h : Fin 8) (s : Fin 64) (e : Fin 128) (hr : r.val < n.val + 1) :
    nextOuts Q K V G w cnt S O (ix5 r 0 h s e) = out (chunkOf x lb r.val) (St x lb r.val) s (lane h e) := by
  refine (write_row _ _ (starts _) n (starts_at _ n A.count) updateFits_S36x1x8x64x128_S1x1x8x64x128 r h s e).trans ?_
  by_cases hn : r.val = n.val
  · rw [if_pos hn]
    obtain rfl : r = n := Fin.ext hn
    refine (outOf_at (pick Q cnt) (pick K cnt) (pick V cnt) (summed (pick G cnt))
      w S h s e).trans ?_
    unfold out HfSpec.held
    refine congrArg₂ (fun a b : EReal => a + b) (Finset.sum_congr rfl fun i _ => ?_) (Finset.sum_congr rfl fun i _ => ?_)
    · rw [attOf_at, read_v A]
      unfold part att
      by_cases hi : i.val ≤ s.val
      · rw [if_pos hi]
        refine congrArg (· * _) (Finset.sum_congr rfl fun d _ => ?_)
        rw [read_q A, read_k A, read_b A, read_b A, A.mask, tri_at, if_pos hi, chan_lane]
        rfl
      · rw [if_neg hi, Finset.sum_eq_zero, zero_mul]
        intro d _
        rw [A.mask, tri_at, if_neg hi]
        exact mul_zero _
    · rw [read_q A, read_b A, A.state, chan_lane]
      refine congrArg (fun z : EReal => (chunkOf x lb r.val).q s (lane h i) * Ideal.exp ((chunkOf x lb r.val).b s (lane h i)) * z) ?_
      refine congrArg₂ (fun a b => St x lb r.val a b i) (Fin.ext ?_) (Fin.ext ?_)
      · change h.val = (h.val * 128 + e.val) / 128
        have := e.isLt; omega
      · change e.val = (h.val * 128 + e.val) % 128
        have := e.isLt; omega
  · rw [if_neg hn]
    exact A.outs r h s e (by omega)

theorem step_states (A : Holds x lb n.val Q K V G w cnt S O B) (r : Fin 36) (h : Fin 8) (e v : Fin 128) (hr : r.val < n.val + 1) :
    nextStates cnt S B (ix5 r 0 h e v) = St x lb r.val h v e := by
  refine (write_row _ _ (starts _) n (starts_at _ n A.count) updateFits_S36x1x8x128x128_S1x1x8x128x128 r h e v).trans ?_
  by_cases hn : r.val = n.val
  · rw [if_pos hn]
    obtain rfl : r = n := Fin.ext hn
    refine Eq.trans (α := EReal) ?_ (A.state h e v)
    pointwise
  · rw [if_neg hn]
    exact A.states r h e v (by omega)

theorem count_next : ∀ n : Fin 36, BitVec.ofNat 32 n.val + 1#32 = BitVec.ofNat 32 (n.val + 1) := by decide

/-- One trip. -/
theorem Holds.next (A : Holds x lb n.val Q K V G w cnt S O B) : Holds x lb (n.val + 1) Q K V G w (addi cnt (constantI S_ 32 1#32))
    (stateOf (pick K cnt) (pick V cnt) (summed (pick G cnt)) S) (nextOuts Q K V G w cnt S O) (nextStates cnt S B) where
  q := A.q
  k := A.k
  v := A.v
  g := A.g
  mask := A.mask
  count := funext fun i => (congrArg (· + 1#32) (congrFun A.count i)).trans (count_next n)
  state := step_state A
  outs := step_out A
  states := step_states A

end Cert.HfRef

end
-- ==== Proof.HfTrip.lean ====
/-
  The first direction's reference: what its loop carries in, one trip, and its results after 36 trips.
-/
module

public import proofs.«01_k».proof.Proof.Gen.HgScanFwd0RefIdeal.Run
public import proofs.«01_k».proof.Proof.HfLoop

@[expose] public section

set_option maxRecDepth 16384

noncomputable section

open Idealize.ShloMosaic Idealize.ShloMosaic.TcCoe Idealize.SL.Sem Idealize.ShloMosaic.StableHlo

namespace Cert.HfRef

open Cert.HgScanFwd0RefIdeal Cert.HgScanFwd0RefIdeal.Gen Cert.HgScanFwd0RefIdeal.Value Cert.HfSpec

variable (m : (ℓ : Loc nD τ sig) → Buf (Elt Ideal) ℓ)

/-- The projection and the gates' bounds at launch. -/
def X (c : Dev nD) (r : Fin 2304) (k : Fin 13568) : EReal := m ((c : Thread nD τ).loc main_arg0) (ix2 r k)
def L (c : Dev nD) (j : Fin 2) (l : Fin 1024) : EReal := m ((c : Thread nD τ).loc main_arg1) (ix2 j l)

/-- The projection's columns that the scan reads. -/
def colsQ (c : Dev nD) : FVec Ideal S2304x1024 .f32 :=
  extractStridedSlice S2304x1024 ![0, 0] (m ((c : Thread nD τ).loc main_arg0)) slices_S2304x13568_S2304x1024_0_0
def colsV (c : Dev nD) : FVec Ideal S2304x1024 .f32 :=
  extractStridedSlice S2304x1024 ![0, 1024] (m ((c : Thread nD τ).loc main_arg0)) slices_S2304x13568_S2304x1024_0_1024
def colsF (c : Dev nD) : FVec Ideal S2304x1024 .f32 :=
  extractStridedSlice S2304x1024 ![0, 2048] (m ((c : Thread nD τ).loc main_arg0)) slices_S2304x13568_S2304x1024_0_2048

theorem entry_q (c : Dev nD) : (entryContents preI m c (Proc.devRef .tc main_v52_0) : FVec Ideal S36x1x8x64x128 .f32) = stack (HfRef.asks (colsQ m c)) := by
  simp only [entryContents, afterL_cons, afterL_nil]
  after_reads_simp
  rfl

theorem entry_k (c : Dev nD) : (entryContents preI m c (Proc.devRef .tc main_v52_1) : FVec Ideal S36x1x8x64x128 .f32) = stack (HfRef.keys (colsF m c) (m ((c : Thread nD τ).loc main_arg1))) := by
  simp only [entryContents, afterL_cons, afterL_nil]
  after_reads_simp
  rfl

theorem entry_v (c : Dev nD) : (entryContents preI m c (Proc.devRef .tc main_v52_2) : FVec Ideal S36x1x8x64x128 .f32) = stack (colsV m c) := by
  simp only [entryContents, afterL_cons, afterL_nil]
  after_reads_simp
  rfl

theorem entry_g (c : Dev nD) : (entryContents preI m c (Proc.devRef .tc main_v52_3) : FVec Ideal S36x1x8x64x128 .f32) = stack (Host.log (HfRef.gates (colsF m c) (m ((c : Thread nD τ).loc main_arg1)))) := by
  simp only [entryContents, afterL_cons, afterL_nil]
  after_reads_simp
  rfl

theorem entry_tri (c : Dev nD) : (entryContents preI m c (Proc.devRef .tc main_v52_4) : IVec S64x64 1) = HfRef.tri := by
  simp only [entryContents, afterL_cons, afterL_nil]
  after_reads_simp
  rfl

theorem entry_count (c : Dev nD) : (entryContents preI m c (Proc.devRef .tc main_v52_5) : IVec S_ 32) = constantI S_ 32 0#32 := by
  simp only [entryContents, afterL_cons, afterL_nil]
  after_reads_simp
  rfl

theorem entry_state (c : Dev nD) : (entryContents preI m c (Proc.devRef .tc main_v52_6) : FVec Ideal S1x8x128x128 .f32) = fun _ => (0 : EReal) := by
  simp only [entryContents, afterL_cons, afterL_nil]
  after_reads_simp
  funext y
  exact Ideal.ofBits_zero_f32

/-- What the loop carries before trip `n`. -/
def At (x : Fin 2304 → Fin 13568 → EReal) (lb : Fin 2 → Fin 1024 → EReal) (n : ℕ) (V : Valuation τ sig (Elt Ideal)) : Prop :=
  HfRef.Holds x lb n (V (Proc.devRef .tc main_v52_0)) (V (Proc.devRef .tc main_v52_1)) (V (Proc.devRef .tc main_v52_2)) (V (Proc.devRef .tc main_v52_3))
    (V (Proc.devRef .tc main_v52_4)) (V (Proc.devRef .tc main_v52_5)) (V (Proc.devRef .tc main_v52_6)) (V (Proc.devRef .tc main_v52_7)) (V (Proc.devRef .tc main_v52_8))

theorem step {x : Fin 2304 → Fin 13568 → EReal} {lb : Fin 2 → Fin 1024 → EReal} {V : Valuation τ sig (Elt Ideal)} {n : Fin 36}
    (A : At x lb n.val V) : At x lb (n.val + 1) (STEP V) := by
  have B := HfRef.Holds.next A
  unfold At
  rw [STEP_main_v52_0 V, STEP_main_v52_1 V, STEP_main_v52_2 V, STEP_main_v52_3 V, STEP_main_v52_4 V, STEP_main_v52_5 V, STEP_main_v52_6 V, STEP_main_v52_7 V, STEP_main_v52_8 V]
  exact B

theorem at_entry (c : Dev nD) (hL : ∀ j l, ∃ r : ℝ, L m c j l = r) : At (X m c) (L m c) 0 (entryContents preI m c) where
  q := fun r h s e => (congrFun (entry_q m c) _).trans ((stack_at _ r h s e).trans ((asks_at _ _ _).trans (by unfold colsQ; pointwise; rfl)))
  k := fun r h s e => (congrFun (entry_k m c) _).trans ((stack_at _ r h s e).trans ((keys_at _ _ hL _ _).trans (by unfold colsF; pointwise; rfl)))
  v := fun r h s e => (congrFun (entry_v m c) _).trans ((stack_at _ r h s e).trans (by unfold colsV; pointwise; rfl))
  g := fun r h s e => (congrFun (entry_g m c) _).trans ((stack_at _ r h s e).trans
    (congrArg Ideal.log ((gates_at _ _ hL _ _).trans (by unfold colsF; pointwise; rfl))))
  mask := entry_tri m c
  count := (entry_count m c).trans (funext fun _ => rfl)
  state := fun h e v => congrFun (entry_state m c) _
  outs := fun r h s e hr => absurd hr (Nat.not_lt_zero _)
  states := fun r h e v hr => absurd hr (Nat.not_lt_zero _)

theorem at_trip (c : Dev nD) (hL : ∀ j l, ∃ r : ℝ, L m c j l = r) :
    ∀ n : ℕ, n ≤ 36 → At (X m c) (L m c) n (STEP^[n] (entryContents preI m c))
  | 0, _ => at_entry m c hL
  | n + 1, hn => by
    rw [Function.iterate_succ_apply']
    exact step (n := ⟨n, hn⟩) (at_trip c hL n (by omega))

theorem final_out (c : Dev nD) (hL : ∀ j l, ∃ r : ℝ, L m c j l = r) :
    (out_main_v55 (STEP^[36] (entryContents preI m c)) : FVec Ideal S2304x1024 .f32) = fun j => outAt (X m c) (L m c) (j 0) (j 1) := by
  have A := at_trip m c hL 36 le_rfl
  generalize STEP^[36] (entryContents preI m c) = V at A
  have ho := A.outs
  unfold out_main_v55
  generalize (V (Proc.devRef .tc main_v52_7) : FVec Ideal S36x1x8x64x128 .f32) = W at ho
  funext j
  idx_vars j
  have e := ho ⟨j0.val / 64, by omega⟩ ⟨j1.val / 128, by omega⟩ ⟨j0.val % 64, by omega⟩ ⟨j1.val % 128, by omega⟩
    (by change j0.val / 64 < 36; omega)
  refine Eq.trans (α := EReal) ?_ (e.trans ?_)
  · pointwise
  · unfold outAt
    refine congrArg (out (chunkOf (X m c) (L m c) (j0.val / 64)) (St (X m c) (L m c) (j0.val / 64)) ⟨j0.val % 64, by omega⟩) (Fin.ext ?_)
    change j1.val / 128 * 128 + j1.val % 128 = j1.val
    omega

theorem final_states (c : Dev nD) (hL : ∀ j l, ∃ r : ℝ, L m c j l = r) :
    (out_main_v57 (STEP^[36] (entryContents preI m c)) : FVec Ideal S36x8x128x128 .f32) = fun j => St (X m c) (L m c) (j 0).val (j 1) (j 2) (j 3) := by
  have A := at_trip m c hL 36 le_rfl
  generalize STEP^[36] (entryContents preI m c) = V at A
  have ho := A.states
  unfold out_main_v57
  generalize (V (Proc.devRef .tc main_v52_8) : FVec Ideal S36x1x8x128x128 .f32) = W at ho
  funext j
  idx_vars j
  refine Eq.trans (α := EReal) ?_ (ho j0 j1 j3 j2 j0.isLt)
  pointwise

end Cert.HfRef

end
-- ==== Proof.HgScanFwd0.lean ====
/-
  The forward gated scan: the kernel's output and its states before each chunk are the reference's, of finite bounds.
-/
module

public import proofs.«01_k».proof.Defs
public import proofs.«01_k».proof.Proof.ShiftBwd
public import proofs.«01_k».proof.Proof.HfVal
public import proofs.«01_k».proof.Proof.HfTrip
public import proofs.«01_k».proof.Proof.Gen.HgScanFwd0.Frame
public import proofs.«01_k».proof.Proof.Gen.HgScanFwd0Ideal.Frame
public import proofs.«01_k».proof.Proof.Gen.HgScanFwd0RefIdeal.Run
public import Idealize.ShloMosaic.Lib.Pipeline.ValueKit
public import Idealize.ShloMosaic.Lib.Claim
public import Idealize.ShloMosaic.Lib.Quiescent

@[expose] public section

noncomputable section

open Idealize.ShloMosaic Idealize.ShloMosaic.TcCoe Idealize.SL.Sem

namespace Cert.Proof.HgScanFwd0

open Cert.HfSpec

theorem frame_p : Cert.quiescent_HgScanFwd0 := fun m ρ _ => Cert.HgScanFwd0.Gen.frame m ρ
theorem frame_pi : Cert.quiescent_HgScanFwd0Ideal := fun m ρ _ => Cert.HgScanFwd0Ideal.Gen.frame m ρ
theorem facts_pre : Cert.Pre_hg_lb_finite.Facts := ⟨by decide⟩
theorem frame_pi_pre : Cert.quiescent_HgScanFwd0Ideal_pre_hg_lb_finite (hPre_hg_lb_finite := facts_pre) := fun m ρ _ =>
  Cert.HgScanFwd0Ideal.Gen.frame m ρ
theorem frame_ri : Cert.quiescent_HgScanFwd0RefIdeal := fun m ρ _ =>
  (θ_run Cert.HgScanFwd0RefIdeal.defs _ _).mono (fun r h => ⟨fun c => (h c).2.2,
      Idealize.ShloMosaic.sem_eq_zero_of_no_sems (by decide) r.2⟩)
    (Cert.HgScanFwd0RefIdeal.Value.run (F := Ideal) m ρ)
theorem frame_ri_pre : Cert.quiescent_HgScanFwd0RefIdeal_pre_hg_lb_finite (hPre_hg_lb_finite := facts_pre) := fun m ρ _ =>
  frame_ri m ρ trivial

/-- Under the precondition the gates' bounds are real. -/
theorem finite (m : (ℓ : Loc Cert.HgScanFwd0Ideal.nD Cert.HgScanFwd0Ideal.τ Cert.HgScanFwd0Ideal.sig) → Buf (Elt Ideal) ℓ)
    (h : Cert.Pre_HgScanFwd0Ideal_hg_lb_finite (hPre_hg_lb_finite := facts_pre) m) (c : Dev Cert.HgScanFwd0Ideal.nD) (j : Fin 2) (l : Fin 1024) :
    ∃ r : ℝ, Cert.HfVal.L m c j l = r := by
  have f := ShiftBwd.finite_of _ _ (ix2 j l) (h c)
  exact ⟨_, (EReal.coe_toReal f.1 f.2).symm⟩

open Cert.HgScanFwd0RefIdeal in
/-- The reference's run, its results in plain text. -/
theorem ref_run (m' : (ℓ : Loc nD τ sig) → Buf (Elt Ideal) ℓ) (g' : Dev nD → PrngReg)
    (hL : ∀ c j l, ∃ r : ℝ, Cert.HfRef.L m' c j l = r) :
    θ_run (defs (F := Ideal)) (onTc (τ := τ) (main (F := Ideal))) ⟨m', fun _ => 0, g'⟩ fun r => ∀ c : Dev nD,
      r.2.mem ((c.tc : Thread nD τ).loc main_v55) = (fun j => outAt (Cert.HfRef.X m' c) (Cert.HfRef.L m' c) (j 0) (j 1) : FVec Ideal S2304x1024 .f32)
      ∧ r.2.mem ((c.tc : Thread nD τ).loc main_v57) = (fun j => St (Cert.HfRef.X m' c) (Cert.HfRef.L m' c) (j 0).val (j 1) (j 2) (j 3) : FVec Ideal S36x8x128x128 .f32)
      ∧ r.2.mem ((c.tc : Thread nD τ).loc main_arg0) = m' ((c.tc : Thread nD τ).loc main_arg0)
      ∧ r.2.mem ((c.tc : Thread nD τ).loc main_arg1) = m' ((c.tc : Thread nD τ).loc main_arg1) :=
  (θ_run defs _ _).mono (fun r h c => ⟨(h c).1.trans (Cert.HfRef.final_out m' c (hL c)), (h c).2.1.trans (Cert.HfRef.final_states m' c (hL c)), (h c).2.2⟩)
    (Cert.HgScanFwd0RefIdeal.Value.run (F := Ideal) m' g')

/-- Of finite bounds, the kernel's output and states are the reference's. -/
theorem algebraic : Cert.algebraic_HgScanFwd0Ideal_HgScanFwd0RefIdeal_pre_hg_lb_finite (hPre_hg_lb_finite := facts_pre) := by
  pair_intro
  · run_from Cert.HgScanFwd0Ideal.Gen.run_main m g
  · have hX : ∀ c, Cert.HfRef.X m' c = Cert.HfVal.X m c := fun c => funext fun r => funext fun k => congrFun (hagree c).1 (ix2 r k)
    have hL : ∀ c, Cert.HfRef.L m' c = Cert.HfVal.L m c := fun c => funext fun r => funext fun k => congrFun (hagree c).2 (ix2 r k)
    run_from ref_run m' g' (fun c => by rw [hL c]; exact finite m hpre c)
    · rw [Cert.HfVal.final_out m c (finite m hpre c), hX c, hL c]
    · rw [Cert.HfVal.final_states m c, hX c, hL c]

end Cert.Proof.HgScanFwd0

end
-- ==== Proof.HfRev.lean ====
/-
  The same recurrence read from a chunk's last row to its first: what the kernel computes on the rows as they lie is
  the recurrence of `HfSpec` on the rows in the other order.
-/
module

public import proofs.«01_k».proof.Proof.HfIn

@[expose] public section

noncomputable section

open Idealize.ShloMosaic

namespace Cert.HfSpec

/-- Row `i` counted from the chunk's end. -/
def rev (i : Fin 64) : Fin 64 := ⟨63 - i.val, by omega⟩

theorem rev_rev (i : Fin 64) : rev (rev i) = i := Fin.ext (by show 63 - (63 - i.val) = i.val; have := i.isLt; omega)

theorem sum_rev (f : Fin 64 → EReal) : ∑ s, f (rev s) = ∑ s, f s := (⟨rev, rev, rev_rev, rev_rev⟩ : Fin 64 ≃ Fin 64).sum_comp f

/-- The chunk with its rows in the other order. -/
def Chunk.back (C : Chunk) : Chunk := ⟨fun i => C.q (rev i), fun i => C.k (rev i), fun i => C.v (rev i), fun i => C.g (rev i), fun i => C.b (rev i)⟩

/-- What row `s` gives to row `t`: nothing to rows after it. -/
def partR (C : Chunk) (t : Fin 64) (l : Fin 1024) (s : Fin 64) : EReal :=
  if t.val ≤ s.val then att C t s l * C.v s l else 0

theorem part_back (C : Chunk) (t s : Fin 64) (l : Fin 1024) : part C.back (rev t) l (rev s) = partR C t l s := by
  unfold part partR att Chunk.back
  simp only [rev_rev]
  exact if_congr ⟨fun h => by change 63 - s.val ≤ 63 - t.val at h; omega, fun h => by change 63 - s.val ≤ 63 - t.val; omega⟩ rfl rfl

theorem out_back (C : Chunk) (S : State) (t : Fin 64) (l : Fin 1024) :
    out C.back S (rev t) l = ∑ s, partR C t l s + held C S t l := by
  unfold out
  rw [← sum_rev]
  refine congrArg₂ (fun a b : EReal => a + b) (Finset.sum_congr rfl fun s _ => part_back C t s l) ?_
  unfold held Chunk.back
  simp only [rev_rev]

theorem next_back (C : Chunk) (S : State) (h : Fin 8) (v e : Fin 128) :
    next C.back S h v e = Ideal.exp (C.b 0 (lane h e)) * S h v e
      + ∑ s : Fin 64, C.v s (lane h v) * (C.k s (lane h e) * Ideal.exp (C.b 0 (lane h e) - C.b s (lane h e))) := by
  unfold next
  rw [← sum_rev]
  unfold Chunk.back
  simp only [rev_rev]
  rfl

theorem cross_back {C : Chunk} (hC : Tame C.back) (p t s : Fin 64) (h : t.val ≤ s.val) (l : Fin 1024) :
    cross C p t s l * C.v s l = partR C t l s := by
  rw [← part_back, ← cross_mul hC (rev p) (rev t) (rev s) (by change 63 - s.val ≤ 63 - t.val; omega) l]
  unfold cross Chunk.back
  simp only [rev_rev]

/-! ## Blocks of 16 rows -/

/-- Sixteen terms of a running sum, each present up to its own row. -/
theorem chainR (f : Fin 16 → EReal) (r : Fin 16)
    (x0 : r.val < 1 → EReal) (x1 : r.val < 2 → EReal) (x2 : r.val < 3 → EReal) (x3 : r.val < 4 → EReal)
    (x4 : r.val < 5 → EReal) (x5 : r.val < 6 → EReal) (x6 : r.val < 7 → EReal) (x7 : r.val < 8 → EReal)
    (x8 : r.val < 9 → EReal) (x9 : r.val < 10 → EReal) (x10 : r.val < 11 → EReal) (x11 : r.val < 12 → EReal)
    (x12 : r.val < 13 → EReal) (x13 : r.val < 14 → EReal) (x14 : r.val < 15 → EReal) (x15 : EReal)
    (h0 : ∀ h, x0 h = f 0) (h1 : ∀ h, x1 h = f 1) (h2 : ∀ h, x2 h = f 2) (h3 : ∀ h, x3 h = f 3) (h4 : ∀ h, x4 h = f 4)
    (h5 : ∀ h, x5 h = f 5) (h6 : ∀ h, x6 h = f 6) (h7 : ∀ h, x7 h = f 7) (h8 : ∀ h, x8 h = f 8) (h9 : ∀ h, x9 h = f 9)
    (h10 : ∀ h, x10 h = f 10) (h11 : ∀ h, x11 h = f 11) (h12 : ∀ h, x12 h = f 12) (h13 : ∀ h, x13 h = f 13)
    (h14 : ∀ h, x14 h = f 14) (h15 : x15 = f 15) :
    (if h : r.val < 1 then x0 h else 0) + (if h : r.val < 2 then x1 h else 0) + (if h : r.val < 3 then x2 h else 0)
      + (if h : r.val < 4 then x3 h else 0) + (if h : r.val < 5 then x4 h else 0) + (if h : r.val < 6 then x5 h else 0)
      + (if h : r.val < 7 then x6 h else 0) + (if h : r.val < 8 then x7 h else 0) + (if h : r.val < 9 then x8 h else 0)
      + (if h : r.val < 10 then x9 h else 0) + (if h : r.val < 11 then x10 h else 0) + (if h : r.val < 12 then x11 h else 0)
      + (if h : r.val < 13 then x12 h else 0) + (if h : r.val < 14 then x13 h else 0) + (if h : r.val < 15 then x14 h else 0)
      + x15 = ∑ i : Fin 16, if r.val ≤ i.val then f i else 0 := by
  have step : ∀ (n : ℕ) (i : Fin 16) (x : r.val < n → EReal), i.val + 1 = n → (∀ h, x h = f i) →
      (if h : r.val < n then x h else 0) = if r.val ≤ i.val then f i else 0 := by
    intro n i x hi hx
    by_cases h : r.val < n
    · rw [dif_pos h, if_pos (by omega), hx]
    · rw [dif_neg h, if_neg (by omega)]
  have last : f 15 = if r.val ≤ (15 : Fin 16).val then f 15 else 0 := (if_pos (Nat.le_of_lt_succ r.isLt)).symm
  rw [sum_sixteen, step 1 0 x0 rfl h0, step 2 1 x1 rfl h1, step 3 2 x2 rfl h2, step 4 3 x3 rfl h3, step 5 4 x4 rfl h4,
    step 6 5 x5 rfl h5, step 7 6 x6 rfl h6, step 8 7 x7 rfl h7, step 9 8 x8 rfl h8, step 10 9 x9 rfl h9,
    step 11 10 x10 rfl h10, step 12 11 x11 rfl h11, step 13 12 x12 rfl h12, step 14 13 x13 rfl h13,
    step 15 14 x14 rfl h14, h15, last.symm]

/-- The rows of one block of 16 that give to row `r` of it. -/
theorem sum_partR (C : Chunk) (p : ℕ) (hp : p ≤ 48) (r : Fin 16) (l : Fin 1024) :
    (∑ i : Fin 16, if r.val ≤ i.val then att C ⟨p + r.val, by omega⟩ ⟨p + i.val, by omega⟩ l * C.v ⟨p + i.val, by omega⟩ l else 0)
      = ∑ i : Fin 16, partR C ⟨p + r.val, by omega⟩ l ⟨p + i.val, by omega⟩ :=
  Finset.sum_congr rfl fun i _ => if_congr ⟨fun h => Nat.add_le_add_left h p, fun h => Nat.le_of_add_le_add_left h⟩ rfl rfl

/-- Rows before `t` give nothing. -/
theorem partR_before (C : Chunk) (t : Fin 64) (l : Fin 1024) (s : Fin 64) (h : s.val < t.val) : partR C t l s = 0 :=
  if_neg (Nat.not_le.mpr h)

theorem rowsR3 (C : Chunk) (r : Fin 16) (l : Fin 1024) :
    ∑ s, partR C ⟨48 + r.val, by omega⟩ l s = ∑ i : Fin 16, partR C ⟨48 + r.val, by omega⟩ l ⟨48 + i.val, by omega⟩ := by
  rw [sum_blocks, Finset.sum_eq_zero (f := fun i : Fin 16 => partR C _ l ⟨i.val, _⟩) fun i _ => partR_before _ _ _ _ (by dsimp only; omega),
    Finset.sum_eq_zero (f := fun i : Fin 16 => partR C _ l ⟨16 + i.val, _⟩) fun i _ => partR_before _ _ _ _ (by dsimp only; omega),
    Finset.sum_eq_zero (f := fun i : Fin 16 => partR C _ l ⟨32 + i.val, _⟩) fun i _ => partR_before _ _ _ _ (by dsimp only; omega),
    zero_add, zero_add, zero_add]

theorem rowsR2 (C : Chunk) (r : Fin 16) (l : Fin 1024) :
    ∑ s, partR C ⟨32 + r.val, by omega⟩ l s = (∑ i : Fin 16, partR C ⟨32 + r.val, by omega⟩ l ⟨32 + i.val, by omega⟩)
      + ∑ i : Fin 16, partR C ⟨32 + r.val, by omega⟩ l ⟨48 + i.val, by omega⟩ := by
  rw [sum_blocks, Finset.sum_eq_zero (f := fun i : Fin 16 => partR C _ l ⟨i.val, _⟩) fun i _ => partR_before _ _ _ _ (by dsimp only; omega),
    Finset.sum_eq_zero (f := fun i : Fin 16 => partR C _ l ⟨16 + i.val, _⟩) fun i _ => partR_before _ _ _ _ (by dsimp only; omega),
    zero_add, zero_add]

theorem rowsR1 (C : Chunk) (r : Fin 16) (l : Fin 1024) :
    ∑ s, partR C ⟨16 + r.val, by omega⟩ l s = (∑ i : Fin 16, partR C ⟨16 + r.val, by omega⟩ l ⟨16 + i.val, by omega⟩)
      + ((∑ i : Fin 16, partR C ⟨16 + r.val, by omega⟩ l ⟨48 + i.val, by omega⟩)
        + ∑ i : Fin 16, partR C ⟨16 + r.val, by omega⟩ l ⟨32 + i.val, by omega⟩) := by
  rw [sum_blocks, Finset.sum_eq_zero (f := fun i : Fin 16 => partR C _ l ⟨i.val, _⟩) fun i _ => partR_before _ _ _ _ (by dsimp only; omega),
    zero_add, add_assoc, add_comm (∑ i : Fin 16, partR C ⟨16 + r.val, _⟩ l ⟨32 + i.val, _⟩)]

/-- The 48 rows after the first block, its nearest block last. -/
def later (x : Fin 48) : Fin 64 :=
  ⟨if x.val < 16 then 48 + x.val else if x.val - 16 < 16 then 32 + (x.val - 16) else 16 + (x.val - 16 - 16), by
    have := x.isLt; split <;> (try split) <;> omega⟩

theorem sum_later (f : Fin 64 → EReal) : ∑ x, f (later x) = (∑ i : Fin 16, f ⟨16 + i.val, by omega⟩)
    + (∑ i : Fin 16, f ⟨32 + i.val, by omega⟩) + ∑ i : Fin 16, f ⟨48 + i.val, by omega⟩ := by
  have h1 := Fin.sum_univ_add (M := EReal) (a := 32) (b := 16) fun x : Fin 48 => f (later x)
  have h2 := Fin.sum_univ_add (M := EReal) (a := 16) (b := 16) fun i : Fin 32 => f (later ⟨i.val, by omega⟩)
  refine h1.trans ((congrArg₂ (fun a b : EReal => a + b) (h2.trans (congrArg₂ (fun a b : EReal => a + b)
    (Finset.sum_congr rfl fun i _ => congrArg f (Fin.ext ?_)) (Finset.sum_congr rfl fun i _ => congrArg f (Fin.ext ?_))))
    (Finset.sum_congr rfl fun i _ => congrArg f (Fin.ext ?_))).trans
    (?_ : (∑ i : Fin 16, f ⟨48 + i.val, by omega⟩) + (∑ i : Fin 16, f ⟨32 + i.val, by omega⟩) + ∑ i : Fin 16, f ⟨16 + i.val, by omega⟩ = _))
  · exact if_pos i.isLt
  · refine (if_neg (by change ¬ 16 + i.val < 16; omega)).trans ((if_pos (by change 16 + i.val - 16 < 16; omega)).trans ?_)
    change 32 + (16 + i.val - 16) = 32 + i.val; omega
  · refine (if_neg (by change ¬ 32 + i.val < 16; omega)).trans ((if_neg (by change ¬ 32 + i.val - 16 < 16; omega)).trans ?_)
    change 16 + (32 + i.val - 16 - 16) = 16 + i.val; omega
  · rw [add_comm, add_comm (∑ i : Fin 16, f ⟨48 + i.val, _⟩), add_assoc]

theorem rowsR0 (C : Chunk) (r : Fin 16) (l : Fin 1024) :
    ∑ s, partR C ⟨0 + r.val, by omega⟩ l s = (∑ i : Fin 16, partR C ⟨0 + r.val, by omega⟩ l ⟨0 + i.val, by omega⟩)
      + ∑ x, partR C ⟨0 + r.val, by omega⟩ l (later x) := by
  rw [sum_blocks, sum_later, add_assoc, add_assoc, add_assoc]
  simp only [Nat.zero_add]

/-! ## The running sum by doubling -/

/-- One doubling: every row adds the row `w` after it. -/
def dblR (w : ℕ) (a : Fin 64 → EReal) (i : Fin 64) : EReal :=
  a i + if _ : i.val < 64 - w then a ⟨w + i.val, by omega⟩ else 0

theorem dblR_eq (w : ℕ) (hw : 0 < w) (a : Fin 64 → EReal) : dblR w (fun i => a (rev i)) = fun i => dbl w a (rev i) := by
  funext i
  unfold dblR dbl
  refine congrArg (fun z : EReal => a (rev i) + z) ?_
  by_cases h : i.val < 64 - w
  · rw [dif_pos h, dif_neg (by change ¬ 63 - i.val < w; omega)]
    exact congrArg a (Fin.ext (by change 63 - (w + i.val) = 63 - i.val - w; omega))
  · rw [dif_neg h, dif_pos (by change 63 - i.val < w; omega)]

theorem dblR_all (g : Fin 64 → EReal) (i : Fin 64) :
    dblR 32 (dblR 16 (dblR 8 (dblR 4 (dblR 2 (dblR 1 g))))) i = upto (fun s => g (rev s)) (rev i) := by
  generalize hf : (fun s => g (rev s)) = f
  have e : g = fun i => f (rev i) := funext fun i => (congrArg g (rev_rev i).symm).trans (congrFun hf (rev i))
  rw [e, dblR_eq 1 (by decide) f, dblR_eq 2 (by decide) (dbl 1 f), dblR_eq 4 (by decide) (dbl 2 (dbl 1 f)),
    dblR_eq 8 (by decide) (dbl 4 (dbl 2 (dbl 1 f))), dblR_eq 16 (by decide) (dbl 8 (dbl 4 (dbl 2 (dbl 1 f)))),
    dblR_eq 32 (by decide) (dbl 16 (dbl 8 (dbl 4 (dbl 2 (dbl 1 f))))), dbl_all]

/-! ## The two runs of rows, each from its end -/

/-- The row that stands in row `r`'s place: the first 256 rows and the others each in the other order. -/
def turn (r : Fin 2304) : Fin 2304 := ⟨if r.val < 256 then 255 - r.val else 2559 - r.val, by have := r.isLt; split <;> omega⟩

/-- The second direction's gates lie 1024 columns after the first direction's. -/
def col (k : Fin 13568) : Fin 13568 := if h : 2048 ≤ k.val ∧ k.val < 3072 then ⟨k.val + 1024, by omega⟩ else k

/-- The projection as the second direction reads it. -/
def turned (x : Fin 2304 → Fin 13568 → EReal) (r : Fin 2304) (k : Fin 13568) : EReal := x (turn r) (col k)

end Cert.HfSpec

end
-- ==== Proof.HrPay.lean ====
/-
  What the kernel's body computes at one grid point of the second direction, in the words of `HfRev`: the running sum from
  the last row, each block of 16 rows against itself and the blocks after it, the state's share, and the next state.
-/
module

public import proofs.«01_k».proof.Proof.Gen.HgScanFwd1Ideal.Frame
public import proofs.«01_k».proof.Proof.HfRev
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.HrPay

open Cert.HgScanFwd1Ideal Cert.HgScanFwd1Ideal.Gen Cert.HfSpec

/-- The chunk that the body holds, as rows. -/
def chunk (Q K V G B : FVec Ideal S64x1024 .f32) : Chunk :=
  ⟨fun i l => Q (ix2 i l), fun i l => K (ix2 i l), fun i l => V (ix2 i l), fun i l => G (ix2 i l), fun i l => B (ix2 i l)⟩

variable (Q K V G B P : FVec Ideal S64x1024 .f32) (S : FVec Ideal S8x128x128 .f32) (r : Fin 16) (l : Fin 1024)

/-! ## The running sum -/

theorem sum_at (x : FVec Ideal S64x1024 .f32) (lb : FVec Ideal S2x1024 .f32) (i : Fin 64) :
    k0_pay9 (F := Ideal) (k0_pay8 x lb) (FloatOps.ofBits FTy.f32 0#32) (ix2 i l)
      = upto (fun s => k0_pay7 (F := Ideal) x lb (ix2 (rev s) l)) (rev i) := by
  have e : ∀ s : Fin 64, k0_pay8 (F := Ideal) x lb (ix2 s l) = dblR 2 (dblR 1 fun d => k0_pay7 (F := Ideal) x lb (ix2 d l)) s := by
    intro s
    unfold k0_pay8
    generalize k0_pay7 (F := Ideal) x lb = g
    pointwise
    rfl
  rw [← dblR_all fun s => k0_pay7 (F := Ideal) x lb (ix2 s l), ← (funext e : (fun s => k0_pay8 (F := Ideal) x lb (ix2 s l)) = _)]
  generalize k0_pay8 (F := Ideal) x lb = p
  pointwise [k0_pay9]
  rfl

/-! ## A block of 16 rows against itself -/

set_option maxHeartbeats 1000000
theorem block0 (z : Ideal .f32)
    (hB : ∀ (r : Fin 16) (h : Fin 8) (e : Fin 128), k0_pay13 (F := Ideal) P z (ix3 r h e) = B (ix2 ⟨r.val, by omega⟩ (lane h e))) :
    k0_pay35 (F := Ideal) (k0_pay10 Q) (k0_pay11 K) (k0_pay12 V) (k0_pay13 P z) (k0_pay32 (k0_pay10 Q) (k0_pay11
    K) (k0_pay12 V) (k0_pay13 P z) (k0_pay28 (k0_pay10 Q) (k0_pay11 K) (k0_pay12 V) (k0_pay13 P z) (k0_pay25
    (k0_pay10 Q) (k0_pay11 K) (k0_pay12 V) (k0_pay13 P z) (k0_pay21 (k0_pay10 Q) (k0_pay11 K) (k0_pay12 V)
    (k0_pay13 P z) (k0_pay18 (k0_pay10 Q) (k0_pay11 K) (k0_pay12 V) (k0_pay13 P z) (k0_pay14 V Q K P z) (k0_pay15
    P z) (k0_pay16 Q) (k0_pay17 K)) (k0_pay19 (k0_pay10 Q) (k0_pay11 K) (k0_pay12 V) (k0_pay13 P z)) k0_pay20)
    (k0_pay22 (k0_pay13 P z)) (k0_pay23 (k0_pay10 Q)) (k0_pay24 (k0_pay11 K))) (k0_pay26 (k0_pay10 Q) (k0_pay11 K)
    (k0_pay12 V) (k0_pay13 P z)) k0_pay27) (k0_pay29 (k0_pay13 P z)) (k0_pay30 (k0_pay10 Q)) (k0_pay31 (k0_pay11
    K))) (k0_pay33 (k0_pay10 Q) (k0_pay11 K) (k0_pay12 V) (k0_pay13 P z)) k0_pay34 (ix2 r l)
    = ∑ i : Fin 16, partR (chunk Q K V G B) ⟨0 + r.val, by omega⟩ l ⟨0 + i.val, by omega⟩ := by
  generalize hR : (∑ i : Fin 16, partR (chunk Q K V G B) ⟨0 + r.val, by omega⟩ l ⟨0 + i.val, by omega⟩) = R
  pointwise [k0_pay10, k0_pay11, k0_pay12, k0_pay14, k0_pay15, k0_pay16, k0_pay17, k0_pay18, k0_pay19, k0_pay20,
  k0_pay21, k0_pay22, k0_pay23, k0_pay24, k0_pay25, k0_pay26, k0_pay27, k0_pay28, k0_pay29, k0_pay30, k0_pay31,
  k0_pay32, k0_pay33, k0_pay34, k0_pay35]
  simp only [hB]
  rw [← hR]
  refine (chainR (fun i => att (chunk Q K V G B) ⟨0 + r.val, by omega⟩ ⟨0 + i.val, by omega⟩ l
    * (chunk Q K V G B).v ⟨0 + i.val, by omega⟩ l) r _ _ _ _ _ _ _ _ _ _ _ _ _ _ _ _ ?_ ?_ ?_ ?_ ?_ ?_ ?_ ?_ ?_ ?_ ?_
    ?_ ?_ ?_ ?_ ?_).trans (sum_partR _ 0 (by omega) r l)
  all_goals simp only [Nat.zero_add]
  all_goals first
    | intro h; rfl
    | intro h
      obtain rfl : r = 0 := Fin.ext (by show r.val = 0; omega)
      rfl
    | rfl

theorem block1 :
    k0_pay57 (F := Ideal) (k0_pay36 Q) (k0_pay37 K) (k0_pay38 V) (k0_pay55 (k0_pay36 Q) (k0_pay37 K) (k0_pay38 V)
    (k0_pay39 B) (k0_pay52 (k0_pay36 Q) (k0_pay37 K) (k0_pay38 V) (k0_pay39 B) (k0_pay50 (k0_pay36 Q) (k0_pay37 K)
    (k0_pay38 V) (k0_pay39 B) (k0_pay47 (k0_pay36 Q) (k0_pay37 K) (k0_pay38 V) (k0_pay39 B) (k0_pay45 (k0_pay36 Q)
    (k0_pay37 K) (k0_pay38 V) (k0_pay39 B) (k0_pay42 (k0_pay36 Q) (k0_pay37 K) (k0_pay38 V) (k0_pay39 B) k0_pay40
    (k0_pay41 B) (FloatOps.ofBits FTy.f32 0#32)) (k0_pay43 (k0_pay36 Q) (k0_pay37 K) (k0_pay39 B)) (k0_pay44
    (k0_pay38 V))) (k0_pay46 (k0_pay39 B))) (k0_pay48 (k0_pay36 Q) (k0_pay37 K) (k0_pay39 B)) (k0_pay49 (k0_pay38
    V))) (k0_pay51 (k0_pay39 B))) (k0_pay53 (k0_pay36 Q) (k0_pay37 K) (k0_pay39 B)) (k0_pay54 (k0_pay38 V)))
    (k0_pay56 (k0_pay39 B)) (ix2 r l)
    = ∑ i : Fin 16, partR (chunk Q K V G B) ⟨16 + r.val, by omega⟩ l ⟨16 + i.val, by omega⟩ := by
  pointwise [k0_pay36, k0_pay37, k0_pay38, k0_pay39, k0_pay40, k0_pay41, k0_pay42, k0_pay43, k0_pay44, k0_pay45,
  k0_pay46, k0_pay47, k0_pay48, k0_pay49, k0_pay50, k0_pay51, k0_pay52, k0_pay53, k0_pay54, k0_pay55, k0_pay56,
  k0_pay57]
  refine (chainR (fun i => att (chunk Q K V G B) ⟨16 + r.val, by omega⟩ ⟨16 + i.val, by omega⟩ l
    * (chunk Q K V G B).v ⟨16 + i.val, by omega⟩ l) r _ _ _ _ _ _ _ _ _ _ _ _ _ _ _ _ ?_ ?_ ?_ ?_ ?_ ?_ ?_ ?_ ?_ ?_ ?_
    ?_ ?_ ?_ ?_ ?_).trans (sum_partR _ 16 (by omega) r l)
  all_goals first
    | intro h; rfl
    | intro h
      obtain rfl : r = 0 := Fin.ext (by show r.val = 0; omega)
      rfl
    | rfl

theorem block2 :
    k0_pay74 (F := Ideal) (k0_pay58 Q) (k0_pay59 K) (k0_pay60 V) (k0_pay61 B) (k0_pay72 (k0_pay58 Q) (k0_pay59 K)
    (k0_pay60 V) (k0_pay61 B) (k0_pay70 (k0_pay58 Q) (k0_pay59 K) (k0_pay60 V) (k0_pay61 B) (k0_pay68 (k0_pay58 Q)
    (k0_pay59 K) (k0_pay60 V) (k0_pay61 B) (k0_pay66 (k0_pay58 Q) (k0_pay59 K) (k0_pay60 V) (k0_pay61 B) (k0_pay64
    (k0_pay58 Q) (k0_pay59 K) (k0_pay60 V) (k0_pay61 B) (k0_pay62 V Q K B) (k0_pay63 Q K B)) (k0_pay65 (k0_pay61
    B))) (k0_pay67 (k0_pay58 Q) (k0_pay59 K) (k0_pay61 B))) (k0_pay69 (k0_pay61 B))) (k0_pay71 (k0_pay58 Q)
    (k0_pay59 K) (k0_pay61 B))) (k0_pay73 (k0_pay61 B)) (ix2 r l)
    = ∑ i : Fin 16, partR (chunk Q K V G B) ⟨32 + r.val, by omega⟩ l ⟨32 + i.val, by omega⟩ := by
  pointwise [k0_pay58, k0_pay59, k0_pay60, k0_pay61, k0_pay62, k0_pay63, k0_pay64, k0_pay65, k0_pay66, k0_pay67,
  k0_pay68, k0_pay69, k0_pay70, k0_pay71, k0_pay72, k0_pay73, k0_pay74]
  refine (chainR (fun i => att (chunk Q K V G B) ⟨32 + r.val, by omega⟩ ⟨32 + i.val, by omega⟩ l
    * (chunk Q K V G B).v ⟨32 + i.val, by omega⟩ l) r _ _ _ _ _ _ _ _ _ _ _ _ _ _ _ _ ?_ ?_ ?_ ?_ ?_ ?_ ?_ ?_ ?_ ?_ ?_
    ?_ ?_ ?_ ?_ ?_).trans (sum_partR _ 32 (by omega) r l)
  all_goals first
    | intro h; rfl
    | intro h
      obtain rfl : r = 0 := Fin.ext (by show r.val = 0; omega)
      rfl
    | rfl

theorem block3 :
    k0_pay94 (F := Ideal) (k0_pay77 V) (k0_pay92 (k0_pay75 Q) (k0_pay76 K) (k0_pay77 V) (k0_pay78 B) (k0_pay90
    (k0_pay75 Q) (k0_pay76 K) (k0_pay77 V) (k0_pay78 B) (k0_pay88 (k0_pay75 Q) (k0_pay76 K) (k0_pay77 V) (k0_pay78
    B) (k0_pay86 (k0_pay75 Q) (k0_pay76 K) (k0_pay77 V) (k0_pay78 B) (k0_pay84 (k0_pay75 Q) (k0_pay76 K) (k0_pay77
    V) (k0_pay78 B) (k0_pay82 (k0_pay75 Q) (k0_pay76 K) (k0_pay77 V) (k0_pay78 B) k0_pay79 (k0_pay80 B) (k0_pay81
    Q K)) (k0_pay83 (k0_pay78 B))) (k0_pay85 (k0_pay75 Q) (k0_pay76 K) (k0_pay78 B))) (k0_pay87 (k0_pay78 B)))
    (k0_pay89 (k0_pay75 Q) (k0_pay76 K) (k0_pay78 B))) (k0_pay91 (k0_pay78 B))) (k0_pay93 (k0_pay75 Q) (k0_pay76
    K) (k0_pay78 B)) (ix2 r l)
    = ∑ i : Fin 16, partR (chunk Q K V G B) ⟨48 + r.val, by omega⟩ l ⟨48 + i.val, by omega⟩ := by
  pointwise [k0_pay75, k0_pay76, k0_pay77, k0_pay78, k0_pay79, k0_pay80, k0_pay81, k0_pay82, k0_pay83, k0_pay84,
  k0_pay85, k0_pay86, k0_pay87, k0_pay88, k0_pay89, k0_pay90, k0_pay91, k0_pay92, k0_pay93, k0_pay94]
  refine (chainR (fun i => att (chunk Q K V G B) ⟨48 + r.val, by omega⟩ ⟨48 + i.val, by omega⟩ l
    * (chunk Q K V G B).v ⟨48 + i.val, by omega⟩ l) r _ _ _ _ _ _ _ _ _ _ _ _ _ _ _ _ ?_ ?_ ?_ ?_ ?_ ?_ ?_ ?_ ?_ ?_ ?_
    ?_ ?_ ?_ ?_ ?_).trans (sum_partR _ 48 (by omega) r l)
  all_goals first
    | intro h; rfl
    | intro h
      obtain rfl : r = 0 := Fin.ext (by show r.val = 0; omega)
      rfl
    | rfl

/-! ## The blocks after it, the state's share and the next state -/

variable (O : FVec Ideal S16x1024 .f32)

theorem rows2_at (hC : Tame (chunk Q K V G B).back)
    (hO : O (ix2 r l) = ∑ i : Fin 16, partR (chunk Q K V G B) ⟨32 + r.val, by omega⟩ l ⟨32 + i.val, by omega⟩) :
    k0_pay95 (F := Ideal) V Q K G B O (ix2 r l) = ∑ s, partR (chunk Q K V G B) ⟨32 + r.val, by omega⟩ l s := by
  pointwise [k0_pay95]
  refine Eq.trans (congrArg₂ (· + ·) hO ?_) (rowsR2 _ r l).symm
  exact Finset.sum_congr rfl fun x _ => cross_back hC 47 ⟨32 + r.val, by omega⟩ ⟨48 + x.val, by omega⟩ (by dsimp only; omega) l

theorem rows1_at (hC : Tame (chunk Q K V G B).back)
    (hO : O (ix2 r l) = ∑ i : Fin 16, partR (chunk Q K V G B) ⟨16 + r.val, by omega⟩ l ⟨16 + i.val, by omega⟩) :
    k0_pay99 (F := Ideal) V O (k0_pay97 Q G B) (k0_pay98 K G B) (ix2 r l)
      = ∑ s, partR (chunk Q K V G B) ⟨16 + r.val, by omega⟩ l s := by
  pointwise [k0_pay99, k0_pay97, k0_pay96, k0_pay98]
  refine Eq.trans (congrArg₂ (· + ·) hO (congrArg₂ (· + ·) ?_ ?_)) (rowsR1 _ r l).symm
  · exact Finset.sum_congr rfl fun x _ => cross_back hC 31 ⟨16 + r.val, by omega⟩ ⟨48 + x.val, by omega⟩ (by dsimp only; omega) l
  · exact Finset.sum_congr rfl fun x _ => cross_back hC 31 ⟨16 + r.val, by omega⟩ ⟨32 + x.val, by omega⟩ (by dsimp only; omega) l

theorem rows0_at (hC : Tame (chunk Q K V G B).back)
    (hO : O (ix2 r l) = ∑ i : Fin 16, partR (chunk Q K V G B) ⟨0 + r.val, by omega⟩ l ⟨0 + i.val, by omega⟩) :
    k0_pay100 (F := Ideal) V Q K G B O (ix2 r l) = ∑ s, partR (chunk Q K V G B) ⟨0 + r.val, by omega⟩ l s := by
  generalize hR : (∑ s, partR (chunk Q K V G B) ⟨0 + r.val, by omega⟩ l s) = R
  pointwise [k0_pay100]
  rw [← hR]
  refine Eq.trans (congrArg₂ (· + ·) hO ?_) (rowsR0 _ r l).symm
  refine Finset.sum_congr rfl fun x _ => ?_
  have hx : 16 ≤ (later x).val := by unfold later; dsimp only; split <;> (try split) <;> omega
  refine Eq.trans ?_ (cross_back hC 15 ⟨0 + r.val, by omega⟩ (later x) (by dsimp only; omega) l)
  unfold later
  simp only [Nat.zero_add]
  by_cases h1 : x.val < 16
  · simp only [dif_pos h1, if_pos h1]
    rfl
  · by_cases h2 : x.val - 16 < 16
    · simp only [dif_neg h1, dif_pos h2, if_neg h1, if_pos h2]
      rfl
    · simp only [dif_neg h1, dif_neg h2, if_neg h1, if_neg h2]
      rfl

/-- The four blocks of rows put together, and the state's share added. -/
theorem out_at (A0 A1 A2 A3 : FVec Ideal S16x1024 .f32) (f : Fin 64 → EReal) (i : Fin 64)
    (h0 : ∀ r : Fin 16, A0 (ix2 r l) = f ⟨0 + r.val, by omega⟩) (h1 : ∀ r : Fin 16, A1 (ix2 r l) = f ⟨16 + r.val, by omega⟩)
    (h2 : ∀ r : Fin 16, A2 (ix2 r l) = f ⟨32 + r.val, by omega⟩) (h3 : ∀ r : Fin 16, A3 (ix2 r l) = f ⟨48 + r.val, by omega⟩) :
    k0_pay103 (F := Ideal) S Q A3 A2 A1 A0 (k0_pay101 B) (ix2 i l)
      = f i + held (chunk Q K V G B) (fun h v e => S (ix3 h v e)) i l := by
  pointwise [k0_pay103, k0_pay101]
  refine congrArg (· + held (chunk Q K V G B) (fun h v e => S (ix3 h v e)) i l) ?_
  by_cases c0 : i.val < 16
  · rw [dif_pos c0, h0]
    exact congrArg f (Fin.ext (Nat.zero_add _))
  · by_cases c1 : i.val - 16 < 16
    · rw [dif_neg c0, dif_pos c1, h1]
      exact congrArg f (Fin.ext (by dsimp only; omega))
    · by_cases c2 : i.val - 16 - 16 < 16
      · rw [dif_neg c0, dif_neg c1, dif_pos c2, h2]
        exact congrArg f (Fin.ext (by dsimp only; omega))
      · rw [dif_neg c0, dif_neg c1, dif_neg c2, h3]
        exact congrArg f (Fin.ext (by dsimp only; omega))

theorem next_at (h : Fin 8) (v e : Fin 128) :
    k0_pay1 (F := Ideal) (k0_pay102 S V K B) (ix3 h v e) = next (chunk Q K V G B).back (fun h v e => S (ix3 h v e)) h v e := by
  rw [next_back]
  pointwise [k0_pay1, k0_pay102]
  rfl

end Cert.HrPay

end
-- ==== Proof.HrVal.lean ====
/-
  The kernel's two results: by induction along the grid the scratch holds the state after each chunk, so each point's
  block of values and of states is the plain text of `HfIn`.
-/
module

public import proofs.«01_k».proof.Proof.HrPay
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.HrVal

open Cert.HgScanFwd1Ideal Cert.HgScanFwd1Ideal.Gen Cert.HfSpec Cert.HrPay

/-- A chunk from what the body reads. -/
def seen (x0 x1 x2 : FVec Ideal S64x1024 .f32) (lb : FVec Ideal S2x1024 .f32) : Chunk :=
  chunk (k0_pay4 x0) (k0_pay6 x2 lb) x1 (k0_pay7 x2 lb) (k0_pay9 (k0_pay8 x2 lb) (FloatOps.ofBits FTy.f32 0#32))

/-- Row `turn r` of the projection's two runs. -/
theorem turn_row (n : ℕ) (hn : n < 36) (i : Fin 64) :
    (turn (row n (rev i))).val = (if n < 4 then 3 - n else 39 - n) * 64 + i.val := by
  unfold turn row rev
  dsimp only
  have e := Nat.mod_eq_of_lt hn
  have hi := i.isLt
  split <;> split <;> omega

theorem seen_eq (x0 x1 x2 : FVec Ideal S64x1024 .f32) (lb : FVec Ideal S2x1024 .f32) (x : Fin 2304 → Fin 13568 → EReal)
    (b : Fin 2 → Fin 1024 → EReal) (n : ℕ) (h0 : ∀ i l, x0 (ix2 i l) = x (turn (row n (rev i))) ⟨l.val, by omega⟩)
    (h1 : ∀ i l, x1 (ix2 i l) = x (turn (row n (rev i))) ⟨1024 + l.val, by omega⟩)
    (h2 : ∀ i l, x2 (ix2 i l) = x (turn (row n (rev i))) ⟨3072 + l.val, by omega⟩) (hb : ∀ j l, lb (ix2 j l) = b j l) :
    (seen x0 x1 x2 lb).back = chunkOf (turned x) b n := by
  have low : ∀ (k : Fin 13568), k.val < 2048 → col k = k := fun k hk => dif_neg (by omega)
  have high : ∀ (l : Fin 1024), col ⟨2048 + l.val, by omega⟩ = ⟨3072 + l.val, by omega⟩ := fun l =>
    (dif_pos ⟨by dsimp only; omega, by dsimp only; omega⟩).trans (Fin.ext (by dsimp only; omega))
  have e5 : ∀ (i : Fin 64) (l : Fin 1024), k0_pay5 (F := Ideal) x2 lb (ix2 (rev i) l) = gateAt (turned x) b n i l := by
    intro i l
    pointwise [k0_pay5]
    rw [h2, hb, hb, rev_rev, ← high]
    rfl
  have e4 : ∀ (i : Fin 64) (l : Fin 1024), k0_pay4 (F := Ideal) x0 (ix2 (rev i) l) = (chunkOf (turned x) b n).q i l := by
    intro i l
    pointwise [k0_pay4]
    rw [h0, rev_rev, ← low ⟨l.val, by omega⟩ (by dsimp only; omega)]
    rfl
  have e6 : ∀ (i : Fin 64) (l : Fin 1024), k0_pay6 (F := Ideal) x2 lb (ix2 (rev i) l) = (chunkOf (turned x) b n).k i l := by
    intro i l
    unfold k0_pay6
    pointwise
    rw [e5]
    rfl
  have e7 : ∀ (i : Fin 64) (l : Fin 1024), k0_pay7 (F := Ideal) x2 lb (ix2 (rev i) l) = (chunkOf (turned x) b n).g i l := by
    intro i l
    unfold k0_pay7
    pointwise
    rw [e5]
    rfl
  have e9 : ∀ (i : Fin 64) (l : Fin 1024),
      k0_pay9 (F := Ideal) (k0_pay8 x2 lb) (FloatOps.ofBits FTy.f32 0#32) (ix2 (rev i) l) = (chunkOf (turned x) b n).b i l := by
    intro i l
    rw [sum_at, rev_rev, (funext fun s => e7 s l : (fun s => k0_pay7 (F := Ideal) x2 lb (ix2 (rev s) l)) = _)]
    rfl
  have e1 : ∀ (i : Fin 64) (l : Fin 1024), x1 (ix2 (rev i) l) = (chunkOf (turned x) b n).v i l := by
    intro i l
    rw [h1, rev_rev, ← low ⟨1024 + l.val, by omega⟩ (by dsimp only; omega)]
    rfl
  show Chunk.mk _ _ _ _ _ = Chunk.mk _ _ _ _ _
  congr 1 <;> funext i l
  · exact e4 i l
  · exact e6 i l
  · exact e1 i l
  · exact e7 i l
  · exact e9 i l

/-- The body's block of values, as the body computes it. -/
def body (x2 : FVec Ideal S64x1024 .f32) (lb : FVec Ideal S2x1024 .f32) (Q K V G B : FVec Ideal S64x1024 .f32)
    (S : FVec Ideal S8x128x128 .f32) : FVec Ideal S64x1024 .f32 :=
      k0_pay103 (F := Ideal) S Q (k0_pay94 (k0_pay77 V) (k0_pay92 (k0_pay75 Q) (k0_pay76 K) (k0_pay77 V)
      (k0_pay78 B) (k0_pay90 (k0_pay75 Q) (k0_pay76 K) (k0_pay77 V) (k0_pay78 B) (k0_pay88 (k0_pay75 Q)
      (k0_pay76 K) (k0_pay77 V) (k0_pay78 B) (k0_pay86 (k0_pay75 Q) (k0_pay76 K) (k0_pay77 V) (k0_pay78 B)
      (k0_pay84 (k0_pay75 Q) (k0_pay76 K) (k0_pay77 V) (k0_pay78 B) (k0_pay82 (k0_pay75 Q) (k0_pay76 K)
      (k0_pay77 V) (k0_pay78 B) k0_pay79 (k0_pay80 B) (k0_pay81 Q K)) (k0_pay83 (k0_pay78 B))) (k0_pay85
      (k0_pay75 Q) (k0_pay76 K) (k0_pay78 B))) (k0_pay87 (k0_pay78 B))) (k0_pay89 (k0_pay75 Q) (k0_pay76 K)
      (k0_pay78 B))) (k0_pay91 (k0_pay78 B))) (k0_pay93 (k0_pay75 Q) (k0_pay76 K) (k0_pay78 B))) (k0_pay95 V Q K
      G B (k0_pay74 (k0_pay58 Q) (k0_pay59 K) (k0_pay60 V) (k0_pay61 B) (k0_pay72 (k0_pay58 Q) (k0_pay59 K)
      (k0_pay60 V) (k0_pay61 B) (k0_pay70 (k0_pay58 Q) (k0_pay59 K) (k0_pay60 V) (k0_pay61 B) (k0_pay68
      (k0_pay58 Q) (k0_pay59 K) (k0_pay60 V) (k0_pay61 B) (k0_pay66 (k0_pay58 Q) (k0_pay59 K) (k0_pay60 V)
      (k0_pay61 B) (k0_pay64 (k0_pay58 Q) (k0_pay59 K) (k0_pay60 V) (k0_pay61 B) (k0_pay62 V Q K B) (k0_pay63 Q
      K B)) (k0_pay65 (k0_pay61 B))) (k0_pay67 (k0_pay58 Q) (k0_pay59 K) (k0_pay61 B))) (k0_pay69 (k0_pay61 B)))
      (k0_pay71 (k0_pay58 Q) (k0_pay59 K) (k0_pay61 B))) (k0_pay73 (k0_pay61 B)))) (k0_pay99 V (k0_pay57
      (k0_pay36 Q) (k0_pay37 K) (k0_pay38 V) (k0_pay55 (k0_pay36 Q) (k0_pay37 K) (k0_pay38 V) (k0_pay39 B)
      (k0_pay52 (k0_pay36 Q) (k0_pay37 K) (k0_pay38 V) (k0_pay39 B) (k0_pay50 (k0_pay36 Q) (k0_pay37 K)
      (k0_pay38 V) (k0_pay39 B) (k0_pay47 (k0_pay36 Q) (k0_pay37 K) (k0_pay38 V) (k0_pay39 B) (k0_pay45
      (k0_pay36 Q) (k0_pay37 K) (k0_pay38 V) (k0_pay39 B) (k0_pay42 (k0_pay36 Q) (k0_pay37 K) (k0_pay38 V)
      (k0_pay39 B) k0_pay40 (k0_pay41 B) (FloatOps.ofBits FTy.f32 0#32)) (k0_pay43 (k0_pay36 Q) (k0_pay37 K)
      (k0_pay39 B)) (k0_pay44 (k0_pay38 V))) (k0_pay46 (k0_pay39 B))) (k0_pay48 (k0_pay36 Q) (k0_pay37 K)
      (k0_pay39 B)) (k0_pay49 (k0_pay38 V))) (k0_pay51 (k0_pay39 B))) (k0_pay53 (k0_pay36 Q) (k0_pay37 K)
      (k0_pay39 B)) (k0_pay54 (k0_pay38 V))) (k0_pay56 (k0_pay39 B))) (k0_pay97 Q G B) (k0_pay98 K G B))
      (k0_pay100 V Q K G B (k0_pay35 (k0_pay10 Q) (k0_pay11 K) (k0_pay12 V) (k0_pay13 (k0_pay8 x2 lb)
      (FloatOps.ofBits FTy.f32 0#32)) (k0_pay32 (k0_pay10 Q) (k0_pay11 K) (k0_pay12 V) (k0_pay13 (k0_pay8 x2 lb)
      (FloatOps.ofBits FTy.f32 0#32)) (k0_pay28 (k0_pay10 Q) (k0_pay11 K) (k0_pay12 V) (k0_pay13 (k0_pay8 x2 lb)
      (FloatOps.ofBits FTy.f32 0#32)) (k0_pay25 (k0_pay10 Q) (k0_pay11 K) (k0_pay12 V) (k0_pay13 (k0_pay8 x2 lb)
      (FloatOps.ofBits FTy.f32 0#32)) (k0_pay21 (k0_pay10 Q) (k0_pay11 K) (k0_pay12 V) (k0_pay13 (k0_pay8 x2 lb)
      (FloatOps.ofBits FTy.f32 0#32)) (k0_pay18 (k0_pay10 Q) (k0_pay11 K) (k0_pay12 V) (k0_pay13 (k0_pay8 x2 lb)
      (FloatOps.ofBits FTy.f32 0#32)) (k0_pay14 V Q K (k0_pay8 x2 lb) (FloatOps.ofBits FTy.f32 0#32)) (k0_pay15
      (k0_pay8 x2 lb) (FloatOps.ofBits FTy.f32 0#32)) (k0_pay16 Q) (k0_pay17 K)) (k0_pay19 (k0_pay10 Q)
      (k0_pay11 K) (k0_pay12 V) (k0_pay13 (k0_pay8 x2 lb) (FloatOps.ofBits FTy.f32 0#32))) k0_pay20) (k0_pay22
      (k0_pay13 (k0_pay8 x2 lb) (FloatOps.ofBits FTy.f32 0#32))) (k0_pay23 (k0_pay10 Q)) (k0_pay24 (k0_pay11
      K))) (k0_pay26 (k0_pay10 Q) (k0_pay11 K) (k0_pay12 V) (k0_pay13 (k0_pay8 x2 lb) (FloatOps.ofBits FTy.f32
      0#32))) k0_pay27) (k0_pay29 (k0_pay13 (k0_pay8 x2 lb) (FloatOps.ofBits FTy.f32 0#32))) (k0_pay30 (k0_pay10
      Q)) (k0_pay31 (k0_pay11 K))) (k0_pay33 (k0_pay10 Q) (k0_pay11 K) (k0_pay12 V) (k0_pay13 (k0_pay8 x2 lb)
      (FloatOps.ofBits FTy.f32 0#32))) k0_pay34)) (k0_pay101 B)

theorem full_at (x2 : FVec Ideal S64x1024 .f32) (lb : FVec Ideal S2x1024 .f32) (Q K V G B : FVec Ideal S64x1024 .f32)
    (S : FVec Ideal S8x128x128 .f32) (i : Fin 64) (l : Fin 1024)
    (hB : B = k0_pay9 (k0_pay8 x2 lb) (FloatOps.ofBits FTy.f32 0#32)) (hC : Tame (chunk Q K V G B).back) :
    body x2 lb Q K V G B S (ix2 i l)
    = out (chunk Q K V G B).back (fun h v e => S (ix3 h v e)) (rev i) l := by
  rw [out_back]
  unfold body
  refine out_at Q K V G B S l _ _ _ _ (fun i => ∑ s, partR (chunk Q K V G B) i l s) i (fun r => ?_) (fun r => ?_) (fun r => ?_) fun r => ?_
  · refine rows0_at Q K V G B r l _ hC (block0 Q K V G B _ r l _ fun r h e => ?_)
    subst hB
    generalize k0_pay8 (F := Ideal) x2 lb = P
    unfold k0_pay13
    generalize k0_pay9 (F := Ideal) P (FloatOps.ofBits FTy.f32 0#32) = B
    pointwise
    rfl
  · exact rows1_at Q K V G B r l _ hC (block1 Q K V G B r l)
  · exact rows2_at Q K V G B r l _ hC (block2 Q K V G B r l)
  · exact (block3 Q K V G B r l).trans (rowsR3 _ r l).symm

variable (m : (ℓ : Loc nD τ sig) → Buf (Elt Ideal) ℓ)

/-- The projection and the gates' bounds at launch. -/
def X (c : Dev nD) (r : Fin 2304) (k : Fin 13568) : EReal := m ((c : Thread nD τ).loc main_arg0) (ix2 r k)
def L (c : Dev nD) (j : Fin 2) (l : Fin 1024) : EReal := m ((c : Thread nD τ).loc main_arg1) (ix2 j l)

/-- The block of rows that point `n` works on. -/
def ord (n : ℕ) : ℕ := if n < 4 then 3 - n else 39 - n

theorem idx : ∀ t : Fin cfg0.N, win0_0.index t = ![ord t.val, 0] ∧ win0_1.index t = ![ord t.val, 1] ∧ win0_2.index t = ![ord t.val, 3]
    ∧ win0_3.index t = ![0, 0] ∧ win0_4.index t = ![ord t.val, 0] ∧ win0_5.index t = ![t.val, 0, 0, 0] :=
  (by decide +kernel : ∀ t : Fin grid0.N, _)

theorem lt_N (t : Fin cfg0.N) : t.val < 36 := lt_of_lt_of_eq t.isLt N_0

theorem seen_at (c : Dev nD) (t : Fin cfg0.N) :
    (seen (X0_0 m c t) (X0_1 m c t) (X0_2 m c t) (iblk m c 3 t)).back = chunkOf (turned (X m c)) (L m c) t.val := by
  have ht := lt_N t
  have at_row : ∀ (i : Fin 64) (k k' : Fin 13568) (r : Fin 2304), r.val = ord t.val * 64 + i.val → k.val = k'.val →
      X m c r k = X m c (turn (row t.val (rev i))) k' := by
    intro i k k' r hr hk
    obtain rfl := Fin.ext hk
    exact congrArg (fun r => X m c r k) (Fin.ext (hr.trans (turn_row t.val ht i).symm))
  refine seen_eq _ _ _ _ _ _ _ (fun i l => ?_) (fun i l => ?_) (fun i l => ?_) fun j l => ?_
  · unfold X0_0 Pipeline.Window.fill
    rw [dif_pos (moved0_0 t _)]
    refine Eq.trans ?_ (at_row i _ _ ⟨ord t.val * 64 + i.val, by unfold ord; split <;> omega⟩ rfl rfl)
    unfold X
    blk_point [iblk, V, idx t]
  · unfold X0_1 Pipeline.Window.fill
    rw [dif_pos (moved0_1 t _)]
    refine Eq.trans ?_ (at_row i _ _ ⟨ord t.val * 64 + i.val, by unfold ord; split <;> omega⟩ rfl rfl)
    unfold X
    blk_point [iblk, V, idx t]
  · unfold X0_2 Pipeline.Window.fill
    rw [dif_pos (moved0_2 t _)]
    refine Eq.trans ?_ (at_row i _ _ ⟨ord t.val * 64 + i.val, by unfold ord; split <;> omega⟩ rfl rfl)
    unfold X
    blk_point [iblk, V, idx t]
  · unfold L
    blk_point [iblk, V, idx t]

/-- The scratch before and after a point. -/
theorem zero_at (h : Fin 8) (v e : Fin 128) : k0_pay2 (F := Ideal) (ix3 h v e) = 0 := by pointwise [k0_pay2]

theorem next_seen (c : Dev nD) (t : Fin cfg0.N) (S : FVec Ideal S8x128x128 .f32)
    (hS : ∀ h v e, S (ix3 h v e) = St (turned (X m c)) (L m c) t.val h v e) (h : Fin 8) (v e : Fin 128) :
    k0_pay1 (F := Ideal) (k0_pay102 S (X0_1 m c t) (k0_pay6 (X0_2 m c t) (iblk m c 3 t))
      (k0_pay9 (k0_pay8 (X0_2 m c t) (iblk m c 3 t)) (FloatOps.ofBits FTy.f32 0#32))) (ix3 h v e)
      = St (turned (X m c)) (L m c) (t.val + 1) h v e := by
  have e1 := seen_at m c t
  unfold seen at e1
  refine (next_at (k0_pay4 (X0_0 m c t)) _ _ (k0_pay7 (X0_2 m c t) (iblk m c 3 t)) _ S h v e).trans ?_
  rw [e1, (funext fun h => funext fun v => funext fun e => hS h v e : (fun h v e => S (ix3 h v e)) = _)]
  rfl

theorem state_at (c : Dev nD) (n : ℕ) (hn : n < cfg0.N) (h : Fin 8) (v e : Fin 128) :
    (outsAt0 m c n hn).2.2 (ix3 h v e) = St (turned (X m c)) (L m c) (n + 1) h v e := by
  induction n generalizing h v e with
  | zero =>
    rw [outsAt0_A m c ⟨0, hn⟩ rfl]
    frame_out
    exact next_seen m c ⟨0, hn⟩ _ zero_at h v e
  | succ n ih =>
    have h36 := lt_N ⟨n + 1, hn⟩
    rw [outsAt0_B m c ⟨n + 1, hn⟩ (by dsimp only at h36 ⊢; omega)]
    frame_out
    refine next_seen m c ⟨n + 1, hn⟩ _ (fun h v e => ?_) h v e
    rw [read_unread_whole]
    exact ih _ h v e

theorem outs_seen (c : Dev nD) (hL : ∀ j l, ∃ r : ℝ, L m c j l = r) (t : Fin cfg0.N) (S : FVec Ideal S8x128x128 .f32)
    (hS : ∀ h v e, S (ix3 h v e) = St (turned (X m c)) (L m c) t.val h v e) (i : Fin 64) (l : Fin 1024) :
    body (X0_2 m c t) (iblk m c 3 t) (k0_pay4 (X0_0 m c t)) (k0_pay6 (X0_2 m c t) (iblk m c 3 t)) (X0_1 m c t)
      (k0_pay7 (X0_2 m c t) (iblk m c 3 t))
      (k0_pay9 (k0_pay8 (X0_2 m c t) (iblk m c 3 t)) (FloatOps.ofBits FTy.f32 0#32)) S (ix2 i l) = out (chunkOf (turned (X m c)) (L m c) t.val) (St (turned (X m c)) (L m c) t.val) (rev i) l := by
  have e1 := seen_at m c t
  unfold seen at e1
  refine (full_at _ _ _ _ _ _ _ S i l rfl (by rw [e1]; exact tame_chunk _ _ hL _)).trans ?_
  rw [e1, (funext fun h => funext fun v => funext fun e => hS h v e : (fun h v e => S (ix3 h v e)) = _)]

theorem pay3_at (S : FVec Ideal S8x128x128 .f32) (h : Fin 8) (v e : Fin 128) :
    k0_pay3 (F := Ideal) S (ix4 0 h v e) = S (ix3 h v e) := by pointwise [k0_pay3]

/-- What the scratch holds when point `t` starts. -/
theorem held_at (c : Dev nD) (t : Fin cfg0.N) (h0 : ¬ t.val % 36 = 0) (hn : t.val - 1 < cfg0.N) (h : Fin 8) (v e : Fin 128) :
    (outsAt0 m c (t.val - 1) hn).2.2 (ix3 h v e) = St (turned (X m c)) (L m c) t.val h v e := by
  have e1 : t.val = t.val - 1 + 1 := by have := lt_N t; omega
  rw [state_at, ← e1]

theorem start_at (c : Dev nD) (t : Fin cfg0.N) (h0 : t.val % 36 = 0) (h : Fin 8) (v e : Fin 128) :
    k0_pay2 (F := Ideal) (ix3 h v e) = St (turned (X m c)) (L m c) t.val h v e := by
  have e1 : t.val = 0 := by have := lt_N t; omega
  rw [zero_at, e1]
  rfl

theorem outAt_of {x : Fin 2304 → Fin 13568 → EReal} {lb : Fin 2 → Fin 1024 → EReal} (n : ℕ) (i : Fin 64) (l : Fin 1024) (r : Fin 2304) (l' : Fin 1024)
    (hn : n < 36) (hr : r.val = ord n * 64 + i.val) (hl : l'.val = l.val) : out (chunkOf x lb n) (St x lb n) (rev i) l = outAt x lb (turn r) l' := by
  obtain rfl : l' = l := Fin.ext hl
  have hi := i.isLt
  have e : (turn r).val = n * 64 + (63 - i.val) := by
    unfold turn ord at *
    dsimp only
    split at hr <;> split <;> omega
  have h1 : (turn r).val / 64 = n := by omega
  have h2 : (⟨(turn r).val % 64, by omega⟩ : Fin 64) = rev i := Fin.ext (by change (turn r).val % 64 = 63 - i.val; omega)
  unfold outAt
  rw [h1, h2]

/-- The first result after the run: the values. -/
theorem final_out (c : Dev nD) (hL : ∀ j l, ∃ r : ℝ, L m c j l = r) : (dats m 0 c).arrAt 4 cfg0.N
    = (fun j => outAt (turned (X m c)) (L m c) (turn (j 0)) (j 1) : FVec Ideal S2304x1024 .f32) := by
  refine (dats m 0 c).arrAt_eq_of_covers 4 _ (by decide +kernel) fun t _ y => ?_
  have ht := lt_N t
  blk_simp
  rw [after0_4]
  by_cases h : t.val % 36 = 0
  · rw [outsAt0_A m c t h]
    frame_out
    idx_vars y
    refine (outs_seen m c hL t _ (start_at m c t h) y0 y1).trans (outAt_of _ _ _ _ _ ht ?_ ?_) <;> blk_simp [idx t]
  · rw [outsAt0_B m c t h]
    frame_out
    idx_vars y
    rw [read_unread_whole]
    refine (outs_seen m c hL t _ (held_at m c t h _) y0 y1).trans (outAt_of _ _ _ _ _ ht ?_ ?_) <;> blk_simp [idx t]

/-- The second result after the run: the state before each chunk. -/
theorem final_states (c : Dev nD) : (dats m 0 c).arrAt 5 cfg0.N
    = (fun j => St (turned (X m c)) (L m c) (j 0).val (j 1) (j 2) (j 3) : FVec Ideal S36x8x128x128 .f32) := by
  refine (dats m 0 c).arrAt_eq_of_covers 5 _ (by decide +kernel) fun t _ y => ?_
  have ht := lt_N t
  have same : ∀ (n n' : ℕ) (h h' : Fin 8) (v v' e e' : Fin 128), n = n' → h.val = h'.val → v.val = v'.val → e.val = e'.val →
      St (turned (X m c)) (L m c) n h v e = St (turned (X m c)) (L m c) n' h' v' e' := by
    intro n n' h h' v v' e e' hn hh hv he
    obtain rfl := Fin.ext hh
    obtain rfl := Fin.ext hv
    obtain rfl := Fin.ext he
    rw [hn]
  blk_simp
  rw [after0_5]
  by_cases h : t.val % 36 = 0
  · rw [outsAt0_A m c t h]
    frame_out
    idx_vars y
    obtain rfl : y0 = 0 := Subsingleton.elim _ _
    refine ((pay3_at _ y1 y2 y3).trans (start_at m c t h y1 y2 y3)).trans (same _ _ _ _ _ _ _ _ ?_ ?_ ?_ ?_) <;> blk_simp [idx t]
  · rw [outsAt0_B m c t h]
    frame_out
    idx_vars y
    obtain rfl : y0 = 0 := Subsingleton.elim _ _
    rw [read_unread_whole]
    refine ((pay3_at _ y1 y2 y3).trans (held_at m c t h _ y1 y2 y3)).trans (same _ _ _ _ _ _ _ _ ?_ ?_ ?_ ?_) <;> blk_simp [idx t]

end Cert.HrVal

end
-- ==== Proof.HrTrip.lean ====
/-
  The second direction's reference: what its loop carries in (each run of rows from its end), one trip, and its results.
-/
module

public import proofs.«01_k».proof.Proof.Gen.HgScanFwd1RefIdeal.Run
public import proofs.«01_k».proof.Proof.HfLoop
public import proofs.«01_k».proof.Proof.HfRev

@[expose] public section

set_option maxRecDepth 16384

noncomputable section

open Idealize.ShloMosaic Idealize.ShloMosaic.TcCoe Idealize.SL.Sem Idealize.ShloMosaic.StableHlo

namespace Cert.HrRef

open Cert.HgScanFwd1RefIdeal Cert.HgScanFwd1RefIdeal.Gen Cert.HgScanFwd1RefIdeal.Value Cert.HfSpec

variable (m : (ℓ : Loc nD τ sig) → Buf (Elt Ideal) ℓ)

/-- The projection and the gates' bounds at launch. -/
def X (c : Dev nD) (r : Fin 2304) (k : Fin 13568) : EReal := m ((c : Thread nD τ).loc main_arg0) (ix2 r k)
def L (c : Dev nD) (j : Fin 2) (l : Fin 1024) : EReal := m ((c : Thread nD τ).loc main_arg1) (ix2 j l)

/-- Each of the two runs of rows from its end. -/
def flip (a : FVec Ideal S1x2304x8x128 .f32) : FVec Ideal S1x2304x8x128 .f32 :=
  concatenate S1x2304x8x128 1
    [⟨S1x256x8x128, Host.reverse [1] (extractStridedSlice S1x256x8x128 ![0, 0, 0, 0] a slices_S1x2304x8x128_S1x256x8x128_0_0_0_0)⟩,
     ⟨S1x2048x8x128, Host.reverse [1] (extractStridedSlice S1x2048x8x128 ![0, 256, 0, 0] a slices_S1x2304x8x128_S1x2048x8x128_0_256_0_0)⟩]
    concatenates_S1x256x8x128_S1x2048x8x128_S1x2304x8x128_d1

theorem flip_at (a : FVec Ideal S1x2304x8x128 .f32) (r : Fin 2304) (h : Fin 8) (e : Fin 128) :
    flip a (ix4 0 r h e) = a (ix4 0 (turn r) h e) := by
  unfold flip
  pointwise
  have hr := r.isLt
  by_cases c : r.val < 256
  · rw [dif_pos c]
    refine congrArg a (congrArg (fun r => ix4 0 r h e) (Fin.ext ?_))
    refine (?_ : 256 - (r.val + 1) = 255 - r.val).trans (if_pos c).symm
    omega
  · rw [dif_neg c]
    refine congrArg a (congrArg (fun r => ix4 0 r h e) (Fin.ext ?_))
    refine (?_ : 256 + (2048 - (r.val - 256 + 1)) = 2559 - r.val).trans (if_neg c).symm
    omega

/-- The chunks of the turned rows, one head after another. -/
def stackR (w : FVec Ideal S2304x1024 .f32) : FVec Ideal S36x1x8x64x128 .f32 :=
  transpose S36x1x8x64x128 [1, 0, 3, 2, 4]
    (shapeCast S1x36x64x8x128 (flip (shapeCast S1x2304x8x128 w shapeCasts_S2304x1024_S1x2304x8x128))
      shapeCasts_S1x2304x8x128_S1x36x64x8x128)
    transposes_S1x36x64x8x128_S36x1x8x64x128_1_0_3_2_4

theorem stackR_at (w : FVec Ideal S2304x1024 .f32) (n : Fin 36) (h : Fin 8) (s : Fin 64) (e : Fin 128) :
    stackR w (ix5 n 0 h s e) = w (ix2 (turn (row n.val s)) (lane h e)) := by
  have hr : ∀ a : FVec Ideal S1x2304x8x128 .f32, (transpose S36x1x8x64x128 [1, 0, 3, 2, 4]
    (shapeCast S1x36x64x8x128 a shapeCasts_S1x2304x8x128_S1x36x64x8x128)
    transposes_S1x36x64x8x128_S36x1x8x64x128_1_0_3_2_4) (ix5 n 0 h s e) = a (ix4 0 (row n.val s) h e) := by
    intro a
    unfold row
    pointwise
    exact congrArg a (congrArg (fun r => ix4 0 r h e) (Fin.ext (by change n.val * 64 + s.val = n.val % 36 * 64 + s.val; rw [Nat.mod_eq_of_lt n.isLt])))
  unfold stackR
  rw [hr, flip_at]
  generalize turn (row n.val s) = r
  unfold lane
  pointwise

/-- The projection's columns that the scan reads. -/
def colsQ (c : Dev nD) : FVec Ideal S2304x1024 .f32 :=
  extractStridedSlice S2304x1024 ![0, 0] (m ((c : Thread nD τ).loc main_arg0)) slices_S2304x13568_S2304x1024_0_0
def colsV (c : Dev nD) : FVec Ideal S2304x1024 .f32 :=
  extractStridedSlice S2304x1024 ![0, 1024] (m ((c : Thread nD τ).loc main_arg0)) slices_S2304x13568_S2304x1024_0_1024
def colsF (c : Dev nD) : FVec Ideal S2304x1024 .f32 :=
  extractStridedSlice S2304x1024 ![0, 3072] (m ((c : Thread nD τ).loc main_arg0)) slices_S2304x13568_S2304x1024_0_3072

theorem colsQ_at (c : Dev nD) (r : Fin 2304) (l : Fin 1024) : colsQ m c (ix2 (turn r) l) = turned (X m c) r ⟨l.val, by omega⟩ := by
  have e : col ⟨l.val, by omega⟩ = ⟨l.val, by omega⟩ := dif_neg (by dsimp only; omega)
  unfold colsQ turned X
  rw [e]
  pointwise
theorem colsV_at (c : Dev nD) (r : Fin 2304) (l : Fin 1024) : colsV m c (ix2 (turn r) l) = turned (X m c) r ⟨1024 + l.val, by omega⟩ := by
  have e : col ⟨1024 + l.val, by omega⟩ = ⟨1024 + l.val, by omega⟩ := dif_neg (by dsimp only; omega)
  unfold colsV turned X
  rw [e]
  pointwise
theorem colsF_at (c : Dev nD) (r : Fin 2304) (l : Fin 1024) : colsF m c (ix2 (turn r) l) = turned (X m c) r ⟨2048 + l.val, by omega⟩ := by
  have e : col ⟨2048 + l.val, by omega⟩ = ⟨3072 + l.val, by omega⟩ :=
    (dif_pos ⟨by dsimp only; omega, by dsimp only; omega⟩).trans (Fin.ext (by dsimp only; omega))
  unfold colsF turned X
  rw [e]
  pointwise

/-- The chunks of the two runs of rows. -/
def joined (a : FVec Ideal S1x256x8x128 .f32) (b : FVec Ideal S1x2048x8x128 .f32) : FVec Ideal S36x1x8x64x128 .f32 :=
  transpose S36x1x8x64x128 [1, 0, 3, 2, 4]
    (shapeCast S1x36x64x8x128 (concatenate S1x2304x8x128 1 [⟨S1x256x8x128, a⟩, ⟨S1x2048x8x128, b⟩]
      concatenates_S1x256x8x128_S1x2048x8x128_S1x2304x8x128_d1) shapeCasts_S1x2304x8x128_S1x36x64x8x128)
    transposes_S1x36x64x8x128_S36x1x8x64x128_1_0_3_2_4

/-- The two runs of rows, each from its end. -/
def runA (w : FVec Ideal S2304x1024 .f32) : FVec Ideal S1x256x8x128 .f32 :=
  Host.reverse [1] (extractStridedSlice S1x256x8x128 ![0, 0, 0, 0] (shapeCast S1x2304x8x128 w shapeCasts_S2304x1024_S1x2304x8x128)
    slices_S1x2304x8x128_S1x256x8x128_0_0_0_0)
def runB (w : FVec Ideal S2304x1024 .f32) : FVec Ideal S1x2048x8x128 .f32 :=
  Host.reverse [1] (extractStridedSlice S1x2048x8x128 ![0, 256, 0, 0] (shapeCast S1x2304x8x128 w shapeCasts_S2304x1024_S1x2304x8x128)
    slices_S1x2304x8x128_S1x2048x8x128_0_256_0_0)

theorem joined_runs (w : FVec Ideal S2304x1024 .f32) : joined (runA w) (runB w) = stackR w := rfl

theorem entry_q (c : Dev nD) : (entryContents preI m c (Proc.devRef .tc main_v72_0) : FVec Ideal S36x1x8x64x128 .f32) = stackR (HfRef.asks (colsQ m c)) := by
  refine Eq.trans ?_ (joined_runs _)
  simp only [entryContents, afterL_cons, afterL_nil]
  after_reads_simp
  refine (congrArg₂ joined (?_ : _ = runA (HfRef.asks (colsQ m c))) (?_ : _ = runB (HfRef.asks (colsQ m c))) :)
  · after_reads_simp
    simp -implicitDefEqProofs only [StableHlo.TRef.toBuf, StableHlo.TRef.ofBuf, cast_cast, cast_eq]
    rfl
  · after_reads_simp
    simp -implicitDefEqProofs only [StableHlo.TRef.toBuf, StableHlo.TRef.ofBuf, cast_cast, cast_eq]
    rfl

theorem entry_k (c : Dev nD) : (entryContents preI m c (Proc.devRef .tc main_v72_1) : FVec Ideal S36x1x8x64x128 .f32) = stackR (HfRef.keys (colsF m c) (m ((c : Thread nD τ).loc main_arg1))) := by
  refine Eq.trans ?_ (joined_runs _)
  simp only [entryContents, afterL_cons, afterL_nil]
  after_reads_simp
  refine (congrArg₂ joined (?_ : _ = runA (HfRef.keys (colsF m c) (m ((c : Thread nD τ).loc main_arg1)))) (?_ : _ = runB (HfRef.keys (colsF m c) (m ((c : Thread nD τ).loc main_arg1)))) :)
  · after_reads_simp
    simp -implicitDefEqProofs only [StableHlo.TRef.toBuf, StableHlo.TRef.ofBuf, cast_cast, cast_eq]
    rfl
  · after_reads_simp
    simp -implicitDefEqProofs only [StableHlo.TRef.toBuf, StableHlo.TRef.ofBuf, cast_cast, cast_eq]
    rfl

theorem entry_v (c : Dev nD) : (entryContents preI m c (Proc.devRef .tc main_v72_2) : FVec Ideal S36x1x8x64x128 .f32) = stackR (colsV m c) := by
  refine Eq.trans ?_ (joined_runs _)
  simp only [entryContents, afterL_cons, afterL_nil]
  after_reads_simp
  refine (congrArg₂ joined (?_ : _ = runA (colsV m c)) (?_ : _ = runB (colsV m c)) :)
  · after_reads_simp
    simp -implicitDefEqProofs only [StableHlo.TRef.toBuf, StableHlo.TRef.ofBuf, cast_cast, cast_eq]
    rfl
  · after_reads_simp
    simp -implicitDefEqProofs only [StableHlo.TRef.toBuf, StableHlo.TRef.ofBuf, cast_cast, cast_eq]
    rfl

theorem entry_g (c : Dev nD) : (entryContents preI m c (Proc.devRef .tc main_v72_3) : FVec Ideal S36x1x8x64x128 .f32) = stackR (Host.log (HfRef.gates (colsF m c) (m ((c : Thread nD τ).loc main_arg1)))) := by
  refine Eq.trans ?_ (joined_runs _)
  simp only [entryContents, afterL_cons, afterL_nil]
  after_reads_simp
  refine (congrArg₂ joined (?_ : _ = runA (Host.log (HfRef.gates (colsF m c) (m ((c : Thread nD τ).loc main_arg1))))) (?_ : _ = runB (Host.log (HfRef.gates (colsF m c) (m ((c : Thread nD τ).loc main_arg1))))) :)
  · after_reads_simp
    simp -implicitDefEqProofs only [StableHlo.TRef.toBuf, StableHlo.TRef.ofBuf, cast_cast, cast_eq]
    rfl
  · after_reads_simp
    simp -implicitDefEqProofs only [StableHlo.TRef.toBuf, StableHlo.TRef.ofBuf, cast_cast, cast_eq]
    rfl

theorem entry_tri (c : Dev nD) : (entryContents preI m c (Proc.devRef .tc main_v72_4) : IVec S64x64 1) = HfRef.tri := by
  simp only [entryContents, afterL_cons, afterL_nil]
  after_reads_simp
  rfl

theorem entry_count (c : Dev nD) : (entryContents preI m c (Proc.devRef .tc main_v72_5) : IVec S_ 32) = constantI S_ 32 0#32 := by
  simp only [entryContents, afterL_cons, afterL_nil]
  after_reads_simp
  rfl

theorem entry_state (c : Dev nD) : (entryContents preI m c (Proc.devRef .tc main_v72_6) : FVec Ideal S1x8x128x128 .f32) = fun _ => (0 : EReal) := by
  simp only [entryContents, afterL_cons, afterL_nil]
  after_reads_simp
  funext y
  exact Ideal.ofBits_zero_f32

/-- What the loop carries before trip `n`. -/
def At (x : Fin 2304 → Fin 13568 → EReal) (lb : Fin 2 → Fin 1024 → EReal) (n : ℕ) (V : Valuation τ sig (Elt Ideal)) : Prop :=
  HfRef.Holds x lb n (V (Proc.devRef .tc main_v72_0)) (V (Proc.devRef .tc main_v72_1)) (V (Proc.devRef .tc main_v72_2)) (V (Proc.devRef .tc main_v72_3))
    (V (Proc.devRef .tc main_v72_4)) (V (Proc.devRef .tc main_v72_5)) (V (Proc.devRef .tc main_v72_6)) (V (Proc.devRef .tc main_v72_7)) (V (Proc.devRef .tc main_v72_8))

theorem step {x : Fin 2304 → Fin 13568 → EReal} {lb : Fin 2 → Fin 1024 → EReal} {V : Valuation τ sig (Elt Ideal)} {n : Fin 36}
    (A : At x lb n.val V) : At x lb (n.val + 1) (STEP V) := by
  have B := HfRef.Holds.next A
  unfold At
  rw [STEP_main_v72_0 V, STEP_main_v72_1 V, STEP_main_v72_2 V, STEP_main_v72_3 V, STEP_main_v72_4 V, STEP_main_v72_5 V, STEP_main_v72_6 V, STEP_main_v72_7 V, STEP_main_v72_8 V]
  exact B

theorem at_entry (c : Dev nD) (hL : ∀ j l, ∃ r : ℝ, L m c j l = r) : At (turned (X m c)) (L m c) 0 (entryContents preI m c) where
  q := fun r h s e => (congrFun (entry_q m c) _).trans ((stackR_at _ r h s e).trans ((HfRef.asks_at _ _ _).trans (by rw [colsQ_at]; rfl)))
  k := fun r h s e => (congrFun (entry_k m c) _).trans ((stackR_at _ r h s e).trans ((HfRef.keys_at _ _ hL _ _).trans (by rw [colsF_at]; rfl)))
  v := fun r h s e => (congrFun (entry_v m c) _).trans ((stackR_at _ r h s e).trans ((colsV_at m c _ _).trans rfl))
  g := fun r h s e => (congrFun (entry_g m c) _).trans ((stackR_at _ r h s e).trans
    (congrArg Ideal.log ((HfRef.gates_at _ _ hL _ _).trans (by rw [colsF_at]; rfl))))
  mask := entry_tri m c
  count := (entry_count m c).trans (funext fun _ => rfl)
  state := fun h e v => congrFun (entry_state m c) _
  outs := fun r h s e hr => absurd hr (Nat.not_lt_zero _)
  states := fun r h e v hr => absurd hr (Nat.not_lt_zero _)

theorem at_trip (c : Dev nD) (hL : ∀ j l, ∃ r : ℝ, L m c j l = r) :
    ∀ n : ℕ, n ≤ 36 → At (turned (X m c)) (L m c) n (STEP^[n] (entryContents preI m c))
  | 0, _ => at_entry m c hL
  | n + 1, hn => by
    rw [Function.iterate_succ_apply']
    exact step (n := ⟨n, hn⟩) (at_trip c hL n (by omega))

theorem final_out (c : Dev nD) (hL : ∀ j l, ∃ r : ℝ, L m c j l = r) :
    (out_main_v80 (STEP^[36] (entryContents preI m c)) : FVec Ideal S2304x1024 .f32)
      = fun j => outAt (turned (X m c)) (L m c) (turn (j 0)) (j 1) := by
  have ho := (at_trip m c hL 36 le_rfl).outs
  generalize STEP^[36] (entryContents preI m c) = V at ho
  have he : (out_main_v80 V : FVec Ideal S2304x1024 .f32) = shapeCast S2304x1024 (flip (shapeCast S1x2304x8x128
    (transpose S1x36x64x8x128 [1, 0, 3, 2, 4] (V (Proc.devRef .tc main_v72_7) : FVec Ideal S36x1x8x64x128 .f32) transposes_S36x1x8x64x128_S1x36x64x8x128_1_0_3_2_4)
    shapeCasts_S1x36x64x8x128_S1x2304x8x128)) shapeCasts_S1x2304x8x128_S2304x1024 := rfl
  rw [he]
  generalize (V (Proc.devRef .tc main_v72_7) : FVec Ideal S36x1x8x64x128 .f32) = W at ho
  funext j
  idx_vars j
  generalize hA : shapeCast S1x2304x8x128
    (transpose S1x36x64x8x128 [1, 0, 3, 2, 4] W transposes_S36x1x8x64x128_S1x36x64x8x128_1_0_3_2_4) shapeCasts_S1x36x64x8x128_S1x2304x8x128 = A
  have e1 : shapeCast S2304x1024 (flip A) shapeCasts_S1x2304x8x128_S2304x1024 (ix2 j0 j1)
      = flip A (ix4 0 j0 ⟨j1.val / 128, by omega⟩ ⟨j1.val % 128, by omega⟩) := by
    generalize flip A = Y
    pointwise
  refine (e1.trans (flip_at _ _ _ _)).trans ?_
  change _ = outAt (turned (X m c)) (L m c) (turn j0) j1
  generalize turn j0 = r
  rw [← hA]
  have hr := r.isLt
  have e := ho ⟨r.val / 64, by omega⟩ ⟨j1.val / 128, by omega⟩ ⟨r.val % 64, by omega⟩ ⟨j1.val % 128, by omega⟩
    (by change r.val / 64 < 36; omega)
  refine Eq.trans (α := EReal) ?_ (e.trans ?_)
  · pointwise
  · unfold outAt
    refine congrArg (out (chunkOf (turned (X m c)) (L m c) (r.val / 64)) (St (turned (X m c)) (L m c) (r.val / 64)) ⟨r.val % 64, by omega⟩) (Fin.ext ?_)
    change j1.val / 128 * 128 + j1.val % 128 = j1.val
    omega

theorem final_states (c : Dev nD) (hL : ∀ j l, ∃ r : ℝ, L m c j l = r) :
    (out_main_v82 (STEP^[36] (entryContents preI m c)) : FVec Ideal S36x8x128x128 .f32)
      = fun j => St (turned (X m c)) (L m c) (j 0).val (j 1) (j 2) (j 3) := by
  have ho := (at_trip m c hL 36 le_rfl).states
  generalize STEP^[36] (entryContents preI m c) = V at ho
  unfold out_main_v82
  generalize (V (Proc.devRef .tc main_v72_8) : FVec Ideal S36x1x8x128x128 .f32) = W at ho
  funext j
  idx_vars j
  refine Eq.trans (α := EReal) ?_ (ho j0 j1 j3 j2 j0.isLt)
  pointwise

end Cert.HrRef

end
-- ==== Proof.HgScanFwd1.lean ====
/-
  The forward gated scan of the second direction: the kernel's output and its states before each chunk are the reference's,
  of finite bounds.
-/
module

public import proofs.«01_k».proof.Defs
public import proofs.«01_k».proof.Proof.HgScanFwd0
public import proofs.«01_k».proof.Proof.HrVal
public import proofs.«01_k».proof.Proof.HrTrip
public import proofs.«01_k».proof.Proof.Gen.HgScanFwd1.Frame
public import proofs.«01_k».proof.Proof.Gen.HgScanFwd1Ideal.Frame
public import proofs.«01_k».proof.Proof.Gen.HgScanFwd1RefIdeal.Run
public import Idealize.ShloMosaic.Lib.Pipeline.ValueKit
public import Idealize.ShloMosaic.Lib.Claim
public import Idealize.ShloMosaic.Lib.Quiescent

@[expose] public section

noncomputable section

open Idealize.ShloMosaic Idealize.ShloMosaic.TcCoe Idealize.SL.Sem

namespace Cert.Proof.HgScanFwd1

open Cert.HfSpec
open Cert.Proof.HgScanFwd0 (facts_pre)

theorem frame_p : Cert.quiescent_HgScanFwd1 := fun m ρ _ => Cert.HgScanFwd1.Gen.frame m ρ
theorem frame_pi : Cert.quiescent_HgScanFwd1Ideal := fun m ρ _ => Cert.HgScanFwd1Ideal.Gen.frame m ρ
theorem frame_pi_pre : Cert.quiescent_HgScanFwd1Ideal_pre_hg_lb_finite (hPre_hg_lb_finite := facts_pre) := fun m ρ _ =>
  Cert.HgScanFwd1Ideal.Gen.frame m ρ
theorem frame_ri : Cert.quiescent_HgScanFwd1RefIdeal := fun m ρ _ =>
  (θ_run Cert.HgScanFwd1RefIdeal.defs _ _).mono (fun r h => ⟨fun c => (h c).2.2,
      Idealize.ShloMosaic.sem_eq_zero_of_no_sems (by decide) r.2⟩)
    (Cert.HgScanFwd1RefIdeal.Value.run (F := Ideal) m ρ)
theorem frame_ri_pre : Cert.quiescent_HgScanFwd1RefIdeal_pre_hg_lb_finite (hPre_hg_lb_finite := facts_pre) := fun m ρ _ =>
  frame_ri m ρ trivial

/-- Under the precondition the gates' bounds are real. -/
theorem finite (m : (ℓ : Loc Cert.HgScanFwd1Ideal.nD Cert.HgScanFwd1Ideal.τ Cert.HgScanFwd1Ideal.sig) → Buf (Elt Ideal) ℓ)
    (h : Cert.Pre_HgScanFwd1Ideal_hg_lb_finite (hPre_hg_lb_finite := facts_pre) m) (c : Dev Cert.HgScanFwd1Ideal.nD) (j : Fin 2) (l : Fin 1024) :
    ∃ r : ℝ, Cert.HrVal.L m c j l = r := by
  have f := ShiftBwd.finite_of _ _ (ix2 j l) (h c)
  exact ⟨_, (EReal.coe_toReal f.1 f.2).symm⟩

open Cert.HgScanFwd1RefIdeal in
/-- The reference's run, its results in plain text. -/
theorem ref_run (m' : (ℓ : Loc nD τ sig) → Buf (Elt Ideal) ℓ) (g' : Dev nD → PrngReg)
    (hL : ∀ c j l, ∃ r : ℝ, Cert.HrRef.L m' c j l = r) :
    θ_run (defs (F := Ideal)) (onTc (τ := τ) (main (F := Ideal))) ⟨m', fun _ => 0, g'⟩ fun r => ∀ c : Dev nD,
      r.2.mem ((c.tc : Thread nD τ).loc main_v80) = (fun j => outAt (turned (Cert.HrRef.X m' c)) (Cert.HrRef.L m' c) (turn (j 0)) (j 1) : FVec Ideal S2304x1024 .f32)
      ∧ r.2.mem ((c.tc : Thread nD τ).loc main_v82) = (fun j => St (turned (Cert.HrRef.X m' c)) (Cert.HrRef.L m' c) (j 0).val (j 1) (j 2) (j 3) : FVec Ideal S36x8x128x128 .f32)
      ∧ r.2.mem ((c.tc : Thread nD τ).loc main_arg0) = m' ((c.tc : Thread nD τ).loc main_arg0)
      ∧ r.2.mem ((c.tc : Thread nD τ).loc main_arg1) = m' ((c.tc : Thread nD τ).loc main_arg1) :=
  (θ_run defs _ _).mono (fun r h c => ⟨(h c).1.trans (Cert.HrRef.final_out m' c (hL c)), (h c).2.1.trans (Cert.HrRef.final_states m' c (hL c)), (h c).2.2⟩)
    (Cert.HgScanFwd1RefIdeal.Value.run (F := Ideal) m' g')

/-- Of finite bounds, the kernel's output and states are the reference's. -/
theorem algebraic : Cert.algebraic_HgScanFwd1Ideal_HgScanFwd1RefIdeal_pre_hg_lb_finite (hPre_hg_lb_finite := facts_pre) := by
  pair_intro
  · run_from Cert.HgScanFwd1Ideal.Gen.run_main m g
  · have hX : ∀ c, Cert.HrRef.X m' c = Cert.HrVal.X m c := fun c => funext fun r => funext fun k => congrFun (hagree c).1 (ix2 r k)
    have hL : ∀ c, Cert.HrRef.L m' c = Cert.HrVal.L m c := fun c => funext fun r => funext fun k => congrFun (hagree c).2 (ix2 r k)
    run_from ref_run m' g' (fun c => by rw [hL c]; exact finite m hpre c)
    · rw [Cert.HrVal.final_out m c (finite m hpre c), hX c, hL c]
    · rw [Cert.HrVal.final_states m c, hX c, hL c]

end Cert.Proof.HgScanFwd1

end
-- ==== Proof.CondSilu.lean ====
/-
  `cond_silu`: silu at the rows of the conditioning vector, one grid point over whole arrays; the host makes the sixteen rows.
-/
module

public import proofs.«01_k».proof.Defs
public import proofs.«01_k».proof.Proof.Gen.CondSilu.Frame
public import proofs.«01_k».proof.Proof.Gen.CondSiluIdeal.Frame
public import proofs.«01_k».proof.Proof.Gen.CondSiluRefIdeal.Run
public import proofs.«01_k».proof.Proof.Gen.CondSiluRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.CondSiluIdeal.RefValue

open Cert.CondSiluIdeal Cert.CondSiluIdeal.Gen

variable (m : (ℓ : Loc nD τ sig) → Buf (Elt Ideal) ℓ)

theorem idx : ∀ t : Fin cfg0.N, win0_0.index t = ![0, 0] ∧ win0_1.index t = ![0, 0] :=
  (by decide +kernel : ∀ t : Fin grid0.N, _)

/-- The rows of the conditioning vector as the region finds them. -/
abbrev rows (c : Dev nD) : FVec Ideal S16x2048 .f32 := V m c main_v2

/-- The result array after the run: the payload over the rows. -/
theorem final (c : Dev nD) : (dats m 0 c).arrAt 1 cfg0.N = k0_pay1 (F := Ideal) (rows m c) := by
  refine (dats m 0 c).arrAt_eq_of_after_last 1 t0_0 (by decide +kernel) _ fun j => ?_
  blk_simp
  rw [after0_1]
  frame_out
  blk_point [iblk, V, idx t0_0]

/-- A concatenation of three pieces is one of equal pieces. -/
theorem concat_congr {a a' : FVec Ideal S8x2048 .f32} {b b' : FVec Ideal S1x2048 .f32} {d d' : FVec Ideal S7x2048 .f32}
    (ha : a = a') (hb : b = b') (hd : d = d') :
    concatenate S16x2048 0 [⟨S8x2048, a⟩, ⟨S1x2048, b⟩, ⟨S7x2048, d⟩] concatenates_S8x2048_S1x2048_S7x2048_S16x2048_d0
      = concatenate S16x2048 0 [⟨S8x2048, a'⟩, ⟨S1x2048, b'⟩, ⟨S7x2048, d'⟩] concatenates_S8x2048_S1x2048_S7x2048_S16x2048_d0 := by
  subst ha hb hd
  rfl

open Cert.CondSiluRefIdeal.Read in
/-- The host makes the rows that the reference makes. -/
theorem rows_eq (c : Dev nD) : rows m c
    = val_main_v2 (F := Ideal) (m ((c : Thread nD τ).loc main_arg0)) (m ((c : Thread nD τ).loc main_arg1)) := by
  have h : shapeCast Cert.CondSiluRefIdeal.S1x2048 (m ((c : Thread nD τ).loc main_arg1)) shapeCasts_S2048_S1x2048
      = val_main_v0 (F := Ideal) (m ((c : Thread nD τ).loc main_arg1)) := by
    funext j
    idx_vars j
    pointwise [val_main_v0]
  unfold rows V val_main_v2
  after_results
  refine concat_congr ?_ ?_ ?_
  · exact V_main_arg0 m c
  · refine Eq.trans ?_ h
    show V m c main_v0 = _
    unfold V
    after_results
    rfl
  · show V m c main_v1 = _
    unfold V
    after_results
    rfl

open Cert.CondSiluRefIdeal.Read in
/-- The reference's result over any rows it makes is the payload over those rows. -/
theorem ref_eq (x0 : FVec Ideal S8x2048 .f32) (x1 : FVec Ideal S2048 .f32) :
    val_main_v3 (F := Ideal) x0 x1 = k0_pay1 (F := Ideal) (val_main_v2 (F := Ideal) x0 x1) := by
  unfold val_main_v3 val_main_call0_v5 val_main_call0_v3 val_main_call0_v1 val_main_call0_v0
  generalize val_main_v2 (F := Ideal) x0 x1 = y
  funext j
  idx_vars j
  pointwise! [k0_pay1, val_main_call0_v4, val_main_call0_v2, val_main_call0_cst, val_main_call0_cst_0]

end Cert.CondSiluIdeal.RefValue

namespace Cert.Proof.CondSilu

open Cert.CondSiluIdeal.RefValue

theorem frame_p : Cert.quiescent_CondSilu := fun m ρ _ => Cert.CondSilu.Gen.frame m ρ
theorem frame_pi : Cert.quiescent_CondSiluIdeal := fun m ρ _ => Cert.CondSiluIdeal.Gen.frame m ρ
theorem frame_ri : Cert.quiescent_CondSiluRefIdeal := fun m ρ _ =>
  (θ_run Cert.CondSiluRefIdeal.defs _ _).mono (fun r h => ⟨fun c => (h c).2,
      Idealize.ShloMosaic.sem_eq_zero_of_no_sems (by decide) r.2⟩)
    (Cert.CondSiluRefIdeal.Value.run (F := Ideal) m ρ)

/-- The kernel's rows are silu of the reference's rows. -/
theorem algebraic : Cert.algebraic_CondSiluIdeal_CondSiluRefIdeal := by
  pair_intro
  · run_from Cert.CondSiluIdeal.Gen.run_main m g
  · run_from Cert.CondSiluRefIdeal.Value.run m' g'
    rw [Cert.CondSiluRefIdeal.Read.val_main_v3_eq, final m c, rows_eq]
    exact ref_eq _ _

end Cert.Proof.CondSilu

end
-- ==== Proof.Merge.lean ====
/-
  `merge`: the two branches mixed by the logistic of their gates, tile after tile of 256 rows.
-/
module

public import proofs.«01_k».proof.Defs
public import proofs.«01_k».proof.Proof.Gen.Merge.Frame
public import proofs.«01_k».proof.Proof.Gen.MergeIdeal.Frame
public import proofs.«01_k».proof.Proof.Gen.MergeRefIdeal.Run
public import proofs.«01_k».proof.Proof.Gen.MergeRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeIdeal Cert.MergeIdeal.Gen

variable (m : (ℓ : Loc nD τ sig) → Buf (Elt Ideal) ℓ)

/-- A mixed channel: each branch times its gate's logistic. -/
def mix (a b g h : EReal) : EReal := Ideal.logistic g * a + Ideal.logistic h * b

theorem mix_congr {a a' b b' g g' h h' : EReal} (ha : a = a') (hb : b = b') (hg : g = g') (hh : h = h') : mix a b g h = mix a' b' g' h' := by
  subst ha hb hg hh
  rfl

theorem pay1_at (a b g h : FVec Ideal S256x2048 .f32) (r : Fin 256) (l : Fin 2048) :
    k0_pay1 (F := Ideal) a b g h (ix2 r l) = mix (a (ix2 r l)) (b (ix2 r l)) (g (ix2 r l)) (h (ix2 r l)) := by
  pointwise [k0_pay1]
  rfl

theorem idx : ∀ t : Fin cfg0.N, win0_0.index t = ![t.val, 0] ∧ win0_1.index t = ![t.val, 0] ∧ win0_2.index t = ![t.val, 0]
    ∧ win0_3.index t = ![t.val, 1] ∧ win0_4.index t = ![t.val, 0] :=
  (by decide +kernel : ∀ t : Fin grid0.N, _)

/-- The gates' columns are the projection's last 4096. -/
theorem V_v0_at (c : Dev nD) (j : S2304x4096.Idx) : (V m c main_v0 : FVec Ideal S2304x4096 .f32) j
    = (m ((c : Thread nD τ).loc main_arg2) : FVec Ideal S2304x13568 .f32) (ix2 (j 0 : Fin 2304) ⟨9472 + (j 1).val, by have := (j 1).isLt; change _ < 4096 at this; omega⟩) := by
  unfold V
  after_results
  idx_vars j
  pointwise

/-- The mixed tokens of whole arrays. -/
def merged (a b : FVec Ideal S2304x2048 .f32) (x : FVec Ideal S2304x13568 .f32) : FVec Ideal S2304x2048 .bf16 := fun j =>
  mix (a j) (b j) (x (ix2 (j 0 : Fin 2304) ⟨9472 + (j 1).val, by have := (j 1).isLt; change _ < 2048 at this; omega⟩))
    (x (ix2 (j 0 : Fin 2304) ⟨11520 + (j 1).val, by have := (j 1).isLt; change _ < 2048 at this; omega⟩))

/-- The result after the run. -/
theorem final (c : Dev nD) : (dats m 0 c).arrAt 4 cfg0.N
    = merged (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  idx_vars y
  refine (pay1_at _ _ _ _ y0 y1).trans ?_
  unfold merged
  refine mix_congr ?_ ?_ ?_ ?_
  · blk_point [iblk, V, idx t]
  · blk_point [iblk, V, idx t]
  · refine (V_v0_at m c _).trans ?_
    blk_ext! [idx t]
  · refine (V_v0_at m c _).trans ?_
    blk_ext! [idx t]

open Cert.MergeRefIdeal.Read

theorem ref_eq (a b : FVec Ideal S2304x2048 .f32) (x : FVec Ideal S2304x13568 .f32) : val_main_v18 (F := Ideal) a b x = merged a b x := by
  funext j
  idx_vars j
  pointwise [val_main_v0, val_main_v1, val_main_v2, val_main_v3, val_main_v4, val_main_cst, val_main_v5, val_main_v6, val_main_cst_0, val_main_v7, val_main_v8, val_main_v9, val_main_v10, val_main_v11, val_main_cst_1, val_main_v12, val_main_v13, val_main_cst_2, val_main_v14, val_main_v15, val_main_v16, val_main_v17, val_main_v18]
  have h : ∀ k, 9472 + (2048 + k) = 11520 + k := by omega
  simp only [h]
  rfl

end Cert.MergeIdeal.RefValue

namespace Cert.Proof.Merge

open Cert.MergeIdeal.RefValue

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

/-- The kernel's mixed tokens are the reference's. -/
theorem algebraic : Cert.algebraic_MergeIdeal_MergeRefIdeal := by
  pair_intro
  · run_from Cert.MergeIdeal.Gen.run_main m g
  · run_from Cert.MergeRefIdeal.Value.run m' g'
    rw [Cert.MergeRefIdeal.Read.val_main_v18_eq, final m c, ref_eq]
    all_goals try exact congrArg (merged _ _) (hagree c).2.2

end Cert.Proof.Merge

end
-- ==== Proof.HgPost.lean ====
/-
  `hg_post`: the two directions' outputs summed, every head of 128 channels normalised, scaled by the gain and gated by silu.
-/
module

public import proofs.«01_k».proof.Defs
public import proofs.«01_k».proof.Proof.Gen.HgPost.Frame
public import proofs.«01_k».proof.Proof.Gen.HgPostIdeal.Frame
public import proofs.«01_k».proof.Proof.Gen.HgPostRefIdeal.Run
public import proofs.«01_k».proof.Proof.Gen.HgPostRefIdeal.Read
public import proofs.«01_k».proof.Proof.HgSpec
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.HgPostIdeal.RefValue

open Cert.HgPostIdeal Cert.HgPostIdeal.Gen

variable (m : (ℓ : Loc nD τ sig) → Buf (Elt Ideal) ℓ)

open Cert.HgSpec

/-- The head's output of one row. -/
def post (a b z g : Row) (l : Fin 1024) : EReal := nrm (fun l => a l + b l) l * g l * (z l * Ideal.logistic (z l))

theorem post_congr {a a' b b' z z' g g' : Row} {l l' : Fin 1024} (ha : ∀ l, a l = a' l) (hb : ∀ l, b l = b' l)
    (hz : ∀ l, z l = z' l) (hg : ∀ l, g l = g' l) (hl : l = l') : post a b z g l = post a' b' z' g' l' := by
  obtain rfl : a = a' := funext ha
  obtain rfl : b = b' := funext hb
  obtain rfl : z = z' := funext hz
  obtain rfl : g = g' := funext hg
  subst hl
  rfl

theorem pay1_at (a b z : FVec Ideal S256x1024 .f32) (g : FVec Ideal S1x1024 .f32) (r : Fin 256) (l : Fin 1024) :
    k0_pay1 (F := Ideal) a b z g (ix2 r l) = post (fun l => a (ix2 r l)) (fun l => b (ix2 r l)) (fun l => z (ix2 r l)) (fun l => g (ix2 0 l)) l := by
  pointwise [k0_pay1]
  rfl

theorem idx : ∀ t : Fin cfg0.N, win0_0.index t = ![t.val, 0] ∧ win0_1.index t = ![t.val, 0] ∧ win0_2.index t = ![t.val, 4]
    ∧ win0_3.index t = ![0, 0] ∧ win0_4.index t = ![t.val, 0] :=
  (by decide +kernel : ∀ t : Fin grid0.N, _)

theorem X2_at (c : Dev nD) (t : Fin cfg0.N) (r : Fin 256) (l : Fin 1024) (p : Fin 2304) (q : Fin 13568) (hp : p.val = t.val * 256 + r.val) (hq : q.val = 4096 + l.val) :
    X0_2 m c t (ix2 r l) = (m ((c : Thread nD τ).loc main_arg2) : FVec Ideal S2304x13568 .f32) (ix2 p q) := by
  unfold X0_2 Pipeline.Window.fill
  rw [dif_pos (moved0_2 t _)]
  blk_ext! [iblk, V, idx t, hp, hq]

/-- The result array of whole arguments. -/
def out (a b : FVec Ideal S2304x1024 .f32) (x : FVec Ideal S2304x13568 .f32) (g : FVec Ideal S1x1024 .f32) : FVec Ideal S2304x1024 .bf16 := fun j =>
  post (fun l => a (ix2 (j 0 : Fin 2304) l)) (fun l => b (ix2 (j 0 : Fin 2304) l)) (fun l => x (ix2 (j 0 : Fin 2304) ⟨4096 + l.val, by have := l.isLt; omega⟩)) (fun l => g (ix2 0 l)) (j 1)

theorem final (c : Dev nD) : (dats m 0 c).arrAt 4 cfg0.N
    = out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold outsAt0
  frame_out
  idx_vars y
  refine (pay1_at _ _ _ _ y0 y1).trans ?_
  unfold out
  refine post_congr (fun l => ?_) (fun l => ?_) (fun l => ?_) (fun l => ?_) ?_
  · blk_point [iblk, V, idx t]
  · blk_point [iblk, V, idx t]
  · exact X2_at m c t y0 l _ _ (by blk_simp [idx t]) rfl
  · blk_point [iblk, V, idx t]
  · apply Fin.ext
    blk_simp [idx t]

open Cert.HgPostRefIdeal.Read

theorem ref_eq (a b : FVec Ideal S2304x1024 .f32) (x : FVec Ideal S2304x13568 .f32) (g : FVec Ideal S1x1024 .f32) :
    val_main_v20 (F := Ideal) a b x g = out a b x g := by
  funext j
  idx_vars j
  pointwise [val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16, val_main_v17, val_main_call0_v0, val_main_call0_v1, val_main_call0_cst, val_main_call0_v2, val_main_call0_v3, val_main_call0_cst_0, val_main_call0_v4, val_main_call0_v5, val_main_v18, val_main_v19, val_main_v20]
  rfl

end Cert.HgPostIdeal.RefValue

namespace Cert.Proof.HgPost

open Cert.HgPostIdeal.RefValue

theorem frame_p : Cert.quiescent_HgPost := fun m ρ _ => Cert.HgPost.Gen.frame m ρ
theorem frame_pi : Cert.quiescent_HgPostIdeal := fun m ρ _ => Cert.HgPostIdeal.Gen.frame m ρ
theorem frame_ri : Cert.quiescent_HgPostRefIdeal := fun m ρ _ =>
  (θ_run Cert.HgPostRefIdeal.defs _ _).mono (fun r h => ⟨fun c => (h c).2,
      Idealize.ShloMosaic.sem_eq_zero_of_no_sems (by decide) r.2⟩)
    (Cert.HgPostRefIdeal.Value.run (F := Ideal) m ρ)

/-- The kernel's gated heads are the reference's. -/
theorem algebraic : Cert.algebraic_HgPostIdeal_HgPostRefIdeal := by
  pair_intro
  · run_from Cert.HgPostIdeal.Gen.run_main m g
  · run_from Cert.HgPostRefIdeal.Value.run m' g'
    rw [Cert.HgPostRefIdeal.Read.val_main_v20_eq, final m c, ref_eq]

end Cert.Proof.HgPost

end
-- ==== Proof.HFwd.lean ====
/-
  `h_fwd`: every token normalised, scaled by the gain and modulated; the first tile is the context with its own modulation row.
-/
module

public import proofs.«01_k».proof.Defs
public import proofs.«01_k».proof.Proof.Gen.HFwd.Frame
public import proofs.«01_k».proof.Proof.Gen.HFwdIdeal.Frame
public import proofs.«01_k».proof.Proof.Gen.HFwdRefIdeal.Run
public import proofs.«01_k».proof.Proof.Gen.HFwdRefIdeal.Read
public import proofs.«01_k».proof.Proof.HSpec
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.HFwdIdeal.RefValue

open Cert.HFwdIdeal Cert.HFwdIdeal.Gen

variable (m : (ℓ : Loc nD τ sig) → Buf (Elt Ideal) ℓ)

open Cert.FinalSpec (Row sel0 sel1 nrm)

/-- A modulated row. -/
def modd (s g b w : Row) (l : Fin 2048) : EReal := nrm s l * g l * b l + w l

section Pays
variable (i : grid0.Coords) (v0 v1 : FVec Ideal S256x2048 .f32) (g : FVec Ideal S1x2048 .f32) (M : FVec Ideal S8x3x2048 .f32)

theorem pay_img (h : Scalar.cmpi .slt (BitVec.ofNat 32 (i 0).val) 1#32 = 0#1) (r : Fin 256) (l : Fin 2048) :
    k0_pay1 (F := Ideal) i v0 v1 g M (ix2 r l)
      = modd (fun l => v1 (ix2 r l)) (fun l => g (ix2 0 l)) (fun l => 1 + M (ix3 0 1 l)) (fun l => M (ix3 0 0 l)) l := by
  unfold k0_pay1
  simp only [h, sel0]
  pointwise
  rfl

theorem pay_ctx (h : Scalar.cmpi .slt (BitVec.ofNat 32 (i 0).val) 1#32 = 1#1) (r : Fin 256) (l : Fin 2048) :
    k0_pay1 (F := Ideal) i v0 v1 g M (ix2 r l)
      = modd (fun l => v0 (ix2 r l)) (fun l => g (ix2 0 l)) (fun l => 1 + M (ix3 1 1 l)) (fun l => M (ix3 1 0 l)) l := by
  unfold k0_pay1
  simp only [h, sel1]
  pointwise
  rfl

end Pays

/-- The modulated tokens: the context's rows with modulation row 1, the image's with row 0. -/
def tokens (C : FVec Ideal S256x2048 .f32) (x : FVec Ideal S2048x2048 .f32) (g : FVec Ideal S1x2048 .f32) (M : FVec Ideal S8x6144 .f32) (r : Fin 2304) (l : Fin 2048) : EReal :=
  if h : r.val < 256 then
    modd (fun l => C (ix2 ⟨r.val, h⟩ l)) (fun l => g (ix2 0 l)) (fun l => 1 + M (ix2 1 ⟨2048 + l.val, by have := l.isLt; omega⟩)) (fun l => M (ix2 1 ⟨l.val, by have := l.isLt; omega⟩)) l
  else
    modd (fun l => x (ix2 ⟨r.val - 256, by have := r.isLt; omega⟩ l)) (fun l => g (ix2 0 l)) (fun l => 1 + M (ix2 0 ⟨2048 + l.val, by have := l.isLt; omega⟩)) (fun l => M (ix2 0 ⟨l.val, by have := l.isLt; omega⟩)) l

open Cert.HFwdRefIdeal.Read

theorem ref_at (C : FVec Ideal S256x2048 .f32) (x : FVec Ideal S2048x2048 .f32) (g : FVec Ideal S1x2048 .f32) (M : FVec Ideal S8x6144 .f32) (r : Fin 2304) (l : Fin 2048) :
    val_main_v55 (F := Ideal) C x g M (ix2 r l) = tokens C x g M r l := by
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_v17, val_main_v18, val_main_cst_2, val_main_v19, val_main_v20, val_main_v21, val_main_v22, val_main_v23, val_main_v24, val_main_v25, val_main_v26, val_main_v27, val_main_v28, val_main_v29, val_main_v30, val_main_v31, val_main_v32, val_main_cst_3, val_main_v33, val_main_v34, val_main_cst_4, val_main_v35, val_main_v36, val_main_cst_5, val_main_v37, val_main_v38, val_main_v39, val_main_v40, val_main_v41, val_main_v42, val_main_v43, val_main_v44, val_main_v45, val_main_cst_6, val_main_v46, val_main_v47, val_main_v48, val_main_v49, val_main_v50, val_main_v51, val_main_v52, val_main_v53, val_main_v54, val_main_v55]
  rfl

theorem modd_congr {s s' g g' b b' w w' : Row} {l l' : Fin 2048} (hs : ∀ l, s l = s' l) (hg : ∀ l, g l = g' l) (hb : ∀ l, b l = b' l)
    (hw : ∀ l, w l = w' l) (hl : l = l') : modd s g b w l = modd s' g' b' w' l' := Cert.HSpec.row_congr modd hs hg hb hw hl

theorem isCtx : ∀ t : Fin cfg0.N, Scalar.cmpi .slt (BitVec.ofNat 32 (grid0.coords t 0).val) 1#32 = if t.val = 0 then 1#1 else 0#1 :=
  (by decide +kernel : ∀ t : Fin grid0.N, _)

theorem idx : ∀ t : Fin cfg0.N, win0_0.index t = ![0, 0] ∧ win0_1.index t = ![t.val - 1, 0] ∧ win0_2.index t = ![0, 0]
    ∧ win0_3.index t = ![0, 0, 0] ∧ win0_4.index t = ![t.val, 0] :=
  (by decide +kernel : ∀ t : Fin grid0.N, _)

/-- The modulation rows, seen as eight triples of rows. -/
theorem V_v0_at (c : Dev nD) (j : S8x3x2048.Idx) : (V m c main_v0 : FVec Ideal S8x3x2048 .f32) j
    = (m ((c : Thread nD τ).loc main_arg3) : FVec Ideal S8x6144 .f32) (ix2 (j 0 : Fin 8)
        ⟨(j 1).val * 2048 + (j 2).val, by have h1 := (j 1).isLt; have h2 := (j 2).isLt; change _ < 3 at h1; change _ < 2048 at h2; omega⟩) := by
  have e : V m c main_v0 = shapeCast S8x3x2048 (m ((c : Thread nD τ).loc main_arg3)) shapeCasts_S8x6144_S8x3x2048 := by
    unfold V
    after_results
    rfl
  rw [e]
  idx_vars j
  pointwise

/-- The result after the run. -/
theorem final (c : Dev nD) : (dats m 0 c).arrAt 4 cfg0.N
    = (fun j => tokens (m ((c : Thread nD τ).loc main_arg0)) (m ((c : Thread nD τ).loc main_arg1)) (m ((c : Thread nD τ).loc main_arg2)) (m ((c : Thread nD τ).loc main_arg3)) (j 0) (j 1) : FVec Ideal S2304x2048 .bf16) := by
  refine (dats m 0 c).arrAt_eq_of_covers 4 _ (by decide +kernel) fun t _ y => ?_
  blk_simp
  rw [after0_4]
  frame_out
  idx_vars y
  have ht : t.val < 9 := lt_of_lt_of_eq t.isLt N_0
  have hy := y0.isLt
  have e0 : ((((View.whole main_v1).slice (win0_4.rect t)).emb (ix2 y0 y1)) 0 : Fin 2304).val = t.val * 256 + y0.val := by
    blk_simp [idx t]
  unfold tokens
  by_cases h : t.val = 0
  · rw [dif_pos (by rw [e0]; omega)]
    refine (pay_ctx _ _ _ _ _ ((isCtx t).trans (if_pos h)) y0 y1).trans (modd_congr (fun l => ?_) (fun l => ?_) (fun l => ?_) (fun l => ?_) ?_)
    · blk_point [iblk, V, idx t, h]
    · blk_point [iblk, V, idx t]
    · refine congrArg _ ((V_v0_at m c _).trans ?_)
      blk_ext! [idx t]
    · refine (V_v0_at m c _).trans ?_
      blk_ext! [idx t]
    · apply Fin.ext
      blk_simp [idx t]
  · rw [dif_neg (by rw [e0]; omega)]
    refine (pay_img _ _ _ _ _ ((isCtx t).trans (if_neg h)) y0 y1).trans (modd_congr (fun l => ?_) (fun l => ?_) (fun l => ?_) (fun l => ?_) ?_)
    · have hq : (t.val - 1) * 256 + y0.val = t.val * 256 + y0.val - 256 := by omega
      blk_point [iblk, V, idx t, hq]
    · blk_point [iblk, V, idx t]
    · refine congrArg _ ((V_v0_at m c _).trans ?_)
      blk_ext! [idx t]
    · refine (V_v0_at m c _).trans ?_
      blk_ext! [idx t]
    · apply Fin.ext
      blk_simp [idx t]

theorem ref_eq (C : FVec Ideal S256x2048 .f32) (x : FVec Ideal S2048x2048 .f32) (g : FVec Ideal S1x2048 .f32) (M : FVec Ideal S8x6144 .f32) :
    val_main_v55 (F := Ideal) C x g M = (fun j => tokens C x g M (j 0) (j 1) : FVec Ideal S2304x2048 .bf16) := by
  funext j
  idx_vars j
  exact ref_at C x g M j0 j1

end Cert.HFwdIdeal.RefValue

namespace Cert.Proof.HFwd

open Cert.HFwdIdeal.RefValue

theorem frame_p : Cert.quiescent_HFwd := fun m ρ _ => Cert.HFwd.Gen.frame m ρ
theorem frame_pi : Cert.quiescent_HFwdIdeal := fun m ρ _ => Cert.HFwdIdeal.Gen.frame m ρ
theorem frame_ri : Cert.quiescent_HFwdRefIdeal := fun m ρ _ =>
  (θ_run Cert.HFwdRefIdeal.defs _ _).mono (fun r h => ⟨fun c => (h c).2,
      Idealize.ShloMosaic.sem_eq_zero_of_no_sems (by decide) r.2⟩)
    (Cert.HFwdRefIdeal.Value.run (F := Ideal) m ρ)

/-- The kernel's modulated tokens are the reference's. -/
theorem algebraic : Cert.algebraic_HFwdIdeal_HFwdRefIdeal := by
  pair_intro
  · run_from Cert.HFwdIdeal.Gen.run_main m g
  · run_from Cert.HFwdRefIdeal.Value.run m' g'
    rw [Cert.HFwdRefIdeal.Read.val_main_v55_eq, ref_eq, final m c]
    exact congrArg (fun M => (fun j => tokens _ _ _ M (j 0) (j 1) : FVec Ideal Cert.HFwdIdeal.S2304x2048 .bf16)) (hagree c).2.2.2

end Cert.Proof.HFwd

end
-- ==== Proof.RwShift.lean ====
/-
  `rw_shift`: every channel mixed with its neighbours in the sequence or the grid, column tiles of 128 channels.
-/
module

public import proofs.«01_k».proof.Defs
public import proofs.«01_k».proof.Proof.Gen.RwShift.Frame
public import proofs.«01_k».proof.Proof.Gen.RwShiftIdeal.Frame
public import proofs.«01_k».proof.Proof.Gen.RwShiftRefIdeal.Run
public import proofs.«01_k».proof.Proof.Gen.RwShiftRefIdeal.Read
public import proofs.«01_k».proof.Proof.ShiftSpec
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.RwShiftIdeal.RefValue

open Cert.RwShiftIdeal Cert.RwShiftIdeal.Gen

variable (m : (ℓ : Loc nD τ sig) → Buf (Elt Ideal) ℓ)

open Cert.ShiftSpec

/-- The shifted channel: the row plus its neighbours' weighted differences, the vertical ones for the image. -/
def mixed (m0 m1 m2 m3 : EReal) (x : Col) (r : Fin 2304) : EReal :=
  x r + m0 * ((if hasL r.val then x (rot 1 r) else 0) - x r) + m1 * ((if hasR r.val then x (rot 2303 r) else 0) - x r)
    + if 256 ≤ r.val then m2 * ((if hasU r.val then x (rot 64 r) else 0) - x r) + m3 * ((if hasD r.val then x (rot 2240 r) else 0) - x r) else 0

/-- A context row has no vertical part. -/
theorem mixed_ctx (m0 m1 m2 m3 : EReal) (x : Col) (r : Fin 2304) (h : r.val < 256) : mixed m0 m1 m2 m3 x r
    = x r + m0 * ((if hasL r.val then x (rot 1 r) else 0) - x r) + m1 * ((if hasR r.val then x (rot 2303 r) else 0) - x r) :=
  (congrArg _ (if_neg (Nat.not_le.mpr h))).trans (add_zero _)

/-- An image row's parts, added one after the other. -/
theorem mixed_img (m0 m1 m2 m3 : EReal) (x : Col) (r : Fin 2304) (h : 256 ≤ r.val) : mixed m0 m1 m2 m3 x r
    = x r + m0 * ((if hasL r.val then x (rot 1 r) else 0) - x r) + m1 * ((if hasR r.val then x (rot 2303 r) else 0) - x r)
      + m2 * ((if hasU r.val then x (rot 64 r) else 0) - x r) + m3 * ((if hasD r.val then x (rot 2240 r) else 0) - x r) :=
  (congrArg _ (if_pos h)).trans (add_assoc _ _ _).symm

theorem mixed_congr {a a' b b' d d' e e' : EReal} {x x' : Col} {r r' : Fin 2304} (ha : a = a') (hb : b = b') (hd : d = d')
    (he : e = e') (hx : ∀ r, x r = x' r) (hr : r = r') : mixed a b d e x r = mixed a' b' d' e' x' r' := by
  obtain rfl : x = x' := funext hx
  subst ha hb hd he hr
  rfl

theorem sum3 {a b x L R L' R' y : EReal} (hx : x = y) (hL : L = L') (hR : R = R') :
    x + a * (L - x) + b * (R - x) = y + a * (L' - y) + b * (R' - y) := by
  subst hx hL hR
  rfl

theorem sum5 {a b c d x L R U D L' R' U' D' y : EReal} (hx : x = y) (hL : L = L') (hR : R = R') (hU : U = U') (hD : D = D') :
    x + a * (L - x) + b * (R - x) + c * (U - x) + d * (D - x) = y + a * (L' - y) + b * (R' - y) + c * (U' - y) + d * (D' - y) := by
  subst hx hL hR hU hD
  rfl

/-- A one-bit choice is a case distinction. -/
theorem sel_of (c : BitVec 1) (p : Prop) [Decidable p] (a b : EReal) (h : c = if p then 1#1 else 0#1) :
    Scalar.select c a b = if p then a else b := by
  subst h
  by_cases hp : p
  · rw [if_pos hp, if_pos hp]; rfl
  · rw [if_neg hp, if_neg hp]; rfl

section Pays
variable (x : FVec Ideal S2304x128 .f32) (r : Fin 2304) (l : Fin 128)

theorem left_at : k0_pay6 (F := Ideal) x (ix2 r l) = if hasL r.val then x (ix2 (rot 1 r) l) else 0 := by
  pointwise [k0_pay6, k0_pay4, k0_pay3, k0_pay2]
  refine (sel_of _ (hasL r.val) _ _ ?_).trans ?_
  · revert r; decide +kernel
  · rfl

theorem right_at : k0_pay7 (F := Ideal) x (ix2 r l) = if hasR r.val then x (ix2 (rot 2303 r) l) else 0 := by
  pointwise [k0_pay7, k0_pay4, k0_pay3, k0_pay2]
  refine (sel_of _ (hasR r.val) _ _ ?_).trans ?_
  · revert r; decide +kernel
  · rfl

theorem up_at : k0_pay8 (F := Ideal) x (ix2 r l) = if hasU r.val then x (ix2 (rot 64 r) l) else 0 := by
  pointwise [k0_pay8, k0_pay3, k0_pay2]
  refine (sel_of _ (hasU r.val) _ _ ?_).trans ?_
  · revert r; decide +kernel
  · rfl

theorem isx_at (a b : EReal) : Scalar.select (k0_pay2 (ix2 r (0 : Fin 1))) a b = if 256 ≤ r.val then a else b :=
  sel_of _ _ _ _ (by pointwise [k0_pay2]; revert r; decide +kernel)

theorem down_at (a b : EReal) : Scalar.select (k0_pay5 (ix2 r (0 : Fin 1))) a b = if hasD r.val then a else b :=
  sel_of _ _ _ _ (by pointwise [k0_pay5, k0_pay3, k0_pay2]; revert r; decide +kernel)

theorem pay_at (mu : FVec Ideal S4x128 .f32) :
    k0_pay1 (F := Ideal) x mu k0_pay2 k0_pay5 (k0_pay6 x) (k0_pay7 x) (k0_pay8 x) (ix2 r l)
      = mixed (mu (ix2 0 l)) (mu (ix2 1 l)) (mu (ix2 2 l)) (mu (ix2 3 l)) (fun r => x (ix2 r l)) r := by
  have h0 := isx_at r; have h1 := down_at r; have h2 := left_at x r l; have h3 := right_at x r l; have h4 := up_at x r l
  generalize k0_pay2 = isx at *
  generalize k0_pay5 = md at *
  generalize k0_pay6 (F := Ideal) x = L at *
  generalize k0_pay7 (F := Ideal) x = R at *
  generalize k0_pay8 (F := Ideal) x = U at *
  pointwise [k0_pay1]
  rw [h0, h1, h2, h3, h4]
  rfl

end Pays

theorem idx : ∀ t : Fin cfg0.N, win0_0.index t = ![0, 40 + t.val] ∧ win0_1.index t = ![0, t.val] ∧ win0_2.index t = ![0, t.val] :=
  (by decide +kernel : ∀ t : Fin grid0.N, _)

/-- The shifted channels of whole arrays. -/
def shifted (x : FVec Ideal S2304x13568 .f32) (mu : FVec Ideal S4x3328 .f32) (r : Fin 2304) (ch : Fin 3328) : EReal :=
  mixed (mu (ix2 0 ch)) (mu (ix2 1 ch)) (mu (ix2 2 ch)) (mu (ix2 3 ch)) (fun r => x (ix2 r ⟨5120 + ch.val, by omega⟩)) r

theorem z2 : (![0, 0] : Fin 2 → Nat) = fun _ => 0 := by decide

theorem final (c : Dev nD) : (dats m 0 c).arrAt 2 cfg0.N
    = (fun j => shifted (m ((c : Thread nD τ).loc main_arg0)) (m ((c : Thread nD τ).loc main_arg1)) (j 0) (j 1) : FVec Ideal S2304x3328 .f32) := by
  refine (dats m 0 c).arrAt_eq_of_covers 2 _ (by decide +kernel) fun t _ y => ?_
  blk_simp
  rw [after0_2]
  frame_out
  idx_vars y
  refine (pay_at _ y0 y1 _).trans ?_
  unfold shifted
  refine mixed_congr ?_ ?_ ?_ ?_ (fun r => ?_) ?_
  all_goals first
    | blk_point [iblk, V, idx t]
    | (apply Fin.ext; blk_simp [idx t]; done)

open Cert.RwShiftRefIdeal.Read

theorem ref_at (x : FVec Ideal S2304x13568 .f32) (mu : FVec Ideal S4x3328 .f32) (r : Fin 2304) (ch : Fin 3328) :
    val_main_v67 (F := Ideal) x mu (ix2 r ch) = shifted x mu r ch := by
  pointwise [val_main_v0, val_main_v1, val_main_v2, val_main_v3, val_main_cst, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst_0, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_cst_1, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67]
  unfold shifted
  by_cases h : r.val < 256
  · refine (dif_pos h).trans (Eq.trans ?_ (mixed_ctx _ _ _ _ _ r h).symm)
    refine sum3 rfl (dite_to_not ?_ fun hp => congrArg x (congrArg₂ ix2 (Fin.ext ?_) rfl)) (dite_to ?_ fun hp => congrArg x (congrArg₂ ix2 (Fin.ext ?_) rfl))
    all_goals first | (simp only [hasL]; omega) | (simp only [hasR]; omega) | (simp only []; omega)
  · have e : (⟨256 + ((r.val - 256) / 64 * 64 + (r.val - 256) % 64), by omega⟩ : Fin 2304) = r := Fin.ext (by simp only []; omega)
    refine (dif_neg h).trans (Eq.trans ?_ (mixed_img _ _ _ _ _ r (Nat.not_lt.mp h)).symm)
    refine sum5 (congrArg (fun r => x (ix2 r _)) e) (dite_to_not ?_ fun hp => congrArg x (congrArg₂ ix2 (Fin.ext ?_) rfl)) (dite_to ?_ fun hp => congrArg x (congrArg₂ ix2 (Fin.ext ?_) rfl))
      (dite_to_not ?_ fun hp => congrArg x (congrArg₂ ix2 (Fin.ext ?_) rfl)) (dite_to ?_ fun hp => congrArg x (congrArg₂ ix2 (Fin.ext ?_) rfl))
    all_goals first | (simp only [hasL]; omega) | (simp only [hasR]; omega) | (simp only [hasU]; omega) | (simp only [hasD]; omega) | (simp only []; omega)

theorem ref_eq (x : FVec Ideal S2304x13568 .f32) (mu : FVec Ideal S4x3328 .f32) :
    val_main_v67 (F := Ideal) x mu = (fun j => shifted x mu (j 0) (j 1) : FVec Ideal S2304x3328 .f32) := by
  funext j
  idx_vars j
  exact ref_at x mu j0 j1

end Cert.RwShiftIdeal.RefValue

namespace Cert.Proof.RwShift

open Cert.RwShiftIdeal.RefValue

theorem frame_p : Cert.quiescent_RwShift := fun m ρ _ => Cert.RwShift.Gen.frame m ρ
theorem frame_pi : Cert.quiescent_RwShiftIdeal := fun m ρ _ => Cert.RwShiftIdeal.Gen.frame m ρ
theorem frame_ri : Cert.quiescent_RwShiftRefIdeal := fun m ρ _ =>
  (θ_run Cert.RwShiftRefIdeal.defs _ _).mono (fun r h => ⟨fun c => (h c).2,
      Idealize.ShloMosaic.sem_eq_zero_of_no_sems (by decide) r.2⟩)
    (Cert.RwShiftRefIdeal.Value.run (F := Ideal) m ρ)

/-- The kernel's shifted channels are the reference's. -/
theorem algebraic : Cert.algebraic_RwShiftIdeal_RwShiftRefIdeal := by
  pair_intro
  · run_from Cert.RwShiftIdeal.Gen.run_main m g
  · run_from Cert.RwShiftRefIdeal.Value.run m' g'
    rw [Cert.RwShiftRefIdeal.Read.val_main_v67_eq, final m c, ref_eq]
    exact congrArg₂ (fun P M => (fun j => shifted P M (j 0) (j 1) : FVec Ideal Cert.RwShiftIdeal.S2304x3328 .f32)) (hagree c).1 (hagree c).2

end Cert.Proof.RwShift

end
-- ==== Proof.RwPost.lean ====
/-
  `rw_post`: the two directions' outputs summed, every head of 64 channels normalised, scaled and shifted, the bonus of
  the head's summed keys added, and the whole gated by silu.  The kernel weighs the key once by both removal gates, the
  reference once for each; the two agree when the shifted rows and the key's mixing weight are finite.
-/
module

public import proofs.«01_k».proof.Defs
public import proofs.«01_k».proof.Proof.Gen.RwPost.Frame
public import proofs.«01_k».proof.Proof.Gen.RwPostIdeal.Frame
public import proofs.«01_k».proof.Proof.Gen.RwPostRefIdeal.Run
public import proofs.«01_k».proof.Proof.Gen.RwPostRefIdeal.Read
public import proofs.«01_k».proof.Proof.RwFinite
public import proofs.«01_k».proof.Proof.ShiftBwd
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.RwPostIdeal.RefValue

open Cert.RwPostIdeal Cert.RwPostIdeal.Gen Cert.RwSpec

variable (m : (ℓ : Loc nD τ sig) → Buf (Elt Ideal) ℓ)

/-- The gated row, of the summed keys `ks`. -/
def gated (x : In) (ks : Row) (l : Fin 1024) : EReal :=
  (nrm x l * x.g l + x.b l + bonus x ks (hd l) * x.v l) * (x.z l * Ideal.logistic (x.z l))

/-- One row of a tile; there is no cotangent. -/
def tile (y0 y1 r k v z : FVec Ideal S256x1024 .f32) (lo : FVec Ideal S256x128 .f32) (a0 : FVec Ideal S2x1024 .f32) (a2 : FVec Ideal S2x64x1024 .f32) (ka rk g b : FVec Ideal S1x1024 .f32) (p : Fin 256) : In where
  y0 := fun l => y0 (ix2 p l)
  y1 := fun l => y1 (ix2 p l)
  r := fun l => r (ix2 p l)
  k := fun l => k (ix2 p l)
  v := fun l => v (ix2 p l)
  lo := fun l => lo (ix2 p l)
  z := fun l => z (ix2 p l)
  d := fun _ => 0
  a0 := fun q l => a0 (ix2 q l)
  a2 := fun q j l => a2 (ix3 q j l)
  ka := fun l => ka (ix2 0 l)
  rk := fun l => rk (ix2 0 l)
  g := fun l => g (ix2 0 l)
  b := fun l => b (ix2 0 l)

/-- One row of the arrays. -/
def row (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) (p : Fin 2304) : In where
  y0 := fun l => x0 (ix2 p l)
  y1 := fun l => x1 (ix2 p l)
  r := fun l => x2 (ix2 p ⟨l.val, by have := l.isLt; omega⟩)
  k := fun l => x2 (ix2 p ⟨1024 + l.val, by have := l.isLt; omega⟩)
  v := fun l => x2 (ix2 p ⟨2048 + l.val, by have := l.isLt; omega⟩)
  lo := fun l => x2 (ix2 p ⟨3200 + l.val, by have := l.isLt; omega⟩)
  z := fun l => x3 (ix2 p ⟨8448 + l.val, by have := l.isLt; omega⟩)
  d := fun _ => 0
  a0 := fun q l => x4 (ix2 q l)
  a2 := fun q j l => x5 (ix3 q j l)
  ka := fun l => x6 (ix2 0 l)
  rk := fun l => x7 (ix2 0 l)
  g := fun l => x8 (ix2 0 l)
  b := fun l => x9 (ix2 0 l)

theorem pay5_at (y0 y1 r k v z : FVec Ideal S256x1024 .f32) (lo : FVec Ideal S256x128 .f32) (a0 : FVec Ideal S2x1024 .f32) (a2 : FVec Ideal S2x64x1024 .f32) (ka rk g b : FVec Ideal S1x1024 .f32) (p : Fin 256) (l : Fin 1024) :
    k0_pay5 (F := Ideal) y0 y1 r k v (k0_pay1 (F := Ideal) z) ka rk g b (k0_pay2 (F := Ideal) lo a0 a2) (k0_pay3 (F := Ideal) a0) (k0_pay4 (F := Ideal) lo a2) (ix2 p l)
      = gated (tile y0 y1 r k v z lo a0 a2 ka rk g b p) (ksK (tile y0 y1 r k v z lo a0 a2 ka rk g b p)) l := by
  pointwise [k0_pay1, k0_pay2, k0_pay3, k0_pay4, k0_pay5]
  try simp only [zero_add, add_zero]
  rfl

theorem idx : ∀ t : Fin cfg0.N, win0_0.index t = ![t.val, 0] ∧ win0_1.index t = ![t.val, 0] ∧ win0_2.index t = ![t.val, 0]
    ∧ win0_3.index t = ![t.val, 1] ∧ win0_4.index t = ![t.val, 2] ∧ win0_5.index t = ![t.val, 25] ∧ win0_6.index t = ![t.val, 0]
    ∧ win0_7.index t = ![0, 0] ∧ win0_8.index t = ![0, 0, 0] ∧ win0_9.index t = ![0, 0] ∧ win0_10.index t = ![0, 0]
    ∧ win0_11.index t = ![0, 0] ∧ win0_12.index t = ![0, 0] ∧ win0_13.index t = ![t.val, 0] :=
  (by decide +kernel : ∀ t : Fin grid0.N, _)

/-- The output gate's columns of the projected rows. -/
theorem V_v0 (c : Dev nD) : V m c main_v0 = extractStridedSlice S2304x1024 ![0, 8448] (m ((c : Thread nD τ).loc main_arg3)) slices_S2304x13568_S2304x1024_0_8448 := by
  unfold V
  after_results

theorem V_v0_at (c : Dev nD) (j : S2304x1024.Idx) : (V m c main_v0 : FVec Ideal S2304x1024 .f32) j
    = (m ((c : Thread nD τ).loc main_arg3) : FVec Ideal S2304x13568 .f32) (ix2 (j 0 : Fin 2304) ⟨8448 + (j 1).val, by have h1 := (j 1).isLt; change _ < 1024 at h1; omega⟩) := by
  rw [V_v0]
  idx_vars j
  pointwise

theorem X2_at (c : Dev nD) (t : Fin cfg0.N) (r : Fin 256) (l : Fin 1024) (p : Fin 2304) (q : Fin 3328) (hp : p.val = t.val * 256 + r.val) (hq : q.val = l.val) :
    X0_2 m c t (ix2 r l) = (m ((c : Thread nD τ).loc main_arg2) : FVec Ideal S2304x3328 .f32) (ix2 p q) := by
  unfold X0_2 Pipeline.Window.fill
  rw [dif_pos (moved0_2 t _)]
  blk_ext! [iblk, V, idx t, hp, hq]

theorem X3_at (c : Dev nD) (t : Fin cfg0.N) (r : Fin 256) (l : Fin 1024) (p : Fin 2304) (q : Fin 3328) (hp : p.val = t.val * 256 + r.val) (hq : q.val = 1024 + l.val) :
    X0_3 m c t (ix2 r l) = (m ((c : Thread nD τ).loc main_arg2) : FVec Ideal S2304x3328 .f32) (ix2 p q) := by
  unfold X0_3 Pipeline.Window.fill
  rw [dif_pos (moved0_3 t _)]
  blk_ext! [iblk, V, idx t, hp, hq]

theorem X4_at (c : Dev nD) (t : Fin cfg0.N) (r : Fin 256) (l : Fin 1024) (p : Fin 2304) (q : Fin 3328) (hp : p.val = t.val * 256 + r.val) (hq : q.val = 2048 + l.val) :
    X0_4 m c t (ix2 r l) = (m ((c : Thread nD τ).loc main_arg2) : FVec Ideal S2304x3328 .f32) (ix2 p q) := by
  unfold X0_4 Pipeline.Window.fill
  rw [dif_pos (moved0_4 t _)]
  blk_ext! [iblk, V, idx t, hp, hq]

/-- A row of the arrays as device `c` holds them. -/
def rowOf (c : Dev nD) (p : Fin 2304) : In := row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) p

/-- The rows of tile `t` are the rows `256 t + k`. -/
theorem tile_eq (c : Dev nD) (t : Fin cfg0.N) (k : Fin 256) (p : Fin 2304) (hp : p.val = t.val * 256 + k.val) :
    tile (iblk m c 0 t) (iblk m c 1 t) (X0_2 m c t) (X0_3 m c t) (X0_4 m c t) (iblk m c 6 t) (iblk m c 5 t) (iblk m c 7 t) (iblk m c 8 t) (iblk m c 9 t) (iblk m c 10 t) (iblk m c 11 t) (iblk m c 12 t) k = rowOf m c p := by
  unfold tile rowOf row
  rw [In.mk.injEq]
  refine ⟨funext fun l => ?_, funext fun l => ?_, funext fun l => X2_at m c t k l _ _ hp rfl, funext fun l => X3_at m c t k l _ _ hp rfl,
    funext fun l => X4_at m c t k l _ _ hp rfl, funext fun l => ?_, funext fun l => (V_v0_at m c _).trans ?_, rfl, funext fun q => funext fun l => ?_,
    funext fun q => funext fun j => funext fun l => ?_, funext fun l => ?_, funext fun l => ?_, funext fun l => ?_, funext fun l => ?_⟩
  · blk_point [iblk, V, idx t, hp]
  · blk_point [iblk, V, idx t, hp]
  · blk_point [iblk, V, idx t, hp]
  · blk_ext! [idx t, hp]
  all_goals blk_point [iblk, V, idx t]

theorem gated_congr {x x' : In} {l l' : Fin 1024} (hx : x = x') (hl : l = l') : gated x (ksK x) l = gated x' (ksK x') l' := by
  rw [hx, hl]

theorem final (c : Dev nD) : (dats m 0 c).arrAt 13 cfg0.N
    = (fun j => gated (rowOf m c (j 0)) (ksK (rowOf m c (j 0))) (j 1) : FVec Ideal S2304x1024 .bf16) := by
  refine (dats m 0 c).arrAt_eq_of_covers 13 _ (by decide +kernel) fun t _ y => ?_
  blk_simp
  rw [after0_13]
  unfold outsAt0
  frame_out
  idx_vars y
  refine (pay5_at _ _ _ _ _ _ _ _ _ _ _ _ _ y0 y1).trans ?_
  refine gated_congr (tile_eq m c t y0 _ (by blk_simp [idx t])) (Fin.ext ?_)
  blk_simp [idx t]

open Cert.RwPostRefIdeal.Read

theorem ref_eq (x0 x1 : FVec Ideal S2304x1024 .f32) (x2 : FVec Ideal S2304x3328 .f32) (x3 : FVec Ideal S2304x13568 .f32) (x4 : FVec Ideal S2x1024 .f32) (x5 : FVec Ideal S2x64x1024 .f32) (x6 x7 x8 x9 : FVec Ideal S1x1024 .f32) :
    val_main_v102 (F := Ideal) x0 x1 x2 x3 x4 x5 x6 x7 x8 x9
      = (fun j => gated (row x0 x1 x2 x3 x4 x5 x6 x7 x8 x9 (j 0)) (ksR (row x0 x1 x2 x3 x4 x5 x6 x7 x8 x9 (j 0))) (j 1) : FVec Ideal S2304x1024 .bf16) := by
  funext j
  idx_vars j
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_v24, val_main_v25, val_main_cst_0, val_main_v26, val_main_v27, val_main_cst_1, val_main_v28, val_main_v29, val_main_v30, val_main_v31, val_main_v32, val_main_cst_2, val_main_v33, val_main_v34, val_main_v35, val_main_cst_3, val_main_v36, val_main_v37, val_main_v38, val_main_v39, val_main_v40, val_main_v41, val_main_v42, val_main_v43, val_main_v44, val_main_v45, val_main_v46, val_main_v47, val_main_v48, val_main_v49, val_main_cst_4, val_main_v50, val_main_v51, val_main_cst_5, val_main_v52, val_main_v53, val_main_cst_6, val_main_v54, val_main_v55, val_main_v56, val_main_v57, val_main_v58, val_main_cst_7, val_main_v59, val_main_v60, val_main_v61, val_main_v62, val_main_cst_8, val_main_v63, val_main_v64, val_main_cst_9, val_main_v65, val_main_v66, val_main_v67, val_main_v68, val_main_v69, val_main_cst_10, val_main_v70, val_main_v71, val_main_cst_11, val_main_v72, val_main_v73, val_main_v74, val_main_v75, val_main_cst_12, val_main_v76, val_main_v77, val_main_v78, val_main_v79, val_main_v80, val_main_v81, val_main_v82, val_main_v83, val_main_v84, val_main_v85, val_main_v86, val_main_v87, val_main_v88, val_main_v89, val_main_v90, val_main_v91, val_main_v92, val_main_cst_13, val_main_v93, val_main_v94, val_main_v95, val_main_v96, val_main_v97, val_main_v98, val_main_v99, val_main_call0_v0, val_main_call0_v1, val_main_call0_cst, val_main_call0_v2, val_main_call0_v3, val_main_call0_cst_0, val_main_call0_v4, val_main_call0_v5, val_main_v100, val_main_v101, val_main_v102]
  try simp only [zero_add, add_zero]
  rfl

end Cert.RwPostIdeal.RefValue

namespace Cert.Proof.RwPost

open Cert.RwPostIdeal.RefValue Cert.RwSpec

theorem frame_p : Cert.quiescent_RwPost := fun m ρ _ => Cert.RwPost.Gen.frame m ρ
theorem frame_pi : Cert.quiescent_RwPostIdeal := fun m ρ _ => Cert.RwPostIdeal.Gen.frame m ρ
theorem frame_ri : Cert.quiescent_RwPostRefIdeal := fun m ρ _ =>
  (θ_run Cert.RwPostRefIdeal.defs _ _).mono (fun r h => ⟨fun c => (h c).2,
      Idealize.ShloMosaic.sem_eq_zero_of_no_sems (by decide) r.2⟩)
    (Cert.RwPostRefIdeal.Value.run (F := Ideal) m ρ)
theorem facts_pre : Cert.Pre_rw_bonus_finite.Facts := ⟨by decide, by decide⟩
theorem frame_pi_pre : Cert.quiescent_RwPostIdeal_pre_rw_bonus_finite (hPre_rw_bonus_finite := facts_pre) := fun m ρ _ => frame_pi m ρ trivial
theorem frame_ri_pre : Cert.quiescent_RwPostRefIdeal_pre_rw_bonus_finite (hPre_rw_bonus_finite := facts_pre) := fun m ρ _ => frame_ri m ρ trivial

variable (m : (ℓ : Loc Cert.RwPostIdeal.nD Cert.RwPostIdeal.τ Cert.RwPostIdeal.sig) → Buf (Elt Ideal) ℓ)

/-- Under the precondition both ways of weighing the key agree. -/
theorem keys (h : Cert.Pre_RwPostIdeal_rw_bonus_finite (hPre_rw_bonus_finite := facts_pre) m) (c : Dev Cert.RwPostIdeal.nD) (p : Fin 2304) :
    ksK (rowOf m c p) = ksR (rowOf m c p) := by
  obtain ⟨h1, h2⟩ := h c
  exact funext fun l => both (ShiftBwd.finite_of _ _ _ h1) (logistic_real _) (logistic_real _) (ShiftBwd.finite_of _ _ _ h2)

/-- Of finite shifted rows and mixing weights, the kernel's gated heads are the reference's. -/
theorem algebraic : Cert.algebraic_RwPostIdeal_RwPostRefIdeal_pre_rw_bonus_finite (hPre_rw_bonus_finite := facts_pre) := by
  pair_intro
  · run_from Cert.RwPostIdeal.Gen.run_main m g
  · run_from Cert.RwPostRefIdeal.Value.run m' g'
    rw [Cert.RwPostRefIdeal.Read.val_main_v102_eq, final m c, ref_eq]
    funext j
    rw [keys m hpre c (j 0)]
    unfold rowOf
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

end Cert.Proof.RwPost

end
-- ==== Proof.Sums.lean ====
/-
  Sums in steps: a product's contraction is taken block by block, and the blocks' sums, added one after the other, are the
  whole sum.
-/
module

public import Idealize.ShloMosaic.Lib.Pointwise

@[expose] public section

noncomputable section

namespace Cert.Sums

/-- The sum of the first `n` terms. -/
def upto (f : ℕ → EReal) (n : ℕ) : EReal := ∑ k ∈ Finset.range n, f k

theorem upto_one (f : ℕ → EReal) : upto f 1 = f 0 := by
  unfold upto
  rw [Finset.sum_range_one]

theorem upto_succ (f : ℕ → EReal) (n : ℕ) : upto f (n + 1) = upto f n + f n := Finset.sum_range_succ f n

/-- `s` blocks of `w` terms are the first `s w` terms. -/
theorem upto_blocks (f : ℕ → EReal) (w : ℕ) : ∀ s : ℕ, upto (fun i => ∑ k : Fin w, f (i * w + k.val)) s = upto f (s * w)
  | 0 => by unfold upto; rw [Nat.zero_mul, Finset.range_zero, Finset.sum_empty, Finset.sum_empty]
  | s + 1 => by
    rw [upto_succ, upto_blocks f w s, Nat.succ_mul]
    unfold upto
    rw [Finset.sum_range_add, ← Finset.sum_range (fun k => f (s * w + k))]

/-- All blocks of a contraction of length `n`. -/
theorem upto_all (f : ℕ → EReal) (w s n : ℕ) (hn : s * w = n) (g : Fin n → EReal) (h : ∀ k : Fin n, f k.val = g k) :
    upto (fun i => ∑ k : Fin w, f (i * w + k.val)) s = ∑ k : Fin n, g k := by
  subst hn
  rw [upto_blocks]
  unfold upto
  rw [Finset.sum_range]
  exact Finset.sum_congr rfl fun k _ => h k

/-- A running sum that restarts every `K` points and else adds to the point before: what it holds after a point are the
    parts of the point's run so far. -/
theorem runs {N K R L : ℕ} (acc : ∀ n, n < N → Fin R → Fin L → EReal) (f : ℕ → Fin R → Fin L → ℕ → EReal)
    (h0 : ∀ n hn r l, n % K = 0 → acc n hn r l = 0 + f (n / K) r l (n % K))
    (hs : ∀ n hn h' r l, n % K ≠ 0 → acc n hn r l = acc (n - 1) h' r l + f (n / K) r l (n % K)) (n : ℕ) :
    ∀ hn r l, acc n hn r l = upto (f (n / K) r l) (n % K + 1) := by
  induction n using Nat.strongRecOn with
  | ind n ih =>
    intro hn r l
    by_cases h : n % K = 0
    · rw [h0 n hn r l h, zero_add, h, upto_one]
    · have hd : (n - 1) / K = n / K ∧ (n - 1) % K + 1 = n % K := by
        rcases Nat.eq_zero_or_pos K with hK | hK
        · subst hK
          rw [Nat.mod_zero] at h ⊢
          rw [Nat.mod_zero, Nat.div_zero, Nat.div_zero]
          omega
        · have e := Nat.div_add_mod n K
          have hlt := Nat.mod_lt n hK
          have e' : n - 1 = K * (n / K) + (n % K - 1) := by omega
          refine ⟨?_, ?_⟩
          · rw [e', Nat.mul_add_div hK, Nat.div_eq_of_lt (show n % K - 1 < K by omega), add_zero]
          · rw [e', Nat.mul_add_mod, Nat.mod_eq_of_lt (show n % K - 1 < K by omega)]
            omega
      have hn0 : 0 < n := Nat.pos_of_ne_zero fun e => h (by rw [e, Nat.zero_mod])
      rw [hs n hn (by omega) r l h, ih (n - 1) (by omega), hd.1, hd.2, upto_succ]

/-- A matrix read at natural numbers, nothing outside it. -/
def ext2 {P Q : ℕ} (x : Fin P → Fin Q → EReal) (p q : ℕ) : EReal := if h : p < P ∧ q < Q then x ⟨p, h.1⟩ ⟨q, h.2⟩ else 0

theorem ext2_of {P Q : ℕ} (x : Fin P → Fin Q → EReal) {p q : ℕ} (hp : p < P) (hq : q < Q) : ext2 x p q = x ⟨p, hp⟩ ⟨q, hq⟩ := dif_pos ⟨hp, hq⟩

theorem ext2_val {P Q : ℕ} (x : Fin P → Fin Q → EReal) (p : Fin P) (q : Fin Q) : ext2 x p.val q.val = x p q := dif_pos ⟨p.isLt, q.isLt⟩

/-- A pile of matrices read at natural numbers. -/
def ext3 {J P Q : ℕ} (x : Fin J → Fin P → Fin Q → EReal) (j p q : ℕ) : EReal := if h : j < J then ext2 (x ⟨j, h⟩) p q else 0

theorem ext3_of {J P Q : ℕ} (x : Fin J → Fin P → Fin Q → EReal) {j p q : ℕ} (hj : j < J) (hp : p < P) (hq : q < Q) :
    ext3 x j p q = x ⟨j, hj⟩ ⟨p, hp⟩ ⟨q, hq⟩ := (dif_pos hj).trans (ext2_of _ hp hq)

theorem ext3_val {J P Q : ℕ} (x : Fin J → Fin P → Fin Q → EReal) (j : Fin J) (p : Fin P) (q : Fin Q) : ext3 x j.val p.val q.val = x j p q :=
  ext3_of x j.isLt p.isLt q.isLt

end Cert.Sums

end
-- ==== Proof.Products.lean ====
/-
  The plain products: one for each way the version multiplies two matrices.
-/
module

public import proofs.«01_k».proof.Defs
public import proofs.«01_k».proof.Proof.Gen.OutMm.Frame
public import proofs.«01_k».proof.Proof.Gen.OutMmIdeal.Frame
public import proofs.«01_k».proof.Proof.Gen.OutMmRefIdeal.Run
public import proofs.«01_k».proof.Proof.Gen.DMerged.Frame
public import proofs.«01_k».proof.Proof.Gen.DMergedIdeal.Frame
public import proofs.«01_k».proof.Proof.Gen.DMergedRefIdeal.Run
public import proofs.«01_k».proof.Proof.Gen.DWOut.Frame
public import proofs.«01_k».proof.Proof.Gen.DWOutIdeal.Frame
public import proofs.«01_k».proof.Proof.Gen.DWOutRefIdeal.Run
public import proofs.«01_k».proof.Proof.Sums
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## `out_mm`: the merged branches times the output weight, the contraction in two blocks of 1024. -/

namespace Cert.OutMmIdeal.RefValue

open Cert.OutMmIdeal Cert.OutMmIdeal.Gen Cert.Sums

variable (m : (ℓ : Loc nD τ sig) → Buf (Elt Ideal) ℓ)

/-- The kernel's first and second factor. -/
abbrev matA (a : FVec Ideal S2304x2048 .bf16) := fun i k => a (ix2 i k)

abbrev matB (b : FVec Ideal S2048x2048 .bf16) := fun i k => b (ix2 i k)

/-- What a point of run `u` and step `s` adds to the sum of row `r`, column `l` of its block. -/
def blk (a : FVec Ideal S2304x2048 .bf16) (b : FVec Ideal S2048x2048 .bf16) (u : ℕ) (r : Fin 768) (l : Fin 512) (s : ℕ) : EReal :=
  ∑ k : Fin 1024, ext2 (matA a) (u / 4 * 768 + r.val) (s * 1024 + k.val) * ext2 (matB b) (s * 1024 + k.val) (u % 4 * 512 + l.val)

theorem idx : ∀ t : Fin cfg0.N, win0_0.index t = ![t.val / 8, t.val % 2] ∧ win0_1.index t = ![t.val % 2, t.val / 2 % 4]
    ∧ win0_2.index t = ![t.val / 8, t.val / 2 % 4] :=
  (by decide +kernel : ∀ t : Fin grid0.N, _)

theorem lt_N (t : Fin cfg0.N) : t.val < 24 := lt_of_lt_of_eq t.isLt N_0

theorem pay1_at (r : Fin 768) (l : Fin 512) : k0_pay1 (F := Ideal) (ix2 r l) = 0 := by
  pointwise [k0_pay1]

theorem pay2_at (x : FVec Ideal S768x512 .f32) (a : FVec Ideal S768x1024 .bf16) (b : FVec Ideal S1024x512 .bf16) (r : Fin 768) (l : Fin 512) :
    k0_pay2 (F := Ideal) x a b (ix2 r l) = x (ix2 r l) + ∑ k : Fin 1024, a (ix2 r k) * b (ix2 k l) := by
  pointwise [k0_pay2]
  try simp only [zero_add, add_zero]

/-- The factors' blocks at a point. -/
abbrev aAt (c : Dev nD) (t : Fin cfg0.N) : FVec Ideal S768x1024 .bf16 := iblk m c 0 t

abbrev bAt (c : Dev nD) (t : Fin cfg0.N) : FVec Ideal S1024x512 .bf16 := iblk m c 1 t

theorem part (c : Dev nD) (t : Fin cfg0.N) (r : Fin 768) (l : Fin 512) : ∑ k : Fin 1024, aAt m c t (ix2 r k) * bAt m c t (ix2 k l)
    = blk (m ((c : Thread nD τ).loc main_arg0)) (m ((c : Thread nD τ).loc main_arg1)) (t.val / 2) r l (t.val % 2) := by
  have ht := lt_N t
  refine Finset.sum_congr rfl fun k _ => ?_
  have := r.isLt; have := l.isLt; have := k.isLt
  rw [ext2_of _ (by omega) (by omega), ext2_of _ (by omega) (by omega)]
  refine congrArg₂ (· * ·) ?_ ?_ <;> blk_point [iblk, V, idx t]

/-- What the accumulator holds after a point. -/
theorem acc_at (c : Dev nD) (n : ℕ) : ∀ (hn : n < cfg0.N) (r : Fin 768) (l : Fin 512), (outsAt0 m c n hn).2 (ix2 r l)
    = upto (blk (m ((c : Thread nD τ).loc main_arg0)) (m ((c : Thread nD τ).loc main_arg1)) (n / 2) r l) (n % 2 + 1) := runs (K := 2) (fun n hn r l => (outsAt0 m c n hn).2 (ix2 r l))
  (blk (m ((c : Thread nD τ).loc main_arg0)) (m ((c : Thread nD τ).loc main_arg1)))
  (fun n hn r l h => by
    beta_reduce
    rw [outsAt0_A m c ⟨n, hn⟩ h (by show ¬ n % 2 = 1; omega)]
    dsimp only
    unfold sout0_A_0
    frame_out
    exact (pay2_at _ _ _ r l).trans (congrArg₂ (· + ·) (pay1_at r l) (part m c ⟨n, hn⟩ r l)))
  (fun n hn h' r l h => by
    beta_reduce
    rw [outsAt0_B m c ⟨n, hn⟩ h (by show n % 2 = 1; omega)]
    dsimp only
    unfold sout0_B_0
    frame_out
    exact (pay2_at _ _ _ r l).trans (congrArg₂ (· + ·) (congrFun (Memref.IsWhole.read_unread _ _) _) (part m c ⟨n, hn⟩ r l))) n

/-- At a run's last point the block written is the accumulator's. -/
theorem out_last (c : Dev nD) (t : Fin cfg0.N) (h : t.val % 2 = 1) : (outsAt0 m c t.val t.isLt).1 = (outsAt0 m c t.val t.isLt).2 := by
  rw [outsAt0_B m c t (by omega) h]
  dsimp only
  unfold sout0_B_0 out0_B_2
  frame_out

/-- The product. -/
def mul (a : FVec Ideal S2304x2048 .bf16) (b : FVec Ideal S2048x2048 .bf16) : FVec Ideal S2304x2048 .f32 :=
  fun j => ∑ k : Fin 2048, a (ix2 (j 0) k) * b (ix2 k (j 1))

/-- All blocks of the contraction. -/
theorem upto_mul (a : FVec Ideal S2304x2048 .bf16) (b : FVec Ideal S2048x2048 .bf16) (p : Fin 2304) (q : Fin 2048) {u : ℕ} {r : Fin 768} {l : Fin 512}
    (hp : u / 4 * 768 + r.val = p.val) (hq : u % 4 * 512 + l.val = q.val) : upto (blk a b u r l) 2 = mul a b (ix2 p q) := by
  unfold blk
  rw [hp, hq]
  refine upto_all (fun k => ext2 (matA a) p.val k * ext2 (matB b) k q.val) 1024 2 2048 rfl _ fun k => ?_
  beta_reduce
  rw [ext2_val, ext2_val]
  rfl

/-- The kernel writes the product. -/
theorem final (c : Dev nD) : (dats m 0 c).arrAt 2 cfg0.N = mul (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have ht := lt_N t
  blk_simp
  rw [after0_2, out_last m c t h1]
  idx_vars y
  refine (acc_at m c t.val t.isLt y0 y1).trans ?_
  rw [h1]
  refine (upto_mul _ _ ⟨t.val / 2 / 4 * 768 + y0.val, by have := y0.isLt; omega⟩ ⟨t.val / 2 % 4 * 512 + y1.val, by have := y1.isLt; omega⟩ rfl rfl).trans ?_
  blk_point [idx t]

/-- The reference's product. -/
theorem ref_eq (a : FVec Ideal S2304x2048 .bf16) (b : FVec Ideal S2048x2048 .bf16) :
    Host.dotGeneral Cert.OutMmRefIdeal.dot_S2304x2048_S2048x2048_S2304x2048_1_0_0_1_n_n none (extf .f32 a (by decide)) (extf .f32 b (by decide)) = mul a b := by
  funext j
  idx_vars j
  pointwise []
  rfl

end Cert.OutMmIdeal.RefValue

namespace Cert.Proof.OutMm

open Cert.OutMmIdeal.RefValue

theorem frame_p : Cert.quiescent_OutMm := fun m ρ _ => Cert.OutMm.Gen.frame m ρ
theorem frame_pi : Cert.quiescent_OutMmIdeal := fun m ρ _ => Cert.OutMmIdeal.Gen.frame m ρ
theorem frame_ri : Cert.quiescent_OutMmRefIdeal := fun m ρ _ =>
  (θ_run Cert.OutMmRefIdeal.defs _ _).mono (fun r h => ⟨fun c => (h c).2,
      Idealize.ShloMosaic.sem_eq_zero_of_no_sems (by decide) r.2⟩)
    (Cert.OutMmRefIdeal.Value.run (F := Ideal) m ρ)

/-- The kernel's product is the reference's. -/
theorem algebraic : Cert.algebraic_OutMmIdeal_OutMmRefIdeal := by
  pair_intro
  · run_from Cert.OutMmIdeal.Gen.run_main m g
  · run_from Cert.OutMmRefIdeal.Value.run m' g'
    rw [final m c]
    exact ref_eq _ _

end Cert.Proof.OutMm

/-! ## `d_merged`: the cotangent times the output weight turned, the contraction in two blocks of 1024. -/

namespace Cert.DMergedIdeal.RefValue

open Cert.DMergedIdeal Cert.DMergedIdeal.Gen Cert.Sums

variable (m : (ℓ : Loc nD τ sig) → Buf (Elt Ideal) ℓ)

/-- The kernel's first and second factor. -/
abbrev matA (a : FVec Ideal S2304x2048 .bf16) := fun i k => a (ix2 i k)

abbrev matB (b : FVec Ideal S2048x2048 .bf16) := fun i k => b (ix2 i k)

/-- What a point of run `u` and step `s` adds to the sum of row `r`, column `l` of its block. -/
def blk (a : FVec Ideal S2304x2048 .bf16) (b : FVec Ideal S2048x2048 .bf16) (u : ℕ) (r : Fin 768) (l : Fin 512) (s : ℕ) : EReal :=
  ∑ k : Fin 1024, ext2 (matA a) (u / 4 * 768 + r.val) (s * 1024 + k.val) * ext2 (matB b) (u % 4 * 512 + l.val) (s * 1024 + k.val)

theorem idx : ∀ t : Fin cfg0.N, win0_0.index t = ![t.val / 8, t.val % 2] ∧ win0_1.index t = ![t.val / 2 % 4, t.val % 2]
    ∧ win0_2.index t = ![t.val / 8, t.val / 2 % 4] :=
  (by decide +kernel : ∀ t : Fin grid0.N, _)

theorem lt_N (t : Fin cfg0.N) : t.val < 24 := lt_of_lt_of_eq t.isLt N_0

theorem pay1_at (r : Fin 768) (l : Fin 512) : k0_pay1 (F := Ideal) (ix2 r l) = 0 := by
  pointwise [k0_pay1]

theorem pay2_at (x : FVec Ideal S768x512 .f32) (a : FVec Ideal S768x1024 .bf16) (b : FVec Ideal S512x1024 .bf16) (r : Fin 768) (l : Fin 512) :
    k0_pay2 (F := Ideal) x a b (ix2 r l) = x (ix2 r l) + ∑ k : Fin 1024, a (ix2 r k) * b (ix2 l k) := by
  pointwise [k0_pay2]
  try simp only [zero_add, add_zero]

/-- The factors' blocks at a point. -/
abbrev aAt (c : Dev nD) (t : Fin cfg0.N) : FVec Ideal S768x1024 .bf16 := iblk m c 0 t

abbrev bAt (c : Dev nD) (t : Fin cfg0.N) : FVec Ideal S512x1024 .bf16 := iblk m c 1 t

theorem part (c : Dev nD) (t : Fin cfg0.N) (r : Fin 768) (l : Fin 512) : ∑ k : Fin 1024, aAt m c t (ix2 r k) * bAt m c t (ix2 l k)
    = blk (m ((c : Thread nD τ).loc main_arg2)) (m ((c : Thread nD τ).loc main_arg1)) (t.val / 2) r l (t.val % 2) := by
  have ht := lt_N t
  refine Finset.sum_congr rfl fun k _ => ?_
  have := r.isLt; have := l.isLt; have := k.isLt
  rw [ext2_of _ (by omega) (by omega), ext2_of _ (by omega) (by omega)]
  refine congrArg₂ (· * ·) ?_ ?_ <;> blk_point [iblk, V, idx t]

/-- What the accumulator holds after a point. -/
theorem acc_at (c : Dev nD) (n : ℕ) : ∀ (hn : n < cfg0.N) (r : Fin 768) (l : Fin 512), (outsAt0 m c n hn).2 (ix2 r l)
    = upto (blk (m ((c : Thread nD τ).loc main_arg2)) (m ((c : Thread nD τ).loc main_arg1)) (n / 2) r l) (n % 2 + 1) := runs (K := 2) (fun n hn r l => (outsAt0 m c n hn).2 (ix2 r l))
  (blk (m ((c : Thread nD τ).loc main_arg2)) (m ((c : Thread nD τ).loc main_arg1)))
  (fun n hn r l h => by
    beta_reduce
    rw [outsAt0_A m c ⟨n, hn⟩ h (by show ¬ n % 2 = 1; omega)]
    dsimp only
    unfold sout0_A_0
    frame_out
    exact (pay2_at _ _ _ r l).trans (congrArg₂ (· + ·) (pay1_at r l) (part m c ⟨n, hn⟩ r l)))
  (fun n hn h' r l h => by
    beta_reduce
    rw [outsAt0_B m c ⟨n, hn⟩ h (by show n % 2 = 1; omega)]
    dsimp only
    unfold sout0_B_0
    frame_out
    exact (pay2_at _ _ _ r l).trans (congrArg₂ (· + ·) (congrFun (Memref.IsWhole.read_unread _ _) _) (part m c ⟨n, hn⟩ r l))) n

/-- At a run's last point the block written is the accumulator's. -/
theorem out_last (c : Dev nD) (t : Fin cfg0.N) (h : t.val % 2 = 1) : (outsAt0 m c t.val t.isLt).1 = (outsAt0 m c t.val t.isLt).2 := by
  rw [outsAt0_B m c t (by omega) h]
  dsimp only
  unfold sout0_B_0 out0_B_2
  frame_out

/-- The product. -/
def mul (a : FVec Ideal S2304x2048 .bf16) (b : FVec Ideal S2048x2048 .bf16) : FVec Ideal S2304x2048 .f32 :=
  fun j => ∑ k : Fin 2048, a (ix2 (j 0) k) * b (ix2 (j 1) k)

/-- All blocks of the contraction. -/
theorem upto_mul (a : FVec Ideal S2304x2048 .bf16) (b : FVec Ideal S2048x2048 .bf16) (p : Fin 2304) (q : Fin 2048) {u : ℕ} {r : Fin 768} {l : Fin 512}
    (hp : u / 4 * 768 + r.val = p.val) (hq : u % 4 * 512 + l.val = q.val) : upto (blk a b u r l) 2 = mul a b (ix2 p q) := by
  unfold blk
  rw [hp, hq]
  refine upto_all (fun k => ext2 (matA a) p.val k * ext2 (matB b) q.val k) 1024 2 2048 rfl _ fun k => ?_
  beta_reduce
  rw [ext2_val, ext2_val]
  rfl

/-- The kernel writes the product. -/
theorem final (c : Dev nD) : (dats m 0 c).arrAt 2 cfg0.N = mul (m ((c : Thread nD τ).loc main_arg2)) (m ((c : Thread nD τ).loc main_arg1)) := by
  refine (dats m 0 c).arrAt_eq_of_covers 2 _ (by decide +kernel) fun t hf y => ?_
  have h1 : t.val % 2 = 1 := (flush0_2 t).mp hf
  have ht := lt_N t
  blk_simp
  rw [after0_2, out_last m c t h1]
  idx_vars y
  refine (acc_at m c t.val t.isLt y0 y1).trans ?_
  rw [h1]
  refine (upto_mul _ _ ⟨t.val / 2 / 4 * 768 + y0.val, by have := y0.isLt; omega⟩ ⟨t.val / 2 % 4 * 512 + y1.val, by have := y1.isLt; omega⟩ rfl rfl).trans ?_
  blk_point [idx t]

/-- The reference's product. -/
theorem ref_eq (a : FVec Ideal S2304x2048 .bf16) (b : FVec Ideal S2048x2048 .bf16) :
    Host.dotGeneral Cert.DMergedRefIdeal.dot_S2304x2048_S2048x2048_S2304x2048_1_1_0_0_n_n none (extf .f32 a (by decide)) (extf .f32 b (by decide)) = mul a b := by
  funext j
  idx_vars j
  pointwise []
  rfl

end Cert.DMergedIdeal.RefValue

namespace Cert.Proof.DMerged

open Cert.DMergedIdeal.RefValue

theorem frame_p : Cert.quiescent_DMerged := fun m ρ _ => Cert.DMerged.Gen.frame m ρ
theorem frame_pi : Cert.quiescent_DMergedIdeal := fun m ρ _ => Cert.DMergedIdeal.Gen.frame m ρ
theorem frame_ri : Cert.quiescent_DMergedRefIdeal := fun m ρ _ =>
  (θ_run Cert.DMergedRefIdeal.defs _ _).mono (fun r h => ⟨fun c => (h c).2,
      Idealize.ShloMosaic.sem_eq_zero_of_no_sems (by decide) r.2⟩)
    (Cert.DMergedRefIdeal.Value.run (F := Ideal) m ρ)

/-- The kernel's product is the reference's. -/
theorem algebraic : Cert.algebraic_DMergedIdeal_DMergedRefIdeal := by
  pair_intro
  · run_from Cert.DMergedIdeal.Gen.run_main m g
  · run_from Cert.DMergedRefIdeal.Value.run m' g'
    rw [final m c]
    exact ref_eq _ _

end Cert.Proof.DMerged

/-! ## `d_w_out`: the merged branches turned, times the cotangent, the contraction over the rows in three blocks of 768. -/

namespace Cert.DWOutIdeal.RefValue

open Cert.DWOutIdeal Cert.DWOutIdeal.Gen Cert.Sums

variable (m : (ℓ : Loc nD τ sig) → Buf (Elt Ideal) ℓ)

/-- The kernel's first and second factor. -/
abbrev matA (a : FVec Ideal S2304x2048 .bf16) := fun i k => a (ix2 i k)

abbrev matB (b : FVec Ideal S2304x2048 .bf16) := fun i k => b (ix2 i k)

/-- What a point of run `u` and step `s` adds to the sum of row `r`, column `l` of its block. -/
def blk (a : FVec Ideal S2304x2048 .bf16) (b : FVec Ideal S2304x2048 .bf16) (u : ℕ) (r : Fin 512) (l : Fin 512) (s : ℕ) : EReal :=
  ∑ k : Fin 768, ext2 (matA a) (s * 768 + k.val) (u / 4 * 512 + r.val) * ext2 (matB b) (s * 768 + k.val) (u % 4 * 512 + l.val)

theorem idx : ∀ t : Fin cfg0.N, win0_0.index t = ![t.val % 3, t.val / 12] ∧ win0_1.index t = ![t.val % 3, t.val / 3 % 4]
    ∧ win0_2.index t = ![t.val / 12, t.val / 3 % 4] :=
  (by decide +kernel : ∀ t : Fin grid0.N, _)

theorem lt_N (t : Fin cfg0.N) : t.val < 48 := lt_of_lt_of_eq t.isLt N_0

theorem pay1_at (r : Fin 512) (l : Fin 512) : k0_pay1 (F := Ideal) (ix2 r l) = 0 := by
  pointwise [k0_pay1]

theorem pay2_at (x : FVec Ideal S512x512 .f32) (a : FVec Ideal S768x512 .bf16) (b : FVec Ideal S768x512 .bf16) (r : Fin 512) (l : Fin 512) :
    k0_pay2 (F := Ideal) x a b (ix2 r l) = x (ix2 r l) + ∑ k : Fin 768, a (ix2 k r) * b (ix2 k l) := by
  pointwise [k0_pay2]
  try simp only [zero_add, add_zero]

/-- The factors' blocks at a point. -/
abbrev aAt (c : Dev nD) (t : Fin cfg0.N) : FVec Ideal S768x512 .bf16 := iblk m c 0 t

abbrev bAt (c : Dev nD) (t : Fin cfg0.N) : FVec Ideal S768x512 .bf16 := iblk m c 1 t

theorem part (c : Dev nD) (t : Fin cfg0.N) (r : Fin 512) (l : Fin 512) : ∑ k : Fin 768, aAt m c t (ix2 k r) * bAt m c t (ix2 k l)
    = blk (m ((c : Thread nD τ).loc main_arg0)) (m ((c : Thread nD τ).loc main_arg2)) (t.val / 3) r l (t.val % 3) := by
  have ht := lt_N t
  refine Finset.sum_congr rfl fun k _ => ?_
  have := r.isLt; have := l.isLt; have := k.isLt
  rw [ext2_of _ (by omega) (by omega), ext2_of _ (by omega) (by omega)]
  refine congrArg₂ (· * ·) ?_ ?_ <;> blk_point [iblk, V, idx t]

/-- What the accumulator holds after a point. -/
theorem acc_at (c : Dev nD) (n : ℕ) : ∀ (hn : n < cfg0.N) (r : Fin 512) (l : Fin 512), (outsAt0 m c n hn).2 (ix2 r l)
    = upto (blk (m ((c : Thread nD τ).loc main_arg0)) (m ((c : Thread nD τ).loc main_arg2)) (n / 3) r l) (n % 3 + 1) := runs (K := 3) (fun n hn r l => (outsAt0 m c n hn).2 (ix2 r l))
  (blk (m ((c : Thread nD τ).loc main_arg0)) (m ((c : Thread nD τ).loc main_arg2)))
  (fun n hn r l h => by
    beta_reduce
    rw [outsAt0_A m c ⟨n, hn⟩ h (by show ¬ n % 3 = 2; omega)]
    dsimp only
    unfold sout0_A_0
    frame_out
    exact (pay2_at _ _ _ r l).trans (congrArg₂ (· + ·) (pay1_at r l) (part m c ⟨n, hn⟩ r l)))
  (fun n hn h' r l h => by
    beta_reduce
    by_cases h1 : n % 3 = 2
    · rw [outsAt0_C m c ⟨n, hn⟩ h h1]
      dsimp only
      unfold sout0_C_0
      frame_out
      exact (pay2_at _ _ _ r l).trans (congrArg₂ (· + ·) (congrFun (Memref.IsWhole.read_unread _ _) _) (part m c ⟨n, hn⟩ r l))
    · rw [outsAt0_B m c ⟨n, hn⟩ h h1]
      dsimp only
      unfold sout0_B_0
      frame_out
      exact (pay2_at _ _ _ r l).trans (congrArg₂ (· + ·) (congrFun (Memref.IsWhole.read_unread _ _) _) (part m c ⟨n, hn⟩ r l))) n

/-- At a run's last point the block written is the accumulator's. -/
theorem out_last (c : Dev nD) (t : Fin cfg0.N) (h : t.val % 3 = 2) : (outsAt0 m c t.val t.isLt).1 = (outsAt0 m c t.val t.isLt).2 := by
  rw [outsAt0_C m c t (by omega) h]
  dsimp only
  unfold sout0_C_0 out0_C_2
  frame_out

/-- The product. -/
def mul (a : FVec Ideal S2304x2048 .bf16) (b : FVec Ideal S2304x2048 .bf16) : FVec Ideal S2048x2048 .f32 :=
  fun j => ∑ k : Fin 2304, a (ix2 k (j 0)) * b (ix2 k (j 1))

/-- All blocks of the contraction. -/
theorem upto_mul (a : FVec Ideal S2304x2048 .bf16) (b : FVec Ideal S2304x2048 .bf16) (p : Fin 2048) (q : Fin 2048) {u : ℕ} {r : Fin 512} {l : Fin 512}
    (hp : u / 4 * 512 + r.val = p.val) (hq : u % 4 * 512 + l.val = q.val) : upto (blk a b u r l) 3 = mul a b (ix2 p q) := by
  unfold blk
  rw [hp, hq]
  refine upto_all (fun k => ext2 (matA a) k p.val * ext2 (matB b) k q.val) 768 3 2304 rfl _ fun k => ?_
  beta_reduce
  rw [ext2_val, ext2_val]
  rfl

/-- The kernel writes the product. -/
theorem final (c : Dev nD) : (dats m 0 c).arrAt 2 cfg0.N = mul (m ((c : Thread nD τ).loc main_arg0)) (m ((c : Thread nD τ).loc main_arg2)) := by
  refine (dats m 0 c).arrAt_eq_of_covers 2 _ (by decide +kernel) fun t hf y => ?_
  have h1 : t.val % 3 = 2 := (flush0_2 t).mp hf
  have ht := lt_N t
  blk_simp
  rw [after0_2, out_last m c t h1]
  idx_vars y
  refine (acc_at m c t.val t.isLt y0 y1).trans ?_
  rw [h1]
  refine (upto_mul _ _ ⟨t.val / 3 / 4 * 512 + y0.val, by have := y0.isLt; omega⟩ ⟨t.val / 3 % 4 * 512 + y1.val, by have := y1.isLt; omega⟩ rfl rfl).trans ?_
  blk_point [idx t]

/-- The reference's product. -/
theorem ref_eq (a : FVec Ideal S2304x2048 .bf16) (b : FVec Ideal S2304x2048 .bf16) :
    transpose S2048x2048 [1, 0] (Host.dotGeneral Cert.DWOutRefIdeal.dot_S2304x2048_S2304x2048_S2048x2048_0_0_1_1_n_n none
      (extf .f32 b (by decide)) (extf .f32 a (by decide))) (by decide) = mul a b := by
  funext j
  idx_vars j
  pointwise []
  exact Finset.sum_congr rfl fun k _ => mul_comm _ _

end Cert.DWOutIdeal.RefValue

namespace Cert.Proof.DWOut

open Cert.DWOutIdeal.RefValue

theorem frame_p : Cert.quiescent_DWOut := fun m ρ _ => Cert.DWOut.Gen.frame m ρ
theorem frame_pi : Cert.quiescent_DWOutIdeal := fun m ρ _ => Cert.DWOutIdeal.Gen.frame m ρ
theorem frame_ri : Cert.quiescent_DWOutRefIdeal := fun m ρ _ =>
  (θ_run Cert.DWOutRefIdeal.defs _ _).mono (fun r h => ⟨fun c => (h c).2,
      Idealize.ShloMosaic.sem_eq_zero_of_no_sems (by decide) r.2⟩)
    (Cert.DWOutRefIdeal.Value.run (F := Ideal) m ρ)

/-- The kernel's product is the reference's. -/
theorem algebraic : Cert.algebraic_DWOutIdeal_DWOutRefIdeal := by
  pair_intro
  · run_from Cert.DWOutIdeal.Gen.run_main m g
  · run_from Cert.DWOutRefIdeal.Value.run m' g'
    rw [final m c]
    exact ref_eq _ _

end Cert.Proof.DWOut

end
-- ==== Proof.Shards.lean ====
/-
  The products with a weight held in four shards of its columns.
-/
module

public import proofs.«01_k».proof.Defs
public import proofs.«01_k».proof.Proof.Gen.ProjMm.Frame
public import proofs.«01_k».proof.Proof.Gen.ProjMmIdeal.Frame
public import proofs.«01_k».proof.Proof.Gen.ProjMmRefIdeal.Run
public import proofs.«01_k».proof.Proof.Gen.DWIn.Frame
public import proofs.«01_k».proof.Proof.Gen.DWInIdeal.Frame
public import proofs.«01_k».proof.Proof.Gen.DWInRefIdeal.Run
public import proofs.«01_k».proof.Proof.Gen.DH.Frame
public import proofs.«01_k».proof.Proof.Gen.DHIdeal.Frame
public import proofs.«01_k».proof.Proof.Gen.DHRefIdeal.Run
public import proofs.«01_k».proof.Proof.Sums
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## `proj_mm`: the normed rows times each shard of the input weight, the contraction in four blocks of 512. -/

namespace Cert.ProjMmIdeal.RefValue

open Cert.ProjMmIdeal Cert.ProjMmIdeal.Gen Cert.Sums

variable (m : (ℓ : Loc nD τ sig) → Buf (Elt Ideal) ℓ)

/-- The kernel's first and second factor. -/
abbrev matA (a : FVec Ideal S2304x2048 .bf16) := fun i k => a (ix2 i k)

abbrev matB (b : FVec Ideal S4x2048x3392 .bf16) := fun s i k => b (ix3 s i k)

/-- What a point of run `u` and step `s` adds to the sum of row `r`, column `l` of its block. -/
def blk (a : FVec Ideal S2304x2048 .bf16) (b : FVec Ideal S4x2048x3392 .bf16) (u : ℕ) (r : Fin 768) (l : Fin 3392) (s : ℕ) : EReal :=
  ∑ k : Fin 512, ext2 (matA a) (u / 4 * 768 + r.val) (s * 512 + k.val) * ext3 (matB b) (u % 4) (s * 512 + k.val) l.val

theorem idx : ∀ t : Fin cfg0.N, win0_0.index t = ![t.val / 16, t.val % 4] ∧ win0_1.index t = ![t.val / 4 % 4, t.val % 4, 0]
    ∧ win0_2.index t = ![t.val / 4 % 4, t.val / 16, 0] :=
  (by decide +kernel : ∀ t : Fin grid0.N, _)

theorem lt_N (t : Fin cfg0.N) : t.val < 48 := lt_of_lt_of_eq t.isLt N_0

theorem pay1_at (r : Fin 768) (l : Fin 3392) : k0_pay1 (F := Ideal) (ix2 r l) = 0 := by
  pointwise [k0_pay1]

theorem pay2_at (x : FVec Ideal S768x3392 .f32) (a : FVec Ideal S768x512 .bf16) (b : FVec Ideal S1x512x3392 .bf16) (r : Fin 768) (l : Fin 3392) :
    k0_pay2 (F := Ideal) x a b (ix2 r l) = x (ix2 r l) + ∑ k : Fin 512, a (ix2 r k) * b (ix3 0 k l) := by
  pointwise [k0_pay2]
  try simp only [zero_add, add_zero]

/-- The factors' blocks at a point. -/
abbrev aAt (c : Dev nD) (t : Fin cfg0.N) : FVec Ideal S768x512 .bf16 := iblk m c 0 t

abbrev bAt (c : Dev nD) (t : Fin cfg0.N) : FVec Ideal S1x512x3392 .bf16 := iblk m c 1 t

theorem part (c : Dev nD) (t : Fin cfg0.N) (r : Fin 768) (l : Fin 3392) : ∑ k : Fin 512, aAt m c t (ix2 r k) * bAt m c t (ix3 0 k l)
    = blk (m ((c : Thread nD τ).loc main_arg0)) (m ((c : Thread nD τ).loc main_arg1)) (t.val / 4) r l (t.val % 4) := by
  have ht := lt_N t
  refine Finset.sum_congr rfl fun k _ => ?_
  have := r.isLt; have := l.isLt; have := k.isLt
  rw [ext2_of _ (by omega) (by omega), ext3_of _ (by omega) (by omega) (by omega)]
  refine congrArg₂ (· * ·) ?_ ?_ <;> blk_point [iblk, V, idx t]

/-- What the accumulator holds after a point. -/
theorem acc_at (c : Dev nD) (n : ℕ) : ∀ (hn : n < cfg0.N) (r : Fin 768) (l : Fin 3392), (outsAt0 m c n hn).2 (ix2 r l)
    = upto (blk (m ((c : Thread nD τ).loc main_arg0)) (m ((c : Thread nD τ).loc main_arg1)) (n / 4) r l) (n % 4 + 1) := runs (K := 4) (fun n hn r l => (outsAt0 m c n hn).2 (ix2 r l))
  (blk (m ((c : Thread nD τ).loc main_arg0)) (m ((c : Thread nD τ).loc main_arg1)))
  (fun n hn r l h => by
    beta_reduce
    rw [outsAt0_A m c ⟨n, hn⟩ h (by show ¬ n % 4 = 3; omega)]
    dsimp only
    unfold sout0_A_0
    frame_out
    exact (pay2_at _ _ _ r l).trans (congrArg₂ (· + ·) (pay1_at r l) (part m c ⟨n, hn⟩ r l)))
  (fun n hn h' r l h => by
    beta_reduce
    by_cases h1 : n % 4 = 3
    · rw [outsAt0_C m c ⟨n, hn⟩ h h1]
      dsimp only
      unfold sout0_C_0
      frame_out
      exact (pay2_at _ _ _ r l).trans (congrArg₂ (· + ·) (congrFun (Memref.IsWhole.read_unread _ _) _) (part m c ⟨n, hn⟩ r l))
    · rw [outsAt0_B m c ⟨n, hn⟩ h h1]
      dsimp only
      unfold sout0_B_0
      frame_out
      exact (pay2_at _ _ _ r l).trans (congrArg₂ (· + ·) (congrFun (Memref.IsWhole.read_unread _ _) _) (part m c ⟨n, hn⟩ r l))) n

theorem pay3_at (x : FVec Ideal S768x3392 .f32) (z : Fin 1) (r : Fin 768) (l : Fin 3392) : k0_pay3 (F := Ideal) x (ix3 z r l) = x (ix2 r l) := by
  pointwise [k0_pay3]

/-- At a run's last point the block written is the accumulator's. -/
theorem out_last (c : Dev nD) (t : Fin cfg0.N) (h : t.val % 4 = 3) (z : Fin 1) (r : Fin 768) (l : Fin 3392) :
    (outsAt0 m c t.val t.isLt).1 (ix3 z r l) = (outsAt0 m c t.val t.isLt).2 (ix2 r l) := by
  rw [outsAt0_C m c t (by omega) h]
  dsimp only
  unfold sout0_C_0 out0_C_2
  frame_out
  exact pay3_at _ z r l

/-- The product. -/
def mul (a : FVec Ideal S2304x2048 .bf16) (b : FVec Ideal S4x2048x3392 .bf16) : FVec Ideal S4x2304x3392 .f32 :=
  fun j => ∑ k : Fin 2048, a (ix2 (j 1) k) * b (ix3 (j 0) k (j 2))

/-- All blocks of the contraction. -/
theorem upto_mul (a : FVec Ideal S2304x2048 .bf16) (b : FVec Ideal S4x2048x3392 .bf16) (z : Fin 4) (p : Fin 2304) (q : Fin 3392) {u : ℕ} {r : Fin 768} {l : Fin 3392}
    (hp : u / 4 * 768 + r.val = p.val) (hz : u % 4 = z.val) (hq : l = q) : upto (blk a b u r l) 4 = mul a b (ix3 z p q) := by
  unfold blk
  rw [hp, hz, hq]
  refine upto_all (fun k => ext2 (matA a) p.val k * ext3 (matB b) z.val k q.val) 512 4 2048 rfl _ fun k => ?_
  beta_reduce
  rw [ext2_val, ext3_val]
  rfl

/-- The kernel writes the product. -/
theorem final (c : Dev nD) : (dats m 0 c).arrAt 2 cfg0.N = mul (m ((c : Thread nD τ).loc main_arg0)) (m ((c : Thread nD τ).loc main_arg1)) := by
  refine (dats m 0 c).arrAt_eq_of_covers 2 _ (by decide +kernel) fun t hf y => ?_
  have h1 : t.val % 4 = 3 := (flush0_2 t).mp hf
  have ht := lt_N t
  blk_simp
  rw [after0_2]
  idx_vars y
  refine (out_last m c t h1 y0 y1 y2).trans ((acc_at m c t.val t.isLt y1 y2).trans ?_)
  rw [h1]
  refine (upto_mul _ _ ⟨t.val / 4 % 4, by omega⟩ ⟨t.val / 4 / 4 * 768 + y1.val, by have := y1.isLt; omega⟩ y2 rfl rfl rfl).trans ?_
  blk_point [idx t]

/-- The reference's product. -/
theorem ref_eq (a : FVec Ideal S2304x2048 .bf16) (b : FVec Ideal S4x2048x3392 .bf16) :
    transpose S4x2304x3392 [0, 2, 1] (Host.dotGeneral Cert.ProjMmRefIdeal.dot_S4x2048x3392_S2304x2048_S4x3392x2304_1_1_02_0_n_n none
      (extf .f32 b (by decide)) (extf .f32 a (by decide))) (by decide) = mul a b := by
  funext j
  idx_vars j
  pointwise []
  exact Finset.sum_congr rfl fun k _ => mul_comm _ _

end Cert.ProjMmIdeal.RefValue

namespace Cert.Proof.ProjMm

open Cert.ProjMmIdeal.RefValue

theorem frame_p : Cert.quiescent_ProjMm := fun m ρ _ => Cert.ProjMm.Gen.frame m ρ
theorem frame_pi : Cert.quiescent_ProjMmIdeal := fun m ρ _ => Cert.ProjMmIdeal.Gen.frame m ρ
theorem frame_ri : Cert.quiescent_ProjMmRefIdeal := fun m ρ _ =>
  (θ_run Cert.ProjMmRefIdeal.defs _ _).mono (fun r h => ⟨fun c => (h c).2,
      Idealize.ShloMosaic.sem_eq_zero_of_no_sems (by decide) r.2⟩)
    (Cert.ProjMmRefIdeal.Value.run (F := Ideal) m ρ)

/-- The kernel's product is the reference's. -/
theorem algebraic : Cert.algebraic_ProjMmIdeal_ProjMmRefIdeal := by
  pair_intro
  · run_from Cert.ProjMmIdeal.Gen.run_main m g
  · run_from Cert.ProjMmRefIdeal.Value.run m' g'
    rw [final m c]
    exact ref_eq _ _

end Cert.Proof.ProjMm

/-! ## `d_w_in`: the normed rows turned, times each shard of the cotangent, the contraction over the rows in three blocks of 768. -/

namespace Cert.DWInIdeal.RefValue

open Cert.DWInIdeal Cert.DWInIdeal.Gen Cert.Sums

variable (m : (ℓ : Loc nD τ sig) → Buf (Elt Ideal) ℓ)

/-- The kernel's first and second factor. -/
abbrev matA (a : FVec Ideal S2304x2048 .bf16) := fun i k => a (ix2 i k)

abbrev matB (b : FVec Ideal S4x2304x3392 .bf16) := fun s i k => b (ix3 s i k)

/-- What a point of run `u` and step `s` adds to the sum of row `r`, column `l` of its block. -/
def blk (a : FVec Ideal S2304x2048 .bf16) (b : FVec Ideal S4x2304x3392 .bf16) (u : ℕ) (r : Fin 512) (l : Fin 3392) (s : ℕ) : EReal :=
  ∑ k : Fin 768, ext2 (matA a) (s * 768 + k.val) (u / 4 * 512 + r.val) * ext3 (matB b) (u % 4) (s * 768 + k.val) l.val

theorem idx : ∀ t : Fin cfg0.N, win0_0.index t = ![t.val % 3, t.val / 12] ∧ win0_1.index t = ![t.val / 3 % 4, t.val % 3, 0]
    ∧ win0_2.index t = ![t.val / 3 % 4, t.val / 12, 0] :=
  (by decide +kernel : ∀ t : Fin grid0.N, _)

theorem lt_N (t : Fin cfg0.N) : t.val < 48 := lt_of_lt_of_eq t.isLt N_0

theorem pay1_at (r : Fin 512) (l : Fin 3392) : k0_pay1 (F := Ideal) (ix2 r l) = 0 := by
  pointwise [k0_pay1]

theorem pay2_at (x : FVec Ideal S512x3392 .f32) (a : FVec Ideal S768x512 .bf16) (b : FVec Ideal S1x768x3392 .bf16) (r : Fin 512) (l : Fin 3392) :
    k0_pay2 (F := Ideal) x a b (ix2 r l) = x (ix2 r l) + ∑ k : Fin 768, a (ix2 k r) * b (ix3 0 k l) := by
  pointwise [k0_pay2]
  try simp only [zero_add, add_zero]

/-- The factors' blocks at a point. -/
abbrev aAt (c : Dev nD) (t : Fin cfg0.N) : FVec Ideal S768x512 .bf16 := iblk m c 0 t

abbrev bAt (c : Dev nD) (t : Fin cfg0.N) : FVec Ideal S1x768x3392 .bf16 := iblk m c 1 t

theorem part (c : Dev nD) (t : Fin cfg0.N) (r : Fin 512) (l : Fin 3392) : ∑ k : Fin 768, aAt m c t (ix2 k r) * bAt m c t (ix3 0 k l)
    = blk (m ((c : Thread nD τ).loc main_arg0)) (m ((c : Thread nD τ).loc main_arg2)) (t.val / 3) r l (t.val % 3) := by
  have ht := lt_N t
  refine Finset.sum_congr rfl fun k _ => ?_
  have := r.isLt; have := l.isLt; have := k.isLt
  rw [ext2_of _ (by omega) (by omega), ext3_of _ (by omega) (by omega) (by omega)]
  refine congrArg₂ (· * ·) ?_ ?_ <;> blk_point [iblk, V, idx t]

/-- What the accumulator holds after a point. -/
theorem acc_at (c : Dev nD) (n : ℕ) : ∀ (hn : n < cfg0.N) (r : Fin 512) (l : Fin 3392), (outsAt0 m c n hn).2 (ix2 r l)
    = upto (blk (m ((c : Thread nD τ).loc main_arg0)) (m ((c : Thread nD τ).loc main_arg2)) (n / 3) r l) (n % 3 + 1) := runs (K := 3) (fun n hn r l => (outsAt0 m c n hn).2 (ix2 r l))
  (blk (m ((c : Thread nD τ).loc main_arg0)) (m ((c : Thread nD τ).loc main_arg2)))
  (fun n hn r l h => by
    beta_reduce
    rw [outsAt0_A m c ⟨n, hn⟩ h (by show ¬ n % 3 = 2; omega)]
    dsimp only
    unfold sout0_A_0
    frame_out
    exact (pay2_at _ _ _ r l).trans (congrArg₂ (· + ·) (pay1_at r l) (part m c ⟨n, hn⟩ r l)))
  (fun n hn h' r l h => by
    beta_reduce
    by_cases h1 : n % 3 = 2
    · rw [outsAt0_C m c ⟨n, hn⟩ h h1]
      dsimp only
      unfold sout0_C_0
      frame_out
      exact (pay2_at _ _ _ r l).trans (congrArg₂ (· + ·) (congrFun (Memref.IsWhole.read_unread _ _) _) (part m c ⟨n, hn⟩ r l))
    · rw [outsAt0_B m c ⟨n, hn⟩ h h1]
      dsimp only
      unfold sout0_B_0
      frame_out
      exact (pay2_at _ _ _ r l).trans (congrArg₂ (· + ·) (congrFun (Memref.IsWhole.read_unread _ _) _) (part m c ⟨n, hn⟩ r l))) n

theorem pay3_at (x : FVec Ideal S512x3392 .f32) (z : Fin 1) (r : Fin 512) (l : Fin 3392) : k0_pay3 (F := Ideal) x (ix3 z r l) = x (ix2 r l) := by
  pointwise [k0_pay3]

/-- At a run's last point the block written is the accumulator's. -/
theorem out_last (c : Dev nD) (t : Fin cfg0.N) (h : t.val % 3 = 2) (z : Fin 1) (r : Fin 512) (l : Fin 3392) :
    (outsAt0 m c t.val t.isLt).1 (ix3 z r l) = (outsAt0 m c t.val t.isLt).2 (ix2 r l) := by
  rw [outsAt0_C m c t (by omega) h]
  dsimp only
  unfold sout0_C_0 out0_C_2
  frame_out
  exact pay3_at _ z r l

/-- The product. -/
def mul (a : FVec Ideal S2304x2048 .bf16) (b : FVec Ideal S4x2304x3392 .bf16) : FVec Ideal S4x2048x3392 .f32 :=
  fun j => ∑ k : Fin 2304, a (ix2 k (j 1)) * b (ix3 (j 0) k (j 2))

/-- All blocks of the contraction. -/
theorem upto_mul (a : FVec Ideal S2304x2048 .bf16) (b : FVec Ideal S4x2304x3392 .bf16) (z : Fin 4) (p : Fin 2048) (q : Fin 3392) {u : ℕ} {r : Fin 512} {l : Fin 3392}
    (hp : u / 4 * 512 + r.val = p.val) (hz : u % 4 = z.val) (hq : l = q) : upto (blk a b u r l) 3 = mul a b (ix3 z p q) := by
  unfold blk
  rw [hp, hz, hq]
  refine upto_all (fun k => ext2 (matA a) k p.val * ext3 (matB b) z.val k q.val) 768 3 2304 rfl _ fun k => ?_
  beta_reduce
  rw [ext2_val, ext3_val]
  rfl

/-- The kernel writes the product. -/
theorem final (c : Dev nD) : (dats m 0 c).arrAt 2 cfg0.N = mul (m ((c : Thread nD τ).loc main_arg0)) (m ((c : Thread nD τ).loc main_arg2)) := by
  refine (dats m 0 c).arrAt_eq_of_covers 2 _ (by decide +kernel) fun t hf y => ?_
  have h1 : t.val % 3 = 2 := (flush0_2 t).mp hf
  have ht := lt_N t
  blk_simp
  rw [after0_2]
  idx_vars y
  refine (out_last m c t h1 y0 y1 y2).trans ((acc_at m c t.val t.isLt y1 y2).trans ?_)
  rw [h1]
  refine (upto_mul _ _ ⟨t.val / 3 % 4, by omega⟩ ⟨t.val / 3 / 4 * 512 + y1.val, by have := y1.isLt; omega⟩ y2 rfl rfl rfl).trans ?_
  blk_point [idx t]

/-- The reference's product. -/
theorem ref_eq (a : FVec Ideal S2304x2048 .bf16) (b : FVec Ideal S4x2304x3392 .bf16) :
    transpose S4x2048x3392 [0, 2, 1] (Host.dotGeneral Cert.DWInRefIdeal.dot_S4x3392x2304_S2304x2048_S4x3392x2048_2_0_01_1_n_n none
      (transpose Cert.DWInRefIdeal.S4x3392x2304 [0, 2, 1] (extf .f32 b (by decide)) (by decide)) (extf .f32 a (by decide)))
      (by decide) = mul a b := by
  funext j
  idx_vars j
  pointwise []
  exact Finset.sum_congr rfl fun k _ => mul_comm _ _

end Cert.DWInIdeal.RefValue

namespace Cert.Proof.DWIn

open Cert.DWInIdeal.RefValue

theorem frame_p : Cert.quiescent_DWIn := fun m ρ _ => Cert.DWIn.Gen.frame m ρ
theorem frame_pi : Cert.quiescent_DWInIdeal := fun m ρ _ => Cert.DWInIdeal.Gen.frame m ρ
theorem frame_ri : Cert.quiescent_DWInRefIdeal := fun m ρ _ =>
  (θ_run Cert.DWInRefIdeal.defs _ _).mono (fun r h => ⟨fun c => (h c).2,
      Idealize.ShloMosaic.sem_eq_zero_of_no_sems (by decide) r.2⟩)
    (Cert.DWInRefIdeal.Value.run (F := Ideal) m ρ)

/-- The kernel's product is the reference's. -/
theorem algebraic : Cert.algebraic_DWInIdeal_DWInRefIdeal := by
  pair_intro
  · run_from Cert.DWInIdeal.Gen.run_main m g
  · run_from Cert.DWInRefIdeal.Value.run m' g'
    rw [final m c]
    exact ref_eq _ _

end Cert.Proof.DWIn

/-! ## `d_h`: the cotangent times the input weight turned, summed over the four shards, a shard at a point. -/

namespace Cert.DHIdeal.RefValue

open Cert.DHIdeal Cert.DHIdeal.Gen Cert.Sums

variable (m : (ℓ : Loc nD τ sig) → Buf (Elt Ideal) ℓ)

/-- The kernel's first and second factor. -/
abbrev matA (a : FVec Ideal S4x2304x3392 .bf16) := fun s i k => a (ix3 s i k)

abbrev matB (b : FVec Ideal S4x2048x3392 .bf16) := fun s i k => b (ix3 s i k)

/-- What a point of run `u` and step `s` adds to the sum of row `r`, column `l` of its block. -/
def blk (a : FVec Ideal S4x2304x3392 .bf16) (b : FVec Ideal S4x2048x3392 .bf16) (u : ℕ) (r : Fin 768) (l : Fin 512) (s : ℕ) : EReal :=
  ∑ k : Fin 3392, ext3 (matA a) s (u / 4 * 768 + r.val) k.val * ext3 (matB b) s (u % 4 * 512 + l.val) k.val

theorem idx : ∀ t : Fin cfg0.N, win0_0.index t = ![t.val % 4, t.val / 16, 0] ∧ win0_1.index t = ![t.val % 4, t.val / 4 % 4, 0]
    ∧ win0_2.index t = ![t.val / 16, t.val / 4 % 4] :=
  (by decide +kernel : ∀ t : Fin grid0.N, _)

theorem lt_N (t : Fin cfg0.N) : t.val < 48 := lt_of_lt_of_eq t.isLt N_0

theorem pay1_at (r : Fin 768) (l : Fin 512) : k0_pay1 (F := Ideal) (ix2 r l) = 0 := by
  pointwise [k0_pay1]

theorem pay2_at (x : FVec Ideal S768x512 .f32) (a : FVec Ideal S1x768x3392 .bf16) (b : FVec Ideal S1x512x3392 .bf16) (r : Fin 768) (l : Fin 512) :
    k0_pay2 (F := Ideal) x a b (ix2 r l) = x (ix2 r l) + ∑ k : Fin 3392, a (ix3 0 r k) * b (ix3 0 l k) := by
  pointwise [k0_pay2]
  try simp only [zero_add, add_zero]

/-- The factors' blocks at a point. -/
abbrev aAt (c : Dev nD) (t : Fin cfg0.N) : FVec Ideal S1x768x3392 .bf16 := iblk m c 0 t

abbrev bAt (c : Dev nD) (t : Fin cfg0.N) : FVec Ideal S1x512x3392 .bf16 := iblk m c 1 t

theorem part (c : Dev nD) (t : Fin cfg0.N) (r : Fin 768) (l : Fin 512) : ∑ k : Fin 3392, aAt m c t (ix3 0 r k) * bAt m c t (ix3 0 l k)
    = blk (m ((c : Thread nD τ).loc main_arg2)) (m ((c : Thread nD τ).loc main_arg1)) (t.val / 4) r l (t.val % 4) := by
  have ht := lt_N t
  refine Finset.sum_congr rfl fun k _ => ?_
  have := r.isLt; have := l.isLt; have := k.isLt
  rw [ext3_of _ (by omega) (by omega) (by omega), ext3_of _ (by omega) (by omega) (by omega)]
  refine congrArg₂ (· * ·) ?_ ?_ <;> blk_point [iblk, V, idx t]

/-- What the accumulator holds after a point. -/
theorem acc_at (c : Dev nD) (n : ℕ) : ∀ (hn : n < cfg0.N) (r : Fin 768) (l : Fin 512), (outsAt0 m c n hn).2 (ix2 r l)
    = upto (blk (m ((c : Thread nD τ).loc main_arg2)) (m ((c : Thread nD τ).loc main_arg1)) (n / 4) r l) (n % 4 + 1) := runs (K := 4) (fun n hn r l => (outsAt0 m c n hn).2 (ix2 r l))
  (blk (m ((c : Thread nD τ).loc main_arg2)) (m ((c : Thread nD τ).loc main_arg1)))
  (fun n hn r l h => by
    beta_reduce
    rw [outsAt0_A m c ⟨n, hn⟩ h (by show ¬ n % 4 = 3; omega)]
    dsimp only
    unfold sout0_A_0
    frame_out
    exact (pay2_at _ _ _ r l).trans (congrArg₂ (· + ·) (pay1_at r l) (part m c ⟨n, hn⟩ r l)))
  (fun n hn h' r l h => by
    beta_reduce
    by_cases h1 : n % 4 = 3
    · rw [outsAt0_C m c ⟨n, hn⟩ h h1]
      dsimp only
      unfold sout0_C_0
      frame_out
      exact (pay2_at _ _ _ r l).trans (congrArg₂ (· + ·) (congrFun (Memref.IsWhole.read_unread _ _) _) (part m c ⟨n, hn⟩ r l))
    · rw [outsAt0_B m c ⟨n, hn⟩ h h1]
      dsimp only
      unfold sout0_B_0
      frame_out
      exact (pay2_at _ _ _ r l).trans (congrArg₂ (· + ·) (congrFun (Memref.IsWhole.read_unread _ _) _) (part m c ⟨n, hn⟩ r l))) n

/-- At a run's last point the block written is the accumulator's. -/
theorem out_last (c : Dev nD) (t : Fin cfg0.N) (h : t.val % 4 = 3) : (outsAt0 m c t.val t.isLt).1 = (outsAt0 m c t.val t.isLt).2 := by
  rw [outsAt0_C m c t (by omega) h]
  dsimp only
  unfold sout0_C_0 out0_C_2
  frame_out

/-- The sum over the shards of the products. -/
def mul (a : FVec Ideal S4x2304x3392 .bf16) (b : FVec Ideal S4x2048x3392 .bf16) : FVec Ideal S2304x2048 .f32 :=
  fun j => ∑ s : Fin 4, ∑ k : Fin 3392, a (ix3 s (j 0) k) * b (ix3 s (j 1) k)

/-- All shards. -/
theorem upto_mul (a : FVec Ideal S4x2304x3392 .bf16) (b : FVec Ideal S4x2048x3392 .bf16) (p : Fin 2304) (q : Fin 2048) {u : ℕ} {r : Fin 768} {l : Fin 512}
    (hp : u / 4 * 768 + r.val = p.val) (hq : u % 4 * 512 + l.val = q.val) : upto (blk a b u r l) 4 = mul a b (ix2 p q) := by
  unfold blk upto
  rw [hp, hq, Finset.sum_range]
  refine Finset.sum_congr rfl fun s _ => Finset.sum_congr rfl fun k _ => ?_
  rw [ext3_val, ext3_val]
  rfl

/-- The kernel writes the sum. -/
theorem final (c : Dev nD) : (dats m 0 c).arrAt 2 cfg0.N = mul (m ((c : Thread nD τ).loc main_arg2)) (m ((c : Thread nD τ).loc main_arg1)) := by
  refine (dats m 0 c).arrAt_eq_of_covers 2 _ (by decide +kernel) fun t hf y => ?_
  have h1 : t.val % 4 = 3 := (flush0_2 t).mp hf
  have ht := lt_N t
  blk_simp
  rw [after0_2, out_last m c t h1]
  idx_vars y
  refine (acc_at m c t.val t.isLt y0 y1).trans ?_
  rw [h1]
  refine (upto_mul _ _ ⟨t.val / 4 / 4 * 768 + y0.val, by have := y0.isLt; omega⟩ ⟨t.val / 4 % 4 * 512 + y1.val, by have := y1.isLt; omega⟩ rfl rfl).trans ?_
  blk_point [idx t]

/-- The reference's sum. -/
theorem ref_eq (a : FVec Ideal S4x2304x3392 .bf16) (b : FVec Ideal S4x2048x3392 .bf16) :
    Host.dotGeneral Cert.DHRefIdeal.dot_S4x3392x2304_S4x2048x3392_S2304x2048_01_02_2_1_n_n none
      (transpose Cert.DHRefIdeal.S4x3392x2304 [0, 2, 1] (extf .f32 a (by decide)) (by decide)) (extf .f32 b (by decide)) = mul a b := by
  funext j
  idx_vars j
  pointwise []
  rfl

end Cert.DHIdeal.RefValue

namespace Cert.Proof.DH

open Cert.DHIdeal.RefValue

theorem frame_p : Cert.quiescent_DH := fun m ρ _ => Cert.DH.Gen.frame m ρ
theorem frame_pi : Cert.quiescent_DHIdeal := fun m ρ _ => Cert.DHIdeal.Gen.frame m ρ
theorem frame_ri : Cert.quiescent_DHRefIdeal := fun m ρ _ =>
  (θ_run Cert.DHRefIdeal.defs _ _).mono (fun r h => ⟨fun c => (h c).2,
      Idealize.ShloMosaic.sem_eq_zero_of_no_sems (by decide) r.2⟩)
    (Cert.DHRefIdeal.Value.run (F := Ideal) m ρ)

/-- The kernel's product is the reference's. -/
theorem algebraic : Cert.algebraic_DHIdeal_DHRefIdeal := by
  pair_intro
  · run_from Cert.DHIdeal.Gen.run_main m g
  · run_from Cert.DHRefIdeal.Value.run m' g'
    rw [final m c]
    exact ref_eq _ _

end Cert.Proof.DH

end
-- ==== Proof.Update.lean ====
module

public import proofs.«01_k».proof.Defs
public import proofs.«01_k».proof.Proof.Gen.AdamwAdaW.Frame
public import proofs.«01_k».proof.Proof.Gen.AdamwAdaWIdeal.Frame
public import proofs.«01_k».proof.Proof.Gen.AdamwAdaWRefIdeal.Run
public import proofs.«01_k».proof.Proof.Gen.AdamwAdaWRefIdeal.Read
public import proofs.«01_k».proof.Proof.Gen.ProjJoin.Frame
public import proofs.«01_k».proof.Proof.Gen.ProjJoinIdeal.Frame
public import proofs.«01_k».proof.Proof.Gen.ProjJoinRefIdeal.Run
public import proofs.«01_k».proof.Proof.Gen.ProjJoinRefIdeal.Read
public import proofs.«01_k».proof.Proof.Gen.GKa.Frame
public import proofs.«01_k».proof.Proof.Gen.GKaIdeal.Frame
public import proofs.«01_k».proof.Proof.Gen.GKaRefIdeal.Run
public import proofs.«01_k».proof.Proof.Gen.GKaRefIdeal.Read
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

/-! ## `adamw_ada_w`: the optimiser's update of one weight. -/

namespace Cert.AdamwAdaWIdeal.RefValue

open Cert.AdamwAdaWIdeal Cert.AdamwAdaWIdeal.Gen Cert.AdamwAdaWRefIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The gradient, as the region finds it. -/
theorem V_v0_at (c : Dev nD) (z : Fin 1) (p : Fin 2048) (q : Fin 1536) : (V m c main_v0 : FVec Ideal S1x2048x1536 .f32) (ix3 z p q)
    = (m ((c : Thread nD τ).loc main_arg3) : FVec Ideal S2048x1536 .f32) (ix2 p q) := by
  unfold V
  after_results
  pointwise

variable {r : Fin 128} {l : Fin 1536} {p : Fin 2048} {q : Fin 1536}

/-- A block's entry of the gradient, the two moments and the update is the reference's entry where the block lies. -/
theorem pay1_eq (g : FVec Ideal S1x128x1536 .f32) (G : FVec Ideal S2048x1536 .f32) (hg : g (ix3 0 r l) = G (ix2 p q)) :
    k0_pay1 (F := Ideal) g (ix2 r l) = G (ix2 p q) := by
  pointwise [k0_pay1]
  exact hg

theorem pay2_eq (g : FVec Ideal S1x128x1536 .f32) (a : FVec Ideal S128x1536 .f32) (A G : FVec Ideal S2048x1536 .f32)
    (hg : g (ix3 0 r l) = G (ix2 p q)) (ha : a (ix2 r l) = A (ix2 p q)) :
    k0_pay2 (F := Ideal) g a (ix2 r l) = val_main_v4 (F := Ideal) A G (ix2 p q) := by
  pointwise [k0_pay2, k0_pay1, val_main_v4, val_main_v3, val_main_v2, val_main_v1, val_main_v0]
  rw [ha, hg]
  rfl

theorem pay3_eq (g : FVec Ideal S1x128x1536 .f32) (a : FVec Ideal S128x1536 .f32) (A G : FVec Ideal S2048x1536 .f32)
    (hg : g (ix3 0 r l) = G (ix2 p q)) (ha : a (ix2 r l) = A (ix2 p q)) :
    k0_pay3 (F := Ideal) g a (ix2 r l) = val_main_v10 (F := Ideal) A G (ix2 p q) := by
  pointwise [k0_pay3, k0_pay1, val_main_v10, val_main_v9, val_main_v8, val_main_v7, val_main_v6, val_main_v5]
  rw [ha, hg]
  rfl

theorem pay4_eq (g : FVec Ideal S1x128x1536 .f32) (a b w : FVec Ideal S128x1536 .f32) (A B W G : FVec Ideal S2048x1536 .f32)
    (hg : g (ix3 0 r l) = G (ix2 p q)) (ha : a (ix2 r l) = A (ix2 p q)) (hb : b (ix2 r l) = B (ix2 p q)) (hw : w (ix2 r l) = W (ix2 p q)) :
    k0_pay4 (F := Ideal) g a b w (ix2 r l) = val_main_v23 (F := Ideal) W A B G (ix2 p q) := by
  have hm := pay2_eq g a A G hg ha
  have hv := pay3_eq g b B G hg hb
  pointwise [k0_pay4, val_main_v23, val_main_v22, val_main_v21, val_main_v20, val_main_v19, val_main_v18, val_main_v17, val_main_v16, val_main_v15, val_main_v14, val_main_v13, val_main_v12, val_main_v11]
  rw [hm, hv, hw]
  rfl

/-- The gradient's block at a point. -/
theorem g_at (c : Dev nD) (t : Fin cfg0.N) (r : Fin 128) (l : Fin 1536) (h : t.val * 128 + r.val < 2048) :
    (iblk m c 3 t : FVec Ideal S1x128x1536 .f32) (ix3 0 r l) = (m ((c : Thread nD τ).loc main_arg3) : FVec Ideal S2048x1536 .f32) (ix2 ⟨t.val * 128 + r.val, h⟩ l) := by
  unfold iblk
  refine Eq.trans ?_ (V_v0_at m c 0 _ l)
  blk_ext! [idx t]

theorem lt_N (t : Fin cfg0.N) : t.val < 16 := lt_of_lt_of_eq t.isLt N_0

theorem final4 (c : Dev nD) : (dats m 0 c).arrAt 4 cfg0.N = m ((c : Thread nD τ).loc main_arg3) := by
  refine (dats m 0 c).arrAt_eq_of_covers 4 _ (by decide +kernel) fun t _ y => ?_
  have ht := lt_N t
  blk_simp
  rw [after0_4]
  frame_out
  idx_vars y
  refine (pay1_eq _ _ (g_at m c t y0 y1 (by have := y0.isLt; omega))).trans ?_
  blk_point [idx t]

/-- The weight's and the moments' blocks at a point. -/
theorem wmv_at (c : Dev nD) (t : Fin cfg0.N) (r : Fin 128) (l : Fin 1536) (h : t.val * 128 + r.val < 2048) :
    (iblk m c 0 t : FVec Ideal S128x1536 .f32) (ix2 r l) = (m ((c : Thread nD τ).loc main_arg0) : FVec Ideal S2048x1536 .f32) (ix2 ⟨t.val * 128 + r.val, h⟩ l)
    ∧ (iblk m c 1 t : FVec Ideal S128x1536 .f32) (ix2 r l) = (m ((c : Thread nD τ).loc main_arg1) : FVec Ideal S2048x1536 .f32) (ix2 ⟨t.val * 128 + r.val, h⟩ l)
    ∧ (iblk m c 2 t : FVec Ideal S128x1536 .f32) (ix2 r l) = (m ((c : Thread nD τ).loc main_arg2) : FVec Ideal S2048x1536 .f32) (ix2 ⟨t.val * 128 + r.val, h⟩ l) := by
  refine ⟨?_, ?_, ?_⟩ <;> blk_point [iblk, V, idx t]

theorem final5 (c : Dev nD) : (dats m 0 c).arrAt 5 cfg0.N = val_main_v23 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t _ y => ?_
  have ht := lt_N t
  blk_simp
  rw [after0_5]
  frame_out
  idx_vars y
  have h : t.val * 128 + y0.val < 2048 := by have := y0.isLt; omega
  refine (pay4_eq _ _ _ _ _ _ _ _ (g_at m c t y0 y1 h) (wmv_at m c t y0 y1 h).2.1 (wmv_at m c t y0 y1 h).2.2 (wmv_at m c t y0 y1 h).1).trans ?_
  blk_point [idx t]

theorem final6 (c : Dev nD) : (dats m 0 c).arrAt 6 cfg0.N = val_main_v4 (F := Ideal) (m ((c : Thread nD τ).loc main_arg1))
    (m ((c : Thread nD τ).loc main_arg3)) := by
  refine (dats m 0 c).arrAt_eq_of_covers 6 _ (by decide +kernel) fun t _ y => ?_
  have ht := lt_N t
  blk_simp
  rw [after0_6]
  frame_out
  idx_vars y
  have h : t.val * 128 + y0.val < 2048 := by have := y0.isLt; omega
  refine (pay2_eq _ _ _ _ (g_at m c t y0 y1 h) (wmv_at m c t y0 y1 h).2.1).trans ?_
  blk_point [idx t]

theorem final7 (c : Dev nD) : (dats m 0 c).arrAt 7 cfg0.N = val_main_v10 (F := Ideal) (m ((c : Thread nD τ).loc main_arg2))
    (m ((c : Thread nD τ).loc main_arg3)) := by
  refine (dats m 0 c).arrAt_eq_of_covers 7 _ (by decide +kernel) fun t _ y => ?_
  have ht := lt_N t
  blk_simp
  rw [after0_7]
  frame_out
  idx_vars y
  have h : t.val * 128 + y0.val < 2048 := by have := y0.isLt; omega
  refine (pay3_eq _ _ _ _ (g_at m c t y0 y1 h) (wmv_at m c t y0 y1 h).2.2).trans ?_
  blk_point [idx t]

end Cert.AdamwAdaWIdeal.RefValue

namespace Cert.Proof.AdamwAdaW

open Cert.AdamwAdaWIdeal.RefValue

theorem frame_p : Cert.quiescent_AdamwAdaW := fun m ρ _ => Cert.AdamwAdaW.Gen.frame m ρ
theorem frame_pi : Cert.quiescent_AdamwAdaWIdeal := fun m ρ _ => Cert.AdamwAdaWIdeal.Gen.frame m ρ
theorem frame_ri : Cert.quiescent_AdamwAdaWRefIdeal := fun m ρ _ =>
  (θ_run Cert.AdamwAdaWRefIdeal.defs _ _).mono (fun r h => ⟨fun c => (h c).2.2.2.2, Idealize.ShloMosaic.sem_eq_zero_of_no_sems (by decide) r.2⟩)
    (Cert.AdamwAdaWRefIdeal.Value.run (F := Ideal) m ρ)

theorem algebraic : Cert.algebraic_AdamwAdaWIdeal_AdamwAdaWRefIdeal := by
  pair_intro
  · run_from Cert.AdamwAdaWIdeal.Gen.run_main m g
  · run_from Cert.AdamwAdaWRefIdeal.Value.run m' g'
    exacts [(final4 m c).symm, (final5 m c).symm, (final6 m c).symm, (final7 m c).symm]

end Cert.Proof.AdamwAdaW

/-! ## `g_ka`: a sum of small gradients. -/

namespace Cert.GKaIdeal.RefValue

open Cert.GKaIdeal Cert.GKaIdeal.Gen Cert.GKaRefIdeal.Read

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem final (c : Dev nD) : (dats m 0 c).arrAt 3 cfg0.N = val_main_v1 (F := Ideal) (m ((c : Thread nD τ).loc main_arg0))
    (m ((c : Thread nD τ).loc main_arg1)) (m ((c : Thread nD τ).loc main_arg2)) := by
  refine (dats m 0 c).arrAt_eq_of_covers 3 _ (by decide +kernel) fun t _ y => ?_
  blk_simp
  rw [after0_3]
  frame_out
  idx_vars y
  pointwise [k0_pay1, val_main_v1, val_main_v0]
  refine congrArg₂ (· + ·) (congrArg₂ (· + ·) ?_ ?_) ?_ <;> blk_point [iblk, V, idx t]

end Cert.GKaIdeal.RefValue

namespace Cert.Proof.GKa

open Cert.GKaIdeal.RefValue

theorem frame_p : Cert.quiescent_GKa := fun m ρ _ => Cert.GKa.Gen.frame m ρ
theorem frame_pi : Cert.quiescent_GKaIdeal := fun m ρ _ => Cert.GKaIdeal.Gen.frame m ρ
theorem frame_ri : Cert.quiescent_GKaRefIdeal := fun m ρ _ =>
  (θ_run Cert.GKaRefIdeal.defs _ _).mono (fun r h => ⟨fun c => (h c).2, Idealize.ShloMosaic.sem_eq_zero_of_no_sems (by decide) r.2⟩)
    (Cert.GKaRefIdeal.Value.run (F := Ideal) m ρ)

theorem algebraic : Cert.algebraic_GKaIdeal_GKaRefIdeal := by
  pair_intro
  · run_from Cert.GKaIdeal.Gen.run_main m g
  · run_from Cert.GKaRefIdeal.Value.run m' g'
    rw [Cert.GKaRefIdeal.Read.val_main_v1_eq, final m c]

end Cert.Proof.GKa

/-! ## `proj_join`: the shards' columns side by side. -/

namespace Cert.ProjJoinIdeal.RefValue

open Cert.ProjJoinIdeal Cert.ProjJoinIdeal.Gen Cert.ProjJoinRefIdeal.Read

variable (m : (ℓ : Loc nD τ sig) → Buf (Elt Ideal) ℓ)

theorem idx : ∀ t : Fin cfg0.N, win0_0.index t = ![0, t.val, 0] ∧ win0_1.index t = ![t.val, 0] :=
  (by decide +kernel : ∀ t : Fin grid0.N, _)

theorem same (X : FVec Ideal S4x2304x3392 .f32) (p : Fin 2304) {a a' : Fin 4} {u u' : Fin 3392} (h : a.val = a'.val) (h' : u.val = u'.val) :
    X (ix3 a p u) = X (ix3 a' p u') := by rw [Fin.ext h, Fin.ext h']

/-- A row of a joined block: column `l` is column `l % 3392` of shard `l / 3392`. -/
theorem pay1_at (a b d e : FVec Ideal S1x128x3392 .f32) (X : FVec Ideal S4x2304x3392 .f32) (r : Fin 128) (p : Fin 2304)
    (ha : ∀ u, a (ix3 0 r u) = X (ix3 0 p u)) (hb : ∀ u, b (ix3 0 r u) = X (ix3 1 p u)) (hd : ∀ u, d (ix3 0 r u) = X (ix3 2 p u))
    (he : ∀ u, e (ix3 0 r u) = X (ix3 3 p u)) (l : Fin 13568) : k0_pay1 (F := Ideal) a b d e (ix2 r l)
    = X (ix3 ⟨l.val / 3392, by have := l.isLt; omega⟩ p ⟨l.val % 3392, by omega⟩) := by
  have hl := l.isLt
  pointwise [k0_pay1]
  split
  · rw [ha]
    exact same X p (by show 0 = l.val / 3392; omega) (by show l.val = l.val % 3392; omega)
  · split
    · rw [hb]
      exact same X p (by show 1 = l.val / 3392; omega) (by show l.val - 3392 = l.val % 3392; omega)
    · split
      · rw [hd]
        exact same X p (by show 2 = l.val / 3392; omega) (by show l.val - 3392 - 3392 = l.val % 3392; omega)
      · rw [he]
        exact same X p (by show 3 = l.val / 3392; omega) (by show l.val - 3392 - 3392 - 3392 = l.val % 3392; omega)

theorem ref_at (x : FVec Ideal S4x2304x3392 .f32) (p : Fin 2304) (q : Fin 13568) : val_main_v1 (F := Ideal) x (ix2 p q)
    = x (ix3 ⟨q.val / 3392, by have := q.isLt; omega⟩ p ⟨q.val % 3392, by omega⟩) := by
  pointwise [val_main_v1, val_main_v0]

theorem final (c : Dev nD) : (dats m 0 c).arrAt 1 cfg0.N = val_main_v1 (F := Ideal) (m ((c : Thread nD τ).loc main_arg0)) := by
  refine (dats m 0 c).arrAt_eq_of_covers 1 _ (by decide +kernel) fun t _ y => ?_
  blk_simp
  rw [after0_1]
  frame_out
  idx_vars y
  have ht : t.val < 18 := lt_of_lt_of_eq t.isLt N_0
  have h : t.val * 128 + y0.val < 2304 := by have := y0.isLt; omega
  refine (pay1_at _ _ _ _ (m ((c : Thread nD τ).loc main_arg0)) y0 ⟨_, h⟩ (fun u => ?_) (fun u => ?_) (fun u => ?_) (fun u => ?_) y1).trans
    ((ref_at _ ⟨_, h⟩ y1).symm.trans ?_)
  · blk_point [iblk, V, idx t]
  · blk_point [iblk, V, idx t]
  · blk_point [iblk, V, idx t]
  · blk_point [iblk, V, idx t]
  · blk_point [idx t]

end Cert.ProjJoinIdeal.RefValue

namespace Cert.Proof.ProjJoin

open Cert.ProjJoinIdeal.RefValue

theorem frame_p : Cert.quiescent_ProjJoin := fun m ρ _ => Cert.ProjJoin.Gen.frame m ρ
theorem frame_pi : Cert.quiescent_ProjJoinIdeal := fun m ρ _ => Cert.ProjJoinIdeal.Gen.frame m ρ
theorem frame_ri : Cert.quiescent_ProjJoinRefIdeal := fun m ρ _ =>
  (θ_run Cert.ProjJoinRefIdeal.defs _ _).mono (fun r h => ⟨fun c => (h c).2, Idealize.ShloMosaic.sem_eq_zero_of_no_sems (by decide) r.2⟩)
    (Cert.ProjJoinRefIdeal.Value.run (F := Ideal) m ρ)

theorem algebraic : Cert.algebraic_ProjJoinIdeal_ProjJoinRefIdeal := by
  pair_intro
  · run_from Cert.ProjJoinIdeal.Gen.run_main m g
  · run_from Cert.ProjJoinRefIdeal.Value.run m' g'
    rw [Cert.ProjJoinRefIdeal.Read.val_main_v1_eq, final m c]

end Cert.Proof.ProjJoin

end
-- ==== Proof.lean ====
/-
  The proof of `Cert.Claim`: the facts the generated modules prove, the frame of every program (memory comes back as it
  was outside the results, every semaphore counter at zero), and for each call that its idealised kernel computes what
  the reference computes.  Each pair's mathematics is in the module of its name.
-/
module

public import proofs.«01_k».proof.Defs
public import proofs.«01_k».proof.Proof.CondBwd
public import proofs.«01_k».proof.Proof.ShiftBwd
public import proofs.«01_k».proof.Proof.MergeBwd
public import proofs.«01_k».proof.Proof.HgPostBwd
public import proofs.«01_k».proof.Proof.Final
public import proofs.«01_k».proof.Proof.HBwd
public import proofs.«01_k».proof.Proof.RwPostBwd
public import proofs.«01_k».proof.Proof.HgScanFwd0
public import proofs.«01_k».proof.Proof.HgScanFwd1
public import proofs.«01_k».proof.Proof.CondSilu
public import proofs.«01_k».proof.Proof.Merge
public import proofs.«01_k».proof.Proof.HgPost
public import proofs.«01_k».proof.Proof.HFwd
public import proofs.«01_k».proof.Proof.RwShift
public import proofs.«01_k».proof.Proof.RwPost
public import proofs.«01_k».proof.Proof.Products
public import proofs.«01_k».proof.Proof.Shards
public import proofs.«01_k».proof.Proof.Update
public import Idealize.ShloMosaic.Adequacy
public import Idealize.ShloMosaic.Init

@[expose] public section

noncomputable section

namespace Cert.Proof

open Idealize.ShloMosaic Idealize.SL.Sem

theorem claim : Cert.Claim := ⟨
  Cert.CondBwd.Gen.facts, Cert.CondBwdIdeal.Gen.facts, Cert.CondBwdRefIdeal.Gen.facts,
  Cert.ShiftBwd.Gen.facts, Cert.ShiftBwdIdeal.Gen.facts, Cert.ShiftBwdRefIdeal.Gen.facts,
  Cert.MergeBwd.Gen.facts, Cert.MergeBwdIdeal.Gen.facts, Cert.MergeBwdRefIdeal.Gen.facts,
  Cert.HgPostBwd.Gen.facts, Cert.HgPostBwdIdeal.Gen.facts, Cert.HgPostBwdRefIdeal.Gen.facts,
  Cert.Final.Gen.facts, Cert.FinalIdeal.Gen.facts, Cert.FinalRefIdeal.Gen.facts,
  Cert.HBwd.Gen.facts, Cert.HBwdIdeal.Gen.facts, Cert.HBwdRefIdeal.Gen.facts,
  Cert.RwPostBwd.Gen.facts, Cert.RwPostBwdIdeal.Gen.facts, Cert.RwPostBwdRefIdeal.Gen.facts,
  Cert.HgScanFwd0.Gen.facts, Cert.HgScanFwd0Ideal.Gen.facts, Cert.HgScanFwd0RefIdeal.Gen.facts,
  Cert.HgScanFwd1.Gen.facts, Cert.HgScanFwd1Ideal.Gen.facts, Cert.HgScanFwd1RefIdeal.Gen.facts,
  Cert.CondSilu.Gen.facts, Cert.CondSiluIdeal.Gen.facts, Cert.CondSiluRefIdeal.Gen.facts,
  Cert.Merge.Gen.facts, Cert.MergeIdeal.Gen.facts, Cert.MergeRefIdeal.Gen.facts,
  Cert.HgPost.Gen.facts, Cert.HgPostIdeal.Gen.facts, Cert.HgPostRefIdeal.Gen.facts,
  Cert.HFwd.Gen.facts, Cert.HFwdIdeal.Gen.facts, Cert.HFwdRefIdeal.Gen.facts,
  Cert.RwShift.Gen.facts, Cert.RwShiftIdeal.Gen.facts, Cert.RwShiftRefIdeal.Gen.facts,
  Cert.RwPost.Gen.facts, Cert.RwPostIdeal.Gen.facts, Cert.RwPostRefIdeal.Gen.facts,
  Cert.OutMm.Gen.facts, Cert.OutMmIdeal.Gen.facts, Cert.OutMmRefIdeal.Gen.facts,
  Cert.DMerged.Gen.facts, Cert.DMergedIdeal.Gen.facts, Cert.DMergedRefIdeal.Gen.facts,
  Cert.DWOut.Gen.facts, Cert.DWOutIdeal.Gen.facts, Cert.DWOutRefIdeal.Gen.facts,
  Cert.ProjMm.Gen.facts, Cert.ProjMmIdeal.Gen.facts, Cert.ProjMmRefIdeal.Gen.facts,
  Cert.DWIn.Gen.facts, Cert.DWInIdeal.Gen.facts, Cert.DWInRefIdeal.Gen.facts,
  Cert.DH.Gen.facts, Cert.DHIdeal.Gen.facts, Cert.DHRefIdeal.Gen.facts,
  Cert.AdamwAdaW.Gen.facts, Cert.AdamwAdaWIdeal.Gen.facts, Cert.AdamwAdaWRefIdeal.Gen.facts,
  Cert.ProjJoin.Gen.facts, Cert.ProjJoinIdeal.Gen.facts, Cert.ProjJoinRefIdeal.Gen.facts,
  Cert.GKa.Gen.facts, Cert.GKaIdeal.Gen.facts, Cert.GKaRefIdeal.Gen.facts,
  ShiftBwd.facts_pre,
  RwPostBwd.facts_pre,
  HgScanFwd0.facts_pre,
  RwPost.facts_pre,
  CondBwd.frame_p, CondBwd.frame_pi, CondBwd.frame_ri,
  ShiftBwd.frame_p, ShiftBwd.frame_pi, ShiftBwd.frame_pi_pre, ShiftBwd.frame_ri, ShiftBwd.frame_ri_pre,
  MergeBwd.frame_p, MergeBwd.frame_pi, MergeBwd.frame_ri,
  HgPostBwd.frame_p, HgPostBwd.frame_pi, HgPostBwd.frame_ri,
  Final.frame_p, Final.frame_pi, Final.frame_ri,
  HBwd.frame_p, HBwd.frame_pi, HBwd.frame_ri,
  RwPostBwd.frame_p, RwPostBwd.frame_pi, RwPostBwd.frame_pi_pre, RwPostBwd.frame_ri, RwPostBwd.frame_ri_pre,
  HgScanFwd0.frame_p, HgScanFwd0.frame_pi, HgScanFwd0.frame_pi_pre, HgScanFwd0.frame_ri, HgScanFwd0.frame_ri_pre,
  HgScanFwd1.frame_p, HgScanFwd1.frame_pi, HgScanFwd1.frame_pi_pre, HgScanFwd1.frame_ri, HgScanFwd1.frame_ri_pre,
  CondSilu.frame_p, CondSilu.frame_pi, CondSilu.frame_ri,
  Merge.frame_p, Merge.frame_pi, Merge.frame_ri,
  HgPost.frame_p, HgPost.frame_pi, HgPost.frame_ri,
  HFwd.frame_p, HFwd.frame_pi, HFwd.frame_ri,
  RwShift.frame_p, RwShift.frame_pi, RwShift.frame_ri,
  RwPost.frame_p, RwPost.frame_pi, RwPost.frame_pi_pre, RwPost.frame_ri, RwPost.frame_ri_pre,
  OutMm.frame_p, OutMm.frame_pi, OutMm.frame_ri,
  DMerged.frame_p, DMerged.frame_pi, DMerged.frame_ri,
  DWOut.frame_p, DWOut.frame_pi, DWOut.frame_ri,
  ProjMm.frame_p, ProjMm.frame_pi, ProjMm.frame_ri,
  DWIn.frame_p, DWIn.frame_pi, DWIn.frame_ri,
  DH.frame_p, DH.frame_pi, DH.frame_ri,
  AdamwAdaW.frame_p, AdamwAdaW.frame_pi, AdamwAdaW.frame_ri,
  ProjJoin.frame_p, ProjJoin.frame_pi, ProjJoin.frame_ri,
  GKa.frame_p, GKa.frame_pi, GKa.frame_ri,
  trivial, CondBwd.algebraic,
  trivial, ShiftBwd.algebraic,
  trivial, MergeBwd.algebraic,
  trivial, HgPostBwd.algebraic,
  trivial, Final.algebraic,
  trivial, HBwd.algebraic,
  trivial, RwPostBwd.algebraic,
  trivial, HgScanFwd0.algebraic,
  trivial, HgScanFwd1.algebraic,
  trivial, CondSilu.algebraic,
  trivial, Merge.algebraic,
  trivial, HgPost.algebraic,
  trivial, HFwd.algebraic,
  trivial, RwShift.algebraic,
  trivial, RwPost.algebraic,
  trivial, OutMm.algebraic,
  trivial, DMerged.algebraic,
  trivial, DWOut.algebraic,
  trivial, ProjMm.algebraic,
  trivial, DWIn.algebraic,
  trivial, DH.algebraic,
  trivial, AdamwAdaW.algebraic,
  trivial, ProjJoin.algebraic,
  trivial, GKa.algebraic⟩

end Cert.Proof

end
